-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ProjWeight (m : (ℓ : Loc Cert.ProjWeight.nD Cert.ProjWeight.τ Cert.ProjWeight.sig) → Buf (Elt Bits) ℓ) : Prop :=
  True

def Pre_ProjWeightIdeal (m : (ℓ : Loc Cert.ProjWeightIdeal.nD Cert.ProjWeightIdeal.τ Cert.ProjWeightIdeal.sig) → Buf (Elt Ideal) ℓ) : Prop :=
  True

def Pre_ProjWeightRefIdeal (m : (ℓ : Loc Cert.ProjWeightRefIdeal.nD Cert.ProjWeightRefIdeal.τ Cert.ProjWeightRefIdeal.sig) → Buf (Elt Ideal) ℓ) : Prop :=
  True

def Pre_ProjInput (m : (ℓ : Loc Cert.ProjInput.nD Cert.ProjInput.τ Cert.ProjInput.sig) → Buf (Elt Bits) ℓ) : Prop :=
  True

def Pre_ProjInputIdeal (m : (ℓ : Loc Cert.ProjInputIdeal.nD Cert.ProjInputIdeal.τ Cert.ProjInputIdeal.sig) → Buf (Elt Ideal) ℓ) : Prop :=
  True

def Pre_ProjInputRefIdeal (m : (ℓ : Loc Cert.ProjInputRefIdeal.nD Cert.ProjInputRefIdeal.τ Cert.ProjInputRefIdeal.sig) → Buf (Elt Ideal) ℓ) : Prop :=
  True

def Pre_PreNorm (m : (ℓ : Loc Cert.PreNorm.nD Cert.PreNorm.τ Cert.PreNorm.sig) → Buf (Elt Bits) ℓ) : Prop :=
  True

def Pre_PreNormIdeal (m : (ℓ : Loc Cert.PreNormIdeal.nD Cert.PreNormIdeal.τ Cert.PreNormIdeal.sig) → Buf (Elt Ideal) ℓ) : Prop :=
  True

def Pre_PreNormRefIdeal (m : (ℓ : Loc Cert.PreNormRefIdeal.nD Cert.PreNormRefIdeal.τ Cert.PreNormRefIdeal.sig) → Buf (Elt Ideal) ℓ) : Prop :=
  True

def Pre_PleNorm (m : (ℓ : Loc Cert.PleNorm.nD Cert.PleNorm.τ Cert.PleNorm.sig) → Buf (Elt Bits) ℓ) : Prop :=
  True

def Pre_PleNormIdeal (m : (ℓ : Loc Cert.PleNormIdeal.nD Cert.PleNormIdeal.τ Cert.PleNormIdeal.sig) → Buf (Elt Ideal) ℓ) : Prop :=
  True

def Pre_PleNormRefIdeal (m : (ℓ : Loc Cert.PleNormRefIdeal.nD Cert.PleNormRefIdeal.τ Cert.PleNormRefIdeal.sig) → Buf (Elt Ideal) ℓ) : Prop :=
  True

def Pre_GateWeight (m : (ℓ : Loc Cert.GateWeight.nD Cert.GateWeight.τ Cert.GateWeight.sig) → Buf (Elt Bits) ℓ) : Prop :=
  True

def Pre_GateWeightIdeal (m : (ℓ : Loc Cert.GateWeightIdeal.nD Cert.GateWeightIdeal.τ Cert.GateWeightIdeal.sig) → Buf (Elt Ideal) ℓ) : Prop :=
  True

def Pre_GateWeightRefIdeal (m : (ℓ : Loc Cert.GateWeightRefIdeal.nD Cert.GateWeightRefIdeal.τ Cert.GateWeightRefIdeal.sig) → Buf (Elt Ideal) ℓ) : Prop :=
  True

def Pre_OutAWeight (m : (ℓ : Loc Cert.OutAWeight.nD Cert.OutAWeight.τ Cert.OutAWeight.sig) → Buf (Elt Bits) ℓ) : Prop :=
  True

def Pre_OutAWeightIdeal (m : (ℓ : Loc Cert.OutAWeightIdeal.nD Cert.OutAWeightIdeal.τ Cert.OutAWeightIdeal.sig) → Buf (Elt Ideal) ℓ) : Prop :=
  True

def Pre_OutAWeightRefIdeal (m : (ℓ : Loc Cert.OutAWeightRefIdeal.nD Cert.OutAWeightRefIdeal.τ Cert.OutAWeightRefIdeal.sig) → Buf (Elt Ideal) ℓ) : Prop :=
  True

def Pre_OutBWeight (m : (ℓ : Loc Cert.OutBWeight.nD Cert.OutBWeight.τ Cert.OutBWeight.sig) → Buf (Elt Bits) ℓ) : Prop :=
  True

def Pre_OutBWeightIdeal (m : (ℓ : Loc Cert.OutBWeightIdeal.nD Cert.OutBWeightIdeal.τ Cert.OutBWeightIdeal.sig) → Buf (Elt Ideal) ℓ) : Prop :=
  True

def Pre_OutBWeightRefIdeal (m : (ℓ : Loc Cert.OutBWeightRefIdeal.nD Cert.OutBWeightRefIdeal.τ Cert.OutBWeightRefIdeal.sig) → Buf (Elt Ideal) ℓ) : Prop :=
  True

def Pre_MergeWeight (m : (ℓ : Loc Cert.MergeWeight.nD Cert.MergeWeight.τ Cert.MergeWeight.sig) → Buf (Elt Bits) ℓ) : Prop :=
  True

def Pre_MergeWeightIdeal (m : (ℓ : Loc Cert.MergeWeightIdeal.nD Cert.MergeWeightIdeal.τ Cert.MergeWeightIdeal.sig) → Buf (Elt Ideal) ℓ) : Prop :=
  True

def Pre_MergeWeightRefIdeal (m : (ℓ : Loc Cert.MergeWeightRefIdeal.nD Cert.MergeWeightRefIdeal.τ Cert.MergeWeightRefIdeal.sig) → Buf (Elt Ideal) ℓ) : Prop :=
  True

def Pre_StepWeight (m : (ℓ : Loc Cert.StepWeight.nD Cert.StepWeight.τ Cert.StepWeight.sig) → Buf (Elt Bits) ℓ) : Prop :=
  True

def Pre_StepWeightIdeal (m : (ℓ : Loc Cert.StepWeightIdeal.nD Cert.StepWeightIdeal.τ Cert.StepWeightIdeal.sig) → Buf (Elt Ideal) ℓ) : Prop :=
  True

def Pre_StepWeightRefIdeal (m : (ℓ : Loc Cert.StepWeightRefIdeal.nD Cert.StepWeightRefIdeal.τ Cert.StepWeightRefIdeal.sig) → Buf (Elt Ideal) ℓ) : Prop :=
  True

def Pre_EmbedWeight (m : (ℓ : Loc Cert.EmbedWeight.nD Cert.EmbedWeight.τ Cert.EmbedWeight.sig) → Buf (Elt Bits) ℓ) : Prop :=
  True

def Pre_EmbedWeightIdeal (m : (ℓ : Loc Cert.EmbedWeightIdeal.nD Cert.EmbedWeightIdeal.τ Cert.EmbedWeightIdeal.sig) → Buf (Elt Ideal) ℓ) : Prop :=
  True

def Pre_EmbedWeightRefIdeal (m : (ℓ : Loc Cert.EmbedWeightRefIdeal.nD Cert.EmbedWeightRefIdeal.τ Cert.EmbedWeightRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_ConvAct (m : (ℓ : Loc Cert.ConvAct.nD Cert.ConvAct.τ Cert.ConvAct.sig) → Buf (Elt Bits) ℓ) : Prop :=
  True

def Pre_ConvActIdeal (m : (ℓ : Loc Cert.ConvActIdeal.nD Cert.ConvActIdeal.τ Cert.ConvActIdeal.sig) → Buf (Elt Ideal) ℓ) : Prop :=
  True

def Pre_ConvActIdeal_finite_cotangents [hPre_finite_cotangents : Cert.Pre_finite_cotangents.Facts] (m : (ℓ : Loc Cert.ConvActIdeal.nD Cert.ConvActIdeal.τ Cert.ConvActIdeal.sig) → Buf (Elt Ideal) ℓ) : Prop :=
  ∀ c : Dev Cert.ConvActIdeal.nD,
    (Cert.Pre_finite_cotangents.fn (F := Ideal) (m ((c.tc : Thread Cert.ConvActIdeal.nD Cert.ConvActIdeal.τ).loc Cert.ConvActIdeal.main_arg0)) (m ((c.tc : Thread Cert.ConvActIdeal.nD Cert.ConvActIdeal.τ).loc Cert.ConvActIdeal.main_arg1)) (m ((c.tc : Thread Cert.ConvActIdeal.nD Cert.ConvActIdeal.τ).loc Cert.ConvActIdeal.main_arg2)) (m ((c.tc : Thread Cert.ConvActIdeal.nD Cert.ConvActIdeal.τ).loc Cert.ConvActIdeal.main_arg3))) = (fun _ => 1#1)

def Pre_ConvActRefIdeal (m : (ℓ : Loc Cert.ConvActRefIdeal.nD Cert.ConvActRefIdeal.τ Cert.ConvActRefIdeal.sig) → Buf (Elt Ideal) ℓ) : Prop :=
  True

def Pre_ConvActRefIdeal_finite_cotangents [hPre_finite_cotangents : Cert.Pre_finite_cotangents.Facts] (m : (ℓ : Loc Cert.ConvActRefIdeal.nD Cert.ConvActRefIdeal.τ Cert.ConvActRefIdeal.sig) → Buf (Elt Ideal) ℓ) : Prop :=
  ∀ c : Dev Cert.ConvActRefIdeal.nD,
    (Cert.Pre_finite_cotangents.fn (F := Ideal) (m ((c.tc : Thread Cert.ConvActRefIdeal.nD Cert.ConvActRefIdeal.τ).loc Cert.ConvActRefIdeal.main_arg0)) (m ((c.tc : Thread Cert.ConvActRefIdeal.nD Cert.ConvActRefIdeal.τ).loc Cert.ConvActRefIdeal.main_arg1)) (m ((c.tc : Thread Cert.ConvActRefIdeal.nD Cert.ConvActRefIdeal.τ).loc Cert.ConvActRefIdeal.main_arg2)) (m ((c.tc : Thread Cert.ConvActRefIdeal.nD Cert.ConvActRefIdeal.τ).loc Cert.ConvActRefIdeal.main_arg3))) = (fun _ => 1#1)

def Pre_GroupNorm (m : (ℓ : Loc Cert.GroupNorm.nD Cert.GroupNorm.τ Cert.GroupNorm.sig) → Buf (Elt Bits) ℓ) : Prop :=
  True

def Pre_GroupNormIdeal (m : (ℓ : Loc Cert.GroupNormIdeal.nD Cert.GroupNormIdeal.τ Cert.GroupNormIdeal.sig) → Buf (Elt Ideal) ℓ) : Prop :=
  True

def Pre_GroupNormRefIdeal (m : (ℓ : Loc Cert.GroupNormRefIdeal.nD Cert.GroupNormRefIdeal.τ Cert.GroupNormRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_AdamOa (m : (ℓ : Loc Cert.AdamOa.nD Cert.AdamOa.τ Cert.AdamOa.sig) → Buf (Elt Bits) ℓ) : Prop :=
  True

def Pre_AdamOaIdeal (m : (ℓ : Loc Cert.AdamOaIdeal.nD Cert.AdamOaIdeal.τ Cert.AdamOaIdeal.sig) → Buf (Elt Ideal) ℓ) : Prop :=
  True

def Pre_AdamOaRefIdeal (m : (ℓ : Loc Cert.AdamOaRefIdeal.nD Cert.AdamOaRefIdeal.τ Cert.AdamOaRefIdeal.sig) → Buf (Elt Ideal) ℓ) : Prop :=
  True

def Pre_AdamOb (m : (ℓ : Loc Cert.AdamOb.nD Cert.AdamOb.τ Cert.AdamOb.sig) → Buf (Elt Bits) ℓ) : Prop :=
  True

def Pre_AdamObIdeal (m : (ℓ : Loc Cert.AdamObIdeal.nD Cert.AdamObIdeal.τ Cert.AdamObIdeal.sig) → Buf (Elt Ideal) ℓ) : Prop :=
  True

def Pre_AdamObRefIdeal (m : (ℓ : Loc Cert.AdamObRefIdeal.nD Cert.AdamObRefIdeal.τ Cert.AdamObRefIdeal.sig) → Buf (Elt Ideal) ℓ) : Prop :=
  True

def Pre_AdamPle (m : (ℓ : Loc Cert.AdamPle.nD Cert.AdamPle.τ Cert.AdamPle.sig) → Buf (Elt Bits) ℓ) : Prop :=
  True

def Pre_AdamPleIdeal (m : (ℓ : Loc Cert.AdamPleIdeal.nD Cert.AdamPleIdeal.τ Cert.AdamPleIdeal.sig) → Buf (Elt Ideal) ℓ) : Prop :=
  True

def Pre_AdamPleRefIdeal (m : (ℓ : Loc Cert.AdamPleRefIdeal.nD Cert.AdamPleRefIdeal.τ Cert.AdamPleRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamPg (m : (ℓ : Loc Cert.AdamPg.nD Cert.AdamPg.τ Cert.AdamPg.sig) → Buf (Elt Bits) ℓ) : Prop :=
  True

def Pre_AdamPgIdeal (m : (ℓ : Loc Cert.AdamPgIdeal.nD Cert.AdamPgIdeal.τ Cert.AdamPgIdeal.sig) → Buf (Elt Ideal) ℓ) : Prop :=
  True

def Pre_AdamPgRefIdeal (m : (ℓ : Loc Cert.AdamPgRefIdeal.nD Cert.AdamPgRefIdeal.τ Cert.AdamPgRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ProjWeight [hProjWeight : Cert.ProjWeight.Facts] : Prop :=
  ∀ (m : (ℓ : Loc Cert.ProjWeight.nD Cert.ProjWeight.τ Cert.ProjWeight.sig) → Buf (Elt Bits) ℓ) (g : Dev Cert.ProjWeight.nD → PrngReg), Pre_ProjWeight m →
    θ_run (Cert.ProjWeight.defs (F := Bits)) (onTc (τ := Cert.ProjWeight.τ) (Cert.ProjWeight.main (F := Bits))) ⟨m, fun _ => 0, g⟩ (fun r => (∀ c : Dev Cert.ProjWeight.nD,
      r.2.mem ((c.tc : Thread Cert.ProjWeight.nD Cert.ProjWeight.τ).loc Cert.ProjWeight.main_arg0) = m ((c.tc : Thread Cert.ProjWeight.nD Cert.ProjWeight.τ).loc Cert.ProjWeight.main_arg0)
      ∧ r.2.mem ((c.tc : Thread Cert.ProjWeight.nD Cert.ProjWeight.τ).loc Cert.ProjWeight.main_arg1) = m ((c.tc : Thread Cert.ProjWeight.nD Cert.ProjWeight.τ).loc Cert.ProjWeight.main_arg1))
      ∧ r.2.sem = fun _ => 0)

def quiescent_ProjWeightIdeal [hProjWeightIdeal : Cert.ProjWeightIdeal.Facts] : Prop :=
  ∀ (m : (ℓ : Loc Cert.ProjWeightIdeal.nD Cert.ProjWeightIdeal.τ Cert.ProjWeightIdeal.sig) → Buf (Elt Ideal) ℓ) (g : Dev Cert.ProjWeightIdeal.nD → PrngReg), Pre_ProjWeightIdeal m →
    θ_run (Cert.ProjWeightIdeal.defs (F := Ideal)) (onTc (τ := Cert.ProjWeightIdeal.τ) (Cert.ProjWeightIdeal.main (F := Ideal))) ⟨m, fun _ => 0, g⟩ (fun r => (∀ c : Dev Cert.ProjWeightIdeal.nD,
      r.2.mem ((c.tc : Thread Cert.ProjWeightIdeal.nD Cert.ProjWeightIdeal.τ).loc Cert.ProjWeightIdeal.main_arg0) = m ((c.tc : Thread Cert.ProjWeightIdeal.nD Cert.ProjWeightIdeal.τ).loc Cert.ProjWeightIdeal.main_arg0)
      ∧ r.2.mem ((c.tc : Thread Cert.ProjWeightIdeal.nD Cert.ProjWeightIdeal.τ).loc Cert.ProjWeightIdeal.main_arg1) = m ((c.tc : Thread Cert.ProjWeightIdeal.nD Cert.ProjWeightIdeal.τ).loc Cert.ProjWeightIdeal.main_arg1))
      ∧ r.2.sem = fun _ => 0)

def quiescent_ProjWeightRefIdeal [hProjWeightRefIdeal : Cert.ProjWeightRefIdeal.Facts] : Prop :=
  ∀ (m : (ℓ : Loc Cert.ProjWeightRefIdeal.nD Cert.ProjWeightRefIdeal.τ Cert.ProjWeightRefIdeal.sig) → Buf (Elt Ideal) ℓ) (g : Dev Cert.ProjWeightRefIdeal.nD → PrngReg), Pre_ProjWeightRefIdeal m →
    θ_run (Cert.ProjWeightRefIdeal.defs (F := Ideal)) (onTc (τ := Cert.ProjWeightRefIdeal.τ) (Cert.ProjWeightRefIdeal.main (F := Ideal))) ⟨m, fun _ => 0, g⟩ (fun r => (∀ c : Dev Cert.ProjWeightRefIdeal.nD,
      r.2.mem ((c.tc : Thread Cert.ProjWeightRefIdeal.nD Cert.ProjWeightRefIdeal.τ).loc Cert.ProjWeightRefIdeal.main_arg0) = m ((c.tc : Thread Cert.ProjWeightRefIdeal.nD Cert.ProjWeightRefIdeal.τ).loc Cert.ProjWeightRefIdeal.main_arg0)
      ∧ r.2.mem ((c.tc : Thread Cert.ProjWeightRefIdeal.nD Cert.ProjWeightRefIdeal.τ).loc Cert.ProjWeightRefIdeal.main_arg1) = m ((c.tc : Thread Cert.ProjWeightRefIdeal.nD Cert.ProjWeightRefIdeal.τ).loc Cert.ProjWeightRefIdeal.main_arg1))
      ∧ r.2.sem = fun _ => 0)

def quiescent_ProjInput [hProjInput : Cert.ProjInput.Facts] : Prop :=
  ∀ (m : (ℓ : Loc Cert.ProjInput.nD Cert.ProjInput.τ Cert.ProjInput.sig) → Buf (Elt Bits) ℓ) (g : Dev Cert.ProjInput.nD → PrngReg), Pre_ProjInput m →
    θ_run (Cert.ProjInput.defs (F := Bits)) (onTc (τ := Cert.ProjInput.τ) (Cert.ProjInput.main (F := Bits))) ⟨m, fun _ => 0, g⟩ (fun r => (∀ c : Dev Cert.ProjInput.nD,
      r.2.mem ((c.tc : Thread Cert.ProjInput.nD Cert.ProjInput.τ).loc Cert.ProjInput.main_arg0) = m ((c.tc : Thread Cert.ProjInput.nD Cert.ProjInput.τ).loc Cert.ProjInput.main_arg0)
      ∧ r.2.mem ((c.tc : Thread Cert.ProjInput.nD Cert.ProjInput.τ).loc Cert.ProjInput.main_arg1) = m ((c.tc : Thread Cert.ProjInput.nD Cert.ProjInput.τ).loc Cert.ProjInput.main_arg1))
      ∧ r.2.sem = fun _ => 0)

def quiescent_ProjInputIdeal [hProjInputIdeal : Cert.ProjInputIdeal.Facts] : Prop :=
  ∀ (m : (ℓ : Loc Cert.ProjInputIdeal.nD Cert.ProjInputIdeal.τ Cert.ProjInputIdeal.sig) → Buf (Elt Ideal) ℓ) (g : Dev Cert.ProjInputIdeal.nD → PrngReg), Pre_ProjInputIdeal m →
    θ_run (Cert.ProjInputIdeal.defs (F := Ideal)) (onTc (τ := Cert.ProjInputIdeal.τ) (Cert.ProjInputIdeal.main (F := Ideal))) ⟨m, fun _ => 0, g⟩ (fun r => (∀ c : Dev Cert.ProjInputIdeal.nD,
      r.2.mem ((c.tc : Thread Cert.ProjInputIdeal.nD Cert.ProjInputIdeal.τ).loc Cert.ProjInputIdeal.main_arg0) = m ((c.tc : Thread Cert.ProjInputIdeal.nD Cert.ProjInputIdeal.τ).loc Cert.ProjInputIdeal.main_arg0)
      ∧ r.2.mem ((c.tc : Thread Cert.ProjInputIdeal.nD Cert.ProjInputIdeal.τ).loc Cert.ProjInputIdeal.main_arg1) = m ((c.tc : Thread Cert.ProjInputIdeal.nD Cert.ProjInputIdeal.τ).loc Cert.ProjInputIdeal.main_arg1))
      ∧ r.2.sem = fun _ => 0)

def quiescent_ProjInputRefIdeal [hProjInputRefIdeal : Cert.ProjInputRefIdeal.Facts] : Prop :=
  ∀ (m : (ℓ : Loc Cert.ProjInputRefIdeal.nD Cert.ProjInputRefIdeal.τ Cert.ProjInputRefIdeal.sig) → Buf (Elt Ideal) ℓ) (g : Dev Cert.ProjInputRefIdeal.nD → PrngReg), Pre_ProjInputRefIdeal m →
    θ_run (Cert.ProjInputRefIdeal.defs (F := Ideal)) (onTc (τ := Cert.ProjInputRefIdeal.τ) (Cert.ProjInputRefIdeal.main (F := Ideal))) ⟨m, fun _ => 0, g⟩ (fun r => (∀ c : Dev Cert.ProjInputRefIdeal.nD,
      r.2.mem ((c.tc : Thread Cert.ProjInputRefIdeal.nD Cert.ProjInputRefIdeal.τ).loc Cert.ProjInputRefIdeal.main_arg0) = m ((c.tc : Thread Cert.ProjInputRefIdeal.nD Cert.ProjInputRefIdeal.τ).loc Cert.ProjInputRefIdeal.main_arg0)
      ∧ r.2.mem ((c.tc : Thread Cert.ProjInputRefIdeal.nD Cert.ProjInputRefIdeal.τ).loc Cert.ProjInputRefIdeal.main_arg1) = m ((c.tc : Thread Cert.ProjInputRefIdeal.nD Cert.ProjInputRefIdeal.τ).loc Cert.ProjInputRefIdeal.main_arg1))
      ∧ r.2.sem = fun _ => 0)

def quiescent_PreNorm [hPreNorm : Cert.PreNorm.Facts] : Prop :=
  ∀ (m : (ℓ : Loc Cert.PreNorm.nD Cert.PreNorm.τ Cert.PreNorm.sig) → Buf (Elt Bits) ℓ) (g : Dev Cert.PreNorm.nD → PrngReg), Pre_PreNorm m →
    θ_run (Cert.PreNorm.defs (F := Bits)) (onTc (τ := Cert.PreNorm.τ) (Cert.PreNorm.main (F := Bits))) ⟨m, fun _ => 0, g⟩ (fun r => (∀ c : Dev Cert.PreNorm.nD,
      r.2.mem ((c.tc : Thread Cert.PreNorm.nD Cert.PreNorm.τ).loc Cert.PreNorm.main_arg0) = m ((c.tc : Thread Cert.PreNorm.nD Cert.PreNorm.τ).loc Cert.PreNorm.main_arg0)
      ∧ r.2.mem ((c.tc : Thread Cert.PreNorm.nD Cert.PreNorm.τ).loc Cert.PreNorm.main_arg1) = m ((c.tc : Thread Cert.PreNorm.nD Cert.PreNorm.τ).loc Cert.PreNorm.main_arg1)
      ∧ r.2.mem ((c.tc : Thread Cert.PreNorm.nD Cert.PreNorm.τ).loc Cert.PreNorm.main_arg2) = m ((c.tc : Thread Cert.PreNorm.nD Cert.PreNorm.τ).loc Cert.PreNorm.main_arg2)
      ∧ r.2.mem ((c.tc : Thread Cert.PreNorm.nD Cert.PreNorm.τ).loc Cert.PreNorm.main_arg3) = m ((c.tc : Thread Cert.PreNorm.nD Cert.PreNorm.τ).loc Cert.PreNorm.main_arg3)
      ∧ r.2.mem ((c.tc : Thread Cert.PreNorm.nD Cert.PreNorm.τ).loc Cert.PreNorm.main_arg4) = m ((c.tc : Thread Cert.PreNorm.nD Cert.PreNorm.τ).loc Cert.PreNorm.main_arg4)
      ∧ r.2.mem ((c.tc : Thread Cert.PreNorm.nD Cert.PreNorm.τ).loc Cert.PreNorm.main_arg5) = m ((c.tc : Thread Cert.PreNorm.nD Cert.PreNorm.τ).loc Cert.PreNorm.main_arg5))
      ∧ r.2.sem = fun _ => 0)

def quiescent_PreNormIdeal [hPreNormIdeal : Cert.PreNormIdeal.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
      ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2)
      ∧ r.2.mem ((c.tc : Thread Cert.PreNormIdeal.nD Cert.PreNormIdeal.τ).loc Cert.PreNormIdeal.main_arg3) = m ((c.tc : Thread Cert.PreNormIdeal.nD Cert.PreNormIdeal.τ).loc Cert.PreNormIdeal.main_arg3)
      ∧ r.2.mem ((c.tc : Thread Cert.PreNormIdeal.nD Cert.PreNormIdeal.τ).loc Cert.PreNormIdeal.main_arg4) = m ((c.tc : Thread Cert.PreNormIdeal.nD Cert.PreNormIdeal.τ).loc Cert.PreNormIdeal.main_arg4)
      ∧ r.2.mem ((c.tc : Thread Cert.PreNormIdeal.nD Cert.PreNormIdeal.τ).loc Cert.PreNormIdeal.main_arg5) = m ((c.tc : Thread Cert.PreNormIdeal.nD Cert.PreNormIdeal.τ).loc Cert.PreNormIdeal.main_arg5))
      ∧ r.2.sem = fun _ => 0)

def quiescent_PreNormRefIdeal [hPreNormRefIdeal : Cert.PreNormRefIdeal.Facts] : Prop :=
  ∀ (m : (ℓ : Loc Cert.PreNormRefIdeal.nD Cert.PreNormRefIdeal.τ Cert.PreNormRefIdeal.sig) → Buf (Elt Ideal) ℓ) (g : Dev Cert.PreNormRefIdeal.nD → PrngReg), Pre_PreNormRefIdeal m →
    θ_run (Cert.PreNormRefIdeal.defs (F := Ideal)) (onTc (τ := Cert.PreNormRefIdeal.τ) (Cert.PreNormRefIdeal.main (F := Ideal))) ⟨m, fun _ => 0, g⟩ (fun r => (∀ c : Dev Cert.PreNormRefIdeal.nD,
      r.2.mem ((c.tc : Thread Cert.PreNormRefIdeal.nD Cert.PreNormRefIdeal.τ).loc Cert.PreNormRefIdeal.main_arg0) = m ((c.tc : Thread Cert.PreNormRefIdeal.nD Cert.PreNormRefIdeal.τ).loc Cert.PreNormRefIdeal.main_arg0)
      ∧ r.2.mem ((c.tc : Thread Cert.PreNormRefIdeal.nD Cert.PreNormRefIdeal.τ).loc Cert.PreNormRefIdeal.main_arg1) = m ((c.tc : Thread Cert.PreNormRefIdeal.nD Cert.PreNormRefIdeal.τ).loc Cert.PreNormRefIdeal.main_arg1)
      ∧ r.2.mem ((c.tc : Thread Cert.PreNormRefIdeal.nD Cert.PreNormRefIdeal.τ).loc Cert.PreNormRefIdeal.main_arg2) = m ((c.tc : Thread Cert.PreNormRefIdeal.nD Cert.PreNormRefIdeal.τ).loc Cert.PreNormRefIdeal.main_arg2)
      ∧ r.2.mem ((c.tc : Thread Cert.PreNormRefIdeal.nD Cert.PreNormRefIdeal.τ).loc Cert.PreNormRefIdeal.main_arg3) = m ((c.tc : Thread Cert.PreNormRefIdeal.nD Cert.PreNormRefIdeal.τ).loc Cert.PreNormRefIdeal.main_arg3)
      ∧ r.2.mem ((c.tc : Thread Cert.PreNormRefIdeal.nD Cert.PreNormRefIdeal.τ).loc Cert.PreNormRefIdeal.main_arg4) = m ((c.tc : Thread Cert.PreNormRefIdeal.nD Cert.PreNormRefIdeal.τ).loc Cert.PreNormRefIdeal.main_arg4)
      ∧ r.2.mem ((c.tc : Thread Cert.PreNormRefIdeal.nD Cert.PreNormRefIdeal.τ).loc Cert.PreNormRefIdeal.main_arg5) = m ((c.tc : Thread Cert.PreNormRefIdeal.nD Cert.PreNormRefIdeal.τ).loc Cert.PreNormRefIdeal.main_arg5))
      ∧ r.2.sem = fun _ => 0)

def quiescent_PleNorm [hPleNorm : Cert.PleNorm.Facts] : Prop :=
  ∀ (m : (ℓ : Loc Cert.PleNorm.nD Cert.PleNorm.τ Cert.PleNorm.sig) → Buf (Elt Bits) ℓ) (g : Dev Cert.PleNorm.nD → PrngReg), Pre_PleNorm m →
    θ_run (Cert.PleNorm.defs (F := Bits)) (onTc (τ := Cert.PleNorm.τ) (Cert.PleNorm.main (F := Bits))) ⟨m, fun _ => 0, g⟩ (fun r => (∀ c : Dev Cert.PleNorm.nD,
      r.2.mem ((c.tc : Thread Cert.PleNorm.nD Cert.PleNorm.τ).loc Cert.PleNorm.main_arg0) = m ((c.tc : Thread Cert.PleNorm.nD Cert.PleNorm.τ).loc Cert.PleNorm.main_arg0)
      ∧ r.2.mem ((c.tc : Thread Cert.PleNorm.nD Cert.PleNorm.τ).loc Cert.PleNorm.main_arg1) = m ((c.tc : Thread Cert.PleNorm.nD Cert.PleNorm.τ).loc Cert.PleNorm.main_arg1)
      ∧ r.2.mem ((c.tc : Thread Cert.PleNorm.nD Cert.PleNorm.τ).loc Cert.PleNorm.main_arg2) = m ((c.tc : Thread Cert.PleNorm.nD Cert.PleNorm.τ).loc Cert.PleNorm.main_arg2)
      ∧ r.2.mem ((c.tc : Thread Cert.PleNorm.nD Cert.PleNorm.τ).loc Cert.PleNorm.main_arg3) = m ((c.tc : Thread Cert.PleNorm.nD Cert.PleNorm.τ).loc Cert.PleNorm.main_arg3)
      ∧ r.2.mem ((c.tc : Thread Cert.PleNorm.nD Cert.PleNorm.τ).loc Cert.PleNorm.main_arg4) = m ((c.tc : Thread Cert.PleNorm.nD Cert.PleNorm.τ).loc Cert.PleNorm.main_arg4))
      ∧ r.2.sem = fun _ => 0)

def quiescent_PleNormIdeal [hPleNormIdeal : Cert.PleNormIdeal.Facts] : Prop :=
  ∀ (m : (ℓ : Loc Cert.PleNormIdeal.nD Cert.PleNormIdeal.τ Cert.PleNormIdeal.sig) → Buf (Elt Ideal) ℓ) (g : Dev Cert.PleNormIdeal.nD → PrngReg), Pre_PleNormIdeal m →
    θ_run (Cert.PleNormIdeal.defs (F := Ideal)) (onTc (τ := Cert.PleNormIdeal.τ) (Cert.PleNormIdeal.main (F := Ideal))) ⟨m, fun _ => 0, g⟩ (fun r => (∀ c : Dev Cert.PleNormIdeal.nD,
      r.2.mem ((c.tc : Thread Cert.PleNormIdeal.nD Cert.PleNormIdeal.τ).loc Cert.PleNormIdeal.main_arg0) = m ((c.tc : Thread Cert.PleNormIdeal.nD Cert.PleNormIdeal.τ).loc Cert.PleNormIdeal.main_arg0)
      ∧ r.2.mem ((c.tc : Thread Cert.PleNormIdeal.nD Cert.PleNormIdeal.τ).loc Cert.PleNormIdeal.main_arg1) = m ((c.tc : Thread Cert.PleNormIdeal.nD Cert.PleNormIdeal.τ).loc Cert.PleNormIdeal.main_arg1)
      ∧ r.2.mem ((c.tc : Thread Cert.PleNormIdeal.nD Cert.PleNormIdeal.τ).loc Cert.PleNormIdeal.main_arg2) = m ((c.tc : Thread Cert.PleNormIdeal.nD Cert.PleNormIdeal.τ).loc Cert.PleNormIdeal.main_arg2)
      ∧ r.2.mem ((c.tc : Thread Cert.PleNormIdeal.nD Cert.PleNormIdeal.τ).loc Cert.PleNormIdeal.main_arg3) = m ((c.tc : Thread Cert.PleNormIdeal.nD Cert.PleNormIdeal.τ).loc Cert.PleNormIdeal.main_arg3)
      ∧ r.2.mem ((c.tc : Thread Cert.PleNormIdeal.nD Cert.PleNormIdeal.τ).loc Cert.PleNormIdeal.main_arg4) = m ((c.tc : Thread Cert.PleNormIdeal.nD Cert.PleNormIdeal.τ).loc Cert.PleNormIdeal.main_arg4))
      ∧ r.2.sem = fun _ => 0)

def quiescent_PleNormRefIdeal [hPleNormRefIdeal : Cert.PleNormRefIdeal.Facts] : Prop :=
  ∀ (m : (ℓ : Loc Cert.PleNormRefIdeal.nD Cert.PleNormRefIdeal.τ Cert.PleNormRefIdeal.sig) → Buf (Elt Ideal) ℓ) (g : Dev Cert.PleNormRefIdeal.nD → PrngReg), Pre_PleNormRefIdeal m →
    θ_run (Cert.PleNormRefIdeal.defs (F := Ideal)) (onTc (τ := Cert.PleNormRefIdeal.τ) (Cert.PleNormRefIdeal.main (F := Ideal))) ⟨m, fun _ => 0, g⟩ (fun r => (∀ c : Dev Cert.PleNormRefIdeal.nD,
      r.2.mem ((c.tc : Thread Cert.PleNormRefIdeal.nD Cert.PleNormRefIdeal.τ).loc Cert.PleNormRefIdeal.main_arg0) = m ((c.tc : Thread Cert.PleNormRefIdeal.nD Cert.PleNormRefIdeal.τ).loc Cert.PleNormRefIdeal.main_arg0)
      ∧ r.2.mem ((c.tc : Thread Cert.PleNormRefIdeal.nD Cert.PleNormRefIdeal.τ).loc Cert.PleNormRefIdeal.main_arg1) = m ((c.tc : Thread Cert.PleNormRefIdeal.nD Cert.PleNormRefIdeal.τ).loc Cert.PleNormRefIdeal.main_arg1)
      ∧ r.2.mem ((c.tc : Thread Cert.PleNormRefIdeal.nD Cert.PleNormRefIdeal.τ).loc Cert.PleNormRefIdeal.main_arg2) = m ((c.tc : Thread Cert.PleNormRefIdeal.nD Cert.PleNormRefIdeal.τ).loc Cert.PleNormRefIdeal.main_arg2)
      ∧ r.2.mem ((c.tc : Thread Cert.PleNormRefIdeal.nD Cert.PleNormRefIdeal.τ).loc Cert.PleNormRefIdeal.main_arg3) = m ((c.tc : Thread Cert.PleNormRefIdeal.nD Cert.PleNormRefIdeal.τ).loc Cert.PleNormRefIdeal.main_arg3)
      ∧ r.2.mem ((c.tc : Thread Cert.PleNormRefIdeal.nD Cert.PleNormRefIdeal.τ).loc Cert.PleNormRefIdeal.main_arg4) = m ((c.tc : Thread Cert.PleNormRefIdeal.nD Cert.PleNormRefIdeal.τ).loc Cert.PleNormRefIdeal.main_arg4))
      ∧ r.2.sem = fun _ => 0)

def quiescent_GateWeight [hGateWeight : Cert.GateWeight.Facts] : Prop :=
  ∀ (m : (ℓ : Loc Cert.GateWeight.nD Cert.GateWeight.τ Cert.GateWeight.sig) → Buf (Elt Bits) ℓ) (g : Dev Cert.GateWeight.nD → PrngReg), Pre_GateWeight m →
    θ_run (Cert.GateWeight.defs (F := Bits)) (onTc (τ := Cert.GateWeight.τ) (Cert.GateWeight.main (F := Bits))) ⟨m, fun _ => 0, g⟩ (fun r => (∀ c : Dev Cert.GateWeight.nD,
      r.2.mem ((c.tc : Thread Cert.GateWeight.nD Cert.GateWeight.τ).loc Cert.GateWeight.main_arg0) = m ((c.tc : Thread Cert.GateWeight.nD Cert.GateWeight.τ).loc Cert.GateWeight.main_arg0)
      ∧ r.2.mem ((c.tc : Thread Cert.GateWeight.nD Cert.GateWeight.τ).loc Cert.GateWeight.main_arg1) = m ((c.tc : Thread Cert.GateWeight.nD Cert.GateWeight.τ).loc Cert.GateWeight.main_arg1))
      ∧ r.2.sem = fun _ => 0)

def quiescent_GateWeightIdeal [hGateWeightIdeal : Cert.GateWeightIdeal.Facts] : Prop :=
  ∀ (m : (ℓ : Loc Cert.GateWeightIdeal.nD Cert.GateWeightIdeal.τ Cert.GateWeightIdeal.sig) → Buf (Elt Ideal) ℓ) (g : Dev Cert.GateWeightIdeal.nD → PrngReg), Pre_GateWeightIdeal m →
    θ_run (Cert.GateWeightIdeal.defs (F := Ideal)) (onTc (τ := Cert.GateWeightIdeal.τ) (Cert.GateWeightIdeal.main (F := Ideal))) ⟨m, fun _ => 0, g⟩ (fun r => (∀ c : Dev Cert.GateWeightIdeal.nD,
      r.2.mem ((c.tc : Thread Cert.GateWeightIdeal.nD Cert.GateWeightIdeal.τ).loc Cert.GateWeightIdeal.main_arg0) = m ((c.tc : Thread Cert.GateWeightIdeal.nD Cert.GateWeightIdeal.τ).loc Cert.GateWeightIdeal.main_arg0)
      ∧ r.2.mem ((c.tc : Thread Cert.GateWeightIdeal.nD Cert.GateWeightIdeal.τ).loc Cert.GateWeightIdeal.main_arg1) = m ((c.tc : Thread Cert.GateWeightIdeal.nD Cert.GateWeightIdeal.τ).loc Cert.GateWeightIdeal.main_arg1))
      ∧ r.2.sem = fun _ => 0)

def quiescent_GateWeightRefIdeal [hGateWeightRefIdeal : Cert.GateWeightRefIdeal.Facts] : Prop :=
  ∀ (m : (ℓ : Loc Cert.GateWeightRefIdeal.nD Cert.GateWeightRefIdeal.τ Cert.GateWeightRefIdeal.sig) → Buf (Elt Ideal) ℓ) (g : Dev Cert.GateWeightRefIdeal.nD → PrngReg), Pre_GateWeightRefIdeal m →
    θ_run (Cert.GateWeightRefIdeal.defs (F := Ideal)) (onTc (τ := Cert.GateWeightRefIdeal.τ) (Cert.GateWeightRefIdeal.main (F := Ideal))) ⟨m, fun _ => 0, g⟩ (fun r => (∀ c : Dev Cert.GateWeightRefIdeal.nD,
      r.2.mem ((c.tc : Thread Cert.GateWeightRefIdeal.nD Cert.GateWeightRefIdeal.τ).loc Cert.GateWeightRefIdeal.main_arg0) = m ((c.tc : Thread Cert.GateWeightRefIdeal.nD Cert.GateWeightRefIdeal.τ).loc Cert.GateWeightRefIdeal.main_arg0)
      ∧ r.2.mem ((c.tc : Thread Cert.GateWeightRefIdeal.nD Cert.GateWeightRefIdeal.τ).loc Cert.GateWeightRefIdeal.main_arg1) = m ((c.tc : Thread Cert.GateWeightRefIdeal.nD Cert.GateWeightRefIdeal.τ).loc Cert.GateWeightRefIdeal.main_arg1))
      ∧ r.2.sem = fun _ => 0)

def quiescent_OutAWeight [hOutAWeight : Cert.OutAWeight.Facts] : Prop :=
  ∀ (m : (ℓ : Loc Cert.OutAWeight.nD Cert.OutAWeight.τ Cert.OutAWeight.sig) → Buf (Elt Bits) ℓ) (g : Dev Cert.OutAWeight.nD → PrngReg), Pre_OutAWeight m →
    θ_run (Cert.OutAWeight.defs (F := Bits)) (onTc (τ := Cert.OutAWeight.τ) (Cert.OutAWeight.main (F := Bits))) ⟨m, fun _ => 0, g⟩ (fun r => (∀ c : Dev Cert.OutAWeight.nD,
      r.2.mem ((c.tc : Thread Cert.OutAWeight.nD Cert.OutAWeight.τ).loc Cert.OutAWeight.main_arg0) = m ((c.tc : Thread Cert.OutAWeight.nD Cert.OutAWeight.τ).loc Cert.OutAWeight.main_arg0)
      ∧ r.2.mem ((c.tc : Thread Cert.OutAWeight.nD Cert.OutAWeight.τ).loc Cert.OutAWeight.main_arg1) = m ((c.tc : Thread Cert.OutAWeight.nD Cert.OutAWeight.τ).loc Cert.OutAWeight.main_arg1))
      ∧ r.2.sem = fun _ => 0)

def quiescent_OutAWeightIdeal [hOutAWeightIdeal : Cert.OutAWeightIdeal.Facts] : Prop :=
  ∀ (m : (ℓ : Loc Cert.OutAWeightIdeal.nD Cert.OutAWeightIdeal.τ Cert.OutAWeightIdeal.sig) → Buf (Elt Ideal) ℓ) (g : Dev Cert.OutAWeightIdeal.nD → PrngReg), Pre_OutAWeightIdeal m →
    θ_run (Cert.OutAWeightIdeal.defs (F := Ideal)) (onTc (τ := Cert.OutAWeightIdeal.τ) (Cert.OutAWeightIdeal.main (F := Ideal))) ⟨m, fun _ => 0, g⟩ (fun r => (∀ c : Dev Cert.OutAWeightIdeal.nD,
      r.2.mem ((c.tc : Thread Cert.OutAWeightIdeal.nD Cert.OutAWeightIdeal.τ).loc Cert.OutAWeightIdeal.main_arg0) = m ((c.tc : Thread Cert.OutAWeightIdeal.nD Cert.OutAWeightIdeal.τ).loc Cert.OutAWeightIdeal.main_arg0)
      ∧ r.2.mem ((c.tc : Thread Cert.OutAWeightIdeal.nD Cert.OutAWeightIdeal.τ).loc Cert.OutAWeightIdeal.main_arg1) = m ((c.tc : Thread Cert.OutAWeightIdeal.nD Cert.OutAWeightIdeal.τ).loc Cert.OutAWeightIdeal.main_arg1))
      ∧ r.2.sem = fun _ => 0)

def quiescent_OutAWeightRefIdeal [hOutAWeightRefIdeal : Cert.OutAWeightRefIdeal.Facts] : Prop :=
  ∀ (m : (ℓ : Loc Cert.OutAWeightRefIdeal.nD Cert.OutAWeightRefIdeal.τ Cert.OutAWeightRefIdeal.sig) → Buf (Elt Ideal) ℓ) (g : Dev Cert.OutAWeightRefIdeal.nD → PrngReg), Pre_OutAWeightRefIdeal m →
    θ_run (Cert.OutAWeightRefIdeal.defs (F := Ideal)) (onTc (τ := Cert.OutAWeightRefIdeal.τ) (Cert.OutAWeightRefIdeal.main (F := Ideal))) ⟨m, fun _ => 0, g⟩ (fun r => (∀ c : Dev Cert.OutAWeightRefIdeal.nD,
      r.2.mem ((c.tc : Thread Cert.OutAWeightRefIdeal.nD Cert.OutAWeightRefIdeal.τ).loc Cert.OutAWeightRefIdeal.main_arg0) = m ((c.tc : Thread Cert.OutAWeightRefIdeal.nD Cert.OutAWeightRefIdeal.τ).loc Cert.OutAWeightRefIdeal.main_arg0)
      ∧ r.2.mem ((c.tc : Thread Cert.OutAWeightRefIdeal.nD Cert.OutAWeightRefIdeal.τ).loc Cert.OutAWeightRefIdeal.main_arg1) = m ((c.tc : Thread Cert.OutAWeightRefIdeal.nD Cert.OutAWeightRefIdeal.τ).loc Cert.OutAWeightRefIdeal.main_arg1))
      ∧ r.2.sem = fun _ => 0)

def quiescent_OutBWeight [hOutBWeight : Cert.OutBWeight.Facts] : Prop :=
  ∀ (m : (ℓ : Loc Cert.OutBWeight.nD Cert.OutBWeight.τ Cert.OutBWeight.sig) → Buf (Elt Bits) ℓ) (g : Dev Cert.OutBWeight.nD → PrngReg), Pre_OutBWeight m →
    θ_run (Cert.OutBWeight.defs (F := Bits)) (onTc (τ := Cert.OutBWeight.τ) (Cert.OutBWeight.main (F := Bits))) ⟨m, fun _ => 0, g⟩ (fun r => (∀ c : Dev Cert.OutBWeight.nD,
      r.2.mem ((c.tc : Thread Cert.OutBWeight.nD Cert.OutBWeight.τ).loc Cert.OutBWeight.main_arg0) = m ((c.tc : Thread Cert.OutBWeight.nD Cert.OutBWeight.τ).loc Cert.OutBWeight.main_arg0)
      ∧ r.2.mem ((c.tc : Thread Cert.OutBWeight.nD Cert.OutBWeight.τ).loc Cert.OutBWeight.main_arg1) = m ((c.tc : Thread Cert.OutBWeight.nD Cert.OutBWeight.τ).loc Cert.OutBWeight.main_arg1))
      ∧ r.2.sem = fun _ => 0)

def quiescent_OutBWeightIdeal [hOutBWeightIdeal : Cert.OutBWeightIdeal.Facts] : Prop :=
  ∀ (m : (ℓ : Loc Cert.OutBWeightIdeal.nD Cert.OutBWeightIdeal.τ Cert.OutBWeightIdeal.sig) → Buf (Elt Ideal) ℓ) (g : Dev Cert.OutBWeightIdeal.nD → PrngReg), Pre_OutBWeightIdeal m →
    θ_run (Cert.OutBWeightIdeal.defs (F := Ideal)) (onTc (τ := Cert.OutBWeightIdeal.τ) (Cert.OutBWeightIdeal.main (F := Ideal))) ⟨m, fun _ => 0, g⟩ (fun r => (∀ c : Dev Cert.OutBWeightIdeal.nD,
      r.2.mem ((c.tc : Thread Cert.OutBWeightIdeal.nD Cert.OutBWeightIdeal.τ).loc Cert.OutBWeightIdeal.main_arg0) = m ((c.tc : Thread Cert.OutBWeightIdeal.nD Cert.OutBWeightIdeal.τ).loc Cert.OutBWeightIdeal.main_arg0)
      ∧ r.2.mem ((c.tc : Thread Cert.OutBWeightIdeal.nD Cert.OutBWeightIdeal.τ).loc Cert.OutBWeightIdeal.main_arg1) = m ((c.tc : Thread Cert.OutBWeightIdeal.nD Cert.OutBWeightIdeal.τ).loc Cert.OutBWeightIdeal.main_arg1))
      ∧ r.2.sem = fun _ => 0)

def quiescent_OutBWeightRefIdeal [hOutBWeightRefIdeal : Cert.OutBWeightRefIdeal.Facts] : Prop :=
  ∀ (m : (ℓ : Loc Cert.OutBWeightRefIdeal.nD Cert.OutBWeightRefIdeal.τ Cert.OutBWeightRefIdeal.sig) → Buf (Elt Ideal) ℓ) (g : Dev Cert.OutBWeightRefIdeal.nD → PrngReg), Pre_OutBWeightRefIdeal m →
    θ_run (Cert.OutBWeightRefIdeal.defs (F := Ideal)) (onTc (τ := Cert.OutBWeightRefIdeal.τ) (Cert.OutBWeightRefIdeal.main (F := Ideal))) ⟨m, fun _ => 0, g⟩ (fun r => (∀ c : Dev Cert.OutBWeightRefIdeal.nD,
      r.2.mem ((c.tc : Thread Cert.OutBWeightRefIdeal.nD Cert.OutBWeightRefIdeal.τ).loc Cert.OutBWeightRefIdeal.main_arg0) = m ((c.tc : Thread Cert.OutBWeightRefIdeal.nD Cert.OutBWeightRefIdeal.τ).loc Cert.OutBWeightRefIdeal.main_arg0)
      ∧ r.2.mem ((c.tc : Thread Cert.OutBWeightRefIdeal.nD Cert.OutBWeightRefIdeal.τ).loc Cert.OutBWeightRefIdeal.main_arg1) = m ((c.tc : Thread Cert.OutBWeightRefIdeal.nD Cert.OutBWeightRefIdeal.τ).loc Cert.OutBWeightRefIdeal.main_arg1))
      ∧ r.2.sem = fun _ => 0)

def quiescent_MergeWeight [hMergeWeight : Cert.MergeWeight.Facts] : Prop :=
  ∀ (m : (ℓ : Loc Cert.MergeWeight.nD Cert.MergeWeight.τ Cert.MergeWeight.sig) → Buf (Elt Bits) ℓ) (g : Dev Cert.MergeWeight.nD → PrngReg), Pre_MergeWeight m →
    θ_run (Cert.MergeWeight.defs (F := Bits)) (onTc (τ := Cert.MergeWeight.τ) (Cert.MergeWeight.main (F := Bits))) ⟨m, fun _ => 0, g⟩ (fun r => (∀ c : Dev Cert.MergeWeight.nD,
      r.2.mem ((c.tc : Thread Cert.MergeWeight.nD Cert.MergeWeight.τ).loc Cert.MergeWeight.main_arg0) = m ((c.tc : Thread Cert.MergeWeight.nD Cert.MergeWeight.τ).loc Cert.MergeWeight.main_arg0)
      ∧ r.2.mem ((c.tc : Thread Cert.MergeWeight.nD Cert.MergeWeight.τ).loc Cert.MergeWeight.main_arg1) = m ((c.tc : Thread Cert.MergeWeight.nD Cert.MergeWeight.τ).loc Cert.MergeWeight.main_arg1))
      ∧ r.2.sem = fun _ => 0)

def quiescent_MergeWeightIdeal [hMergeWeightIdeal : Cert.MergeWeightIdeal.Facts] : Prop :=
  ∀ (m : (ℓ : Loc Cert.MergeWeightIdeal.nD Cert.MergeWeightIdeal.τ Cert.MergeWeightIdeal.sig) → Buf (Elt Ideal) ℓ) (g : Dev Cert.MergeWeightIdeal.nD → PrngReg), Pre_MergeWeightIdeal m →
    θ_run (Cert.MergeWeightIdeal.defs (F := Ideal)) (onTc (τ := Cert.MergeWeightIdeal.τ) (Cert.MergeWeightIdeal.main (F := Ideal))) ⟨m, fun _ => 0, g⟩ (fun r => (∀ c : Dev Cert.MergeWeightIdeal.nD,
      r.2.mem ((c.tc : Thread Cert.MergeWeightIdeal.nD Cert.MergeWeightIdeal.τ).loc Cert.MergeWeightIdeal.main_arg0) = m ((c.tc : Thread Cert.MergeWeightIdeal.nD Cert.MergeWeightIdeal.τ).loc Cert.MergeWeightIdeal.main_arg0)
      ∧ r.2.mem ((c.tc : Thread Cert.MergeWeightIdeal.nD Cert.MergeWeightIdeal.τ).loc Cert.MergeWeightIdeal.main_arg1) = m ((c.tc : Thread Cert.MergeWeightIdeal.nD Cert.MergeWeightIdeal.τ).loc Cert.MergeWeightIdeal.main_arg1))
      ∧ r.2.sem = fun _ => 0)

def quiescent_MergeWeightRefIdeal [hMergeWeightRefIdeal : Cert.MergeWeightRefIdeal.Facts] : Prop :=
  ∀ (m : (ℓ : Loc Cert.MergeWeightRefIdeal.nD Cert.MergeWeightRefIdeal.τ Cert.MergeWeightRefIdeal.sig) → Buf (Elt Ideal) ℓ) (g : Dev Cert.MergeWeightRefIdeal.nD → PrngReg), Pre_MergeWeightRefIdeal m →
    θ_run (Cert.MergeWeightRefIdeal.defs (F := Ideal)) (onTc (τ := Cert.MergeWeightRefIdeal.τ) (Cert.MergeWeightRefIdeal.main (F := Ideal))) ⟨m, fun _ => 0, g⟩ (fun r => (∀ c : Dev Cert.MergeWeightRefIdeal.nD,
      r.2.mem ((c.tc : Thread Cert.MergeWeightRefIdeal.nD Cert.MergeWeightRefIdeal.τ).loc Cert.MergeWeightRefIdeal.main_arg0) = m ((c.tc : Thread Cert.MergeWeightRefIdeal.nD Cert.MergeWeightRefIdeal.τ).loc Cert.MergeWeightRefIdeal.main_arg0)
      ∧ r.2.mem ((c.tc : Thread Cert.MergeWeightRefIdeal.nD Cert.MergeWeightRefIdeal.τ).loc Cert.MergeWeightRefIdeal.main_arg1) = m ((c.tc : Thread Cert.MergeWeightRefIdeal.nD Cert.MergeWeightRefIdeal.τ).loc Cert.MergeWeightRefIdeal.main_arg1))
      ∧ r.2.sem = fun _ => 0)

def quiescent_StepWeight [hStepWeight : Cert.StepWeight.Facts] : Prop :=
  ∀ (m : (ℓ : Loc Cert.StepWeight.nD Cert.StepWeight.τ Cert.StepWeight.sig) → Buf (Elt Bits) ℓ) (g : Dev Cert.StepWeight.nD → PrngReg), Pre_StepWeight m →
    θ_run (Cert.StepWeight.defs (F := Bits)) (onTc (τ := Cert.StepWeight.τ) (Cert.StepWeight.main (F := Bits))) ⟨m, fun _ => 0, g⟩ (fun r => (∀ c : Dev Cert.StepWeight.nD,
      r.2.mem ((c.tc : Thread Cert.StepWeight.nD Cert.StepWeight.τ).loc Cert.StepWeight.main_arg0) = m ((c.tc : Thread Cert.StepWeight.nD Cert.StepWeight.τ).loc Cert.StepWeight.main_arg0)
      ∧ r.2.mem ((c.tc : Thread Cert.StepWeight.nD Cert.StepWeight.τ).loc Cert.StepWeight.main_arg1) = m ((c.tc : Thread Cert.StepWeight.nD Cert.StepWeight.τ).loc Cert.StepWeight.main_arg1))
      ∧ r.2.sem = fun _ => 0)

def quiescent_StepWeightIdeal [hStepWeightIdeal : Cert.StepWeightIdeal.Facts] : Prop :=
  ∀ (m : (ℓ : Loc Cert.StepWeightIdeal.nD Cert.StepWeightIdeal.τ Cert.StepWeightIdeal.sig) → Buf (Elt Ideal) ℓ) (g : Dev Cert.StepWeightIdeal.nD → PrngReg), Pre_StepWeightIdeal m →
    θ_run (Cert.StepWeightIdeal.defs (F := Ideal)) (onTc (τ := Cert.StepWeightIdeal.τ) (Cert.StepWeightIdeal.main (F := Ideal))) ⟨m, fun _ => 0, g⟩ (fun r => (∀ c : Dev Cert.StepWeightIdeal.nD,
      r.2.mem ((c.tc : Thread Cert.StepWeightIdeal.nD Cert.StepWeightIdeal.τ).loc Cert.StepWeightIdeal.main_arg0) = m ((c.tc : Thread Cert.StepWeightIdeal.nD Cert.StepWeightIdeal.τ).loc Cert.StepWeightIdeal.main_arg0)
      ∧ r.2.mem ((c.tc : Thread Cert.StepWeightIdeal.nD Cert.StepWeightIdeal.τ).loc Cert.StepWeightIdeal.main_arg1) = m ((c.tc : Thread Cert.StepWeightIdeal.nD Cert.StepWeightIdeal.τ).loc Cert.StepWeightIdeal.main_arg1))
      ∧ r.2.sem = fun _ => 0)

def quiescent_StepWeightRefIdeal [hStepWeightRefIdeal : Cert.StepWeightRefIdeal.Facts] : Prop :=
  ∀ (m : (ℓ : Loc Cert.StepWeightRefIdeal.nD Cert.StepWeightRefIdeal.τ Cert.StepWeightRefIdeal.sig) → Buf (Elt Ideal) ℓ) (g : Dev Cert.StepWeightRefIdeal.nD → PrngReg), Pre_StepWeightRefIdeal m →
    θ_run (Cert.StepWeightRefIdeal.defs (F := Ideal)) (onTc (τ := Cert.StepWeightRefIdeal.τ) (Cert.StepWeightRefIdeal.main (F := Ideal))) ⟨m, fun _ => 0, g⟩ (fun r => (∀ c : Dev Cert.StepWeightRefIdeal.nD,
      r.2.mem ((c.tc : Thread Cert.StepWeightRefIdeal.nD Cert.StepWeightRefIdeal.τ).loc Cert.StepWeightRefIdeal.main_arg0) = m ((c.tc : Thread Cert.StepWeightRefIdeal.nD Cert.StepWeightRefIdeal.τ).loc Cert.StepWeightRefIdeal.main_arg0)
      ∧ r.2.mem ((c.tc : Thread Cert.StepWeightRefIdeal.nD Cert.StepWeightRefIdeal.τ).loc Cert.StepWeightRefIdeal.main_arg1) = m ((c.tc : Thread Cert.StepWeightRefIdeal.nD Cert.StepWeightRefIdeal.τ).loc Cert.StepWeightRefIdeal.main_arg1))
      ∧ r.2.sem = fun _ => 0)

def quiescent_EmbedWeight [hEmbedWeight : Cert.EmbedWeight.Facts] : Prop :=
  ∀ (m : (ℓ : Loc Cert.EmbedWeight.nD Cert.EmbedWeight.τ Cert.EmbedWeight.sig) → Buf (Elt Bits) ℓ) (g : Dev Cert.EmbedWeight.nD → PrngReg), Pre_EmbedWeight m →
    θ_run (Cert.EmbedWeight.defs (F := Bits)) (onTc (τ := Cert.EmbedWeight.τ) (Cert.EmbedWeight.main (F := Bits))) ⟨m, fun _ => 0, g⟩ (fun r => (∀ c : Dev Cert.EmbedWeight.nD,
      r.2.mem ((c.tc : Thread Cert.EmbedWeight.nD Cert.EmbedWeight.τ).loc Cert.EmbedWeight.main_arg0) = m ((c.tc : Thread Cert.EmbedWeight.nD Cert.EmbedWeight.τ).loc Cert.EmbedWeight.main_arg0)
      ∧ r.2.mem ((c.tc : Thread Cert.EmbedWeight.nD Cert.EmbedWeight.τ).loc Cert.EmbedWeight.main_arg1) = m ((c.tc : Thread Cert.EmbedWeight.nD Cert.EmbedWeight.τ).loc Cert.EmbedWeight.main_arg1))
      ∧ r.2.sem = fun _ => 0)

def quiescent_EmbedWeightIdeal [hEmbedWeightIdeal : Cert.EmbedWeightIdeal.Facts] : Prop :=
  ∀ (m : (ℓ : Loc Cert.EmbedWeightIdeal.nD Cert.EmbedWeightIdeal.τ Cert.EmbedWeightIdeal.sig) → Buf (Elt Ideal) ℓ) (g : Dev Cert.EmbedWeightIdeal.nD → PrngReg), Pre_EmbedWeightIdeal m →
    θ_run (Cert.EmbedWeightIdeal.defs (F := Ideal)) (onTc (τ := Cert.EmbedWeightIdeal.τ) (Cert.EmbedWeightIdeal.main (F := Ideal))) ⟨m, fun _ => 0, g⟩ (fun r => (∀ c : Dev Cert.EmbedWeightIdeal.nD,
      r.2.mem ((c.tc : Thread Cert.EmbedWeightIdeal.nD Cert.EmbedWeightIdeal.τ).loc Cert.EmbedWeightIdeal.main_arg0) = m ((c.tc : Thread Cert.EmbedWeightIdeal.nD Cert.EmbedWeightIdeal.τ).loc Cert.EmbedWeightIdeal.main_arg0)
      ∧ r.2.mem ((c.tc : Thread Cert.EmbedWeightIdeal.nD Cert.EmbedWeightIdeal.τ).loc Cert.EmbedWeightIdeal.main_arg1) = m ((c.tc : Thread Cert.EmbedWeightIdeal.nD Cert.EmbedWeightIdeal.τ).loc Cert.EmbedWeightIdeal.main_arg1))
      ∧ r.2.sem = fun _ => 0)

def quiescent_EmbedWeightRefIdeal [hEmbedWeightRefIdeal : Cert.EmbedWeightRefIdeal.Facts] : Prop :=
  ∀ (m : (ℓ : Loc Cert.EmbedWeightRefIdeal.nD Cert.EmbedWeightRefIdeal.τ Cert.EmbedWeightRefIdeal.sig) → Buf (Elt Ideal) ℓ) (g : Dev Cert.EmbedWeightRefIdeal.nD → PrngReg), Pre_EmbedWeightRefIdeal m →
    θ_run (Cert.EmbedWeightRefIdeal.defs (F := Ideal)) (onTc (τ := Cert.EmbedWeightRefIdeal.τ) (Cert.EmbedWeightRefIdeal.main (F := Ideal))) ⟨m, fun _ => 0, g⟩ (fun r => (∀ c : Dev Cert.EmbedWeightRefIdeal.nD,
      r.2.mem ((c.tc : Thread Cert.EmbedWeightRefIdeal.nD Cert.EmbedWeightRefIdeal.τ).loc Cert.EmbedWeightRefIdeal.main_arg0) = m ((c.tc : Thread Cert.EmbedWeightRefIdeal.nD Cert.EmbedWeightRefIdeal.τ).loc Cert.EmbedWeightRefIdeal.main_arg0)
      ∧ r.2.mem ((c.tc : Thread Cert.EmbedWeightRefIdeal.nD Cert.EmbedWeightRefIdeal.τ).loc Cert.EmbedWeightRefIdeal.main_arg1) = m ((c.tc : Thread Cert.EmbedWeightRefIdeal.nD Cert.EmbedWeightRefIdeal.τ).loc Cert.EmbedWeightRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_ConvAct [hConvAct : Cert.ConvAct.Facts] : Prop :=
  ∀ (m : (ℓ : Loc Cert.ConvAct.nD Cert.ConvAct.τ Cert.ConvAct.sig) → Buf (Elt Bits) ℓ) (g : Dev Cert.ConvAct.nD → PrngReg), Pre_ConvAct m →
    θ_run (Cert.ConvAct.defs (F := Bits)) (onTc (τ := Cert.ConvAct.τ) (Cert.ConvAct.main (F := Bits))) ⟨m, fun _ => 0, g⟩ (fun r => (∀ c : Dev Cert.ConvAct.nD,
      r.2.mem ((c.tc : Thread Cert.ConvAct.nD Cert.ConvAct.τ).loc Cert.ConvAct.main_arg0) = m ((c.tc : Thread Cert.ConvAct.nD Cert.ConvAct.τ).loc Cert.ConvAct.main_arg0)
      ∧ r.2.mem ((c.tc : Thread Cert.ConvAct.nD Cert.ConvAct.τ).loc Cert.ConvAct.main_arg1) = m ((c.tc : Thread Cert.ConvAct.nD Cert.ConvAct.τ).loc Cert.ConvAct.main_arg1)
      ∧ r.2.mem ((c.tc : Thread Cert.ConvAct.nD Cert.ConvAct.τ).loc Cert.ConvAct.main_arg2) = m ((c.tc : Thread Cert.ConvAct.nD Cert.ConvAct.τ).loc Cert.ConvAct.main_arg2)
      ∧ r.2.mem ((c.tc : Thread Cert.ConvAct.nD Cert.ConvAct.τ).loc Cert.ConvAct.main_arg3) = m ((c.tc : Thread Cert.ConvAct.nD Cert.ConvAct.τ).loc Cert.ConvAct.main_arg3))
      ∧ r.2.sem = fun _ => 0)

def quiescent_ConvActIdeal [hConvActIdeal : Cert.ConvActIdeal.Facts] : Prop :=
  ∀ (m : (ℓ : Loc Cert.ConvActIdeal.nD Cert.ConvActIdeal.τ Cert.ConvActIdeal.sig) → Buf (Elt Ideal) ℓ) (g : Dev Cert.ConvActIdeal.nD → PrngReg), Pre_ConvActIdeal m →
    θ_run (Cert.ConvActIdeal.defs (F := Ideal)) (onTc (τ := Cert.ConvActIdeal.τ) (Cert.ConvActIdeal.main (F := Ideal))) ⟨m, fun _ => 0, g⟩ (fun r => (∀ c : Dev Cert.ConvActIdeal.nD,
      r.2.mem ((c.tc : Thread Cert.ConvActIdeal.nD Cert.ConvActIdeal.τ).loc Cert.ConvActIdeal.main_arg0) = m ((c.tc : Thread Cert.ConvActIdeal.nD Cert.ConvActIdeal.τ).loc Cert.ConvActIdeal.main_arg0)
      ∧ r.2.mem ((c.tc : Thread Cert.ConvActIdeal.nD Cert.ConvActIdeal.τ).loc Cert.ConvActIdeal.main_arg1) = m ((c.tc : Thread Cert.ConvActIdeal.nD Cert.ConvActIdeal.τ).loc Cert.ConvActIdeal.main_arg1)
      ∧ r.2.mem ((c.tc : Thread Cert.ConvActIdeal.nD Cert.ConvActIdeal.τ).loc Cert.ConvActIdeal.main_arg2) = m ((c.tc : Thread Cert.ConvActIdeal.nD Cert.ConvActIdeal.τ).loc Cert.ConvActIdeal.main_arg2)
      ∧ r.2.mem ((c.tc : Thread Cert.ConvActIdeal.nD Cert.ConvActIdeal.τ).loc Cert.ConvActIdeal.main_arg3) = m ((c.tc : Thread Cert.ConvActIdeal.nD Cert.ConvActIdeal.τ).loc Cert.ConvActIdeal.main_arg3))
      ∧ r.2.sem = fun _ => 0)

def quiescent_ConvActIdeal_pre_finite_cotangents [hConvActIdeal : Cert.ConvActIdeal.Facts] [hPre_finite_cotangents : Cert.Pre_finite_cotangents.Facts] : Prop :=
  ∀ (m : (ℓ : Loc Cert.ConvActIdeal.nD Cert.ConvActIdeal.τ Cert.ConvActIdeal.sig) → Buf (Elt Ideal) ℓ) (g : Dev Cert.ConvActIdeal.nD → PrngReg), Pre_ConvActIdeal_finite_cotangents m →
    θ_run (Cert.ConvActIdeal.defs (F := Ideal)) (onTc (τ := Cert.ConvActIdeal.τ) (Cert.ConvActIdeal.main (F := Ideal))) ⟨m, fun _ => 0, g⟩ (fun r => (∀ c : Dev Cert.ConvActIdeal.nD,
      r.2.mem ((c.tc : Thread Cert.ConvActIdeal.nD Cert.ConvActIdeal.τ).loc Cert.ConvActIdeal.main_arg0) = m ((c.tc : Thread Cert.ConvActIdeal.nD Cert.ConvActIdeal.τ).loc Cert.ConvActIdeal.main_arg0)
      ∧ r.2.mem ((c.tc : Thread Cert.ConvActIdeal.nD Cert.ConvActIdeal.τ).loc Cert.ConvActIdeal.main_arg1) = m ((c.tc : Thread Cert.ConvActIdeal.nD Cert.ConvActIdeal.τ).loc Cert.ConvActIdeal.main_arg1)
      ∧ r.2.mem ((c.tc : Thread Cert.ConvActIdeal.nD Cert.ConvActIdeal.τ).loc Cert.ConvActIdeal.main_arg2) = m ((c.tc : Thread Cert.ConvActIdeal.nD Cert.ConvActIdeal.τ).loc Cert.ConvActIdeal.main_arg2)
      ∧ r.2.mem ((c.tc : Thread Cert.ConvActIdeal.nD Cert.ConvActIdeal.τ).loc Cert.ConvActIdeal.main_arg3) = m ((c.tc : Thread Cert.ConvActIdeal.nD Cert.ConvActIdeal.τ).loc Cert.ConvActIdeal.main_arg3))
      ∧ r.2.sem = fun _ => 0)

def quiescent_ConvActRefIdeal [hConvActRefIdeal : Cert.ConvActRefIdeal.Facts] : Prop :=
  ∀ (m : (ℓ : Loc Cert.ConvActRefIdeal.nD Cert.ConvActRefIdeal.τ Cert.ConvActRefIdeal.sig) → Buf (Elt Ideal) ℓ) (g : Dev Cert.ConvActRefIdeal.nD → PrngReg), Pre_ConvActRefIdeal m →
    θ_run (Cert.ConvActRefIdeal.defs (F := Ideal)) (onTc (τ := Cert.ConvActRefIdeal.τ) (Cert.ConvActRefIdeal.main (F := Ideal))) ⟨m, fun _ => 0, g⟩ (fun r => (∀ c : Dev Cert.ConvActRefIdeal.nD,
      r.2.mem ((c.tc : Thread Cert.ConvActRefIdeal.nD Cert.ConvActRefIdeal.τ).loc Cert.ConvActRefIdeal.main_arg0) = m ((c.tc : Thread Cert.ConvActRefIdeal.nD Cert.ConvActRefIdeal.τ).loc Cert.ConvActRefIdeal.main_arg0)
      ∧ r.2.mem ((c.tc : Thread Cert.ConvActRefIdeal.nD Cert.ConvActRefIdeal.τ).loc Cert.ConvActRefIdeal.main_arg1) = m ((c.tc : Thread Cert.ConvActRefIdeal.nD Cert.ConvActRefIdeal.τ).loc Cert.ConvActRefIdeal.main_arg1)
      ∧ r.2.mem ((c.tc : Thread Cert.ConvActRefIdeal.nD Cert.ConvActRefIdeal.τ).loc Cert.ConvActRefIdeal.main_arg2) = m ((c.tc : Thread Cert.ConvActRefIdeal.nD Cert.ConvActRefIdeal.τ).loc Cert.ConvActRefIdeal.main_arg2)
      ∧ r.2.mem ((c.tc : Thread Cert.ConvActRefIdeal.nD Cert.ConvActRefIdeal.τ).loc Cert.ConvActRefIdeal.main_arg3) = m ((c.tc : Thread Cert.ConvActRefIdeal.nD Cert.ConvActRefIdeal.τ).loc Cert.ConvActRefIdeal.main_arg3))
      ∧ r.2.sem = fun _ => 0)

def quiescent_ConvActRefIdeal_pre_finite_cotangents [hConvActRefIdeal : Cert.ConvActRefIdeal.Facts] [hPre_finite_cotangents : Cert.Pre_finite_cotangents.Facts] : Prop :=
  ∀ (m : (ℓ : Loc Cert.ConvActRefIdeal.nD Cert.ConvActRefIdeal.τ Cert.ConvActRefIdeal.sig) → Buf (Elt Ideal) ℓ) (g : Dev Cert.ConvActRefIdeal.nD → PrngReg), Pre_ConvActRefIdeal_finite_cotangents m →
    θ_run (Cert.ConvActRefIdeal.defs (F := Ideal)) (onTc (τ := Cert.ConvActRefIdeal.τ) (Cert.ConvActRefIdeal.main (F := Ideal))) ⟨m, fun _ => 0, g⟩ (fun r => (∀ c : Dev Cert.ConvActRefIdeal.nD,
      r.2.mem ((c.tc : Thread Cert.ConvActRefIdeal.nD Cert.ConvActRefIdeal.τ).loc Cert.ConvActRefIdeal.main_arg0) = m ((c.tc : Thread Cert.ConvActRefIdeal.nD Cert.ConvActRefIdeal.τ).loc Cert.ConvActRefIdeal.main_arg0)
      ∧ r.2.mem ((c.tc : Thread Cert.ConvActRefIdeal.nD Cert.ConvActRefIdeal.τ).loc Cert.ConvActRefIdeal.main_arg1) = m ((c.tc : Thread Cert.ConvActRefIdeal.nD Cert.ConvActRefIdeal.τ).loc Cert.ConvActRefIdeal.main_arg1)
      ∧ r.2.mem ((c.tc : Thread Cert.ConvActRefIdeal.nD Cert.ConvActRefIdeal.τ).loc Cert.ConvActRefIdeal.main_arg2) = m ((c.tc : Thread Cert.ConvActRefIdeal.nD Cert.ConvActRefIdeal.τ).loc Cert.ConvActRefIdeal.main_arg2)
      ∧ r.2.mem ((c.tc : Thread Cert.ConvActRefIdeal.nD Cert.ConvActRefIdeal.τ).loc Cert.ConvActRefIdeal.main_arg3) = m ((c.tc : Thread Cert.ConvActRefIdeal.nD Cert.ConvActRefIdeal.τ).loc Cert.ConvActRefIdeal.main_arg3))
      ∧ r.2.sem = fun _ => 0)

def quiescent_GroupNorm [hGroupNorm : Cert.GroupNorm.Facts] : Prop :=
  ∀ (m : (ℓ : Loc Cert.GroupNorm.nD Cert.GroupNorm.τ Cert.GroupNorm.sig) → Buf (Elt Bits) ℓ) (g : Dev Cert.GroupNorm.nD → PrngReg), Pre_GroupNorm m →
    θ_run (Cert.GroupNorm.defs (F := Bits)) (onTc (τ := Cert.GroupNorm.τ) (Cert.GroupNorm.main (F := Bits))) ⟨m, fun _ => 0, g⟩ (fun r => (∀ c : Dev Cert.GroupNorm.nD,
      r.2.mem ((c.tc : Thread Cert.GroupNorm.nD Cert.GroupNorm.τ).loc Cert.GroupNorm.main_arg0) = m ((c.tc : Thread Cert.GroupNorm.nD Cert.GroupNorm.τ).loc Cert.GroupNorm.main_arg0)
      ∧ r.2.mem ((c.tc : Thread Cert.GroupNorm.nD Cert.GroupNorm.τ).loc Cert.GroupNorm.main_arg1) = m ((c.tc : Thread Cert.GroupNorm.nD Cert.GroupNorm.τ).loc Cert.GroupNorm.main_arg1)
      ∧ r.2.mem ((c.tc : Thread Cert.GroupNorm.nD Cert.GroupNorm.τ).loc Cert.GroupNorm.main_arg2) = m ((c.tc : Thread Cert.GroupNorm.nD Cert.GroupNorm.τ).loc Cert.GroupNorm.main_arg2)
      ∧ r.2.mem ((c.tc : Thread Cert.GroupNorm.nD Cert.GroupNorm.τ).loc Cert.GroupNorm.main_arg3) = m ((c.tc : Thread Cert.GroupNorm.nD Cert.GroupNorm.τ).loc Cert.GroupNorm.main_arg3)
      ∧ r.2.mem ((c.tc : Thread Cert.GroupNorm.nD Cert.GroupNorm.τ).loc Cert.GroupNorm.main_arg4) = m ((c.tc : Thread Cert.GroupNorm.nD Cert.GroupNorm.τ).loc Cert.GroupNorm.main_arg4)
      ∧ r.2.mem ((c.tc : Thread Cert.GroupNorm.nD Cert.GroupNorm.τ).loc Cert.GroupNorm.main_arg5) = m ((c.tc : Thread Cert.GroupNorm.nD Cert.GroupNorm.τ).loc Cert.GroupNorm.main_arg5))
      ∧ r.2.sem = fun _ => 0)

def quiescent_GroupNormIdeal [hGroupNormIdeal : Cert.GroupNormIdeal.Facts] : Prop :=
  ∀ (m : (ℓ : Loc Cert.GroupNormIdeal.nD Cert.GroupNormIdeal.τ Cert.GroupNormIdeal.sig) → Buf (Elt Ideal) ℓ) (g : Dev Cert.GroupNormIdeal.nD → PrngReg), Pre_GroupNormIdeal m →
    θ_run (Cert.GroupNormIdeal.defs (F := Ideal)) (onTc (τ := Cert.GroupNormIdeal.τ) (Cert.GroupNormIdeal.main (F := Ideal))) ⟨m, fun _ => 0, g⟩ (fun r => (∀ c : Dev Cert.GroupNormIdeal.nD,
      r.2.mem ((c.tc : Thread Cert.GroupNormIdeal.nD Cert.GroupNormIdeal.τ).loc Cert.GroupNormIdeal.main_arg0) = m ((c.tc : Thread Cert.GroupNormIdeal.nD Cert.GroupNormIdeal.τ).loc Cert.GroupNormIdeal.main_arg0)
      ∧ r.2.mem ((c.tc : Thread Cert.GroupNormIdeal.nD Cert.GroupNormIdeal.τ).loc Cert.GroupNormIdeal.main_arg1) = m ((c.tc : Thread Cert.GroupNormIdeal.nD Cert.GroupNormIdeal.τ).loc Cert.GroupNormIdeal.main_arg1)
      ∧ r.2.mem ((c.tc : Thread Cert.GroupNormIdeal.nD Cert.GroupNormIdeal.τ).loc Cert.GroupNormIdeal.main_arg2) = m ((c.tc : Thread Cert.GroupNormIdeal.nD Cert.GroupNormIdeal.τ).loc Cert.GroupNormIdeal.main_arg2)
      ∧ r.2.mem ((c.tc : Thread Cert.GroupNormIdeal.nD Cert.GroupNormIdeal.τ).loc Cert.GroupNormIdeal.main_arg3) = m ((c.tc : Thread Cert.GroupNormIdeal.nD Cert.GroupNormIdeal.τ).loc Cert.GroupNormIdeal.main_arg3)
      ∧ r.2.mem ((c.tc : Thread Cert.GroupNormIdeal.nD Cert.GroupNormIdeal.τ).loc Cert.GroupNormIdeal.main_arg4) = m ((c.tc : Thread Cert.GroupNormIdeal.nD Cert.GroupNormIdeal.τ).loc Cert.GroupNormIdeal.main_arg4)
      ∧ r.2.mem ((c.tc : Thread Cert.GroupNormIdeal.nD Cert.GroupNormIdeal.τ).loc Cert.GroupNormIdeal.main_arg5) = m ((c.tc : Thread Cert.GroupNormIdeal.nD Cert.GroupNormIdeal.τ).loc Cert.GroupNormIdeal.main_arg5))
      ∧ r.2.sem = fun _ => 0)

def quiescent_GroupNormRefIdeal [hGroupNormRefIdeal : Cert.GroupNormRefIdeal.Facts] : Prop :=
  ∀ (m : (ℓ : Loc Cert.GroupNormRefIdeal.nD Cert.GroupNormRefIdeal.τ Cert.GroupNormRefIdeal.sig) → Buf (Elt Ideal) ℓ) (g : Dev Cert.GroupNormRefIdeal.nD → PrngReg), Pre_GroupNormRefIdeal m →
    θ_run (Cert.GroupNormRefIdeal.defs (F := Ideal)) (onTc (τ := Cert.GroupNormRefIdeal.τ) (Cert.GroupNormRefIdeal.main (F := Ideal))) ⟨m, fun _ => 0, g⟩ (fun r => (∀ c : Dev Cert.GroupNormRefIdeal.nD,
      r.2.mem ((c.tc : Thread Cert.GroupNormRefIdeal.nD Cert.GroupNormRefIdeal.τ).loc Cert.GroupNormRefIdeal.main_arg0) = m ((c.tc : Thread Cert.GroupNormRefIdeal.nD Cert.GroupNormRefIdeal.τ).loc Cert.GroupNormRefIdeal.main_arg0)
      ∧ r.2.mem ((c.tc : Thread Cert.GroupNormRefIdeal.nD Cert.GroupNormRefIdeal.τ).loc Cert.GroupNormRefIdeal.main_arg1) = m ((c.tc : Thread Cert.GroupNormRefIdeal.nD Cert.GroupNormRefIdeal.τ).loc Cert.GroupNormRefIdeal.main_arg1)
      ∧ r.2.mem ((c.tc : Thread Cert.GroupNormRefIdeal.nD Cert.GroupNormRefIdeal.τ).loc Cert.GroupNormRefIdeal.main_arg2) = m ((c.tc : Thread Cert.GroupNormRefIdeal.nD Cert.GroupNormRefIdeal.τ).loc Cert.GroupNormRefIdeal.main_arg2)
      ∧ r.2.mem ((c.tc : Thread Cert.GroupNormRefIdeal.nD Cert.GroupNormRefIdeal.τ).loc Cert.GroupNormRefIdeal.main_arg3) = m ((c.tc : Thread Cert.GroupNormRefIdeal.nD Cert.GroupNormRefIdeal.τ).loc Cert.GroupNormRefIdeal.main_arg3)
      ∧ r.2.mem ((c.tc : Thread Cert.GroupNormRefIdeal.nD Cert.GroupNormRefIdeal.τ).loc Cert.GroupNormRefIdeal.main_arg4) = m ((c.tc : Thread Cert.GroupNormRefIdeal.nD Cert.GroupNormRefIdeal.τ).loc Cert.GroupNormRefIdeal.main_arg4)
      ∧ r.2.mem ((c.tc : Thread Cert.GroupNormRefIdeal.nD Cert.GroupNormRefIdeal.τ).loc Cert.GroupNormRefIdeal.main_arg5) = m ((c.tc : Thread Cert.GroupNormRefIdeal.nD Cert.GroupNormRefIdeal.τ).loc Cert.GroupNormRefIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_AdamOa [hAdamOa : Cert.AdamOa.Facts] : Prop :=
  ∀ (m : (ℓ : Loc Cert.AdamOa.nD Cert.AdamOa.τ Cert.AdamOa.sig) → Buf (Elt Bits) ℓ) (g : Dev Cert.AdamOa.nD → PrngReg), Pre_AdamOa m →
    θ_run (Cert.AdamOa.defs (F := Bits)) (onTc (τ := Cert.AdamOa.τ) (Cert.AdamOa.main (F := Bits))) ⟨m, fun _ => 0, g⟩ (fun r => (∀ c : Dev Cert.AdamOa.nD,
      r.2.mem ((c.tc : Thread Cert.AdamOa.nD Cert.AdamOa.τ).loc Cert.AdamOa.main_arg0) = m ((c.tc : Thread Cert.AdamOa.nD Cert.AdamOa.τ).loc Cert.AdamOa.main_arg0)
      ∧ r.2.mem ((c.tc : Thread Cert.AdamOa.nD Cert.AdamOa.τ).loc Cert.AdamOa.main_arg1) = m ((c.tc : Thread Cert.AdamOa.nD Cert.AdamOa.τ).loc Cert.AdamOa.main_arg1)
      ∧ r.2.mem ((c.tc : Thread Cert.AdamOa.nD Cert.AdamOa.τ).loc Cert.AdamOa.main_arg2) = m ((c.tc : Thread Cert.AdamOa.nD Cert.AdamOa.τ).loc Cert.AdamOa.main_arg2)
      ∧ r.2.mem ((c.tc : Thread Cert.AdamOa.nD Cert.AdamOa.τ).loc Cert.AdamOa.main_arg3) = m ((c.tc : Thread Cert.AdamOa.nD Cert.AdamOa.τ).loc Cert.AdamOa.main_arg3))
      ∧ r.2.sem = fun _ => 0)

def quiescent_AdamOaIdeal [hAdamOaIdeal : Cert.AdamOaIdeal.Facts] : Prop :=
  ∀ (m : (ℓ : Loc Cert.AdamOaIdeal.nD Cert.AdamOaIdeal.τ Cert.AdamOaIdeal.sig) → Buf (Elt Ideal) ℓ) (g : Dev Cert.AdamOaIdeal.nD → PrngReg), Pre_AdamOaIdeal m →
    θ_run (Cert.AdamOaIdeal.defs (F := Ideal)) (onTc (τ := Cert.AdamOaIdeal.τ) (Cert.AdamOaIdeal.main (F := Ideal))) ⟨m, fun _ => 0, g⟩ (fun r => (∀ c : Dev Cert.AdamOaIdeal.nD,
      r.2.mem ((c.tc : Thread Cert.AdamOaIdeal.nD Cert.AdamOaIdeal.τ).loc Cert.AdamOaIdeal.main_arg0) = m ((c.tc : Thread Cert.AdamOaIdeal.nD Cert.AdamOaIdeal.τ).loc Cert.AdamOaIdeal.main_arg0)
      ∧ r.2.mem ((c.tc : Thread Cert.AdamOaIdeal.nD Cert.AdamOaIdeal.τ).loc Cert.AdamOaIdeal.main_arg1) = m ((c.tc : Thread Cert.AdamOaIdeal.nD Cert.AdamOaIdeal.τ).loc Cert.AdamOaIdeal.main_arg1)
      ∧ r.2.mem ((c.tc : Thread Cert.AdamOaIdeal.nD Cert.AdamOaIdeal.τ).loc Cert.AdamOaIdeal.main_arg2) = m ((c.tc : Thread Cert.AdamOaIdeal.nD Cert.AdamOaIdeal.τ).loc Cert.AdamOaIdeal.main_arg2)
      ∧ r.2.mem ((c.tc : Thread Cert.AdamOaIdeal.nD Cert.AdamOaIdeal.τ).loc Cert.AdamOaIdeal.main_arg3) = m ((c.tc : Thread Cert.AdamOaIdeal.nD Cert.AdamOaIdeal.τ).loc Cert.AdamOaIdeal.main_arg3))
      ∧ r.2.sem = fun _ => 0)

def quiescent_AdamOaRefIdeal [hAdamOaRefIdeal : Cert.AdamOaRefIdeal.Facts] : Prop :=
  ∀ (m : (ℓ : Loc Cert.AdamOaRefIdeal.nD Cert.AdamOaRefIdeal.τ Cert.AdamOaRefIdeal.sig) → Buf (Elt Ideal) ℓ) (g : Dev Cert.AdamOaRefIdeal.nD → PrngReg), Pre_AdamOaRefIdeal m →
    θ_run (Cert.AdamOaRefIdeal.defs (F := Ideal)) (onTc (τ := Cert.AdamOaRefIdeal.τ) (Cert.AdamOaRefIdeal.main (F := Ideal))) ⟨m, fun _ => 0, g⟩ (fun r => (∀ c : Dev Cert.AdamOaRefIdeal.nD,
      r.2.mem ((c.tc : Thread Cert.AdamOaRefIdeal.nD Cert.AdamOaRefIdeal.τ).loc Cert.AdamOaRefIdeal.main_arg0) = m ((c.tc : Thread Cert.AdamOaRefIdeal.nD Cert.AdamOaRefIdeal.τ).loc Cert.AdamOaRefIdeal.main_arg0)
      ∧ r.2.mem ((c.tc : Thread Cert.AdamOaRefIdeal.nD Cert.AdamOaRefIdeal.τ).loc Cert.AdamOaRefIdeal.main_arg1) = m ((c.tc : Thread Cert.AdamOaRefIdeal.nD Cert.AdamOaRefIdeal.τ).loc Cert.AdamOaRefIdeal.main_arg1)
      ∧ r.2.mem ((c.tc : Thread Cert.AdamOaRefIdeal.nD Cert.AdamOaRefIdeal.τ).loc Cert.AdamOaRefIdeal.main_arg2) = m ((c.tc : Thread Cert.AdamOaRefIdeal.nD Cert.AdamOaRefIdeal.τ).loc Cert.AdamOaRefIdeal.main_arg2)
      ∧ r.2.mem ((c.tc : Thread Cert.AdamOaRefIdeal.nD Cert.AdamOaRefIdeal.τ).loc Cert.AdamOaRefIdeal.main_arg3) = m ((c.tc : Thread Cert.AdamOaRefIdeal.nD Cert.AdamOaRefIdeal.τ).loc Cert.AdamOaRefIdeal.main_arg3))
      ∧ r.2.sem = fun _ => 0)

def quiescent_AdamOb [hAdamOb : Cert.AdamOb.Facts] : Prop :=
  ∀ (m : (ℓ : Loc Cert.AdamOb.nD Cert.AdamOb.τ Cert.AdamOb.sig) → Buf (Elt Bits) ℓ) (g : Dev Cert.AdamOb.nD → PrngReg), Pre_AdamOb m →
    θ_run (Cert.AdamOb.defs (F := Bits)) (onTc (τ := Cert.AdamOb.τ) (Cert.AdamOb.main (F := Bits))) ⟨m, fun _ => 0, g⟩ (fun r => (∀ c : Dev Cert.AdamOb.nD,
      r.2.mem ((c.tc : Thread Cert.AdamOb.nD Cert.AdamOb.τ).loc Cert.AdamOb.main_arg0) = m ((c.tc : Thread Cert.AdamOb.nD Cert.AdamOb.τ).loc Cert.AdamOb.main_arg0)
      ∧ r.2.mem ((c.tc : Thread Cert.AdamOb.nD Cert.AdamOb.τ).loc Cert.AdamOb.main_arg1) = m ((c.tc : Thread Cert.AdamOb.nD Cert.AdamOb.τ).loc Cert.AdamOb.main_arg1)
      ∧ r.2.mem ((c.tc : Thread Cert.AdamOb.nD Cert.AdamOb.τ).loc Cert.AdamOb.main_arg2) = m ((c.tc : Thread Cert.AdamOb.nD Cert.AdamOb.τ).loc Cert.AdamOb.main_arg2)
      ∧ r.2.mem ((c.tc : Thread Cert.AdamOb.nD Cert.AdamOb.τ).loc Cert.AdamOb.main_arg3) = m ((c.tc : Thread Cert.AdamOb.nD Cert.AdamOb.τ).loc Cert.AdamOb.main_arg3))
      ∧ r.2.sem = fun _ => 0)

def quiescent_AdamObIdeal [hAdamObIdeal : Cert.AdamObIdeal.Facts] : Prop :=
  ∀ (m : (ℓ : Loc Cert.AdamObIdeal.nD Cert.AdamObIdeal.τ Cert.AdamObIdeal.sig) → Buf (Elt Ideal) ℓ) (g : Dev Cert.AdamObIdeal.nD → PrngReg), Pre_AdamObIdeal m →
    θ_run (Cert.AdamObIdeal.defs (F := Ideal)) (onTc (τ := Cert.AdamObIdeal.τ) (Cert.AdamObIdeal.main (F := Ideal))) ⟨m, fun _ => 0, g⟩ (fun r => (∀ c : Dev Cert.AdamObIdeal.nD,
      r.2.mem ((c.tc : Thread Cert.AdamObIdeal.nD Cert.AdamObIdeal.τ).loc Cert.AdamObIdeal.main_arg0) = m ((c.tc : Thread Cert.AdamObIdeal.nD Cert.AdamObIdeal.τ).loc Cert.AdamObIdeal.main_arg0)
      ∧ r.2.mem ((c.tc : Thread Cert.AdamObIdeal.nD Cert.AdamObIdeal.τ).loc Cert.AdamObIdeal.main_arg1) = m ((c.tc : Thread Cert.AdamObIdeal.nD Cert.AdamObIdeal.τ).loc Cert.AdamObIdeal.main_arg1)
      ∧ r.2.mem ((c.tc : Thread Cert.AdamObIdeal.nD Cert.AdamObIdeal.τ).loc Cert.AdamObIdeal.main_arg2) = m ((c.tc : Thread Cert.AdamObIdeal.nD Cert.AdamObIdeal.τ).loc Cert.AdamObIdeal.main_arg2)
      ∧ r.2.mem ((c.tc : Thread Cert.AdamObIdeal.nD Cert.AdamObIdeal.τ).loc Cert.AdamObIdeal.main_arg3) = m ((c.tc : Thread Cert.AdamObIdeal.nD Cert.AdamObIdeal.τ).loc Cert.AdamObIdeal.main_arg3))
      ∧ r.2.sem = fun _ => 0)

def quiescent_AdamObRefIdeal [hAdamObRefIdeal : Cert.AdamObRefIdeal.Facts] : Prop :=
  ∀ (m : (ℓ : Loc Cert.AdamObRefIdeal.nD Cert.AdamObRefIdeal.τ Cert.AdamObRefIdeal.sig) → Buf (Elt Ideal) ℓ) (g : Dev Cert.AdamObRefIdeal.nD → PrngReg), Pre_AdamObRefIdeal m →
    θ_run (Cert.AdamObRefIdeal.defs (F := Ideal)) (onTc (τ := Cert.AdamObRefIdeal.τ) (Cert.AdamObRefIdeal.main (F := Ideal))) ⟨m, fun _ => 0, g⟩ (fun r => (∀ c : Dev Cert.AdamObRefIdeal.nD,
      r.2.mem ((c.tc : Thread Cert.AdamObRefIdeal.nD Cert.AdamObRefIdeal.τ).loc Cert.AdamObRefIdeal.main_arg0) = m ((c.tc : Thread Cert.AdamObRefIdeal.nD Cert.AdamObRefIdeal.τ).loc Cert.AdamObRefIdeal.main_arg0)
      ∧ r.2.mem ((c.tc : Thread Cert.AdamObRefIdeal.nD Cert.AdamObRefIdeal.τ).loc Cert.AdamObRefIdeal.main_arg1) = m ((c.tc : Thread Cert.AdamObRefIdeal.nD Cert.AdamObRefIdeal.τ).loc Cert.AdamObRefIdeal.main_arg1)
      ∧ r.2.mem ((c.tc : Thread Cert.AdamObRefIdeal.nD Cert.AdamObRefIdeal.τ).loc Cert.AdamObRefIdeal.main_arg2) = m ((c.tc : Thread Cert.AdamObRefIdeal.nD Cert.AdamObRefIdeal.τ).loc Cert.AdamObRefIdeal.main_arg2)
      ∧ r.2.mem ((c.tc : Thread Cert.AdamObRefIdeal.nD Cert.AdamObRefIdeal.τ).loc Cert.AdamObRefIdeal.main_arg3) = m ((c.tc : Thread Cert.AdamObRefIdeal.nD Cert.AdamObRefIdeal.τ).loc Cert.AdamObRefIdeal.main_arg3))
      ∧ r.2.sem = fun _ => 0)

def quiescent_AdamPle [hAdamPle : Cert.AdamPle.Facts] : Prop :=
  ∀ (m : (ℓ : Loc Cert.AdamPle.nD Cert.AdamPle.τ Cert.AdamPle.sig) → Buf (Elt Bits) ℓ) (g : Dev Cert.AdamPle.nD → PrngReg), Pre_AdamPle m →
    θ_run (Cert.AdamPle.defs (F := Bits)) (onTc (τ := Cert.AdamPle.τ) (Cert.AdamPle.main (F := Bits))) ⟨m, fun _ => 0, g⟩ (fun r => (∀ c : Dev Cert.AdamPle.nD,
      r.2.mem ((c.tc : Thread Cert.AdamPle.nD Cert.AdamPle.τ).loc Cert.AdamPle.main_arg0) = m ((c.tc : Thread Cert.AdamPle.nD Cert.AdamPle.τ).loc Cert.AdamPle.main_arg0)
      ∧ r.2.mem ((c.tc : Thread Cert.AdamPle.nD Cert.AdamPle.τ).loc Cert.AdamPle.main_arg1) = m ((c.tc : Thread Cert.AdamPle.nD Cert.AdamPle.τ).loc Cert.AdamPle.main_arg1)
      ∧ r.2.mem ((c.tc : Thread Cert.AdamPle.nD Cert.AdamPle.τ).loc Cert.AdamPle.main_arg2) = m ((c.tc : Thread Cert.AdamPle.nD Cert.AdamPle.τ).loc Cert.AdamPle.main_arg2)
      ∧ r.2.mem ((c.tc : Thread Cert.AdamPle.nD Cert.AdamPle.τ).loc Cert.AdamPle.main_arg3) = m ((c.tc : Thread Cert.AdamPle.nD Cert.AdamPle.τ).loc Cert.AdamPle.main_arg3))
      ∧ r.2.sem = fun _ => 0)

def quiescent_AdamPleIdeal [hAdamPleIdeal : Cert.AdamPleIdeal.Facts] : Prop :=
  ∀ (m : (ℓ : Loc Cert.AdamPleIdeal.nD Cert.AdamPleIdeal.τ Cert.AdamPleIdeal.sig) → Buf (Elt Ideal) ℓ) (g : Dev Cert.AdamPleIdeal.nD → PrngReg), Pre_AdamPleIdeal m →
    θ_run (Cert.AdamPleIdeal.defs (F := Ideal)) (onTc (τ := Cert.AdamPleIdeal.τ) (Cert.AdamPleIdeal.main (F := Ideal))) ⟨m, fun _ => 0, g⟩ (fun r => (∀ c : Dev Cert.AdamPleIdeal.nD,
      r.2.mem ((c.tc : Thread Cert.AdamPleIdeal.nD Cert.AdamPleIdeal.τ).loc Cert.AdamPleIdeal.main_arg0) = m ((c.tc : Thread Cert.AdamPleIdeal.nD Cert.AdamPleIdeal.τ).loc Cert.AdamPleIdeal.main_arg0)
      ∧ r.2.mem ((c.tc : Thread Cert.AdamPleIdeal.nD Cert.AdamPleIdeal.τ).loc Cert.AdamPleIdeal.main_arg1) = m ((c.tc : Thread Cert.AdamPleIdeal.nD Cert.AdamPleIdeal.τ).loc Cert.AdamPleIdeal.main_arg1)
      ∧ r.2.mem ((c.tc : Thread Cert.AdamPleIdeal.nD Cert.AdamPleIdeal.τ).loc Cert.AdamPleIdeal.main_arg2) = m ((c.tc : Thread Cert.AdamPleIdeal.nD Cert.AdamPleIdeal.τ).loc Cert.AdamPleIdeal.main_arg2)
      ∧ r.2.mem ((c.tc : Thread Cert.AdamPleIdeal.nD Cert.AdamPleIdeal.τ).loc Cert.AdamPleIdeal.main_arg3) = m ((c.tc : Thread Cert.AdamPleIdeal.nD Cert.AdamPleIdeal.τ).loc Cert.AdamPleIdeal.main_arg3))
      ∧ r.2.sem = fun _ => 0)

def quiescent_AdamPleRefIdeal [hAdamPleRefIdeal : Cert.AdamPleRefIdeal.Facts] : Prop :=
  ∀ (m : (ℓ : Loc Cert.AdamPleRefIdeal.nD Cert.AdamPleRefIdeal.τ Cert.AdamPleRefIdeal.sig) → Buf (Elt Ideal) ℓ) (g : Dev Cert.AdamPleRefIdeal.nD → PrngReg), Pre_AdamPleRefIdeal m →
    θ_run (Cert.AdamPleRefIdeal.defs (F := Ideal)) (onTc (τ := Cert.AdamPleRefIdeal.τ) (Cert.AdamPleRefIdeal.main (F := Ideal))) ⟨m, fun _ => 0, g⟩ (fun r => (∀ c : Dev Cert.AdamPleRefIdeal.nD,
      r.2.mem ((c.tc : Thread Cert.AdamPleRefIdeal.nD Cert.AdamPleRefIdeal.τ).loc Cert.AdamPleRefIdeal.main_arg0) = m ((c.tc : Thread Cert.AdamPleRefIdeal.nD Cert.AdamPleRefIdeal.τ).loc Cert.AdamPleRefIdeal.main_arg0)
      ∧ r.2.mem ((c.tc : Thread Cert.AdamPleRefIdeal.nD Cert.AdamPleRefIdeal.τ).loc Cert.AdamPleRefIdeal.main_arg1) = m ((c.tc : Thread Cert.AdamPleRefIdeal.nD Cert.AdamPleRefIdeal.τ).loc Cert.AdamPleRefIdeal.main_arg1)
      ∧ r.2.mem ((c.tc : Thread Cert.AdamPleRefIdeal.nD Cert.AdamPleRefIdeal.τ).loc Cert.AdamPleRefIdeal.main_arg2) = m ((c.tc : Thread Cert.AdamPleRefIdeal.nD Cert.AdamPleRefIdeal.τ).loc Cert.AdamPleRefIdeal.main_arg2)
      ∧ r.2.mem ((c.tc : Thread Cert.AdamPleRefIdeal.nD Cert.AdamPleRefIdeal.τ).loc Cert.AdamPleRefIdeal.main_arg3) = m ((c.tc : Thread Cert.AdamPleRefIdeal.nD Cert.AdamPleRefIdeal.τ).loc Cert.AdamPleRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamPg [hAdamPg : Cert.AdamPg.Facts] : Prop :=
  ∀ (m : (ℓ : Loc Cert.AdamPg.nD Cert.AdamPg.τ Cert.AdamPg.sig) → Buf (Elt Bits) ℓ) (g : Dev Cert.AdamPg.nD → PrngReg), Pre_AdamPg m →
    θ_run (Cert.AdamPg.defs (F := Bits)) (onTc (τ := Cert.AdamPg.τ) (Cert.AdamPg.main (F := Bits))) ⟨m, fun _ => 0, g⟩ (fun r => (∀ c : Dev Cert.AdamPg.nD,
      r.2.mem ((c.tc : Thread Cert.AdamPg.nD Cert.AdamPg.τ).loc Cert.AdamPg.main_arg0) = m ((c.tc : Thread Cert.AdamPg.nD Cert.AdamPg.τ).loc Cert.AdamPg.main_arg0)
      ∧ r.2.mem ((c.tc : Thread Cert.AdamPg.nD Cert.AdamPg.τ).loc Cert.AdamPg.main_arg1) = m ((c.tc : Thread Cert.AdamPg.nD Cert.AdamPg.τ).loc Cert.AdamPg.main_arg1)
      ∧ r.2.mem ((c.tc : Thread Cert.AdamPg.nD Cert.AdamPg.τ).loc Cert.AdamPg.main_arg2) = m ((c.tc : Thread Cert.AdamPg.nD Cert.AdamPg.τ).loc Cert.AdamPg.main_arg2)
      ∧ r.2.mem ((c.tc : Thread Cert.AdamPg.nD Cert.AdamPg.τ).loc Cert.AdamPg.main_arg3) = m ((c.tc : Thread Cert.AdamPg.nD Cert.AdamPg.τ).loc Cert.AdamPg.main_arg3))
      ∧ r.2.sem = fun _ => 0)

def quiescent_AdamPgIdeal [hAdamPgIdeal : Cert.AdamPgIdeal.Facts] : Prop :=
  ∀ (m : (ℓ : Loc Cert.AdamPgIdeal.nD Cert.AdamPgIdeal.τ Cert.AdamPgIdeal.sig) → Buf (Elt Ideal) ℓ) (g : Dev Cert.AdamPgIdeal.nD → PrngReg), Pre_AdamPgIdeal m →
    θ_run (Cert.AdamPgIdeal.defs (F := Ideal)) (onTc (τ := Cert.AdamPgIdeal.τ) (Cert.AdamPgIdeal.main (F := Ideal))) ⟨m, fun _ => 0, g⟩ (fun r => (∀ c : Dev Cert.AdamPgIdeal.nD,
      r.2.mem ((c.tc : Thread Cert.AdamPgIdeal.nD Cert.AdamPgIdeal.τ).loc Cert.AdamPgIdeal.main_arg0) = m ((c.tc : Thread Cert.AdamPgIdeal.nD Cert.AdamPgIdeal.τ).loc Cert.AdamPgIdeal.main_arg0)
      ∧ r.2.mem ((c.tc : Thread Cert.AdamPgIdeal.nD Cert.AdamPgIdeal.τ).loc Cert.AdamPgIdeal.main_arg1) = m ((c.tc : Thread Cert.AdamPgIdeal.nD Cert.AdamPgIdeal.τ).loc Cert.AdamPgIdeal.main_arg1)
      ∧ r.2.mem ((c.tc : Thread Cert.AdamPgIdeal.nD Cert.AdamPgIdeal.τ).loc Cert.AdamPgIdeal.main_arg2) = m ((c.tc : Thread Cert.AdamPgIdeal.nD Cert.AdamPgIdeal.τ).loc Cert.AdamPgIdeal.main_arg2)
      ∧ r.2.mem ((c.tc : Thread Cert.AdamPgIdeal.nD Cert.AdamPgIdeal.τ).loc Cert.AdamPgIdeal.main_arg3) = m ((c.tc : Thread Cert.AdamPgIdeal.nD Cert.AdamPgIdeal.τ).loc Cert.AdamPgIdeal.main_arg3))
      ∧ r.2.sem = fun _ => 0)

def quiescent_AdamPgRefIdeal [hAdamPgRefIdeal : Cert.AdamPgRefIdeal.Facts] : Prop :=
  ∀ (m : (ℓ : Loc Cert.AdamPgRefIdeal.nD Cert.AdamPgRefIdeal.τ Cert.AdamPgRefIdeal.sig) → Buf (Elt Ideal) ℓ) (g : Dev Cert.AdamPgRefIdeal.nD → PrngReg), Pre_AdamPgRefIdeal m →
    θ_run (Cert.AdamPgRefIdeal.defs (F := Ideal)) (onTc (τ := Cert.AdamPgRefIdeal.τ) (Cert.AdamPgRefIdeal.main (F := Ideal))) ⟨m, fun _ => 0, g⟩ (fun r => (∀ c : Dev Cert.AdamPgRefIdeal.nD,
      r.2.mem ((c.tc : Thread Cert.AdamPgRefIdeal.nD Cert.AdamPgRefIdeal.τ).loc Cert.AdamPgRefIdeal.main_arg0) = m ((c.tc : Thread Cert.AdamPgRefIdeal.nD Cert.AdamPgRefIdeal.τ).loc Cert.AdamPgRefIdeal.main_arg0)
      ∧ r.2.mem ((c.tc : Thread Cert.AdamPgRefIdeal.nD Cert.AdamPgRefIdeal.τ).loc Cert.AdamPgRefIdeal.main_arg1) = m ((c.tc : Thread Cert.AdamPgRefIdeal.nD Cert.AdamPgRefIdeal.τ).loc Cert.AdamPgRefIdeal.main_arg1)
      ∧ r.2.mem ((c.tc : Thread Cert.AdamPgRefIdeal.nD Cert.AdamPgRefIdeal.τ).loc Cert.AdamPgRefIdeal.main_arg2) = m ((c.tc : Thread Cert.AdamPgRefIdeal.nD Cert.AdamPgRefIdeal.τ).loc Cert.AdamPgRefIdeal.main_arg2)
      ∧ r.2.mem ((c.tc : Thread Cert.AdamPgRefIdeal.nD Cert.AdamPgRefIdeal.τ).loc Cert.AdamPgRefIdeal.main_arg3) = m ((c.tc : Thread Cert.AdamPgRefIdeal.nD Cert.AdamPgRefIdeal.τ).loc Cert.AdamPgRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_v172) = v1 c
          ∧ r.2.mem ((c.tc : Thread Cert.ReferenceIdeal.nD Cert.ReferenceIdeal.τ).loc Cert.ReferenceIdeal.main_v171) = v2 c
          ∧ r.2.mem ((c.tc : Thread Cert.ReferenceIdeal.nD Cert.ReferenceIdeal.τ).loc Cert.ReferenceIdeal.main_v112) = v3 c
          ∧ r.2.mem ((c.tc : Thread Cert.ReferenceIdeal.nD Cert.ReferenceIdeal.τ).loc Cert.ReferenceIdeal.main_v170) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_ProjWeight_ProjWeightIdeal : Prop :=
  True

def algebraic_ProjWeightIdeal_ProjWeightRefIdeal [hProjWeightIdeal : Cert.ProjWeightIdeal.Facts] [hProjWeightRefIdeal : Cert.ProjWeightRefIdeal.Facts] : Prop :=
  ∀ (m : (ℓ : Loc Cert.ProjWeightIdeal.nD Cert.ProjWeightIdeal.τ Cert.ProjWeightIdeal.sig) → Buf (Elt Ideal) ℓ) (g : Dev Cert.ProjWeightIdeal.nD → PrngReg)
    (m' : (ℓ : Loc Cert.ProjWeightRefIdeal.nD Cert.ProjWeightRefIdeal.τ Cert.ProjWeightRefIdeal.sig) → Buf (Elt Ideal) ℓ) (g' : Dev Cert.ProjWeightRefIdeal.nD → PrngReg), Pre_ProjWeightIdeal m →
    (∀ c : Dev Cert.ProjWeightIdeal.nD,
      m' ((c.tc : Thread Cert.ProjWeightRefIdeal.nD Cert.ProjWeightRefIdeal.τ).loc Cert.ProjWeightRefIdeal.main_arg0) = m ((c.tc : Thread Cert.ProjWeightIdeal.nD Cert.ProjWeightIdeal.τ).loc Cert.ProjWeightIdeal.main_arg0)
      ∧ m' ((c.tc : Thread Cert.ProjWeightRefIdeal.nD Cert.ProjWeightRefIdeal.τ).loc Cert.ProjWeightRefIdeal.main_arg1) = m ((c.tc : Thread Cert.ProjWeightIdeal.nD Cert.ProjWeightIdeal.τ).loc Cert.ProjWeightIdeal.main_arg1)) →
    ∃ (v0 : (c : Dev Cert.ProjWeightIdeal.nD) → Buf (Elt Ideal) ((c.tc : Thread Cert.ProjWeightIdeal.nD Cert.ProjWeightIdeal.τ).loc Cert.ProjWeightIdeal.main_v0)),
      θ_run (Cert.ProjWeightIdeal.defs (F := Ideal)) (onTc (τ := Cert.ProjWeightIdeal.τ) (Cert.ProjWeightIdeal.main (F := Ideal))) ⟨m, fun _ => 0, g⟩ (fun r => ∀ c : Dev Cert.ProjWeightIdeal.nD,
          r.2.mem ((c.tc : Thread Cert.ProjWeightIdeal.nD Cert.ProjWeightIdeal.τ).loc Cert.ProjWeightIdeal.main_v0) = v0 c
          ∧ r.2.mem ((c.tc : Thread Cert.ProjWeightIdeal.nD Cert.ProjWeightIdeal.τ).loc Cert.ProjWeightIdeal.main_arg0) = m ((c.tc : Thread Cert.ProjWeightIdeal.nD Cert.ProjWeightIdeal.τ).loc Cert.ProjWeightIdeal.main_arg0)
          ∧ r.2.mem ((c.tc : Thread Cert.ProjWeightIdeal.nD Cert.ProjWeightIdeal.τ).loc Cert.ProjWeightIdeal.main_arg1) = m ((c.tc : Thread Cert.ProjWeightIdeal.nD Cert.ProjWeightIdeal.τ).loc Cert.ProjWeightIdeal.main_arg1))
      ∧ θ_run (Cert.ProjWeightRefIdeal.defs (F := Ideal)) (onTc (τ := Cert.ProjWeightRefIdeal.τ) (Cert.ProjWeightRefIdeal.main (F := Ideal))) ⟨m', fun _ => 0, g'⟩ (fun r => ∀ c : Dev Cert.ProjWeightRefIdeal.nD,
          r.2.mem ((c.tc : Thread Cert.ProjWeightRefIdeal.nD Cert.ProjWeightRefIdeal.τ).loc Cert.ProjWeightRefIdeal.main_v5) = v0 c
          ∧ r.2.mem ((c.tc : Thread Cert.ProjWeightRefIdeal.nD Cert.ProjWeightRefIdeal.τ).loc Cert.ProjWeightRefIdeal.main_arg0) = m' ((c.tc : Thread Cert.ProjWeightRefIdeal.nD Cert.ProjWeightRefIdeal.τ).loc Cert.ProjWeightRefIdeal.main_arg0)
          ∧ r.2.mem ((c.tc : Thread Cert.ProjWeightRefIdeal.nD Cert.ProjWeightRefIdeal.τ).loc Cert.ProjWeightRefIdeal.main_arg1) = m' ((c.tc : Thread Cert.ProjWeightRefIdeal.nD Cert.ProjWeightRefIdeal.τ).loc Cert.ProjWeightRefIdeal.main_arg1))

def preserves_ProjInput_ProjInputIdeal : Prop :=
  True

def algebraic_ProjInputIdeal_ProjInputRefIdeal [hProjInputIdeal : Cert.ProjInputIdeal.Facts] [hProjInputRefIdeal : Cert.ProjInputRefIdeal.Facts] : Prop :=
  ∀ (m : (ℓ : Loc Cert.ProjInputIdeal.nD Cert.ProjInputIdeal.τ Cert.ProjInputIdeal.sig) → Buf (Elt Ideal) ℓ) (g : Dev Cert.ProjInputIdeal.nD → PrngReg)
    (m' : (ℓ : Loc Cert.ProjInputRefIdeal.nD Cert.ProjInputRefIdeal.τ Cert.ProjInputRefIdeal.sig) → Buf (Elt Ideal) ℓ) (g' : Dev Cert.ProjInputRefIdeal.nD → PrngReg), Pre_ProjInputIdeal m →
    (∀ c : Dev Cert.ProjInputIdeal.nD,
      m' ((c.tc : Thread Cert.ProjInputRefIdeal.nD Cert.ProjInputRefIdeal.τ).loc Cert.ProjInputRefIdeal.main_arg0) = m ((c.tc : Thread Cert.ProjInputIdeal.nD Cert.ProjInputIdeal.τ).loc Cert.ProjInputIdeal.main_arg0)
      ∧ m' ((c.tc : Thread Cert.ProjInputRefIdeal.nD Cert.ProjInputRefIdeal.τ).loc Cert.ProjInputRefIdeal.main_arg1) = m ((c.tc : Thread Cert.ProjInputIdeal.nD Cert.ProjInputIdeal.τ).loc Cert.ProjInputIdeal.main_arg1)) →
    ∃ (v0 : (c : Dev Cert.ProjInputIdeal.nD) → Buf (Elt Ideal) ((c.tc : Thread Cert.ProjInputIdeal.nD Cert.ProjInputIdeal.τ).loc Cert.ProjInputIdeal.main_v0)),
      θ_run (Cert.ProjInputIdeal.defs (F := Ideal)) (onTc (τ := Cert.ProjInputIdeal.τ) (Cert.ProjInputIdeal.main (F := Ideal))) ⟨m, fun _ => 0, g⟩ (fun r => ∀ c : Dev Cert.ProjInputIdeal.nD,
          r.2.mem ((c.tc : Thread Cert.ProjInputIdeal.nD Cert.ProjInputIdeal.τ).loc Cert.ProjInputIdeal.main_v0) = v0 c
          ∧ r.2.mem ((c.tc : Thread Cert.ProjInputIdeal.nD Cert.ProjInputIdeal.τ).loc Cert.ProjInputIdeal.main_arg0) = m ((c.tc : Thread Cert.ProjInputIdeal.nD Cert.ProjInputIdeal.τ).loc Cert.ProjInputIdeal.main_arg0)
          ∧ r.2.mem ((c.tc : Thread Cert.ProjInputIdeal.nD Cert.ProjInputIdeal.τ).loc Cert.ProjInputIdeal.main_arg1) = m ((c.tc : Thread Cert.ProjInputIdeal.nD Cert.ProjInputIdeal.τ).loc Cert.ProjInputIdeal.main_arg1))
      ∧ θ_run (Cert.ProjInputRefIdeal.defs (F := Ideal)) (onTc (τ := Cert.ProjInputRefIdeal.τ) (Cert.ProjInputRefIdeal.main (F := Ideal))) ⟨m', fun _ => 0, g'⟩ (fun r => ∀ c : Dev Cert.ProjInputRefIdeal.nD,
          r.2.mem ((c.tc : Thread Cert.ProjInputRefIdeal.nD Cert.ProjInputRefIdeal.τ).loc Cert.ProjInputRefIdeal.main_v4) = v0 c
          ∧ r.2.mem ((c.tc : Thread Cert.ProjInputRefIdeal.nD Cert.ProjInputRefIdeal.τ).loc Cert.ProjInputRefIdeal.main_arg0) = m' ((c.tc : Thread Cert.ProjInputRefIdeal.nD Cert.ProjInputRefIdeal.τ).loc Cert.ProjInputRefIdeal.main_arg0)
          ∧ r.2.mem ((c.tc : Thread Cert.ProjInputRefIdeal.nD Cert.ProjInputRefIdeal.τ).loc Cert.ProjInputRefIdeal.main_arg1) = m' ((c.tc : Thread Cert.ProjInputRefIdeal.nD Cert.ProjInputRefIdeal.τ).loc Cert.ProjInputRefIdeal.main_arg1))

def preserves_PreNorm_PreNormIdeal : Prop :=
  True

def algebraic_PreNormIdeal_PreNormRefIdeal [hPreNormIdeal : Cert.PreNormIdeal.Facts] [hPreNormRefIdeal : Cert.PreNormRefIdeal.Facts] : Prop :=
  ∀ (m : (ℓ : Loc Cert.PreNormIdeal.nD Cert.PreNormIdeal.τ Cert.PreNormIdeal.sig) → Buf (Elt Ideal) ℓ) (g : Dev Cert.PreNormIdeal.nD → PrngReg)
    (m' : (ℓ : Loc Cert.PreNormRefIdeal.nD Cert.PreNormRefIdeal.τ Cert.PreNormRefIdeal.sig) → Buf (Elt Ideal) ℓ) (g' : Dev Cert.PreNormRefIdeal.nD → PrngReg), Pre_PreNormIdeal m →
    (∀ c : Dev Cert.PreNormIdeal.nD,
      m' ((c.tc : Thread Cert.PreNormRefIdeal.nD Cert.PreNormRefIdeal.τ).loc Cert.PreNormRefIdeal.main_arg0) = m ((c.tc : Thread Cert.PreNormIdeal.nD Cert.PreNormIdeal.τ).loc Cert.PreNormIdeal.main_arg0)
      ∧ m' ((c.tc : Thread Cert.PreNormRefIdeal.nD Cert.PreNormRefIdeal.τ).loc Cert.PreNormRefIdeal.main_arg1) = m ((c.tc : Thread Cert.PreNormIdeal.nD Cert.PreNormIdeal.τ).loc Cert.PreNormIdeal.main_arg1)
      ∧ m' ((c.tc : Thread Cert.PreNormRefIdeal.nD Cert.PreNormRefIdeal.τ).loc Cert.PreNormRefIdeal.main_arg2) = m ((c.tc : Thread Cert.PreNormIdeal.nD Cert.PreNormIdeal.τ).loc Cert.PreNormIdeal.main_arg2)
      ∧ m' ((c.tc : Thread Cert.PreNormRefIdeal.nD Cert.PreNormRefIdeal.τ).loc Cert.PreNormRefIdeal.main_arg3) = m ((c.tc : Thread Cert.PreNormIdeal.nD Cert.PreNormIdeal.τ).loc Cert.PreNormIdeal.main_arg3)
      ∧ m' ((c.tc : Thread Cert.PreNormRefIdeal.nD Cert.PreNormRefIdeal.τ).loc Cert.PreNormRefIdeal.main_arg4) = m ((c.tc : Thread Cert.PreNormIdeal.nD Cert.PreNormIdeal.τ).loc Cert.PreNormIdeal.main_arg4)
      ∧ m' ((c.tc : Thread Cert.PreNormRefIdeal.nD Cert.PreNormRefIdeal.τ).loc Cert.PreNormRefIdeal.main_arg5) = m ((c.tc : Thread Cert.PreNormIdeal.nD Cert.PreNormIdeal.τ).loc Cert.PreNormIdeal.main_arg5)) →
    ∃ (v0 : (c : Dev Cert.PreNormIdeal.nD) → Buf (Elt Ideal) ((c.tc : Thread Cert.PreNormIdeal.nD Cert.PreNormIdeal.τ).loc Cert.PreNormIdeal.main_v0_0)) (v1 : (c : Dev Cert.PreNormIdeal.nD) → Buf (Elt Ideal) ((c.tc : Thread Cert.PreNormIdeal.nD Cert.PreNormIdeal.τ).loc Cert.PreNormIdeal.main_v0_1)),
      θ_run (Cert.PreNormIdeal.defs (F := Ideal)) (onTc (τ := Cert.PreNormIdeal.τ) (Cert.PreNormIdeal.main (F := Ideal))) ⟨m, fun _ => 0, g⟩ (fun r => ∀ c : Dev Cert.PreNormIdeal.nD,
          r.2.mem ((c.tc : Thread Cert.PreNormIdeal.nD Cert.PreNormIdeal.τ).loc Cert.PreNormIdeal.main_v0_0) = v0 c
          ∧ r.2.mem ((c.tc : Thread Cert.PreNormIdeal.nD Cert.PreNormIdeal.τ).loc Cert.PreNormIdeal.main_v0_1) = v1 c
          ∧ r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
          ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
          ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2)
          ∧ r.2.mem ((c.tc : Thread Cert.PreNormIdeal.nD Cert.PreNormIdeal.τ).loc Cert.PreNormIdeal.main_arg3) = m ((c.tc : Thread Cert.PreNormIdeal.nD Cert.PreNormIdeal.τ).loc Cert.PreNormIdeal.main_arg3)
          ∧ r.2.mem ((c.tc : Thread Cert.PreNormIdeal.nD Cert.PreNormIdeal.τ).loc Cert.PreNormIdeal.main_arg4) = m ((c.tc : Thread Cert.PreNormIdeal.nD Cert.PreNormIdeal.τ).loc Cert.PreNormIdeal.main_arg4)
          ∧ r.2.mem ((c.tc : Thread Cert.PreNormIdeal.nD Cert.PreNormIdeal.τ).loc Cert.PreNormIdeal.main_arg5) = m ((c.tc : Thread Cert.PreNormIdeal.nD Cert.PreNormIdeal.τ).loc Cert.PreNormIdeal.main_arg5))
      ∧ θ_run (Cert.PreNormRefIdeal.defs (F := Ideal)) (onTc (τ := Cert.PreNormRefIdeal.τ) (Cert.PreNormRefIdeal.main (F := Ideal))) ⟨m', fun _ => 0, g'⟩ (fun r => ∀ c : Dev Cert.PreNormRefIdeal.nD,
          r.2.mem ((c.tc : Thread Cert.PreNormRefIdeal.nD Cert.PreNormRefIdeal.τ).loc Cert.PreNormRefIdeal.main_v41) = v0 c
          ∧ r.2.mem ((c.tc : Thread Cert.PreNormRefIdeal.nD Cert.PreNormRefIdeal.τ).loc Cert.PreNormRefIdeal.main_v42) = v1 c
          ∧ r.2.mem ((c.tc : Thread Cert.PreNormRefIdeal.nD Cert.PreNormRefIdeal.τ).loc Cert.PreNormRefIdeal.main_arg0) = m' ((c.tc : Thread Cert.PreNormRefIdeal.nD Cert.PreNormRefIdeal.τ).loc Cert.PreNormRefIdeal.main_arg0)
          ∧ r.2.mem ((c.tc : Thread Cert.PreNormRefIdeal.nD Cert.PreNormRefIdeal.τ).loc Cert.PreNormRefIdeal.main_arg1) = m' ((c.tc : Thread Cert.PreNormRefIdeal.nD Cert.PreNormRefIdeal.τ).loc Cert.PreNormRefIdeal.main_arg1)
          ∧ r.2.mem ((c.tc : Thread Cert.PreNormRefIdeal.nD Cert.PreNormRefIdeal.τ).loc Cert.PreNormRefIdeal.main_arg2) = m' ((c.tc : Thread Cert.PreNormRefIdeal.nD Cert.PreNormRefIdeal.τ).loc Cert.PreNormRefIdeal.main_arg2)
          ∧ r.2.mem ((c.tc : Thread Cert.PreNormRefIdeal.nD Cert.PreNormRefIdeal.τ).loc Cert.PreNormRefIdeal.main_arg3) = m' ((c.tc : Thread Cert.PreNormRefIdeal.nD Cert.PreNormRefIdeal.τ).loc Cert.PreNormRefIdeal.main_arg3)
          ∧ r.2.mem ((c.tc : Thread Cert.PreNormRefIdeal.nD Cert.PreNormRefIdeal.τ).loc Cert.PreNormRefIdeal.main_arg4) = m' ((c.tc : Thread Cert.PreNormRefIdeal.nD Cert.PreNormRefIdeal.τ).loc Cert.PreNormRefIdeal.main_arg4)
          ∧ r.2.mem ((c.tc : Thread Cert.PreNormRefIdeal.nD Cert.PreNormRefIdeal.τ).loc Cert.PreNormRefIdeal.main_arg5) = m' ((c.tc : Thread Cert.PreNormRefIdeal.nD Cert.PreNormRefIdeal.τ).loc Cert.PreNormRefIdeal.main_arg5))

def preserves_PleNorm_PleNormIdeal : Prop :=
  True

def algebraic_PleNormIdeal_PleNormRefIdeal [hPleNormIdeal : Cert.PleNormIdeal.Facts] [hPleNormRefIdeal : Cert.PleNormRefIdeal.Facts] : Prop :=
  ∀ (m : (ℓ : Loc Cert.PleNormIdeal.nD Cert.PleNormIdeal.τ Cert.PleNormIdeal.sig) → Buf (Elt Ideal) ℓ) (g : Dev Cert.PleNormIdeal.nD → PrngReg)
    (m' : (ℓ : Loc Cert.PleNormRefIdeal.nD Cert.PleNormRefIdeal.τ Cert.PleNormRefIdeal.sig) → Buf (Elt Ideal) ℓ) (g' : Dev Cert.PleNormRefIdeal.nD → PrngReg), Pre_PleNormIdeal m →
    (∀ c : Dev Cert.PleNormIdeal.nD,
      m' ((c.tc : Thread Cert.PleNormRefIdeal.nD Cert.PleNormRefIdeal.τ).loc Cert.PleNormRefIdeal.main_arg0) = m ((c.tc : Thread Cert.PleNormIdeal.nD Cert.PleNormIdeal.τ).loc Cert.PleNormIdeal.main_arg0)
      ∧ m' ((c.tc : Thread Cert.PleNormRefIdeal.nD Cert.PleNormRefIdeal.τ).loc Cert.PleNormRefIdeal.main_arg1) = m ((c.tc : Thread Cert.PleNormIdeal.nD Cert.PleNormIdeal.τ).loc Cert.PleNormIdeal.main_arg1)
      ∧ m' ((c.tc : Thread Cert.PleNormRefIdeal.nD Cert.PleNormRefIdeal.τ).loc Cert.PleNormRefIdeal.main_arg2) = m ((c.tc : Thread Cert.PleNormIdeal.nD Cert.PleNormIdeal.τ).loc Cert.PleNormIdeal.main_arg2)
      ∧ m' ((c.tc : Thread Cert.PleNormRefIdeal.nD Cert.PleNormRefIdeal.τ).loc Cert.PleNormRefIdeal.main_arg3) = m ((c.tc : Thread Cert.PleNormIdeal.nD Cert.PleNormIdeal.τ).loc Cert.PleNormIdeal.main_arg3)
      ∧ m' ((c.tc : Thread Cert.PleNormRefIdeal.nD Cert.PleNormRefIdeal.τ).loc Cert.PleNormRefIdeal.main_arg4) = m ((c.tc : Thread Cert.PleNormIdeal.nD Cert.PleNormIdeal.τ).loc Cert.PleNormIdeal.main_arg4)) →
    ∃ (v0 : (c : Dev Cert.PleNormIdeal.nD) → Buf (Elt Ideal) ((c.tc : Thread Cert.PleNormIdeal.nD Cert.PleNormIdeal.τ).loc Cert.PleNormIdeal.main_v0_0)) (v1 : (c : Dev Cert.PleNormIdeal.nD) → Buf (Elt Ideal) ((c.tc : Thread Cert.PleNormIdeal.nD Cert.PleNormIdeal.τ).loc Cert.PleNormIdeal.main_v0_1)),
      θ_run (Cert.PleNormIdeal.defs (F := Ideal)) (onTc (τ := Cert.PleNormIdeal.τ) (Cert.PleNormIdeal.main (F := Ideal))) ⟨m, fun _ => 0, g⟩ (fun r => ∀ c : Dev Cert.PleNormIdeal.nD,
          r.2.mem ((c.tc : Thread Cert.PleNormIdeal.nD Cert.PleNormIdeal.τ).loc Cert.PleNormIdeal.main_v0_0) = v0 c
          ∧ r.2.mem ((c.tc : Thread Cert.PleNormIdeal.nD Cert.PleNormIdeal.τ).loc Cert.PleNormIdeal.main_v0_1) = v1 c
          ∧ r.2.mem ((c.tc : Thread Cert.PleNormIdeal.nD Cert.PleNormIdeal.τ).loc Cert.PleNormIdeal.main_arg0) = m ((c.tc : Thread Cert.PleNormIdeal.nD Cert.PleNormIdeal.τ).loc Cert.PleNormIdeal.main_arg0)
          ∧ r.2.mem ((c.tc : Thread Cert.PleNormIdeal.nD Cert.PleNormIdeal.τ).loc Cert.PleNormIdeal.main_arg1) = m ((c.tc : Thread Cert.PleNormIdeal.nD Cert.PleNormIdeal.τ).loc Cert.PleNormIdeal.main_arg1)
          ∧ r.2.mem ((c.tc : Thread Cert.PleNormIdeal.nD Cert.PleNormIdeal.τ).loc Cert.PleNormIdeal.main_arg2) = m ((c.tc : Thread Cert.PleNormIdeal.nD Cert.PleNormIdeal.τ).loc Cert.PleNormIdeal.main_arg2)
          ∧ r.2.mem ((c.tc : Thread Cert.PleNormIdeal.nD Cert.PleNormIdeal.τ).loc Cert.PleNormIdeal.main_arg3) = m ((c.tc : Thread Cert.PleNormIdeal.nD Cert.PleNormIdeal.τ).loc Cert.PleNormIdeal.main_arg3)
          ∧ r.2.mem ((c.tc : Thread Cert.PleNormIdeal.nD Cert.PleNormIdeal.τ).loc Cert.PleNormIdeal.main_arg4) = m ((c.tc : Thread Cert.PleNormIdeal.nD Cert.PleNormIdeal.τ).loc Cert.PleNormIdeal.main_arg4))
      ∧ θ_run (Cert.PleNormRefIdeal.defs (F := Ideal)) (onTc (τ := Cert.PleNormRefIdeal.τ) (Cert.PleNormRefIdeal.main (F := Ideal))) ⟨m', fun _ => 0, g'⟩ (fun r => ∀ c : Dev Cert.PleNormRefIdeal.nD,
          r.2.mem ((c.tc : Thread Cert.PleNormRefIdeal.nD Cert.PleNormRefIdeal.τ).loc Cert.PleNormRefIdeal.main_v41) = v0 c
          ∧ r.2.mem ((c.tc : Thread Cert.PleNormRefIdeal.nD Cert.PleNormRefIdeal.τ).loc Cert.PleNormRefIdeal.main_v42) = v1 c
          ∧ r.2.mem ((c.tc : Thread Cert.PleNormRefIdeal.nD Cert.PleNormRefIdeal.τ).loc Cert.PleNormRefIdeal.main_arg0) = m' ((c.tc : Thread Cert.PleNormRefIdeal.nD Cert.PleNormRefIdeal.τ).loc Cert.PleNormRefIdeal.main_arg0)
          ∧ r.2.mem ((c.tc : Thread Cert.PleNormRefIdeal.nD Cert.PleNormRefIdeal.τ).loc Cert.PleNormRefIdeal.main_arg1) = m' ((c.tc : Thread Cert.PleNormRefIdeal.nD Cert.PleNormRefIdeal.τ).loc Cert.PleNormRefIdeal.main_arg1)
          ∧ r.2.mem ((c.tc : Thread Cert.PleNormRefIdeal.nD Cert.PleNormRefIdeal.τ).loc Cert.PleNormRefIdeal.main_arg2) = m' ((c.tc : Thread Cert.PleNormRefIdeal.nD Cert.PleNormRefIdeal.τ).loc Cert.PleNormRefIdeal.main_arg2)
          ∧ r.2.mem ((c.tc : Thread Cert.PleNormRefIdeal.nD Cert.PleNormRefIdeal.τ).loc Cert.PleNormRefIdeal.main_arg3) = m' ((c.tc : Thread Cert.PleNormRefIdeal.nD Cert.PleNormRefIdeal.τ).loc Cert.PleNormRefIdeal.main_arg3)
          ∧ r.2.mem ((c.tc : Thread Cert.PleNormRefIdeal.nD Cert.PleNormRefIdeal.τ).loc Cert.PleNormRefIdeal.main_arg4) = m' ((c.tc : Thread Cert.PleNormRefIdeal.nD Cert.PleNormRefIdeal.τ).loc Cert.PleNormRefIdeal.main_arg4))

def preserves_GateWeight_GateWeightIdeal : Prop :=
  True

def algebraic_GateWeightIdeal_GateWeightRefIdeal [hGateWeightIdeal : Cert.GateWeightIdeal.Facts] [hGateWeightRefIdeal : Cert.GateWeightRefIdeal.Facts] : Prop :=
  ∀ (m : (ℓ : Loc Cert.GateWeightIdeal.nD Cert.GateWeightIdeal.τ Cert.GateWeightIdeal.sig) → Buf (Elt Ideal) ℓ) (g : Dev Cert.GateWeightIdeal.nD → PrngReg)
    (m' : (ℓ : Loc Cert.GateWeightRefIdeal.nD Cert.GateWeightRefIdeal.τ Cert.GateWeightRefIdeal.sig) → Buf (Elt Ideal) ℓ) (g' : Dev Cert.GateWeightRefIdeal.nD → PrngReg), Pre_GateWeightIdeal m →
    (∀ c : Dev Cert.GateWeightIdeal.nD,
      m' ((c.tc : Thread Cert.GateWeightRefIdeal.nD Cert.GateWeightRefIdeal.τ).loc Cert.GateWeightRefIdeal.main_arg0) = m ((c.tc : Thread Cert.GateWeightIdeal.nD Cert.GateWeightIdeal.τ).loc Cert.GateWeightIdeal.main_arg0)
      ∧ m' ((c.tc : Thread Cert.GateWeightRefIdeal.nD Cert.GateWeightRefIdeal.τ).loc Cert.GateWeightRefIdeal.main_arg1) = m ((c.tc : Thread Cert.GateWeightIdeal.nD Cert.GateWeightIdeal.τ).loc Cert.GateWeightIdeal.main_arg1)) →
    ∃ (v0 : (c : Dev Cert.GateWeightIdeal.nD) → Buf (Elt Ideal) ((c.tc : Thread Cert.GateWeightIdeal.nD Cert.GateWeightIdeal.τ).loc Cert.GateWeightIdeal.main_v0)),
      θ_run (Cert.GateWeightIdeal.defs (F := Ideal)) (onTc (τ := Cert.GateWeightIdeal.τ) (Cert.GateWeightIdeal.main (F := Ideal))) ⟨m, fun _ => 0, g⟩ (fun r => ∀ c : Dev Cert.GateWeightIdeal.nD,
          r.2.mem ((c.tc : Thread Cert.GateWeightIdeal.nD Cert.GateWeightIdeal.τ).loc Cert.GateWeightIdeal.main_v0) = v0 c
          ∧ r.2.mem ((c.tc : Thread Cert.GateWeightIdeal.nD Cert.GateWeightIdeal.τ).loc Cert.GateWeightIdeal.main_arg0) = m ((c.tc : Thread Cert.GateWeightIdeal.nD Cert.GateWeightIdeal.τ).loc Cert.GateWeightIdeal.main_arg0)
          ∧ r.2.mem ((c.tc : Thread Cert.GateWeightIdeal.nD Cert.GateWeightIdeal.τ).loc Cert.GateWeightIdeal.main_arg1) = m ((c.tc : Thread Cert.GateWeightIdeal.nD Cert.GateWeightIdeal.τ).loc Cert.GateWeightIdeal.main_arg1))
      ∧ θ_run (Cert.GateWeightRefIdeal.defs (F := Ideal)) (onTc (τ := Cert.GateWeightRefIdeal.τ) (Cert.GateWeightRefIdeal.main (F := Ideal))) ⟨m', fun _ => 0, g'⟩ (fun r => ∀ c : Dev Cert.GateWeightRefIdeal.nD,
          r.2.mem ((c.tc : Thread Cert.GateWeightRefIdeal.nD Cert.GateWeightRefIdeal.τ).loc Cert.GateWeightRefIdeal.main_v5) = v0 c
          ∧ r.2.mem ((c.tc : Thread Cert.GateWeightRefIdeal.nD Cert.GateWeightRefIdeal.τ).loc Cert.GateWeightRefIdeal.main_arg0) = m' ((c.tc : Thread Cert.GateWeightRefIdeal.nD Cert.GateWeightRefIdeal.τ).loc Cert.GateWeightRefIdeal.main_arg0)
          ∧ r.2.mem ((c.tc : Thread Cert.GateWeightRefIdeal.nD Cert.GateWeightRefIdeal.τ).loc Cert.GateWeightRefIdeal.main_arg1) = m' ((c.tc : Thread Cert.GateWeightRefIdeal.nD Cert.GateWeightRefIdeal.τ).loc Cert.GateWeightRefIdeal.main_arg1))

def preserves_OutAWeight_OutAWeightIdeal : Prop :=
  True

def algebraic_OutAWeightIdeal_OutAWeightRefIdeal [hOutAWeightIdeal : Cert.OutAWeightIdeal.Facts] [hOutAWeightRefIdeal : Cert.OutAWeightRefIdeal.Facts] : Prop :=
  ∀ (m : (ℓ : Loc Cert.OutAWeightIdeal.nD Cert.OutAWeightIdeal.τ Cert.OutAWeightIdeal.sig) → Buf (Elt Ideal) ℓ) (g : Dev Cert.OutAWeightIdeal.nD → PrngReg)
    (m' : (ℓ : Loc Cert.OutAWeightRefIdeal.nD Cert.OutAWeightRefIdeal.τ Cert.OutAWeightRefIdeal.sig) → Buf (Elt Ideal) ℓ) (g' : Dev Cert.OutAWeightRefIdeal.nD → PrngReg), Pre_OutAWeightIdeal m →
    (∀ c : Dev Cert.OutAWeightIdeal.nD,
      m' ((c.tc : Thread Cert.OutAWeightRefIdeal.nD Cert.OutAWeightRefIdeal.τ).loc Cert.OutAWeightRefIdeal.main_arg0) = m ((c.tc : Thread Cert.OutAWeightIdeal.nD Cert.OutAWeightIdeal.τ).loc Cert.OutAWeightIdeal.main_arg0)
      ∧ m' ((c.tc : Thread Cert.OutAWeightRefIdeal.nD Cert.OutAWeightRefIdeal.τ).loc Cert.OutAWeightRefIdeal.main_arg1) = m ((c.tc : Thread Cert.OutAWeightIdeal.nD Cert.OutAWeightIdeal.τ).loc Cert.OutAWeightIdeal.main_arg1)) →
    ∃ (v0 : (c : Dev Cert.OutAWeightIdeal.nD) → Buf (Elt Ideal) ((c.tc : Thread Cert.OutAWeightIdeal.nD Cert.OutAWeightIdeal.τ).loc Cert.OutAWeightIdeal.main_v0)),
      θ_run (Cert.OutAWeightIdeal.defs (F := Ideal)) (onTc (τ := Cert.OutAWeightIdeal.τ) (Cert.OutAWeightIdeal.main (F := Ideal))) ⟨m, fun _ => 0, g⟩ (fun r => ∀ c : Dev Cert.OutAWeightIdeal.nD,
          r.2.mem ((c.tc : Thread Cert.OutAWeightIdeal.nD Cert.OutAWeightIdeal.τ).loc Cert.OutAWeightIdeal.main_v0) = v0 c
          ∧ r.2.mem ((c.tc : Thread Cert.OutAWeightIdeal.nD Cert.OutAWeightIdeal.τ).loc Cert.OutAWeightIdeal.main_arg0) = m ((c.tc : Thread Cert.OutAWeightIdeal.nD Cert.OutAWeightIdeal.τ).loc Cert.OutAWeightIdeal.main_arg0)
          ∧ r.2.mem ((c.tc : Thread Cert.OutAWeightIdeal.nD Cert.OutAWeightIdeal.τ).loc Cert.OutAWeightIdeal.main_arg1) = m ((c.tc : Thread Cert.OutAWeightIdeal.nD Cert.OutAWeightIdeal.τ).loc Cert.OutAWeightIdeal.main_arg1))
      ∧ θ_run (Cert.OutAWeightRefIdeal.defs (F := Ideal)) (onTc (τ := Cert.OutAWeightRefIdeal.τ) (Cert.OutAWeightRefIdeal.main (F := Ideal))) ⟨m', fun _ => 0, g'⟩ (fun r => ∀ c : Dev Cert.OutAWeightRefIdeal.nD,
          r.2.mem ((c.tc : Thread Cert.OutAWeightRefIdeal.nD Cert.OutAWeightRefIdeal.τ).loc Cert.OutAWeightRefIdeal.main_v5) = v0 c
          ∧ r.2.mem ((c.tc : Thread Cert.OutAWeightRefIdeal.nD Cert.OutAWeightRefIdeal.τ).loc Cert.OutAWeightRefIdeal.main_arg0) = m' ((c.tc : Thread Cert.OutAWeightRefIdeal.nD Cert.OutAWeightRefIdeal.τ).loc Cert.OutAWeightRefIdeal.main_arg0)
          ∧ r.2.mem ((c.tc : Thread Cert.OutAWeightRefIdeal.nD Cert.OutAWeightRefIdeal.τ).loc Cert.OutAWeightRefIdeal.main_arg1) = m' ((c.tc : Thread Cert.OutAWeightRefIdeal.nD Cert.OutAWeightRefIdeal.τ).loc Cert.OutAWeightRefIdeal.main_arg1))

def preserves_OutBWeight_OutBWeightIdeal : Prop :=
  True

def algebraic_OutBWeightIdeal_OutBWeightRefIdeal [hOutBWeightIdeal : Cert.OutBWeightIdeal.Facts] [hOutBWeightRefIdeal : Cert.OutBWeightRefIdeal.Facts] : Prop :=
  ∀ (m : (ℓ : Loc Cert.OutBWeightIdeal.nD Cert.OutBWeightIdeal.τ Cert.OutBWeightIdeal.sig) → Buf (Elt Ideal) ℓ) (g : Dev Cert.OutBWeightIdeal.nD → PrngReg)
    (m' : (ℓ : Loc Cert.OutBWeightRefIdeal.nD Cert.OutBWeightRefIdeal.τ Cert.OutBWeightRefIdeal.sig) → Buf (Elt Ideal) ℓ) (g' : Dev Cert.OutBWeightRefIdeal.nD → PrngReg), Pre_OutBWeightIdeal m →
    (∀ c : Dev Cert.OutBWeightIdeal.nD,
      m' ((c.tc : Thread Cert.OutBWeightRefIdeal.nD Cert.OutBWeightRefIdeal.τ).loc Cert.OutBWeightRefIdeal.main_arg0) = m ((c.tc : Thread Cert.OutBWeightIdeal.nD Cert.OutBWeightIdeal.τ).loc Cert.OutBWeightIdeal.main_arg0)
      ∧ m' ((c.tc : Thread Cert.OutBWeightRefIdeal.nD Cert.OutBWeightRefIdeal.τ).loc Cert.OutBWeightRefIdeal.main_arg1) = m ((c.tc : Thread Cert.OutBWeightIdeal.nD Cert.OutBWeightIdeal.τ).loc Cert.OutBWeightIdeal.main_arg1)) →
    ∃ (v0 : (c : Dev Cert.OutBWeightIdeal.nD) → Buf (Elt Ideal) ((c.tc : Thread Cert.OutBWeightIdeal.nD Cert.OutBWeightIdeal.τ).loc Cert.OutBWeightIdeal.main_v0)),
      θ_run (Cert.OutBWeightIdeal.defs (F := Ideal)) (onTc (τ := Cert.OutBWeightIdeal.τ) (Cert.OutBWeightIdeal.main (F := Ideal))) ⟨m, fun _ => 0, g⟩ (fun r => ∀ c : Dev Cert.OutBWeightIdeal.nD,
          r.2.mem ((c.tc : Thread Cert.OutBWeightIdeal.nD Cert.OutBWeightIdeal.τ).loc Cert.OutBWeightIdeal.main_v0) = v0 c
          ∧ r.2.mem ((c.tc : Thread Cert.OutBWeightIdeal.nD Cert.OutBWeightIdeal.τ).loc Cert.OutBWeightIdeal.main_arg0) = m ((c.tc : Thread Cert.OutBWeightIdeal.nD Cert.OutBWeightIdeal.τ).loc Cert.OutBWeightIdeal.main_arg0)
          ∧ r.2.mem ((c.tc : Thread Cert.OutBWeightIdeal.nD Cert.OutBWeightIdeal.τ).loc Cert.OutBWeightIdeal.main_arg1) = m ((c.tc : Thread Cert.OutBWeightIdeal.nD Cert.OutBWeightIdeal.τ).loc Cert.OutBWeightIdeal.main_arg1))
      ∧ θ_run (Cert.OutBWeightRefIdeal.defs (F := Ideal)) (onTc (τ := Cert.OutBWeightRefIdeal.τ) (Cert.OutBWeightRefIdeal.main (F := Ideal))) ⟨m', fun _ => 0, g'⟩ (fun r => ∀ c : Dev Cert.OutBWeightRefIdeal.nD,
          r.2.mem ((c.tc : Thread Cert.OutBWeightRefIdeal.nD Cert.OutBWeightRefIdeal.τ).loc Cert.OutBWeightRefIdeal.main_v5) = v0 c
          ∧ r.2.mem ((c.tc : Thread Cert.OutBWeightRefIdeal.nD Cert.OutBWeightRefIdeal.τ).loc Cert.OutBWeightRefIdeal.main_arg0) = m' ((c.tc : Thread Cert.OutBWeightRefIdeal.nD Cert.OutBWeightRefIdeal.τ).loc Cert.OutBWeightRefIdeal.main_arg0)
          ∧ r.2.mem ((c.tc : Thread Cert.OutBWeightRefIdeal.nD Cert.OutBWeightRefIdeal.τ).loc Cert.OutBWeightRefIdeal.main_arg1) = m' ((c.tc : Thread Cert.OutBWeightRefIdeal.nD Cert.OutBWeightRefIdeal.τ).loc Cert.OutBWeightRefIdeal.main_arg1))

def preserves_MergeWeight_MergeWeightIdeal : Prop :=
  True

def algebraic_MergeWeightIdeal_MergeWeightRefIdeal [hMergeWeightIdeal : Cert.MergeWeightIdeal.Facts] [hMergeWeightRefIdeal : Cert.MergeWeightRefIdeal.Facts] : Prop :=
  ∀ (m : (ℓ : Loc Cert.MergeWeightIdeal.nD Cert.MergeWeightIdeal.τ Cert.MergeWeightIdeal.sig) → Buf (Elt Ideal) ℓ) (g : Dev Cert.MergeWeightIdeal.nD → PrngReg)
    (m' : (ℓ : Loc Cert.MergeWeightRefIdeal.nD Cert.MergeWeightRefIdeal.τ Cert.MergeWeightRefIdeal.sig) → Buf (Elt Ideal) ℓ) (g' : Dev Cert.MergeWeightRefIdeal.nD → PrngReg), Pre_MergeWeightIdeal m →
    (∀ c : Dev Cert.MergeWeightIdeal.nD,
      m' ((c.tc : Thread Cert.MergeWeightRefIdeal.nD Cert.MergeWeightRefIdeal.τ).loc Cert.MergeWeightRefIdeal.main_arg0) = m ((c.tc : Thread Cert.MergeWeightIdeal.nD Cert.MergeWeightIdeal.τ).loc Cert.MergeWeightIdeal.main_arg0)
      ∧ m' ((c.tc : Thread Cert.MergeWeightRefIdeal.nD Cert.MergeWeightRefIdeal.τ).loc Cert.MergeWeightRefIdeal.main_arg1) = m ((c.tc : Thread Cert.MergeWeightIdeal.nD Cert.MergeWeightIdeal.τ).loc Cert.MergeWeightIdeal.main_arg1)) →
    ∃ (v0 : (c : Dev Cert.MergeWeightIdeal.nD) → Buf (Elt Ideal) ((c.tc : Thread Cert.MergeWeightIdeal.nD Cert.MergeWeightIdeal.τ).loc Cert.MergeWeightIdeal.main_v0)),
      θ_run (Cert.MergeWeightIdeal.defs (F := Ideal)) (onTc (τ := Cert.MergeWeightIdeal.τ) (Cert.MergeWeightIdeal.main (F := Ideal))) ⟨m, fun _ => 0, g⟩ (fun r => ∀ c : Dev Cert.MergeWeightIdeal.nD,
          r.2.mem ((c.tc : Thread Cert.MergeWeightIdeal.nD Cert.MergeWeightIdeal.τ).loc Cert.MergeWeightIdeal.main_v0) = v0 c
          ∧ r.2.mem ((c.tc : Thread Cert.MergeWeightIdeal.nD Cert.MergeWeightIdeal.τ).loc Cert.MergeWeightIdeal.main_arg0) = m ((c.tc : Thread Cert.MergeWeightIdeal.nD Cert.MergeWeightIdeal.τ).loc Cert.MergeWeightIdeal.main_arg0)
          ∧ r.2.mem ((c.tc : Thread Cert.MergeWeightIdeal.nD Cert.MergeWeightIdeal.τ).loc Cert.MergeWeightIdeal.main_arg1) = m ((c.tc : Thread Cert.MergeWeightIdeal.nD Cert.MergeWeightIdeal.τ).loc Cert.MergeWeightIdeal.main_arg1))
      ∧ θ_run (Cert.MergeWeightRefIdeal.defs (F := Ideal)) (onTc (τ := Cert.MergeWeightRefIdeal.τ) (Cert.MergeWeightRefIdeal.main (F := Ideal))) ⟨m', fun _ => 0, g'⟩ (fun r => ∀ c : Dev Cert.MergeWeightRefIdeal.nD,
          r.2.mem ((c.tc : Thread Cert.MergeWeightRefIdeal.nD Cert.MergeWeightRefIdeal.τ).loc Cert.MergeWeightRefIdeal.main_v4) = v0 c
          ∧ r.2.mem ((c.tc : Thread Cert.MergeWeightRefIdeal.nD Cert.MergeWeightRefIdeal.τ).loc Cert.MergeWeightRefIdeal.main_arg0) = m' ((c.tc : Thread Cert.MergeWeightRefIdeal.nD Cert.MergeWeightRefIdeal.τ).loc Cert.MergeWeightRefIdeal.main_arg0)
          ∧ r.2.mem ((c.tc : Thread Cert.MergeWeightRefIdeal.nD Cert.MergeWeightRefIdeal.τ).loc Cert.MergeWeightRefIdeal.main_arg1) = m' ((c.tc : Thread Cert.MergeWeightRefIdeal.nD Cert.MergeWeightRefIdeal.τ).loc Cert.MergeWeightRefIdeal.main_arg1))

def preserves_StepWeight_StepWeightIdeal : Prop :=
  True

def algebraic_StepWeightIdeal_StepWeightRefIdeal [hStepWeightIdeal : Cert.StepWeightIdeal.Facts] [hStepWeightRefIdeal : Cert.StepWeightRefIdeal.Facts] : Prop :=
  ∀ (m : (ℓ : Loc Cert.StepWeightIdeal.nD Cert.StepWeightIdeal.τ Cert.StepWeightIdeal.sig) → Buf (Elt Ideal) ℓ) (g : Dev Cert.StepWeightIdeal.nD → PrngReg)
    (m' : (ℓ : Loc Cert.StepWeightRefIdeal.nD Cert.StepWeightRefIdeal.τ Cert.StepWeightRefIdeal.sig) → Buf (Elt Ideal) ℓ) (g' : Dev Cert.StepWeightRefIdeal.nD → PrngReg), Pre_StepWeightIdeal m →
    (∀ c : Dev Cert.StepWeightIdeal.nD,
      m' ((c.tc : Thread Cert.StepWeightRefIdeal.nD Cert.StepWeightRefIdeal.τ).loc Cert.StepWeightRefIdeal.main_arg0) = m ((c.tc : Thread Cert.StepWeightIdeal.nD Cert.StepWeightIdeal.τ).loc Cert.StepWeightIdeal.main_arg0)
      ∧ m' ((c.tc : Thread Cert.StepWeightRefIdeal.nD Cert.StepWeightRefIdeal.τ).loc Cert.StepWeightRefIdeal.main_arg1) = m ((c.tc : Thread Cert.StepWeightIdeal.nD Cert.StepWeightIdeal.τ).loc Cert.StepWeightIdeal.main_arg1)) →
    ∃ (v0 : (c : Dev Cert.StepWeightIdeal.nD) → Buf (Elt Ideal) ((c.tc : Thread Cert.StepWeightIdeal.nD Cert.StepWeightIdeal.τ).loc Cert.StepWeightIdeal.main_v0)),
      θ_run (Cert.StepWeightIdeal.defs (F := Ideal)) (onTc (τ := Cert.StepWeightIdeal.τ) (Cert.StepWeightIdeal.main (F := Ideal))) ⟨m, fun _ => 0, g⟩ (fun r => ∀ c : Dev Cert.StepWeightIdeal.nD,
          r.2.mem ((c.tc : Thread Cert.StepWeightIdeal.nD Cert.StepWeightIdeal.τ).loc Cert.StepWeightIdeal.main_v0) = v0 c
          ∧ r.2.mem ((c.tc : Thread Cert.StepWeightIdeal.nD Cert.StepWeightIdeal.τ).loc Cert.StepWeightIdeal.main_arg0) = m ((c.tc : Thread Cert.StepWeightIdeal.nD Cert.StepWeightIdeal.τ).loc Cert.StepWeightIdeal.main_arg0)
          ∧ r.2.mem ((c.tc : Thread Cert.StepWeightIdeal.nD Cert.StepWeightIdeal.τ).loc Cert.StepWeightIdeal.main_arg1) = m ((c.tc : Thread Cert.StepWeightIdeal.nD Cert.StepWeightIdeal.τ).loc Cert.StepWeightIdeal.main_arg1))
      ∧ θ_run (Cert.StepWeightRefIdeal.defs (F := Ideal)) (onTc (τ := Cert.StepWeightRefIdeal.τ) (Cert.StepWeightRefIdeal.main (F := Ideal))) ⟨m', fun _ => 0, g'⟩ (fun r => ∀ c : Dev Cert.StepWeightRefIdeal.nD,
          r.2.mem ((c.tc : Thread Cert.StepWeightRefIdeal.nD Cert.StepWeightRefIdeal.τ).loc Cert.StepWeightRefIdeal.main_v4) = v0 c
          ∧ r.2.mem ((c.tc : Thread Cert.StepWeightRefIdeal.nD Cert.StepWeightRefIdeal.τ).loc Cert.StepWeightRefIdeal.main_arg0) = m' ((c.tc : Thread Cert.StepWeightRefIdeal.nD Cert.StepWeightRefIdeal.τ).loc Cert.StepWeightRefIdeal.main_arg0)
          ∧ r.2.mem ((c.tc : Thread Cert.StepWeightRefIdeal.nD Cert.StepWeightRefIdeal.τ).loc Cert.StepWeightRefIdeal.main_arg1) = m' ((c.tc : Thread Cert.StepWeightRefIdeal.nD Cert.StepWeightRefIdeal.τ).loc Cert.StepWeightRefIdeal.main_arg1))

def preserves_EmbedWeight_EmbedWeightIdeal : Prop :=
  True

def algebraic_EmbedWeightIdeal_EmbedWeightRefIdeal [hEmbedWeightIdeal : Cert.EmbedWeightIdeal.Facts] [hEmbedWeightRefIdeal : Cert.EmbedWeightRefIdeal.Facts] : Prop :=
  ∀ (m : (ℓ : Loc Cert.EmbedWeightIdeal.nD Cert.EmbedWeightIdeal.τ Cert.EmbedWeightIdeal.sig) → Buf (Elt Ideal) ℓ) (g : Dev Cert.EmbedWeightIdeal.nD → PrngReg)
    (m' : (ℓ : Loc Cert.EmbedWeightRefIdeal.nD Cert.EmbedWeightRefIdeal.τ Cert.EmbedWeightRefIdeal.sig) → Buf (Elt Ideal) ℓ) (g' : Dev Cert.EmbedWeightRefIdeal.nD → PrngReg), Pre_EmbedWeightIdeal m →
    (∀ c : Dev Cert.EmbedWeightIdeal.nD,
      m' ((c.tc : Thread Cert.EmbedWeightRefIdeal.nD Cert.EmbedWeightRefIdeal.τ).loc Cert.EmbedWeightRefIdeal.main_arg0) = m ((c.tc : Thread Cert.EmbedWeightIdeal.nD Cert.EmbedWeightIdeal.τ).loc Cert.EmbedWeightIdeal.main_arg0)
      ∧ m' ((c.tc : Thread Cert.EmbedWeightRefIdeal.nD Cert.EmbedWeightRefIdeal.τ).loc Cert.EmbedWeightRefIdeal.main_arg1) = m ((c.tc : Thread Cert.EmbedWeightIdeal.nD Cert.EmbedWeightIdeal.τ).loc Cert.EmbedWeightIdeal.main_arg1)) →
    ∃ (v0 : (c : Dev Cert.EmbedWeightIdeal.nD) → Buf (Elt Ideal) ((c.tc : Thread Cert.EmbedWeightIdeal.nD Cert.EmbedWeightIdeal.τ).loc Cert.EmbedWeightIdeal.main_v0)),
      θ_run (Cert.EmbedWeightIdeal.defs (F := Ideal)) (onTc (τ := Cert.EmbedWeightIdeal.τ) (Cert.EmbedWeightIdeal.main (F := Ideal))) ⟨m, fun _ => 0, g⟩ (fun r => ∀ c : Dev Cert.EmbedWeightIdeal.nD,
          r.2.mem ((c.tc : Thread Cert.EmbedWeightIdeal.nD Cert.EmbedWeightIdeal.τ).loc Cert.EmbedWeightIdeal.main_v0) = v0 c
          ∧ r.2.mem ((c.tc : Thread Cert.EmbedWeightIdeal.nD Cert.EmbedWeightIdeal.τ).loc Cert.EmbedWeightIdeal.main_arg0) = m ((c.tc : Thread Cert.EmbedWeightIdeal.nD Cert.EmbedWeightIdeal.τ).loc Cert.EmbedWeightIdeal.main_arg0)
          ∧ r.2.mem ((c.tc : Thread Cert.EmbedWeightIdeal.nD Cert.EmbedWeightIdeal.τ).loc Cert.EmbedWeightIdeal.main_arg1) = m ((c.tc : Thread Cert.EmbedWeightIdeal.nD Cert.EmbedWeightIdeal.τ).loc Cert.EmbedWeightIdeal.main_arg1))
      ∧ θ_run (Cert.EmbedWeightRefIdeal.defs (F := Ideal)) (onTc (τ := Cert.EmbedWeightRefIdeal.τ) (Cert.EmbedWeightRefIdeal.main (F := Ideal))) ⟨m', fun _ => 0, g'⟩ (fun r => ∀ c : Dev Cert.EmbedWeightRefIdeal.nD,
          r.2.mem ((c.tc : Thread Cert.EmbedWeightRefIdeal.nD Cert.EmbedWeightRefIdeal.τ).loc Cert.EmbedWeightRefIdeal.main_v4) = v0 c
          ∧ r.2.mem ((c.tc : Thread Cert.EmbedWeightRefIdeal.nD Cert.EmbedWeightRefIdeal.τ).loc Cert.EmbedWeightRefIdeal.main_arg0) = m' ((c.tc : Thread Cert.EmbedWeightRefIdeal.nD Cert.EmbedWeightRefIdeal.τ).loc Cert.EmbedWeightRefIdeal.main_arg0)
          ∧ r.2.mem ((c.tc : Thread Cert.EmbedWeightRefIdeal.nD Cert.EmbedWeightRefIdeal.τ).loc Cert.EmbedWeightRefIdeal.main_arg1) = m' ((c.tc : Thread Cert.EmbedWeightRefIdeal.nD Cert.EmbedWeightRefIdeal.τ).loc Cert.EmbedWeightRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)) (v2 : (c : Dev Cert.ProjIdeal.nD) → Buf (Elt Ideal) ((c.tc : Thread Cert.ProjIdeal.nD Cert.ProjIdeal.τ).loc Cert.ProjIdeal.main_v0_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_v0_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v14) = v0 c
          ∧ r.2.mem ((c.tc : Thread Cert.ProjRefIdeal.nD Cert.ProjRefIdeal.τ).loc Cert.ProjRefIdeal.main_v17) = v1 c
          ∧ r.2.mem ((c.tc : Thread Cert.ProjRefIdeal.nD Cert.ProjRefIdeal.τ).loc Cert.ProjRefIdeal.main_v19) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v21) = v0 c
          ∧ r.2.mem ((c.tc : Thread Cert.OutProjRefIdeal.nD Cert.OutProjRefIdeal.τ).loc Cert.OutProjRefIdeal.main_v24) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_ConvAct_ConvActIdeal : Prop :=
  True

def algebraic_ConvActIdeal_ConvActRefIdeal_pre_finite_cotangents [hConvActIdeal : Cert.ConvActIdeal.Facts] [hConvActRefIdeal : Cert.ConvActRefIdeal.Facts] [hPre_finite_cotangents : Cert.Pre_finite_cotangents.Facts] : Prop :=
  ∀ (m : (ℓ : Loc Cert.ConvActIdeal.nD Cert.ConvActIdeal.τ Cert.ConvActIdeal.sig) → Buf (Elt Ideal) ℓ) (g : Dev Cert.ConvActIdeal.nD → PrngReg)
    (m' : (ℓ : Loc Cert.ConvActRefIdeal.nD Cert.ConvActRefIdeal.τ Cert.ConvActRefIdeal.sig) → Buf (Elt Ideal) ℓ) (g' : Dev Cert.ConvActRefIdeal.nD → PrngReg), Pre_ConvActIdeal_finite_cotangents m →
    (∀ c : Dev Cert.ConvActIdeal.nD,
      m' ((c.tc : Thread Cert.ConvActRefIdeal.nD Cert.ConvActRefIdeal.τ).loc Cert.ConvActRefIdeal.main_arg0) = m ((c.tc : Thread Cert.ConvActIdeal.nD Cert.ConvActIdeal.τ).loc Cert.ConvActIdeal.main_arg0)
      ∧ m' ((c.tc : Thread Cert.ConvActRefIdeal.nD Cert.ConvActRefIdeal.τ).loc Cert.ConvActRefIdeal.main_arg1) = m ((c.tc : Thread Cert.ConvActIdeal.nD Cert.ConvActIdeal.τ).loc Cert.ConvActIdeal.main_arg1)
      ∧ m' ((c.tc : Thread Cert.ConvActRefIdeal.nD Cert.ConvActRefIdeal.τ).loc Cert.ConvActRefIdeal.main_arg2) = m ((c.tc : Thread Cert.ConvActIdeal.nD Cert.ConvActIdeal.τ).loc Cert.ConvActIdeal.main_arg2)
      ∧ m' ((c.tc : Thread Cert.ConvActRefIdeal.nD Cert.ConvActRefIdeal.τ).loc Cert.ConvActRefIdeal.main_arg3) = m ((c.tc : Thread Cert.ConvActIdeal.nD Cert.ConvActIdeal.τ).loc Cert.ConvActIdeal.main_arg3)) →
    ∃ (v0 : (c : Dev Cert.ConvActIdeal.nD) → Buf (Elt Ideal) ((c.tc : Thread Cert.ConvActIdeal.nD Cert.ConvActIdeal.τ).loc Cert.ConvActIdeal.main_v0_0)) (v1 : (c : Dev Cert.ConvActIdeal.nD) → Buf (Elt Ideal) ((c.tc : Thread Cert.ConvActIdeal.nD Cert.ConvActIdeal.τ).loc Cert.ConvActIdeal.main_v0_1)),
      θ_run (Cert.ConvActIdeal.defs (F := Ideal)) (onTc (τ := Cert.ConvActIdeal.τ) (Cert.ConvActIdeal.main (F := Ideal))) ⟨m, fun _ => 0, g⟩ (fun r => ∀ c : Dev Cert.ConvActIdeal.nD,
          r.2.mem ((c.tc : Thread Cert.ConvActIdeal.nD Cert.ConvActIdeal.τ).loc Cert.ConvActIdeal.main_v0_0) = v0 c
          ∧ r.2.mem ((c.tc : Thread Cert.ConvActIdeal.nD Cert.ConvActIdeal.τ).loc Cert.ConvActIdeal.main_v0_1) = v1 c
          ∧ r.2.mem ((c.tc : Thread Cert.ConvActIdeal.nD Cert.ConvActIdeal.τ).loc Cert.ConvActIdeal.main_arg0) = m ((c.tc : Thread Cert.ConvActIdeal.nD Cert.ConvActIdeal.τ).loc Cert.ConvActIdeal.main_arg0)
          ∧ r.2.mem ((c.tc : Thread Cert.ConvActIdeal.nD Cert.ConvActIdeal.τ).loc Cert.ConvActIdeal.main_arg1) = m ((c.tc : Thread Cert.ConvActIdeal.nD Cert.ConvActIdeal.τ).loc Cert.ConvActIdeal.main_arg1)
          ∧ r.2.mem ((c.tc : Thread Cert.ConvActIdeal.nD Cert.ConvActIdeal.τ).loc Cert.ConvActIdeal.main_arg2) = m ((c.tc : Thread Cert.ConvActIdeal.nD Cert.ConvActIdeal.τ).loc Cert.ConvActIdeal.main_arg2)
          ∧ r.2.mem ((c.tc : Thread Cert.ConvActIdeal.nD Cert.ConvActIdeal.τ).loc Cert.ConvActIdeal.main_arg3) = m ((c.tc : Thread Cert.ConvActIdeal.nD Cert.ConvActIdeal.τ).loc Cert.ConvActIdeal.main_arg3))
      ∧ θ_run (Cert.ConvActRefIdeal.defs (F := Ideal)) (onTc (τ := Cert.ConvActRefIdeal.τ) (Cert.ConvActRefIdeal.main (F := Ideal))) ⟨m', fun _ => 0, g'⟩ (fun r => ∀ c : Dev Cert.ConvActRefIdeal.nD,
          r.2.mem ((c.tc : Thread Cert.ConvActRefIdeal.nD Cert.ConvActRefIdeal.τ).loc Cert.ConvActRefIdeal.main_v19) = v0 c
          ∧ r.2.mem ((c.tc : Thread Cert.ConvActRefIdeal.nD Cert.ConvActRefIdeal.τ).loc Cert.ConvActRefIdeal.main_v18) = v1 c
          ∧ r.2.mem ((c.tc : Thread Cert.ConvActRefIdeal.nD Cert.ConvActRefIdeal.τ).loc Cert.ConvActRefIdeal.main_arg0) = m' ((c.tc : Thread Cert.ConvActRefIdeal.nD Cert.ConvActRefIdeal.τ).loc Cert.ConvActRefIdeal.main_arg0)
          ∧ r.2.mem ((c.tc : Thread Cert.ConvActRefIdeal.nD Cert.ConvActRefIdeal.τ).loc Cert.ConvActRefIdeal.main_arg1) = m' ((c.tc : Thread Cert.ConvActRefIdeal.nD Cert.ConvActRefIdeal.τ).loc Cert.ConvActRefIdeal.main_arg1)
          ∧ r.2.mem ((c.tc : Thread Cert.ConvActRefIdeal.nD Cert.ConvActRefIdeal.τ).loc Cert.ConvActRefIdeal.main_arg2) = m' ((c.tc : Thread Cert.ConvActRefIdeal.nD Cert.ConvActRefIdeal.τ).loc Cert.ConvActRefIdeal.main_arg2)
          ∧ r.2.mem ((c.tc : Thread Cert.ConvActRefIdeal.nD Cert.ConvActRefIdeal.τ).loc Cert.ConvActRefIdeal.main_arg3) = m' ((c.tc : Thread Cert.ConvActRefIdeal.nD Cert.ConvActRefIdeal.τ).loc Cert.ConvActRefIdeal.main_arg3))

def preserves_GroupNorm_GroupNormIdeal : Prop :=
  True

def algebraic_GroupNormIdeal_GroupNormRefIdeal [hGroupNormIdeal : Cert.GroupNormIdeal.Facts] [hGroupNormRefIdeal : Cert.GroupNormRefIdeal.Facts] : Prop :=
  ∀ (m : (ℓ : Loc Cert.GroupNormIdeal.nD Cert.GroupNormIdeal.τ Cert.GroupNormIdeal.sig) → Buf (Elt Ideal) ℓ) (g : Dev Cert.GroupNormIdeal.nD → PrngReg)
    (m' : (ℓ : Loc Cert.GroupNormRefIdeal.nD Cert.GroupNormRefIdeal.τ Cert.GroupNormRefIdeal.sig) → Buf (Elt Ideal) ℓ) (g' : Dev Cert.GroupNormRefIdeal.nD → PrngReg), Pre_GroupNormIdeal m →
    (∀ c : Dev Cert.GroupNormIdeal.nD,
      m' ((c.tc : Thread Cert.GroupNormRefIdeal.nD Cert.GroupNormRefIdeal.τ).loc Cert.GroupNormRefIdeal.main_arg0) = m ((c.tc : Thread Cert.GroupNormIdeal.nD Cert.GroupNormIdeal.τ).loc Cert.GroupNormIdeal.main_arg0)
      ∧ m' ((c.tc : Thread Cert.GroupNormRefIdeal.nD Cert.GroupNormRefIdeal.τ).loc Cert.GroupNormRefIdeal.main_arg1) = m ((c.tc : Thread Cert.GroupNormIdeal.nD Cert.GroupNormIdeal.τ).loc Cert.GroupNormIdeal.main_arg1)
      ∧ m' ((c.tc : Thread Cert.GroupNormRefIdeal.nD Cert.GroupNormRefIdeal.τ).loc Cert.GroupNormRefIdeal.main_arg2) = m ((c.tc : Thread Cert.GroupNormIdeal.nD Cert.GroupNormIdeal.τ).loc Cert.GroupNormIdeal.main_arg2)
      ∧ m' ((c.tc : Thread Cert.GroupNormRefIdeal.nD Cert.GroupNormRefIdeal.τ).loc Cert.GroupNormRefIdeal.main_arg3) = m ((c.tc : Thread Cert.GroupNormIdeal.nD Cert.GroupNormIdeal.τ).loc Cert.GroupNormIdeal.main_arg3)
      ∧ m' ((c.tc : Thread Cert.GroupNormRefIdeal.nD Cert.GroupNormRefIdeal.τ).loc Cert.GroupNormRefIdeal.main_arg4) = m ((c.tc : Thread Cert.GroupNormIdeal.nD Cert.GroupNormIdeal.τ).loc Cert.GroupNormIdeal.main_arg4)
      ∧ m' ((c.tc : Thread Cert.GroupNormRefIdeal.nD Cert.GroupNormRefIdeal.τ).loc Cert.GroupNormRefIdeal.main_arg5) = m ((c.tc : Thread Cert.GroupNormIdeal.nD Cert.GroupNormIdeal.τ).loc Cert.GroupNormIdeal.main_arg5)) →
    ∃ (v0 : (c : Dev Cert.GroupNormIdeal.nD) → Buf (Elt Ideal) ((c.tc : Thread Cert.GroupNormIdeal.nD Cert.GroupNormIdeal.τ).loc Cert.GroupNormIdeal.main_v0_0)) (v1 : (c : Dev Cert.GroupNormIdeal.nD) → Buf (Elt Ideal) ((c.tc : Thread Cert.GroupNormIdeal.nD Cert.GroupNormIdeal.τ).loc Cert.GroupNormIdeal.main_v0_1)) (v2 : (c : Dev Cert.GroupNormIdeal.nD) → Buf (Elt Ideal) ((c.tc : Thread Cert.GroupNormIdeal.nD Cert.GroupNormIdeal.τ).loc Cert.GroupNormIdeal.main_v0_2)),
      θ_run (Cert.GroupNormIdeal.defs (F := Ideal)) (onTc (τ := Cert.GroupNormIdeal.τ) (Cert.GroupNormIdeal.main (F := Ideal))) ⟨m, fun _ => 0, g⟩ (fun r => ∀ c : Dev Cert.GroupNormIdeal.nD,
          r.2.mem ((c.tc : Thread Cert.GroupNormIdeal.nD Cert.GroupNormIdeal.τ).loc Cert.GroupNormIdeal.main_v0_0) = v0 c
          ∧ r.2.mem ((c.tc : Thread Cert.GroupNormIdeal.nD Cert.GroupNormIdeal.τ).loc Cert.GroupNormIdeal.main_v0_1) = v1 c
          ∧ r.2.mem ((c.tc : Thread Cert.GroupNormIdeal.nD Cert.GroupNormIdeal.τ).loc Cert.GroupNormIdeal.main_v0_2) = v2 c
          ∧ r.2.mem ((c.tc : Thread Cert.GroupNormIdeal.nD Cert.GroupNormIdeal.τ).loc Cert.GroupNormIdeal.main_arg0) = m ((c.tc : Thread Cert.GroupNormIdeal.nD Cert.GroupNormIdeal.τ).loc Cert.GroupNormIdeal.main_arg0)
          ∧ r.2.mem ((c.tc : Thread Cert.GroupNormIdeal.nD Cert.GroupNormIdeal.τ).loc Cert.GroupNormIdeal.main_arg1) = m ((c.tc : Thread Cert.GroupNormIdeal.nD Cert.GroupNormIdeal.τ).loc Cert.GroupNormIdeal.main_arg1)
          ∧ r.2.mem ((c.tc : Thread Cert.GroupNormIdeal.nD Cert.GroupNormIdeal.τ).loc Cert.GroupNormIdeal.main_arg2) = m ((c.tc : Thread Cert.GroupNormIdeal.nD Cert.GroupNormIdeal.τ).loc Cert.GroupNormIdeal.main_arg2)
          ∧ r.2.mem ((c.tc : Thread Cert.GroupNormIdeal.nD Cert.GroupNormIdeal.τ).loc Cert.GroupNormIdeal.main_arg3) = m ((c.tc : Thread Cert.GroupNormIdeal.nD Cert.GroupNormIdeal.τ).loc Cert.GroupNormIdeal.main_arg3)
          ∧ r.2.mem ((c.tc : Thread Cert.GroupNormIdeal.nD Cert.GroupNormIdeal.τ).loc Cert.GroupNormIdeal.main_arg4) = m ((c.tc : Thread Cert.GroupNormIdeal.nD Cert.GroupNormIdeal.τ).loc Cert.GroupNormIdeal.main_arg4)
          ∧ r.2.mem ((c.tc : Thread Cert.GroupNormIdeal.nD Cert.GroupNormIdeal.τ).loc Cert.GroupNormIdeal.main_arg5) = m ((c.tc : Thread Cert.GroupNormIdeal.nD Cert.GroupNormIdeal.τ).loc Cert.GroupNormIdeal.main_arg5))
      ∧ θ_run (Cert.GroupNormRefIdeal.defs (F := Ideal)) (onTc (τ := Cert.GroupNormRefIdeal.τ) (Cert.GroupNormRefIdeal.main (F := Ideal))) ⟨m', fun _ => 0, g'⟩ (fun r => ∀ c : Dev Cert.GroupNormRefIdeal.nD,
          r.2.mem ((c.tc : Thread Cert.GroupNormRefIdeal.nD Cert.GroupNormRefIdeal.τ).loc Cert.GroupNormRefIdeal.main_v60) = v0 c
          ∧ r.2.mem ((c.tc : Thread Cert.GroupNormRefIdeal.nD Cert.GroupNormRefIdeal.τ).loc Cert.GroupNormRefIdeal.main_v64) = v1 c
          ∧ r.2.mem ((c.tc : Thread Cert.GroupNormRefIdeal.nD Cert.GroupNormRefIdeal.τ).loc Cert.GroupNormRefIdeal.main_v57) = v2 c
          ∧ r.2.mem ((c.tc : Thread Cert.GroupNormRefIdeal.nD Cert.GroupNormRefIdeal.τ).loc Cert.GroupNormRefIdeal.main_arg0) = m' ((c.tc : Thread Cert.GroupNormRefIdeal.nD Cert.GroupNormRefIdeal.τ).loc Cert.GroupNormRefIdeal.main_arg0)
          ∧ r.2.mem ((c.tc : Thread Cert.GroupNormRefIdeal.nD Cert.GroupNormRefIdeal.τ).loc Cert.GroupNormRefIdeal.main_arg1) = m' ((c.tc : Thread Cert.GroupNormRefIdeal.nD Cert.GroupNormRefIdeal.τ).loc Cert.GroupNormRefIdeal.main_arg1)
          ∧ r.2.mem ((c.tc : Thread Cert.GroupNormRefIdeal.nD Cert.GroupNormRefIdeal.τ).loc Cert.GroupNormRefIdeal.main_arg2) = m' ((c.tc : Thread Cert.GroupNormRefIdeal.nD Cert.GroupNormRefIdeal.τ).loc Cert.GroupNormRefIdeal.main_arg2)
          ∧ r.2.mem ((c.tc : Thread Cert.GroupNormRefIdeal.nD Cert.GroupNormRefIdeal.τ).loc Cert.GroupNormRefIdeal.main_arg3) = m' ((c.tc : Thread Cert.GroupNormRefIdeal.nD Cert.GroupNormRefIdeal.τ).loc Cert.GroupNormRefIdeal.main_arg3)
          ∧ r.2.mem ((c.tc : Thread Cert.GroupNormRefIdeal.nD Cert.GroupNormRefIdeal.τ).loc Cert.GroupNormRefIdeal.main_arg4) = m' ((c.tc : Thread Cert.GroupNormRefIdeal.nD Cert.GroupNormRefIdeal.τ).loc Cert.GroupNormRefIdeal.main_arg4)
          ∧ r.2.mem ((c.tc : Thread Cert.GroupNormRefIdeal.nD Cert.GroupNormRefIdeal.τ).loc Cert.GroupNormRefIdeal.main_arg5) = m' ((c.tc : Thread Cert.GroupNormRefIdeal.nD Cert.GroupNormRefIdeal.τ).loc Cert.GroupNormRefIdeal.main_arg5))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v82) = v0 c
          ∧ r.2.mem ((c.tc : Thread Cert.ConvRefIdeal.nD Cert.ConvRefIdeal.τ).loc Cert.ConvRefIdeal.main_v74) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_AdamOa_AdamOaIdeal : Prop :=
  True

def algebraic_AdamOaIdeal_AdamOaRefIdeal [hAdamOaIdeal : Cert.AdamOaIdeal.Facts] [hAdamOaRefIdeal : Cert.AdamOaRefIdeal.Facts] : Prop :=
  ∀ (m : (ℓ : Loc Cert.AdamOaIdeal.nD Cert.AdamOaIdeal.τ Cert.AdamOaIdeal.sig) → Buf (Elt Ideal) ℓ) (g : Dev Cert.AdamOaIdeal.nD → PrngReg)
    (m' : (ℓ : Loc Cert.AdamOaRefIdeal.nD Cert.AdamOaRefIdeal.τ Cert.AdamOaRefIdeal.sig) → Buf (Elt Ideal) ℓ) (g' : Dev Cert.AdamOaRefIdeal.nD → PrngReg), Pre_AdamOaIdeal m →
    (∀ c : Dev Cert.AdamOaIdeal.nD,
      m' ((c.tc : Thread Cert.AdamOaRefIdeal.nD Cert.AdamOaRefIdeal.τ).loc Cert.AdamOaRefIdeal.main_arg0) = m ((c.tc : Thread Cert.AdamOaIdeal.nD Cert.AdamOaIdeal.τ).loc Cert.AdamOaIdeal.main_arg0)
      ∧ m' ((c.tc : Thread Cert.AdamOaRefIdeal.nD Cert.AdamOaRefIdeal.τ).loc Cert.AdamOaRefIdeal.main_arg1) = m ((c.tc : Thread Cert.AdamOaIdeal.nD Cert.AdamOaIdeal.τ).loc Cert.AdamOaIdeal.main_arg1)
      ∧ m' ((c.tc : Thread Cert.AdamOaRefIdeal.nD Cert.AdamOaRefIdeal.τ).loc Cert.AdamOaRefIdeal.main_arg2) = m ((c.tc : Thread Cert.AdamOaIdeal.nD Cert.AdamOaIdeal.τ).loc Cert.AdamOaIdeal.main_arg2)
      ∧ m' ((c.tc : Thread Cert.AdamOaRefIdeal.nD Cert.AdamOaRefIdeal.τ).loc Cert.AdamOaRefIdeal.main_arg3) = m ((c.tc : Thread Cert.AdamOaIdeal.nD Cert.AdamOaIdeal.τ).loc Cert.AdamOaIdeal.main_arg3)) →
    ∃ (v0 : (c : Dev Cert.AdamOaIdeal.nD) → Buf (Elt Ideal) ((c.tc : Thread Cert.AdamOaIdeal.nD Cert.AdamOaIdeal.τ).loc Cert.AdamOaIdeal.main_v0_0)) (v1 : (c : Dev Cert.AdamOaIdeal.nD) → Buf (Elt Ideal) ((c.tc : Thread Cert.AdamOaIdeal.nD Cert.AdamOaIdeal.τ).loc Cert.AdamOaIdeal.main_v0_1)) (v2 : (c : Dev Cert.AdamOaIdeal.nD) → Buf (Elt Ideal) ((c.tc : Thread Cert.AdamOaIdeal.nD Cert.AdamOaIdeal.τ).loc Cert.AdamOaIdeal.main_v0_2)) (v3 : (c : Dev Cert.AdamOaIdeal.nD) → Buf (Elt Ideal) ((c.tc : Thread Cert.AdamOaIdeal.nD Cert.AdamOaIdeal.τ).loc Cert.AdamOaIdeal.main_v0_3)),
      θ_run (Cert.AdamOaIdeal.defs (F := Ideal)) (onTc (τ := Cert.AdamOaIdeal.τ) (Cert.AdamOaIdeal.main (F := Ideal))) ⟨m, fun _ => 0, g⟩ (fun r => ∀ c : Dev Cert.AdamOaIdeal.nD,
          r.2.mem ((c.tc : Thread Cert.AdamOaIdeal.nD Cert.AdamOaIdeal.τ).loc Cert.AdamOaIdeal.main_v0_0) = v0 c
          ∧ r.2.mem ((c.tc : Thread Cert.AdamOaIdeal.nD Cert.AdamOaIdeal.τ).loc Cert.AdamOaIdeal.main_v0_1) = v1 c
          ∧ r.2.mem ((c.tc : Thread Cert.AdamOaIdeal.nD Cert.AdamOaIdeal.τ).loc Cert.AdamOaIdeal.main_v0_2) = v2 c
          ∧ r.2.mem ((c.tc : Thread Cert.AdamOaIdeal.nD Cert.AdamOaIdeal.τ).loc Cert.AdamOaIdeal.main_v0_3) = v3 c
          ∧ r.2.mem ((c.tc : Thread Cert.AdamOaIdeal.nD Cert.AdamOaIdeal.τ).loc Cert.AdamOaIdeal.main_arg0) = m ((c.tc : Thread Cert.AdamOaIdeal.nD Cert.AdamOaIdeal.τ).loc Cert.AdamOaIdeal.main_arg0)
          ∧ r.2.mem ((c.tc : Thread Cert.AdamOaIdeal.nD Cert.AdamOaIdeal.τ).loc Cert.AdamOaIdeal.main_arg1) = m ((c.tc : Thread Cert.AdamOaIdeal.nD Cert.AdamOaIdeal.τ).loc Cert.AdamOaIdeal.main_arg1)
          ∧ r.2.mem ((c.tc : Thread Cert.AdamOaIdeal.nD Cert.AdamOaIdeal.τ).loc Cert.AdamOaIdeal.main_arg2) = m ((c.tc : Thread Cert.AdamOaIdeal.nD Cert.AdamOaIdeal.τ).loc Cert.AdamOaIdeal.main_arg2)
          ∧ r.2.mem ((c.tc : Thread Cert.AdamOaIdeal.nD Cert.AdamOaIdeal.τ).loc Cert.AdamOaIdeal.main_arg3) = m ((c.tc : Thread Cert.AdamOaIdeal.nD Cert.AdamOaIdeal.τ).loc Cert.AdamOaIdeal.main_arg3))
      ∧ θ_run (Cert.AdamOaRefIdeal.defs (F := Ideal)) (onTc (τ := Cert.AdamOaRefIdeal.τ) (Cert.AdamOaRefIdeal.main (F := Ideal))) ⟨m', fun _ => 0, g'⟩ (fun r => ∀ c : Dev Cert.AdamOaRefIdeal.nD,
          r.2.mem ((c.tc : Thread Cert.AdamOaRefIdeal.nD Cert.AdamOaRefIdeal.τ).loc Cert.AdamOaRefIdeal.main_v23) = v0 c
          ∧ r.2.mem ((c.tc : Thread Cert.AdamOaRefIdeal.nD Cert.AdamOaRefIdeal.τ).loc Cert.AdamOaRefIdeal.main_v4) = v1 c
          ∧ r.2.mem ((c.tc : Thread Cert.AdamOaRefIdeal.nD Cert.AdamOaRefIdeal.τ).loc Cert.AdamOaRefIdeal.main_v10) = v2 c
          ∧ r.2.mem ((c.tc : Thread Cert.AdamOaRefIdeal.nD Cert.AdamOaRefIdeal.τ).loc Cert.AdamOaRefIdeal.main_arg1) = v3 c
          ∧ r.2.mem ((c.tc : Thread Cert.AdamOaRefIdeal.nD Cert.AdamOaRefIdeal.τ).loc Cert.AdamOaRefIdeal.main_arg0) = m' ((c.tc : Thread Cert.AdamOaRefIdeal.nD Cert.AdamOaRefIdeal.τ).loc Cert.AdamOaRefIdeal.main_arg0)
          ∧ r.2.mem ((c.tc : Thread Cert.AdamOaRefIdeal.nD Cert.AdamOaRefIdeal.τ).loc Cert.AdamOaRefIdeal.main_arg1) = m' ((c.tc : Thread Cert.AdamOaRefIdeal.nD Cert.AdamOaRefIdeal.τ).loc Cert.AdamOaRefIdeal.main_arg1)
          ∧ r.2.mem ((c.tc : Thread Cert.AdamOaRefIdeal.nD Cert.AdamOaRefIdeal.τ).loc Cert.AdamOaRefIdeal.main_arg2) = m' ((c.tc : Thread Cert.AdamOaRefIdeal.nD Cert.AdamOaRefIdeal.τ).loc Cert.AdamOaRefIdeal.main_arg2)
          ∧ r.2.mem ((c.tc : Thread Cert.AdamOaRefIdeal.nD Cert.AdamOaRefIdeal.τ).loc Cert.AdamOaRefIdeal.main_arg3) = m' ((c.tc : Thread Cert.AdamOaRefIdeal.nD Cert.AdamOaRefIdeal.τ).loc Cert.AdamOaRefIdeal.main_arg3))

def preserves_AdamOb_AdamObIdeal : Prop :=
  True

def algebraic_AdamObIdeal_AdamObRefIdeal [hAdamObIdeal : Cert.AdamObIdeal.Facts] [hAdamObRefIdeal : Cert.AdamObRefIdeal.Facts] : Prop :=
  ∀ (m : (ℓ : Loc Cert.AdamObIdeal.nD Cert.AdamObIdeal.τ Cert.AdamObIdeal.sig) → Buf (Elt Ideal) ℓ) (g : Dev Cert.AdamObIdeal.nD → PrngReg)
    (m' : (ℓ : Loc Cert.AdamObRefIdeal.nD Cert.AdamObRefIdeal.τ Cert.AdamObRefIdeal.sig) → Buf (Elt Ideal) ℓ) (g' : Dev Cert.AdamObRefIdeal.nD → PrngReg), Pre_AdamObIdeal m →
    (∀ c : Dev Cert.AdamObIdeal.nD,
      m' ((c.tc : Thread Cert.AdamObRefIdeal.nD Cert.AdamObRefIdeal.τ).loc Cert.AdamObRefIdeal.main_arg0) = m ((c.tc : Thread Cert.AdamObIdeal.nD Cert.AdamObIdeal.τ).loc Cert.AdamObIdeal.main_arg0)
      ∧ m' ((c.tc : Thread Cert.AdamObRefIdeal.nD Cert.AdamObRefIdeal.τ).loc Cert.AdamObRefIdeal.main_arg1) = m ((c.tc : Thread Cert.AdamObIdeal.nD Cert.AdamObIdeal.τ).loc Cert.AdamObIdeal.main_arg1)
      ∧ m' ((c.tc : Thread Cert.AdamObRefIdeal.nD Cert.AdamObRefIdeal.τ).loc Cert.AdamObRefIdeal.main_arg2) = m ((c.tc : Thread Cert.AdamObIdeal.nD Cert.AdamObIdeal.τ).loc Cert.AdamObIdeal.main_arg2)
      ∧ m' ((c.tc : Thread Cert.AdamObRefIdeal.nD Cert.AdamObRefIdeal.τ).loc Cert.AdamObRefIdeal.main_arg3) = m ((c.tc : Thread Cert.AdamObIdeal.nD Cert.AdamObIdeal.τ).loc Cert.AdamObIdeal.main_arg3)) →
    ∃ (v0 : (c : Dev Cert.AdamObIdeal.nD) → Buf (Elt Ideal) ((c.tc : Thread Cert.AdamObIdeal.nD Cert.AdamObIdeal.τ).loc Cert.AdamObIdeal.main_v0_0)) (v1 : (c : Dev Cert.AdamObIdeal.nD) → Buf (Elt Ideal) ((c.tc : Thread Cert.AdamObIdeal.nD Cert.AdamObIdeal.τ).loc Cert.AdamObIdeal.main_v0_1)) (v2 : (c : Dev Cert.AdamObIdeal.nD) → Buf (Elt Ideal) ((c.tc : Thread Cert.AdamObIdeal.nD Cert.AdamObIdeal.τ).loc Cert.AdamObIdeal.main_v0_2)) (v3 : (c : Dev Cert.AdamObIdeal.nD) → Buf (Elt Ideal) ((c.tc : Thread Cert.AdamObIdeal.nD Cert.AdamObIdeal.τ).loc Cert.AdamObIdeal.main_v0_3)),
      θ_run (Cert.AdamObIdeal.defs (F := Ideal)) (onTc (τ := Cert.AdamObIdeal.τ) (Cert.AdamObIdeal.main (F := Ideal))) ⟨m, fun _ => 0, g⟩ (fun r => ∀ c : Dev Cert.AdamObIdeal.nD,
          r.2.mem ((c.tc : Thread Cert.AdamObIdeal.nD Cert.AdamObIdeal.τ).loc Cert.AdamObIdeal.main_v0_0) = v0 c
          ∧ r.2.mem ((c.tc : Thread Cert.AdamObIdeal.nD Cert.AdamObIdeal.τ).loc Cert.AdamObIdeal.main_v0_1) = v1 c
          ∧ r.2.mem ((c.tc : Thread Cert.AdamObIdeal.nD Cert.AdamObIdeal.τ).loc Cert.AdamObIdeal.main_v0_2) = v2 c
          ∧ r.2.mem ((c.tc : Thread Cert.AdamObIdeal.nD Cert.AdamObIdeal.τ).loc Cert.AdamObIdeal.main_v0_3) = v3 c
          ∧ r.2.mem ((c.tc : Thread Cert.AdamObIdeal.nD Cert.AdamObIdeal.τ).loc Cert.AdamObIdeal.main_arg0) = m ((c.tc : Thread Cert.AdamObIdeal.nD Cert.AdamObIdeal.τ).loc Cert.AdamObIdeal.main_arg0)
          ∧ r.2.mem ((c.tc : Thread Cert.AdamObIdeal.nD Cert.AdamObIdeal.τ).loc Cert.AdamObIdeal.main_arg1) = m ((c.tc : Thread Cert.AdamObIdeal.nD Cert.AdamObIdeal.τ).loc Cert.AdamObIdeal.main_arg1)
          ∧ r.2.mem ((c.tc : Thread Cert.AdamObIdeal.nD Cert.AdamObIdeal.τ).loc Cert.AdamObIdeal.main_arg2) = m ((c.tc : Thread Cert.AdamObIdeal.nD Cert.AdamObIdeal.τ).loc Cert.AdamObIdeal.main_arg2)
          ∧ r.2.mem ((c.tc : Thread Cert.AdamObIdeal.nD Cert.AdamObIdeal.τ).loc Cert.AdamObIdeal.main_arg3) = m ((c.tc : Thread Cert.AdamObIdeal.nD Cert.AdamObIdeal.τ).loc Cert.AdamObIdeal.main_arg3))
      ∧ θ_run (Cert.AdamObRefIdeal.defs (F := Ideal)) (onTc (τ := Cert.AdamObRefIdeal.τ) (Cert.AdamObRefIdeal.main (F := Ideal))) ⟨m', fun _ => 0, g'⟩ (fun r => ∀ c : Dev Cert.AdamObRefIdeal.nD,
          r.2.mem ((c.tc : Thread Cert.AdamObRefIdeal.nD Cert.AdamObRefIdeal.τ).loc Cert.AdamObRefIdeal.main_v23) = v0 c
          ∧ r.2.mem ((c.tc : Thread Cert.AdamObRefIdeal.nD Cert.AdamObRefIdeal.τ).loc Cert.AdamObRefIdeal.main_v4) = v1 c
          ∧ r.2.mem ((c.tc : Thread Cert.AdamObRefIdeal.nD Cert.AdamObRefIdeal.τ).loc Cert.AdamObRefIdeal.main_v10) = v2 c
          ∧ r.2.mem ((c.tc : Thread Cert.AdamObRefIdeal.nD Cert.AdamObRefIdeal.τ).loc Cert.AdamObRefIdeal.main_arg1) = v3 c
          ∧ r.2.mem ((c.tc : Thread Cert.AdamObRefIdeal.nD Cert.AdamObRefIdeal.τ).loc Cert.AdamObRefIdeal.main_arg0) = m' ((c.tc : Thread Cert.AdamObRefIdeal.nD Cert.AdamObRefIdeal.τ).loc Cert.AdamObRefIdeal.main_arg0)
          ∧ r.2.mem ((c.tc : Thread Cert.AdamObRefIdeal.nD Cert.AdamObRefIdeal.τ).loc Cert.AdamObRefIdeal.main_arg1) = m' ((c.tc : Thread Cert.AdamObRefIdeal.nD Cert.AdamObRefIdeal.τ).loc Cert.AdamObRefIdeal.main_arg1)
          ∧ r.2.mem ((c.tc : Thread Cert.AdamObRefIdeal.nD Cert.AdamObRefIdeal.τ).loc Cert.AdamObRefIdeal.main_arg2) = m' ((c.tc : Thread Cert.AdamObRefIdeal.nD Cert.AdamObRefIdeal.τ).loc Cert.AdamObRefIdeal.main_arg2)
          ∧ r.2.mem ((c.tc : Thread Cert.AdamObRefIdeal.nD Cert.AdamObRefIdeal.τ).loc Cert.AdamObRefIdeal.main_arg3) = m' ((c.tc : Thread Cert.AdamObRefIdeal.nD Cert.AdamObRefIdeal.τ).loc Cert.AdamObRefIdeal.main_arg3))

def preserves_AdamPle_AdamPleIdeal : Prop :=
  True

def algebraic_AdamPleIdeal_AdamPleRefIdeal [hAdamPleIdeal : Cert.AdamPleIdeal.Facts] [hAdamPleRefIdeal : Cert.AdamPleRefIdeal.Facts] : Prop :=
  ∀ (m : (ℓ : Loc Cert.AdamPleIdeal.nD Cert.AdamPleIdeal.τ Cert.AdamPleIdeal.sig) → Buf (Elt Ideal) ℓ) (g : Dev Cert.AdamPleIdeal.nD → PrngReg)
    (m' : (ℓ : Loc Cert.AdamPleRefIdeal.nD Cert.AdamPleRefIdeal.τ Cert.AdamPleRefIdeal.sig) → Buf (Elt Ideal) ℓ) (g' : Dev Cert.AdamPleRefIdeal.nD → PrngReg), Pre_AdamPleIdeal m →
    (∀ c : Dev Cert.AdamPleIdeal.nD,
      m' ((c.tc : Thread Cert.AdamPleRefIdeal.nD Cert.AdamPleRefIdeal.τ).loc Cert.AdamPleRefIdeal.main_arg0) = m ((c.tc : Thread Cert.AdamPleIdeal.nD Cert.AdamPleIdeal.τ).loc Cert.AdamPleIdeal.main_arg0)
      ∧ m' ((c.tc : Thread Cert.AdamPleRefIdeal.nD Cert.AdamPleRefIdeal.τ).loc Cert.AdamPleRefIdeal.main_arg1) = m ((c.tc : Thread Cert.AdamPleIdeal.nD Cert.AdamPleIdeal.τ).loc Cert.AdamPleIdeal.main_arg1)
      ∧ m' ((c.tc : Thread Cert.AdamPleRefIdeal.nD Cert.AdamPleRefIdeal.τ).loc Cert.AdamPleRefIdeal.main_arg2) = m ((c.tc : Thread Cert.AdamPleIdeal.nD Cert.AdamPleIdeal.τ).loc Cert.AdamPleIdeal.main_arg2)
      ∧ m' ((c.tc : Thread Cert.AdamPleRefIdeal.nD Cert.AdamPleRefIdeal.τ).loc Cert.AdamPleRefIdeal.main_arg3) = m ((c.tc : Thread Cert.AdamPleIdeal.nD Cert.AdamPleIdeal.τ).loc Cert.AdamPleIdeal.main_arg3)) →
    ∃ (v0 : (c : Dev Cert.AdamPleIdeal.nD) → Buf (Elt Ideal) ((c.tc : Thread Cert.AdamPleIdeal.nD Cert.AdamPleIdeal.τ).loc Cert.AdamPleIdeal.main_v0_0)) (v1 : (c : Dev Cert.AdamPleIdeal.nD) → Buf (Elt Ideal) ((c.tc : Thread Cert.AdamPleIdeal.nD Cert.AdamPleIdeal.τ).loc Cert.AdamPleIdeal.main_v0_1)) (v2 : (c : Dev Cert.AdamPleIdeal.nD) → Buf (Elt Ideal) ((c.tc : Thread Cert.AdamPleIdeal.nD Cert.AdamPleIdeal.τ).loc Cert.AdamPleIdeal.main_v0_2)) (v3 : (c : Dev Cert.AdamPleIdeal.nD) → Buf (Elt Ideal) ((c.tc : Thread Cert.AdamPleIdeal.nD Cert.AdamPleIdeal.τ).loc Cert.AdamPleIdeal.main_v0_3)),
      θ_run (Cert.AdamPleIdeal.defs (F := Ideal)) (onTc (τ := Cert.AdamPleIdeal.τ) (Cert.AdamPleIdeal.main (F := Ideal))) ⟨m, fun _ => 0, g⟩ (fun r => ∀ c : Dev Cert.AdamPleIdeal.nD,
          r.2.mem ((c.tc : Thread Cert.AdamPleIdeal.nD Cert.AdamPleIdeal.τ).loc Cert.AdamPleIdeal.main_v0_0) = v0 c
          ∧ r.2.mem ((c.tc : Thread Cert.AdamPleIdeal.nD Cert.AdamPleIdeal.τ).loc Cert.AdamPleIdeal.main_v0_1) = v1 c
          ∧ r.2.mem ((c.tc : Thread Cert.AdamPleIdeal.nD Cert.AdamPleIdeal.τ).loc Cert.AdamPleIdeal.main_v0_2) = v2 c
          ∧ r.2.mem ((c.tc : Thread Cert.AdamPleIdeal.nD Cert.AdamPleIdeal.τ).loc Cert.AdamPleIdeal.main_v0_3) = v3 c
          ∧ r.2.mem ((c.tc : Thread Cert.AdamPleIdeal.nD Cert.AdamPleIdeal.τ).loc Cert.AdamPleIdeal.main_arg0) = m ((c.tc : Thread Cert.AdamPleIdeal.nD Cert.AdamPleIdeal.τ).loc Cert.AdamPleIdeal.main_arg0)
          ∧ r.2.mem ((c.tc : Thread Cert.AdamPleIdeal.nD Cert.AdamPleIdeal.τ).loc Cert.AdamPleIdeal.main_arg1) = m ((c.tc : Thread Cert.AdamPleIdeal.nD Cert.AdamPleIdeal.τ).loc Cert.AdamPleIdeal.main_arg1)
          ∧ r.2.mem ((c.tc : Thread Cert.AdamPleIdeal.nD Cert.AdamPleIdeal.τ).loc Cert.AdamPleIdeal.main_arg2) = m ((c.tc : Thread Cert.AdamPleIdeal.nD Cert.AdamPleIdeal.τ).loc Cert.AdamPleIdeal.main_arg2)
          ∧ r.2.mem ((c.tc : Thread Cert.AdamPleIdeal.nD Cert.AdamPleIdeal.τ).loc Cert.AdamPleIdeal.main_arg3) = m ((c.tc : Thread Cert.AdamPleIdeal.nD Cert.AdamPleIdeal.τ).loc Cert.AdamPleIdeal.main_arg3))
      ∧ θ_run (Cert.AdamPleRefIdeal.defs (F := Ideal)) (onTc (τ := Cert.AdamPleRefIdeal.τ) (Cert.AdamPleRefIdeal.main (F := Ideal))) ⟨m', fun _ => 0, g'⟩ (fun r => ∀ c : Dev Cert.AdamPleRefIdeal.nD,
          r.2.mem ((c.tc : Thread Cert.AdamPleRefIdeal.nD Cert.AdamPleRefIdeal.τ).loc Cert.AdamPleRefIdeal.main_v23) = v0 c
          ∧ r.2.mem ((c.tc : Thread Cert.AdamPleRefIdeal.nD Cert.AdamPleRefIdeal.τ).loc Cert.AdamPleRefIdeal.main_v4) = v1 c
          ∧ r.2.mem ((c.tc : Thread Cert.AdamPleRefIdeal.nD Cert.AdamPleRefIdeal.τ).loc Cert.AdamPleRefIdeal.main_v10) = v2 c
          ∧ r.2.mem ((c.tc : Thread Cert.AdamPleRefIdeal.nD Cert.AdamPleRefIdeal.τ).loc Cert.AdamPleRefIdeal.main_arg1) = v3 c
          ∧ r.2.mem ((c.tc : Thread Cert.AdamPleRefIdeal.nD Cert.AdamPleRefIdeal.τ).loc Cert.AdamPleRefIdeal.main_arg0) = m' ((c.tc : Thread Cert.AdamPleRefIdeal.nD Cert.AdamPleRefIdeal.τ).loc Cert.AdamPleRefIdeal.main_arg0)
          ∧ r.2.mem ((c.tc : Thread Cert.AdamPleRefIdeal.nD Cert.AdamPleRefIdeal.τ).loc Cert.AdamPleRefIdeal.main_arg1) = m' ((c.tc : Thread Cert.AdamPleRefIdeal.nD Cert.AdamPleRefIdeal.τ).loc Cert.AdamPleRefIdeal.main_arg1)
          ∧ r.2.mem ((c.tc : Thread Cert.AdamPleRefIdeal.nD Cert.AdamPleRefIdeal.τ).loc Cert.AdamPleRefIdeal.main_arg2) = m' ((c.tc : Thread Cert.AdamPleRefIdeal.nD Cert.AdamPleRefIdeal.τ).loc Cert.AdamPleRefIdeal.main_arg2)
          ∧ r.2.mem ((c.tc : Thread Cert.AdamPleRefIdeal.nD Cert.AdamPleRefIdeal.τ).loc Cert.AdamPleRefIdeal.main_arg3) = m' ((c.tc : Thread Cert.AdamPleRefIdeal.nD Cert.AdamPleRefIdeal.τ).loc Cert.AdamPleRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg1) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg1) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamPg_AdamPgIdeal : Prop :=
  True

def algebraic_AdamPgIdeal_AdamPgRefIdeal [hAdamPgIdeal : Cert.AdamPgIdeal.Facts] [hAdamPgRefIdeal : Cert.AdamPgRefIdeal.Facts] : Prop :=
  ∀ (m : (ℓ : Loc Cert.AdamPgIdeal.nD Cert.AdamPgIdeal.τ Cert.AdamPgIdeal.sig) → Buf (Elt Ideal) ℓ) (g : Dev Cert.AdamPgIdeal.nD → PrngReg)
    (m' : (ℓ : Loc Cert.AdamPgRefIdeal.nD Cert.AdamPgRefIdeal.τ Cert.AdamPgRefIdeal.sig) → Buf (Elt Ideal) ℓ) (g' : Dev Cert.AdamPgRefIdeal.nD → PrngReg), Pre_AdamPgIdeal m →
    (∀ c : Dev Cert.AdamPgIdeal.nD,
      m' ((c.tc : Thread Cert.AdamPgRefIdeal.nD Cert.AdamPgRefIdeal.τ).loc Cert.AdamPgRefIdeal.main_arg0) = m ((c.tc : Thread Cert.AdamPgIdeal.nD Cert.AdamPgIdeal.τ).loc Cert.AdamPgIdeal.main_arg0)
      ∧ m' ((c.tc : Thread Cert.AdamPgRefIdeal.nD Cert.AdamPgRefIdeal.τ).loc Cert.AdamPgRefIdeal.main_arg1) = m ((c.tc : Thread Cert.AdamPgIdeal.nD Cert.AdamPgIdeal.τ).loc Cert.AdamPgIdeal.main_arg1)
      ∧ m' ((c.tc : Thread Cert.AdamPgRefIdeal.nD Cert.AdamPgRefIdeal.τ).loc Cert.AdamPgRefIdeal.main_arg2) = m ((c.tc : Thread Cert.AdamPgIdeal.nD Cert.AdamPgIdeal.τ).loc Cert.AdamPgIdeal.main_arg2)
      ∧ m' ((c.tc : Thread Cert.AdamPgRefIdeal.nD Cert.AdamPgRefIdeal.τ).loc Cert.AdamPgRefIdeal.main_arg3) = m ((c.tc : Thread Cert.AdamPgIdeal.nD Cert.AdamPgIdeal.τ).loc Cert.AdamPgIdeal.main_arg3)) →
    ∃ (v0 : (c : Dev Cert.AdamPgIdeal.nD) → Buf (Elt Ideal) ((c.tc : Thread Cert.AdamPgIdeal.nD Cert.AdamPgIdeal.τ).loc Cert.AdamPgIdeal.main_v0_0)) (v1 : (c : Dev Cert.AdamPgIdeal.nD) → Buf (Elt Ideal) ((c.tc : Thread Cert.AdamPgIdeal.nD Cert.AdamPgIdeal.τ).loc Cert.AdamPgIdeal.main_v0_1)) (v2 : (c : Dev Cert.AdamPgIdeal.nD) → Buf (Elt Ideal) ((c.tc : Thread Cert.AdamPgIdeal.nD Cert.AdamPgIdeal.τ).loc Cert.AdamPgIdeal.main_v0_2)) (v3 : (c : Dev Cert.AdamPgIdeal.nD) → Buf (Elt Ideal) ((c.tc : Thread Cert.AdamPgIdeal.nD Cert.AdamPgIdeal.τ).loc Cert.AdamPgIdeal.main_v0_3)),
      θ_run (Cert.AdamPgIdeal.defs (F := Ideal)) (onTc (τ := Cert.AdamPgIdeal.τ) (Cert.AdamPgIdeal.main (F := Ideal))) ⟨m, fun _ => 0, g⟩ (fun r => ∀ c : Dev Cert.AdamPgIdeal.nD,
          r.2.mem ((c.tc : Thread Cert.AdamPgIdeal.nD Cert.AdamPgIdeal.τ).loc Cert.AdamPgIdeal.main_v0_0) = v0 c
          ∧ r.2.mem ((c.tc : Thread Cert.AdamPgIdeal.nD Cert.AdamPgIdeal.τ).loc Cert.AdamPgIdeal.main_v0_1) = v1 c
          ∧ r.2.mem ((c.tc : Thread Cert.AdamPgIdeal.nD Cert.AdamPgIdeal.τ).loc Cert.AdamPgIdeal.main_v0_2) = v2 c
          ∧ r.2.mem ((c.tc : Thread Cert.AdamPgIdeal.nD Cert.AdamPgIdeal.τ).loc Cert.AdamPgIdeal.main_v0_3) = v3 c
          ∧ r.2.mem ((c.tc : Thread Cert.AdamPgIdeal.nD Cert.AdamPgIdeal.τ).loc Cert.AdamPgIdeal.main_arg0) = m ((c.tc : Thread Cert.AdamPgIdeal.nD Cert.AdamPgIdeal.τ).loc Cert.AdamPgIdeal.main_arg0)
          ∧ r.2.mem ((c.tc : Thread Cert.AdamPgIdeal.nD Cert.AdamPgIdeal.τ).loc Cert.AdamPgIdeal.main_arg1) = m ((c.tc : Thread Cert.AdamPgIdeal.nD Cert.AdamPgIdeal.τ).loc Cert.AdamPgIdeal.main_arg1)
          ∧ r.2.mem ((c.tc : Thread Cert.AdamPgIdeal.nD Cert.AdamPgIdeal.τ).loc Cert.AdamPgIdeal.main_arg2) = m ((c.tc : Thread Cert.AdamPgIdeal.nD Cert.AdamPgIdeal.τ).loc Cert.AdamPgIdeal.main_arg2)
          ∧ r.2.mem ((c.tc : Thread Cert.AdamPgIdeal.nD Cert.AdamPgIdeal.τ).loc Cert.AdamPgIdeal.main_arg3) = m ((c.tc : Thread Cert.AdamPgIdeal.nD Cert.AdamPgIdeal.τ).loc Cert.AdamPgIdeal.main_arg3))
      ∧ θ_run (Cert.AdamPgRefIdeal.defs (F := Ideal)) (onTc (τ := Cert.AdamPgRefIdeal.τ) (Cert.AdamPgRefIdeal.main (F := Ideal))) ⟨m', fun _ => 0, g'⟩ (fun r => ∀ c : Dev Cert.AdamPgRefIdeal.nD,
          r.2.mem ((c.tc : Thread Cert.AdamPgRefIdeal.nD Cert.AdamPgRefIdeal.τ).loc Cert.AdamPgRefIdeal.main_v23) = v0 c
          ∧ r.2.mem ((c.tc : Thread Cert.AdamPgRefIdeal.nD Cert.AdamPgRefIdeal.τ).loc Cert.AdamPgRefIdeal.main_v4) = v1 c
          ∧ r.2.mem ((c.tc : Thread Cert.AdamPgRefIdeal.nD Cert.AdamPgRefIdeal.τ).loc Cert.AdamPgRefIdeal.main_v10) = v2 c
          ∧ r.2.mem ((c.tc : Thread Cert.AdamPgRefIdeal.nD Cert.AdamPgRefIdeal.τ).loc Cert.AdamPgRefIdeal.main_arg1) = v3 c
          ∧ r.2.mem ((c.tc : Thread Cert.AdamPgRefIdeal.nD Cert.AdamPgRefIdeal.τ).loc Cert.AdamPgRefIdeal.main_arg0) = m' ((c.tc : Thread Cert.AdamPgRefIdeal.nD Cert.AdamPgRefIdeal.τ).loc Cert.AdamPgRefIdeal.main_arg0)
          ∧ r.2.mem ((c.tc : Thread Cert.AdamPgRefIdeal.nD Cert.AdamPgRefIdeal.τ).loc Cert.AdamPgRefIdeal.main_arg1) = m' ((c.tc : Thread Cert.AdamPgRefIdeal.nD Cert.AdamPgRefIdeal.τ).loc Cert.AdamPgRefIdeal.main_arg1)
          ∧ r.2.mem ((c.tc : Thread Cert.AdamPgRefIdeal.nD Cert.AdamPgRefIdeal.τ).loc Cert.AdamPgRefIdeal.main_arg2) = m' ((c.tc : Thread Cert.AdamPgRefIdeal.nD Cert.AdamPgRefIdeal.τ).loc Cert.AdamPgRefIdeal.main_arg2)
          ∧ r.2.mem ((c.tc : Thread Cert.AdamPgRefIdeal.nD Cert.AdamPgRefIdeal.τ).loc Cert.AdamPgRefIdeal.main_arg3) = m' ((c.tc : Thread Cert.AdamPgRefIdeal.nD Cert.AdamPgRefIdeal.τ).loc Cert.AdamPgRefIdeal.main_arg3))

def Claim : Prop :=
  ∃ (hKernel : Cert.Kernel.Facts) (hKernelIdeal : Cert.KernelIdeal.Facts) (hReferenceIdeal : Cert.ReferenceIdeal.Facts) (hProjWeight : Cert.ProjWeight.Facts) (hProjWeightIdeal : Cert.ProjWeightIdeal.Facts) (hProjWeightRefIdeal : Cert.ProjWeightRefIdeal.Facts) (hProjInput : Cert.ProjInput.Facts) (hProjInputIdeal : Cert.ProjInputIdeal.Facts) (hProjInputRefIdeal : Cert.ProjInputRefIdeal.Facts) (hPreNorm : Cert.PreNorm.Facts) (hPreNormIdeal : Cert.PreNormIdeal.Facts) (hPreNormRefIdeal : Cert.PreNormRefIdeal.Facts) (hPleNorm : Cert.PleNorm.Facts) (hPleNormIdeal : Cert.PleNormIdeal.Facts) (hPleNormRefIdeal : Cert.PleNormRefIdeal.Facts) (hGateWeight : Cert.GateWeight.Facts) (hGateWeightIdeal : Cert.GateWeightIdeal.Facts) (hGateWeightRefIdeal : Cert.GateWeightRefIdeal.Facts) (hOutAWeight : Cert.OutAWeight.Facts) (hOutAWeightIdeal : Cert.OutAWeightIdeal.Facts) (hOutAWeightRefIdeal : Cert.OutAWeightRefIdeal.Facts) (hOutBWeight : Cert.OutBWeight.Facts) (hOutBWeightIdeal : Cert.OutBWeightIdeal.Facts) (hOutBWeightRefIdeal : Cert.OutBWeightRefIdeal.Facts) (hMergeWeight : Cert.MergeWeight.Facts) (hMergeWeightIdeal : Cert.MergeWeightIdeal.Facts) (hMergeWeightRefIdeal : Cert.MergeWeightRefIdeal.Facts) (hStepWeight : Cert.StepWeight.Facts) (hStepWeightIdeal : Cert.StepWeightIdeal.Facts) (hStepWeightRefIdeal : Cert.StepWeightRefIdeal.Facts) (hEmbedWeight : Cert.EmbedWeight.Facts) (hEmbedWeightIdeal : Cert.EmbedWeightIdeal.Facts) (hEmbedWeightRefIdeal : Cert.EmbedWeightRefIdeal.Facts) (hProj : Cert.Proj.Facts) (hProjIdeal : Cert.ProjIdeal.Facts) (hProjRefIdeal : Cert.ProjRefIdeal.Facts) (hOutProj : Cert.OutProj.Facts) (hOutProjIdeal : Cert.OutProjIdeal.Facts) (hOutProjRefIdeal : Cert.OutProjRefIdeal.Facts) (hConvAct : Cert.ConvAct.Facts) (hConvActIdeal : Cert.ConvActIdeal.Facts) (hConvActRefIdeal : Cert.ConvActRefIdeal.Facts) (hGroupNorm : Cert.GroupNorm.Facts) (hGroupNormIdeal : Cert.GroupNormIdeal.Facts) (hGroupNormRefIdeal : Cert.GroupNormRefIdeal.Facts) (hConv : Cert.Conv.Facts) (hConvIdeal : Cert.ConvIdeal.Facts) (hConvRefIdeal : Cert.ConvRefIdeal.Facts) (hAdamOa : Cert.AdamOa.Facts) (hAdamOaIdeal : Cert.AdamOaIdeal.Facts) (hAdamOaRefIdeal : Cert.AdamOaRefIdeal.Facts) (hAdamOb : Cert.AdamOb.Facts) (hAdamObIdeal : Cert.AdamObIdeal.Facts) (hAdamObRefIdeal : Cert.AdamObRefIdeal.Facts) (hAdamPle : Cert.AdamPle.Facts) (hAdamPleIdeal : Cert.AdamPleIdeal.Facts) (hAdamPleRefIdeal : Cert.AdamPleRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamPg : Cert.AdamPg.Facts) (hAdamPgIdeal : Cert.AdamPgIdeal.Facts) (hAdamPgRefIdeal : Cert.AdamPgRefIdeal.Facts) (hPre_finite_cotangents : Cert.Pre_finite_cotangents.Facts),
    quiescent_Kernel (hKernel := hKernel)
    ∧ quiescent_KernelIdeal (hKernelIdeal := hKernelIdeal)
    ∧ quiescent_ReferenceIdeal (hReferenceIdeal := hReferenceIdeal)
    ∧ quiescent_ProjWeight (hProjWeight := hProjWeight)
    ∧ quiescent_ProjWeightIdeal (hProjWeightIdeal := hProjWeightIdeal)
    ∧ quiescent_ProjWeightRefIdeal (hProjWeightRefIdeal := hProjWeightRefIdeal)
    ∧ quiescent_ProjInput (hProjInput := hProjInput)
    ∧ quiescent_ProjInputIdeal (hProjInputIdeal := hProjInputIdeal)
    ∧ quiescent_ProjInputRefIdeal (hProjInputRefIdeal := hProjInputRefIdeal)
    ∧ quiescent_PreNorm (hPreNorm := hPreNorm)
    ∧ quiescent_PreNormIdeal (hPreNormIdeal := hPreNormIdeal)
    ∧ quiescent_PreNormRefIdeal (hPreNormRefIdeal := hPreNormRefIdeal)
    ∧ quiescent_PleNorm (hPleNorm := hPleNorm)
    ∧ quiescent_PleNormIdeal (hPleNormIdeal := hPleNormIdeal)
    ∧ quiescent_PleNormRefIdeal (hPleNormRefIdeal := hPleNormRefIdeal)
    ∧ quiescent_GateWeight (hGateWeight := hGateWeight)
    ∧ quiescent_GateWeightIdeal (hGateWeightIdeal := hGateWeightIdeal)
    ∧ quiescent_GateWeightRefIdeal (hGateWeightRefIdeal := hGateWeightRefIdeal)
    ∧ quiescent_OutAWeight (hOutAWeight := hOutAWeight)
    ∧ quiescent_OutAWeightIdeal (hOutAWeightIdeal := hOutAWeightIdeal)
    ∧ quiescent_OutAWeightRefIdeal (hOutAWeightRefIdeal := hOutAWeightRefIdeal)
    ∧ quiescent_OutBWeight (hOutBWeight := hOutBWeight)
    ∧ quiescent_OutBWeightIdeal (hOutBWeightIdeal := hOutBWeightIdeal)
    ∧ quiescent_OutBWeightRefIdeal (hOutBWeightRefIdeal := hOutBWeightRefIdeal)
    ∧ quiescent_MergeWeight (hMergeWeight := hMergeWeight)
    ∧ quiescent_MergeWeightIdeal (hMergeWeightIdeal := hMergeWeightIdeal)
    ∧ quiescent_MergeWeightRefIdeal (hMergeWeightRefIdeal := hMergeWeightRefIdeal)
    ∧ quiescent_StepWeight (hStepWeight := hStepWeight)
    ∧ quiescent_StepWeightIdeal (hStepWeightIdeal := hStepWeightIdeal)
    ∧ quiescent_StepWeightRefIdeal (hStepWeightRefIdeal := hStepWeightRefIdeal)
    ∧ quiescent_EmbedWeight (hEmbedWeight := hEmbedWeight)
    ∧ quiescent_EmbedWeightIdeal (hEmbedWeightIdeal := hEmbedWeightIdeal)
    ∧ quiescent_EmbedWeightRefIdeal (hEmbedWeightRefIdeal := hEmbedWeightRefIdeal)
    ∧ quiescent_Proj (hProj := hProj)
    ∧ quiescent_ProjIdeal (hProjIdeal := hProjIdeal)
    ∧ quiescent_ProjRefIdeal (hProjRefIdeal := hProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_ConvAct (hConvAct := hConvAct)
    ∧ quiescent_ConvActIdeal (hConvActIdeal := hConvActIdeal)
    ∧ quiescent_ConvActIdeal_pre_finite_cotangents (hConvActIdeal := hConvActIdeal) (hPre_finite_cotangents := hPre_finite_cotangents)
    ∧ quiescent_ConvActRefIdeal (hConvActRefIdeal := hConvActRefIdeal)
    ∧ quiescent_ConvActRefIdeal_pre_finite_cotangents (hConvActRefIdeal := hConvActRefIdeal) (hPre_finite_cotangents := hPre_finite_cotangents)
    ∧ quiescent_GroupNorm (hGroupNorm := hGroupNorm)
    ∧ quiescent_GroupNormIdeal (hGroupNormIdeal := hGroupNormIdeal)
    ∧ quiescent_GroupNormRefIdeal (hGroupNormRefIdeal := hGroupNormRefIdeal)
    ∧ quiescent_Conv (hConv := hConv)
    ∧ quiescent_ConvIdeal (hConvIdeal := hConvIdeal)
    ∧ quiescent_ConvRefIdeal (hConvRefIdeal := hConvRefIdeal)
    ∧ quiescent_AdamOa (hAdamOa := hAdamOa)
    ∧ quiescent_AdamOaIdeal (hAdamOaIdeal := hAdamOaIdeal)
    ∧ quiescent_AdamOaRefIdeal (hAdamOaRefIdeal := hAdamOaRefIdeal)
    ∧ quiescent_AdamOb (hAdamOb := hAdamOb)
    ∧ quiescent_AdamObIdeal (hAdamObIdeal := hAdamObIdeal)
    ∧ quiescent_AdamObRefIdeal (hAdamObRefIdeal := hAdamObRefIdeal)
    ∧ quiescent_AdamPle (hAdamPle := hAdamPle)
    ∧ quiescent_AdamPleIdeal (hAdamPleIdeal := hAdamPleIdeal)
    ∧ quiescent_AdamPleRefIdeal (hAdamPleRefIdeal := hAdamPleRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamPg (hAdamPg := hAdamPg)
    ∧ quiescent_AdamPgIdeal (hAdamPgIdeal := hAdamPgIdeal)
    ∧ quiescent_AdamPgRefIdeal (hAdamPgRefIdeal := hAdamPgRefIdeal)
    ∧ preserves_Kernel_KernelIdeal
    ∧ algebraic_KernelIdeal_ReferenceIdeal (hKernelIdeal := hKernelIdeal) (hReferenceIdeal := hReferenceIdeal)
    ∧ preserves_ProjWeight_ProjWeightIdeal
    ∧ algebraic_ProjWeightIdeal_ProjWeightRefIdeal (hProjWeightIdeal := hProjWeightIdeal) (hProjWeightRefIdeal := hProjWeightRefIdeal)
    ∧ preserves_ProjInput_ProjInputIdeal
    ∧ algebraic_ProjInputIdeal_ProjInputRefIdeal (hProjInputIdeal := hProjInputIdeal) (hProjInputRefIdeal := hProjInputRefIdeal)
    ∧ preserves_PreNorm_PreNormIdeal
    ∧ algebraic_PreNormIdeal_PreNormRefIdeal (hPreNormIdeal := hPreNormIdeal) (hPreNormRefIdeal := hPreNormRefIdeal)
    ∧ preserves_PleNorm_PleNormIdeal
    ∧ algebraic_PleNormIdeal_PleNormRefIdeal (hPleNormIdeal := hPleNormIdeal) (hPleNormRefIdeal := hPleNormRefIdeal)
    ∧ preserves_GateWeight_GateWeightIdeal
    ∧ algebraic_GateWeightIdeal_GateWeightRefIdeal (hGateWeightIdeal := hGateWeightIdeal) (hGateWeightRefIdeal := hGateWeightRefIdeal)
    ∧ preserves_OutAWeight_OutAWeightIdeal
    ∧ algebraic_OutAWeightIdeal_OutAWeightRefIdeal (hOutAWeightIdeal := hOutAWeightIdeal) (hOutAWeightRefIdeal := hOutAWeightRefIdeal)
    ∧ preserves_OutBWeight_OutBWeightIdeal
    ∧ algebraic_OutBWeightIdeal_OutBWeightRefIdeal (hOutBWeightIdeal := hOutBWeightIdeal) (hOutBWeightRefIdeal := hOutBWeightRefIdeal)
    ∧ preserves_MergeWeight_MergeWeightIdeal
    ∧ algebraic_MergeWeightIdeal_MergeWeightRefIdeal (hMergeWeightIdeal := hMergeWeightIdeal) (hMergeWeightRefIdeal := hMergeWeightRefIdeal)
    ∧ preserves_StepWeight_StepWeightIdeal
    ∧ algebraic_StepWeightIdeal_StepWeightRefIdeal (hStepWeightIdeal := hStepWeightIdeal) (hStepWeightRefIdeal := hStepWeightRefIdeal)
    ∧ preserves_EmbedWeight_EmbedWeightIdeal
    ∧ algebraic_EmbedWeightIdeal_EmbedWeightRefIdeal (hEmbedWeightIdeal := hEmbedWeightIdeal) (hEmbedWeightRefIdeal := hEmbedWeightRefIdeal)
    ∧ preserves_Proj_ProjIdeal
    ∧ algebraic_ProjIdeal_ProjRefIdeal (hProjIdeal := hProjIdeal) (hProjRefIdeal := hProjRefIdeal)
    ∧ preserves_OutProj_OutProjIdeal
    ∧ algebraic_OutProjIdeal_OutProjRefIdeal (hOutProjIdeal := hOutProjIdeal) (hOutProjRefIdeal := hOutProjRefIdeal)
    ∧ preserves_ConvAct_ConvActIdeal
    ∧ algebraic_ConvActIdeal_ConvActRefIdeal_pre_finite_cotangents (hConvActIdeal := hConvActIdeal) (hConvActRefIdeal := hConvActRefIdeal) (hPre_finite_cotangents := hPre_finite_cotangents)
    ∧ preserves_GroupNorm_GroupNormIdeal
    ∧ algebraic_GroupNormIdeal_GroupNormRefIdeal (hGroupNormIdeal := hGroupNormIdeal) (hGroupNormRefIdeal := hGroupNormRefIdeal)
    ∧ preserves_Conv_ConvIdeal
    ∧ algebraic_ConvIdeal_ConvRefIdeal (hConvIdeal := hConvIdeal) (hConvRefIdeal := hConvRefIdeal)
    ∧ preserves_AdamOa_AdamOaIdeal
    ∧ algebraic_AdamOaIdeal_AdamOaRefIdeal (hAdamOaIdeal := hAdamOaIdeal) (hAdamOaRefIdeal := hAdamOaRefIdeal)
    ∧ preserves_AdamOb_AdamObIdeal
    ∧ algebraic_AdamObIdeal_AdamObRefIdeal (hAdamObIdeal := hAdamObIdeal) (hAdamObRefIdeal := hAdamObRefIdeal)
    ∧ preserves_AdamPle_AdamPleIdeal
    ∧ algebraic_AdamPleIdeal_AdamPleRefIdeal (hAdamPleIdeal := hAdamPleIdeal) (hAdamPleRefIdeal := hAdamPleRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamPg_AdamPgIdeal
    ∧ algebraic_AdamPgIdeal_AdamPgRefIdeal (hAdamPgIdeal := hAdamPgIdeal) (hAdamPgRefIdeal := hAdamPgRefIdeal)
-- ==== Pre_finite_cotangents.lean ====
abbrev S8192x3072 : Shape := ⟨2, ![8192, 3072]⟩
abbrev S8192x2048 : Shape := ⟨2, ![8192, 2048]⟩
abbrev S8192x512 : Shape := ⟨2, ![8192, 512]⟩
abbrev S_ : Shape := ⟨0, ![]⟩

class Facts : Prop where
  concatenates_S8192x2048_S8192x512_S8192x512_S8192x3072_d1 : Shape.Concatenates [S8192x2048, S8192x512, S8192x512] S8192x3072 1
  bitsLt_bf16_f32 : FTy.bits .bf16 < FTy.bits .f32
  bcast_S_S8192x3072 : S_.BroadcastsInDim S8192x3072 (![] : Fin 0 → Fin S8192x3072.rank)

variable [Facts]

def fn {F : FTy → Type} [FloatOps F] (main_arg0 : FVec F S8192x3072 .bf16) (main_arg1 : FVec F S8192x2048 .bf16) (main_arg2 : FVec F S8192x512 .bf16) (main_arg3 : FVec F S8192x512 .bf16) : IVec S8192x3072 1 :=
  let main_v0 : FVec F S8192x3072 .bf16 := concatenate S8192x3072 1 [⟨S8192x2048, main_arg1⟩, ⟨S8192x512, main_arg2⟩, ⟨S8192x512, main_arg3⟩] concatenates_S8192x2048_S8192x512_S8192x512_S8192x3072_d1
  let main_v1 : FVec F S8192x3072 .f32 := (extf .f32 · bitsLt_bf16_f32) main_v0
  let main_v2 : FVec F S8192x3072 .f32 := Host.absf main_v1
  let main_cst : FVec F S_ .f32 := constant S_ .f32 0x7F800000#32
  let main_v3 : FVec F S8192x3072 .f32 := broadcastInDim S8192x3072 ![] bcast_S_S8192x3072 main_cst
  let main_v4 : IVec S8192x3072 1 := cmpf .olt main_v2 main_v3
  main_v4
-- ==== Kernel.lean ====
abbrev S8192x10240 : Shape := ⟨2, ![8192, 10240]⟩
abbrev S1x1024 : Shape := ⟨2, ![1, 1024]⟩
abbrev S4x128x128 : Shape := ⟨3, ![4, 128, 128]⟩
abbrev S4x128x1 : Shape := ⟨3, ![4, 128, 1]⟩
abbrev S8192x1024 : Shape := ⟨2, ![8192, 1024]⟩
abbrev S1024x1024 : Shape := ⟨2, ![1024, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1024 : Shape := ⟨2, ![128, 1024]⟩
abbrev S128x256 : Shape := ⟨2, ![128, 256]⟩
abbrev S1x128x1 : Shape := ⟨3, ![1, 128, 1]⟩
abbrev S128x1 : Shape := ⟨2, ![128, 1]⟩
abbrev S128 : Shape := ⟨1, ![128]⟩
abbrev S3x128x1 : Shape := ⟨3, ![3, 128, 1]⟩
abbrev S256x128 : Shape := ⟨2, ![256, 128]⟩
abbrev S128x768 : Shape := ⟨2, ![128, 768]⟩
abbrev S2x128x1 : Shape := ⟨3, ![2, 128, 1]⟩
abbrev S128x512 : Shape := ⟨2, ![128, 512]⟩
abbrev S384x1024 : Shape := ⟨2, ![384, 1024]⟩
abbrev S256x1024 : Shape := ⟨2, ![256, 1024]⟩
abbrev S3x128x128 : Shape := ⟨3, ![3, 128, 128]⟩
abbrev S2x128x128 : Shape := ⟨3, ![2, 128, 128]⟩
abbrev S1024 : Shape := ⟨1, ![1024]⟩
abbrev S512x2048 : Shape := ⟨2, ![512, 2048]⟩

abbrev nBuf : Space → Nat
  | .hbm => 13
  | .vmem => 15
  | .smem => 0
  | _ => 0

abbrev bufTy : (tb : Table) → Fin (tcTables nBuf tb) → BufTy
  | .hbm, ⟨0, _⟩ => ⟨S8192x10240, .bf16⟩
  | .hbm, ⟨1, _⟩ => ⟨S1x1024, .f32⟩
  | .hbm, ⟨2, _⟩ => ⟨S1x1024, .f32⟩
  | .hbm, ⟨3, _⟩ => ⟨S4x128x128, .f32⟩
  | .hbm, ⟨4, _⟩ => ⟨S4x128x1, .f32⟩
  | .hbm, ⟨5, _⟩ => ⟨S8192x10240, .bf16⟩
  | .hbm, ⟨6, _⟩ => ⟨S8192x1024, .bf16⟩
  | .hbm, ⟨7, _⟩ => ⟨S1024x1024, .bf16⟩
  | .hbm, ⟨8, _⟩ => ⟨S8192x10240, .bf16⟩
  | .hbm, ⟨9, _⟩ => ⟨S1x1024, .f32⟩
  | .hbm, ⟨10, _⟩ => ⟨S1x1024, .f32⟩
  | .hbm, ⟨11, _⟩ => ⟨S4x128x128, .f32⟩
  | .hbm, ⟨12, _⟩ => ⟨S4x128x1, .f32⟩
  | .local _ .vmem, ⟨0, _⟩ => ⟨S512x3072, .bf16⟩
  | .local _ .vmem, ⟨1, _⟩ => ⟨S512x3072, .bf16⟩
  | .local _ .vmem, ⟨2, _⟩ => ⟨S1x1024, .f32⟩
  | .local _ .vmem, ⟨3, _⟩ => ⟨S1x1024, .f32⟩
  | .local _ .vmem, ⟨4, _⟩ => ⟨S4x128x128, .f32⟩
  | .local _ .vmem, ⟨5, _⟩ => ⟨S4x128x1, .f32⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S512x3072, .bf16⟩
  | .local _ .vmem, ⟨10, _⟩ => ⟨S512x3072, .bf16⟩
  | .local _ .vmem, ⟨11, _⟩ => ⟨S1x1024, .f32⟩
  | .local _ .vmem, ⟨12, _⟩ => ⟨S1x1024, .f32⟩
  | .local _ .vmem, ⟨13, _⟩ => ⟨S4x128x128, .f32⟩
  | .local _ .vmem, ⟨14, _⟩ => ⟨S4x128x1, .f32⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S8192x10240 : Shape := ⟨2, ![8192, 10240]⟩
abbrev S1x1024 : Shape := ⟨2, ![1, 1024]⟩
abbrev S4x128x128 : Shape := ⟨3, ![4, 128, 128]⟩
abbrev S4x128x1 : Shape := ⟨3, ![4, 128, 1]⟩
abbrev S8192x1024 : Shape := ⟨2, ![8192, 1024]⟩
abbrev S1024x1024 : Shape := ⟨2, ![1024, 1024]⟩
abbrev S8192x3072 : Shape := ⟨2, ![8192, 3072]⟩
abbrev S1x8192x3072 : Shape := ⟨3, ![1, 8192, 3072]⟩
abbrev S1x8192x1024 : Shape := ⟨3, ![1, 8192, 1024]⟩
abbrev S1024 : Shape := ⟨1, ![1024]⟩
abbrev S4x128 : Shape := ⟨2, ![4, 128]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S128x128 : Shape := ⟨2, ![128, 128]⟩
abbrev S1x128x128 : Shape := ⟨3, ![1, 128, 128]⟩
abbrev S1x64x128x4x256 : Shape := ⟨5, ![1, 64, 128, 4, 256]⟩
abbrev S4x1x64x256x128 : Shape := ⟨5, ![4, 1, 64, 256, 128]⟩
abbrev S128x4 : Shape := ⟨2, ![128, 4]⟩
abbrev S1x1x128x4x1 : Shape := ⟨5, ![1, 1, 128, 4, 1]⟩
abbrev S1x128x4 : Shape := ⟨3, ![1, 128, 4]⟩
abbrev S8192 : Shape := ⟨1, ![8192]⟩
abbrev S8192x7168 : Shape := ⟨2, ![8192, 7168]⟩

abbrev nBuf : Space → Nat
  | .hbm => 255
  | .vmem => 0
  | .smem => 0
  | _ => 0

abbrev hbmTy0_0 (i : Nat) : BufTy := match i % 128 with
  | 0 => ⟨S8192x10240, .bf16⟩
  | 1 => ⟨S1x1024, .f32⟩
  | 2 => ⟨S1x1024, .f32⟩
  | 3 => ⟨S4x128x128, .f32⟩
  | 4 => ⟨S4x128x1, .f32⟩
  | 5 => ⟨S8192x10240, .bf16⟩
  | 6 => ⟨S8192x1024, .bf16⟩
  | 7 => ⟨S1024x1024, .bf16⟩
  | 8 => ⟨S1024x1024, .f32⟩
  | 9 => ⟨S8192x3072, .bf16⟩
  | 10 => ⟨S8192x3072, .f32⟩
  | 11 => ⟨S1x8192x3072, .f32⟩
  | 12 => ⟨S1x8192x1024, .f32⟩
  | 13 => ⟨S1x8192x1024, .f32⟩
  | 14 => ⟨S1x8192x1024, .f32⟩
  | 15 => ⟨S1024, .f32⟩
  | 16 => ⟨S1024, .f32⟩
  | 17 => ⟨S4x128, .f32⟩
  | 18 => ⟨S1x8192x1024, .f32⟩
  | 19 => ⟨S1x8192x1024, .f32⟩
  | 20 => ⟨S1x8192x1024, .f32⟩
  | 21 => ⟨S_, .f32⟩
  | 22 => ⟨S1x8192x1024, .f32⟩
  | 23 => ⟨S1x8192x1024, .f32⟩
  | 24 => ⟨S_, .f32⟩
  | 25 => ⟨S1x8192x1024, .f32⟩
  | 26 => ⟨S1x8192x1024, .f32⟩
  | 27 => ⟨S1x8192x1024, .f32⟩
  | 28 => ⟨S_, .f32⟩
  | 29 => ⟨S1x8192x1024, .f32⟩
  | 30 => ⟨S1x8192x1024, .f32⟩
  | 31 => ⟨S1x8192x1024, .f32⟩
  | 32 => ⟨S_, .f32⟩
  | 33 => ⟨S1x8192x1024, .f32⟩
  | 34 => ⟨S1x8192x1024, .f32⟩
  | 35 => ⟨S_, .f32⟩
  | 36 => ⟨S1x8192x1024, .f32⟩
  | 37 => ⟨S1x8192x1024, .f32⟩
  | 38 => ⟨S1x8192x1024, .f32⟩
  | 39 => ⟨S_, .f32⟩
  | 40 => ⟨S1x8192x1024, .f32⟩
  | 41 => ⟨S1x8192x1024, .f32⟩
  | 42 => ⟨S_, .f32⟩
  | 43 => ⟨S1x8192x1024, .f32⟩
  | 44 => ⟨S1x8192x1024, .f32⟩
  | 45 => ⟨S1x8192x1024, .f32⟩
  | 46 => ⟨S1x8192x1024, .f32⟩
  | 47 => ⟨S1x8192x1024, .f32⟩
  | 48 => ⟨S1x8192x1024, .f32⟩
  | 49 => ⟨S_, .f32⟩
  | 50 => ⟨S1x8192x1024, .f32⟩
  | 51 => ⟨S1x8192x1024, .f32⟩
  | 52 => ⟨S_, .f32⟩
  | 53 => ⟨S1x8192x1024, .f32⟩
  | 54 => ⟨S1x8192x1024, .f32⟩
  | 55 => ⟨S1x8192x1024, .f32⟩
  | 56 => ⟨S_, .f32⟩
  | 57 => ⟨S1x8192x1024, .f32⟩
  | 58 => ⟨S1x8192x1024, .f32⟩
  | 59 => ⟨S1x8192x1024, .f32⟩
  | 60 => ⟨S_, .f32⟩
  | 61 => ⟨S1x8192x1024, .f32⟩
  | 62 => ⟨S1x8192x1024, .f32⟩
  | 63 => ⟨S_, .f32⟩
  | 64 => ⟨S1x8192x1024, .f32⟩
  | 65 => ⟨S1x8192x1024, .f32⟩
  | 66 => ⟨S1x8192x1024, .f32⟩
  | 67 => ⟨S_, .f32⟩
  | 68 => ⟨S1x8192x1024, .f32⟩
  | 69 => ⟨S1x8192x1024, .f32⟩
  | 70 => ⟨S_, .f32⟩
  | 71 => ⟨S1x8192x1024, .f32⟩
  | 72 => ⟨S1x8192x1024, .f32⟩
  | 73 => ⟨S1x8192x1024, .f32⟩
  | 74 => ⟨S_, .f32⟩
  | 75 => ⟨S1x8192, .f32⟩
  | 76 => ⟨S1x8192x1, .f32⟩
  | 77 => ⟨S_, .f32⟩
  | 78 => ⟨S1x8192x1, .f32⟩
  | 79 => ⟨S1x8192x1, .f32⟩
  | 80 => ⟨S1x8192x1024, .f32⟩
  | 81 => ⟨S1x8192x1024, .f32⟩
  | 82 => ⟨S1x8192x1024, .f32⟩
  | 83 => ⟨S_, .f32⟩
  | 84 => ⟨S1x8192, .f32⟩
  | 85 => ⟨S1x8192x1, .f32⟩
  | 86 => ⟨S_, .f32⟩
  | 87 => ⟨S1x8192x1, .f32⟩
  | 88 => ⟨S1x8192x1, .f32⟩
  | 89 => ⟨S_, .f32⟩
  | 90 => ⟨S1x8192x1, .f32⟩
  | 91 => ⟨S1x8192x1, .f32⟩
  | 92 => ⟨S1x8192x1, .f32⟩
  | 93 => ⟨S1x8192x1, .f32⟩
  | 94 => ⟨S_, .f32⟩
  | 95 => ⟨S1x8192x1, .f32⟩
  | 96 => ⟨S1x8192x1, .f32⟩
  | 97 => ⟨S1x8192x1024, .f32⟩
  | 98 => ⟨S1x8192x1024, .f32⟩
  | 99 => ⟨S1x1x1024, .f32⟩
  | 100 => ⟨S1x8192x1024, .f32⟩
  | 101 => ⟨S1x8192x1024, .f32⟩
  | 102 => ⟨S1x1x1024, .f32⟩
  | 103 => ⟨S1x8192x1024, .f32⟩
  | 104 => ⟨S1x8192x1024, .f32⟩
  | 105 => ⟨S_, .i1⟩
  | 106 => ⟨S128x128, .i1⟩
  | 107 => ⟨S128x128, .i32⟩
  | 108 => ⟨S_, .i32⟩
  | 109 => ⟨S128x128, .i32⟩
  | 110 => ⟨S128x128, .i32⟩
  | 111 => ⟨S128x128, .i32⟩
  | 112 => ⟨S128x128, .i1⟩
  | 113 => ⟨S_, .i1⟩
  | 114 => ⟨S128x128, .i1⟩
  | 115 => ⟨S128x128, .i1⟩
  | 116 => ⟨S1x128x128, .i1⟩
  | 117 => ⟨S_, .f32⟩
  | 118 => ⟨S4x128x128, .f32⟩
  | 119 => ⟨S4x128x128, .i1⟩
  | 120 => ⟨S4x128x128, .f32⟩
  | 121 => ⟨S_, .f32⟩
  | 122 => ⟨S4x128x128, .f32⟩
  | 123 => ⟨S1x64x128x4x256, .f32⟩
  | 124 => ⟨S4x1x64x256x128, .f32⟩
  | 125 => ⟨S1x64x128x4x256, .f32⟩
  | 126 => ⟨S128x4, .f32⟩
  | 127 => ⟨S1x1x128x4x1, .f32⟩
  | _ => ⟨S8192x10240, .bf16⟩

abbrev hbmTy0_1 (i : Nat) : BufTy := match i % 128 with
  | 0 => ⟨S1x64x128x4x256, .f32⟩
  | 1 => ⟨S1x64x128x4x256, .f32⟩
  | 2 => ⟨S1x8192x1024, .f32⟩
  | 3 => ⟨S1x8192x1024, .f32⟩
  | 4 => ⟨S1x8192x1024, .f32⟩
  | 5 => ⟨S1x8192x1024, .f32⟩
  | 6 => ⟨S_, .f32⟩
  | 7 => ⟨S1x8192x1024, .f32⟩
  | 8 => ⟨S1x8192x1024, .f32⟩
  | 9 => ⟨S_, .f32⟩
  | 10 => ⟨S1x8192x1024, .f32⟩
  | 11 => ⟨S1x8192x1024, .f32⟩
  | 12 => ⟨S_, .f32⟩
  | 13 => ⟨S1x8192x1024, .f32⟩
  | 14 => ⟨S1x8192x1024, .f32⟩
  | 15 => ⟨S1x8192x1024, .f32⟩
  | 16 => ⟨S1x8192x1024, .f32⟩
  | 17 => ⟨S1x8192x1024, .f32⟩
  | 18 => ⟨S1x8192x1024, .f32⟩
  | 19 => ⟨S8192x1024, .f32⟩
  | 20 => ⟨S1x8192x1024, .f32⟩
  | 21 => ⟨S1x8192x1024, .f32⟩
  | 22 => ⟨S1x8192x1024, .f32⟩
  | 23 => ⟨S1x8192x1024, .f32⟩
  | 24 => ⟨S1x8192x1024, .f32⟩
  | 25 => ⟨S1x8192x1024, .f32⟩
  | 26 => ⟨S1x8192x1024, .f32⟩
  | 27 => ⟨S1x8192x1024, .f32⟩
  | 28 => ⟨S1x8192x1024, .f32⟩
  | 29 => ⟨S1x8192x1024, .f32⟩
  | 30 => ⟨S1x64x128x4x256, .f32⟩
  | 31 => ⟨S_, .f32⟩
  | 32 => ⟨S1x128x4, .f32⟩
  | 33 => ⟨S1x1x128x4x1, .f32⟩
  | 34 => ⟨S_, .f32⟩
  | 35 => ⟨S128x4, .f32⟩
  | 36 => ⟨S4x128, .f32⟩
  | 37 => ⟨S4x1x64x256x128, .f32⟩
  | 38 => ⟨S4x128x128, .f32⟩
  | 39 => ⟨S4x1x64x256x128, .f32⟩
  | 40 => ⟨S1x64x128x4x256, .f32⟩
  | 41 => ⟨S1x8192x1024, .f32⟩
  | 42 => ⟨S_, .f32⟩
  | 43 => ⟨S4x128x128, .f32⟩
  | 44 => ⟨S4x128x128, .f32⟩
  | 45 => ⟨S_, .f32⟩
  | 46 => ⟨S1x1024, .f32⟩
  | 47 => ⟨S1x1x1024, .f32⟩
  | 48 => ⟨S_, .f32⟩
  | 49 => ⟨S1024, .f32⟩
  | 50 => ⟨S1x8192x1024, .f32⟩
  | 51 => ⟨S_, .f32⟩
  | 52 => ⟨S1x1024, .f32⟩
  | 53 => ⟨S1x1x1024, .f32⟩
  | 54 => ⟨S1x8192x1024, .f32⟩
  | 55 => ⟨S1x8192x1024, .f32⟩
  | 56 => ⟨S_, .f32⟩
  | 57 => ⟨S1024, .f32⟩
  | 58 => ⟨S1x8192x1024, .f32⟩
  | 59 => ⟨S_, .f32⟩
  | 60 => ⟨S1x8192, .f32⟩
  | 61 => ⟨S1x8192x1, .f32⟩
  | 62 => ⟨S1x8192x1024, .f32⟩
  | 63 => ⟨S1x8192x1024, .f32⟩
  | 64 => ⟨S1x8192x1, .f32⟩
  | 65 => ⟨S_, .f32⟩
  | 66 => ⟨S1x8192x1, .f32⟩
  | 67 => ⟨S1x8192x1, .f32⟩
  | 68 => ⟨S_, .f32⟩
  | 69 => ⟨S8192, .f32⟩
  | 70 => ⟨S1x8192, .f32⟩
  | 71 => ⟨S1x8192x1024, .f32⟩
  | 72 => ⟨S1x8192x1024, .f32⟩
  | 73 => ⟨S1x8192x1024, .f32⟩
  | 74 => ⟨S1x8192x1024, .f32⟩
  | 75 => ⟨S1x8192x1024, .f32⟩
  | 76 => ⟨S1x8192x1024, .f32⟩
  | 77 => ⟨S_, .f32⟩
  | 78 => ⟨S1x8192, .f32⟩
  | 79 => ⟨S1x8192x1, .f32⟩
  | 80 => ⟨S_, .f32⟩
  | 81 => ⟨S1x8192x1, .f32⟩
  | 82 => ⟨S1x8192x1, .f32⟩
  | 83 => ⟨S_, .f32⟩
  | 84 => ⟨S8192, .f32⟩
  | 85 => ⟨S1x8192, .f32⟩
  | 86 => ⟨S1x8192x1024, .f32⟩
  | 87 => ⟨S1x8192x1024, .f32⟩
  | 88 => ⟨S1x8192x1024, .f32⟩
  | 89 => ⟨S1x8192x1024, .f32⟩
  | 90 => ⟨S_, .f32⟩
  | 91 => ⟨S1x8192x1024, .f32⟩
  | 92 => ⟨S1x8192x1024, .f32⟩
  | 93 => ⟨S1x8192x1024, .f32⟩
  | 94 => ⟨S_, .f32⟩
  | 95 => ⟨S1x8192x1024, .f32⟩
  | 96 => ⟨S1x8192x1024, .f32⟩
  | 97 => ⟨S1x8192x1024, .f32⟩
  | 98 => ⟨S_, .f32⟩
  | 99 => ⟨S1x8192x1024, .f32⟩
  | 100 => ⟨S1x8192x1024, .f32⟩
  | 101 => ⟨S1x8192x1024, .f32⟩
  | 102 => ⟨S1x8192x1024, .f32⟩
  | 103 => ⟨S1x8192x1024, .f32⟩
  | 104 => ⟨S1x8192x1024, .f32⟩
  | 105 => ⟨S_, .f32⟩
  | 106 => ⟨S1x8192x1024, .f32⟩
  | 107 => ⟨S1x8192x1024, .f32⟩
  | 108 => ⟨S1x8192x1024, .f32⟩
  | 109 => ⟨S_, .f32⟩
  | 110 => ⟨S1x8192x1024, .f32⟩
  | 111 => ⟨S1x8192x1024, .f32⟩
  | 112 => ⟨S1x8192x1024, .f32⟩
  | 113 => ⟨S_, .f32⟩
  | 114 => ⟨S1x8192x1024, .f32⟩
  | 115 => ⟨S1x8192x1024, .f32⟩
  | 116 => ⟨S1x8192x1024, .f32⟩
  | 117 => ⟨S1x8192x1024, .f32⟩
  | 118 => ⟨S4x128x1, .f32⟩
  | 119 => ⟨S1x1024, .f32⟩
  | 120 => ⟨S1x1024, .f32⟩
  | 121 => ⟨S1x8192x3072, .f32⟩
  | 122 => ⟨S_, .f32⟩
  | 123 => ⟨S8192x3072, .f32⟩
  | 124 => ⟨S8192x3072, .bf16⟩
  | 125 => ⟨S8192x7168, .bf16⟩
  | 126 => ⟨S8192x10240, .bf16⟩
  | _ => ⟨S8192x10240, .bf16⟩

abbrev hbmTy (i : Nat) : BufTy := match i / 128 with
  | 0 => hbmTy0_0 i
  | 1 => hbmTy0_1 i
  | _ => ⟨S8192x10240, .bf16⟩

abbrev bufTy : (tb : Table) → Fin (tcTables nBuf tb) → BufTy
  | .hbm, ⟨i, _⟩ => hbmTy i
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩
abbrev main_cst_14 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_15 : Ref sig .tc := ⟨.hbm, 83, rfl⟩
abbrev main_v59 : Ref sig .tc := ⟨.hbm, 84, rfl⟩
abbrev main_v60 : Ref sig .tc := ⟨.hbm, 85, rfl⟩
abbrev main_cst_16 : Ref sig .tc := ⟨.hbm, 86, rfl⟩
abbrev main_v61 : Ref sig .tc := ⟨.hbm, 87, rfl⟩
abbrev main_v62 : Ref sig .tc := ⟨.hbm, 88, rfl⟩
abbrev main_cst_17 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_18 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c : Ref sig .tc := ⟨.hbm, 105, rfl⟩
abbrev main_v77 : Ref sig .tc := ⟨.hbm, 106, rfl⟩
abbrev main_call0_v0 : Ref sig .tc := ⟨.hbm, 107, rfl⟩
abbrev main_call0_c : Ref sig .tc := ⟨.hbm, 108, rfl⟩
abbrev main_call0_v1 : Ref sig .tc := ⟨.hbm, 109, rfl⟩
abbrev main_call0_v2 : Ref sig .tc := ⟨.hbm, 110, rfl⟩
abbrev main_call0_v3 : Ref sig .tc := ⟨.hbm, 111, rfl⟩
abbrev main_call0_v4 : Ref sig .tc := ⟨.hbm, 112, rfl⟩
abbrev main_call0_c_0 : Ref sig .tc := ⟨.hbm, 113, rfl⟩
abbrev main_call0_v5 : Ref sig .tc := ⟨.hbm, 114, rfl⟩
abbrev main_v78 : Ref sig .tc := ⟨.hbm, 115, rfl⟩
abbrev main_v79 : Ref sig .tc := ⟨.hbm, 116, rfl⟩
abbrev main_cst_19 : Ref sig .tc := ⟨.hbm, 117, rfl⟩
abbrev main_v80 : Ref sig .tc := ⟨.hbm, 118, rfl⟩
abbrev main_v81_1 : Ref sig .tc := ⟨.hbm, 119, rfl⟩
abbrev main_v81_0 : Ref sig .tc := ⟨.hbm, 120, rfl⟩
abbrev main_call1_cst : Ref sig .tc := ⟨.hbm, 121, rfl⟩
abbrev main_v81_2 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_call2_v0 : Ref sig .tc := ⟨.hbm, 132, rfl⟩
abbrev main_call2_v1 : Ref sig .tc := ⟨.hbm, 133, rfl⟩
abbrev main_call2_cst : Ref sig .tc := ⟨.hbm, 134, rfl⟩
abbrev main_call2_v2 : Ref sig .tc := ⟨.hbm, 135, rfl⟩
abbrev main_call2_v3 : Ref sig .tc := ⟨.hbm, 136, rfl⟩
abbrev main_call2_cst_0 : Ref sig .tc := ⟨.hbm, 137, rfl⟩
abbrev main_call2_v4 : Ref sig .tc := ⟨.hbm, 138, rfl⟩
abbrev main_v91_2 : Ref sig .tc := ⟨.hbm, 139, rfl⟩
abbrev main_call2_cst_1 : Ref sig .tc := ⟨.hbm, 140, rfl⟩
abbrev main_call2_v6 : Ref sig .tc := ⟨.hbm, 141, rfl⟩
abbrev main_call2_v7 : Ref sig .tc := ⟨.hbm, 142, rfl⟩
abbrev main_v91_1 : Ref sig .tc := ⟨.hbm, 143, rfl⟩
abbrev main_v91_0 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_call3_v0 : Ref sig .tc := ⟨.hbm, 152, rfl⟩
abbrev main_call3_v1 : Ref sig .tc := ⟨.hbm, 153, rfl⟩
abbrev main_call3_v2 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_cst_20 : Ref sig .tc := ⟨.hbm, 159, rfl⟩
abbrev main_v103 : Ref sig .tc := ⟨.hbm, 160, rfl⟩
abbrev main_v104 : Ref sig .tc := ⟨.hbm, 161, rfl⟩
abbrev main_cst_21 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_call4_cst : Ref sig .tc := ⟨.hbm, 170, rfl⟩
abbrev main_call4_v0 : Ref sig .tc := ⟨.hbm, 171, rfl⟩
abbrev main_v112 : Ref sig .tc := ⟨.hbm, 172, rfl⟩
abbrev main_cst_22 : Ref sig .tc := ⟨.hbm, 173, rfl⟩
abbrev main_v113 : Ref sig .tc := ⟨.hbm, 174, rfl⟩
abbrev main_v114 : Ref sig .tc := ⟨.hbm, 175, rfl⟩
abbrev main_cst_23 : Ref sig .tc := ⟨.hbm, 176, rfl⟩
abbrev main_v115 : Ref sig .tc := ⟨.hbm, 177, rfl⟩
abbrev main_v116 : Ref sig .tc := ⟨.hbm, 178, rfl⟩
abbrev main_cst_24 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_cst_25 : Ref sig .tc := ⟨.hbm, 184, rfl⟩
abbrev main_v121 : Ref sig .tc := ⟨.hbm, 185, rfl⟩
abbrev main_v122 : Ref sig .tc := ⟨.hbm, 186, rfl⟩
abbrev main_cst_26 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_cst_27 : Ref sig .tc := ⟨.hbm, 193, rfl⟩
abbrev main_v128 : Ref sig .tc := ⟨.hbm, 194, rfl⟩
abbrev main_v129 : Ref sig .tc := ⟨.hbm, 195, rfl⟩
abbrev main_cst_28 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_cst_29 : Ref sig .tc := ⟨.hbm, 205, rfl⟩
abbrev main_v138 : Ref sig .tc := ⟨.hbm, 206, rfl⟩
abbrev main_v139 : Ref sig .tc := ⟨.hbm, 207, rfl⟩
abbrev main_cst_30 : Ref sig .tc := ⟨.hbm, 208, rfl⟩
abbrev main_v140 : Ref sig .tc := ⟨.hbm, 209, rfl⟩
abbrev main_v141 : Ref sig .tc := ⟨.hbm, 210, rfl⟩
abbrev main_cst_31 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_cst_32 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_cst_33 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_cst_34 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_cst_35 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_cst_36 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_cst_37 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_cst_38 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩

abbrev nD : Nat := 1
abbrev τ : Topo := Topo.v7x

variable {F : FTy → Type} [FloatOps F]
-- ==== ProjWeight.lean ====
abbrev S8192x1024 : Shape := ⟨2, ![8192, 1024]⟩
abbrev S8192x10240 : Shape := ⟨2, ![8192, 10240]⟩
abbrev S1024x10240 : Shape := ⟨2, ![1024, 10240]⟩
abbrev S8192x512 : Shape := ⟨2, ![8192, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x10240, .bf16⟩
  | .hbm, ⟨2, _⟩ => ⟨S1024x10240, .f32⟩
  | .local _ .vmem, ⟨0, _⟩ => ⟨S8192x1024, .bf16⟩
  | .local _ .vmem, ⟨1, _⟩ => ⟨S8192x512, .bf16⟩
  | .local _ .vmem, ⟨2, _⟩ => ⟨S8192x512, .bf16⟩
  | .local _ .vmem, ⟨3, _⟩ => ⟨S1024x512, .f32⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 20, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjWeightRefIdeal.lean ====
abbrev S8192x1024 : Shape := ⟨2, ![8192, 1024]⟩
abbrev S8192x10240 : Shape := ⟨2, ![8192, 10240]⟩
abbrev S_ : Shape := ⟨0, ![]⟩
abbrev S1024x10240 : Shape := ⟨2, ![1024, 10240]⟩
abbrev S10240x1024 : Shape := ⟨2, ![10240, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x10240, .bf16⟩
  | .hbm, ⟨2, _⟩ => ⟨S_, .f32⟩
  | .hbm, ⟨3, _⟩ => ⟨S1024x10240, .f32⟩
  | .hbm, ⟨4, _⟩ => ⟨S8192x1024, .f32⟩
  | .hbm, ⟨5, _⟩ => ⟨S8192x10240, .f32⟩
  | .hbm, ⟨6, _⟩ => ⟨S8192x10240, .f32⟩
  | .hbm, ⟨7, _⟩ => ⟨S10240x1024, .f32⟩
  | .hbm, ⟨8, _⟩ => ⟨S1024x10240, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjInput.lean ====
abbrev S8192x10240 : Shape := ⟨2, ![8192, 10240]⟩
abbrev S1024x10240 : Shape := ⟨2, ![1024, 10240]⟩
abbrev S8192x1024 : Shape := ⟨2, ![8192, 1024]⟩
abbrev S512x10240 : Shape := ⟨2, ![512, 10240]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x10240, .bf16⟩
  | .hbm, ⟨1, _⟩ => ⟨S1024x10240, .bf16⟩
  | .hbm, ⟨2, _⟩ => ⟨S8192x1024, .f32⟩
  | .local _ .vmem, ⟨0, _⟩ => ⟨S512x10240, .bf16⟩
  | .local _ .vmem, ⟨1, _⟩ => ⟨S512x10240, .bf16⟩
  | .local _ .vmem, ⟨2, _⟩ => ⟨S1024x10240, .bf16⟩
  | .local _ .vmem, ⟨3, _⟩ => ⟨S512x1024, .f32⟩
  | .local _ .vmem, ⟨4, _⟩ => ⟨S512x1024, .f32⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x10240 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x10240 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInputRefIdeal.lean ====
abbrev S8192x10240 : Shape := ⟨2, ![8192, 10240]⟩
abbrev S1024x10240 : Shape := ⟨2, ![1024, 10240]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x10240, .bf16⟩
  | .hbm, ⟨1, _⟩ => ⟨S1024x10240, .bf16⟩
  | .hbm, ⟨2, _⟩ => ⟨S_, .f32⟩
  | .hbm, ⟨3, _⟩ => ⟨S8192x1024, .f32⟩
  | .hbm, ⟨4, _⟩ => ⟨S1024x10240, .f32⟩
  | .hbm, ⟨5, _⟩ => ⟨S8192x10240, .f32⟩
  | .hbm, ⟨6, _⟩ => ⟨S8192x10240, .f32⟩
  | .hbm, ⟨7, _⟩ => ⟨S8192x1024, .f32⟩
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== PreNorm.lean ====
abbrev S8192x1024 : Shape := ⟨2, ![8192, 1024]⟩
abbrev S1x1024 : Shape := ⟨2, ![1, 1024]⟩
abbrev S8192x512 : Shape := ⟨2, ![8192, 512]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x512, .f32⟩
  | .hbm, ⟨4, _⟩ => ⟨S1024x512, .bf16⟩
  | .hbm, ⟨5, _⟩ => ⟨S8192x1024, .f32⟩
  | .hbm, ⟨6, _⟩ => ⟨S8192x1024, .f32⟩
  | .hbm, ⟨7, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x512, .f32⟩
  | .local _ .vmem, ⟨6, _⟩ => ⟨S1024x512, .f32⟩
  | .local _ .vmem, ⟨7, _⟩ => ⟨S1024x512, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PreNormRefIdeal.lean ====
abbrev S8192x1024 : Shape := ⟨2, ![8192, 1024]⟩
abbrev S1x1024 : Shape := ⟨2, ![1, 1024]⟩
abbrev S8192x512 : Shape := ⟨2, ![8192, 512]⟩
abbrev S1024x512 : Shape := ⟨2, ![1024, 512]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x512, .f32⟩
  | .hbm, ⟨4, _⟩ => ⟨S1024x512, .bf16⟩
  | .hbm, ⟨5, _⟩ => ⟨S8192x1024, .f32⟩
  | .hbm, ⟨6, _⟩ => ⟨S1024x512, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x512, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== PleNorm.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .hbm, ⟨6, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PleNormRefIdeal.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== GateWeight.lean ====
abbrev S8192x1024 : Shape := ⟨2, ![8192, 1024]⟩
abbrev S1024x1024 : Shape := ⟨2, ![1024, 1024]⟩
abbrev S8192x512 : Shape := ⟨2, ![8192, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S8192x1024, .bf16⟩
  | .local _ .vmem, ⟨1, _⟩ => ⟨S8192x512, .bf16⟩
  | .local _ .vmem, ⟨2, _⟩ => ⟨S8192x512, .bf16⟩
  | .local _ .vmem, ⟨3, _⟩ => ⟨S1024x512, .f32⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateWeightRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutAWeight.lean ====
abbrev S8192x1024 : Shape := ⟨2, ![8192, 1024]⟩
abbrev S1024x1024 : Shape := ⟨2, ![1024, 1024]⟩
abbrev S8192x512 : Shape := ⟨2, ![8192, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S8192x1024, .bf16⟩
  | .local _ .vmem, ⟨1, _⟩ => ⟨S8192x512, .bf16⟩
  | .local _ .vmem, ⟨2, _⟩ => ⟨S8192x512, .bf16⟩
  | .local _ .vmem, ⟨3, _⟩ => ⟨S1024x512, .f32⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutAWeightRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutBWeight.lean ====
abbrev S8192x2048 : Shape := ⟨2, ![8192, 2048]⟩
abbrev S8192x1024 : Shape := ⟨2, ![8192, 1024]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutBWeightRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MergeWeight.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MergeWeightRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== StepWeight.lean ====
abbrev S8192x1024 : Shape := ⟨2, ![8192, 1024]⟩
abbrev S8192x512 : Shape := ⟨2, ![8192, 512]⟩
abbrev S1024x512 : Shape := ⟨2, ![1024, 512]⟩
abbrev S4096x1024 : Shape := ⟨2, ![4096, 1024]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S1024x512, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== StepWeightRefIdeal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S_, .f32⟩
  | .hbm, ⟨3, _⟩ => ⟨S1024x512, .f32⟩
  | .hbm, ⟨4, _⟩ => ⟨S8192x1024, .f32⟩
  | .hbm, ⟨5, _⟩ => ⟨S8192x512, .f32⟩
  | .hbm, ⟨6, _⟩ => ⟨S512x1024, .f32⟩
  | .hbm, ⟨7, _⟩ => ⟨S1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== EmbedWeight.lean ====
abbrev S8192x256 : Shape := ⟨2, ![8192, 256]⟩
abbrev S8192x1024 : Shape := ⟨2, ![8192, 1024]⟩
abbrev S256x1024 : Shape := ⟨2, ![256, 1024]⟩
abbrev S4096x256 : Shape := ⟨2, ![4096, 256]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S256x1024, .f32⟩
  | .local _ .vmem, ⟨0, _⟩ => ⟨S4096x256, .f32⟩
  | .local _ .vmem, ⟨1, _⟩ => ⟨S4096x256, .f32⟩
  | .local _ .vmem, ⟨2, _⟩ => ⟨S4096x1024, .bf16⟩
  | .local _ .vmem, ⟨3, _⟩ => ⟨S4096x1024, .bf16⟩
  | .local _ .vmem, ⟨4, _⟩ => ⟨S256x1024, .f32⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== EmbedWeightRefIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S8192x1024, .f32⟩
  | .hbm, ⟨6, _⟩ => ⟨S1024x256, .f32⟩
  | .hbm, ⟨7, _⟩ => ⟨S256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proj.lean ====
abbrev S8192x1024 : Shape := ⟨2, ![8192, 1024]⟩
abbrev S1x1024 : Shape := ⟨2, ![1, 1024]⟩
abbrev S1024x10240 : Shape := ⟨2, ![1024, 10240]⟩
abbrev S1024x512 : Shape := ⟨2, ![1024, 512]⟩
abbrev S8192x10240 : Shape := ⟨2, ![8192, 10240]⟩
abbrev S8192x512 : Shape := ⟨2, ![8192, 512]⟩
abbrev S1024x1024 : Shape := ⟨2, ![1024, 1024]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x10240, .bf16⟩
  | .hbm, ⟨3, _⟩ => ⟨S1024x512, .bf16⟩
  | .hbm, ⟨4, _⟩ => ⟨S8192x1024, .bf16⟩
  | .hbm, ⟨5, _⟩ => ⟨S8192x10240, .bf16⟩
  | .hbm, ⟨6, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | .local _ .vmem, ⟨9, _⟩ => ⟨S1024x2048, .bf16⟩
  | .local _ .vmem, ⟨10, _⟩ => ⟨S1024x512, .f32⟩
  | .local _ .vmem, ⟨11, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ProjRefIdeal.lean ====
abbrev S8192x1024 : Shape := ⟨2, ![8192, 1024]⟩
abbrev S1x1024 : Shape := ⟨2, ![1, 1024]⟩
abbrev S1024x10240 : Shape := ⟨2, ![1024, 10240]⟩
abbrev S1024x512 : Shape := ⟨2, ![1024, 512]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x10240 : Shape := ⟨2, ![8192, 10240]⟩
abbrev S8192x512 : Shape := ⟨2, ![8192, 512]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x10240, .bf16⟩
  | .hbm, ⟨3, _⟩ => ⟨S1024x512, .bf16⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S1024x10240, .f32⟩
  | .hbm, ⟨23, _⟩ => ⟨S8192x10240, .f32⟩
  | .hbm, ⟨24, _⟩ => ⟨S8192x10240, .bf16⟩
  | .hbm, ⟨25, _⟩ => ⟨S1024x512, .f32⟩
  | .hbm, ⟨26, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== OutProj.lean ====
abbrev S8192x10240 : Shape := ⟨2, ![8192, 10240]⟩
abbrev S8192x1024 : Shape := ⟨2, ![8192, 1024]⟩
abbrev S1024x1024 : Shape := ⟨2, ![1024, 1024]⟩
abbrev S1024x2048 : Shape := ⟨2, ![1024, 2048]⟩

abbrev nBuf : Space → Nat
  | .hbm => 7
  | .vmem => 13
  | .smem => 0
  | _ => 0

abbrev bufTy : (tb : Table) → Fin (tcTables nBuf tb) → BufTy
  | .hbm, ⟨0, _⟩ => ⟨S8192x10240, .bf16⟩
  | .hbm, ⟨1, _⟩ => ⟨S8192x1024, .bf16⟩
  | .hbm, ⟨2, _⟩ => ⟨S8192x1024, .bf16⟩
  | .hbm, ⟨3, _⟩ => ⟨S1024x1024, .bf16⟩
  | .hbm, ⟨4, _⟩ => ⟨S8192x1024, .f32⟩
  | .hbm, ⟨5, _⟩ => ⟨S8192x1024, .bf16⟩
  | .hbm, ⟨6, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutProjRefIdeal.lean ====
abbrev S8192x10240 : Shape := ⟨2, ![8192, 10240]⟩
abbrev S8192x1024 : Shape := ⟨2, ![8192, 1024]⟩
abbrev S1024x1024 : Shape := ⟨2, ![1024, 1024]⟩
abbrev S8192x2048 : Shape := ⟨2, ![8192, 2048]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x10240, .bf16⟩
  | .hbm, ⟨1, _⟩ => ⟨S8192x1024, .bf16⟩
  | .hbm, ⟨2, _⟩ => ⟨S8192x1024, .bf16⟩
  | .hbm, ⟨3, _⟩ => ⟨S1024x1024, .bf16⟩
  | .hbm, ⟨4, _⟩ => ⟨S8192x1024, .f32⟩
  | .hbm, ⟨5, _⟩ => ⟨S8192x2048, .bf16⟩
  | .hbm, ⟨6, _⟩ => ⟨S8192x2048, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .bf16⟩
  | .hbm, ⟨31, _⟩ => ⟨S1024x1024, .f32⟩
  | .hbm, ⟨32, _⟩ => ⟨S8192x1024, .f32⟩
  | .hbm, ⟨33, _⟩ => ⟨S8192x1024, .f32⟩
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== ConvAct.lean ====
abbrev S8192x3072 : Shape := ⟨2, ![8192, 3072]⟩
abbrev S8192x2048 : Shape := ⟨2, ![8192, 2048]⟩
abbrev S8192x512 : Shape := ⟨2, ![8192, 512]⟩
abbrev S1x3072 : Shape := ⟨2, ![1, 3072]⟩
abbrev S1024x3072 : Shape := ⟨2, ![1024, 3072]⟩
abbrev S1024x2048 : Shape := ⟨2, ![1024, 2048]⟩
abbrev S1024x512 : Shape := ⟨2, ![1024, 512]⟩
abbrev S3072 : Shape := ⟨1, ![3072]⟩

abbrev nBuf : Space → Nat
  | .hbm => 6
  | .vmem => 11
  | .smem => 0
  | _ => 0

abbrev bufTy : (tb : Table) → Fin (tcTables nBuf tb) → BufTy
  | .hbm, ⟨0, _⟩ => ⟨S8192x3072, .bf16⟩
  | .hbm, ⟨1, _⟩ => ⟨S8192x2048, .bf16⟩
  | .hbm, ⟨2, _⟩ => ⟨S8192x512, .bf16⟩
  | .hbm, ⟨3, _⟩ => ⟨S8192x512, .bf16⟩
  | .hbm, ⟨4, _⟩ => ⟨S8192x3072, .bf16⟩
  | .hbm, ⟨5, _⟩ => ⟨S1x3072, .f32⟩
  | .local _ .vmem, ⟨0, _⟩ => ⟨S1024x3072, .bf16⟩
  | .local _ .vmem, ⟨1, _⟩ => ⟨S1024x3072, .bf16⟩
  | .local _ .vmem, ⟨2, _⟩ => ⟨S1024x2048, .bf16⟩
  | .local _ .vmem, ⟨3, _⟩ => ⟨S1024x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x3072, .bf16⟩
  | .local _ .vmem, ⟨9, _⟩ => ⟨S1024x3072, .bf16⟩
  | .local _ .vmem, ⟨10, _⟩ => ⟨S1x3072, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ConvActRefIdeal.lean ====
abbrev S8192x3072 : Shape := ⟨2, ![8192, 3072]⟩
abbrev S8192x2048 : Shape := ⟨2, ![8192, 2048]⟩
abbrev S8192x512 : Shape := ⟨2, ![8192, 512]⟩
abbrev S_ : Shape := ⟨0, ![]⟩
abbrev S1x3072 : Shape := ⟨2, ![1, 3072]⟩
abbrev S3072 : Shape := ⟨1, ![3072]⟩

abbrev nBuf : Space → Nat
  | .hbm => 44
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x2048, .bf16⟩
  | .hbm, ⟨2, _⟩ => ⟨S8192x512, .bf16⟩
  | .hbm, ⟨3, _⟩ => ⟨S8192x512, .bf16⟩
  | .hbm, ⟨4, _⟩ => ⟨S8192x3072, .f32⟩
  | .hbm, ⟨5, _⟩ => ⟨S_, .f32⟩
  | .hbm, ⟨6, _⟩ => ⟨S1x3072, .f32⟩
  | .hbm, ⟨7, _⟩ => ⟨S8192x3072, .f32⟩
  | .hbm, ⟨8, _⟩ => ⟨S8192x3072, .f32⟩
  | .hbm, ⟨9, _⟩ => ⟨S8192x3072, .f32⟩
  | .hbm, ⟨10, _⟩ => ⟨S8192x3072, .f32⟩
  | .hbm, ⟨11, _⟩ => ⟨S_, .f32⟩
  | .hbm, ⟨12, _⟩ => ⟨S8192x3072, .f32⟩
  | .hbm, ⟨13, _⟩ => ⟨S8192x3072, .f32⟩
  | .hbm, ⟨14, _⟩ => ⟨S_, .f32⟩
  | .hbm, ⟨15, _⟩ => ⟨S8192x3072, .f32⟩
  | .hbm, ⟨16, _⟩ => ⟨S8192x3072, .f32⟩
  | .hbm, ⟨17, _⟩ => ⟨S_, .f32⟩
  | .hbm, ⟨18, _⟩ => ⟨S8192x3072, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S8192x2048, .f32⟩
  | .hbm, ⟨23, _⟩ => ⟨S8192x512, .f32⟩
  | .hbm, ⟨24, _⟩ => ⟨S8192x512, .f32⟩
  | .hbm, ⟨25, _⟩ => ⟨S8192x2048, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S8192x3072, .f32⟩
  | .hbm, ⟨30, _⟩ => ⟨S_, .f32⟩
  | .hbm, ⟨31, _⟩ => ⟨S8192x3072, .f32⟩
  | .hbm, ⟨32, _⟩ => ⟨S8192x3072, .f32⟩
  | .hbm, ⟨33, _⟩ => ⟨S_, .f32⟩
  | .hbm, ⟨34, _⟩ => ⟨S8192x3072, .f32⟩
  | .hbm, ⟨35, _⟩ => ⟨S8192x3072, .f32⟩
  | .hbm, ⟨36, _⟩ => ⟨S8192x3072, .f32⟩
  | .hbm, ⟨37, _⟩ => ⟨S8192x3072, .f32⟩
  | .hbm, ⟨38, _⟩ => ⟨S8192x3072, .f32⟩
  | .hbm, ⟨39, _⟩ => ⟨S8192x3072, .f32⟩
  | .hbm, ⟨40, _⟩ => ⟨S_, .f32⟩
  | .hbm, ⟨41, _⟩ => ⟨S3072, .f32⟩
  | .hbm, ⟨42, _⟩ => ⟨S1x3072, .f32⟩
  | .hbm, ⟨43, _⟩ => ⟨S8192x3072, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v4_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v4_1 : Ref sig .tc := ⟨.hbm, 20, rfl⟩
abbrev main_v4_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v16 : Ref sig .tc := ⟨.hbm, 39, rfl⟩
abbrev main_cst_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩

abbrev nD : Nat := 1
abbrev τ : Topo := Topo.v7x

variable {F : FTy → Type} [FloatOps F]
-- ==== GroupNorm.lean ====
abbrev S8192x2048 : Shape := ⟨2, ![8192, 2048]⟩
abbrev S8192x10240 : Shape := ⟨2, ![8192, 10240]⟩
abbrev S1x2048 : Shape := ⟨2, ![1, 2048]⟩
abbrev S8192x1024 : Shape := ⟨2, ![8192, 1024]⟩
abbrev S2048x1024 : Shape := ⟨2, ![2048, 1024]⟩
abbrev S512x2048 : Shape := ⟨2, ![512, 2048]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S2048 : Shape := ⟨1, ![2048]⟩
abbrev S512x1536 : Shape := ⟨2, ![512, 1536]⟩

abbrev nBuf : Space → Nat
  | .hbm => 9
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8192x10240, .bf16⟩
  | .hbm, ⟨2, _⟩ => ⟨S1x2048, .f32⟩
  | .hbm, ⟨3, _⟩ => ⟨S8192x10240, .bf16⟩
  | .hbm, ⟨4, _⟩ => ⟨S8192x1024, .bf16⟩
  | .hbm, ⟨5, _⟩ => ⟨S2048x1024, .bf16⟩
  | .hbm, ⟨6, _⟩ => ⟨S8192x2048, .bf16⟩
  | .hbm, ⟨7, _⟩ => ⟨S8192x10240, .bf16⟩
  | .hbm, ⟨8, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x1024, .bf16⟩
  | .local _ .vmem, ⟨6, _⟩ => ⟨S512x1024, .bf16⟩
  | .local _ .vmem, ⟨7, _⟩ => ⟨S2048x1024, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GroupNormRefIdeal.lean ====
abbrev S8192x2048 : Shape := ⟨2, ![8192, 2048]⟩
abbrev S8192x10240 : Shape := ⟨2, ![8192, 10240]⟩
abbrev S1x2048 : Shape := ⟨2, ![1, 2048]⟩
abbrev S8192x1024 : Shape := ⟨2, ![8192, 1024]⟩
abbrev S2048x1024 : Shape := ⟨2, ![2048, 1024]⟩
abbrev S1x8192x2048 : Shape := ⟨3, ![1, 8192, 2048]⟩
abbrev S2048 : Shape := ⟨1, ![2048]⟩
abbrev S_ : Shape := ⟨0, ![]⟩
abbrev S1x8192x4x512 : Shape := ⟨4, ![1, 8192, 4, 512]⟩
abbrev S1x8192x4 : Shape := ⟨3, ![1, 8192, 4]⟩
abbrev S1x8192x4x1 : Shape := ⟨4, ![1, 8192, 4, 1]⟩
abbrev S1x1x2048 : Shape := ⟨3, ![1, 1, 2048]⟩
abbrev S1x8192x1024 : Shape := ⟨3, ![1, 8192, 1024]⟩
abbrev S8192x4 : Shape := ⟨2, ![8192, 4]⟩
abbrev S8192x6144 : Shape := ⟨2, ![8192, 6144]⟩

abbrev nBuf : Space → Nat
  | .hbm => 97
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x10240, .bf16⟩
  | .hbm, ⟨2, _⟩ => ⟨S1x2048, .f32⟩
  | .hbm, ⟨3, _⟩ => ⟨S8192x10240, .bf16⟩
  | .hbm, ⟨4, _⟩ => ⟨S8192x1024, .bf16⟩
  | .hbm, ⟨5, _⟩ => ⟨S2048x1024, .bf16⟩
  | .hbm, ⟨6, _⟩ => ⟨S2048x1024, .f32⟩
  | .hbm, ⟨7, _⟩ => ⟨S8192x2048, .f32⟩
  | .hbm, ⟨8, _⟩ => ⟨S8192x2048, .bf16⟩
  | .hbm, ⟨9, _⟩ => ⟨S8192x2048, .f32⟩
  | .hbm, ⟨10, _⟩ => ⟨S1x8192x2048, .f32⟩
  | .hbm, ⟨11, _⟩ => ⟨S1x8192x2048, .f32⟩
  | .hbm, ⟨12, _⟩ => ⟨S2048, .f32⟩
  | .hbm, ⟨13, _⟩ => ⟨S1x8192x2048, .f32⟩
  | .hbm, ⟨14, _⟩ => ⟨S1x8192x2048, .f32⟩
  | .hbm, ⟨15, _⟩ => ⟨S_, .f32⟩
  | .hbm, ⟨16, _⟩ => ⟨S1x8192x2048, .f32⟩
  | .hbm, ⟨17, _⟩ => ⟨S1x8192x2048, .f32⟩
  | .hbm, ⟨18, _⟩ => ⟨S_, .f32⟩
  | .hbm, ⟨19, _⟩ => ⟨S1x8192x2048, .f32⟩
  | .hbm, ⟨20, _⟩ => ⟨S1x8192x2048, .f32⟩
  | .hbm, ⟨21, _⟩ => ⟨S_, .f32⟩
  | .hbm, ⟨22, _⟩ => ⟨S1x8192x2048, .f32⟩
  | .hbm, ⟨23, _⟩ => ⟨S1x8192x2048, .f32⟩
  | .hbm, ⟨24, _⟩ => ⟨S1x8192x2048, .f32⟩
  | .hbm, ⟨25, _⟩ => ⟨S1x8192x2048, .f32⟩
  | .hbm, ⟨26, _⟩ => ⟨S1x8192x2048, .f32⟩
  | .hbm, ⟨27, _⟩ => ⟨S1x8192x4x512, .f32⟩
  | .hbm, ⟨28, _⟩ => ⟨S1x8192x4x512, .f32⟩
  | .hbm, ⟨29, _⟩ => ⟨S_, .f32⟩
  | .hbm, ⟨30, _⟩ => ⟨S1x8192x4, .f32⟩
  | .hbm, ⟨31, _⟩ => ⟨S1x8192x4x1, .f32⟩
  | .hbm, ⟨32, _⟩ => ⟨S_, .f32⟩
  | .hbm, ⟨33, _⟩ => ⟨S1x8192x4x1, .f32⟩
  | .hbm, ⟨34, _⟩ => ⟨S1x8192x4x1, .f32⟩
  | .hbm, ⟨35, _⟩ => ⟨S_, .f32⟩
  | .hbm, ⟨36, _⟩ => ⟨S1x8192x4x1, .f32⟩
  | .hbm, ⟨37, _⟩ => ⟨S1x8192x4x1, .f32⟩
  | .hbm, ⟨38, _⟩ => ⟨S1x8192x4x1, .f32⟩
  | .hbm, ⟨39, _⟩ => ⟨S1x8192x4x1, .f32⟩
  | .hbm, ⟨40, _⟩ => ⟨S_, .f32⟩
  | .hbm, ⟨41, _⟩ => ⟨S1x8192x4x1, .f32⟩
  | .hbm, ⟨42, _⟩ => ⟨S1x8192x4x1, .f32⟩
  | .hbm, ⟨43, _⟩ => ⟨S1x8192x4x512, .f32⟩
  | .hbm, ⟨44, _⟩ => ⟨S1x8192x4x512, .f32⟩
  | .hbm, ⟨45, _⟩ => ⟨S1x8192x2048, .f32⟩
  | .hbm, ⟨46, _⟩ => ⟨S1x1x2048, .f32⟩
  | .hbm, ⟨47, _⟩ => ⟨S1x8192x2048, .f32⟩
  | .hbm, ⟨48, _⟩ => ⟨S1x8192x2048, .f32⟩
  | .hbm, ⟨49, _⟩ => ⟨S1x8192x1024, .f32⟩
  | .hbm, ⟨50, _⟩ => ⟨S8192x1024, .f32⟩
  | .hbm, ⟨51, _⟩ => ⟨S1x8192x1024, .f32⟩
  | .hbm, ⟨52, _⟩ => ⟨S1x8192x2048, .f32⟩
  | .hbm, ⟨53, _⟩ => ⟨S1x8192x2048, .f32⟩
  | .hbm, ⟨54, _⟩ => ⟨S_, .f32⟩
  | .hbm, ⟨55, _⟩ => ⟨S1x2048, .f32⟩
  | .hbm, ⟨56, _⟩ => ⟨S1x1x2048, .f32⟩
  | .hbm, ⟨57, _⟩ => ⟨S1x8192x2048, .f32⟩
  | .hbm, ⟨58, _⟩ => ⟨S1x8192x2048, .f32⟩
  | .hbm, ⟨59, _⟩ => ⟨S_, .f32⟩
  | .hbm, ⟨60, _⟩ => ⟨S2048, .f32⟩
  | .hbm, ⟨61, _⟩ => ⟨S1x8192x4x512, .f32⟩
  | .hbm, ⟨62, _⟩ => ⟨S1x8192x4x512, .f32⟩
  | .hbm, ⟨63, _⟩ => ⟨S_, .f32⟩
  | .hbm, ⟨64, _⟩ => ⟨S1x8192x4, .f32⟩
  | .hbm, ⟨65, _⟩ => ⟨S1x8192x4x1, .f32⟩
  | .hbm, ⟨66, _⟩ => ⟨S1x8192x4x512, .f32⟩
  | .hbm, ⟨67, _⟩ => ⟨S1x8192x4x512, .f32⟩
  | .hbm, ⟨68, _⟩ => ⟨S1x8192x4x1, .f32⟩
  | .hbm, ⟨69, _⟩ => ⟨S_, .f32⟩
  | .hbm, ⟨70, _⟩ => ⟨S1x8192x4x1, .f32⟩
  | .hbm, ⟨71, _⟩ => ⟨S1x8192x4x1, .f32⟩
  | .hbm, ⟨72, _⟩ => ⟨S_, .f32⟩
  | .hbm, ⟨73, _⟩ => ⟨S8192x4, .f32⟩
  | .hbm, ⟨74, _⟩ => ⟨S1x8192x4, .f32⟩
  | .hbm, ⟨75, _⟩ => ⟨S1x8192x4x512, .f32⟩
  | .hbm, ⟨76, _⟩ => ⟨S1x8192x4x512, .f32⟩
  | .hbm, ⟨77, _⟩ => ⟨S1x8192x4x512, .f32⟩
  | .hbm, ⟨78, _⟩ => ⟨S1x8192x4x512, .f32⟩
  | .hbm, ⟨79, _⟩ => ⟨S1x8192x4x512, .f32⟩
  | .hbm, ⟨80, _⟩ => ⟨S1x8192x2048, .f32⟩
  | .hbm, ⟨81, _⟩ => ⟨S1x8192x2048, .f32⟩
  | .hbm, ⟨82, _⟩ => ⟨S1x8192x2048, .f32⟩
  | .hbm, ⟨83, _⟩ => ⟨S1x8192x2048, .f32⟩
  | .hbm, ⟨84, _⟩ => ⟨S1x8192x2048, .f32⟩
  | .hbm, ⟨85, _⟩ => ⟨S1x8192x2048, .f32⟩
  | .hbm, ⟨86, _⟩ => ⟨S1x8192x2048, .f32⟩
  | .hbm, ⟨87, _⟩ => ⟨S1x2048, .f32⟩
  | .hbm, ⟨88, _⟩ => ⟨S_, .f32⟩
  | .hbm, ⟨89, _⟩ => ⟨S8192x2048, .f32⟩
  | .hbm, ⟨90, _⟩ => ⟨S_, .f32⟩
  | .hbm, ⟨91, _⟩ => ⟨S8192x2048, .f32⟩
  | .hbm, ⟨92, _⟩ => ⟨S8192x2048, .bf16⟩
  | .hbm, ⟨93, _⟩ => ⟨S8192x6144, .bf16⟩
  | .hbm, ⟨94, _⟩ => ⟨S8192x2048, .bf16⟩
  | .hbm, ⟨95, _⟩ => ⟨S8192x2048, .bf16⟩
  | .hbm, ⟨96, _⟩ => ⟨S8192x10240, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v7_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v7_1 : Ref sig .tc := ⟨.hbm, 24, rfl⟩
abbrev main_v7_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_cst_0 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_4 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_v45 : Ref sig .tc := ⟨.hbm, 71, rfl⟩
abbrev main_cst_7 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v56 : Ref sig .tc := ⟨.hbm, 86, rfl⟩
abbrev main_v57 : Ref sig .tc := ⟨.hbm, 87, rfl⟩
abbrev main_cst_8 : Ref sig .tc := ⟨.hbm, 88, rfl⟩
abbrev main_v58 : Ref sig .tc := ⟨.hbm, 89, rfl⟩
abbrev main_cst_9 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩

abbrev nD : Nat := 1
abbrev τ : Topo := Topo.v7x

variable {F : FTy → Type} [FloatOps F]
-- ==== Conv.lean ====
abbrev S8192x3072 : Shape := ⟨2, ![8192, 3072]⟩
abbrev S8192x10240 : Shape := ⟨2, ![8192, 10240]⟩
abbrev S4x3072 : Shape := ⟨2, ![4, 3072]⟩
abbrev S512x3072 : Shape := ⟨2, ![512, 3072]⟩
abbrev S8x3072 : Shape := ⟨2, ![8, 3072]⟩
abbrev S1x3072 : Shape := ⟨2, ![1, 3072]⟩
abbrev S3072 : Shape := ⟨1, ![3072]⟩

abbrev nBuf : Space → Nat
  | .hbm => 6
  | .vmem => 10
  | .smem => 0
  | _ => 0

abbrev bufTy : (tb : Table) → Fin (tcTables nBuf tb) → BufTy
  | .hbm, ⟨0, _⟩ => ⟨S8192x3072, .bf16⟩
  | .hbm, ⟨1, _⟩ => ⟨S8192x10240, .bf16⟩
  | .hbm, ⟨2, _⟩ => ⟨S4x3072, .f32⟩
  | .hbm, ⟨3, _⟩ => ⟨S8192x10240, .bf16⟩
  | .hbm, ⟨4, _⟩ => ⟨S8192x10240, .bf16⟩
  | .hbm, ⟨5, _⟩ => ⟨S4x3072, .f32⟩
  | .local _ .vmem, ⟨0, _⟩ => ⟨S512x3072, .bf16⟩
  | .local _ .vmem, ⟨1, _⟩ => ⟨S512x3072, .bf16⟩
  | .local _ .vmem, ⟨2, _⟩ => ⟨S8x3072, .bf16⟩
  | .local _ .vmem, ⟨3, _⟩ => ⟨S8x3072, .bf16⟩
  | .local _ .vmem, ⟨4, _⟩ => ⟨S512x3072, .bf16⟩
  | .local _ .vmem, ⟨5, _⟩ => ⟨S512x3072, .bf16⟩
  | .local _ .vmem, ⟨6, _⟩ => ⟨S4x3072, .f32⟩
  | .local _ .vmem, ⟨7, _⟩ => ⟨S512x3072, .bf16⟩
  | .local _ .vmem, ⟨8, _⟩ => ⟨S512x3072, .bf16⟩
  | .local _ .vmem, ⟨9, _⟩ => ⟨S4x3072, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ConvRefIdeal.lean ====
abbrev S8192x3072 : Shape := ⟨2, ![8192, 3072]⟩
abbrev S8192x10240 : Shape := ⟨2, ![8192, 10240]⟩
abbrev S4x3072 : Shape := ⟨2, ![4, 3072]⟩
abbrev S_ : Shape := ⟨0, ![]⟩
abbrev S3x3072 : Shape := ⟨2, ![3, 3072]⟩
abbrev S8195x3072 : Shape := ⟨2, ![8195, 3072]⟩
abbrev S1x3072 : Shape := ⟨2, ![1, 3072]⟩
abbrev S3072 : Shape := ⟨1, ![3072]⟩
abbrev S8192x4096 : Shape := ⟨2, ![8192, 4096]⟩

abbrev nBuf : Space → Nat
  | .hbm => 106
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x10240, .bf16⟩
  | .hbm, ⟨2, _⟩ => ⟨S4x3072, .f32⟩
  | .hbm, ⟨3, _⟩ => ⟨S8192x10240, .bf16⟩
  | .hbm, ⟨4, _⟩ => ⟨S8192x3072, .bf16⟩
  | .hbm, ⟨5, _⟩ => ⟨S8192x3072, .f32⟩
  | .hbm, ⟨6, _⟩ => ⟨S_, .f32⟩
  | .hbm, ⟨7, _⟩ => ⟨S3x3072, .f32⟩
  | .hbm, ⟨8, _⟩ => ⟨S8195x3072, .f32⟩
  | .hbm, ⟨9, _⟩ => ⟨S_, .f32⟩
  | .hbm, ⟨10, _⟩ => ⟨S3x3072, .f32⟩
  | .hbm, ⟨11, _⟩ => ⟨S8192x3072, .f32⟩
  | .hbm, ⟨12, _⟩ => ⟨S1x3072, .f32⟩
  | .hbm, ⟨13, _⟩ => ⟨S3072, .f32⟩
  | .hbm, ⟨14, _⟩ => ⟨S1x3072, .f32⟩
  | .hbm, ⟨15, _⟩ => ⟨S8192x3072, .f32⟩
  | .hbm, ⟨16, _⟩ => ⟨S8192x3072, .f32⟩
  | .hbm, ⟨17, _⟩ => ⟨S_, .f32⟩
  | .hbm, ⟨18, _⟩ => ⟨S8192x3072, .f32⟩
  | .hbm, ⟨19, _⟩ => ⟨S8192x3072, .f32⟩
  | .hbm, ⟨20, _⟩ => ⟨S8192x3072, .f32⟩
  | .hbm, ⟨21, _⟩ => ⟨S1x3072, .f32⟩
  | .hbm, ⟨22, _⟩ => ⟨S3072, .f32⟩
  | .hbm, ⟨23, _⟩ => ⟨S1x3072, .f32⟩
  | .hbm, ⟨24, _⟩ => ⟨S8192x3072, .f32⟩
  | .hbm, ⟨25, _⟩ => ⟨S8192x3072, .f32⟩
  | .hbm, ⟨26, _⟩ => ⟨S8192x3072, .f32⟩
  | .hbm, ⟨27, _⟩ => ⟨S8192x3072, .f32⟩
  | .hbm, ⟨28, _⟩ => ⟨S1x3072, .f32⟩
  | .hbm, ⟨29, _⟩ => ⟨S3072, .f32⟩
  | .hbm, ⟨30, _⟩ => ⟨S1x3072, .f32⟩
  | .hbm, ⟨31, _⟩ => ⟨S8192x3072, .f32⟩
  | .hbm, ⟨32, _⟩ => ⟨S8192x3072, .f32⟩
  | .hbm, ⟨33, _⟩ => ⟨S8192x3072, .f32⟩
  | .hbm, ⟨34, _⟩ => ⟨S8192x3072, .f32⟩
  | .hbm, ⟨35, _⟩ => ⟨S1x3072, .f32⟩
  | .hbm, ⟨36, _⟩ => ⟨S3072, .f32⟩
  | .hbm, ⟨37, _⟩ => ⟨S1x3072, .f32⟩
  | .hbm, ⟨38, _⟩ => ⟨S8192x3072, .f32⟩
  | .hbm, ⟨39, _⟩ => ⟨S8192x3072, .f32⟩
  | .hbm, ⟨40, _⟩ => ⟨S8192x3072, .f32⟩
  | .hbm, ⟨41, _⟩ => ⟨S8192x3072, .f32⟩
  | .hbm, ⟨42, _⟩ => ⟨S8192x3072, .f32⟩
  | .hbm, ⟨43, _⟩ => ⟨S_, .f32⟩
  | .hbm, ⟨44, _⟩ => ⟨S3072, .f32⟩
  | .hbm, ⟨45, _⟩ => ⟨S1x3072, .f32⟩
  | .hbm, ⟨46, _⟩ => ⟨S8192x3072, .f32⟩
  | .hbm, ⟨47, _⟩ => ⟨S8192x3072, .f32⟩
  | .hbm, ⟨48, _⟩ => ⟨S_, .f32⟩
  | .hbm, ⟨49, _⟩ => ⟨S3072, .f32⟩
  | .hbm, ⟨50, _⟩ => ⟨S1x3072, .f32⟩
  | .hbm, ⟨51, _⟩ => ⟨S_, .f32⟩
  | .hbm, ⟨52, _⟩ => ⟨S4x3072, .f32⟩
  | .hbm, ⟨53, _⟩ => ⟨S_, .f32⟩
  | .hbm, ⟨54, _⟩ => ⟨S8195x3072, .f32⟩
  | .hbm, ⟨55, _⟩ => ⟨S8192x3072, .f32⟩
  | .hbm, ⟨56, _⟩ => ⟨S_, .f32⟩
  | .hbm, ⟨57, _⟩ => ⟨S3072, .f32⟩
  | .hbm, ⟨58, _⟩ => ⟨S1x3072, .f32⟩
  | .hbm, ⟨59, _⟩ => ⟨S8192x3072, .f32⟩
  | .hbm, ⟨60, _⟩ => ⟨S8192x3072, .f32⟩
  | .hbm, ⟨61, _⟩ => ⟨S_, .f32⟩
  | .hbm, ⟨62, _⟩ => ⟨S3072, .f32⟩
  | .hbm, ⟨63, _⟩ => ⟨S1x3072, .f32⟩
  | .hbm, ⟨64, _⟩ => ⟨S_, .f32⟩
  | .hbm, ⟨65, _⟩ => ⟨S4x3072, .f32⟩
  | .hbm, ⟨66, _⟩ => ⟨S4x3072, .f32⟩
  | .hbm, ⟨67, _⟩ => ⟨S_, .f32⟩
  | .hbm, ⟨68, _⟩ => ⟨S8195x3072, .f32⟩
  | .hbm, ⟨69, _⟩ => ⟨S8195x3072, .f32⟩
  | .hbm, ⟨70, _⟩ => ⟨S8192x3072, .f32⟩
  | .hbm, ⟨71, _⟩ => ⟨S_, .f32⟩
  | .hbm, ⟨72, _⟩ => ⟨S3072, .f32⟩
  | .hbm, ⟨73, _⟩ => ⟨S1x3072, .f32⟩
  | .hbm, ⟨74, _⟩ => ⟨S8192x3072, .f32⟩
  | .hbm, ⟨75, _⟩ => ⟨S8192x3072, .f32⟩
  | .hbm, ⟨76, _⟩ => ⟨S_, .f32⟩
  | .hbm, ⟨77, _⟩ => ⟨S3072, .f32⟩
  | .hbm, ⟨78, _⟩ => ⟨S1x3072, .f32⟩
  | .hbm, ⟨79, _⟩ => ⟨S_, .f32⟩
  | .hbm, ⟨80, _⟩ => ⟨S4x3072, .f32⟩
  | .hbm, ⟨81, _⟩ => ⟨S4x3072, .f32⟩
  | .hbm, ⟨82, _⟩ => ⟨S_, .f32⟩
  | .hbm, ⟨83, _⟩ => ⟨S8195x3072, .f32⟩
  | .hbm, ⟨84, _⟩ => ⟨S8195x3072, .f32⟩
  | .hbm, ⟨85, _⟩ => ⟨S8192x3072, .f32⟩
  | .hbm, ⟨86, _⟩ => ⟨S_, .f32⟩
  | .hbm, ⟨87, _⟩ => ⟨S3072, .f32⟩
  | .hbm, ⟨88, _⟩ => ⟨S1x3072, .f32⟩
  | .hbm, ⟨89, _⟩ => ⟨S8192x3072, .f32⟩
  | .hbm, ⟨90, _⟩ => ⟨S8192x3072, .f32⟩
  | .hbm, ⟨91, _⟩ => ⟨S_, .f32⟩
  | .hbm, ⟨92, _⟩ => ⟨S3072, .f32⟩
  | .hbm, ⟨93, _⟩ => ⟨S1x3072, .f32⟩
  | .hbm, ⟨94, _⟩ => ⟨S_, .f32⟩
  | .hbm, ⟨95, _⟩ => ⟨S4x3072, .f32⟩
  | .hbm, ⟨96, _⟩ => ⟨S4x3072, .f32⟩
  | .hbm, ⟨97, _⟩ => ⟨S_, .f32⟩
  | .hbm, ⟨98, _⟩ => ⟨S8195x3072, .f32⟩
  | .hbm, ⟨99, _⟩ => ⟨S8195x3072, .f32⟩
  | .hbm, ⟨100, _⟩ => ⟨S3x3072, .f32⟩
  | .hbm, ⟨101, _⟩ => ⟨S8192x3072, .f32⟩
  | .hbm, ⟨102, _⟩ => ⟨S8192x3072, .bf16⟩
  | .hbm, ⟨103, _⟩ => ⟨S8192x3072, .bf16⟩
  | .hbm, ⟨104, _⟩ => ⟨S8192x4096, .bf16⟩
  | .hbm, ⟨105, _⟩ => ⟨S8192x10240, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_11 : Ref sig .tc := ⟨.hbm, 76, rfl⟩
abbrev main_v60 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_v63 : Ref sig .tc := ⟨.hbm, 81, rfl⟩
abbrev main_cst_13 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_14 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_15 : Ref sig .tc := ⟨.hbm, 91, rfl⟩
abbrev main_v71 : Ref sig .tc := ⟨.hbm, 92, rfl⟩
abbrev main_v72 : Ref sig .tc := ⟨.hbm, 93, rfl⟩
abbrev main_cst_16 : Ref sig .tc := ⟨.hbm, 94, rfl⟩
abbrev main_v73 : Ref sig .tc := ⟨.hbm, 95, rfl⟩
abbrev main_v74 : Ref sig .tc := ⟨.hbm, 96, rfl⟩
abbrev main_cst_17 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩

abbrev nD : Nat := 1
abbrev τ : Topo := Topo.v7x

variable {F : FTy → Type} [FloatOps F]
-- ==== AdamOa.lean ====
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOaRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOb.lean ====
abbrev S512x1024 : Shape := ⟨2, ![512, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamObRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPle.lean ====
abbrev S256x256 : Shape := ⟨2, ![256, 256]⟩

abbrev nBuf : Space → Nat
  | .hbm => 8
  | .vmem => 8
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamPleRefIdeal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S2568x1024 : Shape := ⟨2, ![2568, 1024]⟩
abbrev S2568x128 : Shape := ⟨2, ![2568, 128]⟩

abbrev nBuf : Space → Nat
  | .hbm => 8
  | .vmem => 16
  | .smem => 0
  | _ => 0

abbrev bufTy : (tb : Table) → Fin (tcTables nBuf tb) → BufTy
  | .hbm, ⟨0, _⟩ => ⟨S2568x1024, .f32⟩
  | .hbm, ⟨1, _⟩ => ⟨S2568x1024, .f32⟩
  | .hbm, ⟨2, _⟩ => ⟨S2568x1024, .f32⟩
  | .hbm, ⟨3, _⟩ => ⟨S2568x1024, .f32⟩
  | .hbm, ⟨4, _⟩ => ⟨S2568x1024, .f32⟩
  | .hbm, ⟨5, _⟩ => ⟨S2568x1024, .f32⟩
  | .hbm, ⟨6, _⟩ => ⟨S2568x1024, .f32⟩
  | .hbm, ⟨7, _⟩ => ⟨S2568x1024, .f32⟩
  | .local _ .vmem, ⟨0, _⟩ => ⟨S2568x128, .f32⟩
  | .local _ .vmem, ⟨1, _⟩ => ⟨S2568x128, .f32⟩
  | .local _ .vmem, ⟨2, _⟩ => ⟨S2568x128, .f32⟩
  | .local _ .vmem, ⟨3, _⟩ => ⟨S2568x128, .f32⟩
  | .local _ .vmem, ⟨4, _⟩ => ⟨S2568x128, .f32⟩
  | .local _ .vmem, ⟨5, _⟩ => ⟨S2568x128, .f32⟩
  | .local _ .vmem, ⟨6, _⟩ => ⟨S2568x128, .f32⟩
  | .local _ .vmem, ⟨7, _⟩ => ⟨S2568x128, .f32⟩
  | .local _ .vmem, ⟨8, _⟩ => ⟨S2568x128, .f32⟩
  | .local _ .vmem, ⟨9, _⟩ => ⟨S2568x128, .f32⟩
  | .local _ .vmem, ⟨10, _⟩ => ⟨S2568x128, .f32⟩
  | .local _ .vmem, ⟨11, _⟩ => ⟨S2568x128, .f32⟩
  | .local _ .vmem, ⟨12, _⟩ => ⟨S2568x128, .f32⟩
  | .local _ .vmem, ⟨13, _⟩ => ⟨S2568x128, .f32⟩
  | .local _ .vmem, ⟨14, _⟩ => ⟨S2568x128, .f32⟩
  | .local _ .vmem, ⟨15, _⟩ => ⟨S2568x128, .f32⟩
  | _, _ => ⟨S2568x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2568x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2568x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2568x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2568x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2568x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2568x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2568x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2568x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S2568x1024 : Shape := ⟨2, ![2568, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2568x1024, .f32⟩
  | .hbm, ⟨1, _⟩ => ⟨S2568x1024, .f32⟩
  | .hbm, ⟨2, _⟩ => ⟨S2568x1024, .f32⟩
  | .hbm, ⟨3, _⟩ => ⟨S2568x1024, .f32⟩
  | .hbm, ⟨4, _⟩ => ⟨S_, .f32⟩
  | .hbm, ⟨5, _⟩ => ⟨S2568x1024, .f32⟩
  | .hbm, ⟨6, _⟩ => ⟨S2568x1024, .f32⟩
  | .hbm, ⟨7, _⟩ => ⟨S_, .f32⟩
  | .hbm, ⟨8, _⟩ => ⟨S2568x1024, .f32⟩
  | .hbm, ⟨9, _⟩ => ⟨S2568x1024, .f32⟩
  | .hbm, ⟨10, _⟩ => ⟨S2568x1024, .f32⟩
  | .hbm, ⟨11, _⟩ => ⟨S_, .f32⟩
  | .hbm, ⟨12, _⟩ => ⟨S2568x1024, .f32⟩
  | .hbm, ⟨13, _⟩ => ⟨S2568x1024, .f32⟩
  | .hbm, ⟨14, _⟩ => ⟨S2568x1024, .f32⟩
  | .hbm, ⟨15, _⟩ => ⟨S_, .f32⟩
  | .hbm, ⟨16, _⟩ => ⟨S2568x1024, .f32⟩
  | .hbm, ⟨17, _⟩ => ⟨S2568x1024, .f32⟩
  | .hbm, ⟨18, _⟩ => ⟨S2568x1024, .f32⟩
  | .hbm, ⟨19, _⟩ => ⟨S_, .f32⟩
  | .hbm, ⟨20, _⟩ => ⟨S2568x1024, .f32⟩
  | .hbm, ⟨21, _⟩ => ⟨S2568x1024, .f32⟩
  | .hbm, ⟨22, _⟩ => ⟨S_, .f32⟩
  | .hbm, ⟨23, _⟩ => ⟨S2568x1024, .f32⟩
  | .hbm, ⟨24, _⟩ => ⟨S2568x1024, .f32⟩
  | .hbm, ⟨25, _⟩ => ⟨S2568x1024, .f32⟩
  | .hbm, ⟨26, _⟩ => ⟨S_, .f32⟩
  | .hbm, ⟨27, _⟩ => ⟨S2568x1024, .f32⟩
  | .hbm, ⟨28, _⟩ => ⟨S2568x1024, .f32⟩
  | .hbm, ⟨29, _⟩ => ⟨S2568x1024, .f32⟩
  | .hbm, ⟨30, _⟩ => ⟨S_, .f32⟩
  | .hbm, ⟨31, _⟩ => ⟨S2568x1024, .f32⟩
  | .hbm, ⟨32, _⟩ => ⟨S2568x1024, .f32⟩
  | .hbm, ⟨33, _⟩ => ⟨S2568x1024, .f32⟩
  | .hbm, ⟨34, _⟩ => ⟨S_, .f32⟩
  | .hbm, ⟨35, _⟩ => ⟨S2568x1024, .f32⟩
  | .hbm, ⟨36, _⟩ => ⟨S2568x1024, .f32⟩
  | _, _ => ⟨S2568x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPg.lean ====
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamPgRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.BranchA.Math.lean ====
/- The gated mixing branch and its gradient, written once over the extended reals, one chunk of 128 tokens at a time.
   A chunk's data are the three pre-activations `u`, `v`, `z` (128 rows of 1024 channels each) and the cotangent `dy` of the
   branch's output; the parameters are the layer norm's scale `g` and shift `b`, the four 128×128 mixing matrices `W` and the
   mixing bias `β`. Nothing outside a chunk enters its own gradients, and the parameters' gradients are sums over chunks:
   that is why a tile of four chunks and the whole sequence of sixty-four can both be described by these functions. -/
module

public import Idealize.ShloMosaic.Lib.Pointwise

@[expose] public section

noncomputable section

namespace Cert.BranchA

open Idealize.ShloMosaic

/-- A chunk of rows: 128 tokens by 1024 channels. -/
abbrev Rows := Fin 128 → Fin 1024 → EReal
/-- One token's channels. -/
abbrev Row := Fin 1024 → EReal
/-- Four mixing matrices. -/
abbrev Mats := Fin 4 → Fin 128 → Fin 128 → EReal

abbrev half : EReal := Ideal.ofBits .f32 0x3F000000#32
abbrev negHalf : EReal := Ideal.ofBits .f32 0xBF000000#32
abbrev three : EReal := Ideal.ofBits .f32 0x40400000#32
abbrev cubic : EReal := Ideal.ofBits .f32 0x3D372713#32
abbrev slope : EReal := Ideal.ofBits .f32 0x3F4C422A#32
abbrev width : EReal := Ideal.ofBits .f32 0x44800000#32
abbrev eps : EReal := Ideal.ofBits .f32 0x358637BD#32

/-- The hyperbolic tangent inside the approximate Gaussian unit. -/
def th (x : EReal) : EReal := Ideal.tanh (slope * (x + cubic * (x * (x * x))))
/-- The slope of the unit's linear part. -/
def gate (x : EReal) : EReal := half * (1 + th x)
/-- The approximate Gaussian unit. -/
def gelu (x : EReal) : EReal := x * gate x
/-- Its gradient: the cotangent `d` pulled back through `gelu` at `x`. -/
def geluBwd (x d : EReal) : EReal :=
  (d * gate x + slope * ((half * (x * d)) * ((1 + th x) * (1 - th x))))
    + (cubic * (slope * ((half * (x * d)) * ((1 + th x) * (1 - th x))))) * (three * (x * x))

/-- The logistic gate times its argument. -/
def silu (z : EReal) : EReal := z * Ideal.logistic z
/-- The cotangent `d` pulled back through `silu` at `z`. -/
def siluBwd (z d : EReal) : EReal :=
  d * Ideal.logistic z + (z * d) * (Ideal.logistic z * (1 - Ideal.logistic z))

/-- The activated row less its mean. -/
def centred (v : Row) (j : Fin 1024) : EReal := gelu (v j) - Ideal.div (∑ k, gelu (v k)) width
/-- The row's variance, with the small constant added. -/
def variance (v : Row) : EReal := Ideal.div (∑ k, centred v k * centred v k) width + eps
def invStd (v : Row) : EReal := Ideal.rsqrt (variance v)
/-- The derivative of the inverse square root at the variance. -/
def invStdSlope (v : Row) : EReal := negHalf * Ideal.div (invStd v) (variance v)
/-- The normalised row, before scale and shift. -/
def unitRow (v : Row) (j : Fin 1024) : EReal := centred v j * invStd v
/-- The layer norm of the activated row. -/
def normed (g b v : Row) (j : Fin 1024) : EReal := unitRow v j * g j + b j

/-- The normalised row's share of the cotangent through the variance. -/
def varShare (g v d : Row) : EReal := Ideal.div ((∑ k, centred v k * (d k * g k)) * invStdSlope v) width
/-- The cotangent at the centred row. -/
def centredBwd (g v d : Row) (j : Fin 1024) : EReal :=
  ((d j * g j) * invStd v + centred v j * varShare g v d) + varShare g v d * centred v j
/-- The cotangent at the activated row. -/
def normedBwd (g v d : Row) (j : Fin 1024) : EReal :=
  centredBwd g v d j + Ideal.div (∑ k, -centredBwd g v d k) width

/-- The group of 256 channels that a channel lies in. -/
abbrev grp (j : Fin 1024) : Fin 4 := ⟨j.val / 256, by omega⟩
/-- Channel `d` of group `h`. -/
abbrev chan (h : Fin 4) (d : Fin 256) : Fin 1024 := ⟨256 * h.val + d.val, by omega⟩

/-- The causal part of the mixing matrices: a token receives from itself and from earlier tokens. -/
def causal (W : Mats) (h : Fin 4) (t s : Fin 128) : EReal := if s.val ≤ t.val then W h t s else 0

/-- The mixed rows: each token's channel is a combination of the chunk's tokens, by its group's matrix, plus a bias. -/
def mix (W : Mats) (β : Fin 4 → Fin 128 → EReal) (X : Rows) (t : Fin 128) (j : Fin 1024) : EReal :=
  (∑ s, causal W (grp j) t s * X s j) + β (grp j) t
/-- The cotangent at the rows that were mixed. -/
def mixBwd (W : Mats) (D : Rows) (s : Fin 128) (j : Fin 1024) : EReal := ∑ t, D t j * causal W (grp j) t s
/-- A chunk's share of the mixing matrices' gradient, before the causal mask. -/
def mixBwdW (D X : Rows) (h : Fin 4) (t s : Fin 128) : EReal := ∑ d, D t (chan h d) * X s (chan h d)
/-- A chunk's share of the mixing bias's gradient. -/
def mixBwdβ (D : Rows) (h : Fin 4) (t : Fin 128) : EReal := ∑ d, D t (chan h d)

/-- A chunk's data. -/
structure Chunk where
  u : Rows
  v : Rows
  z : Rows
  dy : Rows

/-- The parameters. -/
structure Params where
  g : Row
  b : Row
  W : Mats
  β : Fin 4 → Fin 128 → EReal

variable (P : Params) (C : Chunk)

/-- The chunk's layer-normed rows. -/
def Chunk.x (t : Fin 128) : Row := normed P.g P.b (C.v t)
/-- The chunk's mixed rows. -/
def Chunk.mixed : Rows := mix P.W P.β (C.x P)
/-- The cotangent at the gate. -/
def Chunk.dSilu (t : Fin 128) (j : Fin 1024) : EReal := (gelu (C.u t j) * C.mixed P t j) * C.dy t j
/-- The cotangent at the product of the activated `u` and the mixed rows. -/
def Chunk.dProd (t : Fin 128) (j : Fin 1024) : EReal := C.dy t j * silu (C.z t j)
/-- The cotangent at the mixed rows. -/
def Chunk.dMix (t : Fin 128) (j : Fin 1024) : EReal := gelu (C.u t j) * C.dProd t j
/-- The cotangent at the layer-normed rows. -/
def Chunk.dX (t : Fin 128) : Row := mixBwd P.W C.dMix t

/-- The gradients at the three pre-activations. -/
def Chunk.dz (t : Fin 128) (j : Fin 1024) : EReal := siluBwd (C.z t j) (C.dSilu P t j)
def Chunk.du (t : Fin 128) (j : Fin 1024) : EReal := geluBwd (C.u t j) (C.dProd t j * C.mixed P t j)
def Chunk.dv (t : Fin 128) (j : Fin 1024) : EReal := geluBwd (C.v t j) (normedBwd P.g (C.v t) (C.dX P t) j)

/-- A token's share of the gradients of the layer norm's scale and shift. -/
def Chunk.dg (t : Fin 128) (j : Fin 1024) : EReal := unitRow (C.v t) j * C.dX P t j
def Chunk.db (t : Fin 128) (j : Fin 1024) : EReal := C.dX P t j
/-- The chunk's share of the gradients of the mixing matrices and of the mixing bias. -/
def Chunk.dW : Mats := mixBwdW C.dMix (C.x P)
def Chunk.dβ : Fin 4 → Fin 128 → EReal := mixBwdβ C.dMix

end Cert.BranchA

end
-- ==== Proof.BranchA.Select.lean ====
/- A selection by the comparison of two small indices, as the causal mask makes it. -/
module

public import Idealize.ShloMosaic.Lib.Pointwise

@[expose] public section

namespace Cert.BranchA

open Idealize.ShloMosaic

/-- The causal mask's comparison of the two indices. -/
theorem select_causal {α : Type} (t s : Fin 128) (a b : α) :
    Scalar.select (IntOp.cmpi .sge (BitVec.ofNat 32 t.val) (BitVec.ofNat 32 s.val)) a b = if s.val ≤ t.val then a else b := by
  have ht := t.isLt
  have hs := s.isLt
  have h1 : (BitVec.ofNat 32 t.val).toInt = (t.val : Int) := by
    rw [BitVec.toInt_eq_toNat_of_lt (by simp; omega)]; simp; omega
  have h2 : (BitVec.ofNat 32 s.val).toInt = (s.val : Int) := by
    rw [BitVec.toInt_eq_toNat_of_lt (by simp; omega)]; simp; omega
  simp only [IntOp.cmpi, BitVec.sle, h1, h2, Nat.cast_le]
  by_cases h : s.val ≤ t.val
  · simp [h, Scalar.select]
  · simp [h, Scalar.select]

end Cert.BranchA
-- ==== Proof.BranchA.Payloads.lean ====
/- The mixing inside one tile of four chunks, as the kernel's body computes it and read at an index: the mixed rows, the
   cotangent at the rows that were mixed, and the tile's shares of the gradients of the mixing matrices and of the bias. -/
module

public import proofs.«01_k».proof.Proof.BranchA.Math
public import proofs.«01_k».proof.Proof.BranchA.Select
public import proofs.«01_k».proof.Proof.Gen.KernelIdeal.Skeleton

@[expose] public section

set_option maxRecDepth 16384
set_option maxHeartbeats 0

noncomputable section
namespace Cert.BranchA.Tile
open Idealize.ShloMosaic Cert.BranchA Cert.KernelIdeal Cert.KernelIdeal.Gen
section
variable {F : FTy → Type} [FloatOps F]

/-- The mixed rows of a tile of four chunks, from its layer-normed rows `X`. -/
def mixedV (X : Vec F S512x1024 .f32) (x3 : Vec F S4x128x128 .f32) (x4 : Vec F S4x128x1 .f32) : Vec F S512x1024 .f32 :=
  k0_pay71 x4 X (k0_pay25 k0_pay23 (k0_pay24 x3))
          (k0_pay26 x3 k0_pay23) (k0_pay27 x3 k0_pay23) (k0_pay28 x3 k0_pay23)
          (k0_pay38 x3 x4 X k0_pay23 (k0_pay24 x3))
          (k0_pay48 x4 (k0_pay26 x3 k0_pay23) (k0_pay27 x3 k0_pay23) (k0_pay28 x3 k0_pay23)
            (k0_pay39 X) (k0_pay40 k0_pay23 (k0_pay24 x3))
            (k0_pay41 X))
          (k0_pay49 X)
          (k0_pay52 x4 X (k0_pay25 k0_pay23 (k0_pay24 x3)))
          (k0_pay55 x4 X (k0_pay26 x3 k0_pay23))
          (k0_pay58 X (k0_pay27 x3 k0_pay23)) (k0_pay59 x4)

/-- The cotangent at the layer-normed rows of a tile, from the activated `u` (`G`) and the cotangent `D` at the product. -/
def dRowsV (G D : Vec F S512x1024 .f32) (x3 : Vec F S4x128x128 .f32) : Vec F S512x1024 .f32 :=
  k0_pay137 (k0_pay30 k0_pay23 (k0_pay24 x3)) (k0_pay32 x3 k0_pay23)
          (k0_pay123
            (k0_pay108 (k0_pay50 (k0_pay25 k0_pay23 (k0_pay24 x3)))
              (k0_pay94 (k0_pay63 (k0_pay25 k0_pay23 (k0_pay24 x3))) (k0_pay65 (k0_pay26 x3 k0_pay23))
                (k0_pay83 G D)
                (k0_pay84 G D)
                (k0_pay90 G (k0_pay67 (k0_pay27 x3 k0_pay23)) (k0_pay69 (k0_pay28 x3 k0_pay23))
                  D))
              (k0_pay95 (k0_pay81 G D))
              (k0_pay102 (k0_pay56 (k0_pay27 x3 k0_pay23)) (k0_pay60 (k0_pay28 x3 k0_pay23))
                (k0_pay97 (k0_pay81 G D))
                (k0_pay98 (k0_pay81 G D))
                (constant S256x128 FTy.f32 0#32))
              (k0_pay104 (k0_pay53 (k0_pay26 x3 k0_pay23))
                (k0_pay96 (k0_pay81 G D)))
              (FloatOps.ofBits FTy.f32 0#32) k0_pay106)
            (k0_pay119 (k0_pay42 (k0_pay26 x3 k0_pay23)) (k0_pay44 (k0_pay27 x3 k0_pay23))
              (k0_pay110 (k0_pay80 G D))
              (k0_pay111 (k0_pay80 G D))
              (k0_pay115 (k0_pay46 (k0_pay28 x3 k0_pay23))
                (k0_pay80 G D)))
            (k0_pay121 (k0_pay40 k0_pay23 (k0_pay24 x3))
              (k0_pay109 (k0_pay80 G D))))
          (k0_pay124 (k0_pay79 G D))
          (k0_pay125 (k0_pay79 G D))
          (k0_pay129 (k0_pay36 x3 k0_pay23) (k0_pay79 G D))
          (k0_pay132 (k0_pay34 x3 k0_pay23)
            (k0_pay79 G D))

/-- A tile's share of the mixing matrices' gradient. -/
def dMatsV (X G D : Vec F S512x1024 .f32) : Vec F S4x128x128 .f32 :=
  k0_pay138 k0_pay23
        (k0_pay128 (k0_pay37 X)
          (k0_pay79 G D)
          (k0_pay114 (k0_pay47 (k0_pay39 X))
            (k0_pay80 G D)
            (k0_pay100 (k0_pay61 (k0_pay49 X))
              (k0_pay87 G (k0_pay70 X)
                D)
              (k0_pay98 (k0_pay81 G D)))))
        (k0_pay133
          (k0_pay117 (k0_pay45 (k0_pay39 X))
            (k0_pay101 (k0_pay57 X)
              (k0_pay89 G (k0_pay68 X)
                D)
              (k0_pay97 (k0_pay81 G D)))
            (k0_pay111 (k0_pay80 G D)))
          (k0_pay131 (k0_pay35 X)
            (k0_pay79 G D)))
        (k0_pay134 (k0_pay33 X)
          (k0_pay118 (k0_pay43 (k0_pay39 X))
            (k0_pay105 (k0_pay54 X)
              (k0_pay92 (k0_pay66 X)
                (k0_pay84 G D))
              (k0_pay96 (k0_pay81 G D)))
            (k0_pay110 (k0_pay80 G D)))
          (k0_pay125 (k0_pay79 G D)))
        (k0_pay136 (k0_pay31 X)
          (k0_pay122 (k0_pay41 X)
            (k0_pay107 (k0_pay51 X)
              (k0_pay93 (k0_pay64 X)
                (k0_pay83 G D))
              (k0_pay95 (k0_pay81 G D)))
            (k0_pay109 (k0_pay80 G D)))
          (k0_pay124 (k0_pay79 G D)))

/-- A tile's share of the mixing bias's gradient. -/
def dBiasV (G D : Vec F S512x1024 .f32) : Vec F S4x128x1 .f32 :=
  k0_pay135 (k0_pay124 (k0_pay79 G D))
        (k0_pay125 (k0_pay79 G D))
        (k0_pay130 (k0_pay79 G D)
          (k0_pay120 (k0_pay109 (k0_pay80 G D))
            (k0_pay110 (k0_pay80 G D))
            (k0_pay113 (k0_pay80 G D)
              (k0_pay95 (k0_pay81 G D))
              (k0_pay103 (k0_pay96 (k0_pay81 G D))
                (k0_pay97 (k0_pay81 G D))
                (k0_pay99 (k0_pay81 G D)
                  (k0_pay83 G D)
                  (k0_pay88 G D)
                  (k0_pay91 G D))))
            (k0_pay116 (k0_pay80 G D))))

end
/-- Positions inside a concatenation. -/
theorem drop256 (n : Nat) : 256 + n - 128 - 128 = n := by omega
theorem drop384 (n : Nat) : 384 + n - 128 - 128 - 128 = n := by omega
theorem drop512 (n : Nat) : 512 + n - 256 - 256 = n := by omega
theorem drop768 (n : Nat) : 768 + n - 256 - 256 - 256 = n := by omega
/-- The channels of each group. -/
theorem chan0 (d : Fin 256) : chan 0 d = ⟨d.val, by omega⟩ := Fin.ext (by show 256 * 0 + d.val = d.val; omega)
theorem chan1 (d : Fin 256) : chan 1 d = ⟨256 + d.val, by omega⟩ := rfl
theorem chan2 (d : Fin 256) : chan 2 d = ⟨512 + d.val, by omega⟩ := rfl
theorem chan3 (d : Fin 256) : chan 3 d = ⟨768 + d.val, by omega⟩ := rfl
/-- The group of each channel. -/
theorem grp0 (d : Fin 256) (h : d.val < 1024) : grp ⟨d.val, h⟩ = 0 := Fin.ext (by show d.val / 256 = 0; omega)
theorem grp1 (d : Fin 256) (h : 256 + d.val < 1024) : grp ⟨256 + d.val, h⟩ = 1 := Fin.ext (by show (256 + d.val) / 256 = 1; omega)
theorem grp2 (d : Fin 256) (h : 512 + d.val < 1024) : grp ⟨512 + d.val, h⟩ = 2 := Fin.ext (by show (512 + d.val) / 256 = 2; omega)
theorem grp3 (d : Fin 256) (h : 768 + d.val < 1024) : grp ⟨768 + d.val, h⟩ = 3 := Fin.ext (by show (768 + d.val) / 256 = 3; omega)

/-- Each chunk of the tile is mixed on its own, by the causal part of its group's matrix. -/
theorem mixed_apply (X : Vec Ideal S512x1024 .f32) (x3 : Vec Ideal S4x128x128 .f32) (x4 : Vec Ideal S4x128x1 .f32) (q h : Fin 4) (t : Fin 128) (d : Fin 256) :
    mixedV X x3 x4 (ix2 ⟨128 * q.val + t.val, by omega⟩ (chan h d))
      = mix (fun h t s => x3 (ix3 h t s)) (fun h t => x4 (ix3 h t 0)) (fun s j => X (ix2 ⟨128 * q.val + s.val, by omega⟩ j)) t (chan h d) := by
  unfold mixedV
  unfold_payloads
  fin_cases q <;> fin_cases h <;> pointwise [mix, causal, select_causal, chan0, chan1, chan2, chan3, grp0, grp1, grp2, grp3]
  all_goals try simp (disch := omega) only [dif_pos, dif_neg]
  all_goals pointwise [drop256, drop384, drop512, drop768, select_causal, causal, chan0, chan1, chan2, chan3, grp0, grp1, grp2, grp3]
  all_goals simp only [ite_mul, zero_mul]

/-- Each chunk's cotangent goes back through the causal part of its group's matrix. -/
theorem dRows_apply (G D : Vec Ideal S512x1024 .f32) (x3 : Vec Ideal S4x128x128 .f32) (q h : Fin 4) (t : Fin 128) (d : Fin 256) :
    dRowsV G D x3 (ix2 ⟨128 * q.val + t.val, by omega⟩ (chan h d))
      = mixBwd (fun h t s => x3 (ix3 h t s)) (fun s j => G (ix2 ⟨128 * q.val + s.val, by omega⟩ j) * D (ix2 ⟨128 * q.val + s.val, by omega⟩ j)) t (chan h d) := by
  unfold dRowsV
  unfold_payloads
  fin_cases q <;> fin_cases h <;> pointwise [mixBwd, causal, select_causal, chan0, chan1, chan2, chan3, grp0, grp1, grp2, grp3]
  all_goals try simp (disch := omega) only [dif_pos, dif_neg]
  all_goals pointwise [drop256, drop384, drop512, drop768, select_causal, causal, chan0, chan1, chan2, chan3, grp0, grp1, grp2, grp3]

/-- The tile's share of the matrices' gradient is the sum of its four chunks' shares, masked. -/
theorem dMats_apply (X G D : Vec Ideal S512x1024 .f32) (h : Fin 4) (t s : Fin 128) :
    dMatsV X G D (ix3 h t s)
      = if s.val ≤ t.val then ∑ q : Fin 4, mixBwdW (fun s j => G (ix2 ⟨128 * q.val + s.val, by omega⟩ j) * D (ix2 ⟨128 * q.val + s.val, by omega⟩ j)) (fun s j => X (ix2 ⟨128 * q.val + s.val, by omega⟩ j)) h t s else 0 := by
  unfold dMatsV
  unfold_payloads
  fin_cases h <;> pointwise [mixBwdW, causal, select_causal, Fin.sum_univ_four, chan0, chan1, chan2, chan3]
  all_goals try split_ifs
  all_goals try rfl
  all_goals try ac_rfl

/-- The tile's share of the bias's gradient is the sum of its four chunks' shares. -/
theorem dBias_apply (G D : Vec Ideal S512x1024 .f32) (h : Fin 4) (t : Fin 128) :
    dBiasV G D (ix3 h t 0)
      = ∑ q : Fin 4, mixBwdβ (fun s j => G (ix2 ⟨128 * q.val + s.val, by omega⟩ j) * D (ix2 ⟨128 * q.val + s.val, by omega⟩ j)) h t := by
  unfold dBiasV
  unfold_payloads
  fin_cases h <;> pointwise [mixBwdβ, Fin.sum_univ_four, chan0, chan1, chan2, chan3]
  all_goals try split_ifs
  all_goals try rfl
  all_goals try ac_rfl

end Cert.BranchA.Tile
end
-- ==== Proof.BranchA.Rows.lean ====
/- The row-wise part of the kernel's body, read at an index: the activations, the layer norm and its backward pass, and the
   four results of a tile in terms of the chunk functions. -/
module

public import proofs.«01_k».proof.Proof.BranchA.Payloads

@[expose] public section

set_option maxRecDepth 16384
set_option maxHeartbeats 0

noncomputable section
namespace Cert.BranchA.Tile
open Idealize.ShloMosaic Cert.BranchA Cert.KernelIdeal Cert.KernelIdeal.Gen

section
variable {F : FTy → Type} [FloatOps F]

/-- A tile's layer-normed rows. -/
def normedV (x0 : Vec F S512x3072 .bf16) (x1 x2 : Vec F S1x1024 .f32) : Vec F S512x1024 .f32 :=
  k0_pay22 x1 x2 (k0_pay9 x0) (k0_pay10 x0)

/-- A tile's cotangent at the product of the activated `u` and the mixed rows. -/
def dProdV (x0 : Vec F S512x3072 .bf16) (x5 : Vec F S512x1024 .bf16) (x6 : Vec F S1024x1024 .bf16) : Vec F S512x1024 .f32 :=
  k0_pay75 (k0_pay2 x5 x6) (k0_pay16 (k0_pay1 x0))

/-- What a tile leaves in its block of pre-activation gradients. -/
def dPreV (x0 : Vec F S512x3072 .bf16) (x1 x2 : Vec F S1x1024 .f32) (x3 : Vec F S4x128x128 .f32) (x4 : Vec F S4x128x1 .f32)
    (x5 : Vec F S512x1024 .bf16) (x6 : Vec F S1024x1024 .bf16) : Vec F S512x3072 .bf16 :=
  k0_pay144 (k0_pay3 x0) (k0_pay4 x0) (k0_pay6 x0) (k0_pay7 x0) (k0_pay9 x0) (k0_pay12 (k0_pay11 x0))
    (k0_pay14 (k0_pay9 x0) (k0_pay10 x0)) (k0_pay15 (k0_pay9 x0) (k0_pay10 x0)) (k0_pay17 (k0_pay9 x0) (k0_pay10 x0))
    (k0_pay76 (k0_pay16 (k0_pay1 x0)) (k0_pay72 (k0_pay16 (k0_pay1 x0))) (k0_pay73 (k0_pay16 (k0_pay1 x0)))
      (mulf (mulf (k0_pay8 x0) (mixedV (normedV x0 x1 x2) x3 x4)) (k0_pay2 x5 x6)))
    (k0_pay78 (mixedV (normedV x0 x1 x2) x3 x4) (dProdV x0 x5 x6))
    (k0_pay142 x1 (k0_pay17 (k0_pay9 x0) (k0_pay10 x0)) (k0_pay20 (k0_pay9 x0) (k0_pay10 x0)) (dRowsV (k0_pay8 x0) (dProdV x0 x5 x6) x3))
    (k0_pay143 x1 (k0_pay17 (k0_pay9 x0) (k0_pay10 x0)) (k0_pay19 (k0_pay9 x0) (k0_pay10 x0)) (k0_pay20 (k0_pay9 x0) (k0_pay10 x0))
      (dRowsV (k0_pay8 x0) (dProdV x0 x5 x6) x3))

/-- A tile's share of the gradient of the layer norm's scale. -/
def dScaleV (x0 : Vec F S512x3072 .bf16) (x3 : Vec F S4x128x128 .f32)
    (x5 : Vec F S512x1024 .bf16) (x6 : Vec F S1024x1024 .bf16) : Vec F S1x1024 .f32 :=
  k0_pay140 (k0_pay21 (k0_pay9 x0) (k0_pay10 x0)) (dRowsV (k0_pay8 x0) (dProdV x0 x5 x6) x3)

/-- A tile's share of the gradient of the layer norm's shift. -/
def dShiftV (x0 : Vec F S512x3072 .bf16) (x3 : Vec F S4x128x128 .f32)
    (x5 : Vec F S512x1024 .bf16) (x6 : Vec F S1024x1024 .bf16) : Vec F S1x1024 .f32 :=
  k0_pay139 (dRowsV (k0_pay8 x0) (dProdV x0 x5 x6) x3)
end

/-- The parameters as the kernel receives them. -/
def params (x1 x2 : Vec Ideal S1x1024 .f32) (x3 : Vec Ideal S4x128x128 .f32) (x4 : Vec Ideal S4x128x1 .f32) : Params where
  g := fun j => x1 (ix2 0 j)
  b := fun j => x2 (ix2 0 j)
  W := fun h t s => x3 (ix3 h t s)
  β := fun h t => x4 (ix3 h t 0)

/-- The rows of a tile's three pre-activations and of its cotangent. -/
def rowU (x0 : Vec Ideal S512x3072 .bf16) (i : Fin 512) (j : Fin 1024) : EReal := x0 (ix2 i ⟨j.val, by omega⟩)
def rowV (x0 : Vec Ideal S512x3072 .bf16) (i : Fin 512) (j : Fin 1024) : EReal := x0 (ix2 i ⟨1024 + j.val, by omega⟩)
def rowZ (x0 : Vec Ideal S512x3072 .bf16) (i : Fin 512) (j : Fin 1024) : EReal := x0 (ix2 i ⟨2048 + j.val, by omega⟩)
def rowDy (x5 : Vec Ideal S512x1024 .bf16) (x6 : Vec Ideal S1024x1024 .bf16) (i : Fin 512) (j : Fin 1024) : EReal :=
  ∑ k : Fin 1024, x5 (ix2 i k) * x6 (ix2 j k)

/-- Chunk `q` of a tile. -/
def chunk (x0 : Vec Ideal S512x3072 .bf16) (x5 : Vec Ideal S512x1024 .bf16) (x6 : Vec Ideal S1024x1024 .bf16) (q : Fin 4) : Chunk where
  u := fun t => rowU x0 ⟨128 * q.val + t.val, by omega⟩
  v := fun t => rowV x0 ⟨128 * q.val + t.val, by omega⟩
  z := fun t => rowZ x0 ⟨128 * q.val + t.val, by omega⟩
  dy := fun t => rowDy x5 x6 ⟨128 * q.val + t.val, by omega⟩

variable (x0 : Vec Ideal S512x3072 .bf16) (x1 x2 : Vec Ideal S1x1024 .f32) (x3 : Vec Ideal S4x128x128 .f32)
  (x4 : Vec Ideal S4x128x1 .f32) (x5 : Vec Ideal S512x1024 .bf16) (x6 : Vec Ideal S1024x1024 .bf16)

theorem gelu_u (i : Fin 512) (j : Fin 1024) : k0_pay8 x0 (ix2 i j) = gelu (rowU x0 i j) := by
  pointwise [k0_pay8, k0_pay7, k0_pay5, k0_pay3, k0_pay1, gelu, gate, th, rowU]

theorem gate_u (i : Fin 512) (j : Fin 1024) : k0_pay7 x0 (ix2 i j) = gate (rowU x0 i j) := by
  pointwise [k0_pay7, k0_pay5, k0_pay3, k0_pay1, gelu, gate, th, rowU]

theorem centred_v (i : Fin 512) (j : Fin 1024) : k0_pay17 (k0_pay9 x0) (k0_pay10 x0) (ix2 i j) = centred (rowV x0 i) j := by
  pointwise [k0_pay9, k0_pay10, k0_pay15, k0_pay13, k0_pay17, k0_pay1, centred, gelu, gate, th, rowV]

theorem variance_v (i : Fin 512) (k : Fin 1) : k0_pay18 (k0_pay9 x0) (k0_pay10 x0) (ix2 i k) = variance (rowV x0 i) := by
  pointwise [k0_pay18, variance, centred_v]

theorem invStd_v (i : Fin 512) (k : Fin 1) : k0_pay19 (k0_pay9 x0) (k0_pay10 x0) (ix2 i k) = invStd (rowV x0 i) := by
  pointwise [k0_pay19, invStd, variance_v]

theorem slope_v (i : Fin 512) (k : Fin 1) : k0_pay20 (k0_pay9 x0) (k0_pay10 x0) (ix2 i k) = invStdSlope (rowV x0 i) := by
  pointwise [k0_pay20, invStdSlope, invStd_v, variance_v]

theorem unit_v (i : Fin 512) (j : Fin 1024) : k0_pay21 (k0_pay9 x0) (k0_pay10 x0) (ix2 i j) = unitRow (rowV x0 i) j := by
  pointwise [k0_pay21, unitRow, invStd_v, centred_v]

theorem normed_apply (i : Fin 512) (j : Fin 1024) :
    normedV x0 x1 x2 (ix2 i j) = normed (fun j => x1 (ix2 0 j)) (fun j => x2 (ix2 0 j)) (rowV x0 i) j := by
  pointwise [normedV, k0_pay22, normed, unit_v]

theorem dProd_apply (i : Fin 512) (j : Fin 1024) :
    dProdV x0 x5 x6 (ix2 i j) = rowDy x5 x6 i j * silu (rowZ x0 i j) := by
  pointwise [dProdV, k0_pay75, k0_pay2, k0_pay16, k0_pay1, k0_pay72, rowDy, silu, rowZ]

/-- A row of the tile. -/
abbrev row (q : Fin 4) (t : Fin 128) : Fin 512 := ⟨128 * q.val + t.val, by omega⟩

theorem chan_split (j : Fin 1024) : ∃ (h : Fin 4) (d : Fin 256), j = chan h d :=
  ⟨⟨j.val / 256, by omega⟩, ⟨j.val % 256, by omega⟩, Fin.ext (by show j.val = 256 * (j.val / 256) + j.val % 256; omega)⟩

/-- The mixed rows of the tile are its chunks' mixed rows. -/
theorem mixed_chunk (q : Fin 4) (t : Fin 128) (j : Fin 1024) :
    mixedV (normedV x0 x1 x2) x3 x4 (ix2 (row q t) j) = (chunk x0 x5 x6 q).mixed (params x1 x2 x3 x4) t j := by
  obtain ⟨h, d, rfl⟩ := chan_split j
  rw [mixed_apply]
  simp only [normed_apply]
  rfl

/-- The cotangent at the mixed rows of the tile is its chunks'. -/
theorem dMix_chunk (q : Fin 4) (t : Fin 128) (j : Fin 1024) :
    k0_pay8 x0 (ix2 (row q t) j) * dProdV x0 x5 x6 (ix2 (row q t) j) = (chunk x0 x5 x6 q).dMix t j := by
  rw [gelu_u, dProd_apply]
  rfl

/-- The cotangent at the layer-normed rows of the tile is its chunks'. -/
theorem dRows_chunk (q : Fin 4) (t : Fin 128) (j : Fin 1024) :
    dRowsV (k0_pay8 x0) (dProdV x0 x5 x6) x3 (ix2 (row q t) j) = (chunk x0 x5 x6 q).dX (params x1 x2 x3 x4) t j := by
  obtain ⟨h, d, rfl⟩ := chan_split j
  rw [dRows_apply]
  exact congrArg (fun D => mixBwd (fun h t s => x3 (ix3 h t s)) D t (chan h d))
    (funext fun s => funext fun j => dMix_chunk x0 x5 x6 q s j)

theorem dMats_chunk (h : Fin 4) (t s : Fin 128) :
    dMatsV (normedV x0 x1 x2) (k0_pay8 x0) (dProdV x0 x5 x6) (ix3 h t s)
      = if s.val ≤ t.val then ∑ q, (chunk x0 x5 x6 q).dW (params x1 x2 x3 x4) h t s else 0 := by
  rw [dMats_apply]
  refine if_congr Iff.rfl (Finset.sum_congr rfl fun q _ => ?_) rfl
  exact congrArg₂ (fun D X => mixBwdW D X h t s)
    (funext fun s => funext fun j => dMix_chunk x0 x5 x6 q s j)
    (funext fun s => funext fun j => normed_apply x0 x1 x2 (row q s) j)

theorem dBias_chunk (h : Fin 4) (t : Fin 128) :
    dBiasV (k0_pay8 x0) (dProdV x0 x5 x6) (ix3 h t 0) = ∑ q, (chunk x0 x5 x6 q).dβ h t := by
  rw [dBias_apply]
  refine Finset.sum_congr rfl fun q _ => ?_
  exact congrArg (fun D => mixBwdβ D h t) (funext fun s => funext fun j => dMix_chunk x0 x5 x6 q s j)

theorem dScale_row (k : Fin 1) (j : Fin 1024) :
    dScaleV x0 x3 x5 x6 (ix2 k j) = ∑ i : Fin 512, unitRow (rowV x0 i) j * dRowsV (k0_pay8 x0) (dProdV x0 x5 x6) x3 (ix2 i j) := by
  pointwise [dScaleV, k0_pay140, unit_v]

theorem dShift_row (k : Fin 1) (j : Fin 1024) :
    dShiftV x0 x3 x5 x6 (ix2 k j) = ∑ i : Fin 512, dRowsV (k0_pay8 x0) (dProdV x0 x5 x6) x3 (ix2 i j) := by
  pointwise [dShiftV, k0_pay139]

/-- The cotangent through the layer norm, for any cotangent `R` at the normed rows. -/
theorem varShare_apply (R : Vec Ideal S512x1024 .f32) (i : Fin 512) (j : Fin 1024) :
    k0_pay142 x1 (k0_pay17 (k0_pay9 x0) (k0_pay10 x0)) (k0_pay20 (k0_pay9 x0) (k0_pay10 x0)) R (ix2 i j)
      = varShare (fun j => x1 (ix2 0 j)) (rowV x0 i) (fun j => R (ix2 i j)) := by
  pointwise [k0_pay142, k0_pay141, varShare, centred_v, slope_v]
  rw [Fin.sum_univ_one]

theorem inner_apply (R : Vec Ideal S512x1024 .f32) (i : Fin 512) (j : Fin 1024) :
    k0_pay143 x1 (k0_pay17 (k0_pay9 x0) (k0_pay10 x0)) (k0_pay19 (k0_pay9 x0) (k0_pay10 x0)) (k0_pay20 (k0_pay9 x0) (k0_pay10 x0)) R (ix2 i j)
      = (R (ix2 i j) * x1 (ix2 0 j)) * invStd (rowV x0 i)
        + centred (rowV x0 i) j * varShare (fun j => x1 (ix2 0 j)) (rowV x0 i) (fun j => R (ix2 i j)) := by
  pointwise [k0_pay143, k0_pay141, centred_v, invStd_v, varShare_apply]

theorem pre_u (i : Fin 512) (j : Fin 1024) :
    dPreV x0 x1 x2 x3 x4 x5 x6 (ix2 i ⟨j.val, by omega⟩)
      = geluBwd (rowU x0 i j) (dProdV x0 x5 x6 (ix2 i j) * mixedV (normedV x0 x1 x2) x3 x4 (ix2 i j)) := by
  pointwise [dPreV, k0_pay144, k0_pay78, k0_pay3, k0_pay4, k0_pay6, k0_pay5, k0_pay1, gate_u, geluBwd, gate, th, rowU]
  rw [dif_pos (by omega), dif_pos (by omega), add_zero, zero_add]

theorem val_v (i : Fin 512) (j : Fin 1024) : k0_pay9 x0 (ix2 i j) = rowV x0 i j := by
  pointwise [k0_pay9, k0_pay1, rowV]
theorem sq_v (i : Fin 512) (j : Fin 1024) : k0_pay12 (k0_pay11 x0) (ix2 i j) = three * (rowV x0 i j * rowV x0 i j) := by
  pointwise [k0_pay12, k0_pay11, k0_pay9, k0_pay1, rowV]
theorem gate_v (i : Fin 512) (j : Fin 1024) : k0_pay15 (k0_pay9 x0) (k0_pay10 x0) (ix2 i j) = gate (rowV x0 i j) := by
  pointwise [k0_pay15, k0_pay13, k0_pay9, k0_pay10, k0_pay1, gate, th, rowV]
theorem bell_v (i : Fin 512) (j : Fin 1024) :
    k0_pay14 (k0_pay9 x0) (k0_pay10 x0) (ix2 i j) = (1 + th (rowV x0 i j)) * (1 - th (rowV x0 i j)) := by
  pointwise [k0_pay14, k0_pay13, k0_pay9, k0_pay10, k0_pay1, gate, th, rowV]

theorem pre_v (i : Fin 512) (j : Fin 1024) :
    dPreV x0 x1 x2 x3 x4 x5 x6 (ix2 i ⟨1024 + j.val, by omega⟩)
      = geluBwd (rowV x0 i j) (normedBwd (fun j => x1 (ix2 0 j)) (rowV x0 i) (fun j => dRowsV (k0_pay8 x0) (dProdV x0 x5 x6) x3 (ix2 i j)) j) := by
  pointwise [dPreV, k0_pay144, inner_apply, varShare_apply, centred_v, val_v, sq_v, gate_v, bell_v, geluBwd, normedBwd, centredBwd]
  simp (disch := omega) only [dif_neg, dif_pos, zero_sub, add_zero, zero_add, Fin.sum_univ_one]

theorem pre_z (i : Fin 512) (j : Fin 1024) :
    dPreV x0 x1 x2 x3 x4 x5 x6 (ix2 i ⟨2048 + j.val, by omega⟩)
      = siluBwd (rowZ x0 i j) (gelu (rowU x0 i j) * mixedV (normedV x0 x1 x2) x3 x4 (ix2 i j) * rowDy x5 x6 i j) := by
  pointwise [dPreV, k0_pay144, k0_pay76, k0_pay72, k0_pay73, gelu_u, k0_pay2, k0_pay16, k0_pay1, siluBwd, rowDy, rowZ]
  rw [dif_neg (by omega), add_zero]

end Cert.BranchA.Tile
end
-- ==== Proof.BranchA.Tile.lean ====
/- What one run of the kernel's body leaves in each of its five results: the block of pre-activation gradients, and the four
   accumulators, which the first point clears and every point adds its tile's share to. -/
module

public import proofs.«01_k».proof.Proof.BranchA.Rows
public import proofs.«01_k».proof.Proof.Gen.KernelIdeal.Value
public import Idealize.ShloMosaic.Lib.Pipeline.Value
public import Idealize.ShloMosaic.Lib.Tactic

@[expose] public section

noncomputable section
open Idealize.ShloMosaic Idealize.ShloMosaic.TcCoe Idealize.SL.Sem
open Idealize.ShloMosaic.Pipeline (Dat)
namespace Cert.BranchA.Tile
open Cert.KernelIdeal Cert.KernelIdeal.Gen
variable {F : FTy → Type} [FloatOps F]

theorem hz : (![0, 0] : Fin 2 → Nat) = fun _ => 0 := by funext i; fin_cases i <;> rfl
theorem hz3 : (![0, 0, 0] : Fin 3 → Nat) = fun _ => 0 := by funext i; fin_cases i <;> rfl

variable (c : Dev nD) (i : grid0.Coords) (arg1 : Memref sig .tc .vmem S512x3072 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S4x128x128 .f32) (harg4 : arg4.IsWhole) (arg5 : Memref sig .tc .vmem S4x128x1 .f32) (harg5 : arg5.IsWhole) (arg7 : Memref sig .tc .vmem S512x1024 .bf16) (harg7 : arg7.IsWhole) (arg8 : Memref sig .tc .vmem S1024x1024 .bf16) (harg8 : arg8.IsWhole) (arg9 : Memref sig .tc .vmem S512x3072 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S4x128x128 .f32) (harg12 : arg12.IsWhole) (arg13 : Memref sig .tc .vmem S4x128x1 .f32) (harg13 : arg13.IsWhole)
  (x0 : Vec F S512x3072 .bf16) (x1 : Vec F S1x1024 .f32) (x2 : Vec F S1x1024 .f32) (x3 : Vec F S4x128x128 .f32) (x4 : Vec F S4x128x1 .f32) (x5 : Vec F S512x1024 .bf16) (x6 : Vec F S1024x1024 .bf16)

/-- The first point: the block of pre-activation gradients. -/
theorem out_A_7 (hc0 : cond0_0 i) (hc1 : cond0_1 i) (hc2 : cond0_2 i) (hc3 : cond0_3 i) :
    out0_A_7 c i arg1 harg1 arg2 harg2 arg3 harg3 arg4 harg4 arg5 harg5 arg7 harg7 arg8 harg8 arg9 harg9 arg10 harg10 arg11 harg11 arg12 harg12 arg13 harg13 hc0 hc1 hc2 hc3 x0 x1 x2 x3 x4 x5 x6 = dPreV x0 x1 x2 x3 x4 x5 x6 := by
  unfold out0_A_7
  rw [View.read_writes_eq_canon _ _ _ (cover0_A_7 c i arg1 harg1 arg2 harg2 arg3 harg3 arg4 harg4 arg5 harg5 arg7 harg7 arg8 harg8 arg9 harg9 arg10 harg10 arg11 harg11 arg12 harg12 arg13 harg13 hc0 hc1 hc2 hc3 x0 x1 x2 x3 x4 x5 x6)]
  unfold kernelRun0_A
  dsimp only
  rw [View.canon_unit_zero hz]
  sl_unfold_words
  simp only [View.readAt_eq_ld, harg1.read_unread, harg2.read_unread, harg3.read_unread, harg4.read_unread, harg5.read_unread, harg7.read_unread, harg8.read_unread, harg10.read_unread, harg11.read_unread, harg12.read_unread, harg13.read_unread, View.ld_unit_zero (S := S512x3072) hz, View.ld_unit_zero (S := S512x1024) hz, View.ld_unit_zero (S := S1024x1024) hz, View.ld_unit_zero (S := S1x1024) hz, View.ld_unit_zero (S := S4x128x128) hz3, View.ld_unit_zero (S := S4x128x1) hz3]
  rfl

/-- The first point: the scale's gradient. -/
theorem out_A_8 (hc0 : cond0_0 i) (hc1 : cond0_1 i) (hc2 : cond0_2 i) (hc3 : cond0_3 i) :
    out0_A_8 c i arg1 harg1 arg2 harg2 arg3 harg3 arg4 harg4 arg5 harg5 arg7 harg7 arg8 harg8 arg9 harg9 arg10 harg10 arg11 harg11 arg12 harg12 arg13 harg13 hc0 hc1 hc2 hc3 x0 x1 x2 x3 x4 x5 x6 = k0_pay146 (dScaleV x0 x3 x5 x6) k0_pay145 := by
  unfold out0_A_8
  rw [View.read_writes_eq_canon _ _ _ (cover0_A_8 c i arg1 harg1 arg2 harg2 arg3 harg3 arg4 harg4 arg5 harg5 arg7 harg7 arg8 harg8 arg9 harg9 arg10 harg10 arg11 harg11 arg12 harg12 arg13 harg13 hc0 hc1 hc2 hc3 x0 x1 x2 x3 x4 x5 x6)]
  unfold kernelRun0_A
  dsimp only
  rw [View.canon_cons_unit_zero (S := S1x1024) hz]
  sl_unfold_words
  simp only [View.readAt_eq_ld, harg1.read_unread, harg2.read_unread, harg3.read_unread, harg4.read_unread, harg5.read_unread, harg7.read_unread, harg8.read_unread, harg10.read_unread, harg11.read_unread, harg12.read_unread, harg13.read_unread, View.ld_unit_zero (S := S512x3072) hz, View.ld_unit_zero (S := S512x1024) hz, View.ld_unit_zero (S := S1024x1024) hz, View.ld_unit_zero (S := S1x1024) hz, View.ld_unit_zero (S := S4x128x128) hz3, View.ld_unit_zero (S := S4x128x1) hz3, View.readCov_unit_zero (S := S1x1024) _ hz]
  rfl

/-- The first point: the shift's gradient. -/
theorem out_A_9 (hc0 : cond0_0 i) (hc1 : cond0_1 i) (hc2 : cond0_2 i) (hc3 : cond0_3 i) :
    out0_A_9 c i arg1 harg1 arg2 harg2 arg3 harg3 arg4 harg4 arg5 harg5 arg7 harg7 arg8 harg8 arg9 harg9 arg10 harg10 arg11 harg11 arg12 harg12 arg13 harg13 hc0 hc1 hc2 hc3 x0 x1 x2 x3 x4 x5 x6 = k0_pay148 (dShiftV x0 x3 x5 x6) k0_pay147 := by
  unfold out0_A_9
  rw [View.read_writes_eq_canon _ _ _ (cover0_A_9 c i arg1 harg1 arg2 harg2 arg3 harg3 arg4 harg4 arg5 harg5 arg7 harg7 arg8 harg8 arg9 harg9 arg10 harg10 arg11 harg11 arg12 harg12 arg13 harg13 hc0 hc1 hc2 hc3 x0 x1 x2 x3 x4 x5 x6)]
  unfold kernelRun0_A
  dsimp only
  rw [View.canon_cons_unit_zero (S := S1x1024) hz]
  sl_unfold_words
  simp only [View.readAt_eq_ld, harg1.read_unread, harg2.read_unread, harg3.read_unread, harg4.read_unread, harg5.read_unread, harg7.read_unread, harg8.read_unread, harg10.read_unread, harg11.read_unread, harg12.read_unread, harg13.read_unread, View.ld_unit_zero (S := S512x3072) hz, View.ld_unit_zero (S := S512x1024) hz, View.ld_unit_zero (S := S1024x1024) hz, View.ld_unit_zero (S := S1x1024) hz, View.ld_unit_zero (S := S4x128x128) hz3, View.ld_unit_zero (S := S4x128x1) hz3, View.readCov_unit_zero (S := S1x1024) _ hz]
  rfl

/-- The first point: the mixing matrices' gradient. -/
theorem out_A_10 (hc0 : cond0_0 i) (hc1 : cond0_1 i) (hc2 : cond0_2 i) (hc3 : cond0_3 i) :
    out0_A_10 c i arg1 harg1 arg2 harg2 arg3 harg3 arg4 harg4 arg5 harg5 arg7 harg7 arg8 harg8 arg9 harg9 arg10 harg10 arg11 harg11 arg12 harg12 arg13 harg13 hc0 hc1 hc2 hc3 x0 x1 x2 x3 x4 x5 x6 = k0_pay150 (dMatsV (normedV x0 x1 x2) (k0_pay8 x0) (dProdV x0 x5 x6)) k0_pay149 := by
  unfold out0_A_10
  rw [View.read_writes_eq_canon _ _ _ (cover0_A_10 c i arg1 harg1 arg2 harg2 arg3 harg3 arg4 harg4 arg5 harg5 arg7 harg7 arg8 harg8 arg9 harg9 arg10 harg10 arg11 harg11 arg12 harg12 arg13 harg13 hc0 hc1 hc2 hc3 x0 x1 x2 x3 x4 x5 x6)]
  unfold kernelRun0_A
  dsimp only
  rw [View.canon_cons_unit_zero (S := S4x128x128) hz3]
  sl_unfold_words
  simp only [View.readAt_eq_ld, harg1.read_unread, harg2.read_unread, harg3.read_unread, harg4.read_unread, harg5.read_unread, harg7.read_unread, harg8.read_unread, harg10.read_unread, harg11.read_unread, harg12.read_unread, harg13.read_unread, View.ld_unit_zero (S := S512x3072) hz, View.ld_unit_zero (S := S512x1024) hz, View.ld_unit_zero (S := S1024x1024) hz, View.ld_unit_zero (S := S1x1024) hz, View.ld_unit_zero (S := S4x128x128) hz3, View.ld_unit_zero (S := S4x128x1) hz3, View.readCov_unit_zero (S := S4x128x128) _ hz3]
  rfl

/-- The first point: the mixing bias's gradient. -/
theorem out_A_11 (hc0 : cond0_0 i) (hc1 : cond0_1 i) (hc2 : cond0_2 i) (hc3 : cond0_3 i) :
    out0_A_11 c i arg1 harg1 arg2 harg2 arg3 harg3 arg4 harg4 arg5 harg5 arg7 harg7 arg8 harg8 arg9 harg9 arg10 harg10 arg11 harg11 arg12 harg12 arg13 harg13 hc0 hc1 hc2 hc3 x0 x1 x2 x3 x4 x5 x6 = k0_pay152 (dBiasV (k0_pay8 x0) (dProdV x0 x5 x6)) k0_pay151 := by
  unfold out0_A_11
  rw [View.read_writes_eq_canon _ _ _ (cover0_A_11 c i arg1 harg1 arg2 harg2 arg3 harg3 arg4 harg4 arg5 harg5 arg7 harg7 arg8 harg8 arg9 harg9 arg10 harg10 arg11 harg11 arg12 harg12 arg13 harg13 hc0 hc1 hc2 hc3 x0 x1 x2 x3 x4 x5 x6)]
  unfold kernelRun0_A
  dsimp only
  rw [View.canon_cons_unit_zero (S := S4x128x1) hz3]
  sl_unfold_words
  simp only [View.readAt_eq_ld, harg1.read_unread, harg2.read_unread, harg3.read_unread, harg4.read_unread, harg5.read_unread, harg7.read_unread, harg8.read_unread, harg10.read_unread, harg11.read_unread, harg12.read_unread, harg13.read_unread, View.ld_unit_zero (S := S512x3072) hz, View.ld_unit_zero (S := S512x1024) hz, View.ld_unit_zero (S := S1024x1024) hz, View.ld_unit_zero (S := S1x1024) hz, View.ld_unit_zero (S := S4x128x128) hz3, View.ld_unit_zero (S := S4x128x1) hz3, View.readCov_unit_zero (S := S4x128x1) _ hz3]
  rfl

/-- A later point: the block of pre-activation gradients. -/
theorem out_B_7 (hc0 : ¬cond0_0 i) (hc1 : ¬cond0_1 i) (hc2 : ¬cond0_2 i) (hc3 : ¬cond0_3 i) (xo8 : Vec F S1x1024 .f32) (xo9 : Vec F S1x1024 .f32) (xo10 : Vec F S4x128x128 .f32) (xo11 : Vec F S4x128x1 .f32) :
    out0_B_7 c i arg1 harg1 arg2 harg2 arg3 harg3 arg4 harg4 arg5 harg5 arg7 harg7 arg8 harg8 arg9 harg9 arg10 harg10 arg11 harg11 arg12 harg12 arg13 harg13 hc0 hc1 hc2 hc3 x0 x1 x2 x3 x4 x5 x6 xo8 xo9 xo10 xo11 = dPreV x0 x1 x2 x3 x4 x5 x6 := by
  unfold out0_B_7
  rw [View.read_writes_eq_canon _ _ _ (cover0_B_7 c i arg1 harg1 arg2 harg2 arg3 harg3 arg4 harg4 arg5 harg5 arg7 harg7 arg8 harg8 arg9 harg9 arg10 harg10 arg11 harg11 arg12 harg12 arg13 harg13 hc0 hc1 hc2 hc3 x0 x1 x2 x3 x4 x5 x6 xo8 xo9 xo10 xo11)]
  unfold kernelRun0_B
  dsimp only
  rw [View.canon_unit_zero hz]
  sl_unfold_words
  simp only [View.readAt_eq_ld, harg1.read_unread, harg2.read_unread, harg3.read_unread, harg4.read_unread, harg5.read_unread, harg7.read_unread, harg8.read_unread, harg10.read_unread, harg11.read_unread, harg12.read_unread, harg13.read_unread, View.ld_unit_zero (S := S512x3072) hz, View.ld_unit_zero (S := S512x1024) hz, View.ld_unit_zero (S := S1024x1024) hz, View.ld_unit_zero (S := S1x1024) hz, View.ld_unit_zero (S := S4x128x128) hz3, View.ld_unit_zero (S := S4x128x1) hz3]
  rfl

/-- A later point: the scale's gradient. -/
theorem out_B_8 (hc0 : ¬cond0_0 i) (hc1 : ¬cond0_1 i) (hc2 : ¬cond0_2 i) (hc3 : ¬cond0_3 i) (xo8 : Vec F S1x1024 .f32) (xo9 : Vec F S1x1024 .f32) (xo10 : Vec F S4x128x128 .f32) (xo11 : Vec F S4x128x1 .f32) :
    out0_B_8 c i arg1 harg1 arg2 harg2 arg3 harg3 arg4 harg4 arg5 harg5 arg7 harg7 arg8 harg8 arg9 harg9 arg10 harg10 arg11 harg11 arg12 harg12 arg13 harg13 hc0 hc1 hc2 hc3 x0 x1 x2 x3 x4 x5 x6 xo8 xo9 xo10 xo11 = k0_pay146 (dScaleV x0 x3 x5 x6) xo8 := by
  unfold out0_B_8
  rw [View.read_writes_eq_canon _ _ _ (cover0_B_8 c i arg1 harg1 arg2 harg2 arg3 harg3 arg4 harg4 arg5 harg5 arg7 harg7 arg8 harg8 arg9 harg9 arg10 harg10 arg11 harg11 arg12 harg12 arg13 harg13 hc0 hc1 hc2 hc3 x0 x1 x2 x3 x4 x5 x6 xo8 xo9 xo10 xo11)]
  unfold kernelRun0_B
  dsimp only
  rw [View.canon_unit_zero hz]
  sl_unfold_words
  simp only [View.readAt_eq_ld, harg1.read_unread, harg2.read_unread, harg3.read_unread, harg4.read_unread, harg5.read_unread, harg7.read_unread, harg8.read_unread, harg10.read_unread, harg11.read_unread, harg12.read_unread, harg13.read_unread, View.ld_unit_zero (S := S512x3072) hz, View.ld_unit_zero (S := S512x1024) hz, View.ld_unit_zero (S := S1024x1024) hz, View.ld_unit_zero (S := S1x1024) hz, View.ld_unit_zero (S := S4x128x128) hz3, View.ld_unit_zero (S := S4x128x1) hz3]
  rfl

/-- A later point: the shift's gradient. -/
theorem out_B_9 (hc0 : ¬cond0_0 i) (hc1 : ¬cond0_1 i) (hc2 : ¬cond0_2 i) (hc3 : ¬cond0_3 i) (xo8 : Vec F S1x1024 .f32) (xo9 : Vec F S1x1024 .f32) (xo10 : Vec F S4x128x128 .f32) (xo11 : Vec F S4x128x1 .f32) :
    out0_B_9 c i arg1 harg1 arg2 harg2 arg3 harg3 arg4 harg4 arg5 harg5 arg7 harg7 arg8 harg8 arg9 harg9 arg10 harg10 arg11 harg11 arg12 harg12 arg13 harg13 hc0 hc1 hc2 hc3 x0 x1 x2 x3 x4 x5 x6 xo8 xo9 xo10 xo11 = k0_pay148 (dShiftV x0 x3 x5 x6) xo9 := by
  unfold out0_B_9
  rw [View.read_writes_eq_canon _ _ _ (cover0_B_9 c i arg1 harg1 arg2 harg2 arg3 harg3 arg4 harg4 arg5 harg5 arg7 harg7 arg8 harg8 arg9 harg9 arg10 harg10 arg11 harg11 arg12 harg12 arg13 harg13 hc0 hc1 hc2 hc3 x0 x1 x2 x3 x4 x5 x6 xo8 xo9 xo10 xo11)]
  unfold kernelRun0_B
  dsimp only
  rw [View.canon_unit_zero hz]
  sl_unfold_words
  simp only [View.readAt_eq_ld, harg1.read_unread, harg2.read_unread, harg3.read_unread, harg4.read_unread, harg5.read_unread, harg7.read_unread, harg8.read_unread, harg10.read_unread, harg11.read_unread, harg12.read_unread, harg13.read_unread, View.ld_unit_zero (S := S512x3072) hz, View.ld_unit_zero (S := S512x1024) hz, View.ld_unit_zero (S := S1024x1024) hz, View.ld_unit_zero (S := S1x1024) hz, View.ld_unit_zero (S := S4x128x128) hz3, View.ld_unit_zero (S := S4x128x1) hz3]
  rfl

/-- A later point: the mixing matrices' gradient. -/
theorem out_B_10 (hc0 : ¬cond0_0 i) (hc1 : ¬cond0_1 i) (hc2 : ¬cond0_2 i) (hc3 : ¬cond0_3 i) (xo8 : Vec F S1x1024 .f32) (xo9 : Vec F S1x1024 .f32) (xo10 : Vec F S4x128x128 .f32) (xo11 : Vec F S4x128x1 .f32) :
    out0_B_10 c i arg1 harg1 arg2 harg2 arg3 harg3 arg4 harg4 arg5 harg5 arg7 harg7 arg8 harg8 arg9 harg9 arg10 harg10 arg11 harg11 arg12 harg12 arg13 harg13 hc0 hc1 hc2 hc3 x0 x1 x2 x3 x4 x5 x6 xo8 xo9 xo10 xo11 = k0_pay150 (dMatsV (normedV x0 x1 x2) (k0_pay8 x0) (dProdV x0 x5 x6)) xo10 := by
  unfold out0_B_10
  rw [View.read_writes_eq_canon _ _ _ (cover0_B_10 c i arg1 harg1 arg2 harg2 arg3 harg3 arg4 harg4 arg5 harg5 arg7 harg7 arg8 harg8 arg9 harg9 arg10 harg10 arg11 harg11 arg12 harg12 arg13 harg13 hc0 hc1 hc2 hc3 x0 x1 x2 x3 x4 x5 x6 xo8 xo9 xo10 xo11)]
  unfold kernelRun0_B
  dsimp only
  rw [View.canon_unit_zero hz3]
  sl_unfold_words
  simp only [View.readAt_eq_ld, harg1.read_unread, harg2.read_unread, harg3.read_unread, harg4.read_unread, harg5.read_unread, harg7.read_unread, harg8.read_unread, harg10.read_unread, harg11.read_unread, harg12.read_unread, harg13.read_unread, View.ld_unit_zero (S := S512x3072) hz, View.ld_unit_zero (S := S512x1024) hz, View.ld_unit_zero (S := S1024x1024) hz, View.ld_unit_zero (S := S1x1024) hz, View.ld_unit_zero (S := S4x128x128) hz3, View.ld_unit_zero (S := S4x128x1) hz3]
  rfl

/-- A later point: the mixing bias's gradient. -/
theorem out_B_11 (hc0 : ¬cond0_0 i) (hc1 : ¬cond0_1 i) (hc2 : ¬cond0_2 i) (hc3 : ¬cond0_3 i) (xo8 : Vec F S1x1024 .f32) (xo9 : Vec F S1x1024 .f32) (xo10 : Vec F S4x128x128 .f32) (xo11 : Vec F S4x128x1 .f32) :
    out0_B_11 c i arg1 harg1 arg2 harg2 arg3 harg3 arg4 harg4 arg5 harg5 arg7 harg7 arg8 harg8 arg9 harg9 arg10 harg10 arg11 harg11 arg12 harg12 arg13 harg13 hc0 hc1 hc2 hc3 x0 x1 x2 x3 x4 x5 x6 xo8 xo9 xo10 xo11 = k0_pay152 (dBiasV (k0_pay8 x0) (dProdV x0 x5 x6)) xo11 := by
  unfold out0_B_11
  rw [View.read_writes_eq_canon _ _ _ (cover0_B_11 c i arg1 harg1 arg2 harg2 arg3 harg3 arg4 harg4 arg5 harg5 arg7 harg7 arg8 harg8 arg9 harg9 arg10 harg10 arg11 harg11 arg12 harg12 arg13 harg13 hc0 hc1 hc2 hc3 x0 x1 x2 x3 x4 x5 x6 xo8 xo9 xo10 xo11)]
  unfold kernelRun0_B
  dsimp only
  rw [View.canon_unit_zero hz3]
  sl_unfold_words
  simp only [View.readAt_eq_ld, harg1.read_unread, harg2.read_unread, harg3.read_unread, harg4.read_unread, harg5.read_unread, harg7.read_unread, harg8.read_unread, harg10.read_unread, harg11.read_unread, harg12.read_unread, harg13.read_unread, View.ld_unit_zero (S := S512x3072) hz, View.ld_unit_zero (S := S512x1024) hz, View.ld_unit_zero (S := S1024x1024) hz, View.ld_unit_zero (S := S1x1024) hz, View.ld_unit_zero (S := S4x128x128) hz3, View.ld_unit_zero (S := S4x128x1) hz3]
  rfl

end Cert.BranchA.Tile
-- ==== Proof.Sums.lean ====
/- Sums over several axes at once, read at an index. -/
module

public import Idealize.ShloMosaic.Lib.Pointwise

@[expose] public section

namespace Cert.Sums

open Idealize.ShloMosaic

/-- The host's sum over the axes 1, 4 of 5, at an index of what is left. -/
theorem sum_r5_a14 {n0 n1 n2 n3 n4 : Nat} (h : (⟨5, ![n0, n1, n2, n3, n4]⟩ : Shape).ReducesTo [1, 4] (⟨3, ![n0, n2, n3]⟩ : Shape))
    (v : (⟨5, ![n0, n1, n2, n3, n4]⟩ : Shape).Idx → EReal) (init : EReal) (a0 : Fin n0) (a2 : Fin n2) (a3 : Fin n3) :
    Ideal.hostReduceAdd h v init (ix3 a0 a2 a3) = init + ∑ k1 : Fin n1, ∑ k4 : Fin n4, v (ix5 a0 k1 a2 a3 k4) := by
  refine congrArg (init + ·) ((Finset.sum_filter_eq_sum_of_fiber _ (fun k : Fin n1 × Fin n4 => ix5 a0 k.1 a2 a3 k.2)
    (fun _ _ e => Prod.ext (congrFun e 1) (congrFun e 4)) (fun i => ⟨fun e => ⟨(i 1, i 4), ?_⟩, ?_⟩) v).trans ?_)
  · funext a
    apply Fin.ext
    match a with
      | ⟨0, _⟩ => exact (congrArg Fin.val (congrFun e ⟨0, by simp⟩)).symm
      | ⟨1, _⟩ => rfl
      | ⟨2, _⟩ => exact (congrArg Fin.val (congrFun e ⟨1, by simp⟩)).symm
      | ⟨3, _⟩ => exact (congrArg Fin.val (congrFun e ⟨2, by simp⟩)).symm
      | ⟨4, _⟩ => rfl
  · rintro ⟨k, rfl⟩
    funext b
    apply Fin.ext
    match b with
      | ⟨0, _⟩ => rfl
      | ⟨1, _⟩ => rfl
      | ⟨2, _⟩ => rfl
  · simp only [Fintype.sum_prod_type]

/-- The host's sum over the axes 0, 1, 4 of 5, at an index of what is left. -/
theorem sum_r5_a014 {n0 n1 n2 n3 n4 : Nat} (h : (⟨5, ![n0, n1, n2, n3, n4]⟩ : Shape).ReducesTo [0, 1, 4] (⟨2, ![n2, n3]⟩ : Shape))
    (v : (⟨5, ![n0, n1, n2, n3, n4]⟩ : Shape).Idx → EReal) (init : EReal) (a2 : Fin n2) (a3 : Fin n3) :
    Ideal.hostReduceAdd h v init (ix2 a2 a3) = init + ∑ k0 : Fin n0, ∑ k1 : Fin n1, ∑ k4 : Fin n4, v (ix5 k0 k1 a2 a3 k4) := by
  refine congrArg (init + ·) ((Finset.sum_filter_eq_sum_of_fiber _ (fun k : Fin n0 × Fin n1 × Fin n4 => ix5 k.1 k.2.1 a2 a3 k.2.2)
    (fun _ _ e => Prod.ext (congrFun e 0) (Prod.ext (congrFun e 1) (congrFun e 4))) (fun i => ⟨fun e => ⟨(i 0, i 1, i 4), ?_⟩, ?_⟩) v).trans ?_)
  · funext a
    apply Fin.ext
    match a with
      | ⟨0, _⟩ => rfl
      | ⟨1, _⟩ => rfl
      | ⟨2, _⟩ => exact (congrArg Fin.val (congrFun e ⟨0, by simp⟩)).symm
      | ⟨3, _⟩ => exact (congrArg Fin.val (congrFun e ⟨1, by simp⟩)).symm
      | ⟨4, _⟩ => rfl
  · rintro ⟨k, rfl⟩
    funext b
    apply Fin.ext
    match b with
      | ⟨0, _⟩ => rfl
      | ⟨1, _⟩ => rfl
  · simp only [Fintype.sum_prod_type]

/-- The host's sum over the axes 0, 1 of 3, at an index of what is left. -/
theorem sum_r3_a01 {n0 n1 n2 : Nat} (h : (⟨3, ![n0, n1, n2]⟩ : Shape).ReducesTo [0, 1] (⟨1, ![n2]⟩ : Shape))
    (v : (⟨3, ![n0, n1, n2]⟩ : Shape).Idx → EReal) (init : EReal) (a2 : Fin n2) :
    Ideal.hostReduceAdd h v init (ix1 a2) = init + ∑ k0 : Fin n0, ∑ k1 : Fin n1, v (ix3 k0 k1 a2) := by
  refine congrArg (init + ·) ((Finset.sum_filter_eq_sum_of_fiber _ (fun k : Fin n0 × Fin n1 => ix3 k.1 k.2 a2)
    (fun _ _ e => Prod.ext (congrFun e 0) (congrFun e 1)) (fun i => ⟨fun e => ⟨(i 0, i 1), ?_⟩, ?_⟩) v).trans ?_)
  · funext a
    apply Fin.ext
    match a with
      | ⟨0, _⟩ => rfl
      | ⟨1, _⟩ => rfl
      | ⟨2, _⟩ => exact (congrArg Fin.val (congrFun e ⟨0, by simp⟩)).symm
  · rintro ⟨k, rfl⟩
    funext b
    apply Fin.ext
    match b with
      | ⟨0, _⟩ => rfl
  · simp only [Fintype.sum_prod_type]

/-- The host's sum over the axes 0, 2 of 3, at an index of what is left. -/
theorem sum_r3_a02 {n0 n1 n2 : Nat} (h : (⟨3, ![n0, n1, n2]⟩ : Shape).ReducesTo [0, 2] (⟨1, ![n1]⟩ : Shape))
    (v : (⟨3, ![n0, n1, n2]⟩ : Shape).Idx → EReal) (init : EReal) (a1 : Fin n1) :
    Ideal.hostReduceAdd h v init (ix1 a1) = init + ∑ k0 : Fin n0, ∑ k2 : Fin n2, v (ix3 k0 a1 k2) := by
  refine congrArg (init + ·) ((Finset.sum_filter_eq_sum_of_fiber _ (fun k : Fin n0 × Fin n2 => ix3 k.1 a1 k.2)
    (fun _ _ e => Prod.ext (congrFun e 0) (congrFun e 2)) (fun i => ⟨fun e => ⟨(i 0, i 2), ?_⟩, ?_⟩) v).trans ?_)
  · funext a
    apply Fin.ext
    match a with
      | ⟨0, _⟩ => rfl
      | ⟨1, _⟩ => exact (congrArg Fin.val (congrFun e ⟨0, by simp⟩)).symm
      | ⟨2, _⟩ => rfl
  · rintro ⟨k, rfl⟩
    funext b
    apply Fin.ext
    match b with
      | ⟨0, _⟩ => rfl
  · simp only [Fintype.sum_prod_type]

end Cert.Sums
-- ==== Proof.BranchA.Ref.lean ====
/- The reference, read at an index: the same chunk functions, over the whole sequence of sixty-four chunks. -/
module

public import proofs.«01_k».proof.Proof.BranchA.Math
public import proofs.«01_k».proof.Proof.BranchA.Select
public import proofs.«01_k».proof.Proof.Sums
public import proofs.«01_k».proof.Proof.Gen.ReferenceIdeal.Read

@[expose] public section

set_option maxRecDepth 16384
set_option maxHeartbeats 0

noncomputable section
namespace Cert.BranchA.Ref
open Idealize.ShloMosaic Cert.BranchA Cert.ReferenceIdeal Cert.ReferenceIdeal.Read

variable (x0 : Vec Ideal S8192x10240 .bf16) (x1 x2 : Vec Ideal S1x1024 .f32) (x3 : Vec Ideal S4x128x128 .f32)
  (x4 : Vec Ideal S4x128x1 .f32) (x5 : Vec Ideal S8192x10240 .bf16) (x6 : Vec Ideal S8192x1024 .bf16) (x7 : Vec Ideal S1024x1024 .bf16)

/-- The parameters as the reference receives them. -/
def params : Params where
  g := fun j => x1 (ix2 0 j)
  b := fun j => x2 (ix2 0 j)
  W := fun h t s => x3 (ix3 h t s)
  β := fun h t => x4 (ix3 h t 0)

/-- The rows of the three pre-activations and of the cotangent. -/
def rowU (i : Fin 8192) (j : Fin 1024) : EReal := x0 (ix2 i ⟨j.val, by omega⟩)
def rowV (i : Fin 8192) (j : Fin 1024) : EReal := x0 (ix2 i ⟨1024 + j.val, by omega⟩)
def rowZ (i : Fin 8192) (j : Fin 1024) : EReal := x0 (ix2 i ⟨2048 + j.val, by omega⟩)
def rowDy (i : Fin 8192) (j : Fin 1024) : EReal := ∑ k : Fin 1024, x6 (ix2 i k) * x7 (ix2 j k)

/-- A row of the sequence. -/
abbrev row (c : Fin 64) (t : Fin 128) : Fin 8192 := ⟨128 * c.val + t.val, by omega⟩

/-- Chunk `c` of the sequence. -/
def chunk (c : Fin 64) : Chunk where
  u := fun t => rowU x0 (row c t)
  v := fun t => rowV x0 (row c t)
  z := fun t => rowZ x0 (row c t)
  dy := fun t => rowDy x6 x7 (row c t)

theorem val_u (r : Fin 8192) (j : Fin 1024) : val_main_v4 (F := Ideal) x0 (ix3 0 r j) = rowU x0 r j := by
  pointwise [val_main_v4, val_main_v3, val_main_v2, val_main_v1, rowU]
theorem val_v (r : Fin 8192) (j : Fin 1024) : val_main_v5 (F := Ideal) x0 (ix3 0 r j) = rowV x0 r j := by
  pointwise [val_main_v5, val_main_v3, val_main_v2, val_main_v1, rowV]
theorem val_z (r : Fin 8192) (j : Fin 1024) : val_main_v6 (F := Ideal) x0 (ix3 0 r j) = rowZ x0 r j := by
  pointwise [val_main_v6, val_main_v3, val_main_v2, val_main_v1, rowZ]

theorem th_u (r : Fin 8192) (j : Fin 1024) : val_main_v20 (F := Ideal) x0 (ix3 0 r j) = th (rowU x0 r j) := by
  pointwise [val_main_v20, val_main_v19, val_main_v18, val_main_v17, val_main_v16, val_main_v15, val_main_cst_1, val_main_cst_0, val_main_v11, val_main_v10, val_u, th]
  rw [mul_comm (rowU x0 r j * rowU x0 r j)]
theorem bell_u (r : Fin 8192) (j : Fin 1024) :
    val_main_v25 (F := Ideal) x0 (ix3 0 r j) = (1 + th (rowU x0 r j)) * (1 - th (rowU x0 r j)) := by
  pointwise [val_main_v25, val_main_v24, val_main_v23, val_main_v22, val_main_v21, val_main_cst_2, val_main_cst_3, th_u]
theorem gate_u (r : Fin 8192) (j : Fin 1024) : val_main_v29 (F := Ideal) x0 (ix3 0 r j) = gate (rowU x0 r j) := by
  pointwise [val_main_v29, val_main_v28, val_main_v27, val_main_v26, val_main_cst_5, val_main_cst_4, th_u, gate]
theorem sq_u (r : Fin 8192) (j : Fin 1024) : val_main_v14 (F := Ideal) x0 (ix3 0 r j) = three * (rowU x0 r j * rowU x0 r j) := by
  pointwise [val_main_v14, val_main_v13, val_main_v12, val_main_cst, val_u]
theorem gelu_u (r : Fin 8192) (j : Fin 1024) : val_main_v30 (F := Ideal) x0 (ix3 0 r j) = gelu (rowU x0 r j) := by
  pointwise [val_main_v30, gate_u, val_u, gelu]

theorem th_v (r : Fin 8192) (j : Fin 1024) : val_main_v41 (F := Ideal) x0 (ix3 0 r j) = th (rowV x0 r j) := by
  pointwise [val_main_v41, val_main_v40, val_main_v39, val_main_v38, val_main_v37, val_main_v36, val_main_cst_7, val_main_cst_8, val_main_v32, val_main_v31, val_v, th]
  rw [mul_comm (rowV x0 r j * rowV x0 r j)]
theorem bell_v (r : Fin 8192) (j : Fin 1024) :
    val_main_v46 (F := Ideal) x0 (ix3 0 r j) = (1 + th (rowV x0 r j)) * (1 - th (rowV x0 r j)) := by
  pointwise [val_main_v46, val_main_v45, val_main_v44, val_main_v43, val_main_v42, val_main_cst_9, val_main_cst_10, th_v]
theorem gate_v (r : Fin 8192) (j : Fin 1024) : val_main_v50 (F := Ideal) x0 (ix3 0 r j) = gate (rowV x0 r j) := by
  pointwise [val_main_v50, val_main_v49, val_main_v48, val_main_v47, val_main_cst_11, val_main_cst_12, th_v, gate]
theorem sq_v (r : Fin 8192) (j : Fin 1024) : val_main_v35 (F := Ideal) x0 (ix3 0 r j) = three * (rowV x0 r j * rowV x0 r j) := by
  pointwise [val_main_v35, val_main_v34, val_main_v33, val_main_cst_6, val_v]
theorem gelu_v (r : Fin 8192) (j : Fin 1024) : val_main_v51 (F := Ideal) x0 (ix3 0 r j) = gelu (rowV x0 r j) := by
  pointwise [val_main_v51, gate_v, val_v, gelu]

theorem centred_v (r : Fin 8192) (j : Fin 1024) : val_main_v57 (F := Ideal) x0 (ix3 0 r j) = centred (rowV x0 r) j := by
  pointwise [val_main_v57, val_main_v56, val_main_v55, val_main_v54, val_main_v53, val_main_v52, val_main_cst_13, val_main_cst_14, gelu_v, centred]
theorem variance_v (r : Fin 8192) (k : Fin 1) : val_main_v64 (F := Ideal) x0 (ix3 0 r k) = variance (rowV x0 r) := by
  pointwise [val_main_v64, val_main_v63, val_main_v62, val_main_v61, val_main_v60, val_main_v59, val_main_v58, val_main_cst_15, val_main_cst_16, val_main_cst_17, centred_v, variance]
theorem invStd_v (r : Fin 8192) (k : Fin 1) : val_main_v65 (F := Ideal) x0 (ix3 0 r k) = invStd (rowV x0 r) := by
  pointwise [val_main_v65, variance_v, invStd]
theorem slope_v (r : Fin 8192) (k : Fin 1) : val_main_v68 (F := Ideal) x0 (ix3 0 r k) = invStdSlope (rowV x0 r) := by
  pointwise [val_main_v68, val_main_v67, val_main_v66, val_main_cst_18, variance_v, invStd_v, invStdSlope]
theorem unit_v (r : Fin 8192) (j : Fin 1024) : val_main_v70 (F := Ideal) x0 (ix3 0 r j) = unitRow (rowV x0 r) j := by
  pointwise [val_main_v70, val_main_v69, centred_v, invStd_v, unitRow]
theorem normed_v (r : Fin 8192) (j : Fin 1024) :
    val_main_v76 (F := Ideal) x0 x1 x2 (ix3 0 r j) = normed (params x1 x2 x3 x4).g (params x1 x2 x3 x4).b (rowV x0 r) j := by
  pointwise [val_main_v76, val_main_v75, val_main_v74, val_main_v73, val_main_v72, val_main_v71, val_main_v7, val_main_v8, unit_v, normed, params]
theorem mask_w (h : Fin 4) (t s : Fin 128) {α : Type} (a b : α) :
    Scalar.select (val_main_v81_1 (F := Ideal) (ix3 h t s)) a b = if s.val ≤ t.val then a else b := by
  pointwise [val_main_v81_1, val_main_v79, val_main_v78, val_main_v77, val_main_call0_v0, val_main_call0_v1, val_main_call0_v2, val_main_call0_v3, val_main_call0_v4, val_main_call0_v5, val_main_call0_c, val_main_call0_c_0, val_main_c]
  rw [show IntOp.addi (BitVec.ofNat 32 t.val) 0#32 = BitVec.ofNat 32 t.val from BitVec.add_zero _, select_causal]
  split <;> rfl
theorem causal_w (h : Fin 4) (t s : Fin 128) :
    val_main_v81_0 (F := Ideal) x3 (ix3 h t s) = causal (params x1 x2 x3 x4).W h t s := by
  pointwise [val_main_v81_0, val_main_v80, val_main_cst_19, params, causal, mask_w]
theorem grp_chan (h : Fin 4) (d : Fin 256) : grp (chan h d) = h := Fin.ext (by simp; omega)
theorem normed_c (b : Fin 1) (c : Fin 64) (t : Fin 128) (h : Fin 4) (d : Fin 256) :
    val_main_v82 (F := Ideal) x0 x1 x2 (ix5 b c t h d) = (chunk x0 x6 x7 c).x (params x1 x2 x3 x4) t (chan h d) := by
  pointwise [val_main_v82]
  rw [show (⟨c.val * 128 + t.val, by omega⟩ : Fin 8192) = row c t from Fin.ext (by simp; omega),
    show (⟨h.val * 256 + d.val, by omega⟩ : Fin 1024) = chan h d from Fin.ext (by simp; omega)]
  exact normed_v x0 x1 x2 x3 x4 _ _
theorem mixed_c (c : Fin 64) (t : Fin 128) (h : Fin 4) (d : Fin 256) :
    val_main_v88 (F := Ideal) x0 x1 x2 x3 x4 (ix5 0 c t h d) = (chunk x0 x6 x7 c).mixed (params x1 x2 x3 x4) t (chan h d) := by
  pointwise [val_main_v88, val_main_v87, val_main_v86, val_main_v85, val_main_v84, val_main_v83, val_main_v9]
  simp only [Chunk.mixed, mix, grp_chan]
  refine congrArg₂ (· + ·) (Finset.sum_congr rfl fun s _ => ?_) rfl
  exact (mul_comm _ _).trans (congrArg₂ (· * ·) (causal_w x1 x2 x3 x4 h t s) (normed_c x0 x1 x2 x3 x4 x6 x7 0 c s h d))
theorem mixed_r (c : Fin 64) (t : Fin 128) (h : Fin 4) (d : Fin 256) :
    val_main_v89 (F := Ideal) x0 x1 x2 x3 x4 (ix3 0 (row c t) (chan h d)) = (chunk x0 x6 x7 c).mixed (params x1 x2 x3 x4) t (chan h d) := by
  pointwise [val_main_v89]
  simp only [show (⟨(128 * c.val + t.val) / 128, by omega⟩ : Fin 64) = c from Fin.ext (by dsimp only; omega),
    show (⟨(128 * c.val + t.val) % 128, by omega⟩ : Fin 128) = t from Fin.ext (by dsimp only; omega),
    show (⟨(256 * h.val + d.val) / 256, by omega⟩ : Fin 4) = h from Fin.ext (by dsimp only; omega),
    show (⟨(256 * h.val + d.val) % 256, by omega⟩ : Fin 256) = d from Fin.ext (by dsimp only; omega)]
  exact mixed_c x0 x1 x2 x3 x4 x6 x7 c t h d
theorem logistic_z (r : Fin 8192) (j : Fin 1024) : val_main_v91_2 (F := Ideal) x0 (ix3 0 r j) = Ideal.logistic (rowZ x0 r j) := by
  pointwise [val_main_v91_2, val_main_call2_v4, val_main_call2_v3, val_main_call2_v2, val_main_call2_v1, val_main_call2_v0, val_main_call2_cst, val_main_call2_cst_0, val_z]
  rfl
theorem logisticSlope_z (r : Fin 8192) (j : Fin 1024) :
    val_main_v91_1 (F := Ideal) x0 (ix3 0 r j) = Ideal.logistic (rowZ x0 r j) * (1 - Ideal.logistic (rowZ x0 r j)) := by
  pointwise [val_main_v91_1, val_main_call2_v7, val_main_call2_v6, val_main_call2_cst_1, logistic_z]
theorem silu_z (r : Fin 8192) (j : Fin 1024) : val_main_v91_0 (F := Ideal) x0 (ix3 0 r j) = silu (rowZ x0 r j) := by
  pointwise [val_main_v91_0, logistic_z, val_z, silu]
theorem dy_r (r : Fin 8192) (j : Fin 1024) : val_main_v96 (F := Ideal) x6 x7 (ix3 0 r j) = rowDy x6 x7 r j := by
  pointwise [val_main_v96, val_main_v95, val_main_v94, val_main_v0, rowDy]
theorem dSilu_r (c : Fin 64) (t : Fin 128) (h : Fin 4) (d : Fin 256) :
    val_main_v97 (F := Ideal) x0 x1 x2 x3 x4 x6 x7 (ix3 0 (row c t) (chan h d)) = (chunk x0 x6 x7 c).dSilu (params x1 x2 x3 x4) t (chan h d) := by
  pointwise [val_main_v97, val_main_v90, gelu_u, dy_r]
  rw [mixed_r x0 x1 x2 x3 x4 x6 x7]
  rfl
theorem dz_r (c : Fin 64) (t : Fin 128) (h : Fin 4) (d : Fin 256) :
    val_main_v99 (F := Ideal) x0 x1 x2 x3 x4 x6 x7 (ix3 0 (row c t) (chan h d)) = (chunk x0 x6 x7 c).dz (params x1 x2 x3 x4) t (chan h d) := by
  pointwise [val_main_v99, val_main_call3_v0, val_main_call3_v1, val_main_call3_v2, val_z, logistic_z, logisticSlope_z, dSilu_r]
  rfl
theorem dProd_r (c : Fin 64) (t : Fin 128) (j : Fin 1024) :
    val_main_v98 (F := Ideal) x0 x6 x7 (ix3 0 (row c t) j) = (chunk x0 x6 x7 c).dProd t j := by
  pointwise [val_main_v98, silu_z, dy_r]
  rfl
theorem dMix_r (c : Fin 64) (t : Fin 128) (j : Fin 1024) :
    val_main_v100 (F := Ideal) x0 x6 x7 (ix3 0 (row c t) j) = (chunk x0 x6 x7 c).dMix t j := by
  pointwise [val_main_v100, gelu_u, dProd_r]
  rfl
theorem dMix_c (b : Fin 1) (c : Fin 64) (t : Fin 128) (h : Fin 4) (d : Fin 256) :
    val_main_v102 (F := Ideal) x0 x6 x7 (ix5 b c t h d) = (chunk x0 x6 x7 c).dMix t (chan h d) := by
  pointwise [val_main_v102]
  rw [show (⟨c.val * 128 + t.val, by omega⟩ : Fin 8192) = row c t from Fin.ext (by simp; omega),
    show (⟨h.val * 256 + d.val, by omega⟩ : Fin 1024) = chan h d from Fin.ext (by simp; omega)]
  exact dMix_r x0 x6 x7 c t _
theorem dX_c (b : Fin 1) (c : Fin 64) (t : Fin 128) (h : Fin 4) (d : Fin 256) :
    val_main_v110 (F := Ideal) x0 x3 x6 x7 (ix5 b c t h d) = (chunk x0 x6 x7 c).dX (params x1 x2 x3 x4) t (chan h d) := by
  pointwise [val_main_v110, val_main_v109, val_main_v107, dMix_c]
  simp only [Chunk.dX, mixBwd, grp_chan]
  exact Finset.sum_congr rfl fun s _ => congrArg _ (causal_w x1 x2 x3 x4 h s t)
theorem dX_r (c : Fin 64) (t : Fin 128) (h : Fin 4) (d : Fin 256) :
    val_main_v111 (F := Ideal) x0 x3 x6 x7 (ix3 0 (row c t) (chan h d)) = (chunk x0 x6 x7 c).dX (params x1 x2 x3 x4) t (chan h d) := by
  pointwise [val_main_v111]
  simp only [show (⟨(128 * c.val + t.val) / 128, by omega⟩ : Fin 64) = c from Fin.ext (by dsimp only; omega),
    show (⟨(128 * c.val + t.val) % 128, by omega⟩ : Fin 128) = t from Fin.ext (by dsimp only; omega),
    show (⟨(256 * h.val + d.val) / 256, by omega⟩ : Fin 4) = h from Fin.ext (by dsimp only; omega),
    show (⟨(256 * h.val + d.val) % 256, by omega⟩ : Fin 256) = d from Fin.ext (by dsimp only; omega)]
  exact dX_c x0 x1 x2 x3 x4 x6 x7 0 c t h d
/-- The axes of the three-axis contraction that are longer than one. -/
def contrE : dot_S4x1x64x256x128_S1x64x128x4x256_S4x128x128_123_014_4_2_0_3.contr.Idx ≃ Fin 64 × Fin 256 where
  toFun k := (k (1 : Fin 3), k (2 : Fin 3))
  invFun p := fun a => match a with
    | ⟨0, _⟩ => (0 : Fin 1)
    | ⟨1, _⟩ => p.1
    | ⟨2, _⟩ => p.2
  left_inv k := funext fun a => by
    match a with
    | ⟨0, _⟩ => exact Subsingleton.elim (α := Fin 1) _ _
    | ⟨1, _⟩ => rfl
    | ⟨2, _⟩ => rfl
  right_inv p := rfl

theorem dW_c (h : Fin 4) (t s : Fin 128) :
    val_main_v108 (F := Ideal) x0 x1 x2 x6 x7 (ix3 h t s) = ∑ c, (chunk x0 x6 x7 c).dW (params x1 x2 x3 x4) h t s := by
  unfold val_main_v108
  simp only [Host.dotGeneral]
  rw [Ideal.dotGeneral_apply, ← Equiv.sum_comp contrE.symm, Fintype.sum_prod_type]
  refine Finset.sum_congr rfl fun c _ => ?_
  simp only [Chunk.dW, mixBwdW]
  refine Finset.sum_congr rfl fun d _ => ?_
  have el : dot_S4x1x64x256x128_S1x64x128x4x256_S4x128x128_123_014_4_2_0_3.lhsIdx (ix3 h t s) (contrE.symm (c, d)) = ix5 h 0 c d t :=
    funext fun a => by
      match a with
      | ⟨0, _⟩ => rfl
      | ⟨1, _⟩ => rfl
      | ⟨2, _⟩ => rfl
      | ⟨3, _⟩ => rfl
      | ⟨4, _⟩ => rfl
  have er : dot_S4x1x64x256x128_S1x64x128x4x256_S4x128x128_123_014_4_2_0_3.rhsIdx (ix3 h t s) (contrE.symm (c, d)) = ix5 0 c s h d :=
    funext fun a => by
      match a with
      | ⟨0, _⟩ => rfl
      | ⟨1, _⟩ => rfl
      | ⟨2, _⟩ => rfl
      | ⟨3, _⟩ => rfl
      | ⟨4, _⟩ => rfl
  rw [el, er, normed_c x0 x1 x2 x3 x4 x6 x7]
  pointwise [val_main_v107, dMix_c]

/-- The mixing matrices' gradient: the causal part of the sum of the chunks' shares. -/
theorem dMats (h : Fin 4) (t s : Fin 128) :
    val_main_v112 (F := Ideal) x0 x1 x2 x6 x7 (ix3 h t s)
      = if s.val ≤ t.val then ∑ c, (chunk x0 x6 x7 c).dW (params x1 x2 x3 x4) h t s else 0 := by
  pointwise [val_main_v112, val_main_call4_v0, val_main_call4_cst, mask_w]
  rw [dW_c x0 x1 x2 x3 x4]

theorem dBias (h : Fin 4) (t : Fin 128) (z : Fin 1) :
    val_main_v170 (F := Ideal) x0 x6 x7 (ix3 h t z) = ∑ c, (chunk x0 x6 x7 c).dβ h t := by
  have e3 (t : Fin 128) (h : Fin 4) : val_main_v103 (F := Ideal) x0 x6 x7 (ix3 0 t h) = ∑ c, (chunk x0 x6 x7 c).dβ h t := by
    unfold val_main_v103
    simp only [Host.reduceAdd, Ideal.hostReduceAdd_def]
    rw [Sums.sum_r5_a14]
    pointwise [val_main_cst_20, dMix_c]
    rfl
  have e5 : val_main_v105 (F := Ideal) x0 x6 x7 (ix2 t h) = ∑ c, (chunk x0 x6 x7 c).dβ h t := by
    unfold val_main_v105
    simp only [Host.reduceAdd, Ideal.hostReduceAdd_def]
    rw [Sums.sum_r5_a014]
    pointwise [val_main_cst_21, val_main_v104, e3]
    simp only [Fin.sum_univ_one]
  pointwise [val_main_v170, val_main_v106, e5]

theorem chan_split (j : Fin 1024) : j = chan ⟨j.val / 256, by omega⟩ ⟨j.val % 256, by omega⟩ := Fin.ext (by dsimp only; omega)

theorem mixed_j (c : Fin 64) (t : Fin 128) (j : Fin 1024) :
    val_main_v89 (F := Ideal) x0 x1 x2 x3 x4 (ix3 0 (row c t) j) = (chunk x0 x6 x7 c).mixed (params x1 x2 x3 x4) t j := by
  rw [chan_split j]; exact mixed_r ..
theorem dz_j (c : Fin 64) (t : Fin 128) (j : Fin 1024) :
    val_main_v99 (F := Ideal) x0 x1 x2 x3 x4 x6 x7 (ix3 0 (row c t) j) = (chunk x0 x6 x7 c).dz (params x1 x2 x3 x4) t j := by
  rw [chan_split j]; exact dz_r ..
theorem dX_j (c : Fin 64) (t : Fin 128) (j : Fin 1024) :
    val_main_v111 (F := Ideal) x0 x3 x6 x7 (ix3 0 (row c t) j) = (chunk x0 x6 x7 c).dX (params x1 x2 x3 x4) t j := by
  rw [chan_split j]; exact dX_r ..
theorem du_j (c : Fin 64) (t : Fin 128) (j : Fin 1024) :
    val_main_v169 (F := Ideal) x0 x1 x2 x3 x4 x6 x7 (ix3 0 (row c t) j) = (chunk x0 x6 x7 c).du (params x1 x2 x3 x4) t j := by
  pointwise [val_main_v169, val_main_v168, val_main_v167, val_main_v166, val_main_v165, val_main_v164, val_main_v163, val_main_v162, val_main_v161, val_main_v160, val_main_v159, val_main_v158, val_main_cst_35, val_main_cst_36, val_main_cst_37, val_main_v101, sq_u, bell_u, gate_u, val_u, dProd_r]
  rw [mixed_j x0 x1 x2 x3 x4 x6 x7]
  rfl

theorem dxg (r : Fin 8192) (j : Fin 1024) :
    val_main_v120 (F := Ideal) x0 x1 x3 x6 x7 (ix3 0 r j) = val_main_v111 (F := Ideal) x0 x3 x6 x7 (ix3 0 r j) * x1 (ix2 0 j) := by
  pointwise [val_main_v120, val_main_v119, val_main_v71, val_main_v7]
theorem share_r (c : Fin 64) (t : Fin 128) :
    val_main_v130 (F := Ideal) x0 x1 x3 x6 x7 (ix1 (row c t))
      = varShare (params x1 x2 x3 x4).g ((chunk x0 x6 x7 c).v t) ((chunk x0 x6 x7 c).dX (params x1 x2 x3 x4) t) := by
  unfold val_main_v130
  simp only [Host.reduceAdd, Ideal.hostReduceAdd_def]
  rw [Sums.sum_r3_a02]
  simp only [Fin.sum_univ_one]
  pointwise [val_main_cst_28, val_main_v129, val_main_v128, val_main_v127, val_main_v124, val_main_v123, val_main_v122, val_main_cst_26, val_main_cst_27, slope_v, centred_v, dxg, varShare]
  simp only [dX_j x0 x1 x2 x3 x4 x6 x7]
  rfl
theorem centredBwd_j (c : Fin 64) (t : Fin 128) (j : Fin 1024) :
    val_main_v136 (F := Ideal) x0 x1 x3 x6 x7 (ix3 0 (row c t) j)
      = centredBwd (params x1 x2 x3 x4).g ((chunk x0 x6 x7 c).v t) ((chunk x0 x6 x7 c).dX (params x1 x2 x3 x4) t) j := by
  pointwise [val_main_v136, val_main_v135, val_main_v134, val_main_v133, val_main_v132, val_main_v131, val_main_v126, val_main_v125, centred_v, invStd_v, dxg]
  rw [dX_j x0 x1 x2 x3 x4 x6 x7, share_r x0 x1 x2 x3 x4 x6 x7]
  rfl
theorem normedBwd_j (c : Fin 64) (t : Fin 128) (j : Fin 1024) :
    val_main_v145 (F := Ideal) x0 x1 x3 x6 x7 (ix3 0 (row c t) j)
      = normedBwd (params x1 x2 x3 x4).g ((chunk x0 x6 x7 c).v t) ((chunk x0 x6 x7 c).dX (params x1 x2 x3 x4) t) j := by
  have e : val_main_v142 (F := Ideal) x0 x1 x3 x6 x7 (ix1 (row c t))
      = Ideal.div (∑ k, -centredBwd (params x1 x2 x3 x4).g ((chunk x0 x6 x7 c).v t) ((chunk x0 x6 x7 c).dX (params x1 x2 x3 x4) t) k) width := by
    unfold val_main_v142
    simp only [Host.reduceAdd, Ideal.hostReduceAdd_def]
    rw [Sums.sum_r3_a02]
    simp only [Fin.sum_univ_one]
    pointwise [val_main_cst_31, val_main_v141, val_main_v140, val_main_v139, val_main_v138, val_main_v137, val_main_cst_29, val_main_cst_30]
    simp only [centredBwd_j x0 x1 x2 x3 x4 x6 x7]
  pointwise [val_main_v145, val_main_v144, val_main_v143]
  rw [centredBwd_j x0 x1 x2 x3 x4 x6 x7, e]
  rfl
theorem dv_j (c : Fin 64) (t : Fin 128) (j : Fin 1024) :
    val_main_v157 (F := Ideal) x0 x1 x3 x6 x7 (ix3 0 (row c t) j) = (chunk x0 x6 x7 c).dv (params x1 x2 x3 x4) t j := by
  pointwise [val_main_v157, val_main_v156, val_main_v155, val_main_v154, val_main_v153, val_main_v152, val_main_v151, val_main_v150, val_main_v149, val_main_v148, val_main_v147, val_main_v146, val_main_cst_32, val_main_cst_33, val_main_cst_34, sq_v, bell_v, gate_v, val_v]
  rw [normedBwd_j x0 x1 x2 x3 x4 x6 x7]
  rfl

theorem dShift (z : Fin 1) (j : Fin 1024) :
    val_main_v171 (F := Ideal) x0 x3 x6 x7 (ix2 z j) = ∑ r : Fin 8192, val_main_v111 (F := Ideal) x0 x3 x6 x7 (ix3 0 r j) := by
  have e : val_main_v115 (F := Ideal) x0 x3 x6 x7 (ix1 j) = ∑ r : Fin 8192, val_main_v111 (F := Ideal) x0 x3 x6 x7 (ix3 0 r j) := by
    unfold val_main_v115
    simp only [Host.reduceAdd, Ideal.hostReduceAdd_def]
    rw [Sums.sum_r3_a01]
    simp only [Fin.sum_univ_one]
    pointwise [val_main_cst_23, val_main_v114, val_main_v113, val_main_cst_22]
  pointwise [val_main_v171, e]
theorem dScale (z : Fin 1) (j : Fin 1024) :
    val_main_v172 (F := Ideal) x0 x3 x6 x7 (ix2 z j)
      = ∑ r : Fin 8192, unitRow (rowV x0 r) j * val_main_v111 (F := Ideal) x0 x3 x6 x7 (ix3 0 r j) := by
  have e : val_main_v121 (F := Ideal) x0 x3 x6 x7 (ix1 j)
      = ∑ r : Fin 8192, unitRow (rowV x0 r) j * val_main_v111 (F := Ideal) x0 x3 x6 x7 (ix3 0 r j) := by
    unfold val_main_v121
    simp only [Host.reduceAdd, Ideal.hostReduceAdd_def]
    rw [Sums.sum_r3_a01]
    simp only [Fin.sum_univ_one]
    pointwise [val_main_cst_25, val_main_v118, val_main_v117, val_main_cst_24, val_main_v116, unit_v]
  pointwise [val_main_v172, e]

theorem pre_u (c : Fin 64) (t : Fin 128) (j : Fin 1024) :
    val_main_v177 (F := Ideal) x0 x1 x2 x3 x4 x5 x6 x7 (ix2 (row c t) ⟨j.val, by omega⟩) = (chunk x0 x6 x7 c).du (params x1 x2 x3 x4) t j := by
  pointwise [val_main_v177, val_main_v175, val_main_v174, val_main_v173, val_main_cst_38]
  simp (disch := omega) only [dif_pos, dif_neg, Fin.sum_univ_one]
  exact du_j x0 x1 x2 x3 x4 x6 x7 c t j
theorem pre_v (c : Fin 64) (t : Fin 128) (j : Fin 1024) :
    val_main_v177 (F := Ideal) x0 x1 x2 x3 x4 x5 x6 x7 (ix2 (row c t) ⟨1024 + j.val, by omega⟩) = (chunk x0 x6 x7 c).dv (params x1 x2 x3 x4) t j := by
  pointwise [val_main_v177, val_main_v175, val_main_v174, val_main_v173, val_main_cst_38]
  simp (disch := omega) only [dif_pos, dif_neg, Fin.sum_univ_one]
  exact dv_j x0 x1 x2 x3 x4 x6 x7 c t j
theorem pre_z (c : Fin 64) (t : Fin 128) (j : Fin 1024) :
    val_main_v177 (F := Ideal) x0 x1 x2 x3 x4 x5 x6 x7 (ix2 (row c t) ⟨2048 + j.val, by omega⟩) = (chunk x0 x6 x7 c).dz (params x1 x2 x3 x4) t j := by
  pointwise [val_main_v177, val_main_v175, val_main_v174, val_main_v173, val_main_cst_38]
  simp (disch := omega) only [dif_pos, dif_neg, Fin.sum_univ_one]
  rw [show (⟨2048 + j.val - 1024 - 1024, by omega⟩ : Fin 1024) = j from Fin.ext (by dsimp only; omega)]
  exact dz_j x0 x1 x2 x3 x4 x6 x7 c t j
theorem pre_rest (r : Fin 8192) (j : Fin 7168) :
    val_main_v177 (F := Ideal) x0 x1 x2 x3 x4 x5 x6 x7 (ix2 r ⟨3072 + j.val, by omega⟩) = x5 (ix2 r ⟨3072 + j.val, by omega⟩) := by
  pointwise [val_main_v177, val_main_v176]

end Cert.BranchA.Ref
-- ==== Proof.BranchA.Glue.lean ====
/- A tile of 512 rows beside the whole sequence: the tile's four chunks are four of the sequence's sixty-four, so what a
   grid point computes is the reference read at the tile's rows, or the tile's share of a sum of the reference. -/
module

public import proofs.«01_k».proof.Proof.BranchA.Rows
public import proofs.«01_k».proof.Proof.BranchA.Ref
public import Idealize.ShloMosaic.Lib.Pipeline.ValueKit.Acc

@[expose] public section

set_option maxRecDepth 16384
set_option maxHeartbeats 0

noncomputable section
namespace Cert.BranchA.Glue
open Idealize.ShloMosaic Cert.BranchA

variable {X0 X5 : Vec Ideal Cert.ReferenceIdeal.S8192x10240 .bf16} {x1 x2 : Vec Ideal Cert.ReferenceIdeal.S1x1024 .f32}
  {x3 : Vec Ideal Cert.ReferenceIdeal.S4x128x128 .f32} {x4 : Vec Ideal Cert.ReferenceIdeal.S4x128x1 .f32}
  {X6 : Vec Ideal Cert.ReferenceIdeal.S8192x1024 .bf16} {x6 : Vec Ideal Cert.ReferenceIdeal.S1024x1024 .bf16}
  {x0 : Vec Ideal Cert.KernelIdeal.S512x3072 .bf16} {x5 : Vec Ideal Cert.KernelIdeal.S512x1024 .bf16}

/-- The sequence's row that row `i` of tile `p` is. -/
abbrev at' (p : Fin 16) (i : Fin 512) : Fin 8192 := ⟨512 * p.val + i.val, by omega⟩

/-- `x0` and `x5` are tile `p` of the pre-activations and of the cotangent of the block's output. -/
structure IsTile (X0 : Vec Ideal Cert.ReferenceIdeal.S8192x10240 .bf16) (X6 : Vec Ideal Cert.ReferenceIdeal.S8192x1024 .bf16)
    (x0 : Vec Ideal Cert.KernelIdeal.S512x3072 .bf16) (x5 : Vec Ideal Cert.KernelIdeal.S512x1024 .bf16) (p : Fin 16) : Prop where
  pre : ∀ (i : Fin 512) (k : Fin 3072), x0 (ix2 i k) = X0 (ix2 (at' p i) ⟨k.val, by omega⟩)
  cot : ∀ (i : Fin 512) (k : Fin 1024), x5 (ix2 i k) = X6 (ix2 (at' p i) k)

theorem params_eq : Tile.params x1 x2 x3 x4 = Ref.params x1 x2 x3 x4 := rfl

variable {p : Fin 16} (H : IsTile X0 X6 x0 x5 p)
include H

theorem rowU_eq (i : Fin 512) : Tile.rowU x0 i = Ref.rowU X0 (at' p i) := funext fun _ => H.pre _ _
theorem rowV_eq (i : Fin 512) : Tile.rowV x0 i = Ref.rowV X0 (at' p i) := funext fun _ => H.pre _ _
theorem rowZ_eq (i : Fin 512) : Tile.rowZ x0 i = Ref.rowZ X0 (at' p i) := funext fun _ => H.pre _ _
theorem rowDy_eq (i : Fin 512) : Tile.rowDy x5 x6 i = Ref.rowDy X6 x6 (at' p i) :=
  funext fun j => Finset.sum_congr rfl fun k _ => congrArg (· * x6 (ix2 j k)) (H.cot i k)

omit H in
theorem at_row (p : Fin 16) (q : Fin 4) (t : Fin 128) : at' p (Tile.row q t) = Ref.row ⟨4 * p.val + q.val, by omega⟩ t :=
  Fin.ext (by dsimp only; omega)

/-- Chunk `q` of tile `p` is chunk `4 p + q` of the sequence. -/
theorem chunk_eq (q : Fin 4) : Tile.chunk x0 x5 x6 q = Ref.chunk X0 X6 x6 ⟨4 * p.val + q.val, by omega⟩ := by
  unfold Tile.chunk Ref.chunk
  refine Chunk.mk.injEq .. ▸ ⟨?_, ?_, ?_, ?_⟩ <;> funext t
  · rw [← at_row p q t]; exact rowU_eq H _
  · rw [← at_row p q t]; exact rowV_eq H _
  · rw [← at_row p q t]; exact rowZ_eq H _
  · rw [← at_row p q t]; exact rowDy_eq H _

omit H in
theorem row_split (i : Fin 512) : ∃ (q : Fin 4) (t : Fin 128), i = Tile.row q t :=
  ⟨⟨i.val / 128, by omega⟩, ⟨i.val % 128, by omega⟩, Fin.ext (by show i.val = 128 * (i.val / 128) + i.val % 128; omega)⟩

omit H in
theorem col_split (k : Fin 3072) : (∃ j : Fin 1024, k = ⟨j.val, by omega⟩) ∨ (∃ j : Fin 1024, k = ⟨1024 + j.val, by omega⟩)
    ∨ (∃ j : Fin 1024, k = ⟨2048 + j.val, by omega⟩) := by
  by_cases h1 : k.val < 1024
  · exact Or.inl ⟨⟨k.val, h1⟩, rfl⟩
  · by_cases h2 : k.val < 2048
    · exact Or.inr (Or.inl ⟨⟨k.val - 1024, by omega⟩, Fin.ext (by dsimp only; omega)⟩)
    · exact Or.inr (Or.inr ⟨⟨k.val - 2048, by omega⟩, Fin.ext (by dsimp only; omega)⟩)

/-- The cotangent at the layer-normed rows, at the tile's rows. -/
theorem dRows_eq (i : Fin 512) (j : Fin 1024) :
    Tile.dRowsV (Cert.KernelIdeal.Gen.k0_pay8 x0) (Tile.dProdV x0 x5 x6) x3 (ix2 i j)
      = Cert.ReferenceIdeal.Read.val_main_v111 (F := Ideal) X0 x3 X6 x6 (ix3 0 (at' p i) j) := by
  obtain ⟨q, t, rfl⟩ := row_split i
  rw [at_row, Tile.dRows_chunk x0 (fun _ => 0) (fun _ => 0) x3 (fun _ => 0), chunk_eq H, params_eq]
  exact (Ref.dX_j X0 (fun _ => 0) (fun _ => 0) x3 (fun _ => 0) X6 x6 _ t j).symm

/-- The block of pre-activation gradients a grid point leaves is the reference's at the tile's rows. -/
theorem dPre_eq (i : Fin 512) (k : Fin 3072) :
    Tile.dPreV x0 x1 x2 x3 x4 x5 x6 (ix2 i k)
      = Cert.ReferenceIdeal.Read.val_main_v177 (F := Ideal) X0 x1 x2 x3 x4 X5 X6 x6 (ix2 (at' p i) ⟨k.val, by omega⟩) := by
  obtain ⟨q, t, rfl⟩ := row_split i
  rw [at_row]
  obtain ⟨j, rfl⟩ | ⟨j, rfl⟩ | ⟨j, rfl⟩ := col_split k
  · rw [Ref.pre_u, Tile.pre_u, Tile.mixed_chunk x0 x1 x2 x3 x4 x5 x6, Tile.dProd_apply, ← chunk_eq H]
    rfl
  · rw [Ref.pre_v, Tile.pre_v, ← chunk_eq H]
    simp only [Tile.dRows_chunk x0 x1 x2 x3 x4]
    rfl
  · rw [Ref.pre_z, Tile.pre_z, Tile.mixed_chunk x0 x1 x2 x3 x4 x5 x6, ← chunk_eq H]
    rfl

omit H

variable {T0 : Fin 16 → Vec Ideal Cert.KernelIdeal.S512x3072 .bf16} {T5 : Fin 16 → Vec Ideal Cert.KernelIdeal.S512x1024 .bf16}
  (HT : ∀ p, IsTile X0 X6 (T0 p) (T5 p) p)
include HT

theorem dShift_sum (z : Fin 1) (j : Fin 1024) :
    ∑ p : Fin 16, Tile.dShiftV (T0 p) x3 (T5 p) x6 (ix2 z j)
      = Cert.ReferenceIdeal.Read.val_main_v171 (F := Ideal) X0 x3 X6 x6 (ix2 z j) := by
  rw [Ref.dShift X0 x3 X6 x6]
  simp only [Tile.dShift_row, fun p i => dRows_eq (x3 := x3) (x6 := x6) (HT p) i j]
  refine Fin.sum_mul_add_congr (fun p i hl => ?_)
  exact congrArg _ (congrArg (fun r => ix3 0 r j) (Fin.ext (by dsimp only; omega)))

theorem dScale_sum (z : Fin 1) (j : Fin 1024) :
    ∑ p : Fin 16, Tile.dScaleV (T0 p) x3 (T5 p) x6 (ix2 z j)
      = Cert.ReferenceIdeal.Read.val_main_v172 (F := Ideal) X0 x3 X6 x6 (ix2 z j) := by
  rw [Ref.dScale X0 x3 X6 x6]
  simp only [Tile.dScale_row, fun p i => dRows_eq (x3 := x3) (x6 := x6) (HT p) i j, fun p i => rowV_eq (HT p) i]
  refine Fin.sum_mul_add_congr (fun p i hl => ?_)
  exact congrArg (fun r => unitRow (Ref.rowV X0 r) j * Cert.ReferenceIdeal.Read.val_main_v111 (F := Ideal) X0 x3 X6 x6 (ix3 0 r j))
    (Fin.ext (by dsimp only; omega))

theorem dMats_sum (h : Fin 4) (t s : Fin 128) :
    ∑ p : Fin 16, Tile.dMatsV (Tile.normedV (T0 p) x1 x2) (Cert.KernelIdeal.Gen.k0_pay8 (T0 p)) (Tile.dProdV (T0 p) (T5 p) x6) (ix3 h t s)
      = Cert.ReferenceIdeal.Read.val_main_v112 (F := Ideal) X0 x1 x2 X6 x6 (ix3 h t s) := by
  rw [Ref.dMats X0 x1 x2 (fun _ => 0) (fun _ => 0) X6 x6]
  simp only [Tile.dMats_chunk _ x1 x2 (fun _ => 0) (fun _ => 0), fun p q => chunk_eq (x6 := x6) (HT p) q, params_eq]
  split
  · refine Fin.sum_mul_add_congr (fun p q hl => ?_)
    exact congrArg (fun c => (Ref.chunk X0 X6 x6 c).dW _ h t s) (Fin.ext (by dsimp only; omega))
  · exact Finset.sum_const_zero

theorem dBias_sum (h : Fin 4) (t : Fin 128) (z : Fin 1) :
    ∑ p : Fin 16, Tile.dBiasV (Cert.KernelIdeal.Gen.k0_pay8 (T0 p)) (Tile.dProdV (T0 p) (T5 p) x6) (ix3 h t z)
      = Cert.ReferenceIdeal.Read.val_main_v170 (F := Ideal) X0 X6 x6 (ix3 h t z) := by
  obtain rfl : z = 0 := Subsingleton.elim _ _
  rw [Ref.dBias X0 X6 x6]
  simp only [Tile.dBias_chunk, fun p q => chunk_eq (x6 := x6) (HT p) q]
  refine Fin.sum_mul_add_congr (fun p q hl => ?_)
  exact congrArg (fun c => (Ref.chunk X0 X6 x6 c).dβ h t) (Fin.ext (by dsimp only; omega))

end Cert.BranchA.Glue
end
-- ==== Proof.BranchA.Array.lean ====
/- The kernel's blocks read out of its arguments. -/
module

public import proofs.«01_k».proof.Proof.BranchA.Tile
public import proofs.«01_k».proof.Proof.BranchA.Glue
public import proofs.«01_k».proof.Proof.Gen.KernelIdeal.Value
public import Idealize.ShloMosaic.Lib.Pipeline.ValueKit.Acc
public import Idealize.ShloMosaic.Lib.Pipeline.ValueKit.Partial

@[expose] public section

set_option maxRecDepth 16384
set_option maxHeartbeats 0

noncomputable section
open Idealize.ShloMosaic Idealize.ShloMosaic.TcCoe Idealize.SL.Sem
open Idealize.ShloMosaic.Pipeline (Dat)
namespace Cert.BranchA.Array
open Cert.KernelIdeal Cert.KernelIdeal.Gen

variable (m : (ℓ : Loc nD τ sig) → Buf (Elt Ideal) ℓ) (c : Dev nD)

theorem ix_0 : ∀ t : Fin cfg0.N, win0_0.index t = ![t.val, 0] := (by decide +kernel : ∀ t : Fin grid0.N, win0_0.index t = ![t.val, 0])
theorem ix_1 : ∀ t : Fin cfg0.N, win0_1.index t = ![0, 0] := fun _ => rfl
theorem ix_2 : ∀ t : Fin cfg0.N, win0_2.index t = ![0, 0] := fun _ => rfl
theorem ix_3 : ∀ t : Fin cfg0.N, win0_3.index t = ![0, 0, 0] := fun _ => rfl
theorem ix_4 : ∀ t : Fin cfg0.N, win0_4.index t = ![0, 0, 0] := fun _ => rfl
theorem ix_5 : ∀ t : Fin cfg0.N, win0_5.index t = ![t.val, 0] := (by decide +kernel : ∀ t : Fin grid0.N, win0_5.index t = ![t.val, 0])
theorem ix_6 : ∀ t : Fin cfg0.N, win0_6.index t = ![0, 0] := fun _ => rfl
theorem ix_7 : ∀ t : Fin cfg0.N, win0_7.index t = ![t.val, 0] := (by decide +kernel : ∀ t : Fin grid0.N, win0_7.index t = ![t.val, 0])

theorem lt_N (t : Fin cfg0.N) : t.val < 16 := lt_of_lt_of_eq t.isLt N_0
/-- The tile a grid point works on. -/
abbrev tile (t : Fin cfg0.N) : Fin 16 := ⟨t.val, lt_N t⟩

theorem block1 (t : Fin cfg0.N) : iblk m c 1 t = m ((c : Thread nD τ).loc main_arg1) := by
  funext j; rw [← V_main_arg1 m c]; blk_simp [iblk]; refine congrArg _ ?_; blk_ext [ix_1 t]
theorem block2 (t : Fin cfg0.N) : iblk m c 2 t = m ((c : Thread nD τ).loc main_arg2) := by
  funext j; rw [← V_main_arg2 m c]; blk_simp [iblk]; refine congrArg _ ?_; blk_ext [ix_2 t]
theorem block3 (t : Fin cfg0.N) : iblk m c 3 t = m ((c : Thread nD τ).loc main_arg3) := by
  funext j; rw [← V_main_arg3 m c]; blk_simp [iblk]; refine congrArg _ ?_; blk_ext [ix_3 t]
theorem block4 (t : Fin cfg0.N) : iblk m c 4 t = m ((c : Thread nD τ).loc main_arg4) := by
  funext j; rw [← V_main_arg4 m c]; blk_simp [iblk]; refine congrArg _ ?_; blk_ext [ix_4 t]
theorem block6 (t : Fin cfg0.N) : iblk m c 6 t = m ((c : Thread nD τ).loc main_arg7) := by
  funext j; rw [← V_main_arg7 m c]; blk_simp [iblk]; refine congrArg _ ?_; blk_ext [ix_6 t]

/-- A grid point's blocks are its tile of the sequence. -/
theorem isTile (t : Fin cfg0.N) :
    Glue.IsTile (m ((c : Thread nD τ).loc main_arg0)) (m ((c : Thread nD τ).loc main_arg6)) (X0_0 m c t) (iblk m c 5 t) (tile t) where
  pre i k := by
    rw [← V_main_arg0 m c]
    unfold X0_0 Pipeline.Window.fill
    rw [dif_pos (moved0_0 t _)]
    blk_simp [iblk]
    refine congrArg _ ?_
    blk_ext [ix_0 t]
  cot i k := by
    rw [← V_main_arg6 m c]
    blk_simp [iblk]
    refine congrArg _ ?_
    blk_ext [ix_5 t]

/-- The result the kernel writes in place starts as the argument's contents. -/
theorem V_result : V m c main_v0_0 = m ((c : Thread nD τ).loc main_arg5) := rfl

/-- What a grid point leaves in the window of pre-activation gradients. -/
theorem after7 (t : Fin cfg0.N) :
    (outsAt0 m c t.val t.isLt).1
      = Tile.dPreV (X0_0 m c t) (m ((c : Thread nD τ).loc main_arg1)) (m ((c : Thread nD τ).loc main_arg2))
          (m ((c : Thread nD τ).loc main_arg3)) (m ((c : Thread nD τ).loc main_arg4)) (iblk m c 5 t) (m ((c : Thread nD τ).loc main_arg7)) := by
  by_cases h : t.val % 16 = 0
  · rw [outsAt0_A m c t h h h h]
    dsimp only
    rw [Tile.out_A_7, block1, block2, block3, block4, block6]
  · rw [outsAt0_B m c t h h h h]
    dsimp only
    rw [Tile.out_B_7, block1, block2, block3, block4, block6]

/-- The gradient at the pre-activations, with the other columns as they came. -/
theorem result7 : (dats m 0 c).arrAt 7 cfg0.N
    = Cert.ReferenceIdeal.Read.val_main_v177 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_coversWhere_of_agree 7 _ (fun β => β (1 : Fin _) < 1) (by decide +kernel) (fun t _ y => ?_) (fun j hj => ?_)
  · rw [after0_7, after7]
    have hx : (cfg0.win 7).xinj (cfg0.grid.coords t) y = ix2 (n0 := 512) (n1 := 3072) ((cfg0.win 7).xinj (cfg0.grid.coords t) y 0) ((cfg0.win 7).xinj (cfg0.grid.coords t) y 1) := by
      funext a; fin_cases a <;> rfl
    refine (congrArg _ hx).trans ((Glue.dPre_eq (X5 := m ((c : Thread nD τ).loc main_arg5)) (isTile m c t) _ _).trans ?_)
    refine congrArg _ ?_
    blk_ext [ix_7 t]
  · have e : (cfg0.win 7).arr.view.emb j = ix2 (n0 := 8192) (n1 := 10240) (j 0) (j 1) := by
      funext a; fin_cases a <;> rfl
    have hj1 : ¬ (j 1).val / 3072 < 1 := hj
    rw [e]
    have hk : (j 1).val < 10240 := (j 1).isLt
    have hj2 : j 1 = (⟨3072 + (⟨(j 1).val - 3072, by omega⟩ : Fin 7168).val, by omega⟩ : Fin 10240) := Fin.ext (by dsimp only; omega)
    rw [hj2]
    have h5 : (dats m 0 c).A 7 = m ((c : Thread nD τ).loc main_arg5) := V_result m c
    rw [h5]
    exact (Ref.pre_rest (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (j 0) ⟨(j 1).val - 3072, by omega⟩).symm

/-- The gradient of the layer norm's scale. -/
theorem result8 : (dats m 0 c).arrAt 8 cfg0.N
    = Cert.ReferenceIdeal.Read.val_main_v172 (F := Ideal) (m ((c : Thread nD τ).loc main_arg0))
        (m ((c : Thread nD τ).loc main_arg3)) (m ((c : Thread nD τ).loc main_arg6)) (m ((c : Thread nD τ).loc main_arg7)) := by
  refine (dats m 0 c).arrAt_eq_of_after_last 8 t0_15 (by decide +kernel) _ fun j => ?_
  rw [after0_8]
  have key := Pipeline.eq_sum_fin_of_reset_step_apply_last (fun n h => (outsAt0 m c n h).2.1) 16 (fun _ => 0)
    (fun t => Tile.dScaleV (X0_0 m c t) (m ((c : Thread nD τ).loc main_arg3)) (iblk m c 5 t) (m ((c : Thread nD τ).loc main_arg7)))
    (fun t h i => by
      rw [outsAt0_A m c t h h h h]
      dsimp only
      rw [Tile.out_A_8, block3, block6]
      pointwise [k0_pay146, k0_pay145])
    (fun t h i => by
      rw [outsAt0_B m c t h h h h]
      dsimp only
      rw [Tile.out_B_8, block3, block6]
      pointwise [k0_pay146])
    (le_of_eq N_0) t0_15 rfl
  obtain ⟨z, k, rfl⟩ : ∃ (z : Fin 1) (k : Fin 1024), j = ix2 z k := ⟨j 0, j 1, by funext a; fin_cases a <;> rfl⟩
  refine (key (ix2 z k)).trans ?_
  rw [zero_add]
  have H (p : Fin 16) : Glue.IsTile (m ((c : Thread nD τ).loc main_arg0)) (m ((c : Thread nD τ).loc main_arg6)) (X0_0 m c p) (iblk m c 5 p) p := isTile m c p
  exact Glue.dScale_sum H z k

/-- The gradient of the layer norm's shift. -/
theorem result9 : (dats m 0 c).arrAt 9 cfg0.N
    = Cert.ReferenceIdeal.Read.val_main_v171 (F := Ideal) (m ((c : Thread nD τ).loc main_arg0)) (m ((c : Thread nD τ).loc main_arg3)) (m ((c : Thread nD τ).loc main_arg6)) (m ((c : Thread nD τ).loc main_arg7)) := by
  refine (dats m 0 c).arrAt_eq_of_after_last 9 t0_15 (by decide +kernel) _ fun j => ?_
  rw [after0_9]
  have key := Pipeline.eq_sum_fin_of_reset_step_apply_last (fun n h => (outsAt0 m c n h).2.2.1) 16 (fun _ => 0)
    (fun t => Tile.dShiftV (X0_0 m c t) (m ((c : Thread nD τ).loc main_arg3)) (iblk m c 5 t) (m ((c : Thread nD τ).loc main_arg7)))
    (fun t h i => by
      rw [outsAt0_A m c t h h h h]
      dsimp only
      rw [Tile.out_A_9, block3, block6]
      pointwise [k0_pay148, k0_pay147])
    (fun t h i => by
      rw [outsAt0_B m c t h h h h]
      dsimp only
      rw [Tile.out_B_9, block3, block6]
      pointwise [k0_pay148])
    (le_of_eq N_0) t0_15 rfl
  obtain ⟨z, k, rfl⟩ : ∃ (z : Fin 1) (k : Fin 1024), j = ix2 z k := ⟨j 0, j 1, by funext a; fin_cases a <;> rfl⟩
  refine (key (ix2 z k)).trans ?_
  rw [zero_add]
  have H (p : Fin 16) : Glue.IsTile (m ((c : Thread nD τ).loc main_arg0)) (m ((c : Thread nD τ).loc main_arg6)) (X0_0 m c p) (iblk m c 5 p) p := isTile m c p
  exact Glue.dShift_sum H z k

/-- The gradient of the mixing matrices. -/
theorem result10 : (dats m 0 c).arrAt 10 cfg0.N
    = Cert.ReferenceIdeal.Read.val_main_v112 (F := Ideal) (m ((c : Thread nD τ).loc main_arg0)) (m ((c : Thread nD τ).loc main_arg1)) (m ((c : Thread nD τ).loc main_arg2)) (m ((c : Thread nD τ).loc main_arg6)) (m ((c : Thread nD τ).loc main_arg7)) := by
  refine (dats m 0 c).arrAt_eq_of_after_last 10 t0_15 (by decide +kernel) _ fun j => ?_
  rw [after0_10]
  have key := Pipeline.eq_sum_fin_of_reset_step_apply_last (fun n h => (outsAt0 m c n h).2.2.2.1) 16 (fun _ => 0)
    (fun t => Tile.dMatsV (Tile.normedV (X0_0 m c t) (m ((c : Thread nD τ).loc main_arg1)) (m ((c : Thread nD τ).loc main_arg2))) (k0_pay8 (X0_0 m c t)) (Tile.dProdV (X0_0 m c t) (iblk m c 5 t) (m ((c : Thread nD τ).loc main_arg7))))
    (fun t h i => by
      rw [outsAt0_A m c t h h h h]
      dsimp only
      rw [Tile.out_A_10, block1, block2, block6]
      pointwise [k0_pay150, k0_pay149])
    (fun t h i => by
      rw [outsAt0_B m c t h h h h]
      dsimp only
      rw [Tile.out_B_10, block1, block2, block6]
      pointwise [k0_pay150])
    (le_of_eq N_0) t0_15 rfl
  obtain ⟨h, t, s, rfl⟩ : ∃ (h : Fin 4) (t : Fin 128) (s : Fin 128), j = ix3 h t s := ⟨j 0, j 1, j 2, by funext a; fin_cases a <;> rfl⟩
  refine (key (ix3 h t s)).trans ?_
  rw [zero_add]
  have H (p : Fin 16) : Glue.IsTile (m ((c : Thread nD τ).loc main_arg0)) (m ((c : Thread nD τ).loc main_arg6)) (X0_0 m c p) (iblk m c 5 p) p := isTile m c p
  exact Glue.dMats_sum H h t s

/-- The gradient of the mixing biases. -/
theorem result11 : (dats m 0 c).arrAt 11 cfg0.N
    = Cert.ReferenceIdeal.Read.val_main_v170 (F := Ideal) (m ((c : Thread nD τ).loc main_arg0)) (m ((c : Thread nD τ).loc main_arg6)) (m ((c : Thread nD τ).loc main_arg7)) := by
  refine (dats m 0 c).arrAt_eq_of_after_last 11 t0_15 (by decide +kernel) _ fun j => ?_
  rw [after0_11]
  have key := Pipeline.eq_sum_fin_of_reset_step_apply_last (fun n h => (outsAt0 m c n h).2.2.2.2) 16 (fun _ => 0)
    (fun t => Tile.dBiasV (k0_pay8 (X0_0 m c t)) (Tile.dProdV (X0_0 m c t) (iblk m c 5 t) (m ((c : Thread nD τ).loc main_arg7))))
    (fun t h i => by
      rw [outsAt0_A m c t h h h h]
      dsimp only
      rw [Tile.out_A_11, block6]
      pointwise [k0_pay152, k0_pay151])
    (fun t h i => by
      rw [outsAt0_B m c t h h h h]
      dsimp only
      rw [Tile.out_B_11, block6]
      pointwise [k0_pay152])
    (le_of_eq N_0) t0_15 rfl
  obtain ⟨h, t, s, rfl⟩ : ∃ (h : Fin 4) (t : Fin 128) (s : Fin 1), j = ix3 h t s := ⟨j 0, j 1, j 2, by funext a; fin_cases a <;> rfl⟩
  refine (key (ix3 h t s)).trans ?_
  rw [zero_add]
  have H (p : Fin 16) : Glue.IsTile (m ((c : Thread nD τ).loc main_arg0)) (m ((c : Thread nD τ).loc main_arg6)) (X0_0 m c p) (iblk m c 5 p) p := isTile m c p
  exact Glue.dBias_sum H h t s

end Cert.BranchA.Array
end
-- ==== Proof.BranchA.lean ====
/- The gated-mixing branch's backward kernel: its frames, and its equality with the reference. -/
module

public import proofs.«01_k».proof.Defs
public import proofs.«01_k».proof.Proof.BranchA.Array
public import proofs.«01_k».proof.Proof.Gen.Kernel.Frame
public import proofs.«01_k».proof.Proof.Gen.ReferenceIdeal.Run
public import Idealize.ShloMosaic.Adequacy
public import Idealize.ShloMosaic.Init

@[expose] public section

set_option maxRecDepth 16384
set_option maxHeartbeats 0

noncomputable section
namespace Cert.BranchA
open Idealize.ShloMosaic Idealize.SL.Sem

/-- The kernel as it runs: it terminates without a fault, keeps its arguments, and leaves every counter at zero. -/
theorem frame_kernel : Cert.quiescent_Kernel := fun m ρ _ => Cert.Kernel.Gen.frame m ρ

/-- The kernel over exact values: the same. -/
theorem frame_ideal : Cert.quiescent_KernelIdeal := fun m ρ _ => Cert.KernelIdeal.Gen.frame m ρ

/-- The reference: the same, from its run; it has no counters. -/
theorem frame_reference : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

/-- No operation was replaced between the kernel and its exact form. -/
theorem preserves : Cert.preserves_Kernel_KernelIdeal := trivial

/-- Over exact values the kernel's five results are the reference's: the gradient of the block's pre-activations beside
    the columns it leaves alone, and the gradients of the layer norm's scale and shift, of the mixing matrices and of
    the mixing biases. -/
theorem algebraic : Cert.algebraic_KernelIdeal_ReferenceIdeal := by
  intro m ρ m' ρ' _ hagree
  refine ⟨fun c => Cert.ReferenceIdeal.Read.val_main_v177 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v172 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v171 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v112 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v170 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    ?_, ?_⟩
  · refine (θ_run Cert.KernelIdeal.defs _ _).mono (fun r h c => ?_) (Cert.KernelIdeal.Value.run_blocks (F := Ideal) m ρ)
    obtain ⟨h0, h1, h2, h3, h4, hrest⟩ := h c
    exact ⟨h0.trans (Array.result7 m c), h1.trans (Array.result8 m c), h2.trans (Array.result9 m c),
      h3.trans (Array.result10 m c), h4.trans (Array.result11 m c), hrest⟩
  · refine (θ_run Cert.ReferenceIdeal.defs _ _).mono (fun r h c => ?_) (Cert.ReferenceIdeal.Value.run (F := Ideal) m' ρ')
    obtain ⟨h0, h1, h2, h3, h4, hrest⟩ := h c
    obtain ⟨e0, e1, e2, e3, e4, e5, e6, e7⟩ := hagree c
    have l0 : StableHlo.launchContents m' c (Proc.devRef .tc Cert.ReferenceIdeal.main_arg0) = m ((c.tc : Thread Cert.KernelIdeal.nD Cert.KernelIdeal.τ).loc Cert.KernelIdeal.main_arg0) := e0
    have l1 : StableHlo.launchContents m' c (Proc.devRef .tc Cert.ReferenceIdeal.main_arg1) = m ((c.tc : Thread Cert.KernelIdeal.nD Cert.KernelIdeal.τ).loc Cert.KernelIdeal.main_arg1) := e1
    have l2 : StableHlo.launchContents m' c (Proc.devRef .tc Cert.ReferenceIdeal.main_arg2) = m ((c.tc : Thread Cert.KernelIdeal.nD Cert.KernelIdeal.τ).loc Cert.KernelIdeal.main_arg2) := e2
    have l3 : StableHlo.launchContents m' c (Proc.devRef .tc Cert.ReferenceIdeal.main_arg3) = m ((c.tc : Thread Cert.KernelIdeal.nD Cert.KernelIdeal.τ).loc Cert.KernelIdeal.main_arg3) := e3
    have l4 : StableHlo.launchContents m' c (Proc.devRef .tc Cert.ReferenceIdeal.main_arg4) = m ((c.tc : Thread Cert.KernelIdeal.nD Cert.KernelIdeal.τ).loc Cert.KernelIdeal.main_arg4) := e4
    have l5 : StableHlo.launchContents m' c (Proc.devRef .tc Cert.ReferenceIdeal.main_arg5) = m ((c.tc : Thread Cert.KernelIdeal.nD Cert.KernelIdeal.τ).loc Cert.KernelIdeal.main_arg5) := e5
    have l6 : StableHlo.launchContents m' c (Proc.devRef .tc Cert.ReferenceIdeal.main_arg6) = m ((c.tc : Thread Cert.KernelIdeal.nD Cert.KernelIdeal.τ).loc Cert.KernelIdeal.main_arg6) := e6
    have l7 : StableHlo.launchContents m' c (Proc.devRef .tc Cert.ReferenceIdeal.main_arg7) = m ((c.tc : Thread Cert.KernelIdeal.nD Cert.KernelIdeal.τ).loc Cert.KernelIdeal.main_arg7) := e7
    refine ⟨?_, ?_, ?_, ?_, ?_, hrest⟩
    · refine (h0.trans (Cert.ReferenceIdeal.Read.val_main_v177_eq (StableHlo.launchContents m' c))).trans ?_
      rw [l0, l1, l2, l3, l4, l5, l6, l7]
    · refine (h1.trans (Cert.ReferenceIdeal.Read.val_main_v172_eq (StableHlo.launchContents m' c))).trans ?_
      rw [l0, l3, l6, l7]
    · refine (h2.trans (Cert.ReferenceIdeal.Read.val_main_v171_eq (StableHlo.launchContents m' c))).trans ?_
      rw [l0, l3, l6, l7]
    · refine (h3.trans (Cert.ReferenceIdeal.Read.val_main_v112_eq (StableHlo.launchContents m' c))).trans ?_
      rw [l0, l1, l2, l6, l7]
    · refine (h4.trans (Cert.ReferenceIdeal.Read.val_main_v170_eq (StableHlo.launchContents m' c))).trans ?_
      rw [l0, l6, l7]

end Cert.BranchA
end
-- ==== Proof.ProjWeight.lean ====
/- The gradient of the projection's weight: the kernel's blocks of columns, each one product over the whole sequence, are
   the reference's product. -/
module

public import proofs.«01_k».proof.Defs
public import proofs.«01_k».proof.Proof.Gen.ProjWeight.Frame
public import proofs.«01_k».proof.Proof.Gen.ProjWeightIdeal.Value
public import proofs.«01_k».proof.Proof.Gen.ProjWeightRefIdeal.Run
public import proofs.«01_k».proof.Proof.Gen.ProjWeightRefIdeal.Read
public import Idealize.ShloMosaic.Lib.Pipeline.ValueKit.Acc
public import Idealize.ShloMosaic.Lib.Pipeline.ValueKit.Partial
public import Idealize.ShloMosaic.Lib.Pointwise
public import Idealize.ShloMosaic.Lib.Tactic
public import Idealize.ShloMosaic.Adequacy
public import Idealize.ShloMosaic.Init

@[expose] public section

set_option maxRecDepth 16384
set_option maxHeartbeats 0

noncomputable section
open Idealize.ShloMosaic Idealize.ShloMosaic.TcCoe Idealize.SL.Sem
open Idealize.ShloMosaic.Pipeline (Dat)
namespace Cert.ProjWeightProof
open Cert.ProjWeightIdeal Cert.ProjWeightIdeal.Gen

variable (m : (ℓ : Loc nD τ sig) → Buf (Elt Ideal) ℓ) (c : Dev nD)

theorem ix_0 : ∀ t : Fin cfg0.N, win0_0.index t = ![0, 0] := (by decide +kernel : ∀ t : Fin grid0.N, win0_0.index t = ![0, 0])
theorem ix_1 : ∀ t : Fin cfg0.N, win0_1.index t = ![0, t.val] := (by decide +kernel : ∀ t : Fin grid0.N, win0_1.index t = ![0, t.val])
theorem ix_2 : ∀ t : Fin cfg0.N, win0_2.index t = ![0, t.val] := (by decide +kernel : ∀ t : Fin grid0.N, win0_2.index t = ![0, t.val])
theorem lt_N (t : Fin cfg0.N) : t.val < 20 := lt_of_lt_of_eq t.isLt N_0

theorem hz : (![0, 0] : Fin 2 → Nat) = fun _ => 0 := by funext i; fin_cases i <;> rfl

theorem block0 (t : Fin cfg0.N) : iblk m c 0 t = m ((c : Thread nD τ).loc main_arg0) := by
  funext j; rw [← V_main_arg0 m c]; blk_simp [iblk]; refine congrArg _ ?_; blk_ext [ix_0 t]

theorem block1 (t : Fin cfg0.N) (k : Fin 8192) (j : Fin 512) :
    iblk m c 1 t (ix2 k j) = m ((c : Thread nD τ).loc main_arg1) (ix2 k ⟨512 * t.val + j.val, by have := lt_N t; omega⟩) := by
  rw [← V_main_arg1 m c]; blk_simp [iblk]; refine congrArg _ ?_; blk_ext [ix_1 t]

/-- What a grid point leaves: the product of the two blocks over the whole sequence. -/
theorem out_eq (x0 : Vec Ideal S8192x1024 .bf16) (x1 : Vec Ideal S8192x512 .bf16) : out0_2 x0 x1 = k0_pay1 x0 x1 := by
  unfold out0_2
  rw [View.canon_unit_zero hz]
  simp only [View.ld_unit_zero (S := S8192x1024) hz, View.ld_unit_zero (S := S8192x512) hz]

theorem pay_apply (x0 : Vec Ideal S8192x1024 .bf16) (x1 : Vec Ideal S8192x512 .bf16) (i : Fin 1024) (j : Fin 512) :
    k0_pay1 x0 x1 (ix2 i j) = ∑ k : Fin 8192, x0 (ix2 k i) * x1 (ix2 k j) := by
  pointwise [k0_pay1]

/-- The reference's gradient at an index. -/
theorem ref_apply (x0 : Vec Ideal S8192x1024 .bf16) (x1 : Vec Ideal S8192x10240 .bf16) (i : Fin 1024) (j : Fin 10240) :
    Cert.ProjWeightRefIdeal.Read.val_main_v5 (F := Ideal) x0 x1 (ix2 i j) = ∑ k : Fin 8192, x0 (ix2 k i) * x1 (ix2 k j) := by
  pointwise [Cert.ProjWeightRefIdeal.Read.val_main_v5, Cert.ProjWeightRefIdeal.Read.val_main_v4, Cert.ProjWeightRefIdeal.Read.val_main_v3, Cert.ProjWeightRefIdeal.Read.val_main_v1]
  exact Finset.sum_congr rfl fun k _ => mul_comm _ _

/-- A grid point's product is the reference's, at the point's place. -/
theorem tile (t : Fin cfg0.N) (i : Fin 1024) (j : Fin 512) :
    k0_pay1 (m ((c : Thread nD τ).loc main_arg0)) (iblk m c 1 t) (ix2 i j)
      = Cert.ProjWeightRefIdeal.Read.val_main_v5 (F := Ideal) (m ((c : Thread nD τ).loc main_arg0)) (m ((c : Thread nD τ).loc main_arg1)) (ix2 i ⟨512 * t.val + j.val, by have := lt_N t; omega⟩) := by
  rw [pay_apply, ref_apply]
  refine Finset.sum_congr rfl fun k _ => ?_
  rw [block1]

/-- The kernel's whole result is the reference's. -/
theorem result : (dats m 0 c).arrAt 2 cfg0.N
    = Cert.ProjWeightRefIdeal.Read.val_main_v5 (F := Ideal) (m ((c : Thread nD τ).loc main_arg0)) (m ((c : Thread nD τ).loc main_arg1)) := by
  refine (dats m 0 c).arrAt_eq_of_covers 2 _ (by decide +kernel) fun t _ y => ?_
  rw [after0_2, out_eq, block0]
  have hx : (cfg0.win 2).xinj (cfg0.grid.coords t) y = ix2 (n0 := 1024) (n1 := 512) ((cfg0.win 2).xinj (cfg0.grid.coords t) y 0) ((cfg0.win 2).xinj (cfg0.grid.coords t) y 1) := by
    funext a; fin_cases a <;> rfl
  refine (congrArg _ hx).trans ((tile m c t _ _).trans ?_)
  refine congrArg _ ?_
  blk_ext [ix_2 t]

/-- The kernel as it runs: it terminates without a fault, keeps its arguments, and leaves every counter at zero. -/
theorem frame_kernel : Cert.quiescent_ProjWeight := fun m ρ _ => Cert.ProjWeight.Gen.frame m ρ

/-- The kernel over exact values: the same. -/
theorem frame_ideal : Cert.quiescent_ProjWeightIdeal := fun m ρ _ => Cert.ProjWeightIdeal.Gen.frame m ρ

/-- The reference: the same, from its run; it has no counters. -/
theorem frame_reference : Cert.quiescent_ProjWeightRefIdeal := fun m ρ _ =>
  (θ_run Cert.ProjWeightRefIdeal.defs _ _).mono
    (fun r h => ⟨fun c => (h c).2, sem_eq_zero_of_no_sems (by decide) r.2⟩)
    (Cert.ProjWeightRefIdeal.Value.run (F := Ideal) m ρ)

/-- No operation was replaced between the kernel and its exact form. -/
theorem preserves : Cert.preserves_ProjWeight_ProjWeightIdeal := trivial

/-- Over exact values the kernel's gradient of the projection's weight is the reference's. -/
theorem algebraic : Cert.algebraic_ProjWeightIdeal_ProjWeightRefIdeal := by
  intro m ρ m' ρ' _ hagree
  refine ⟨fun c => Cert.ProjWeightRefIdeal.Read.val_main_v5 (F := Ideal) (m ((c.tc : Thread nD τ).loc main_arg0)) (m ((c.tc : Thread nD τ).loc main_arg1)), ?_, ?_⟩
  · refine (θ_run Cert.ProjWeightIdeal.defs _ _).mono (fun r h c => ?_) (Cert.ProjWeightIdeal.Value.run_blocks (F := Ideal) m ρ)
    obtain ⟨h0, hrest⟩ := h c
    exact ⟨h0.trans (result m c), hrest⟩
  · refine (θ_run Cert.ProjWeightRefIdeal.defs _ _).mono (fun r h c => ?_) (Cert.ProjWeightRefIdeal.Value.run (F := Ideal) m' ρ')
    obtain ⟨h0, hrest⟩ := h c
    obtain ⟨e0, e1⟩ := hagree c
    have l0 : m' ((c.tc : Thread Cert.ProjWeightRefIdeal.nD Cert.ProjWeightRefIdeal.τ).loc Cert.ProjWeightRefIdeal.main_arg0) = m ((c.tc : Thread nD τ).loc main_arg0) := e0
    have l1 : m' ((c.tc : Thread Cert.ProjWeightRefIdeal.nD Cert.ProjWeightRefIdeal.τ).loc Cert.ProjWeightRefIdeal.main_arg1) = m ((c.tc : Thread nD τ).loc main_arg1) := e1
    refine ⟨?_, hrest⟩
    refine (h0.trans (Cert.ProjWeightRefIdeal.Read.val_main_v5_eq _ _)).trans ?_
    rw [l0, l1]

end Cert.ProjWeightProof
end
-- ==== Proof.ProjInput.lean ====
/- The gradient of the projection's input: the kernel's blocks of rows, each one product over all of the projection's
   columns, are the reference's product. -/
module

public import proofs.«01_k».proof.Defs
public import proofs.«01_k».proof.Proof.Gen.ProjInput.Frame
public import proofs.«01_k».proof.Proof.Gen.ProjInputIdeal.Value
public import proofs.«01_k».proof.Proof.Gen.ProjInputRefIdeal.Run
public import proofs.«01_k».proof.Proof.Gen.ProjInputRefIdeal.Read
public import Idealize.ShloMosaic.Lib.Pipeline.ValueKit.Acc
public import Idealize.ShloMosaic.Lib.Pipeline.ValueKit.Partial
public import Idealize.ShloMosaic.Lib.Pointwise
public import Idealize.ShloMosaic.Lib.Tactic
public import Idealize.ShloMosaic.Adequacy
public import Idealize.ShloMosaic.Init

@[expose] public section

set_option maxRecDepth 16384
set_option maxHeartbeats 0

noncomputable section
open Idealize.ShloMosaic Idealize.ShloMosaic.TcCoe Idealize.SL.Sem
open Idealize.ShloMosaic.Pipeline (Dat)
namespace Cert.ProjInputProof
open Cert.ProjInputIdeal Cert.ProjInputIdeal.Gen

variable (m : (ℓ : Loc nD τ sig) → Buf (Elt Ideal) ℓ) (c : Dev nD)

theorem ix_0 : ∀ t : Fin cfg0.N, win0_0.index t = ![t.val, 0] := (by decide +kernel : ∀ t : Fin grid0.N, win0_0.index t = ![t.val, 0])
theorem ix_1 : ∀ t : Fin cfg0.N, win0_1.index t = ![0, 0] := (by decide +kernel : ∀ t : Fin grid0.N, win0_1.index t = ![0, 0])
theorem ix_2 : ∀ t : Fin cfg0.N, win0_2.index t = ![t.val, 0] := (by decide +kernel : ∀ t : Fin grid0.N, win0_2.index t = ![t.val, 0])
theorem lt_N (t : Fin cfg0.N) : t.val < 16 := lt_of_lt_of_eq t.isLt N_0

theorem hz : (![0, 0] : Fin 2 → Nat) = fun _ => 0 := by funext i; fin_cases i <;> rfl

theorem block0 (t : Fin cfg0.N) (i : Fin 512) (k : Fin 10240) :
    iblk m c 0 t (ix2 i k) = m ((c : Thread nD τ).loc main_arg0) (ix2 ⟨512 * t.val + i.val, by have := lt_N t; omega⟩ k) := by
  rw [← V_main_arg0 m c]; blk_simp [iblk]; refine congrArg _ ?_; blk_ext [ix_0 t]

theorem block1 (t : Fin cfg0.N) : iblk m c 1 t = m ((c : Thread nD τ).loc main_arg1) := by
  funext j; rw [← V_main_arg1 m c]; blk_simp [iblk]; refine congrArg _ ?_; blk_ext [ix_1 t]

/-- What a grid point leaves: the product of its block of rows with the weight. -/
theorem out_eq (x0 : Vec Ideal S512x10240 .bf16) (x1 : Vec Ideal S1024x10240 .bf16) : out0_2 x0 x1 = k0_pay1 x0 x1 := by
  unfold out0_2
  rw [View.canon_unit_zero hz]
  simp only [View.ld_unit_zero (S := S512x10240) hz, View.ld_unit_zero (S := S1024x10240) hz]

theorem pay_apply (x0 : Vec Ideal S512x10240 .bf16) (x1 : Vec Ideal S1024x10240 .bf16) (i : Fin 512) (j : Fin 1024) :
    k0_pay1 x0 x1 (ix2 i j) = ∑ k : Fin 10240, x0 (ix2 i k) * x1 (ix2 j k) := by
  pointwise [k0_pay1]

/-- The reference's gradient at an index. -/
theorem ref_apply (x0 : Vec Ideal S8192x10240 .bf16) (x1 : Vec Ideal S1024x10240 .bf16) (i : Fin 8192) (j : Fin 1024) :
    Cert.ProjInputRefIdeal.Read.val_main_v4 (F := Ideal) x0 x1 (ix2 i j) = ∑ k : Fin 10240, x0 (ix2 i k) * x1 (ix2 j k) := by
  pointwise [Cert.ProjInputRefIdeal.Read.val_main_v4, Cert.ProjInputRefIdeal.Read.val_main_v3, Cert.ProjInputRefIdeal.Read.val_main_v1]

/-- A grid point's product is the reference's, at the point's place. -/
theorem tile (t : Fin cfg0.N) (i : Fin 512) (j : Fin 1024) :
    k0_pay1 (iblk m c 0 t) (m ((c : Thread nD τ).loc main_arg1)) (ix2 i j)
      = Cert.ProjInputRefIdeal.Read.val_main_v4 (F := Ideal) (m ((c : Thread nD τ).loc main_arg0)) (m ((c : Thread nD τ).loc main_arg1)) (ix2 ⟨512 * t.val + i.val, by have := lt_N t; omega⟩ j) := by
  rw [pay_apply, ref_apply]
  refine Finset.sum_congr rfl fun k _ => ?_
  rw [block0]

/-- The kernel's whole result is the reference's. -/
theorem result : (dats m 0 c).arrAt 2 cfg0.N
    = Cert.ProjInputRefIdeal.Read.val_main_v4 (F := Ideal) (m ((c : Thread nD τ).loc main_arg0)) (m ((c : Thread nD τ).loc main_arg1)) := by
  refine (dats m 0 c).arrAt_eq_of_covers 2 _ (by decide +kernel) fun t _ y => ?_
  rw [after0_2, out_eq, block1]
  have hx : (cfg0.win 2).xinj (cfg0.grid.coords t) y = ix2 (n0 := 512) (n1 := 1024) ((cfg0.win 2).xinj (cfg0.grid.coords t) y 0) ((cfg0.win 2).xinj (cfg0.grid.coords t) y 1) := by
    funext a; fin_cases a <;> rfl
  refine (congrArg _ hx).trans ((tile m c t _ _).trans ?_)
  refine congrArg _ ?_
  blk_ext [ix_2 t]

/-- The kernel as it runs: it terminates without a fault, keeps its arguments, and leaves every counter at zero. -/
theorem frame_kernel : Cert.quiescent_ProjInput := fun m ρ _ => Cert.ProjInput.Gen.frame m ρ

/-- The kernel over exact values: the same. -/
theorem frame_ideal : Cert.quiescent_ProjInputIdeal := fun m ρ _ => Cert.ProjInputIdeal.Gen.frame m ρ

/-- The reference: the same, from its run; it has no counters. -/
theorem frame_reference : Cert.quiescent_ProjInputRefIdeal := fun m ρ _ =>
  (θ_run Cert.ProjInputRefIdeal.defs _ _).mono
    (fun r h => ⟨fun c => (h c).2, sem_eq_zero_of_no_sems (by decide) r.2⟩)
    (Cert.ProjInputRefIdeal.Value.run (F := Ideal) m ρ)

/-- No operation was replaced between the kernel and its exact form. -/
theorem preserves : Cert.preserves_ProjInput_ProjInputIdeal := trivial

/-- Over exact values the kernel's gradient of the projection's input is the reference's. -/
theorem algebraic : Cert.algebraic_ProjInputIdeal_ProjInputRefIdeal := by
  intro m ρ m' ρ' _ hagree
  refine ⟨fun c => Cert.ProjInputRefIdeal.Read.val_main_v4 (F := Ideal) (m ((c.tc : Thread nD τ).loc main_arg0)) (m ((c.tc : Thread nD τ).loc main_arg1)), ?_, ?_⟩
  · refine (θ_run Cert.ProjInputIdeal.defs _ _).mono (fun r h c => ?_) (Cert.ProjInputIdeal.Value.run_blocks (F := Ideal) m ρ)
    obtain ⟨h0, hrest⟩ := h c
    exact ⟨h0.trans (result m c), hrest⟩
  · refine (θ_run Cert.ProjInputRefIdeal.defs _ _).mono (fun r h c => ?_) (Cert.ProjInputRefIdeal.Value.run (F := Ideal) m' ρ')
    obtain ⟨h0, hrest⟩ := h c
    obtain ⟨e0, e1⟩ := hagree c
    have l0 : m' ((c.tc : Thread Cert.ProjInputRefIdeal.nD Cert.ProjInputRefIdeal.τ).loc Cert.ProjInputRefIdeal.main_arg0) = m ((c.tc : Thread nD τ).loc main_arg0) := e0
    have l1 : m' ((c.tc : Thread Cert.ProjInputRefIdeal.nD Cert.ProjInputRefIdeal.τ).loc Cert.ProjInputRefIdeal.main_arg1) = m ((c.tc : Thread nD τ).loc main_arg1) := e1
    refine ⟨?_, hrest⟩
    refine (h0.trans (Cert.ProjInputRefIdeal.Read.val_main_v4_eq _ _)).trans ?_
    rw [l0, l1]

end Cert.ProjInputProof
end
-- ==== Proof.Norm.lean ====
/- The backward pass of a root-mean-square norm over 1024 channels, for one token, over the extended reals. -/
module

public import Idealize.ShloMosaic.Lib.Pointwise

@[expose] public section

noncomputable section
open Idealize.ShloMosaic
namespace Cert.Norm

/-- One token's channels. -/
abbrev Row := Fin 1024 → EReal

/-- The mean of the squares, with the small constant added. -/
def meanSq (x : Row) : EReal := Ideal.div (∑ k, x k * x k) (Ideal.ofBits .f32 0x44800000#32) + Ideal.ofBits .f32 0x358637BD#32
/-- The inverse root. -/
def inv (x : Row) : EReal := Ideal.rsqrt (meanSq x)
/-- The derivative of the inverse root at the mean of the squares. -/
def slope (x : Row) : EReal := Ideal.ofBits .f32 0xBF000000#32 * Ideal.div (inv x) (meanSq x)
/-- What reaches each square by way of the inverse root, from the cotangent `q` of the normalised row. -/
def share (x q : Row) : EReal := Ideal.div ((∑ k, x k * q k) * slope x) (Ideal.ofBits .f32 0x44800000#32)
/-- The row's gradient: the residual path's cotangent `s` and the norm's, `d` with the scale `g`. -/
def grad (x g s d : Row) (j : Fin 1024) : EReal :=
  ((s j + (d j * g j) * inv x) + x j * share x (fun k => d k * g k)) + share x (fun k => d k * g k) * x j
/-- The token's share of the scale's gradient. -/
def scaleShare (x d : Row) (j : Fin 1024) : EReal := (x j * inv x) * d j

end Cert.Norm
end
-- ==== Proof.PreNorm.lean ====
/- The backward pass of the norm in front of the mixers: a grid point's block of rows is the reference's rows, and the scale's
   gradient, which the first point clears and every point adds to, is the reference's sum over the tokens. -/
module

public import proofs.«01_k».proof.Defs
public import proofs.«01_k».proof.Proof.Gen.PreNorm.Frame
public import proofs.«01_k».proof.Proof.Gen.PreNormIdeal.Value
public import proofs.«01_k».proof.Proof.Gen.PreNormRefIdeal.Run
public import proofs.«01_k».proof.Proof.Gen.PreNormRefIdeal.Read
public import proofs.«01_k».proof.Proof.Norm
public import proofs.«01_k».proof.Proof.Sums
public import Idealize.ShloMosaic.Lib.Pipeline.ValueKit.Acc
public import Idealize.ShloMosaic.Lib.Pipeline.ValueKit.Partial
public import Idealize.ShloMosaic.Lib.Pointwise
public import Idealize.ShloMosaic.Lib.Tactic
public import Idealize.ShloMosaic.Adequacy
public import Idealize.ShloMosaic.Init

@[expose] public section

set_option maxRecDepth 16384
set_option maxHeartbeats 0

noncomputable section
open Idealize.ShloMosaic Idealize.ShloMosaic.TcCoe Idealize.SL.Sem
open Idealize.ShloMosaic.Pipeline (Dat)
namespace Cert.PreNormProof
open Cert.PreNormIdeal Cert.PreNormIdeal.Gen
theorem hz : (![0, 0] : Fin 2 → Nat) = fun _ => 0 := by funext i; fin_cases i <;> rfl

section
variable {F : FTy → Type} [FloatOps F]

/-- The first point: the block of gradients. -/
theorem out_A_6 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1024x512 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (hc0 : cond0_0 i) (x0 : Vec F S1024x1024 .f32) (x1 : Vec F S1x1024 .f32) (x2 : Vec F S1024x1024 .f32) (x3 : Vec F S1024x512 .f32) (x4 : Vec F S1024x512 .bf16) (x5 : Vec F S1024x1024 .f32) :
    out0_A_6 c i arg1 harg1 arg2 harg2 arg3 harg3 arg4 harg4 arg5 harg5 arg6 harg6 arg7 harg7 arg8 harg8 hc0 x0 x1 x2 x3 x4 x5 = k0_pay1 x0 (k0_pay9 x0 x1 x2 x3 x4 x5) (k0_pay10 x0 x1 x3 x4 x5) := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4 x5)]
  unfold kernelRun0_A
  dsimp only
  rw [View.canon_unit_zero hz]
  sl_unfold_words
  simp only [View.readAt_eq_ld, harg1.read_unread, harg2.read_unread, harg3.read_unread, harg4.read_unread, harg5.read_unread, harg6.read_unread, harg7.read_unread, harg8.read_unread, View.ld_unit_zero (S := S1024x1024) hz, View.ld_unit_zero (S := S1024x512) hz, View.ld_unit_zero (S := S1x1024) hz]

/-- The first point: the scale's gradient. -/
theorem out_A_7 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1024x512 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (hc0 : cond0_0 i) (x0 : Vec F S1024x1024 .f32) (x1 : Vec F S1x1024 .f32) (x2 : Vec F S1024x1024 .f32) (x3 : Vec F S1024x512 .f32) (x4 : Vec F S1024x512 .bf16) (x5 : Vec F S1024x1024 .f32) :
    out0_A_7 c i arg1 harg1 arg2 harg2 arg3 harg3 arg4 harg4 arg5 harg5 arg6 harg6 arg7 harg7 arg8 harg8 hc0 x0 x1 x2 x3 x4 x5 = k0_pay3 (k0_pay7 x0 x3 x4 x5) k0_pay2 := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4 x5)]
  unfold kernelRun0_A
  dsimp only
  rw [View.canon_cons_unit_zero (S := S1x1024) hz]
  sl_unfold_words
  simp only [View.readAt_eq_ld, harg1.read_unread, harg2.read_unread, harg3.read_unread, harg4.read_unread, harg5.read_unread, harg6.read_unread, harg7.read_unread, harg8.read_unread, View.ld_unit_zero (S := S1024x1024) hz, View.ld_unit_zero (S := S1024x512) hz, View.ld_unit_zero (S := S1x1024) hz, View.readCov_unit_zero (S := S1x1024) _ hz]

/-- A later point: the block of gradients. -/
theorem out_B_6 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1024x512 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (hc0 : ¬cond0_0 i) (x0 : Vec F S1024x1024 .f32) (x1 : Vec F S1x1024 .f32) (x2 : Vec F S1024x1024 .f32) (x3 : Vec F S1024x512 .f32) (x4 : Vec F S1024x512 .bf16) (x5 : Vec F S1024x1024 .f32) (xo7 : Vec F S1x1024 .f32) :
    out0_B_6 c i arg1 harg1 arg2 harg2 arg3 harg3 arg4 harg4 arg5 harg5 arg6 harg6 arg7 harg7 arg8 harg8 hc0 x0 x1 x2 x3 x4 x5 xo7 = k0_pay1 x0 (k0_pay9 x0 x1 x2 x3 x4 x5) (k0_pay10 x0 x1 x3 x4 x5) := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 x5 xo7)]
  unfold kernelRun0_B
  dsimp only
  rw [View.canon_unit_zero hz]
  sl_unfold_words
  simp only [View.readAt_eq_ld, harg1.read_unread, harg2.read_unread, harg3.read_unread, harg4.read_unread, harg5.read_unread, harg6.read_unread, harg7.read_unread, harg8.read_unread, View.ld_unit_zero (S := S1024x1024) hz, View.ld_unit_zero (S := S1024x512) hz, View.ld_unit_zero (S := S1x1024) hz]

/-- A later point: the scale's gradient. -/
theorem out_B_7 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1024x512 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (hc0 : ¬cond0_0 i) (x0 : Vec F S1024x1024 .f32) (x1 : Vec F S1x1024 .f32) (x2 : Vec F S1024x1024 .f32) (x3 : Vec F S1024x512 .f32) (x4 : Vec F S1024x512 .bf16) (x5 : Vec F S1024x1024 .f32) (xo7 : Vec F S1x1024 .f32) :
    out0_B_7 c i arg1 harg1 arg2 harg2 arg3 harg3 arg4 harg4 arg5 harg5 arg6 harg6 arg7 harg7 arg8 harg8 hc0 x0 x1 x2 x3 x4 x5 xo7 = k0_pay3 (k0_pay7 x0 x3 x4 x5) xo7 := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 x4 x5 xo7)]
  unfold kernelRun0_B
  dsimp only
  rw [View.canon_unit_zero hz]
  sl_unfold_words
  simp only [View.readAt_eq_ld, harg1.read_unread, harg2.read_unread, harg3.read_unread, harg4.read_unread, harg5.read_unread, harg6.read_unread, harg7.read_unread, harg8.read_unread, View.ld_unit_zero (S := S1024x1024) hz, View.ld_unit_zero (S := S1024x512) hz, View.ld_unit_zero (S := S1x1024) hz]
end

/-- The block of gradients a grid point leaves, at an index. -/
theorem grad_apply (x0 : Vec Ideal S1024x1024 .f32) (x1 : Vec Ideal S1x1024 .f32) (x2 : Vec Ideal S1024x1024 .f32) (x3 : Vec Ideal S1024x512 .f32) (x4 : Vec Ideal S1024x512 .bf16) (x5 : Vec Ideal S1024x1024 .f32) (i : Fin 1024) (j : Fin 1024) :
    k0_pay1 x0 (k0_pay9 x0 x1 x2 x3 x4 x5) (k0_pay10 x0 x1 x3 x4 x5) (ix2 i j) = Norm.grad (fun k => x0 (ix2 i k)) (fun k => x1 (ix2 0 k)) (fun k => x2 (ix2 i k)) (fun k => (∑ l : Fin 512, x3 (ix2 i l) * x4 (ix2 k l)) + x5 (ix2 i k)) j := by
  pointwise [Norm.grad, Norm.share, Norm.slope, Norm.inv, Norm.meanSq, k0_pay1, k0_pay9, k0_pay10, k0_pay8, k0_pay6, k0_pay5, k0_pay4, Fin.sum_univ_one]

/-- A grid point's share of the scale's gradient, at an index. -/
theorem scale_apply (x0 : Vec Ideal S1024x1024 .f32) (x1 : Vec Ideal S1x1024 .f32) (x2 : Vec Ideal S1024x1024 .f32) (x3 : Vec Ideal S1024x512 .f32) (x4 : Vec Ideal S1024x512 .bf16) (x5 : Vec Ideal S1024x1024 .f32) (z : Fin 1) (j : Fin 1024) :
    k0_pay7 x0 x3 x4 x5 (ix2 z j) = ∑ i : Fin 1024, Norm.scaleShare (fun k => x0 (ix2 i k)) (fun k => (∑ l : Fin 512, x3 (ix2 i l) * x4 (ix2 k l)) + x5 (ix2 i k)) j := by
  pointwise [Norm.scaleShare, Norm.inv, Norm.meanSq, k0_pay7, k0_pay6, k0_pay5, k0_pay4]

/-- The reference's gradient at an index. -/
theorem ref_grad (x0 : Vec Ideal S8192x1024 .f32) (x1 : Vec Ideal S1x1024 .f32) (x2 : Vec Ideal S8192x1024 .f32) (x3 : Vec Ideal S8192x512 .f32) (x4 : Vec Ideal S1024x512 .bf16) (x5 : Vec Ideal S8192x1024 .f32) (i : Fin 8192) (j : Fin 1024) :
    Cert.PreNormRefIdeal.Read.val_main_v41 (F := Ideal) x0 x1 x2 x3 x4 x5 (ix2 i j) = Norm.grad (fun k => x0 (ix2 i k)) (fun k => x1 (ix2 0 k)) (fun k => x2 (ix2 i k)) (fun k => (∑ l : Fin 512, x3 (ix2 i l) * x4 (ix2 k l)) + x5 (ix2 i k)) j := by
  have h : (fun k => (∑ l : Fin 512, x3 (ix2 i l) * x4 (ix2 k l)) + x5 (ix2 i k)) = (fun k => x5 (ix2 i k) + ∑ l : Fin 512, x3 (ix2 i l) * x4 (ix2 k l)) := funext fun k => add_comm _ _
  rw [h]
  pointwise [Norm.grad, Norm.share, Norm.slope, Norm.inv, Norm.meanSq, Fin.sum_univ_one, Cert.PreNormRefIdeal.Read.val_main_v41, Cert.PreNormRefIdeal.Read.val_main_v40, Cert.PreNormRefIdeal.Read.val_main_v39, Cert.PreNormRefIdeal.Read.val_main_v38, Cert.PreNormRefIdeal.Read.val_main_v37, Cert.PreNormRefIdeal.Read.val_main_v36, Cert.PreNormRefIdeal.Read.val_main_v35, Cert.PreNormRefIdeal.Read.val_main_v34, Cert.PreNormRefIdeal.Read.val_main_v33, Cert.PreNormRefIdeal.Read.val_main_v32, Cert.PreNormRefIdeal.Read.val_main_v31, Cert.PreNormRefIdeal.Read.val_main_v30, Cert.PreNormRefIdeal.Read.val_main_v29, Cert.PreNormRefIdeal.Read.val_main_v28, Cert.PreNormRefIdeal.Read.val_main_v27, Cert.PreNormRefIdeal.Read.val_main_v25, Cert.PreNormRefIdeal.Read.val_main_v24, Cert.PreNormRefIdeal.Read.val_main_v20, Cert.PreNormRefIdeal.Read.val_main_v19, Cert.PreNormRefIdeal.Read.val_main_v16, Cert.PreNormRefIdeal.Read.val_main_v15, Cert.PreNormRefIdeal.Read.val_main_v14, Cert.PreNormRefIdeal.Read.val_main_v13, Cert.PreNormRefIdeal.Read.val_main_v12, Cert.PreNormRefIdeal.Read.val_main_v11, Cert.PreNormRefIdeal.Read.val_main_v10, Cert.PreNormRefIdeal.Read.val_main_v9, Cert.PreNormRefIdeal.Read.val_main_v8, Cert.PreNormRefIdeal.Read.val_main_v7, Cert.PreNormRefIdeal.Read.val_main_v6, Cert.PreNormRefIdeal.Read.val_main_v5, Cert.PreNormRefIdeal.Read.val_main_v4, Cert.PreNormRefIdeal.Read.val_main_v3, Cert.PreNormRefIdeal.Read.val_main_v2, Cert.PreNormRefIdeal.Read.val_main_v1, Cert.PreNormRefIdeal.Read.val_main_v0, Cert.PreNormRefIdeal.Read.val_main_cst, Cert.PreNormRefIdeal.Read.val_main_cst_0, Cert.PreNormRefIdeal.Read.val_main_cst_1, Cert.PreNormRefIdeal.Read.val_main_cst_2, Cert.PreNormRefIdeal.Read.val_main_cst_3, Cert.PreNormRefIdeal.Read.val_main_cst_4, Cert.PreNormRefIdeal.Read.val_main_cst_5, Cert.PreNormRefIdeal.Read.val_main_cst_6, Cert.PreNormRefIdeal.Read.val_main_cst_7]

/-- The reference's gradient of the scale at an index. -/
theorem ref_scale (x0 : Vec Ideal S8192x1024 .f32) (x1 : Vec Ideal S1x1024 .f32) (x2 : Vec Ideal S8192x1024 .f32) (x3 : Vec Ideal S8192x512 .f32) (x4 : Vec Ideal S1024x512 .bf16) (x5 : Vec Ideal S8192x1024 .f32) (z : Fin 1) (j : Fin 1024) :
    Cert.PreNormRefIdeal.Read.val_main_v42 (F := Ideal) x0 x3 x4 x5 (ix2 z j) = ∑ i : Fin 8192, Norm.scaleShare (fun k => x0 (ix2 i k)) (fun k => (∑ l : Fin 512, x3 (ix2 i l) * x4 (ix2 k l)) + x5 (ix2 i k)) j := by
  have h : ∀ i : Fin 8192, (fun k => (∑ l : Fin 512, x3 (ix2 i l) * x4 (ix2 k l)) + x5 (ix2 i k)) = (fun k => x5 (ix2 i k) + ∑ l : Fin 512, x3 (ix2 i l) * x4 (ix2 k l)) := fun i => funext fun k => add_comm _ _
  simp only [h]
  pointwise [Norm.scaleShare, Norm.inv, Norm.meanSq, Fin.sum_univ_one, Cert.PreNormRefIdeal.Read.val_main_v42, Cert.PreNormRefIdeal.Read.val_main_v26, Cert.PreNormRefIdeal.Read.val_main_v23, Cert.PreNormRefIdeal.Read.val_main_v22, Cert.PreNormRefIdeal.Read.val_main_v21, Cert.PreNormRefIdeal.Read.val_main_v20, Cert.PreNormRefIdeal.Read.val_main_v19, Cert.PreNormRefIdeal.Read.val_main_v14, Cert.PreNormRefIdeal.Read.val_main_v13, Cert.PreNormRefIdeal.Read.val_main_v9, Cert.PreNormRefIdeal.Read.val_main_v8, Cert.PreNormRefIdeal.Read.val_main_v7, Cert.PreNormRefIdeal.Read.val_main_v6, Cert.PreNormRefIdeal.Read.val_main_v5, Cert.PreNormRefIdeal.Read.val_main_v4, Cert.PreNormRefIdeal.Read.val_main_v3, Cert.PreNormRefIdeal.Read.val_main_v2, Cert.PreNormRefIdeal.Read.val_main_v0, Cert.PreNormRefIdeal.Read.val_main_cst, Cert.PreNormRefIdeal.Read.val_main_cst_0, Cert.PreNormRefIdeal.Read.val_main_cst_1, Cert.PreNormRefIdeal.Read.val_main_cst_3, Cert.PreNormRefIdeal.Read.val_main_cst_4]

variable (m : (ℓ : Loc nD τ sig) → Buf (Elt Ideal) ℓ) (c : Dev nD)

theorem ix_0 : ∀ t : Fin cfg0.N, win0_0.index t = ![t.val, 0] := (by decide +kernel : ∀ t : Fin grid0.N, win0_0.index t = ![t.val, 0])
theorem ix_1 : ∀ t : Fin cfg0.N, win0_1.index t = ![0, 0] := (by decide +kernel : ∀ t : Fin grid0.N, win0_1.index t = ![0, 0])
theorem ix_2 : ∀ t : Fin cfg0.N, win0_2.index t = ![t.val, 0] := (by decide +kernel : ∀ t : Fin grid0.N, win0_2.index t = ![t.val, 0])
theorem ix_3 : ∀ t : Fin cfg0.N, win0_3.index t = ![t.val, 0] := (by decide +kernel : ∀ t : Fin grid0.N, win0_3.index t = ![t.val, 0])
theorem ix_4 : ∀ t : Fin cfg0.N, win0_4.index t = ![0, 0] := (by decide +kernel : ∀ t : Fin grid0.N, win0_4.index t = ![0, 0])
theorem ix_5 : ∀ t : Fin cfg0.N, win0_5.index t = ![t.val, 0] := (by decide +kernel : ∀ t : Fin grid0.N, win0_5.index t = ![t.val, 0])
theorem ix_6 : ∀ t : Fin cfg0.N, win0_6.index t = ![t.val, 0] := (by decide +kernel : ∀ t : Fin grid0.N, win0_6.index t = ![t.val, 0])
theorem ix_7 : ∀ t : Fin cfg0.N, win0_7.index t = ![0, 0] := (by decide +kernel : ∀ t : Fin grid0.N, win0_7.index t = ![0, 0])
theorem lt_N (t : Fin cfg0.N) : t.val < 8 := lt_of_lt_of_eq t.isLt N_0

theorem block0 (t : Fin cfg0.N) (i : Fin 1024) (k : Fin 1024) :
    iblk m c 0 t (ix2 i k) = m ((c : Thread nD τ).loc main_arg0) (ix2 ⟨1024 * t.val + i.val, by have := lt_N t; omega⟩ k) := by
  rw [← V_main_arg0 m c]; blk_simp [iblk]; refine congrArg _ ?_; blk_ext [ix_0 t]

theorem block1 (t : Fin cfg0.N) : iblk m c 1 t = m ((c : Thread nD τ).loc main_arg1) := by
  funext j; rw [← V_main_arg1 m c]; blk_simp [iblk]; refine congrArg _ ?_; blk_ext [ix_1 t]

theorem block2 (t : Fin cfg0.N) (i : Fin 1024) (k : Fin 1024) :
    iblk m c 2 t (ix2 i k) = m ((c : Thread nD τ).loc main_arg2) (ix2 ⟨1024 * t.val + i.val, by have := lt_N t; omega⟩ k) := by
  rw [← V_main_arg2 m c]; blk_simp [iblk]; refine congrArg _ ?_; blk_ext [ix_2 t]

theorem block3 (t : Fin cfg0.N) (i : Fin 1024) (k : Fin 512) :
    iblk m c 3 t (ix2 i k) = m ((c : Thread nD τ).loc main_arg3) (ix2 ⟨1024 * t.val + i.val, by have := lt_N t; omega⟩ k) := by
  rw [← V_main_arg3 m c]; blk_simp [iblk]; refine congrArg _ ?_; blk_ext [ix_3 t]

theorem block4 (t : Fin cfg0.N) : iblk m c 4 t = m ((c : Thread nD τ).loc main_arg4) := by
  funext j; rw [← V_main_arg4 m c]; blk_simp [iblk]; refine congrArg _ ?_; blk_ext [ix_4 t]

theorem block5 (t : Fin cfg0.N) (i : Fin 1024) (k : Fin 1024) :
    iblk m c 5 t (ix2 i k) = m ((c : Thread nD τ).loc main_arg5) (ix2 ⟨1024 * t.val + i.val, by have := lt_N t; omega⟩ k) := by
  rw [← V_main_arg5 m c]; blk_simp [iblk]; refine congrArg _ ?_; blk_ext [ix_5 t]

/-- A grid point's block of gradients is the reference's, at the point's rows. -/
theorem tile_grad (t : Fin cfg0.N) (i : Fin 1024) (j : Fin 1024) :
    k0_pay1 (iblk m c 0 t) (k0_pay9 (iblk m c 0 t) (m ((c : Thread nD τ).loc main_arg1)) (iblk m c 2 t) (iblk m c 3 t) (m ((c : Thread nD τ).loc main_arg4)) (iblk m c 5 t)) (k0_pay10 (iblk m c 0 t) (m ((c : Thread nD τ).loc main_arg1)) (iblk m c 3 t) (m ((c : Thread nD τ).loc main_arg4)) (iblk m c 5 t)) (ix2 i j)
      = Cert.PreNormRefIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨1024 * t.val + i.val, by have := lt_N t; omega⟩ j) := by
  rw [grad_apply, ref_grad]
  simp only [block0, block2, block3, block5]

/-- What a grid point leaves in the window of gradients. -/
theorem after_grad (t : Fin cfg0.N) : (outsAt0 m c t.val t.isLt).1 = k0_pay1 (iblk m c 0 t) (k0_pay9 (iblk m c 0 t) (m ((c : Thread nD τ).loc main_arg1)) (iblk m c 2 t) (iblk m c 3 t) (m ((c : Thread nD τ).loc main_arg4)) (iblk m c 5 t)) (k0_pay10 (iblk m c 0 t) (m ((c : Thread nD τ).loc main_arg1)) (iblk m c 3 t) (m ((c : Thread nD τ).loc main_arg4)) (iblk m c 5 t)) := by
  by_cases h : t.val % 8 = 0
  · rw [outsAt0_A m c t h]; dsimp only; rw [out_A_6, block1, block4]
  · rw [outsAt0_B m c t h]; dsimp only; rw [out_B_6, block1, block4]

/-- The kernel's gradients are the reference's. -/
theorem result_grad : (dats m 0 c).arrAt 6 cfg0.N
    = Cert.PreNormRefIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  rw [after0_6, after_grad]
  have hx : (cfg0.win 6).xinj (cfg0.grid.coords t) y = ix2 (n0 := 1024) (n1 := 1024) ((cfg0.win 6).xinj (cfg0.grid.coords t) y 0) ((cfg0.win 6).xinj (cfg0.grid.coords t) y 1) := by
    funext a; fin_cases a <;> rfl
  refine (congrArg _ hx).trans ((tile_grad m c t _ _).trans ?_)
  refine congrArg _ ?_
  blk_ext [ix_6 t]

/-- The kernel's gradient of the scale, summed over the grid points, is the reference's. -/
theorem result_scale : (dats m 0 c).arrAt 7 cfg0.N
    = Cert.PreNormRefIdeal.Read.val_main_v42 (F := Ideal) (m ((c : Thread nD τ).loc main_arg0)) (m ((c : Thread nD τ).loc main_arg3)) (m ((c : Thread nD τ).loc main_arg4)) (m ((c : Thread nD τ).loc main_arg5)) := by
  refine (dats m 0 c).arrAt_eq_of_after_last 7 t0_7 (by decide +kernel) _ fun j => ?_
  rw [after0_7]
  have key := Pipeline.eq_sum_fin_of_reset_step_apply_last (fun n h => (outsAt0 m c n h).2) 8 (fun _ => 0)
    (fun t => k0_pay7 (iblk m c 0 t) (iblk m c 3 t) (m ((c : Thread nD τ).loc main_arg4)) (iblk m c 5 t))
    (fun t h i => by
      rw [outsAt0_A m c t h]; dsimp only; rw [out_A_7, block4]
      pointwise [k0_pay3, k0_pay2])
    (fun t h i => by
      rw [outsAt0_B m c t h]; dsimp only; rw [out_B_7, block4]
      pointwise [k0_pay3])
    (le_of_eq N_0) t0_7 rfl
  obtain ⟨z, k, rfl⟩ : ∃ (z : Fin 1) (k : Fin 1024), j = ix2 (n0 := 1) (n1 := 1024) z k :=
    ⟨j 0, j 1, by funext a; fin_cases a <;> rfl⟩
  refine (key (ix2 z k)).trans ?_
  rw [zero_add]
  refine Eq.trans ?_ (ref_scale (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _ _).symm
  refine Eq.trans (Finset.sum_congr rfl fun t _ => scale_apply (iblk m c 0 t) (m ((c : Thread nD τ).loc main_arg1)) (iblk m c 2 t) (iblk m c 3 t) (m ((c : Thread nD τ).loc main_arg4)) (iblk m c 5 t) _ _) ?_
  refine Fin.sum_mul_add_congr (fun p i hl => ?_)
  have := lt_N p
  have e : (⟨p.val * 1024 + i.val, hl⟩ : Fin 8192) = ⟨1024 * p.val + i.val, by omega⟩ := Fin.ext (by dsimp only; omega)
  rw [e]
  simp only [block0, block2, block3, block5]

/-- The kernel as it runs: it terminates without a fault, keeps its arguments, and leaves every counter at zero. -/
theorem frame_kernel : Cert.quiescent_PreNorm := fun m ρ _ => Cert.PreNorm.Gen.frame m ρ

/-- The kernel over exact values: the same. -/
theorem frame_ideal : Cert.quiescent_PreNormIdeal := fun m ρ _ => Cert.PreNormIdeal.Gen.frame m ρ

/-- The reference: the same, from its run; it has no counters. -/
theorem frame_reference : Cert.quiescent_PreNormRefIdeal := fun m ρ _ =>
  (θ_run Cert.PreNormRefIdeal.defs _ _).mono
    (fun r h => ⟨fun c => (h c).2.2, sem_eq_zero_of_no_sems (by decide) r.2⟩)
    (Cert.PreNormRefIdeal.Value.run (F := Ideal) m ρ)

/-- No operation was replaced between the kernel and its exact form. -/
theorem preserves : Cert.preserves_PreNorm_PreNormIdeal := trivial

/-- Over exact values the kernel's gradient of the step's input and its gradient of the norm's scale are the reference's. -/
theorem algebraic : Cert.algebraic_PreNormIdeal_PreNormRefIdeal := by
  intro m ρ m' ρ' _ hagree
  refine ⟨fun c => Cert.PreNormRefIdeal.Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)), fun c => Cert.PreNormRefIdeal.Read.val_main_v42 (F := Ideal) (m ((c.tc : Thread nD τ).loc main_arg0)) (m ((c.tc : Thread nD τ).loc main_arg3)) (m ((c.tc : Thread nD τ).loc main_arg4)) (m ((c.tc : Thread nD τ).loc main_arg5)), ?_, ?_⟩
  · refine (θ_run Cert.PreNormIdeal.defs _ _).mono (fun r h c => ?_) (Cert.PreNormIdeal.Value.run_blocks (F := Ideal) m ρ)
    obtain ⟨h0, h1, hrest⟩ := h c
    exact ⟨h0.trans (result_grad m c), h1.trans (result_scale m c), hrest⟩
  · refine (θ_run Cert.PreNormRefIdeal.defs _ _).mono (fun r h c => ?_) (Cert.PreNormRefIdeal.Value.run (F := Ideal) m' ρ')
    obtain ⟨h0, h1, hrest⟩ := h c
    obtain ⟨e0, e1, e2, e3, e4, e5⟩ := hagree c
    have l0 : m' ((c.tc : Thread Cert.PreNormRefIdeal.nD Cert.PreNormRefIdeal.τ).loc Cert.PreNormRefIdeal.main_arg0) = m ((c.tc : Thread nD τ).loc main_arg0) := e0
    have l1 : m' ((c.tc : Thread Cert.PreNormRefIdeal.nD Cert.PreNormRefIdeal.τ).loc Cert.PreNormRefIdeal.main_arg1) = m ((c.tc : Thread nD τ).loc main_arg1) := e1
    have l2 : m' ((c.tc : Thread Cert.PreNormRefIdeal.nD Cert.PreNormRefIdeal.τ).loc Cert.PreNormRefIdeal.main_arg2) = m ((c.tc : Thread nD τ).loc main_arg2) := e2
    have l3 : m' ((c.tc : Thread Cert.PreNormRefIdeal.nD Cert.PreNormRefIdeal.τ).loc Cert.PreNormRefIdeal.main_arg3) = m ((c.tc : Thread nD τ).loc main_arg3) := e3
    have l4 : m' ((c.tc : Thread Cert.PreNormRefIdeal.nD Cert.PreNormRefIdeal.τ).loc Cert.PreNormRefIdeal.main_arg4) = m ((c.tc : Thread nD τ).loc main_arg4) := e4
    have l5 : m' ((c.tc : Thread Cert.PreNormRefIdeal.nD Cert.PreNormRefIdeal.τ).loc Cert.PreNormRefIdeal.main_arg5) = m ((c.tc : Thread nD τ).loc main_arg5) := e5
    refine ⟨?_, ?_, hrest⟩
    · refine (h0.trans (Cert.PreNormRefIdeal.Read.val_main_v41_eq m' c)).trans ?_
      rw [l0, l1, l2, l3, l4, l5]
    · refine (h1.trans (Cert.PreNormRefIdeal.Read.val_main_v42_eq _ _ _ _)).trans ?_
      rw [l0, l3, l4, l5]

end Cert.PreNormProof
end
-- ==== Proof.PleNorm.lean ====
/- The backward pass of the norm in front of the per-layer embedding's gate, in the same way. -/
module

public import proofs.«01_k».proof.Defs
public import proofs.«01_k».proof.Proof.Gen.PleNorm.Frame
public import proofs.«01_k».proof.Proof.Gen.PleNormIdeal.Value
public import proofs.«01_k».proof.Proof.Gen.PleNormRefIdeal.Run
public import proofs.«01_k».proof.Proof.Gen.PleNormRefIdeal.Read
public import proofs.«01_k».proof.Proof.Norm
public import proofs.«01_k».proof.Proof.Sums
public import Idealize.ShloMosaic.Lib.Pipeline.ValueKit.Acc
public import Idealize.ShloMosaic.Lib.Pipeline.ValueKit.Partial
public import Idealize.ShloMosaic.Lib.Pointwise
public import Idealize.ShloMosaic.Lib.Tactic
public import Idealize.ShloMosaic.Adequacy
public import Idealize.ShloMosaic.Init

@[expose] public section

set_option maxRecDepth 16384
set_option maxHeartbeats 0

noncomputable section
open Idealize.ShloMosaic Idealize.ShloMosaic.TcCoe Idealize.SL.Sem
open Idealize.ShloMosaic.Pipeline (Dat)
namespace Cert.PleNormProof
open Cert.PleNormIdeal Cert.PleNormIdeal.Gen
theorem hz : (![0, 0] : Fin 2 → Nat) = fun _ => 0 := by funext i; fin_cases i <;> rfl

section
variable {F : FTy → Type} [FloatOps F]

/-- The first point: the block of gradients. -/
theorem out_A_5 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1x1024 .f32) (harg7 : arg7.IsWhole) (hc0 : cond0_0 i) (x0 : Vec F S1024x1024 .f32) (x1 : Vec F S1x1024 .f32) (x2 : Vec F S1024x1024 .f32) (x3 : Vec F S1024x1024 .bf16) (x4 : Vec F S1024x1024 .bf16) :
    out0_A_5 c i arg1 harg1 arg2 harg2 arg3 harg3 arg4 harg4 arg5 harg5 arg6 harg6 arg7 harg7 hc0 x0 x1 x2 x3 x4 = k0_pay7 x0 x1 x2 x3 x4 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  rw [View.canon_unit_zero hz]
  sl_unfold_words
  simp only [View.readAt_eq_ld, harg1.read_unread, harg2.read_unread, harg3.read_unread, harg4.read_unread, harg5.read_unread, harg6.read_unread, harg7.read_unread, View.ld_unit_zero (S := S1024x1024) hz, View.ld_unit_zero (S := S1x1024) hz]

/-- The first point: the scale's gradient. -/
theorem out_A_6 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1x1024 .f32) (harg7 : arg7.IsWhole) (hc0 : cond0_0 i) (x0 : Vec F S1024x1024 .f32) (x1 : Vec F S1x1024 .f32) (x2 : Vec F S1024x1024 .f32) (x3 : Vec F S1024x1024 .bf16) (x4 : Vec F S1024x1024 .bf16) :
    out0_A_6 c i arg1 harg1 arg2 harg2 arg3 harg3 arg4 harg4 arg5 harg5 arg6 harg6 arg7 harg7 hc0 x0 x1 x2 x3 x4 = k0_pay2 (k0_pay6 x0 x3 x4) k0_pay1 := by
  unfold out0_A_6
  rw [View.read_writes_eq_canon _ _ _ (cover0_A_6 c i arg1 harg1 arg2 harg2 arg3 harg3 arg4 harg4 arg5 harg5 arg6 harg6 arg7 harg7 hc0 x0 x1 x2 x3 x4)]
  unfold kernelRun0_A
  dsimp only
  rw [View.canon_cons_unit_zero (S := S1x1024) hz]
  sl_unfold_words
  simp only [View.readAt_eq_ld, harg1.read_unread, harg2.read_unread, harg3.read_unread, harg4.read_unread, harg5.read_unread, harg6.read_unread, harg7.read_unread, View.ld_unit_zero (S := S1024x1024) hz, View.ld_unit_zero (S := S1x1024) hz, View.readCov_unit_zero (S := S1x1024) _ hz]

/-- A later point: the block of gradients. -/
theorem out_B_5 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1x1024 .f32) (harg7 : arg7.IsWhole) (hc0 : ¬cond0_0 i) (x0 : Vec F S1024x1024 .f32) (x1 : Vec F S1x1024 .f32) (x2 : Vec F S1024x1024 .f32) (x3 : Vec F S1024x1024 .bf16) (x4 : Vec F S1024x1024 .bf16) (xo6 : Vec F S1x1024 .f32) :
    out0_B_5 c i arg1 harg1 arg2 harg2 arg3 harg3 arg4 harg4 arg5 harg5 arg6 harg6 arg7 harg7 hc0 x0 x1 x2 x3 x4 xo6 = k0_pay7 x0 x1 x2 x3 x4 := by
  unfold out0_B_5
  rw [View.read_writes_eq_canon _ _ _ (cover0_B_5 c i arg1 harg1 arg2 harg2 arg3 harg3 arg4 harg4 arg5 harg5 arg6 harg6 arg7 harg7 hc0 x0 x1 x2 x3 x4 xo6)]
  unfold kernelRun0_B
  dsimp only
  rw [View.canon_unit_zero hz]
  sl_unfold_words
  simp only [View.readAt_eq_ld, harg1.read_unread, harg2.read_unread, harg3.read_unread, harg4.read_unread, harg5.read_unread, harg6.read_unread, harg7.read_unread, View.ld_unit_zero (S := S1024x1024) hz, View.ld_unit_zero (S := S1x1024) hz]

/-- A later point: the scale's gradient. -/
theorem out_B_6 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1x1024 .f32) (harg7 : arg7.IsWhole) (hc0 : ¬cond0_0 i) (x0 : Vec F S1024x1024 .f32) (x1 : Vec F S1x1024 .f32) (x2 : Vec F S1024x1024 .f32) (x3 : Vec F S1024x1024 .bf16) (x4 : Vec F S1024x1024 .bf16) (xo6 : Vec F S1x1024 .f32) :
    out0_B_6 c i arg1 harg1 arg2 harg2 arg3 harg3 arg4 harg4 arg5 harg5 arg6 harg6 arg7 harg7 hc0 x0 x1 x2 x3 x4 xo6 = k0_pay2 (k0_pay6 x0 x3 x4) xo6 := by
  unfold out0_B_6
  rw [View.read_writes_eq_canon _ _ _ (cover0_B_6 c i arg1 harg1 arg2 harg2 arg3 harg3 arg4 harg4 arg5 harg5 arg6 harg6 arg7 harg7 hc0 x0 x1 x2 x3 x4 xo6)]
  unfold kernelRun0_B
  dsimp only
  rw [View.canon_unit_zero hz]
  sl_unfold_words
  simp only [View.readAt_eq_ld, harg1.read_unread, harg2.read_unread, harg3.read_unread, harg4.read_unread, harg5.read_unread, harg6.read_unread, harg7.read_unread, View.ld_unit_zero (S := S1024x1024) hz, View.ld_unit_zero (S := S1x1024) hz]
end

/-- The block of gradients a grid point leaves, at an index. -/
theorem grad_apply (x0 : Vec Ideal S1024x1024 .f32) (x1 : Vec Ideal S1x1024 .f32) (x2 : Vec Ideal S1024x1024 .f32) (x3 : Vec Ideal S1024x1024 .bf16) (x4 : Vec Ideal S1024x1024 .bf16) (i : Fin 1024) (j : Fin 1024) :
    k0_pay7 x0 x1 x2 x3 x4 (ix2 i j) = Norm.grad (fun k => x0 (ix2 i k)) (fun k => x1 (ix2 0 k)) (fun k => x2 (ix2 i k)) (fun k => ∑ l : Fin 1024, x3 (ix2 i l) * x4 (ix2 k l)) j := by
  pointwise [Norm.grad, Norm.share, Norm.slope, Norm.inv, Norm.meanSq, k0_pay7, k0_pay5, k0_pay4, k0_pay3, Fin.sum_univ_one]

/-- A grid point's share of the scale's gradient, at an index. -/
theorem scale_apply (x0 : Vec Ideal S1024x1024 .f32) (x1 : Vec Ideal S1x1024 .f32) (x2 : Vec Ideal S1024x1024 .f32) (x3 : Vec Ideal S1024x1024 .bf16) (x4 : Vec Ideal S1024x1024 .bf16) (z : Fin 1) (j : Fin 1024) :
    k0_pay6 x0 x3 x4 (ix2 z j) = ∑ i : Fin 1024, Norm.scaleShare (fun k => x0 (ix2 i k)) (fun k => ∑ l : Fin 1024, x3 (ix2 i l) * x4 (ix2 k l)) j := by
  pointwise [Norm.scaleShare, Norm.inv, Norm.meanSq, k0_pay6, k0_pay5, k0_pay4, k0_pay3]

/-- The reference's gradient at an index. -/
theorem ref_grad (x0 : Vec Ideal S8192x1024 .f32) (x1 : Vec Ideal S1x1024 .f32) (x2 : Vec Ideal S8192x1024 .f32) (x3 : Vec Ideal S8192x1024 .bf16) (x4 : Vec Ideal S1024x1024 .bf16) (i : Fin 8192) (j : Fin 1024) :
    Cert.PleNormRefIdeal.Read.val_main_v41 (F := Ideal) x0 x1 x2 x3 x4 (ix2 i j) = Norm.grad (fun k => x0 (ix2 i k)) (fun k => x1 (ix2 0 k)) (fun k => x2 (ix2 i k)) (fun k => ∑ l : Fin 1024, x3 (ix2 i l) * x4 (ix2 k l)) j := by
  pointwise [Norm.grad, Norm.share, Norm.slope, Norm.inv, Norm.meanSq, Fin.sum_univ_one, Cert.PleNormRefIdeal.Read.val_main_v41, Cert.PleNormRefIdeal.Read.val_main_v40, Cert.PleNormRefIdeal.Read.val_main_v39, Cert.PleNormRefIdeal.Read.val_main_v38, Cert.PleNormRefIdeal.Read.val_main_v37, Cert.PleNormRefIdeal.Read.val_main_v36, Cert.PleNormRefIdeal.Read.val_main_v35, Cert.PleNormRefIdeal.Read.val_main_v34, Cert.PleNormRefIdeal.Read.val_main_v33, Cert.PleNormRefIdeal.Read.val_main_v32, Cert.PleNormRefIdeal.Read.val_main_v31, Cert.PleNormRefIdeal.Read.val_main_v30, Cert.PleNormRefIdeal.Read.val_main_v29, Cert.PleNormRefIdeal.Read.val_main_v28, Cert.PleNormRefIdeal.Read.val_main_v27, Cert.PleNormRefIdeal.Read.val_main_v25, Cert.PleNormRefIdeal.Read.val_main_v24, Cert.PleNormRefIdeal.Read.val_main_v20, Cert.PleNormRefIdeal.Read.val_main_v19, Cert.PleNormRefIdeal.Read.val_main_v16, Cert.PleNormRefIdeal.Read.val_main_v15, Cert.PleNormRefIdeal.Read.val_main_v14, Cert.PleNormRefIdeal.Read.val_main_v13, Cert.PleNormRefIdeal.Read.val_main_v12, Cert.PleNormRefIdeal.Read.val_main_v11, Cert.PleNormRefIdeal.Read.val_main_v10, Cert.PleNormRefIdeal.Read.val_main_v9, Cert.PleNormRefIdeal.Read.val_main_v8, Cert.PleNormRefIdeal.Read.val_main_v7, Cert.PleNormRefIdeal.Read.val_main_v6, Cert.PleNormRefIdeal.Read.val_main_v5, Cert.PleNormRefIdeal.Read.val_main_v4, Cert.PleNormRefIdeal.Read.val_main_v3, Cert.PleNormRefIdeal.Read.val_main_v2, Cert.PleNormRefIdeal.Read.val_main_v1, Cert.PleNormRefIdeal.Read.val_main_v0, Cert.PleNormRefIdeal.Read.val_main_cst, Cert.PleNormRefIdeal.Read.val_main_cst_0, Cert.PleNormRefIdeal.Read.val_main_cst_1, Cert.PleNormRefIdeal.Read.val_main_cst_2, Cert.PleNormRefIdeal.Read.val_main_cst_3, Cert.PleNormRefIdeal.Read.val_main_cst_4, Cert.PleNormRefIdeal.Read.val_main_cst_5, Cert.PleNormRefIdeal.Read.val_main_cst_6, Cert.PleNormRefIdeal.Read.val_main_cst_7]

/-- The reference's gradient of the scale at an index. -/
theorem ref_scale (x0 : Vec Ideal S8192x1024 .f32) (x1 : Vec Ideal S1x1024 .f32) (x2 : Vec Ideal S8192x1024 .f32) (x3 : Vec Ideal S8192x1024 .bf16) (x4 : Vec Ideal S1024x1024 .bf16) (z : Fin 1) (j : Fin 1024) :
    Cert.PleNormRefIdeal.Read.val_main_v42 (F := Ideal) x0 x3 x4 (ix2 z j) = ∑ i : Fin 8192, Norm.scaleShare (fun k => x0 (ix2 i k)) (fun k => ∑ l : Fin 1024, x3 (ix2 i l) * x4 (ix2 k l)) j := by
  pointwise [Norm.scaleShare, Norm.inv, Norm.meanSq, Fin.sum_univ_one, Cert.PleNormRefIdeal.Read.val_main_v42, Cert.PleNormRefIdeal.Read.val_main_v26, Cert.PleNormRefIdeal.Read.val_main_v23, Cert.PleNormRefIdeal.Read.val_main_v22, Cert.PleNormRefIdeal.Read.val_main_v21, Cert.PleNormRefIdeal.Read.val_main_v20, Cert.PleNormRefIdeal.Read.val_main_v19, Cert.PleNormRefIdeal.Read.val_main_v14, Cert.PleNormRefIdeal.Read.val_main_v13, Cert.PleNormRefIdeal.Read.val_main_v9, Cert.PleNormRefIdeal.Read.val_main_v8, Cert.PleNormRefIdeal.Read.val_main_v7, Cert.PleNormRefIdeal.Read.val_main_v6, Cert.PleNormRefIdeal.Read.val_main_v5, Cert.PleNormRefIdeal.Read.val_main_v4, Cert.PleNormRefIdeal.Read.val_main_v3, Cert.PleNormRefIdeal.Read.val_main_v2, Cert.PleNormRefIdeal.Read.val_main_v0, Cert.PleNormRefIdeal.Read.val_main_cst, Cert.PleNormRefIdeal.Read.val_main_cst_0, Cert.PleNormRefIdeal.Read.val_main_cst_1, Cert.PleNormRefIdeal.Read.val_main_cst_3, Cert.PleNormRefIdeal.Read.val_main_cst_4]

variable (m : (ℓ : Loc nD τ sig) → Buf (Elt Ideal) ℓ) (c : Dev nD)

theorem ix_0 : ∀ t : Fin cfg0.N, win0_0.index t = ![t.val, 0] := (by decide +kernel : ∀ t : Fin grid0.N, win0_0.index t = ![t.val, 0])
theorem ix_1 : ∀ t : Fin cfg0.N, win0_1.index t = ![0, 0] := (by decide +kernel : ∀ t : Fin grid0.N, win0_1.index t = ![0, 0])
theorem ix_2 : ∀ t : Fin cfg0.N, win0_2.index t = ![t.val, 0] := (by decide +kernel : ∀ t : Fin grid0.N, win0_2.index t = ![t.val, 0])
theorem ix_3 : ∀ t : Fin cfg0.N, win0_3.index t = ![t.val, 0] := (by decide +kernel : ∀ t : Fin grid0.N, win0_3.index t = ![t.val, 0])
theorem ix_4 : ∀ t : Fin cfg0.N, win0_4.index t = ![0, 0] := (by decide +kernel : ∀ t : Fin grid0.N, win0_4.index t = ![0, 0])
theorem ix_5 : ∀ t : Fin cfg0.N, win0_5.index t = ![t.val, 0] := (by decide +kernel : ∀ t : Fin grid0.N, win0_5.index t = ![t.val, 0])
theorem ix_6 : ∀ t : Fin cfg0.N, win0_6.index t = ![0, 0] := (by decide +kernel : ∀ t : Fin grid0.N, win0_6.index t = ![0, 0])
theorem lt_N (t : Fin cfg0.N) : t.val < 8 := lt_of_lt_of_eq t.isLt N_0

theorem block0 (t : Fin cfg0.N) (i : Fin 1024) (k : Fin 1024) :
    iblk m c 0 t (ix2 i k) = m ((c : Thread nD τ).loc main_arg0) (ix2 ⟨1024 * t.val + i.val, by have := lt_N t; omega⟩ k) := by
  rw [← V_main_arg0 m c]; blk_simp [iblk]; refine congrArg _ ?_; blk_ext [ix_0 t]

theorem block1 (t : Fin cfg0.N) : iblk m c 1 t = m ((c : Thread nD τ).loc main_arg1) := by
  funext j; rw [← V_main_arg1 m c]; blk_simp [iblk]; refine congrArg _ ?_; blk_ext [ix_1 t]

theorem block2 (t : Fin cfg0.N) (i : Fin 1024) (k : Fin 1024) :
    iblk m c 2 t (ix2 i k) = m ((c : Thread nD τ).loc main_arg2) (ix2 ⟨1024 * t.val + i.val, by have := lt_N t; omega⟩ k) := by
  rw [← V_main_arg2 m c]; blk_simp [iblk]; refine congrArg _ ?_; blk_ext [ix_2 t]

theorem block3 (t : Fin cfg0.N) (i : Fin 1024) (k : Fin 1024) :
    iblk m c 3 t (ix2 i k) = m ((c : Thread nD τ).loc main_arg3) (ix2 ⟨1024 * t.val + i.val, by have := lt_N t; omega⟩ k) := by
  rw [← V_main_arg3 m c]; blk_simp [iblk]; refine congrArg _ ?_; blk_ext [ix_3 t]

theorem block4 (t : Fin cfg0.N) : iblk m c 4 t = m ((c : Thread nD τ).loc main_arg4) := by
  funext j; rw [← V_main_arg4 m c]; blk_simp [iblk]; refine congrArg _ ?_; blk_ext [ix_4 t]

/-- A grid point's block of gradients is the reference's, at the point's rows. -/
theorem tile_grad (t : Fin cfg0.N) (i : Fin 1024) (j : Fin 1024) :
    k0_pay7 (iblk m c 0 t) (m ((c : Thread nD τ).loc main_arg1)) (iblk m c 2 t) (iblk m c 3 t) (m ((c : Thread nD τ).loc main_arg4)) (ix2 i j)
      = Cert.PleNormRefIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨1024 * t.val + i.val, by have := lt_N t; omega⟩ j) := by
  rw [grad_apply, ref_grad]
  simp only [block0, block2, block3]

/-- What a grid point leaves in the window of gradients. -/
theorem after_grad (t : Fin cfg0.N) : (outsAt0 m c t.val t.isLt).1 = k0_pay7 (iblk m c 0 t) (m ((c : Thread nD τ).loc main_arg1)) (iblk m c 2 t) (iblk m c 3 t) (m ((c : Thread nD τ).loc main_arg4)) := by
  by_cases h : t.val % 8 = 0
  · rw [outsAt0_A m c t h]; dsimp only; rw [out_A_5, block1, block4]
  · rw [outsAt0_B m c t h]; dsimp only; rw [out_B_5, block1, block4]

/-- The kernel's gradients are the reference's. -/
theorem result_grad : (dats m 0 c).arrAt 5 cfg0.N
    = Cert.PleNormRefIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  rw [after0_5, after_grad]
  have hx : (cfg0.win 5).xinj (cfg0.grid.coords t) y = ix2 (n0 := 1024) (n1 := 1024) ((cfg0.win 5).xinj (cfg0.grid.coords t) y 0) ((cfg0.win 5).xinj (cfg0.grid.coords t) y 1) := by
    funext a; fin_cases a <;> rfl
  refine (congrArg _ hx).trans ((tile_grad m c t _ _).trans ?_)
  refine congrArg _ ?_
  blk_ext [ix_5 t]

/-- The kernel's gradient of the scale, summed over the grid points, is the reference's. -/
theorem result_scale : (dats m 0 c).arrAt 6 cfg0.N
    = Cert.PleNormRefIdeal.Read.val_main_v42 (F := Ideal) (m ((c : Thread nD τ).loc main_arg0)) (m ((c : Thread nD τ).loc main_arg3)) (m ((c : Thread nD τ).loc main_arg4)) := by
  refine (dats m 0 c).arrAt_eq_of_after_last 6 t0_7 (by decide +kernel) _ fun j => ?_
  rw [after0_6]
  have key := Pipeline.eq_sum_fin_of_reset_step_apply_last (fun n h => (outsAt0 m c n h).2) 8 (fun _ => 0)
    (fun t => k0_pay6 (iblk m c 0 t) (iblk m c 3 t) (m ((c : Thread nD τ).loc main_arg4)))
    (fun t h i => by
      rw [outsAt0_A m c t h]; dsimp only; rw [out_A_6, block4]
      pointwise [k0_pay2, k0_pay1])
    (fun t h i => by
      rw [outsAt0_B m c t h]; dsimp only; rw [out_B_6, block4]
      pointwise [k0_pay2])
    (le_of_eq N_0) t0_7 rfl
  obtain ⟨z, k, rfl⟩ : ∃ (z : Fin 1) (k : Fin 1024), j = ix2 (n0 := 1) (n1 := 1024) z k :=
    ⟨j 0, j 1, by funext a; fin_cases a <;> rfl⟩
  refine (key (ix2 z k)).trans ?_
  rw [zero_add]
  refine Eq.trans ?_ (ref_scale (m ((c : Thread nD τ).loc main_arg0)) (m ((c : Thread nD τ).loc main_arg1)) (m ((c : Thread nD τ).loc main_arg2)) (m ((c : Thread nD τ).loc main_arg3)) (m ((c : Thread nD τ).loc main_arg4)) _ _).symm
  refine Eq.trans (Finset.sum_congr rfl fun t _ => scale_apply (iblk m c 0 t) (m ((c : Thread nD τ).loc main_arg1)) (iblk m c 2 t) (iblk m c 3 t) (m ((c : Thread nD τ).loc main_arg4)) _ _) ?_
  refine Fin.sum_mul_add_congr (fun p i hl => ?_)
  have := lt_N p
  have e : (⟨p.val * 1024 + i.val, hl⟩ : Fin 8192) = ⟨1024 * p.val + i.val, by omega⟩ := Fin.ext (by dsimp only; omega)
  rw [e]
  simp only [block0, block2, block3]

/-- The kernel as it runs: it terminates without a fault, keeps its arguments, and leaves every counter at zero. -/
theorem frame_kernel : Cert.quiescent_PleNorm := fun m ρ _ => Cert.PleNorm.Gen.frame m ρ

/-- The kernel over exact values: the same. -/
theorem frame_ideal : Cert.quiescent_PleNormIdeal := fun m ρ _ => Cert.PleNormIdeal.Gen.frame m ρ

/-- The reference: the same, from its run; it has no counters. -/
theorem frame_reference : Cert.quiescent_PleNormRefIdeal := fun m ρ _ =>
  (θ_run Cert.PleNormRefIdeal.defs _ _).mono
    (fun r h => ⟨fun c => (h c).2.2, sem_eq_zero_of_no_sems (by decide) r.2⟩)
    (Cert.PleNormRefIdeal.Value.run (F := Ideal) m ρ)

/-- No operation was replaced between the kernel and its exact form. -/
theorem preserves : Cert.preserves_PleNorm_PleNormIdeal := trivial

/-- Over exact values the kernel's gradient of the norm's input and its gradient of the norm's scale are the reference's. -/
theorem algebraic : Cert.algebraic_PleNormIdeal_PleNormRefIdeal := by
  intro m ρ m' ρ' _ hagree
  refine ⟨fun c => Cert.PleNormRefIdeal.Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => Cert.PleNormRefIdeal.Read.val_main_v42 (F := Ideal) (m ((c.tc : Thread nD τ).loc main_arg0)) (m ((c.tc : Thread nD τ).loc main_arg3)) (m ((c.tc : Thread nD τ).loc main_arg4)), ?_, ?_⟩
  · refine (θ_run Cert.PleNormIdeal.defs _ _).mono (fun r h c => ?_) (Cert.PleNormIdeal.Value.run_blocks (F := Ideal) m ρ)
    obtain ⟨h0, h1, hrest⟩ := h c
    exact ⟨h0.trans (result_grad m c), h1.trans (result_scale m c), hrest⟩
  · refine (θ_run Cert.PleNormRefIdeal.defs _ _).mono (fun r h c => ?_) (Cert.PleNormRefIdeal.Value.run (F := Ideal) m' ρ')
    obtain ⟨h0, h1, hrest⟩ := h c
    obtain ⟨e0, e1, e2, e3, e4⟩ := hagree c
    have l0 : m' ((c.tc : Thread Cert.PleNormRefIdeal.nD Cert.PleNormRefIdeal.τ).loc Cert.PleNormRefIdeal.main_arg0) = m ((c.tc : Thread nD τ).loc main_arg0) := e0
    have l1 : m' ((c.tc : Thread Cert.PleNormRefIdeal.nD Cert.PleNormRefIdeal.τ).loc Cert.PleNormRefIdeal.main_arg1) = m ((c.tc : Thread nD τ).loc main_arg1) := e1
    have l2 : m' ((c.tc : Thread Cert.PleNormRefIdeal.nD Cert.PleNormRefIdeal.τ).loc Cert.PleNormRefIdeal.main_arg2) = m ((c.tc : Thread nD τ).loc main_arg2) := e2
    have l3 : m' ((c.tc : Thread Cert.PleNormRefIdeal.nD Cert.PleNormRefIdeal.τ).loc Cert.PleNormRefIdeal.main_arg3) = m ((c.tc : Thread nD τ).loc main_arg3) := e3
    have l4 : m' ((c.tc : Thread Cert.PleNormRefIdeal.nD Cert.PleNormRefIdeal.τ).loc Cert.PleNormRefIdeal.main_arg4) = m ((c.tc : Thread nD τ).loc main_arg4) := e4
    refine ⟨?_, ?_, hrest⟩
    · refine (h0.trans (Cert.PleNormRefIdeal.Read.val_main_v41_eq m' c)).trans ?_
      rw [l0, l1, l2, l3, l4]
    · refine (h1.trans (Cert.PleNormRefIdeal.Read.val_main_v42_eq _ _ _)).trans ?_
      rw [l0, l3, l4]

end Cert.PleNormProof
end
-- ==== Proof.GateWeight.lean ====
/- The gradient of the per-layer embedding's gate weight: the kernel's blocks of columns, each one product over the whole sequence, are the
   reference's product. -/
module

public import proofs.«01_k».proof.Defs
public import proofs.«01_k».proof.Proof.Gen.GateWeight.Frame
public import proofs.«01_k».proof.Proof.Gen.GateWeightIdeal.Value
public import proofs.«01_k».proof.Proof.Gen.GateWeightRefIdeal.Run
public import proofs.«01_k».proof.Proof.Gen.GateWeightRefIdeal.Read
public import Idealize.ShloMosaic.Lib.Pipeline.ValueKit.Acc
public import Idealize.ShloMosaic.Lib.Pipeline.ValueKit.Partial
public import Idealize.ShloMosaic.Lib.Pointwise
public import Idealize.ShloMosaic.Lib.Tactic
public import Idealize.ShloMosaic.Adequacy
public import Idealize.ShloMosaic.Init

@[expose] public section

set_option maxRecDepth 16384
set_option maxHeartbeats 0

noncomputable section
open Idealize.ShloMosaic Idealize.ShloMosaic.TcCoe Idealize.SL.Sem
open Idealize.ShloMosaic.Pipeline (Dat)
namespace Cert.GateWeightProof
open Cert.GateWeightIdeal Cert.GateWeightIdeal.Gen

variable (m : (ℓ : Loc nD τ sig) → Buf (Elt Ideal) ℓ) (c : Dev nD)

theorem ix_0 : ∀ t : Fin cfg0.N, win0_0.index t = ![0, 0] := (by decide +kernel : ∀ t : Fin grid0.N, win0_0.index t = ![0, 0])
theorem ix_1 : ∀ t : Fin cfg0.N, win0_1.index t = ![0, t.val] := (by decide +kernel : ∀ t : Fin grid0.N, win0_1.index t = ![0, t.val])
theorem ix_2 : ∀ t : Fin cfg0.N, win0_2.index t = ![0, t.val] := (by decide +kernel : ∀ t : Fin grid0.N, win0_2.index t = ![0, t.val])
theorem lt_N (t : Fin cfg0.N) : t.val < 2 := lt_of_lt_of_eq t.isLt N_0

theorem hz : (![0, 0] : Fin 2 → Nat) = fun _ => 0 := by funext i; fin_cases i <;> rfl

theorem block0 (t : Fin cfg0.N) : iblk m c 0 t = m ((c : Thread nD τ).loc main_arg0) := by
  funext j; rw [← V_main_arg0 m c]; blk_simp [iblk]; refine congrArg _ ?_; blk_ext [ix_0 t]

theorem block1 (t : Fin cfg0.N) (k : Fin 8192) (j : Fin 512) :
    iblk m c 1 t (ix2 k j) = m ((c : Thread nD τ).loc main_arg1) (ix2 k ⟨512 * t.val + j.val, by have := lt_N t; omega⟩) := by
  rw [← V_main_arg1 m c]; blk_simp [iblk]; refine congrArg _ ?_; blk_ext [ix_1 t]

/-- What a grid point leaves: the product of the two blocks over the whole sequence. -/
theorem out_eq (x0 : Vec Ideal S8192x1024 .bf16) (x1 : Vec Ideal S8192x512 .bf16) : out0_2 x0 x1 = k0_pay1 x0 x1 := by
  unfold out0_2
  rw [View.canon_unit_zero hz]
  simp only [View.ld_unit_zero (S := S8192x1024) hz, View.ld_unit_zero (S := S8192x512) hz]

theorem pay_apply (x0 : Vec Ideal S8192x1024 .bf16) (x1 : Vec Ideal S8192x512 .bf16) (i : Fin 1024) (j : Fin 512) :
    k0_pay1 x0 x1 (ix2 i j) = ∑ k : Fin 8192, x0 (ix2 k i) * x1 (ix2 k j) := by
  pointwise [k0_pay1]

/-- The reference's gradient at an index. -/
theorem ref_apply (x0 : Vec Ideal S8192x1024 .bf16) (x1 : Vec Ideal S8192x1024 .bf16) (i : Fin 1024) (j : Fin 1024) :
    Cert.GateWeightRefIdeal.Read.val_main_v5 (F := Ideal) x0 x1 (ix2 i j) = ∑ k : Fin 8192, x0 (ix2 k i) * x1 (ix2 k j) := by
  pointwise [Cert.GateWeightRefIdeal.Read.val_main_v5, Cert.GateWeightRefIdeal.Read.val_main_v4, Cert.GateWeightRefIdeal.Read.val_main_v3, Cert.GateWeightRefIdeal.Read.val_main_v1]
  exact Finset.sum_congr rfl fun k _ => mul_comm _ _

/-- A grid point's product is the reference's, at the point's place. -/
theorem tile (t : Fin cfg0.N) (i : Fin 1024) (j : Fin 512) :
    k0_pay1 (m ((c : Thread nD τ).loc main_arg0)) (iblk m c 1 t) (ix2 i j)
      = Cert.GateWeightRefIdeal.Read.val_main_v5 (F := Ideal) (m ((c : Thread nD τ).loc main_arg0)) (m ((c : Thread nD τ).loc main_arg1)) (ix2 i ⟨512 * t.val + j.val, by have := lt_N t; omega⟩) := by
  rw [pay_apply, ref_apply]
  refine Finset.sum_congr rfl fun k _ => ?_
  rw [block1]

/-- The kernel's whole result is the reference's. -/
theorem result : (dats m 0 c).arrAt 2 cfg0.N
    = Cert.GateWeightRefIdeal.Read.val_main_v5 (F := Ideal) (m ((c : Thread nD τ).loc main_arg0)) (m ((c : Thread nD τ).loc main_arg1)) := by
  refine (dats m 0 c).arrAt_eq_of_covers 2 _ (by decide +kernel) fun t _ y => ?_
  rw [after0_2, out_eq, block0]
  have hx : (cfg0.win 2).xinj (cfg0.grid.coords t) y = ix2 (n0 := 1024) (n1 := 512) ((cfg0.win 2).xinj (cfg0.grid.coords t) y 0) ((cfg0.win 2).xinj (cfg0.grid.coords t) y 1) := by
    funext a; fin_cases a <;> rfl
  refine (congrArg _ hx).trans ((tile m c t _ _).trans ?_)
  refine congrArg _ ?_
  blk_ext [ix_2 t]

/-- The kernel as it runs: it terminates without a fault, keeps its arguments, and leaves every counter at zero. -/
theorem frame_kernel : Cert.quiescent_GateWeight := fun m ρ _ => Cert.GateWeight.Gen.frame m ρ

/-- The kernel over exact values: the same. -/
theorem frame_ideal : Cert.quiescent_GateWeightIdeal := fun m ρ _ => Cert.GateWeightIdeal.Gen.frame m ρ

/-- The reference: the same, from its run; it has no counters. -/
theorem frame_reference : Cert.quiescent_GateWeightRefIdeal := fun m ρ _ =>
  (θ_run Cert.GateWeightRefIdeal.defs _ _).mono
    (fun r h => ⟨fun c => (h c).2, sem_eq_zero_of_no_sems (by decide) r.2⟩)
    (Cert.GateWeightRefIdeal.Value.run (F := Ideal) m ρ)

/-- No operation was replaced between the kernel and its exact form. -/
theorem preserves : Cert.preserves_GateWeight_GateWeightIdeal := trivial

/-- Over exact values the kernel's gradient of the per-layer embedding's gate weight is the reference's. -/
theorem algebraic : Cert.algebraic_GateWeightIdeal_GateWeightRefIdeal := by
  intro m ρ m' ρ' _ hagree
  refine ⟨fun c => Cert.GateWeightRefIdeal.Read.val_main_v5 (F := Ideal) (m ((c.tc : Thread nD τ).loc main_arg0)) (m ((c.tc : Thread nD τ).loc main_arg1)), ?_, ?_⟩
  · refine (θ_run Cert.GateWeightIdeal.defs _ _).mono (fun r h c => ?_) (Cert.GateWeightIdeal.Value.run_blocks (F := Ideal) m ρ)
    obtain ⟨h0, hrest⟩ := h c
    exact ⟨h0.trans (result m c), hrest⟩
  · refine (θ_run Cert.GateWeightRefIdeal.defs _ _).mono (fun r h c => ?_) (Cert.GateWeightRefIdeal.Value.run (F := Ideal) m' ρ')
    obtain ⟨h0, hrest⟩ := h c
    obtain ⟨e0, e1⟩ := hagree c
    have l0 : m' ((c.tc : Thread Cert.GateWeightRefIdeal.nD Cert.GateWeightRefIdeal.τ).loc Cert.GateWeightRefIdeal.main_arg0) = m ((c.tc : Thread nD τ).loc main_arg0) := e0
    have l1 : m' ((c.tc : Thread Cert.GateWeightRefIdeal.nD Cert.GateWeightRefIdeal.τ).loc Cert.GateWeightRefIdeal.main_arg1) = m ((c.tc : Thread nD τ).loc main_arg1) := e1
    refine ⟨?_, hrest⟩
    refine (h0.trans (Cert.GateWeightRefIdeal.Read.val_main_v5_eq _ _)).trans ?_
    rw [l0, l1]

end Cert.GateWeightProof
end
-- ==== Proof.OutAWeight.lean ====
/- The gradient of the gated-mixing branch's output weight: the kernel's blocks of columns, each one product over the whole sequence, are the
   reference's product. -/
module

public import proofs.«01_k».proof.Defs
public import proofs.«01_k».proof.Proof.Gen.OutAWeight.Frame
public import proofs.«01_k».proof.Proof.Gen.OutAWeightIdeal.Value
public import proofs.«01_k».proof.Proof.Gen.OutAWeightRefIdeal.Run
public import proofs.«01_k».proof.Proof.Gen.OutAWeightRefIdeal.Read
public import Idealize.ShloMosaic.Lib.Pipeline.ValueKit.Acc
public import Idealize.ShloMosaic.Lib.Pipeline.ValueKit.Partial
public import Idealize.ShloMosaic.Lib.Pointwise
public import Idealize.ShloMosaic.Lib.Tactic
public import Idealize.ShloMosaic.Adequacy
public import Idealize.ShloMosaic.Init

@[expose] public section

set_option maxRecDepth 16384
set_option maxHeartbeats 0

noncomputable section
open Idealize.ShloMosaic Idealize.ShloMosaic.TcCoe Idealize.SL.Sem
open Idealize.ShloMosaic.Pipeline (Dat)
namespace Cert.OutAWeightProof
open Cert.OutAWeightIdeal Cert.OutAWeightIdeal.Gen

variable (m : (ℓ : Loc nD τ sig) → Buf (Elt Ideal) ℓ) (c : Dev nD)

theorem ix_0 : ∀ t : Fin cfg0.N, win0_0.index t = ![0, 0] := (by decide +kernel : ∀ t : Fin grid0.N, win0_0.index t = ![0, 0])
theorem ix_1 : ∀ t : Fin cfg0.N, win0_1.index t = ![0, t.val] := (by decide +kernel : ∀ t : Fin grid0.N, win0_1.index t = ![0, t.val])
theorem ix_2 : ∀ t : Fin cfg0.N, win0_2.index t = ![0, t.val] := (by decide +kernel : ∀ t : Fin grid0.N, win0_2.index t = ![0, t.val])
theorem lt_N (t : Fin cfg0.N) : t.val < 2 := lt_of_lt_of_eq t.isLt N_0

theorem hz : (![0, 0] : Fin 2 → Nat) = fun _ => 0 := by funext i; fin_cases i <;> rfl

theorem block0 (t : Fin cfg0.N) : iblk m c 0 t = m ((c : Thread nD τ).loc main_arg0) := by
  funext j; rw [← V_main_arg0 m c]; blk_simp [iblk]; refine congrArg _ ?_; blk_ext [ix_0 t]

theorem block1 (t : Fin cfg0.N) (k : Fin 8192) (j : Fin 512) :
    iblk m c 1 t (ix2 k j) = m ((c : Thread nD τ).loc main_arg1) (ix2 k ⟨512 * t.val + j.val, by have := lt_N t; omega⟩) := by
  rw [← V_main_arg1 m c]; blk_simp [iblk]; refine congrArg _ ?_; blk_ext [ix_1 t]

/-- What a grid point leaves: the product of the two blocks over the whole sequence. -/
theorem out_eq (x0 : Vec Ideal S8192x1024 .bf16) (x1 : Vec Ideal S8192x512 .bf16) : out0_2 x0 x1 = k0_pay1 x0 x1 := by
  unfold out0_2
  rw [View.canon_unit_zero hz]
  simp only [View.ld_unit_zero (S := S8192x1024) hz, View.ld_unit_zero (S := S8192x512) hz]

theorem pay_apply (x0 : Vec Ideal S8192x1024 .bf16) (x1 : Vec Ideal S8192x512 .bf16) (i : Fin 1024) (j : Fin 512) :
    k0_pay1 x0 x1 (ix2 i j) = ∑ k : Fin 8192, x0 (ix2 k i) * x1 (ix2 k j) := by
  pointwise [k0_pay1]

/-- The reference's gradient at an index. -/
theorem ref_apply (x0 : Vec Ideal S8192x1024 .bf16) (x1 : Vec Ideal S8192x1024 .bf16) (i : Fin 1024) (j : Fin 1024) :
    Cert.OutAWeightRefIdeal.Read.val_main_v5 (F := Ideal) x0 x1 (ix2 i j) = ∑ k : Fin 8192, x0 (ix2 k i) * x1 (ix2 k j) := by
  pointwise [Cert.OutAWeightRefIdeal.Read.val_main_v5, Cert.OutAWeightRefIdeal.Read.val_main_v4, Cert.OutAWeightRefIdeal.Read.val_main_v3, Cert.OutAWeightRefIdeal.Read.val_main_v1]
  exact Finset.sum_congr rfl fun k _ => mul_comm _ _

/-- A grid point's product is the reference's, at the point's place. -/
theorem tile (t : Fin cfg0.N) (i : Fin 1024) (j : Fin 512) :
    k0_pay1 (m ((c : Thread nD τ).loc main_arg0)) (iblk m c 1 t) (ix2 i j)
      = Cert.OutAWeightRefIdeal.Read.val_main_v5 (F := Ideal) (m ((c : Thread nD τ).loc main_arg0)) (m ((c : Thread nD τ).loc main_arg1)) (ix2 i ⟨512 * t.val + j.val, by have := lt_N t; omega⟩) := by
  rw [pay_apply, ref_apply]
  refine Finset.sum_congr rfl fun k _ => ?_
  rw [block1]

/-- The kernel's whole result is the reference's. -/
theorem result : (dats m 0 c).arrAt 2 cfg0.N
    = Cert.OutAWeightRefIdeal.Read.val_main_v5 (F := Ideal) (m ((c : Thread nD τ).loc main_arg0)) (m ((c : Thread nD τ).loc main_arg1)) := by
  refine (dats m 0 c).arrAt_eq_of_covers 2 _ (by decide +kernel) fun t _ y => ?_
  rw [after0_2, out_eq, block0]
  have hx : (cfg0.win 2).xinj (cfg0.grid.coords t) y = ix2 (n0 := 1024) (n1 := 512) ((cfg0.win 2).xinj (cfg0.grid.coords t) y 0) ((cfg0.win 2).xinj (cfg0.grid.coords t) y 1) := by
    funext a; fin_cases a <;> rfl
  refine (congrArg _ hx).trans ((tile m c t _ _).trans ?_)
  refine congrArg _ ?_
  blk_ext [ix_2 t]

/-- The kernel as it runs: it terminates without a fault, keeps its arguments, and leaves every counter at zero. -/
theorem frame_kernel : Cert.quiescent_OutAWeight := fun m ρ _ => Cert.OutAWeight.Gen.frame m ρ

/-- The kernel over exact values: the same. -/
theorem frame_ideal : Cert.quiescent_OutAWeightIdeal := fun m ρ _ => Cert.OutAWeightIdeal.Gen.frame m ρ

/-- The reference: the same, from its run; it has no counters. -/
theorem frame_reference : Cert.quiescent_OutAWeightRefIdeal := fun m ρ _ =>
  (θ_run Cert.OutAWeightRefIdeal.defs _ _).mono
    (fun r h => ⟨fun c => (h c).2, sem_eq_zero_of_no_sems (by decide) r.2⟩)
    (Cert.OutAWeightRefIdeal.Value.run (F := Ideal) m ρ)

/-- No operation was replaced between the kernel and its exact form. -/
theorem preserves : Cert.preserves_OutAWeight_OutAWeightIdeal := trivial

/-- Over exact values the kernel's gradient of the gated-mixing branch's output weight is the reference's. -/
theorem algebraic : Cert.algebraic_OutAWeightIdeal_OutAWeightRefIdeal := by
  intro m ρ m' ρ' _ hagree
  refine ⟨fun c => Cert.OutAWeightRefIdeal.Read.val_main_v5 (F := Ideal) (m ((c.tc : Thread nD τ).loc main_arg0)) (m ((c.tc : Thread nD τ).loc main_arg1)), ?_, ?_⟩
  · refine (θ_run Cert.OutAWeightIdeal.defs _ _).mono (fun r h c => ?_) (Cert.OutAWeightIdeal.Value.run_blocks (F := Ideal) m ρ)
    obtain ⟨h0, hrest⟩ := h c
    exact ⟨h0.trans (result m c), hrest⟩
  · refine (θ_run Cert.OutAWeightRefIdeal.defs _ _).mono (fun r h c => ?_) (Cert.OutAWeightRefIdeal.Value.run (F := Ideal) m' ρ')
    obtain ⟨h0, hrest⟩ := h c
    obtain ⟨e0, e1⟩ := hagree c
    have l0 : m' ((c.tc : Thread Cert.OutAWeightRefIdeal.nD Cert.OutAWeightRefIdeal.τ).loc Cert.OutAWeightRefIdeal.main_arg0) = m ((c.tc : Thread nD τ).loc main_arg0) := e0
    have l1 : m' ((c.tc : Thread Cert.OutAWeightRefIdeal.nD Cert.OutAWeightRefIdeal.τ).loc Cert.OutAWeightRefIdeal.main_arg1) = m ((c.tc : Thread nD τ).loc main_arg1) := e1
    refine ⟨?_, hrest⟩
    refine (h0.trans (Cert.OutAWeightRefIdeal.Read.val_main_v5_eq _ _)).trans ?_
    rw [l0, l1]

end Cert.OutAWeightProof
end
-- ==== Proof.OutBWeight.lean ====
/- The gradient of the scan branch's output weight: the products of the blocks along the sequence, added up in an accumulator that lives across the
   grid points, are the reference's product. -/
module

public import proofs.«01_k».proof.Defs
public import proofs.«01_k».proof.Proof.Gen.OutBWeight.Frame
public import proofs.«01_k».proof.Proof.Gen.OutBWeightIdeal.Value
public import proofs.«01_k».proof.Proof.Gen.OutBWeightRefIdeal.Run
public import proofs.«01_k».proof.Proof.Gen.OutBWeightRefIdeal.Read
public import Idealize.ShloMosaic.Lib.Pipeline.ValueKit.Acc
public import Idealize.ShloMosaic.Lib.Pipeline.ValueKit.Partial
public import Idealize.ShloMosaic.Lib.Pointwise
public import Idealize.ShloMosaic.Lib.Tactic
public import Idealize.ShloMosaic.Adequacy
public import Idealize.ShloMosaic.Init

@[expose] public section

set_option maxRecDepth 16384
set_option maxHeartbeats 0

noncomputable section
open Idealize.ShloMosaic Idealize.ShloMosaic.TcCoe Idealize.SL.Sem
open Idealize.ShloMosaic.Pipeline (Dat)
namespace Cert.OutBWeightProof
open Cert.OutBWeightIdeal Cert.OutBWeightIdeal.Gen
theorem hz : (![0, 0] : Fin 2 → Nat) = fun _ => 0 := by funext i; fin_cases i <;> rfl

section
variable {F : FTy → Type} [FloatOps F]

/-- The first step along the sequence: the accumulator is the block's product. -/
theorem sout_A_0 (c : Dev nD) (i : grid0.Coords) (arg3 : Memref sig .tc .vmem S4096x1024 .bf16) (harg3 : arg3.IsWhole) (arg4 : Memref sig .tc .vmem S4096x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i) (hc2 : ¬cond0_2 i) (x0 : Vec F S4096x1024 .bf16) (x1 : Vec F S4096x1024 .bf16) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz]
  sl_unfold_words
  simp only [View.readAt_eq_ld, harg3.read_unread, harg4.read_unread, harg5.read_unread, harg6.read_unread, View.ld_unit_zero (S := S4096x1024) hz]

/-- The last step: the accumulator, with its product added, is the result. -/
theorem out_B_2 (c : Dev nD) (i : grid0.Coords) (arg3 : Memref sig .tc .vmem S4096x1024 .bf16) (harg3 : arg3.IsWhole) (arg4 : Memref sig .tc .vmem S4096x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i) (hc2 : cond0_2 i) (x0 : Vec F S4096x1024 .bf16) (x1 : Vec F S4096x1024 .bf16) (xs0 : Vec F S1024x1024 .f32) :
    out0_B_2 c i arg3 harg3 arg4 harg4 arg5 harg5 arg6 harg6 hc0 hc1 hc2 x0 x1 xs0 = k0_pay3 x0 x1 xs0 := by
  unfold out0_B_2
  rw [View.read_writes_eq_canon _ _ _ (cover0_B_2 c i arg3 harg3 arg4 harg4 arg5 harg5 arg6 harg6 hc0 hc1 hc2 x0 x1 xs0)]
  unfold kernelRun0_B
  dsimp only
  rw [View.canon_unit_zero hz]
  sl_unfold_words
  simp only [View.readAt_eq_ld, harg3.read_unread, harg4.read_unread, harg5.read_unread, harg6.read_unread, View.ld_unit_zero (S := S1024x1024) hz, View.ld_unit_zero (S := S4096x1024) hz, View.readCov_unit_zero (S := S1024x1024) _ hz]

end

variable (m : (ℓ : Loc nD τ sig) → Buf (Elt Ideal) ℓ) (c : Dev nD)

theorem ix_0 : ∀ t : Fin cfg0.N, win0_0.index t = ![t.val % 2, t.val / 2] := (by decide +kernel : ∀ t : Fin grid0.N, win0_0.index t = ![t.val % 2, t.val / 2])
theorem ix_1 : ∀ t : Fin cfg0.N, win0_1.index t = ![t.val % 2, 0] := (by decide +kernel : ∀ t : Fin grid0.N, win0_1.index t = ![t.val % 2, 0])
theorem ix_2 : ∀ t : Fin cfg0.N, win0_2.index t = ![t.val / 2, 0] := (by decide +kernel : ∀ t : Fin grid0.N, win0_2.index t = ![t.val / 2, 0])
theorem lt_N (t : Fin cfg0.N) : t.val < 4 := lt_of_lt_of_eq t.isLt N_0
theorem bound {q : ℕ} (h : q < 4) : q < cfg0.N := lt_of_lt_of_eq h N_0.symm

theorem block0 (t : Fin cfg0.N) (k : Fin 4096) (i : Fin 1024) :
    iblk m c 0 t (ix2 k i) = m ((c : Thread nD τ).loc main_arg0) (ix2 ⟨4096 * (t.val % 2) + k.val, by have := lt_N t; omega⟩ ⟨1024 * (t.val / 2) + i.val, by have := lt_N t; omega⟩) := by
  rw [← V_main_arg0 m c]; blk_simp [iblk]; refine congrArg _ ?_; blk_ext [ix_0 t]

theorem block1 (t : Fin cfg0.N) (k : Fin 4096) (j : Fin 1024) :
    iblk m c 1 t (ix2 k j) = m ((c : Thread nD τ).loc main_arg1) (ix2 ⟨4096 * (t.val % 2) + k.val, by have := lt_N t; omega⟩ j) := by
  rw [← V_main_arg1 m c]; blk_simp [iblk]; refine congrArg _ ?_; blk_ext [ix_1 t]

/-- The product of two blocks at an index. -/
theorem pay_apply (x0 : Vec Ideal S4096x1024 .bf16) (x1 : Vec Ideal S4096x1024 .bf16) (i : Fin 1024) (j : Fin 1024) :
    k0_pay1 x0 x1 (ix2 i j) = ∑ k : Fin 4096, x0 (ix2 k i) * x1 (ix2 k j) := by
  pointwise [k0_pay1]

/-- The reference's gradient at an index. -/
theorem ref_apply (x0 : Vec Ideal S8192x2048 .bf16) (x1 : Vec Ideal S8192x1024 .bf16) (i : Fin 2048) (j : Fin 1024) :
    Cert.OutBWeightRefIdeal.Read.val_main_v5 (F := Ideal) x0 x1 (ix2 i j) = ∑ k : Fin 8192, x0 (ix2 k i) * x1 (ix2 k j) := by
  pointwise [Cert.OutBWeightRefIdeal.Read.val_main_v5, Cert.OutBWeightRefIdeal.Read.val_main_v4, Cert.OutBWeightRefIdeal.Read.val_main_v3, Cert.OutBWeightRefIdeal.Read.val_main_v1]
  exact Finset.sum_congr rfl fun k _ => mul_comm _ _

/-- The first step's accumulator is the product. -/
theorem pay2_apply (x0 : Vec Ideal S4096x1024 .bf16) (x1 : Vec Ideal S4096x1024 .bf16) (i : Fin 1024) (j : Fin 1024) :
    k0_pay2 x0 x1 (ix2 i j) = k0_pay1 x0 x1 (ix2 i j) := by
  pointwise [k0_pay2, k0_pay1]

/-- A later step adds the product. -/
theorem pay3_apply (x0 : Vec Ideal S4096x1024 .bf16) (x1 : Vec Ideal S4096x1024 .bf16) (a : Vec Ideal S1024x1024 .f32) (i : Fin 1024) (j : Fin 1024) :
    k0_pay3 x0 x1 a (ix2 i j) = a (ix2 i j) + k0_pay1 x0 x1 (ix2 i j) := by
  pointwise [k0_pay3, k0_pay1]

/-- A sum along the sequence, cut at the blocks. -/
theorem split (x0 : Vec Ideal S8192x2048 .bf16) (x1 : Vec Ideal S8192x1024 .bf16) (i : Fin 2048) (j : Fin 1024) :
    ∑ p : Fin 2, ∑ k : Fin 4096, x0 (ix2 ⟨4096 * p.val + k.val, by have := p.isLt; have := k.isLt; omega⟩ i) * x1 (ix2 ⟨4096 * p.val + k.val, by have := p.isLt; have := k.isLt; omega⟩ j)
      = ∑ k : Fin 8192, x0 (ix2 k i) * x1 (ix2 k j) := by
  refine Fin.sum_mul_add_congr (fun p k hl => ?_)
  have e : (⟨4096 * p.val + k.val, by have := p.isLt; have := k.isLt; omega⟩ : Fin 8192) = ⟨p.val * 4096 + k.val, hl⟩ := Fin.ext (by dsimp only; omega)
  rw [e]

/-- At the last step of a block of rows, the block's gradient is the reference's. -/
theorem tile (t : Fin cfg0.N) (h : t.val % 2 = 1) (i : Fin 1024) (j : Fin 1024) :
    (outsAt0 m c t.val t.isLt).1 (ix2 i j)
      = Cert.OutBWeightRefIdeal.Read.val_main_v5 (F := Ideal) (m ((c : Thread nD τ).loc main_arg0)) (m ((c : Thread nD τ).loc main_arg1)) (ix2 ⟨1024 * (t.val / 2) + i.val, by have := lt_N t; omega⟩ j) := by
  have hl : t.val - 1 < cfg0.N := Nat.lt_of_le_of_lt (Nat.sub_le _ _) t.isLt
  have hprev : (outsAt0 m c (t.val - 1) hl).2 (ix2 i j) = k0_pay1 (iblk m c 0 ⟨t.val - 1, hl⟩) (iblk m c 1 ⟨t.val - 1, hl⟩) (ix2 i j) := by
    refine (congrFun (congrArg Prod.snd (outsAt0_A m c ⟨t.val - 1, hl⟩ (by dsimp only; omega) (by dsimp only; omega) (by dsimp only; omega))) _).trans ?_
    dsimp only
    rw [sout_A_0, pay2_apply]
  have hlt := lt_N t
  rw [outsAt0_B m c t (by omega) h h]
  dsimp only
  rw [out_B_2, pay3_apply, hprev, ref_apply, pay_apply, pay_apply]
  rw [← split, Fin.sum_univ_two]
  refine congrArg₂ (· + ·) (Finset.sum_congr rfl fun k _ => ?_) (Finset.sum_congr rfl fun k _ => ?_)
  · have e : (⟨4096 * ((t.val - 1) % 2) + k.val, by omega⟩ : Fin 8192) = ⟨4096 * (0 : Fin 2).val + k.val, by have := k.isLt; omega⟩ := Fin.ext (by simp only [Fin.val_zero]; omega)
    have e' : (⟨1024 * ((t.val - 1) / 2) + i.val, by omega⟩ : Fin 2048) = ⟨1024 * (t.val / 2) + i.val, by omega⟩ := Fin.ext (by dsimp only; omega)
    rw [block0, block1]; dsimp only; rw [e, e']
  · have e : (⟨4096 * (t.val % 2) + k.val, by omega⟩ : Fin 8192) = ⟨4096 * (1 : Fin 2).val + k.val, by have := k.isLt; omega⟩ := Fin.ext (by simp only [Fin.val_one]; omega)
    rw [block0, block1, e]

/-- The kernel's whole result is the reference's. -/
theorem result : (dats m 0 c).arrAt 2 cfg0.N = Cert.OutBWeightRefIdeal.Read.val_main_v5 (F := Ideal) (m ((c : Thread nD τ).loc main_arg0)) (m ((c : Thread nD τ).loc main_arg1)) := by
  refine (dats m 0 c).arrAt_eq_of_covers 2 _ (by decide +kernel) fun t hf y => ?_
  rw [after0_2]
  have h1 : t.val % 2 = 1 := (flush0_2 t).mp hf
  have hx : (cfg0.win 2).xinj (cfg0.grid.coords t) y = ix2 (n0 := 1024) (n1 := 1024) ((cfg0.win 2).xinj (cfg0.grid.coords t) y 0) ((cfg0.win 2).xinj (cfg0.grid.coords t) y 1) := by
    funext a; fin_cases a <;> rfl
  refine (congrArg _ hx).trans ((tile m c t h1 _ _).trans ?_)
  refine congrArg _ ?_
  blk_ext [ix_2 t]

/-- The kernel as it runs: it terminates without a fault, keeps its arguments, and leaves every counter at zero. -/
theorem frame_kernel : Cert.quiescent_OutBWeight := fun m ρ _ => Cert.OutBWeight.Gen.frame m ρ

/-- The kernel over exact values: the same. -/
theorem frame_ideal : Cert.quiescent_OutBWeightIdeal := fun m ρ _ => Cert.OutBWeightIdeal.Gen.frame m ρ

/-- The reference: the same, from its run; it has no counters. -/
theorem frame_reference : Cert.quiescent_OutBWeightRefIdeal := fun m ρ _ =>
  (θ_run Cert.OutBWeightRefIdeal.defs _ _).mono
    (fun r h => ⟨fun c => (h c).2, sem_eq_zero_of_no_sems (by decide) r.2⟩)
    (Cert.OutBWeightRefIdeal.Value.run (F := Ideal) m ρ)

/-- No operation was replaced between the kernel and its exact form. -/
theorem preserves : Cert.preserves_OutBWeight_OutBWeightIdeal := trivial

/-- Over exact values the kernel's gradient of the scan branch's output weight is the reference's. -/
theorem algebraic : Cert.algebraic_OutBWeightIdeal_OutBWeightRefIdeal := by
  intro m ρ m' ρ' _ hagree
  refine ⟨fun c => Cert.OutBWeightRefIdeal.Read.val_main_v5 (F := Ideal) (m ((c.tc : Thread nD τ).loc main_arg0)) (m ((c.tc : Thread nD τ).loc main_arg1)), ?_, ?_⟩
  · refine (θ_run Cert.OutBWeightIdeal.defs _ _).mono (fun r h c => ?_) (Cert.OutBWeightIdeal.Value.run_blocks (F := Ideal) m ρ)
    obtain ⟨h0, hrest⟩ := h c
    exact ⟨h0.trans (result m c), hrest⟩
  · refine (θ_run Cert.OutBWeightRefIdeal.defs _ _).mono (fun r h c => ?_) (Cert.OutBWeightRefIdeal.Value.run (F := Ideal) m' ρ')
    obtain ⟨h0, hrest⟩ := h c
    obtain ⟨e0, e1⟩ := hagree c
    have l0 : m' ((c.tc : Thread Cert.OutBWeightRefIdeal.nD Cert.OutBWeightRefIdeal.τ).loc Cert.OutBWeightRefIdeal.main_arg0) = m ((c.tc : Thread nD τ).loc main_arg0) := e0
    have l1 : m' ((c.tc : Thread Cert.OutBWeightRefIdeal.nD Cert.OutBWeightRefIdeal.τ).loc Cert.OutBWeightRefIdeal.main_arg1) = m ((c.tc : Thread nD τ).loc main_arg1) := e1
    refine ⟨?_, hrest⟩
    · refine (h0.trans (Cert.OutBWeightRefIdeal.Read.val_main_v5_eq _ _)).trans ?_
      rw [l0, l1]

end Cert.OutBWeightProof
end
-- ==== Proof.MergeWeight.lean ====
/- The gradient of the merge's output weight: the products of the blocks along the sequence, added up in an accumulator that lives across the
   grid points, are the reference's product. -/
module

public import proofs.«01_k».proof.Defs
public import proofs.«01_k».proof.Proof.Gen.MergeWeight.Frame
public import proofs.«01_k».proof.Proof.Gen.MergeWeightIdeal.Value
public import proofs.«01_k».proof.Proof.Gen.MergeWeightRefIdeal.Run
public import proofs.«01_k».proof.Proof.Gen.MergeWeightRefIdeal.Read
public import Idealize.ShloMosaic.Lib.Pipeline.ValueKit.Acc
public import Idealize.ShloMosaic.Lib.Pipeline.ValueKit.Partial
public import Idealize.ShloMosaic.Lib.Pointwise
public import Idealize.ShloMosaic.Lib.Tactic
public import Idealize.ShloMosaic.Adequacy
public import Idealize.ShloMosaic.Init

@[expose] public section

set_option maxRecDepth 16384
set_option maxHeartbeats 0

noncomputable section
open Idealize.ShloMosaic Idealize.ShloMosaic.TcCoe Idealize.SL.Sem
open Idealize.ShloMosaic.Pipeline (Dat)
namespace Cert.MergeWeightProof
open Cert.MergeWeightIdeal Cert.MergeWeightIdeal.Gen
theorem hz : (![0, 0] : Fin 2 → Nat) = fun _ => 0 := by funext i; fin_cases i <;> rfl

section
variable {F : FTy → Type} [FloatOps F]

/-- The first step along the sequence: the accumulator is the block's product. -/
theorem sout_A_0 (c : Dev nD) (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i) (hc2 : ¬cond0_2 i) (x0 : Vec F S2048x1024 .bf16) (x1 : Vec F S2048x1024 .f32) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz]
  sl_unfold_words
  simp only [View.readAt_eq_ld, harg3.read_unread, harg4.read_unread, harg5.read_unread, harg6.read_unread, View.ld_unit_zero (S := S2048x1024) hz]

/-- A later step: the block's product is added. -/
theorem sout_B_0 (c : Dev nD) (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i) (hc2 : ¬cond0_2 i) (x0 : Vec F S2048x1024 .bf16) (x1 : Vec F S2048x1024 .f32) (xs0 : Vec F S1024x1024 .f32) :
    sout0_B_0 c i arg3 harg3 arg4 harg4 arg5 harg5 arg6 harg6 hc0 hc1 hc2 x0 x1 xs0 = k0_pay3 x0 x1 xs0 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  rw [View.canon_unit_zero hz]
  sl_unfold_words
  simp only [View.readAt_eq_ld, harg3.read_unread, harg4.read_unread, harg5.read_unread, harg6.read_unread, View.ld_unit_zero (S := S1024x1024) hz, View.ld_unit_zero (S := S2048x1024) hz]

/-- The last step: the accumulator, with its product added, is the result. -/
theorem out_C_2 (c : Dev nD) (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i) (hc2 : cond0_2 i) (x0 : Vec F S2048x1024 .bf16) (x1 : Vec F S2048x1024 .f32) (xs0 : Vec F S1024x1024 .f32) :
    out0_C_2 c i arg3 harg3 arg4 harg4 arg5 harg5 arg6 harg6 hc0 hc1 hc2 x0 x1 xs0 = k0_pay3 x0 x1 xs0 := by
  unfold out0_C_2
  rw [View.read_writes_eq_canon _ _ _ (cover0_C_2 c i arg3 harg3 arg4 harg4 arg5 harg5 arg6 harg6 hc0 hc1 hc2 x0 x1 xs0)]
  unfold kernelRun0_C
  dsimp only
  rw [View.canon_unit_zero hz]
  sl_unfold_words
  simp only [View.readAt_eq_ld, harg3.read_unread, harg4.read_unread, harg5.read_unread, harg6.read_unread, View.ld_unit_zero (S := S1024x1024) hz, View.ld_unit_zero (S := S2048x1024) hz, View.readCov_unit_zero (S := S1024x1024) _ hz]

end

variable (m : (ℓ : Loc nD τ sig) → Buf (Elt Ideal) ℓ) (c : Dev nD)

theorem ix_0 : ∀ t : Fin cfg0.N, win0_0.index t = ![t.val, 0] := (by decide +kernel : ∀ t : Fin grid0.N, win0_0.index t = ![t.val, 0])
theorem ix_1 : ∀ t : Fin cfg0.N, win0_1.index t = ![t.val, 0] := (by decide +kernel : ∀ t : Fin grid0.N, win0_1.index t = ![t.val, 0])
theorem ix_2 : ∀ t : Fin cfg0.N, win0_2.index t = ![0, 0] := (by decide +kernel : ∀ t : Fin grid0.N, win0_2.index t = ![0, 0])
theorem lt_N (t : Fin cfg0.N) : t.val < 4 := lt_of_lt_of_eq t.isLt N_0
theorem bound {q : ℕ} (h : q < 4) : q < cfg0.N := lt_of_lt_of_eq h N_0.symm

theorem block0 (t : Fin cfg0.N) (k : Fin 2048) (i : Fin 1024) :
    iblk m c 0 t (ix2 k i) = m ((c : Thread nD τ).loc main_arg0) (ix2 ⟨2048 * (t.val) + k.val, by have := lt_N t; omega⟩ i) := by
  rw [← V_main_arg0 m c]; blk_simp [iblk]; refine congrArg _ ?_; blk_ext [ix_0 t]

theorem block1 (t : Fin cfg0.N) (k : Fin 2048) (j : Fin 1024) :
    iblk m c 1 t (ix2 k j) = m ((c : Thread nD τ).loc main_arg1) (ix2 ⟨2048 * (t.val) + k.val, by have := lt_N t; omega⟩ j) := by
  rw [← V_main_arg1 m c]; blk_simp [iblk]; refine congrArg _ ?_; blk_ext [ix_1 t]

/-- The product of two blocks at an index. -/
theorem pay_apply (x0 : Vec Ideal S2048x1024 .bf16) (x1 : Vec Ideal S2048x1024 .f32) (i : Fin 1024) (j : Fin 1024) :
    k0_pay1 x0 x1 (ix2 i j) = ∑ k : Fin 2048, x0 (ix2 k i) * x1 (ix2 k j) := by
  pointwise [k0_pay1]

/-- The reference's gradient at an index. -/
theorem ref_apply (x0 : Vec Ideal S8192x1024 .bf16) (x1 : Vec Ideal S8192x1024 .f32) (i : Fin 1024) (j : Fin 1024) :
    Cert.MergeWeightRefIdeal.Read.val_main_v4 (F := Ideal) x0 x1 (ix2 i j) = ∑ k : Fin 8192, x0 (ix2 k i) * x1 (ix2 k j) := by
  pointwise [Cert.MergeWeightRefIdeal.Read.val_main_v4, Cert.MergeWeightRefIdeal.Read.val_main_v3, Cert.MergeWeightRefIdeal.Read.val_main_v1]
  exact Finset.sum_congr rfl fun k _ => mul_comm _ _

/-- The first step's accumulator is the product. -/
theorem pay2_apply (x0 : Vec Ideal S2048x1024 .bf16) (x1 : Vec Ideal S2048x1024 .f32) (i : Fin 1024) (j : Fin 1024) :
    k0_pay2 x0 x1 (ix2 i j) = k0_pay1 x0 x1 (ix2 i j) := by
  pointwise [k0_pay2, k0_pay1]

/-- A later step adds the product. -/
theorem pay3_apply (x0 : Vec Ideal S2048x1024 .bf16) (x1 : Vec Ideal S2048x1024 .f32) (a : Vec Ideal S1024x1024 .f32) (i : Fin 1024) (j : Fin 1024) :
    k0_pay3 x0 x1 a (ix2 i j) = a (ix2 i j) + k0_pay1 x0 x1 (ix2 i j) := by
  pointwise [k0_pay3, k0_pay1]

/-- A sum along the sequence, cut at the blocks. -/
theorem split (x0 : Vec Ideal S8192x1024 .bf16) (x1 : Vec Ideal S8192x1024 .f32) (i : Fin 1024) (j : Fin 1024) :
    ∑ p : Fin 4, ∑ k : Fin 2048, x0 (ix2 ⟨2048 * p.val + k.val, by have := p.isLt; have := k.isLt; omega⟩ i) * x1 (ix2 ⟨2048 * p.val + k.val, by have := p.isLt; have := k.isLt; omega⟩ j)
      = ∑ k : Fin 8192, x0 (ix2 k i) * x1 (ix2 k j) := by
  refine Fin.sum_mul_add_congr (fun p k hl => ?_)
  have e : (⟨2048 * p.val + k.val, by have := p.isLt; have := k.isLt; omega⟩ : Fin 8192) = ⟨p.val * 2048 + k.val, hl⟩ := Fin.ext (by dsimp only; omega)
  rw [e]

/-- The accumulator after the last step is the reference's gradient. -/
theorem total (i : Fin 1024) (j : Fin 1024) :
    (outsAt0 m c 3 (bound (by decide))).1 (ix2 i j) = Cert.MergeWeightRefIdeal.Read.val_main_v4 (F := Ideal) (m ((c : Thread nD τ).loc main_arg0)) (m ((c : Thread nD τ).loc main_arg1)) (ix2 i j) := by
  have h0 : (outsAt0 m c 0 (bound (by decide))).2 (ix2 i j) = k0_pay1 (iblk m c 0 ⟨0, bound (by decide)⟩) (iblk m c 1 ⟨0, bound (by decide)⟩) (ix2 i j) := by
    refine (congrFun (congrArg Prod.snd (outsAt0_A m c ⟨0, bound (by decide)⟩ (by decide) (by decide) (by decide))) _).trans ?_
    dsimp only
    rw [sout_A_0, pay2_apply]
  have h1 : (outsAt0 m c 1 (bound (by decide))).2 (ix2 i j) = (outsAt0 m c 0 (bound (by decide))).2 (ix2 i j) + k0_pay1 (iblk m c 0 ⟨1, bound (by decide)⟩) (iblk m c 1 ⟨1, bound (by decide)⟩) (ix2 i j) := by
    refine (congrFun (congrArg Prod.snd (outsAt0_B m c ⟨1, bound (by decide)⟩ (by decide) (by decide) (by decide))) _).trans ?_
    dsimp only
    rw [sout_B_0, pay3_apply]
  have h2 : (outsAt0 m c 2 (bound (by decide))).2 (ix2 i j) = (outsAt0 m c 1 (bound (by decide))).2 (ix2 i j) + k0_pay1 (iblk m c 0 ⟨2, bound (by decide)⟩) (iblk m c 1 ⟨2, bound (by decide)⟩) (ix2 i j) := by
    refine (congrFun (congrArg Prod.snd (outsAt0_B m c ⟨2, bound (by decide)⟩ (by decide) (by decide) (by decide))) _).trans ?_
    dsimp only
    rw [sout_B_0, pay3_apply]
  have h3 : (outsAt0 m c 3 (bound (by decide))).1 (ix2 i j) = (outsAt0 m c 2 (bound (by decide))).2 (ix2 i j) + k0_pay1 (iblk m c 0 ⟨3, bound (by decide)⟩) (iblk m c 1 ⟨3, bound (by decide)⟩) (ix2 i j) := by
    refine (congrFun (congrArg Prod.fst (outsAt0_C m c ⟨3, bound (by decide)⟩ (by decide) (by decide) (by decide))) _).trans ?_
    dsimp only
    rw [out_C_2, pay3_apply]
  rw [h3, h2, h1, h0, ref_apply]
  simp only [pay_apply, block0, block1]
  rw [← split, Fin.sum_univ_four]
  rfl

/-- The kernel's whole result is the reference's. -/
theorem result : (dats m 0 c).arrAt 2 cfg0.N = Cert.MergeWeightRefIdeal.Read.val_main_v4 (F := Ideal) (m ((c : Thread nD τ).loc main_arg0)) (m ((c : Thread nD τ).loc main_arg1)) := by
  refine (dats m 0 c).arrAt_eq_of_after_last 2 t0_3 (by decide +kernel) _ fun j => ?_
  obtain ⟨p, q, rfl⟩ : ∃ (p : Fin 1024) (q : Fin 1024), j = ix2 (n0 := 1024) (n1 := 1024) p q :=
    ⟨j 0, j 1, by funext a; fin_cases a <;> rfl⟩
  rw [after0_2]
  exact total m c p q

/-- The kernel as it runs: it terminates without a fault, keeps its arguments, and leaves every counter at zero. -/
theorem frame_kernel : Cert.quiescent_MergeWeight := fun m ρ _ => Cert.MergeWeight.Gen.frame m ρ

/-- The kernel over exact values: the same. -/
theorem frame_ideal : Cert.quiescent_MergeWeightIdeal := fun m ρ _ => Cert.MergeWeightIdeal.Gen.frame m ρ

/-- The reference: the same, from its run; it has no counters. -/
theorem frame_reference : Cert.quiescent_MergeWeightRefIdeal := fun m ρ _ =>
  (θ_run Cert.MergeWeightRefIdeal.defs _ _).mono
    (fun r h => ⟨fun c => (h c).2, sem_eq_zero_of_no_sems (by decide) r.2⟩)
    (Cert.MergeWeightRefIdeal.Value.run (F := Ideal) m ρ)

/-- No operation was replaced between the kernel and its exact form. -/
theorem preserves : Cert.preserves_MergeWeight_MergeWeightIdeal := trivial

/-- Over exact values the kernel's gradient of the merge's output weight is the reference's. -/
theorem algebraic : Cert.algebraic_MergeWeightIdeal_MergeWeightRefIdeal := by
  intro m ρ m' ρ' _ hagree
  refine ⟨fun c => Cert.MergeWeightRefIdeal.Read.val_main_v4 (F := Ideal) (m ((c.tc : Thread nD τ).loc main_arg0)) (m ((c.tc : Thread nD τ).loc main_arg1)), ?_, ?_⟩
  · refine (θ_run Cert.MergeWeightIdeal.defs _ _).mono (fun r h c => ?_) (Cert.MergeWeightIdeal.Value.run_blocks (F := Ideal) m ρ)
    obtain ⟨h0, hrest⟩ := h c
    exact ⟨h0.trans (result m c), hrest⟩
  · refine (θ_run Cert.MergeWeightRefIdeal.defs _ _).mono (fun r h c => ?_) (Cert.MergeWeightRefIdeal.Value.run (F := Ideal) m' ρ')
    obtain ⟨h0, hrest⟩ := h c
    obtain ⟨e0, e1⟩ := hagree c
    have l0 : m' ((c.tc : Thread Cert.MergeWeightRefIdeal.nD Cert.MergeWeightRefIdeal.τ).loc Cert.MergeWeightRefIdeal.main_arg0) = m ((c.tc : Thread nD τ).loc main_arg0) := e0
    have l1 : m' ((c.tc : Thread Cert.MergeWeightRefIdeal.nD Cert.MergeWeightRefIdeal.τ).loc Cert.MergeWeightRefIdeal.main_arg1) = m ((c.tc : Thread nD τ).loc main_arg1) := e1
    refine ⟨?_, hrest⟩
    · refine (h0.trans (Cert.MergeWeightRefIdeal.Read.val_main_v4_eq _ _)).trans ?_
      rw [l0, l1]

end Cert.MergeWeightProof
end
-- ==== Proof.StepWeight.lean ====
/- The gradient of the step-size projection's weight: the products of the blocks along the sequence, added up in an accumulator that lives across the
   grid points, are the reference's product. -/
module

public import proofs.«01_k».proof.Defs
public import proofs.«01_k».proof.Proof.Gen.StepWeight.Frame
public import proofs.«01_k».proof.Proof.Gen.StepWeightIdeal.Value
public import proofs.«01_k».proof.Proof.Gen.StepWeightRefIdeal.Run
public import proofs.«01_k».proof.Proof.Gen.StepWeightRefIdeal.Read
public import Idealize.ShloMosaic.Lib.Pipeline.ValueKit.Acc
public import Idealize.ShloMosaic.Lib.Pipeline.ValueKit.Partial
public import Idealize.ShloMosaic.Lib.Pointwise
public import Idealize.ShloMosaic.Lib.Tactic
public import Idealize.ShloMosaic.Adequacy
public import Idealize.ShloMosaic.Init

@[expose] public section

set_option maxRecDepth 16384
set_option maxHeartbeats 0

noncomputable section
open Idealize.ShloMosaic Idealize.ShloMosaic.TcCoe Idealize.SL.Sem
open Idealize.ShloMosaic.Pipeline (Dat)
namespace Cert.StepWeightProof
open Cert.StepWeightIdeal Cert.StepWeightIdeal.Gen
theorem hz : (![0, 0] : Fin 2 → Nat) = fun _ => 0 := by funext i; fin_cases i <;> rfl

section
variable {F : FTy → Type} [FloatOps F]

/-- The first step along the sequence: the accumulator is the block's product. -/
theorem sout_A_0 (c : Dev nD) (i : grid0.Coords) (arg3 : Memref sig .tc .vmem S4096x1024 .bf16) (harg3 : arg3.IsWhole) (arg4 : Memref sig .tc .vmem S4096x512 .f32) (harg4 : arg4.IsWhole) (arg5 : Memref sig .tc .vmem S1024x512 .f32) (harg5 : arg5.IsWhole) (arg6 : Memref sig .tc .vmem S1024x512 .f32) (harg6 : arg6.IsWhole) (hc0 : cond0_0 i) (hc1 : ¬cond0_1 i) (hc2 : ¬cond0_2 i) (x0 : Vec F S4096x1024 .bf16) (x1 : Vec F S4096x512 .f32) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz]
  sl_unfold_words
  simp only [View.readAt_eq_ld, harg3.read_unread, harg4.read_unread, harg5.read_unread, harg6.read_unread, View.ld_unit_zero (S := S4096x1024) hz, View.ld_unit_zero (S := S4096x512) hz]

/-- The last step: the accumulator, with its product added, is the result. -/
theorem out_B_2 (c : Dev nD) (i : grid0.Coords) (arg3 : Memref sig .tc .vmem S4096x1024 .bf16) (harg3 : arg3.IsWhole) (arg4 : Memref sig .tc .vmem S4096x512 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i) (hc2 : cond0_2 i) (x0 : Vec F S4096x1024 .bf16) (x1 : Vec F S4096x512 .f32) (xs0 : Vec F S1024x512 .f32) :
    out0_B_2 c i arg3 harg3 arg4 harg4 arg5 harg5 arg6 harg6 hc0 hc1 hc2 x0 x1 xs0 = k0_pay3 x0 x1 xs0 := by
  unfold out0_B_2
  rw [View.read_writes_eq_canon _ _ _ (cover0_B_2 c i arg3 harg3 arg4 harg4 arg5 harg5 arg6 harg6 hc0 hc1 hc2 x0 x1 xs0)]
  unfold kernelRun0_B
  dsimp only
  rw [View.canon_unit_zero hz]
  sl_unfold_words
  simp only [View.readAt_eq_ld, harg3.read_unread, harg4.read_unread, harg5.read_unread, harg6.read_unread, View.ld_unit_zero (S := S1024x512) hz, View.ld_unit_zero (S := S4096x1024) hz, View.ld_unit_zero (S := S4096x512) hz, View.readCov_unit_zero (S := S1024x512) _ hz]

end

variable (m : (ℓ : Loc nD τ sig) → Buf (Elt Ideal) ℓ) (c : Dev nD)

theorem ix_0 : ∀ t : Fin cfg0.N, win0_0.index t = ![t.val, 0] := (by decide +kernel : ∀ t : Fin grid0.N, win0_0.index t = ![t.val, 0])
theorem ix_1 : ∀ t : Fin cfg0.N, win0_1.index t = ![t.val, 0] := (by decide +kernel : ∀ t : Fin grid0.N, win0_1.index t = ![t.val, 0])
theorem ix_2 : ∀ t : Fin cfg0.N, win0_2.index t = ![0, 0] := (by decide +kernel : ∀ t : Fin grid0.N, win0_2.index t = ![0, 0])
theorem lt_N (t : Fin cfg0.N) : t.val < 2 := lt_of_lt_of_eq t.isLt N_0
theorem bound {q : ℕ} (h : q < 2) : q < cfg0.N := lt_of_lt_of_eq h N_0.symm

theorem block0 (t : Fin cfg0.N) (k : Fin 4096) (i : Fin 1024) :
    iblk m c 0 t (ix2 k i) = m ((c : Thread nD τ).loc main_arg0) (ix2 ⟨4096 * (t.val) + k.val, by have := lt_N t; omega⟩ i) := by
  rw [← V_main_arg0 m c]; blk_simp [iblk]; refine congrArg _ ?_; blk_ext [ix_0 t]

theorem block1 (t : Fin cfg0.N) (k : Fin 4096) (j : Fin 512) :
    iblk m c 1 t (ix2 k j) = m ((c : Thread nD τ).loc main_arg1) (ix2 ⟨4096 * (t.val) + k.val, by have := lt_N t; omega⟩ j) := by
  rw [← V_main_arg1 m c]; blk_simp [iblk]; refine congrArg _ ?_; blk_ext [ix_1 t]

/-- The product of two blocks at an index. -/
theorem pay_apply (x0 : Vec Ideal S4096x1024 .bf16) (x1 : Vec Ideal S4096x512 .f32) (i : Fin 1024) (j : Fin 512) :
    k0_pay1 x0 x1 (ix2 i j) = ∑ k : Fin 4096, x0 (ix2 k i) * x1 (ix2 k j) := by
  pointwise [k0_pay1]

/-- The reference's gradient at an index. -/
theorem ref_apply (x0 : Vec Ideal S8192x1024 .bf16) (x1 : Vec Ideal S8192x512 .f32) (i : Fin 1024) (j : Fin 512) :
    Cert.StepWeightRefIdeal.Read.val_main_v4 (F := Ideal) x0 x1 (ix2 i j) = ∑ k : Fin 8192, x0 (ix2 k i) * x1 (ix2 k j) := by
  pointwise [Cert.StepWeightRefIdeal.Read.val_main_v4, Cert.StepWeightRefIdeal.Read.val_main_v3, Cert.StepWeightRefIdeal.Read.val_main_v1]
  exact Finset.sum_congr rfl fun k _ => mul_comm _ _

/-- The first step's accumulator is the product. -/
theorem pay2_apply (x0 : Vec Ideal S4096x1024 .bf16) (x1 : Vec Ideal S4096x512 .f32) (i : Fin 1024) (j : Fin 512) :
    k0_pay2 x0 x1 (ix2 i j) = k0_pay1 x0 x1 (ix2 i j) := by
  pointwise [k0_pay2, k0_pay1]

/-- A later step adds the product. -/
theorem pay3_apply (x0 : Vec Ideal S4096x1024 .bf16) (x1 : Vec Ideal S4096x512 .f32) (a : Vec Ideal S1024x512 .f32) (i : Fin 1024) (j : Fin 512) :
    k0_pay3 x0 x1 a (ix2 i j) = a (ix2 i j) + k0_pay1 x0 x1 (ix2 i j) := by
  pointwise [k0_pay3, k0_pay1]

/-- A sum along the sequence, cut at the blocks. -/
theorem split (x0 : Vec Ideal S8192x1024 .bf16) (x1 : Vec Ideal S8192x512 .f32) (i : Fin 1024) (j : Fin 512) :
    ∑ p : Fin 2, ∑ k : Fin 4096, x0 (ix2 ⟨4096 * p.val + k.val, by have := p.isLt; have := k.isLt; omega⟩ i) * x1 (ix2 ⟨4096 * p.val + k.val, by have := p.isLt; have := k.isLt; omega⟩ j)
      = ∑ k : Fin 8192, x0 (ix2 k i) * x1 (ix2 k j) := by
  refine Fin.sum_mul_add_congr (fun p k hl => ?_)
  have e : (⟨4096 * p.val + k.val, by have := p.isLt; have := k.isLt; omega⟩ : Fin 8192) = ⟨p.val * 4096 + k.val, hl⟩ := Fin.ext (by dsimp only; omega)
  rw [e]

/-- The accumulator after the last step is the reference's gradient. -/
theorem total (i : Fin 1024) (j : Fin 512) :
    (outsAt0 m c 1 (bound (by decide))).1 (ix2 i j) = Cert.StepWeightRefIdeal.Read.val_main_v4 (F := Ideal) (m ((c : Thread nD τ).loc main_arg0)) (m ((c : Thread nD τ).loc main_arg1)) (ix2 i j) := by
  have h0 : (outsAt0 m c 0 (bound (by decide))).2 (ix2 i j) = k0_pay1 (iblk m c 0 ⟨0, bound (by decide)⟩) (iblk m c 1 ⟨0, bound (by decide)⟩) (ix2 i j) := by
    refine (congrFun (congrArg Prod.snd (outsAt0_A m c ⟨0, bound (by decide)⟩ (by decide) (by decide) (by decide))) _).trans ?_
    dsimp only
    rw [sout_A_0, pay2_apply]
  have h1 : (outsAt0 m c 1 (bound (by decide))).1 (ix2 i j) = (outsAt0 m c 0 (bound (by decide))).2 (ix2 i j) + k0_pay1 (iblk m c 0 ⟨1, bound (by decide)⟩) (iblk m c 1 ⟨1, bound (by decide)⟩) (ix2 i j) := by
    refine (congrFun (congrArg Prod.fst (outsAt0_B m c ⟨1, bound (by decide)⟩ (by decide) (by decide) (by decide))) _).trans ?_
    dsimp only
    rw [out_B_2, pay3_apply]
  rw [h1, h0, ref_apply]
  simp only [pay_apply, block0, block1]
  rw [← split, Fin.sum_univ_two]
  rfl

/-- The kernel's whole result is the reference's. -/
theorem result : (dats m 0 c).arrAt 2 cfg0.N = Cert.StepWeightRefIdeal.Read.val_main_v4 (F := Ideal) (m ((c : Thread nD τ).loc main_arg0)) (m ((c : Thread nD τ).loc main_arg1)) := by
  refine (dats m 0 c).arrAt_eq_of_after_last 2 t0_1 (by decide +kernel) _ fun j => ?_
  obtain ⟨p, q, rfl⟩ : ∃ (p : Fin 1024) (q : Fin 512), j = ix2 (n0 := 1024) (n1 := 512) p q :=
    ⟨j 0, j 1, by funext a; fin_cases a <;> rfl⟩
  rw [after0_2]
  exact total m c p q

/-- The kernel as it runs: it terminates without a fault, keeps its arguments, and leaves every counter at zero. -/
theorem frame_kernel : Cert.quiescent_StepWeight := fun m ρ _ => Cert.StepWeight.Gen.frame m ρ

/-- The kernel over exact values: the same. -/
theorem frame_ideal : Cert.quiescent_StepWeightIdeal := fun m ρ _ => Cert.StepWeightIdeal.Gen.frame m ρ

/-- The reference: the same, from its run; it has no counters. -/
theorem frame_reference : Cert.quiescent_StepWeightRefIdeal := fun m ρ _ =>
  (θ_run Cert.StepWeightRefIdeal.defs _ _).mono
    (fun r h => ⟨fun c => (h c).2, sem_eq_zero_of_no_sems (by decide) r.2⟩)
    (Cert.StepWeightRefIdeal.Value.run (F := Ideal) m ρ)

/-- No operation was replaced between the kernel and its exact form. -/
theorem preserves : Cert.preserves_StepWeight_StepWeightIdeal := trivial

/-- Over exact values the kernel's gradient of the step-size projection's weight is the reference's. -/
theorem algebraic : Cert.algebraic_StepWeightIdeal_StepWeightRefIdeal := by
  intro m ρ m' ρ' _ hagree
  refine ⟨fun c => Cert.StepWeightRefIdeal.Read.val_main_v4 (F := Ideal) (m ((c.tc : Thread nD τ).loc main_arg0)) (m ((c.tc : Thread nD τ).loc main_arg1)), ?_, ?_⟩
  · refine (θ_run Cert.StepWeightIdeal.defs _ _).mono (fun r h c => ?_) (Cert.StepWeightIdeal.Value.run_blocks (F := Ideal) m ρ)
    obtain ⟨h0, hrest⟩ := h c
    exact ⟨h0.trans (result m c), hrest⟩
  · refine (θ_run Cert.StepWeightRefIdeal.defs _ _).mono (fun r h c => ?_) (Cert.StepWeightRefIdeal.Value.run (F := Ideal) m' ρ')
    obtain ⟨h0, hrest⟩ := h c
    obtain ⟨e0, e1⟩ := hagree c
    have l0 : m' ((c.tc : Thread Cert.StepWeightRefIdeal.nD Cert.StepWeightRefIdeal.τ).loc Cert.StepWeightRefIdeal.main_arg0) = m ((c.tc : Thread nD τ).loc main_arg0) := e0
    have l1 : m' ((c.tc : Thread Cert.StepWeightRefIdeal.nD Cert.StepWeightRefIdeal.τ).loc Cert.StepWeightRefIdeal.main_arg1) = m ((c.tc : Thread nD τ).loc main_arg1) := e1
    refine ⟨?_, hrest⟩
    · refine (h0.trans (Cert.StepWeightRefIdeal.Read.val_main_v4_eq _ _)).trans ?_
      rw [l0, l1]

end Cert.StepWeightProof
end
-- ==== Proof.EmbedWeight.lean ====
/- The gradient of the per-layer embedding's projection: the products of the blocks along the sequence, added up in an accumulator that lives across the
   grid points, are the reference's product. -/
module

public import proofs.«01_k».proof.Defs
public import proofs.«01_k».proof.Proof.Gen.EmbedWeight.Frame
public import proofs.«01_k».proof.Proof.Gen.EmbedWeightIdeal.Value
public import proofs.«01_k».proof.Proof.Gen.EmbedWeightRefIdeal.Run
public import proofs.«01_k».proof.Proof.Gen.EmbedWeightRefIdeal.Read
public import Idealize.ShloMosaic.Lib.Pipeline.ValueKit.Acc
public import Idealize.ShloMosaic.Lib.Pipeline.ValueKit.Partial
public import Idealize.ShloMosaic.Lib.Pointwise
public import Idealize.ShloMosaic.Lib.Tactic
public import Idealize.ShloMosaic.Adequacy
public import Idealize.ShloMosaic.Init

@[expose] public section

set_option maxRecDepth 16384
set_option maxHeartbeats 0

noncomputable section
open Idealize.ShloMosaic Idealize.ShloMosaic.TcCoe Idealize.SL.Sem
open Idealize.ShloMosaic.Pipeline (Dat)
namespace Cert.EmbedWeightProof
open Cert.EmbedWeightIdeal Cert.EmbedWeightIdeal.Gen
theorem hz : (![0, 0] : Fin 2 → Nat) = fun _ => 0 := by funext i; fin_cases i <;> rfl

section
variable {F : FTy → Type} [FloatOps F]

/-- The first step along the sequence: the accumulator is the block's product. -/
theorem sout_A_0 (c : Dev nD) (i : grid0.Coords) (arg3 : Memref sig .tc .vmem S4096x256 .f32) (harg3 : arg3.IsWhole) (arg4 : Memref sig .tc .vmem S4096x1024 .bf16) (harg4 : arg4.IsWhole) (arg5 : Memref sig .tc .vmem S256x1024 .f32) (harg5 : arg5.IsWhole) (arg6 : Memref sig .tc .vmem S256x1024 .f32) (harg6 : arg6.IsWhole) (hc0 : cond0_0 i) (hc1 : ¬cond0_1 i) (hc2 : ¬cond0_2 i) (x0 : Vec F S4096x256 .f32) (x1 : Vec F S4096x1024 .bf16) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz]
  sl_unfold_words
  simp only [View.readAt_eq_ld, harg3.read_unread, harg4.read_unread, harg5.read_unread, harg6.read_unread, View.ld_unit_zero (S := S4096x1024) hz, View.ld_unit_zero (S := S4096x256) hz]

/-- The last step: the accumulator, with its product added, is the result. -/
theorem out_B_2 (c : Dev nD) (i : grid0.Coords) (arg3 : Memref sig .tc .vmem S4096x256 .f32) (harg3 : arg3.IsWhole) (arg4 : Memref sig .tc .vmem S4096x1024 .bf16) (harg4 : arg4.IsWhole) (arg5 : Memref sig .tc .vmem S256x1024 .f32) (harg5 : arg5.IsWhole) (arg6 : Memref sig .tc .vmem S256x1024 .f32) (harg6 : arg6.IsWhole) (hc0 : ¬cond0_0 i) (hc1 : cond0_1 i) (hc2 : cond0_2 i) (x0 : Vec F S4096x256 .f32) (x1 : Vec F S4096x1024 .bf16) (xs0 : Vec F S256x1024 .f32) :
    out0_B_2 c i arg3 harg3 arg4 harg4 arg5 harg5 arg6 harg6 hc0 hc1 hc2 x0 x1 xs0 = k0_pay3 x0 x1 xs0 := by
  unfold out0_B_2
  rw [View.read_writes_eq_canon _ _ _ (cover0_B_2 c i arg3 harg3 arg4 harg4 arg5 harg5 arg6 harg6 hc0 hc1 hc2 x0 x1 xs0)]
  unfold kernelRun0_B
  dsimp only
  rw [View.canon_unit_zero hz]
  sl_unfold_words
  simp only [View.readAt_eq_ld, harg3.read_unread, harg4.read_unread, harg5.read_unread, harg6.read_unread, View.ld_unit_zero (S := S256x1024) hz, View.ld_unit_zero (S := S4096x1024) hz, View.ld_unit_zero (S := S4096x256) hz, View.readCov_unit_zero (S := S256x1024) _ hz]

end

variable (m : (ℓ : Loc nD τ sig) → Buf (Elt Ideal) ℓ) (c : Dev nD)

theorem ix_0 : ∀ t : Fin cfg0.N, win0_0.index t = ![t.val, 0] := (by decide +kernel : ∀ t : Fin grid0.N, win0_0.index t = ![t.val, 0])
theorem ix_1 : ∀ t : Fin cfg0.N, win0_1.index t = ![t.val, 0] := (by decide +kernel : ∀ t : Fin grid0.N, win0_1.index t = ![t.val, 0])
theorem ix_2 : ∀ t : Fin cfg0.N, win0_2.index t = ![0, 0] := (by decide +kernel : ∀ t : Fin grid0.N, win0_2.index t = ![0, 0])
theorem lt_N (t : Fin cfg0.N) : t.val < 2 := lt_of_lt_of_eq t.isLt N_0
theorem bound {q : ℕ} (h : q < 2) : q < cfg0.N := lt_of_lt_of_eq h N_0.symm

theorem block0 (t : Fin cfg0.N) (k : Fin 4096) (i : Fin 256) :
    iblk m c 0 t (ix2 k i) = m ((c : Thread nD τ).loc main_arg0) (ix2 ⟨4096 * (t.val) + k.val, by have := lt_N t; omega⟩ i) := by
  rw [← V_main_arg0 m c]; blk_simp [iblk]; refine congrArg _ ?_; blk_ext [ix_0 t]

theorem block1 (t : Fin cfg0.N) (k : Fin 4096) (j : Fin 1024) :
    iblk m c 1 t (ix2 k j) = m ((c : Thread nD τ).loc main_arg1) (ix2 ⟨4096 * (t.val) + k.val, by have := lt_N t; omega⟩ j) := by
  rw [← V_main_arg1 m c]; blk_simp [iblk]; refine congrArg _ ?_; blk_ext [ix_1 t]

/-- The product of two blocks at an index. -/
theorem pay_apply (x0 : Vec Ideal S4096x256 .f32) (x1 : Vec Ideal S4096x1024 .bf16) (i : Fin 256) (j : Fin 1024) :
    k0_pay1 x0 x1 (ix2 i j) = ∑ k : Fin 4096, x0 (ix2 k i) * x1 (ix2 k j) := by
  pointwise [k0_pay1]

/-- The reference's gradient at an index. -/
theorem ref_apply (x0 : Vec Ideal S8192x256 .f32) (x1 : Vec Ideal S8192x1024 .bf16) (i : Fin 256) (j : Fin 1024) :
    Cert.EmbedWeightRefIdeal.Read.val_main_v4 (F := Ideal) x0 x1 (ix2 i j) = ∑ k : Fin 8192, x0 (ix2 k i) * x1 (ix2 k j) := by
  pointwise [Cert.EmbedWeightRefIdeal.Read.val_main_v4, Cert.EmbedWeightRefIdeal.Read.val_main_v3, Cert.EmbedWeightRefIdeal.Read.val_main_v1]
  exact Finset.sum_congr rfl fun k _ => mul_comm _ _

/-- The first step's accumulator is the product. -/
theorem pay2_apply (x0 : Vec Ideal S4096x256 .f32) (x1 : Vec Ideal S4096x1024 .bf16) (i : Fin 256) (j : Fin 1024) :
    k0_pay2 x0 x1 (ix2 i j) = k0_pay1 x0 x1 (ix2 i j) := by
  pointwise [k0_pay2, k0_pay1]

/-- A later step adds the product. -/
theorem pay3_apply (x0 : Vec Ideal S4096x256 .f32) (x1 : Vec Ideal S4096x1024 .bf16) (a : Vec Ideal S256x1024 .f32) (i : Fin 256) (j : Fin 1024) :
    k0_pay3 x0 x1 a (ix2 i j) = a (ix2 i j) + k0_pay1 x0 x1 (ix2 i j) := by
  pointwise [k0_pay3, k0_pay1]

/-- A sum along the sequence, cut at the blocks. -/
theorem split (x0 : Vec Ideal S8192x256 .f32) (x1 : Vec Ideal S8192x1024 .bf16) (i : Fin 256) (j : Fin 1024) :
    ∑ p : Fin 2, ∑ k : Fin 4096, x0 (ix2 ⟨4096 * p.val + k.val, by have := p.isLt; have := k.isLt; omega⟩ i) * x1 (ix2 ⟨4096 * p.val + k.val, by have := p.isLt; have := k.isLt; omega⟩ j)
      = ∑ k : Fin 8192, x0 (ix2 k i) * x1 (ix2 k j) := by
  refine Fin.sum_mul_add_congr (fun p k hl => ?_)
  have e : (⟨4096 * p.val + k.val, by have := p.isLt; have := k.isLt; omega⟩ : Fin 8192) = ⟨p.val * 4096 + k.val, hl⟩ := Fin.ext (by dsimp only; omega)
  rw [e]

/-- The accumulator after the last step is the reference's gradient. -/
theorem total (i : Fin 256) (j : Fin 1024) :
    (outsAt0 m c 1 (bound (by decide))).1 (ix2 i j) = Cert.EmbedWeightRefIdeal.Read.val_main_v4 (F := Ideal) (m ((c : Thread nD τ).loc main_arg0)) (m ((c : Thread nD τ).loc main_arg1)) (ix2 i j) := by
  have h0 : (outsAt0 m c 0 (bound (by decide))).2 (ix2 i j) = k0_pay1 (iblk m c 0 ⟨0, bound (by decide)⟩) (iblk m c 1 ⟨0, bound (by decide)⟩) (ix2 i j) := by
    refine (congrFun (congrArg Prod.snd (outsAt0_A m c ⟨0, bound (by decide)⟩ (by decide) (by decide) (by decide))) _).trans ?_
    dsimp only
    rw [sout_A_0, pay2_apply]
  have h1 : (outsAt0 m c 1 (bound (by decide))).1 (ix2 i j) = (outsAt0 m c 0 (bound (by decide))).2 (ix2 i j) + k0_pay1 (iblk m c 0 ⟨1, bound (by decide)⟩) (iblk m c 1 ⟨1, bound (by decide)⟩) (ix2 i j) := by
    refine (congrFun (congrArg Prod.fst (outsAt0_B m c ⟨1, bound (by decide)⟩ (by decide) (by decide) (by decide))) _).trans ?_
    dsimp only
    rw [out_B_2, pay3_apply]
  rw [h1, h0, ref_apply]
  simp only [pay_apply, block0, block1]
  rw [← split, Fin.sum_univ_two]
  rfl

/-- The kernel's whole result is the reference's. -/
theorem result : (dats m 0 c).arrAt 2 cfg0.N = Cert.EmbedWeightRefIdeal.Read.val_main_v4 (F := Ideal) (m ((c : Thread nD τ).loc main_arg0)) (m ((c : Thread nD τ).loc main_arg1)) := by
  refine (dats m 0 c).arrAt_eq_of_after_last 2 t0_1 (by decide +kernel) _ fun j => ?_
  obtain ⟨p, q, rfl⟩ : ∃ (p : Fin 256) (q : Fin 1024), j = ix2 (n0 := 256) (n1 := 1024) p q :=
    ⟨j 0, j 1, by funext a; fin_cases a <;> rfl⟩
  rw [after0_2]
  exact total m c p q

/-- The kernel as it runs: it terminates without a fault, keeps its arguments, and leaves every counter at zero. -/
theorem frame_kernel : Cert.quiescent_EmbedWeight := fun m ρ _ => Cert.EmbedWeight.Gen.frame m ρ

/-- The kernel over exact values: the same. -/
theorem frame_ideal : Cert.quiescent_EmbedWeightIdeal := fun m ρ _ => Cert.EmbedWeightIdeal.Gen.frame m ρ

/-- The reference: the same, from its run; it has no counters. -/
theorem frame_reference : Cert.quiescent_EmbedWeightRefIdeal := fun m ρ _ =>
  (θ_run Cert.EmbedWeightRefIdeal.defs _ _).mono
    (fun r h => ⟨fun c => (h c).2, sem_eq_zero_of_no_sems (by decide) r.2⟩)
    (Cert.EmbedWeightRefIdeal.Value.run (F := Ideal) m ρ)

/-- No operation was replaced between the kernel and its exact form. -/
theorem preserves : Cert.preserves_EmbedWeight_EmbedWeightIdeal := trivial

/-- Over exact values the kernel's gradient of the per-layer embedding's projection is the reference's. -/
theorem algebraic : Cert.algebraic_EmbedWeightIdeal_EmbedWeightRefIdeal := by
  intro m ρ m' ρ' _ hagree
  refine ⟨fun c => Cert.EmbedWeightRefIdeal.Read.val_main_v4 (F := Ideal) (m ((c.tc : Thread nD τ).loc main_arg0)) (m ((c.tc : Thread nD τ).loc main_arg1)), ?_, ?_⟩
  · refine (θ_run Cert.EmbedWeightIdeal.defs _ _).mono (fun r h c => ?_) (Cert.EmbedWeightIdeal.Value.run_blocks (F := Ideal) m ρ)
    obtain ⟨h0, hrest⟩ := h c
    exact ⟨h0.trans (result m c), hrest⟩
  · refine (θ_run Cert.EmbedWeightRefIdeal.defs _ _).mono (fun r h c => ?_) (Cert.EmbedWeightRefIdeal.Value.run (F := Ideal) m' ρ')
    obtain ⟨h0, hrest⟩ := h c
    obtain ⟨e0, e1⟩ := hagree c
    have l0 : m' ((c.tc : Thread Cert.EmbedWeightRefIdeal.nD Cert.EmbedWeightRefIdeal.τ).loc Cert.EmbedWeightRefIdeal.main_arg0) = m ((c.tc : Thread nD τ).loc main_arg0) := e0
    have l1 : m' ((c.tc : Thread Cert.EmbedWeightRefIdeal.nD Cert.EmbedWeightRefIdeal.τ).loc Cert.EmbedWeightRefIdeal.main_arg1) = m ((c.tc : Thread nD τ).loc main_arg1) := e1
    refine ⟨?_, hrest⟩
    · refine (h0.trans (Cert.EmbedWeightRefIdeal.Read.val_main_v4_eq _ _)).trans ?_
      rw [l0, l1]

end Cert.EmbedWeightProof
end
-- ==== Proof.ProjIdealBody.lean ====
/- The forward projection's body at a grid point, over exact values. The first of a row block's five points normalises the
   rows and stores them with the small projection; the four after it read the normalised rows back and store none: each point
   stores its own block of the wide projection. The run of the whole grid, and that it keeps the arguments. -/
module

public import proofs.«01_k».proof.Proof.Gen.ProjIdeal.Frame
public import proofs.«01_k».proof.Proof.Gen.ProjIdeal.Skeleton
public import Idealize.ShloMosaic.Lib.Pipeline.FrameBody
public import Idealize.ShloMosaic.Lib.Pipeline.TableIdle
public import Idealize.ShloMosaic.Lib.Pipeline.ValueKit.Acc
public import Idealize.ShloMosaic.Lib.Ring
public import Idealize.ShloMosaic.Lib.Tactic
public import Idealize.ShloMosaic.Lib.Claim

@[expose] public section

set_option maxRecDepth 16384
set_option maxHeartbeats 0

noncomputable section

namespace Cert.ProjIdeal.Body
open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem hz : (![0, 0] : Fin 2 → Nat) = fun _ => 0 := by funext i; fin_cases i <;> rfl
theorem bound {q : ℕ} (h : q < 40) : q < cfg0.N := lt_of_lt_of_eq h N_0.symm
theorem lt_N (t : Fin cfg0.N) : t.val < 40 := lt_of_lt_of_eq t.isLt N_0

/-- The first point of the row block that a point works on. -/
def first (t : Fin cfg0.N) : Fin cfg0.N := ⟨5 * (t.val / 5), bound (by have := lt_N t; omega)⟩

theorem first_self (t : Fin cfg0.N) (h : t.val % 5 = 0) : first t = t := Fin.ext (by unfold first; dsimp only; omega)
theorem first_prev (t : Fin cfg0.N) (h : t.val % 5 ≠ 0) :
    first ⟨t.val - 1, Nat.lt_of_le_of_lt (Nat.sub_le _ _) t.isLt⟩ = first t := Fin.ext (by unfold first; dsimp only; omega)

/-- The branch is taken at the first point of each row block. -/
theorem cond_iff : ∀ t : Fin cfg0.N, k0_cond1 (grid0.coords t) = 1#1 ↔ t.val % 5 = 0 :=
  (by decide +kernel : ∀ t : Fin grid0.N, k0_cond1 (grid0.coords t) = 1#1 ↔ t.val % 5 = 0)

theorem idle4 (t : Fin cfg0.N) (h : t.val % 5 ≠ 0) : cfg0.idle 4 (cfg0.grid.coords t) = true := by
  show (!(k0_cond1 (grid0.coords t) == 1#1)) = true
  have : k0_cond1 (grid0.coords t) ≠ 1#1 := fun e => h ((cond_iff t).mp e)
  simpa using this
theorem live4 (t : Fin cfg0.N) (h : t.val % 5 = 0) : cfg0.idle 4 (cfg0.grid.coords t) = false := by
  show (!(k0_cond1 (grid0.coords t) == 1#1)) = false
  rw [(cond_iff t).mpr h]; rfl
theorem idle6 (t : Fin cfg0.N) (h : t.val % 5 ≠ 0) : cfg0.idle 6 (cfg0.grid.coords t) = true := idle4 t h
theorem live6 (t : Fin cfg0.N) (h : t.val % 5 = 0) : cfg0.idle 6 (cfg0.grid.coords t) = false := live4 t h
theorem noflush4 (t : Fin cfg0.N) (h : t.val % 5 ≠ 4) : (cfg0.win 4).flush t = false :=
  Bool.eq_false_iff.mpr fun e => h ((flush0_4 t).mp e)
theorem noflush6 (t : Fin cfg0.N) (h : t.val % 5 ≠ 4) : (cfg0.win 6).flush t = false :=
  Bool.eq_false_iff.mpr fun e => h ((flush0_6 t).mp e)

/-- The buffer of the normalised rows holds nothing yet at the first point of a row block, and only there. -/
theorem fresh4 : ∀ n, n ≤ cfg0.N → cfg0.fresh 4 n = decide (n % 5 = 0) :=
  Cfg.fresh_tab cfg0 4 (fun n => decide (n % 5 = 0)) rfl fun t => by
    by_cases h : t.val % 5 = 4
    · rw [(flush0_4 t).mpr h]; simp; omega
    · rw [noflush4 t h]
      by_cases h0 : t.val % 5 = 0
      · rw [live4 t h0]; simp; omega
      · rw [idle4 t h0]; simp [h0]; omega
theorem fresh6 : ∀ n, n ≤ cfg0.N → cfg0.fresh 6 n = decide (n % 5 = 0) :=
  Cfg.fresh_tab cfg0 6 (fun n => decide (n % 5 = 0)) rfl fun t => by
    by_cases h : t.val % 5 = 4
    · rw [(flush0_6 t).mpr h]; simp; omega
    · rw [noflush6 t h]
      by_cases h0 : t.val % 5 = 0
      · rw [live6 t h0]; simp; omega
      · rw [idle6 t h0]; simp [h0]; omega

variable {F : FTy → Type} [FloatOps F]

variable (m : (ℓ : Loc nD τ sig) → Buf (Elt F) ℓ) (ρ : Dev nD → PrngReg)

/-- The body at the first point of a row block: the pieces it stores into its three results. -/
def runA (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x2048 .bf16) (harg7 : arg7.IsWhole) (arg8 : Memref sig .tc .vmem S1024x512 .f32) (harg8 : arg8.IsWhole) (hc0 : k0_cond1 i = 1#1)
    (x0 : Vec F S1024x1024 .f32) (x1 : Vec F S1x1024 .f32) (x2 : Vec F S1024x2048 .bf16) (x3 : Vec F S1024x512 .bf16) :
    Σ' (L4 : List (View.Piece (Elt F) S1024x1024 .bf16)) (L5 : List (View.Piece (Elt F) S1024x2048 .bf16)), { L6 : List (View.Piece (Elt F) S1024x512 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0_proj i arg2 harg2 arg3 harg3 arg4 harg4 arg5 harg5 arg6 harg6 arg7 harg7 arg8 harg8) K } := by
  refine ⟨?_, ?_, ?_, fun E K => ?run⟩
  case run =>
    simp only [cc0_proj_eq_skeleton]; unfold cc0_proj_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

/-- The body at a later point of a row block: the pieces it stores into the wide projection; the normalised rows and the small
    projection stay as they were. -/
def runB (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x2048 .bf16) (harg7 : arg7.IsWhole) (arg8 : Memref sig .tc .vmem S1024x512 .f32) (harg8 : arg8.IsWhole) (hc0 : ¬k0_cond1 i = 1#1)
    (x0 : Vec F S1024x1024 .f32) (x1 : Vec F S1x1024 .f32) (x2 : Vec F S1024x2048 .bf16) (x3 : Vec F S1024x512 .bf16) (xo4 : Vec F S1024x1024 .bf16) (xo6 : Vec F S1024x512 .f32) :
    { L5 : List (View.Piece (Elt F) S1024x2048 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ (∃ d, owns (c : Thread nD τ) arg7 fullShare d) ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ (∃ f, arg7.view.loc (c : Thread nD τ) ↦[arg7.view.set]{fullShare} arg7.view.writes (Elt F) f L5) ∗ owns (c : Thread nD τ) arg8 fullShare xo6) -∗ K ⟨⟩))
          ⊢ wp frame (wpE (defs₀ (F := F)) Variants.none c none) E (cc0_proj i arg2 harg2 arg3 harg3 arg4 harg4 arg5 harg5 arg6 harg6 arg7 harg7 arg8 harg8) K } := by
  refine ⟨?_, fun E K => ?run⟩
  case run =>
    simp only [cc0_proj_eq_skeleton]; unfold cc0_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg2.eq_unread hf0; obtain rfl := harg3.eq_unread hf1; obtain rfl := harg4.eq_unread hf2; obtain rfl := harg5.eq_unread hf3
    obtain rfl := harg6.eq_unread hf4; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg8.read_unread _
    iexact H6

theorem coverA6 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x2048 .bf16) (harg7 : arg7.IsWhole) (arg8 : Memref sig .tc .vmem S1024x512 .f32) (harg8 : arg8.IsWhole) (hc0 : k0_cond1 i = 1#1) (x0 : Vec F S1024x1024 .f32) (x1 : Vec F S1x1024 .f32) (x2 : Vec F S1024x2048 .bf16) (x3 : Vec F S1024x512 .bf16) (y : S1024x1024.Idx) :
    ∃ pc ∈ (runA c i arg2 harg2 arg3 harg3 arg4 harg4 arg5 harg5 arg6 harg6 arg7 harg7 arg8 harg8 hc0 x0 x1 x2 x3).1, y ∈ pc.1.set :=
  View.cover_of_tiledL (runA c i arg2 harg2 arg3 harg3 arg4 harg4 arg5 harg5 arg6 harg6 arg7 harg7 arg8 harg8 hc0 x0 x1 x2 x3).1 S1024x1024.size (by sl_kernel_rfl) y

/-- The first point stores the normalised rows. -/
theorem outA6 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x2048 .bf16) (harg7 : arg7.IsWhole) (arg8 : Memref sig .tc .vmem S1024x512 .f32) (harg8 : arg8.IsWhole) (hc0 : k0_cond1 i = 1#1) (x0 : Vec F S1024x1024 .f32) (x1 : Vec F S1x1024 .f32) (x2 : Vec F S1024x2048 .bf16) (x3 : Vec F S1024x512 .bf16) (f : Buf (Elt F) (arg6.view.loc (c : Thread nD τ))) :
    arg6.view.read (Elt F) (arg6.view.writes (Elt F) f (runA c i arg2 harg2 arg3 harg3 arg4 harg4 arg5 harg5 arg6 harg6 arg7 harg7 arg8 harg8 hc0 x0 x1 x2 x3).1) = k0_pay1 x0 x1 := by
  rw [View.read_writes_eq_canon _ _ _ (coverA6 c i arg2 harg2 arg3 harg3 arg4 harg4 arg5 harg5 arg6 harg6 arg7 harg7 arg8 harg8 hc0 x0 x1 x2 x3)]
  unfold runA
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1024x1024) hz, View.ld_unit_zero (S := S1024x2048) hz, View.ld_unit_zero (S := S1024x512) hz, View.ld_unit_zero (S := S1x1024) hz, View.readCov_unit_zero (S := S1024x1024) _ hz]

theorem coverA7 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x2048 .bf16) (harg7 : arg7.IsWhole) (arg8 : Memref sig .tc .vmem S1024x512 .f32) (harg8 : arg8.IsWhole) (hc0 : k0_cond1 i = 1#1) (x0 : Vec F S1024x1024 .f32) (x1 : Vec F S1x1024 .f32) (x2 : Vec F S1024x2048 .bf16) (x3 : Vec F S1024x512 .bf16) (y : S1024x2048.Idx) :
    ∃ pc ∈ (runA c i arg2 harg2 arg3 harg3 arg4 harg4 arg5 harg5 arg6 harg6 arg7 harg7 arg8 harg8 hc0 x0 x1 x2 x3).2.1, y ∈ pc.1.set :=
  View.cover_of_tiledL (runA c i arg2 harg2 arg3 harg3 arg4 harg4 arg5 harg5 arg6 harg6 arg7 harg7 arg8 harg8 hc0 x0 x1 x2 x3).2.1 S1024x2048.size (by sl_kernel_rfl) y

/-- The first point's block of the wide projection. -/
theorem outA7 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x2048 .bf16) (harg7 : arg7.IsWhole) (arg8 : Memref sig .tc .vmem S1024x512 .f32) (harg8 : arg8.IsWhole) (hc0 : k0_cond1 i = 1#1) (x0 : Vec F S1024x1024 .f32) (x1 : Vec F S1x1024 .f32) (x2 : Vec F S1024x2048 .bf16) (x3 : Vec F S1024x512 .bf16) (f : Buf (Elt F) (arg7.view.loc (c : Thread nD τ))) :
    arg7.view.read (Elt F) (arg7.view.writes (Elt F) f (runA c i arg2 harg2 arg3 harg3 arg4 harg4 arg5 harg5 arg6 harg6 arg7 harg7 arg8 harg8 hc0 x0 x1 x2 x3).2.1) = k0_pay3 (k0_pay1 x0 x1) x2 := by
  rw [View.read_writes_eq_canon _ _ _ (coverA7 c i arg2 harg2 arg3 harg3 arg4 harg4 arg5 harg5 arg6 harg6 arg7 harg7 arg8 harg8 hc0 x0 x1 x2 x3)]
  unfold runA
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1024x1024) hz, View.ld_unit_zero (S := S1024x2048) hz, View.ld_unit_zero (S := S1024x512) hz, View.ld_unit_zero (S := S1x1024) hz, View.readCov_unit_zero (S := S1024x1024) _ hz]

theorem coverA8 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x2048 .bf16) (harg7 : arg7.IsWhole) (arg8 : Memref sig .tc .vmem S1024x512 .f32) (harg8 : arg8.IsWhole) (hc0 : k0_cond1 i = 1#1) (x0 : Vec F S1024x1024 .f32) (x1 : Vec F S1x1024 .f32) (x2 : Vec F S1024x2048 .bf16) (x3 : Vec F S1024x512 .bf16) (y : S1024x512.Idx) :
    ∃ pc ∈ (runA c i arg2 harg2 arg3 harg3 arg4 harg4 arg5 harg5 arg6 harg6 arg7 harg7 arg8 harg8 hc0 x0 x1 x2 x3).2.2.1, y ∈ pc.1.set :=
  View.cover_of_tiledL (runA c i arg2 harg2 arg3 harg3 arg4 harg4 arg5 harg5 arg6 harg6 arg7 harg7 arg8 harg8 hc0 x0 x1 x2 x3).2.2.1 S1024x512.size (by sl_kernel_rfl) y

/-- The first point's small projection. -/
theorem outA8 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x2048 .bf16) (harg7 : arg7.IsWhole) (arg8 : Memref sig .tc .vmem S1024x512 .f32) (harg8 : arg8.IsWhole) (hc0 : k0_cond1 i = 1#1) (x0 : Vec F S1024x1024 .f32) (x1 : Vec F S1x1024 .f32) (x2 : Vec F S1024x2048 .bf16) (x3 : Vec F S1024x512 .bf16) (f : Buf (Elt F) (arg8.view.loc (c : Thread nD τ))) :
    arg8.view.read (Elt F) (arg8.view.writes (Elt F) f (runA c i arg2 harg2 arg3 harg3 arg4 harg4 arg5 harg5 arg6 harg6 arg7 harg7 arg8 harg8 hc0 x0 x1 x2 x3).2.2.1) = k0_pay2 (k0_pay1 x0 x1) x3 := by
  rw [View.read_writes_eq_canon _ _ _ (coverA8 c i arg2 harg2 arg3 harg3 arg4 harg4 arg5 harg5 arg6 harg6 arg7 harg7 arg8 harg8 hc0 x0 x1 x2 x3)]
  unfold runA
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1024x1024) hz, View.ld_unit_zero (S := S1024x2048) hz, View.ld_unit_zero (S := S1024x512) hz, View.ld_unit_zero (S := S1x1024) hz, View.readCov_unit_zero (S := S1024x1024) _ hz]

theorem coverB7 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x2048 .bf16) (harg7 : arg7.IsWhole) (arg8 : Memref sig .tc .vmem S1024x512 .f32) (harg8 : arg8.IsWhole) (hc0 : ¬k0_cond1 i = 1#1) (x0 : Vec F S1024x1024 .f32) (x1 : Vec F S1x1024 .f32) (x2 : Vec F S1024x2048 .bf16) (x3 : Vec F S1024x512 .bf16) (xo4 : Vec F S1024x1024 .bf16) (xo6 : Vec F S1024x512 .f32) (y : S1024x2048.Idx) :
    ∃ pc ∈ (runB c i arg2 harg2 arg3 harg3 arg4 harg4 arg5 harg5 arg6 harg6 arg7 harg7 arg8 harg8 hc0 x0 x1 x2 x3 xo4 xo6).1, y ∈ pc.1.set :=
  View.cover_of_tiledL (runB c i arg2 harg2 arg3 harg3 arg4 harg4 arg5 harg5 arg6 harg6 arg7 harg7 arg8 harg8 hc0 x0 x1 x2 x3 xo4 xo6).1 S1024x2048.size (by sl_kernel_rfl) y

/-- A later point's block of the wide projection, of the rows it finds. -/
theorem outB7 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x2048 .bf16) (harg7 : arg7.IsWhole) (arg8 : Memref sig .tc .vmem S1024x512 .f32) (harg8 : arg8.IsWhole) (hc0 : ¬k0_cond1 i = 1#1) (x0 : Vec F S1024x1024 .f32) (x1 : Vec F S1x1024 .f32) (x2 : Vec F S1024x2048 .bf16) (x3 : Vec F S1024x512 .bf16) (xo4 : Vec F S1024x1024 .bf16) (xo6 : Vec F S1024x512 .f32) (f : Buf (Elt F) (arg7.view.loc (c : Thread nD τ))) :
    arg7.view.read (Elt F) (arg7.view.writes (Elt F) f (runB c i arg2 harg2 arg3 harg3 arg4 harg4 arg5 harg5 arg6 harg6 arg7 harg7 arg8 harg8 hc0 x0 x1 x2 x3 xo4 xo6).1) = k0_pay3 xo4 x2 := by
  rw [View.read_writes_eq_canon _ _ _ (coverB7 c i arg2 harg2 arg3 harg3 arg4 harg4 arg5 harg5 arg6 harg6 arg7 harg7 arg8 harg8 hc0 x0 x1 x2 x3 xo4 xo6)]
  unfold runB
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1024x1024) hz, View.ld_unit_zero (S := S1024x2048) hz, View.ld_unit_zero (S := S1024x512) hz, View.ld_unit_zero (S := S1x1024) hz]

abbrev ms0 (t : Fin cfg0.N) : Memref sig .tc .vmem S1024x1024 .f32 := win0_0.stage (cfg0.slots t 0)
abbrev ms1 (t : Fin cfg0.N) : Memref sig .tc .vmem S1x1024 .f32 := win0_1.stage (cfg0.slots t 1)
abbrev ms2 (t : Fin cfg0.N) : Memref sig .tc .vmem S1024x2048 .bf16 := win0_2.stage (cfg0.slots t 2)
abbrev ms3 (t : Fin cfg0.N) : Memref sig .tc .vmem S1024x512 .bf16 := win0_3.stage (cfg0.slots t 3)
abbrev ms4 (t : Fin cfg0.N) : Memref sig .tc .vmem S1024x1024 .bf16 := win0_4.stage (cfg0.slots t 4)
abbrev ms5 (t : Fin cfg0.N) : Memref sig .tc .vmem S1024x2048 .bf16 := win0_5.stage (cfg0.slots t 5)
abbrev ms6 (t : Fin cfg0.N) : Memref sig .tc .vmem S1024x512 .f32 := win0_6.stage (cfg0.slots t 6)

/-- The normalised rows a point works on: those the first point of its row block made. -/
def rows (c : Dev nD) (t : Fin cfg0.N) : Vec F S1024x1024 .bf16 := k0_pay1 (iblk m c 0 (first t)) (iblk m c 1 (first t))
/-- Its block of the wide projection. -/
def wide (c : Dev nD) (t : Fin cfg0.N) : Vec F S1024x2048 .bf16 := k0_pay3 (rows m c t) (iblk m c 2 t)
/-- Its rows' small projection. -/
def small (c : Dev nD) (t : Fin cfg0.N) : Vec F S1024x512 .f32 := k0_pay2 (rows m c t) (iblk m c 3 (first t))

/-- What each buffer holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rows m c t
    | ⟨5, _⟩ => wide m c t
    | ⟨6, _⟩ => small m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = rows m c t := by dsimp only [dats]
theorem after5 (c : Dev nD) (t : Fin cfg0.N) : (dats m 0 c).after 5 t = wide m c t := by dsimp only [dats]
theorem after6 (c : Dev nD) (t : Fin cfg0.N) : (dats m 0 c).after 6 t = small m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- A later point of a row block finds the normalised rows as the first point left them. -/
theorem before4 (c : Dev nD) (t : Fin cfg0.N) (h : t.val % 5 ≠ 0) (d) : (dats m 0 c).before 4 t d = rows m c t := by
  rw [(dats m 0 c).before_out_traj 4 rfl (fun _ _ => rfl) (fun s hs hi hf => ?_) t.val t rfl d, fresh4 t.val (Nat.le_of_lt t.isLt),
    if_neg (by simpa using h), after4]
  · unfold rows; rw [first_prev t h]
  · rw [fresh4 s.val (Nat.le_of_lt s.isLt)] at hf
    rw [after4, after4]
    unfold rows; rw [first_prev s (by simpa using hf)]

/-- A later point of a row block finds the small projection as the first point left them. -/
theorem before6 (c : Dev nD) (t : Fin cfg0.N) (h : t.val % 5 ≠ 0) (d) : (dats m 0 c).before 6 t d = small m c t := by
  rw [(dats m 0 c).before_out_traj 6 rfl (fun _ _ => rfl) (fun s hs hi hf => ?_) t.val t rfl d, fresh6 t.val (Nat.le_of_lt t.isLt),
    if_neg (by simpa using h), after6]
  · unfold small; unfold rows; rw [first_prev t h]
  · rw [fresh6 s.val (Nat.le_of_lt s.isLt)] at hf
    rw [after6, after6]
    unfold small; unfold rows; rw [first_prev s (by simpa using hf)]

/-- What the body is given at a point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- What it gives back. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after3]
theorem leaves5 (c : Dev nD) (t : Fin cfg0.N) : (dats m 0 c).leavesExact 5 t = owns (c : Thread nD τ) (ms5 t) fullShare (wide m c t) := by
  unfold Dat.leavesExact; rw [show cfg0.idle 5 (cfg0.grid.coords t) = false from rfl, after5]
theorem leaves4_first (c : Dev nD) (t : Fin cfg0.N) (h : t.val % 5 = 0) : (dats m 0 c).leavesExact 4 t = owns (c : Thread nD τ) (ms4 t) fullShare (rows m c t) := by
  unfold Dat.leavesExact; rw [live4 t h, after4]
theorem leaves4_last (c : Dev nD) (t : Fin cfg0.N) (h : t.val % 5 = 4) : (dats m 0 c).leavesExact 4 t = owns (c : Thread nD τ) (ms4 t) fullShare (rows m c t) := by
  unfold Dat.leavesExact; rw [idle4 t (by omega), (flush0_4 t).mpr h, after4]
theorem leaves4_mid (c : Dev nD) (t : Fin cfg0.N) (h : t.val % 5 ≠ 0) (h4 : t.val % 5 ≠ 4) : (dats m 0 c).leavesExact 4 t = iprop(∃ d, owns (c : Thread nD τ) (ms4 t) fullShare ((dats m 0 c).before 4 t d)) :=
  Dat.leavesExact_idle (dats m 0 c) 4 t (idle4 t h) (noflush4 t h4)
theorem leaves4_later (c : Dev nD) (t : Fin cfg0.N) (h : t.val % 5 ≠ 0) : owns (c : Thread nD τ) (ms4 t) fullShare (rows m c t) ⊢ ((dats m 0 c).leavesExact 4 t : sProp (MT nD τ sig Unit (Elt F) ℕ (UR sig nD τ) ℕ)) := by
  by_cases h4 : t.val % 5 = 4
  · rw [leaves4_last m c t h4]
  · rw [leaves4_mid m c t h h4]
    simp only [before4 m c t h]
    iintro H; iexists (rows m c t); iexact H
theorem leaves6_first (c : Dev nD) (t : Fin cfg0.N) (h : t.val % 5 = 0) : (dats m 0 c).leavesExact 6 t = owns (c : Thread nD τ) (ms6 t) fullShare (small m c t) := by
  unfold Dat.leavesExact; rw [live6 t h, after6]
theorem leaves6_last (c : Dev nD) (t : Fin cfg0.N) (h : t.val % 5 = 4) : (dats m 0 c).leavesExact 6 t = owns (c : Thread nD τ) (ms6 t) fullShare (small m c t) := by
  unfold Dat.leavesExact; rw [idle6 t (by omega), (flush0_6 t).mpr h, after6]
theorem leaves6_mid (c : Dev nD) (t : Fin cfg0.N) (h : t.val % 5 ≠ 0) (h4 : t.val % 5 ≠ 4) : (dats m 0 c).leavesExact 6 t = iprop(∃ d, owns (c : Thread nD τ) (ms6 t) fullShare ((dats m 0 c).before 6 t d)) :=
  Dat.leavesExact_idle (dats m 0 c) 6 t (idle6 t h) (noflush6 t h4)
theorem leaves6_later (c : Dev nD) (t : Fin cfg0.N) (h : t.val % 5 ≠ 0) : owns (c : Thread nD τ) (ms6 t) fullShare (small m c t) ⊢ ((dats m 0 c).leavesExact 6 t : sProp (MT nD τ sig Unit (Elt F) ℕ (UR sig nD τ) ℕ)) := by
  by_cases h4 : t.val % 5 = 4
  · rw [leaves6_last m c t h4]
  · rw [leaves6_mid m c t h h4]
    simp only [before6 m c t h]
    iintro H; iexists (small m c t); iexact H

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    leaves0, leaves1, leaves2, leaves3, leaves5]
  by_cases h0 : t.val % 5 = 0
  · rw [leaves4_first m c t h0, leaves6_first m c t h0]
    unfold wide small rows; rw [first_self t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ _ _ _ _ ((cond_iff t).mpr h0) (iblk m c 0 t) (iblk m c 1 t) (iblk m c 2 t) (iblk m c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact outA6 c _ _ _ _ _ _ _ _ _ _ _ _ _ _ _ _ _ _ _ _ _
    isplitl [H5]
    · unfold owns; iexists _; isplitr
      swap; · iexact H5
      ipureintro; exact outA7 c _ _ _ _ _ _ _ _ _ _ _ _ _ _ _ _ _ _ _ _ _
    unfold owns; iexists _; isplitr
    swap; · iexact H6
    ipureintro; exact outA8 c _ _ _ _ _ _ _ _ _ _ _ _ _ _ _ _ _ _ _ _ _
  · simp only [before4 m c t h0, before6 m c t h0]
    unfold wide
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runB c (grid0.coords t) _ _ _ _ _ _ _ _ _ _ _ _ _ _ (fun h => h0 ((cond_iff t).mp h)) (iblk m c 0 t) (iblk m c 1 t) (iblk m c 2 t) (iblk m c 3 t) (rows m c t) (small m c t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply (leaves4_later m c t h0); iexact H4
    isplitl [H5]
    · unfold owns; iexists _; isplitr
      swap; · iexact H5
      ipureintro; exact outB7 c _ _ _ _ _ _ _ _ _ _ _ _ _ _ _ _ _ _ _ _ _ _ _
    iapply (leaves6_later m c t h0); iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole grid: every array ends as the body leaves it, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

/-- The three results end at what the points wrote back, the arguments as they were. -/
theorem run_blocks : θ_run defs (onTc (τ := τ) (main (F := F))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_v0_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4, (h c).1 5, (h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.ProjIdeal.Body

end
-- ==== Proof.Proj.lean ====
/- The forward projection: a row block's normalised rows, and each block of the two projections of them, are the
   reference's. -/
module

public import proofs.«01_k».proof.Defs
public import proofs.«01_k».proof.Proof.ProjBody
public import proofs.«01_k».proof.Proof.ProjIdealBody
public import proofs.«01_k».proof.Proof.Gen.ProjRefIdeal.Run
public import proofs.«01_k».proof.Proof.Gen.ProjRefIdeal.Read
public import proofs.«01_k».proof.Proof.Norm
public import Idealize.ShloMosaic.Lib.Pipeline.ValueKit.Acc
public import Idealize.ShloMosaic.Lib.Pipeline.ValueKit.Partial
public import Idealize.ShloMosaic.Lib.Pointwise
public import Idealize.ShloMosaic.Lib.Tactic
public import Idealize.ShloMosaic.Adequacy
public import Idealize.ShloMosaic.Init

@[expose] public section

set_option maxRecDepth 16384
set_option maxHeartbeats 0

noncomputable section
open Idealize.ShloMosaic Idealize.ShloMosaic.TcCoe Idealize.SL.Sem
open Idealize.ShloMosaic.Pipeline (Dat)
namespace Cert.ProjProof
open Cert.ProjIdeal Cert.ProjIdeal.Gen Cert.ProjIdeal.Body

/-- A normalised row, scaled. -/
def scaled (x g : Norm.Row) (j : Fin 1024) : EReal := x j * Norm.inv x * g j

theorem rows_apply (x0 : Vec Ideal S1024x1024 .f32) (x1 : Vec Ideal S1x1024 .f32) (i : Fin 1024) (j : Fin 1024) :
    k0_pay1 x0 x1 (ix2 i j) = scaled (fun k => x0 (ix2 i k)) (fun k => x1 (ix2 0 k)) j := by
  pointwise [scaled, Norm.inv, Norm.meanSq, k0_pay1, Fin.sum_univ_one]

theorem small_apply (y : Vec Ideal S1024x1024 .bf16) (x3 : Vec Ideal S1024x512 .bf16) (i : Fin 1024) (j : Fin 512) :
    k0_pay2 y x3 (ix2 i j) = ∑ k : Fin 1024, y (ix2 i k) * x3 (ix2 k j) := by
  pointwise [k0_pay2]

theorem wide_apply (y : Vec Ideal S1024x1024 .bf16) (x2 : Vec Ideal S1024x2048 .bf16) (i : Fin 1024) (j : Fin 2048) :
    k0_pay3 y x2 (ix2 i j) = ∑ k : Fin 1024, y (ix2 i k) * x2 (ix2 k j) := by
  pointwise [k0_pay3]

/-- The reference's normalised rows at an index. -/
theorem ref_rows (x0 : Vec Ideal S8192x1024 .f32) (x1 : Vec Ideal S1x1024 .f32) (i : Fin 8192) (j : Fin 1024) :
    Cert.ProjRefIdeal.Read.val_main_v13 (F := Ideal) x0 x1 (ix2 i j) = scaled (fun k => x0 (ix2 i k)) (fun k => x1 (ix2 0 k)) j := by
  pointwise [scaled, Norm.inv, Norm.meanSq, Fin.sum_univ_one, Cert.ProjRefIdeal.Read.val_main_v13, Cert.ProjRefIdeal.Read.val_main_v12, Cert.ProjRefIdeal.Read.val_main_v11, Cert.ProjRefIdeal.Read.val_main_v10, Cert.ProjRefIdeal.Read.val_main_v9, Cert.ProjRefIdeal.Read.val_main_v8, Cert.ProjRefIdeal.Read.val_main_v7, Cert.ProjRefIdeal.Read.val_main_v6, Cert.ProjRefIdeal.Read.val_main_v5, Cert.ProjRefIdeal.Read.val_main_v4, Cert.ProjRefIdeal.Read.val_main_v3, Cert.ProjRefIdeal.Read.val_main_v2, Cert.ProjRefIdeal.Read.val_main_v1, Cert.ProjRefIdeal.Read.val_main_v0, Cert.ProjRefIdeal.Read.val_main_cst, Cert.ProjRefIdeal.Read.val_main_cst_0, Cert.ProjRefIdeal.Read.val_main_cst_1]

/-- The reference's wide projection at an index. -/
theorem ref_wide (x0 : Vec Ideal S8192x1024 .f32) (x1 : Vec Ideal S1x1024 .f32) (x2 : Vec Ideal S1024x10240 .bf16) (i : Fin 8192) (j : Fin 10240) :
    Cert.ProjRefIdeal.Read.val_main_v17 (F := Ideal) x0 x1 x2 (ix2 i j) = ∑ k : Fin 1024, Cert.ProjRefIdeal.Read.val_main_v13 (F := Ideal) x0 x1 (ix2 i k) * x2 (ix2 k j) := by
  pointwise [Cert.ProjRefIdeal.Read.val_main_v17, Cert.ProjRefIdeal.Read.val_main_v16, Cert.ProjRefIdeal.Read.val_main_v15]

/-- The reference's small projection at an index. -/
theorem ref_small (x0 : Vec Ideal S8192x1024 .f32) (x1 : Vec Ideal S1x1024 .f32) (x3 : Vec Ideal S1024x512 .bf16) (i : Fin 8192) (j : Fin 512) :
    Cert.ProjRefIdeal.Read.val_main_v19 (F := Ideal) x0 x1 x3 (ix2 i j) = ∑ k : Fin 1024, Cert.ProjRefIdeal.Read.val_main_v13 (F := Ideal) x0 x1 (ix2 i k) * x3 (ix2 k j) := by
  pointwise [Cert.ProjRefIdeal.Read.val_main_v19, Cert.ProjRefIdeal.Read.val_main_v18]

variable (m : (ℓ : Loc nD τ sig) → Buf (Elt Ideal) ℓ) (c : Dev nD)
theorem ix_0 : ∀ t : Fin cfg0.N, win0_0.index t = ![t.val / 5, 0] := (by decide +kernel : ∀ t : Fin grid0.N, win0_0.index t = ![t.val / 5, 0])
theorem ix_1 : ∀ t : Fin cfg0.N, win0_1.index t = ![0, 0] := (by decide +kernel : ∀ t : Fin grid0.N, win0_1.index t = ![0, 0])
theorem ix_2 : ∀ t : Fin cfg0.N, win0_2.index t = ![0, t.val % 5] := (by decide +kernel : ∀ t : Fin grid0.N, win0_2.index t = ![0, t.val % 5])
theorem ix_3 : ∀ t : Fin cfg0.N, win0_3.index t = ![0, 0] := (by decide +kernel : ∀ t : Fin grid0.N, win0_3.index t = ![0, 0])
theorem ix_4 : ∀ t : Fin cfg0.N, win0_4.index t = ![t.val / 5, 0] := (by decide +kernel : ∀ t : Fin grid0.N, win0_4.index t = ![t.val / 5, 0])
theorem ix_5 : ∀ t : Fin cfg0.N, win0_5.index t = ![t.val / 5, t.val % 5] := (by decide +kernel : ∀ t : Fin grid0.N, win0_5.index t = ![t.val / 5, t.val % 5])
theorem ix_6 : ∀ t : Fin cfg0.N, win0_6.index t = ![t.val / 5, 0] := (by decide +kernel : ∀ t : Fin grid0.N, win0_6.index t = ![t.val / 5, 0])

theorem block0 (t : Fin cfg0.N) (i : Fin 1024) (k : Fin 1024) :
    iblk m c 0 t (ix2 i k) = m ((c : Thread nD τ).loc main_arg0) (ix2 ⟨1024 * (t.val / 5) + i.val, by have := lt_N t; omega⟩ k) := by
  rw [← V_main_arg0 m c]; blk_simp [iblk]; refine congrArg _ ?_; blk_ext [ix_0 t]

theorem block2 (t : Fin cfg0.N) (k : Fin 1024) (j : Fin 2048) :
    iblk m c 2 t (ix2 k j) = m ((c : Thread nD τ).loc main_arg2) (ix2 k ⟨2048 * (t.val % 5) + j.val, by omega⟩) := by
  rw [← V_main_arg2 m c]; blk_simp [iblk]; refine congrArg _ ?_; blk_ext [ix_2 t]

theorem block1 (t : Fin cfg0.N) : iblk m c 1 t = m ((c : Thread nD τ).loc main_arg1) := by
  funext j; rw [← V_main_arg1 m c]; blk_simp [iblk]; refine congrArg _ ?_; blk_ext [ix_1 t]

theorem block3 (t : Fin cfg0.N) : iblk m c 3 t = m ((c : Thread nD τ).loc main_arg3) := by
  funext j; rw [← V_main_arg3 m c]; blk_simp [iblk]; refine congrArg _ ?_; blk_ext [ix_3 t]

/-- The rows a point works on are the reference's normalised rows. -/
theorem tile_rows (t : Fin cfg0.N) (i : Fin 1024) (j : Fin 1024) :
    rows m c t (ix2 i j)
      = Cert.ProjRefIdeal.Read.val_main_v13 (F := Ideal) (m ((c : Thread nD τ).loc main_arg0)) (m ((c : Thread nD τ).loc main_arg1)) (ix2 ⟨1024 * (t.val / 5) + i.val, by have := lt_N t; omega⟩ j) := by
  unfold rows
  rw [rows_apply, ref_rows, block1]
  simp only [block0]
  have h : (first t).val / 5 = t.val / 5 := by unfold first; dsimp only; omega
  simp only [h]

/-- The same, rounded as they are stored. -/
theorem tile_stored (t : Fin cfg0.N) (i : Fin 1024) (j : Fin 1024) :
    rows m c t (ix2 i j)
      = Cert.ProjRefIdeal.Read.val_main_v14 (F := Ideal) (m ((c : Thread nD τ).loc main_arg0)) (m ((c : Thread nD τ).loc main_arg1)) (ix2 ⟨1024 * (t.val / 5) + i.val, by have := lt_N t; omega⟩ j) :=
  (tile_rows m c t i j).trans (by pointwise [Cert.ProjRefIdeal.Read.val_main_v14])

/-- A point's block of the wide projection is the reference's. -/
theorem tile_wide (t : Fin cfg0.N) (i : Fin 1024) (j : Fin 2048) :
    wide m c t (ix2 i j)
      = Cert.ProjRefIdeal.Read.val_main_v17 (F := Ideal) (m ((c : Thread nD τ).loc main_arg0)) (m ((c : Thread nD τ).loc main_arg1)) (m ((c : Thread nD τ).loc main_arg2)) (ix2 ⟨1024 * (t.val / 5) + i.val, by have := lt_N t; omega⟩ ⟨2048 * (t.val % 5) + j.val, by omega⟩) := by
  unfold wide
  rw [wide_apply, ref_wide]
  refine Finset.sum_congr rfl fun k _ => ?_
  rw [tile_rows, block2]

/-- A row block's small projection is the reference's. -/
theorem tile_small (t : Fin cfg0.N) (i : Fin 1024) (j : Fin 512) :
    small m c t (ix2 i j)
      = Cert.ProjRefIdeal.Read.val_main_v19 (F := Ideal) (m ((c : Thread nD τ).loc main_arg0)) (m ((c : Thread nD τ).loc main_arg1)) (m ((c : Thread nD τ).loc main_arg3)) (ix2 ⟨1024 * (t.val / 5) + i.val, by have := lt_N t; omega⟩ j) := by
  unfold small
  rw [small_apply, ref_small, block3]
  refine Finset.sum_congr rfl fun k _ => ?_
  rw [tile_rows]

/-- The kernel's normalised rows are the reference's. -/
theorem result_rows : (dats m 0 c).arrAt 4 cfg0.N = Cert.ProjRefIdeal.Read.val_main_v14 (F := Ideal) (m ((c : Thread nD τ).loc main_arg0)) (m ((c : Thread nD τ).loc main_arg1)) := by
  refine (dats m 0 c).arrAt_eq_of_covers 4 _ (by decide +kernel) fun t _ y => ?_
  rw [after4]
  have hx : (cfg0.win 4).xinj (cfg0.grid.coords t) y = ix2 (n0 := 1024) (n1 := 1024) ((cfg0.win 4).xinj (cfg0.grid.coords t) y 0) ((cfg0.win 4).xinj (cfg0.grid.coords t) y 1) := by
    funext a; fin_cases a <;> rfl
  refine (congrArg _ hx).trans ((tile_stored m c t _ _).trans ?_)
  refine congrArg _ ?_
  blk_ext [ix_4 t]

/-- The kernel's wide projection is the reference's. -/
theorem result_wide : (dats m 0 c).arrAt 5 cfg0.N = Cert.ProjRefIdeal.Read.val_main_v17 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  rw [after5]
  have hx : (cfg0.win 5).xinj (cfg0.grid.coords t) y = ix2 (n0 := 1024) (n1 := 2048) ((cfg0.win 5).xinj (cfg0.grid.coords t) y 0) ((cfg0.win 5).xinj (cfg0.grid.coords t) y 1) := by
    funext a; fin_cases a <;> rfl
  refine (congrArg _ hx).trans ((tile_wide m c t _ _).trans ?_)
  refine congrArg _ ?_
  blk_ext [ix_5 t]

/-- The kernel's small projection is the reference's. -/
theorem result_small : (dats m 0 c).arrAt 6 cfg0.N = Cert.ProjRefIdeal.Read.val_main_v19 (F := Ideal) (m ((c : Thread nD τ).loc main_arg0)) (m ((c : Thread nD τ).loc main_arg1)) (m ((c : Thread nD τ).loc main_arg3)) := by
  refine (dats m 0 c).arrAt_eq_of_covers 6 _ (by decide +kernel) fun t _ y => ?_
  rw [after6]
  have hx : (cfg0.win 6).xinj (cfg0.grid.coords t) y = ix2 (n0 := 1024) (n1 := 512) ((cfg0.win 6).xinj (cfg0.grid.coords t) y 0) ((cfg0.win 6).xinj (cfg0.grid.coords t) y 1) := by
    funext a; fin_cases a <;> rfl
  refine (congrArg _ hx).trans ((tile_small m c t _ _).trans ?_)
  refine congrArg _ ?_
  blk_ext [ix_6 t]

/-- The kernel as it runs: it terminates without a fault, keeps its arguments, and leaves every counter at zero. -/
theorem frame_kernel : Cert.quiescent_Proj := fun m ρ _ => Cert.Proj.Body.frame m ρ

/-- The kernel over exact values: the same. -/
theorem frame_ideal : Cert.quiescent_ProjIdeal := fun m ρ _ => Cert.ProjIdeal.Body.frame m ρ

/-- The reference: the same, from its run; it has no counters. -/
theorem frame_reference : Cert.quiescent_ProjRefIdeal := fun m ρ _ =>
  (θ_run Cert.ProjRefIdeal.defs _ _).mono
    (fun r h => ⟨fun c => (h c).2.2.2, sem_eq_zero_of_no_sems (by decide) r.2⟩)
    (Cert.ProjRefIdeal.Value.run (F := Ideal) m ρ)

/-- No operation was replaced between the kernel and its exact form. -/
theorem preserves : Cert.preserves_Proj_ProjIdeal := trivial

/-- Over exact values the kernel's normalised rows and both projections of them are the reference's. -/
theorem algebraic : Cert.algebraic_ProjIdeal_ProjRefIdeal := by
  intro m ρ m' ρ' _ hagree
  refine ⟨fun c => Cert.ProjRefIdeal.Read.val_main_v14 (F := Ideal) (m ((c.tc : Thread nD τ).loc main_arg0)) (m ((c.tc : Thread nD τ).loc main_arg1)), fun c => Cert.ProjRefIdeal.Read.val_main_v17 (F := Ideal) (m ((c.tc : Thread nD τ).loc main_arg0)) (m ((c.tc : Thread nD τ).loc main_arg1)) (m ((c.tc : Thread nD τ).loc main_arg2)), fun c => Cert.ProjRefIdeal.Read.val_main_v19 (F := Ideal) (m ((c.tc : Thread nD τ).loc main_arg0)) (m ((c.tc : Thread nD τ).loc main_arg1)) (m ((c.tc : Thread nD τ).loc main_arg3)), ?_, ?_⟩
  · refine (θ_run Cert.ProjIdeal.defs _ _).mono (fun r h c => ?_) (Cert.ProjIdeal.Body.run_blocks (F := Ideal) m ρ)
    obtain ⟨h0, h1, h2, hrest⟩ := h c
    exact ⟨h0.trans (result_rows m c), h1.trans (result_wide m c), h2.trans (result_small m c), hrest⟩
  · refine (θ_run Cert.ProjRefIdeal.defs _ _).mono (fun r h c => ?_) (Cert.ProjRefIdeal.Value.run (F := Ideal) m' ρ')
    obtain ⟨h0, h1, h2, hrest⟩ := h c
    obtain ⟨e0, e1, e2, e3⟩ := hagree c
    have l0 : m' ((c.tc : Thread Cert.ProjRefIdeal.nD Cert.ProjRefIdeal.τ).loc Cert.ProjRefIdeal.main_arg0) = m ((c.tc : Thread nD τ).loc main_arg0) := e0
    have l1 : m' ((c.tc : Thread Cert.ProjRefIdeal.nD Cert.ProjRefIdeal.τ).loc Cert.ProjRefIdeal.main_arg1) = m ((c.tc : Thread nD τ).loc main_arg1) := e1
    have l2 : m' ((c.tc : Thread Cert.ProjRefIdeal.nD Cert.ProjRefIdeal.τ).loc Cert.ProjRefIdeal.main_arg2) = m ((c.tc : Thread nD τ).loc main_arg2) := e2
    have l3 : m' ((c.tc : Thread Cert.ProjRefIdeal.nD Cert.ProjRefIdeal.τ).loc Cert.ProjRefIdeal.main_arg3) = m ((c.tc : Thread nD τ).loc main_arg3) := e3
    refine ⟨?_, ?_, ?_, hrest⟩
    · refine (h0.trans (Cert.ProjRefIdeal.Read.val_main_v14_eq _ _)).trans ?_
      rw [l0, l1]
    · refine (h1.trans (Cert.ProjRefIdeal.Read.val_main_v17_eq _ _ _)).trans ?_
      rw [l0, l1, l2]
    · refine (h2.trans (Cert.ProjRefIdeal.Read.val_main_v19_eq _ _ _)).trans ?_
      rw [l0, l1, l3]

end Cert.ProjProof
end
-- ==== Proof.OutProj.lean ====
/- The merge of the two branches, gated, the output projection and the residual: a grid point's block of rows is the
   reference's rows. -/
module

public import proofs.«01_k».proof.Defs
public import proofs.«01_k».proof.Proof.Gen.OutProj.Frame
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.ValueKit.Acc
public import Idealize.ShloMosaic.Lib.Pipeline.ValueKit.Partial
public import Idealize.ShloMosaic.Lib.Pointwise
public import Idealize.ShloMosaic.Lib.Tactic
public import Idealize.ShloMosaic.Adequacy
public import Idealize.ShloMosaic.Init

@[expose] public section

set_option maxRecDepth 16384
set_option maxHeartbeats 0

noncomputable section
open Idealize.ShloMosaic Idealize.ShloMosaic.TcCoe Idealize.SL.Sem
open Idealize.ShloMosaic.Pipeline (Dat)
namespace Cert.OutProjProof
open Cert.OutProjIdeal Cert.OutProjIdeal.Gen
theorem hz : (![0, 0] : Fin 2 → Nat) = fun _ => 0 := by funext i; fin_cases i <;> rfl
section
variable {F : FTy → Type} [FloatOps F]

/-- A point: the merged rows. -/
theorem out_A_5 (c : Dev nD) (i : grid0.Coords) (arg2 : Memref sig .tc .vmem S1024x2048 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (x0 : Vec F S1024x2048 .bf16) (x1 : Vec F S1024x1024 .bf16) (x2 : Vec F S1024x1024 .bf16) (x3 : Vec F S1024x1024 .bf16) (x4 : Vec F S1024x1024 .f32) :
    out0_A_5 c i arg2 harg2 arg3 harg3 arg4 harg4 arg5 harg5 arg6 harg6 arg7 harg7 arg8 harg8 x0 x1 x2 x3 x4 = k0_pay1 x0 x1 x2 := by
  unfold out0_A_5
  rw [View.read_writes_eq_canon _ _ _ (cover0_A_5 c i arg2 harg2 arg3 harg3 arg4 harg4 arg5 harg5 arg6 harg6 arg7 harg7 arg8 harg8 x0 x1 x2 x3 x4)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1024x1024) hz, View.ld_unit_zero (S := S1024x2048) hz]

/-- A point: the rows of the residual stream, from the merged rows read back. -/
theorem out_A_6 (c : Dev nD) (i : grid0.Coords) (arg2 : Memref sig .tc .vmem S1024x2048 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (x0 : Vec F S1024x2048 .bf16) (x1 : Vec F S1024x1024 .bf16) (x2 : Vec F S1024x1024 .bf16) (x3 : Vec F S1024x1024 .bf16) (x4 : Vec F S1024x1024 .f32) :
    out0_A_6 c i arg2 harg2 arg3 harg3 arg4 harg4 arg5 harg5 arg6 harg6 arg7 harg7 arg8 harg8 x0 x1 x2 x3 x4 = k0_pay2 (k0_pay1 x0 x1 x2) x3 x4 := by
  unfold out0_A_6
  rw [View.read_writes_eq_canon _ _ _ (cover0_A_6 c i arg2 harg2 arg3 harg3 arg4 harg4 arg5 harg5 arg6 harg6 arg7 harg7 arg8 harg8 x0 x1 x2 x3 x4)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1024x1024) hz, View.ld_unit_zero (S := S1024x2048) hz, View.readCov_unit_zero (S := S1024x1024) _ hz]

end

/-- Two gates and two branches at one channel: the merge. -/
def merge (gA gB a b : EReal) : EReal := Ideal.logistic gA * a + Ideal.logistic gB * b

/-- The merged block at an index. -/
theorem merged_apply (x0 : Vec Ideal S1024x2048 .bf16) (x1 x2 : Vec Ideal S1024x1024 .bf16) (i : Fin 1024) (j : Fin 1024) :
    k0_pay1 x0 x1 x2 (ix2 i j) = merge (x0 (ix2 i ⟨j.val, by omega⟩)) (x0 (ix2 i ⟨1024 + j.val, by omega⟩)) (x1 (ix2 i j)) (x2 (ix2 i j)) := by
  pointwise [merge, k0_pay1]

/-- The block of the residual stream at an index. -/
theorem out_apply (y : Vec Ideal S1024x1024 .bf16) (x3 : Vec Ideal S1024x1024 .bf16) (x4 : Vec Ideal S1024x1024 .f32) (i : Fin 1024) (j : Fin 1024) :
    k0_pay2 y x3 x4 (ix2 i j) = x4 (ix2 i j) + ∑ k : Fin 1024, y (ix2 i k) * x3 (ix2 k j) := by
  pointwise [k0_pay2]

/-- The reference's merged rows at an index. -/
theorem ref_merged (x0 : Vec Ideal S8192x10240 .bf16) (x1 x2 : Vec Ideal S8192x1024 .bf16) (i : Fin 8192) (j : Fin 1024) :
    Cert.OutProjRefIdeal.Read.val_main_v20 (F := Ideal) x0 x1 x2 (ix2 i j) = merge (x0 (ix2 i ⟨8192 + j.val, by omega⟩)) (x0 (ix2 i ⟨8192 + (1024 + j.val), by omega⟩)) (x1 (ix2 i j)) (x2 (ix2 i j)) := by
  pointwise [merge, Cert.OutProjRefIdeal.Read.val_main_v20, Cert.OutProjRefIdeal.Read.val_main_v19, Cert.OutProjRefIdeal.Read.val_main_v18, Cert.OutProjRefIdeal.Read.val_main_v17, Cert.OutProjRefIdeal.Read.val_main_v16, Cert.OutProjRefIdeal.Read.val_main_v15, Cert.OutProjRefIdeal.Read.val_main_v14, Cert.OutProjRefIdeal.Read.val_main_v13, Cert.OutProjRefIdeal.Read.val_main_v12, Cert.OutProjRefIdeal.Read.val_main_v11, Cert.OutProjRefIdeal.Read.val_main_v10, Cert.OutProjRefIdeal.Read.val_main_v9, Cert.OutProjRefIdeal.Read.val_main_v8, Cert.OutProjRefIdeal.Read.val_main_v7, Cert.OutProjRefIdeal.Read.val_main_v6, Cert.OutProjRefIdeal.Read.val_main_v5, Cert.OutProjRefIdeal.Read.val_main_v4, Cert.OutProjRefIdeal.Read.val_main_v3, Cert.OutProjRefIdeal.Read.val_main_v2, Cert.OutProjRefIdeal.Read.val_main_v1, Cert.OutProjRefIdeal.Read.val_main_v0, Cert.OutProjRefIdeal.Read.val_main_cst, Cert.OutProjRefIdeal.Read.val_main_cst_0, Cert.OutProjRefIdeal.Read.val_main_cst_1, Cert.OutProjRefIdeal.Read.val_main_cst_2]
  rfl

/-- The reference's rows of the residual stream at an index. -/
theorem ref_out (x0 : Vec Ideal S8192x10240 .bf16) (x1 x2 : Vec Ideal S8192x1024 .bf16) (x3 : Vec Ideal S1024x1024 .bf16) (x4 : Vec Ideal S8192x1024 .f32) (i : Fin 8192) (j : Fin 1024) :
    Cert.OutProjRefIdeal.Read.val_main_v24 (F := Ideal) x0 x1 x2 x3 x4 (ix2 i j) = x4 (ix2 i j) + ∑ k : Fin 1024, Cert.OutProjRefIdeal.Read.val_main_v20 (F := Ideal) x0 x1 x2 (ix2 i k) * x3 (ix2 k j) := by
  pointwise [Cert.OutProjRefIdeal.Read.val_main_v24, Cert.OutProjRefIdeal.Read.val_main_v23, Cert.OutProjRefIdeal.Read.val_main_v22]

variable (m : (ℓ : Loc nD τ sig) → Buf (Elt Ideal) ℓ) (c : Dev nD)
theorem ix_0 : ∀ t : Fin cfg0.N, win0_0.index t = ![t.val, 4] := (by decide +kernel : ∀ t : Fin grid0.N, win0_0.index t = ![t.val, 4])
theorem ix_1 : ∀ t : Fin cfg0.N, win0_1.index t = ![t.val, 0] := (by decide +kernel : ∀ t : Fin grid0.N, win0_1.index t = ![t.val, 0])
theorem ix_2 : ∀ t : Fin cfg0.N, win0_2.index t = ![t.val, 0] := (by decide +kernel : ∀ t : Fin grid0.N, win0_2.index t = ![t.val, 0])
theorem ix_3 : ∀ t : Fin cfg0.N, win0_3.index t = ![0, 0] := (by decide +kernel : ∀ t : Fin grid0.N, win0_3.index t = ![0, 0])
theorem ix_4 : ∀ t : Fin cfg0.N, win0_4.index t = ![t.val, 0] := (by decide +kernel : ∀ t : Fin grid0.N, win0_4.index t = ![t.val, 0])
theorem ix_5 : ∀ t : Fin cfg0.N, win0_5.index t = ![t.val, 0] := (by decide +kernel : ∀ t : Fin grid0.N, win0_5.index t = ![t.val, 0])
theorem ix_6 : ∀ t : Fin cfg0.N, win0_6.index t = ![t.val, 0] := (by decide +kernel : ∀ t : Fin grid0.N, win0_6.index t = ![t.val, 0])
theorem lt_N (t : Fin cfg0.N) : t.val < 8 := lt_of_lt_of_eq t.isLt N_0

theorem block0 (t : Fin cfg0.N) (i : Fin 1024) (k : Fin 2048) :
    iblk m c 0 t (ix2 i k) = m ((c : Thread nD τ).loc main_arg0) (ix2 ⟨1024 * t.val + i.val, by have := lt_N t; omega⟩ ⟨8192 + k.val, by omega⟩) := by
  rw [← V_main_arg0 m c]; blk_simp [iblk]; refine congrArg _ ?_; blk_ext [ix_0 t]

theorem block1 (t : Fin cfg0.N) (i : Fin 1024) (k : Fin 1024) :
    iblk m c 1 t (ix2 i k) = m ((c : Thread nD τ).loc main_arg1) (ix2 ⟨1024 * t.val + i.val, by have := lt_N t; omega⟩ k) := by
  rw [← V_main_arg1 m c]; blk_simp [iblk]; refine congrArg _ ?_; blk_ext [ix_1 t]

theorem block2 (t : Fin cfg0.N) (i : Fin 1024) (k : Fin 1024) :
    iblk m c 2 t (ix2 i k) = m ((c : Thread nD τ).loc main_arg2) (ix2 ⟨1024 * t.val + i.val, by have := lt_N t; omega⟩ k) := by
  rw [← V_main_arg2 m c]; blk_simp [iblk]; refine congrArg _ ?_; blk_ext [ix_2 t]

theorem block3 (t : Fin cfg0.N) : iblk m c 3 t = m ((c : Thread nD τ).loc main_arg3) := by
  funext j; rw [← V_main_arg3 m c]; blk_simp [iblk]; refine congrArg _ ?_; blk_ext [ix_3 t]

theorem block4 (t : Fin cfg0.N) (i : Fin 1024) (k : Fin 1024) :
    iblk m c 4 t (ix2 i k) = m ((c : Thread nD τ).loc main_arg4) (ix2 ⟨1024 * t.val + i.val, by have := lt_N t; omega⟩ k) := by
  rw [← V_main_arg4 m c]; blk_simp [iblk]; refine congrArg _ ?_; blk_ext [ix_4 t]

/-- A grid point's merged rows are the reference's. -/
theorem tile_merged (t : Fin cfg0.N) (i : Fin 1024) (j : Fin 1024) :
    k0_pay1 (iblk m c 0 t) (iblk m c 1 t) (iblk m c 2 t) (ix2 i j)
      = Cert.OutProjRefIdeal.Read.val_main_v20 (F := Ideal) (m ((c : Thread nD τ).loc main_arg0)) (m ((c : Thread nD τ).loc main_arg1)) (m ((c : Thread nD τ).loc main_arg2)) (ix2 ⟨1024 * t.val + i.val, by have := lt_N t; omega⟩ j) := by
  rw [merged_apply, ref_merged, block0, block0, block1, block2]

/-- The same, rounded as it is stored. -/
theorem tile_stored (t : Fin cfg0.N) (i : Fin 1024) (j : Fin 1024) :
    k0_pay1 (iblk m c 0 t) (iblk m c 1 t) (iblk m c 2 t) (ix2 i j)
      = Cert.OutProjRefIdeal.Read.val_main_v21 (F := Ideal) (m ((c : Thread nD τ).loc main_arg0)) (m ((c : Thread nD τ).loc main_arg1)) (m ((c : Thread nD τ).loc main_arg2)) (ix2 ⟨1024 * t.val + i.val, by have := lt_N t; omega⟩ j) :=
  (tile_merged m c t i j).trans (by pointwise [Cert.OutProjRefIdeal.Read.val_main_v21])

/-- A grid point's rows of the residual stream are the reference's. -/
theorem tile_out (t : Fin cfg0.N) (i : Fin 1024) (j : Fin 1024) :
    k0_pay2 (k0_pay1 (iblk m c 0 t) (iblk m c 1 t) (iblk m c 2 t)) (m ((c : Thread nD τ).loc main_arg3)) (iblk m c 4 t) (ix2 i j)
      = Cert.OutProjRefIdeal.Read.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨1024 * t.val + i.val, by have := lt_N t; omega⟩ j) := by
  rw [out_apply, ref_out, block4]
  refine congrArg _ (Finset.sum_congr rfl fun k _ => ?_)
  rw [tile_merged]

/-- What a point leaves: the merged rows. -/
theorem after_merged (t : Fin cfg0.N) : (outsAt0 m c t).1 = k0_pay1 (iblk m c 0 t) (iblk m c 1 t) (iblk m c 2 t) := by
  unfold outsAt0; dsimp only; rw [out_A_5]

/-- What a point leaves: the rows of the residual stream. -/
theorem after_out (t : Fin cfg0.N) : (outsAt0 m c t).2 = k0_pay2 (k0_pay1 (iblk m c 0 t) (iblk m c 1 t) (iblk m c 2 t)) (m ((c : Thread nD τ).loc main_arg3)) (iblk m c 4 t) := by
  unfold outsAt0; dsimp only; rw [out_A_6, block3]

/-- The kernel's merged rows are the reference's. -/
theorem result_merged : (dats m 0 c).arrAt 5 cfg0.N = Cert.OutProjRefIdeal.Read.val_main_v21 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  rw [after0_5, after_merged]
  have hx : (cfg0.win 5).xinj (cfg0.grid.coords t) y = ix2 (n0 := 1024) (n1 := 1024) ((cfg0.win 5).xinj (cfg0.grid.coords t) y 0) ((cfg0.win 5).xinj (cfg0.grid.coords t) y 1) := by
    funext a; fin_cases a <;> rfl
  refine (congrArg _ hx).trans ((tile_stored m c t _ _).trans ?_)
  refine congrArg _ ?_
  blk_ext [ix_5 t]

/-- The kernel's residual stream is the reference's. -/
theorem result_out : (dats m 0 c).arrAt 6 cfg0.N = Cert.OutProjRefIdeal.Read.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  rw [after0_6, after_out]
  have hx : (cfg0.win 6).xinj (cfg0.grid.coords t) y = ix2 (n0 := 1024) (n1 := 1024) ((cfg0.win 6).xinj (cfg0.grid.coords t) y 0) ((cfg0.win 6).xinj (cfg0.grid.coords t) y 1) := by
    funext a; fin_cases a <;> rfl
  refine (congrArg _ hx).trans ((tile_out m c t _ _).trans ?_)
  refine congrArg _ ?_
  blk_ext [ix_6 t]

/-- The kernel as it runs: it terminates without a fault, keeps its arguments, and leaves every counter at zero. -/
theorem frame_kernel : Cert.quiescent_OutProj := fun m ρ _ => Cert.OutProj.Gen.frame m ρ

/-- The kernel over exact values: the same. -/
theorem frame_ideal : Cert.quiescent_OutProjIdeal := fun m ρ _ => Cert.OutProjIdeal.Gen.frame m ρ

/-- The reference: the same, from its run; it has no counters. -/
theorem frame_reference : Cert.quiescent_OutProjRefIdeal := fun m ρ _ =>
  (θ_run Cert.OutProjRefIdeal.defs _ _).mono
    (fun r h => ⟨fun c => (h c).2.2, sem_eq_zero_of_no_sems (by decide) r.2⟩)
    (Cert.OutProjRefIdeal.Value.run (F := Ideal) m ρ)

/-- No operation was replaced between the kernel and its exact form. -/
theorem preserves : Cert.preserves_OutProj_OutProjIdeal := trivial

/-- Over exact values the kernel's merged rows and its residual stream are the reference's. -/
theorem algebraic : Cert.algebraic_OutProjIdeal_OutProjRefIdeal := by
  intro m ρ m' ρ' _ hagree
  refine ⟨fun c => Cert.OutProjRefIdeal.Read.val_main_v21 (F := Ideal) (m ((c.tc : Thread nD τ).loc main_arg0)) (m ((c.tc : Thread nD τ).loc main_arg1)) (m ((c.tc : Thread nD τ).loc main_arg2)), fun c => Cert.OutProjRefIdeal.Read.val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), ?_, ?_⟩
  · refine (θ_run Cert.OutProjIdeal.defs _ _).mono (fun r h c => ?_) (Cert.OutProjIdeal.Value.run_blocks (F := Ideal) m ρ)
    obtain ⟨h0, h1, hrest⟩ := h c
    exact ⟨h0.trans (result_merged m c), h1.trans (result_out m c), hrest⟩
  · refine (θ_run Cert.OutProjRefIdeal.defs _ _).mono (fun r h c => ?_) (Cert.OutProjRefIdeal.Value.run (F := Ideal) m' ρ')
    obtain ⟨h0, h1, hrest⟩ := h c
    obtain ⟨e0, e1, e2, e3, e4⟩ := hagree c
    have l0 : m' ((c.tc : Thread Cert.OutProjRefIdeal.nD Cert.OutProjRefIdeal.τ).loc Cert.OutProjRefIdeal.main_arg0) = m ((c.tc : Thread nD τ).loc main_arg0) := e0
    have l1 : m' ((c.tc : Thread Cert.OutProjRefIdeal.nD Cert.OutProjRefIdeal.τ).loc Cert.OutProjRefIdeal.main_arg1) = m ((c.tc : Thread nD τ).loc main_arg1) := e1
    have l2 : m' ((c.tc : Thread Cert.OutProjRefIdeal.nD Cert.OutProjRefIdeal.τ).loc Cert.OutProjRefIdeal.main_arg2) = m ((c.tc : Thread nD τ).loc main_arg2) := e2
    have l3 : m' ((c.tc : Thread Cert.OutProjRefIdeal.nD Cert.OutProjRefIdeal.τ).loc Cert.OutProjRefIdeal.main_arg3) = m ((c.tc : Thread nD τ).loc main_arg3) := e3
    have l4 : m' ((c.tc : Thread Cert.OutProjRefIdeal.nD Cert.OutProjRefIdeal.τ).loc Cert.OutProjRefIdeal.main_arg4) = m ((c.tc : Thread nD τ).loc main_arg4) := e4
    refine ⟨?_, ?_, hrest⟩
    · refine (h0.trans (Cert.OutProjRefIdeal.Read.val_main_v21_eq _ _ _)).trans ?_
      rw [l0, l1, l2]
    · refine (h1.trans (Cert.OutProjRefIdeal.Read.val_main_v24_eq _ _ _ _ _)).trans ?_
      rw [l0, l1, l2, l3, l4]

end Cert.OutProjProof
end
-- ==== Proof.ConvAct.lean ====
/- The backward pass of the activation behind the depthwise convolution: the three cotangents side by side, times the derivative of
   `x ↦ x · σ(x)`. The kernel factors the derivative as `σ (1 + x (1 - σ))`, the reference adds its two terms; they agree where the
   cotangents are finite. The bias's gradient, which the first point clears and every point adds to, is the sum over the tokens. -/
module

public import proofs.«01_k».proof.Defs
public import proofs.«01_k».proof.Proof.Gen.ConvAct.Frame
public import proofs.«01_k».proof.Proof.Gen.ConvActIdeal.Value
public import proofs.«01_k».proof.Proof.Gen.ConvActRefIdeal.Run
public import proofs.«01_k».proof.Proof.Gen.ConvActRefIdeal.Read
public import proofs.«01_k».proof.Proof.Sums
public import proofs.«01_k».proof.Proof.Gen.Pre_finite_cotangents
public import Idealize.ShloMosaic.Lib.Pipeline.ValueKit.Acc
public import Idealize.ShloMosaic.Lib.Pipeline.ValueKit.Partial
public import Idealize.ShloMosaic.Lib.Pointwise
public import Idealize.ShloMosaic.Lib.Tactic
public import Idealize.ShloMosaic.Adequacy
public import Idealize.ShloMosaic.Init

@[expose] public section

set_option maxRecDepth 16384
set_option maxHeartbeats 0

noncomputable section
open Idealize.ShloMosaic Idealize.ShloMosaic.TcCoe Idealize.SL.Sem
open Idealize.ShloMosaic.Pipeline (Dat)
namespace Cert.ConvActProof
open Cert.ConvActIdeal Cert.ConvActIdeal.Gen
theorem hz : (![0, 0] : Fin 2 → Nat) = fun _ => 0 := by funext i; fin_cases i <;> rfl

section
variable {F : FTy → Type} [FloatOps F]

/-- The first point: the block of gradients. -/
theorem out_A_4 (c : Dev nD) (i : grid0.Coords) (arg1 : Memref sig .tc .vmem S1024x3072 .bf16) (harg1 : arg1.IsWhole) (arg2 : Memref sig .tc .vmem S1024x2048 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x3072 .bf16) (harg5 : arg5.IsWhole) (arg6 : Memref sig .tc .vmem S1x3072 .f32) (harg6 : arg6.IsWhole) (hc0 : cond0_0 i) (x0 : Vec F S1024x3072 .bf16) (x1 : Vec F S1024x2048 .bf16) (x2 : Vec F S1024x512 .bf16) (x3 : Vec F S1024x512 .bf16) :
    out0_A_4 c i arg1 harg1 arg2 harg2 arg3 harg3 arg4 harg4 arg5 harg5 arg6 harg6 hc0 x0 x1 x2 x3 = k0_pay2 x0 x1 x2 x3 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  rw [View.canon_unit_zero hz]
  sl_unfold_words
  simp only [View.readAt_eq_ld, harg1.read_unread, harg2.read_unread, harg3.read_unread, harg4.read_unread, harg5.read_unread, harg6.read_unread, View.ld_unit_zero (S := S1024x2048) hz, View.ld_unit_zero (S := S1024x3072) hz, View.ld_unit_zero (S := S1024x512) hz]

/-- The first point: the bias's gradient. -/
theorem out_A_5 (c : Dev nD) (i : grid0.Coords) (arg1 : Memref sig .tc .vmem S1024x3072 .bf16) (harg1 : arg1.IsWhole) (arg2 : Memref sig .tc .vmem S1024x2048 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x3072 .bf16) (harg5 : arg5.IsWhole) (arg6 : Memref sig .tc .vmem S1x3072 .f32) (harg6 : arg6.IsWhole) (hc0 : cond0_0 i) (x0 : Vec F S1024x3072 .bf16) (x1 : Vec F S1024x2048 .bf16) (x2 : Vec F S1024x512 .bf16) (x3 : Vec F S1024x512 .bf16) :
    out0_A_5 c i arg1 harg1 arg2 harg2 arg3 harg3 arg4 harg4 arg5 harg5 arg6 harg6 hc0 x0 x1 x2 x3 = k0_pay4 x0 x1 x2 x3 k0_pay3 := by
  unfold out0_A_5
  rw [View.read_writes_eq_canon _ _ _ (cover0_A_5 c i arg1 harg1 arg2 harg2 arg3 harg3 arg4 harg4 arg5 harg5 arg6 harg6 hc0 x0 x1 x2 x3)]
  unfold kernelRun0_A
  dsimp only
  rw [View.canon_cons_unit_zero (S := S1x3072) hz]
  sl_unfold_words
  simp only [View.readAt_eq_ld, harg1.read_unread, harg2.read_unread, harg3.read_unread, harg4.read_unread, harg5.read_unread, harg6.read_unread, View.ld_unit_zero (S := S1024x2048) hz, View.ld_unit_zero (S := S1024x3072) hz, View.ld_unit_zero (S := S1024x512) hz, View.readCov_unit_zero (S := S1x3072) _ hz]

/-- A later point: the block of gradients. -/
theorem out_B_4 (c : Dev nD) (i : grid0.Coords) (arg1 : Memref sig .tc .vmem S1024x3072 .bf16) (harg1 : arg1.IsWhole) (arg2 : Memref sig .tc .vmem S1024x2048 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x3072 .bf16) (harg5 : arg5.IsWhole) (arg6 : Memref sig .tc .vmem S1x3072 .f32) (harg6 : arg6.IsWhole) (hc0 : ¬cond0_0 i) (x0 : Vec F S1024x3072 .bf16) (x1 : Vec F S1024x2048 .bf16) (x2 : Vec F S1024x512 .bf16) (x3 : Vec F S1024x512 .bf16) (xo5 : Vec F S1x3072 .f32) :
    out0_B_4 c i arg1 harg1 arg2 harg2 arg3 harg3 arg4 harg4 arg5 harg5 arg6 harg6 hc0 x0 x1 x2 x3 xo5 = k0_pay2 x0 x1 x2 x3 := by
  unfold out0_B_4
  rw [View.read_writes_eq_canon _ _ _ (cover0_B_4 c i arg1 harg1 arg2 harg2 arg3 harg3 arg4 harg4 arg5 harg5 arg6 harg6 hc0 x0 x1 x2 x3 xo5)]
  unfold kernelRun0_B
  dsimp only
  rw [View.canon_unit_zero hz]
  sl_unfold_words
  simp only [View.readAt_eq_ld, harg1.read_unread, harg2.read_unread, harg3.read_unread, harg4.read_unread, harg5.read_unread, harg6.read_unread, View.ld_unit_zero (S := S1024x2048) hz, View.ld_unit_zero (S := S1024x3072) hz, View.ld_unit_zero (S := S1024x512) hz, View.ld_unit_zero (S := S1x3072) hz]

/-- A later point: the bias's gradient. -/
theorem out_B_5 (c : Dev nD) (i : grid0.Coords) (arg1 : Memref sig .tc .vmem S1024x3072 .bf16) (harg1 : arg1.IsWhole) (arg2 : Memref sig .tc .vmem S1024x2048 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x3072 .bf16) (harg5 : arg5.IsWhole) (arg6 : Memref sig .tc .vmem S1x3072 .f32) (harg6 : arg6.IsWhole) (hc0 : ¬cond0_0 i) (x0 : Vec F S1024x3072 .bf16) (x1 : Vec F S1024x2048 .bf16) (x2 : Vec F S1024x512 .bf16) (x3 : Vec F S1024x512 .bf16) (xo5 : Vec F S1x3072 .f32) :
    out0_B_5 c i arg1 harg1 arg2 harg2 arg3 harg3 arg4 harg4 arg5 harg5 arg6 harg6 hc0 x0 x1 x2 x3 xo5 = k0_pay4 x0 x1 x2 x3 xo5 := by
  unfold out0_B_5
  rw [View.read_writes_eq_canon _ _ _ (cover0_B_5 c i arg1 harg1 arg2 harg2 arg3 harg3 arg4 harg4 arg5 harg5 arg6 harg6 hc0 x0 x1 x2 x3 xo5)]
  unfold kernelRun0_B
  dsimp only
  rw [View.canon_unit_zero hz]
  sl_unfold_words
  simp only [View.readAt_eq_ld, harg1.read_unread, harg2.read_unread, harg3.read_unread, harg4.read_unread, harg5.read_unread, harg6.read_unread, View.ld_unit_zero (S := S1024x2048) hz, View.ld_unit_zero (S := S1024x3072) hz, View.ld_unit_zero (S := S1024x512) hz, View.ld_unit_zero (S := S1x3072) hz]
end

/-- Row `j` of three pieces laid side by side. -/
def joined (a : Fin 2048 → EReal) (b d : Fin 512 → EReal) (j : Fin 3072) : EReal :=
  if h : j.val < 2048 then a ⟨j.val, h⟩
  else if h' : j.val - 2048 < 512 then b ⟨j.val - 2048, h'⟩ else d ⟨j.val - 2048 - 512, by omega⟩

/-- The cotangent `q` through `x ↦ x · σ(x)`, as the kernel factors it. -/
def act (x q : EReal) : EReal := q * Ideal.logistic x * (1 + x * (1 - Ideal.logistic x))

/-- The cotangent `q` through `x ↦ x · σ(x)`, as the product rule adds it. -/
def actRef (x q : EReal) : EReal := q * Ideal.logistic x + x * q * (Ideal.logistic x * (1 - Ideal.logistic x))

theorem one_sub_one : (1 : EReal) - 1 = 0 := by
  rw [← EReal.coe_one, ← EReal.coe_sub, sub_self, EReal.coe_zero]

/-- The two forms agree at a finite cotangent, whatever the activation's argument. -/
theorem act_eq (x q : EReal) (ht : q ≠ ⊤) (hb : q ≠ ⊥) : act x q = actRef x q := by
  lift q to ℝ using ⟨ht, hb⟩
  unfold act actRef
  induction x with
  | bot => rw [Ideal.logistic_bot]; simp only [mul_zero, zero_mul, add_zero]
  | top => rw [Ideal.logistic_top, one_sub_one]; simp only [mul_zero, mul_one, add_zero]
  | coe r =>
    rw [Ideal.logistic_coe]
    generalize (1 + Real.exp (-r))⁻¹ = s
    rw [← EReal.coe_one]
    simp only [← EReal.coe_mul, ← EReal.coe_sub, ← EReal.coe_add]
    exact congrArg _ (by ring)

/-- The word of the 32-bit infinity. -/
theorem inf_word : Ideal.ofBits .f32 0x7F800000#32 = ⊤ := by
  simp [Ideal.ofBits, Ideal.ieee]

/-- Where the precondition holds every cotangent is finite. -/
theorem finite_apply (x0 : Vec Ideal S8192x3072 .bf16) (x1 : Vec Ideal S8192x2048 .bf16) (x2 x3 : Vec Ideal S8192x512 .bf16) (i : Fin 8192) (j : Fin 3072) (h : Cert.Pre_finite_cotangents.fn (F := Ideal) x0 x1 x2 x3 (ix2 i j) = 1#1) :
    (joined (fun k => x1 (ix2 i k)) (fun k => x2 (ix2 i k)) (fun k => x3 (ix2 i k)) j) ≠ ⊤ ∧ (joined (fun k => x1 (ix2 i k)) (fun k => x2 (ix2 i k)) (fun k => x3 (ix2 i k)) j) ≠ ⊥ := by
  have e : Cert.Pre_finite_cotangents.fn (F := Ideal) x0 x1 x2 x3 (ix2 i j)
      = BitVec.ofBool (decide (max (joined (fun k => x1 (ix2 i k)) (fun k => x2 (ix2 i k)) (fun k => x3 (ix2 i k)) j) (-(joined (fun k => x1 (ix2 i k)) (fun k => x2 (ix2 i k)) (fun k => x3 (ix2 i k)) j)) < Ideal.ofBits .f32 0x7F800000#32)) := by
    pointwise [Cert.Pre_finite_cotangents.fn, joined]
    rfl
  rw [e, inf_word] at h
  generalize (joined (fun k => x1 (ix2 i k)) (fun k => x2 (ix2 i k)) (fun k => x3 (ix2 i k)) j) = q at h
  constructor
  · rintro rfl; simp at h
  · rintro rfl; simp at h

/-- The block of gradients a grid point leaves, at an index. -/
theorem block_apply (x0 : Vec Ideal S1024x3072 .bf16) (x1 : Vec Ideal S1024x2048 .bf16) (x2 x3 : Vec Ideal S1024x512 .bf16) (i : Fin 1024) (j : Fin 3072) :
    k0_pay1 x0 x1 x2 x3 (ix2 i j) = act (x0 (ix2 i j)) (joined (fun k => x1 (ix2 i k)) (fun k => x2 (ix2 i k)) (fun k => x3 (ix2 i k)) j) := by
  pointwise [k0_pay1, act, joined]

/-- A grid point's share of the bias's gradient, at an index. -/
theorem share_apply (x0 : Vec Ideal S1024x3072 .bf16) (x1 : Vec Ideal S1024x2048 .bf16) (x2 x3 : Vec Ideal S1024x512 .bf16) (acc : Vec Ideal S1x3072 .f32) (z : Fin 1) (j : Fin 3072) :
    k0_pay4 x0 x1 x2 x3 acc (ix2 z j) = acc (ix2 z j) + ∑ i : Fin 1024, k0_pay1 x0 x1 x2 x3 (ix2 i j) := by
  pointwise [k0_pay4]

/-- The reference's cotangents side by side, at an index: three padded pieces added. -/
theorem ref_joined (x0 : Vec Ideal S8192x3072 .bf16) (x1 : Vec Ideal S8192x2048 .bf16) (x2 x3 : Vec Ideal S8192x512 .bf16) (i : Fin 8192) (j : Fin 3072) :
    Cert.ConvActRefIdeal.Read.val_main_v15 (F := Ideal) x1 x2 x3 (ix2 i j) = (joined (fun k => x1 (ix2 i k)) (fun k => x2 (ix2 i k)) (fun k => x3 (ix2 i k)) j) := by
  unfold joined
  pointwise [Cert.ConvActRefIdeal.Read.val_main_v15, Cert.ConvActRefIdeal.Read.val_main_v14, Cert.ConvActRefIdeal.Read.val_main_v13, Cert.ConvActRefIdeal.Read.val_main_v12, Cert.ConvActRefIdeal.Read.val_main_v11, Cert.ConvActRefIdeal.Read.val_main_v10, Cert.ConvActRefIdeal.Read.val_main_v9, Cert.ConvActRefIdeal.Read.val_main_v8, Cert.ConvActRefIdeal.Read.val_main_cst_0, Cert.ConvActRefIdeal.Read.val_main_cst_1, Cert.ConvActRefIdeal.Read.val_main_cst_2]
  split_ifs <;> first | omega | (simp only [zero_add, add_zero]; done) | (simp only [zero_add, add_zero]; refine congrArg _ (congrArg _ (Fin.ext ?_)); dsimp only; omega)

/-- The reference's gradient at an index. -/
theorem ref_apply (x0 : Vec Ideal S8192x3072 .bf16) (x1 : Vec Ideal S8192x2048 .bf16) (x2 x3 : Vec Ideal S8192x512 .bf16) (i : Fin 8192) (j : Fin 3072) :
    Cert.ConvActRefIdeal.Read.val_main_v16 (F := Ideal) x0 x1 x2 x3 (ix2 i j) = actRef (x0 (ix2 i j)) (joined (fun k => x1 (ix2 i k)) (fun k => x2 (ix2 i k)) (fun k => x3 (ix2 i k)) j) := by
  rw [← ref_joined x0 x1 x2 x3 i j]
  pointwise [actRef, Cert.ConvActRefIdeal.Read.val_main_v0, Cert.ConvActRefIdeal.Read.val_main_cst, Cert.ConvActRefIdeal.Read.val_main_v1, Cert.ConvActRefIdeal.Read.val_main_v2, Cert.ConvActRefIdeal.Read.val_main_v3, Cert.ConvActRefIdeal.Read.val_main_call0_v0, Cert.ConvActRefIdeal.Read.val_main_call0_v1, Cert.ConvActRefIdeal.Read.val_main_call0_cst, Cert.ConvActRefIdeal.Read.val_main_call0_v2, Cert.ConvActRefIdeal.Read.val_main_call0_v3, Cert.ConvActRefIdeal.Read.val_main_call0_cst_0, Cert.ConvActRefIdeal.Read.val_main_call0_v4, Cert.ConvActRefIdeal.Read.val_main_v4_2, Cert.ConvActRefIdeal.Read.val_main_call0_cst_1, Cert.ConvActRefIdeal.Read.val_main_call0_v6, Cert.ConvActRefIdeal.Read.val_main_call0_v7, Cert.ConvActRefIdeal.Read.val_main_v4_1, Cert.ConvActRefIdeal.Read.val_main_v4_0, Cert.ConvActRefIdeal.Read.val_main_call1_v0, Cert.ConvActRefIdeal.Read.val_main_call1_v1, Cert.ConvActRefIdeal.Read.val_main_call1_v2, Cert.ConvActRefIdeal.Read.val_main_v16]
  rfl

/-- The reference's gradient of the bias at an index. -/
theorem ref_bias (x0 : Vec Ideal S8192x3072 .bf16) (x1 : Vec Ideal S8192x2048 .bf16) (x2 x3 : Vec Ideal S8192x512 .bf16) (z : Fin 1) (j : Fin 3072) :
    Cert.ConvActRefIdeal.Read.val_main_v18 (F := Ideal) x0 x1 x2 x3 (ix2 z j) = ∑ i : Fin 8192, Cert.ConvActRefIdeal.Read.val_main_v16 (F := Ideal) x0 x1 x2 x3 (ix2 i j) := by
  pointwise [Cert.ConvActRefIdeal.Read.val_main_v18, Cert.ConvActRefIdeal.Read.val_main_v17, Cert.ConvActRefIdeal.Read.val_main_cst_3]

variable (m : (ℓ : Loc nD τ sig) → Buf (Elt Ideal) ℓ) (c : Dev nD)

theorem ix_0 : ∀ t : Fin cfg0.N, win0_0.index t = ![t.val, 0] := (by decide +kernel : ∀ t : Fin grid0.N, win0_0.index t = ![t.val, 0])
theorem ix_1 : ∀ t : Fin cfg0.N, win0_1.index t = ![t.val, 0] := (by decide +kernel : ∀ t : Fin grid0.N, win0_1.index t = ![t.val, 0])
theorem ix_2 : ∀ t : Fin cfg0.N, win0_2.index t = ![t.val, 0] := (by decide +kernel : ∀ t : Fin grid0.N, win0_2.index t = ![t.val, 0])
theorem ix_3 : ∀ t : Fin cfg0.N, win0_3.index t = ![t.val, 0] := (by decide +kernel : ∀ t : Fin grid0.N, win0_3.index t = ![t.val, 0])
theorem ix_4 : ∀ t : Fin cfg0.N, win0_4.index t = ![t.val, 0] := (by decide +kernel : ∀ t : Fin grid0.N, win0_4.index t = ![t.val, 0])
theorem ix_5 : ∀ t : Fin cfg0.N, win0_5.index t = ![0, 0] := (by decide +kernel : ∀ t : Fin grid0.N, win0_5.index t = ![0, 0])
theorem lt_N (t : Fin cfg0.N) : t.val < 8 := lt_of_lt_of_eq t.isLt N_0

theorem block0 (t : Fin cfg0.N) (i : Fin 1024) (k : Fin 3072) :
    iblk m c 0 t (ix2 i k) = m ((c : Thread nD τ).loc main_arg0) (ix2 ⟨1024 * t.val + i.val, by have := lt_N t; omega⟩ k) := by
  rw [← V_main_arg0 m c]; blk_simp [iblk]; refine congrArg _ ?_; blk_ext [ix_0 t]

theorem block1 (t : Fin cfg0.N) (i : Fin 1024) (k : Fin 2048) :
    iblk m c 1 t (ix2 i k) = m ((c : Thread nD τ).loc main_arg1) (ix2 ⟨1024 * t.val + i.val, by have := lt_N t; omega⟩ k) := by
  rw [← V_main_arg1 m c]; blk_simp [iblk]; refine congrArg _ ?_; blk_ext [ix_1 t]

theorem block2 (t : Fin cfg0.N) (i : Fin 1024) (k : Fin 512) :
    iblk m c 2 t (ix2 i k) = m ((c : Thread nD τ).loc main_arg2) (ix2 ⟨1024 * t.val + i.val, by have := lt_N t; omega⟩ k) := by
  rw [← V_main_arg2 m c]; blk_simp [iblk]; refine congrArg _ ?_; blk_ext [ix_2 t]

theorem block3 (t : Fin cfg0.N) (i : Fin 1024) (k : Fin 512) :
    iblk m c 3 t (ix2 i k) = m ((c : Thread nD τ).loc main_arg3) (ix2 ⟨1024 * t.val + i.val, by have := lt_N t; omega⟩ k) := by
  rw [← V_main_arg3 m c]; blk_simp [iblk]; refine congrArg _ ?_; blk_ext [ix_3 t]

/-- The cotangents are finite on this device. -/
def Finite : Prop := Cert.Pre_finite_cotangents.fn (F := Ideal) (m ((c : Thread nD τ).loc main_arg0)) (m ((c : Thread nD τ).loc main_arg1)) (m ((c : Thread nD τ).loc main_arg2)) (m ((c : Thread nD τ).loc main_arg3)) = fun _ => 1#1

/-- A grid point's gradients are the reference's, at the point's rows, before either is rounded. -/
theorem tile_wide (hf : Finite m c) (t : Fin cfg0.N) (i : Fin 1024) (j : Fin 3072) :
    k0_pay1 (iblk m c 0 t) (iblk m c 1 t) (iblk m c 2 t) (iblk m c 3 t) (ix2 i j)
      = Cert.ConvActRefIdeal.Read.val_main_v16 (F := Ideal) (m ((c : Thread nD τ).loc main_arg0)) (m ((c : Thread nD τ).loc main_arg1)) (m ((c : Thread nD τ).loc main_arg2)) (m ((c : Thread nD τ).loc main_arg3)) (ix2 ⟨1024 * t.val + i.val, by have := lt_N t; omega⟩ j) := by
  obtain ⟨ht, hb⟩ := finite_apply (m ((c : Thread nD τ).loc main_arg0)) (m ((c : Thread nD τ).loc main_arg1)) (m ((c : Thread nD τ).loc main_arg2)) (m ((c : Thread nD τ).loc main_arg3)) ⟨1024 * t.val + i.val, by have := lt_N t; omega⟩ j (congrFun hf _)
  rw [block_apply, ref_apply, ← act_eq _ _ ht hb]
  simp only [block0, block1, block2, block3]

/-- A grid point's block of gradients is the reference's, at the point's rows. -/
theorem tile_grad (hf : Finite m c) (t : Fin cfg0.N) (i : Fin 1024) (j : Fin 3072) :
    k0_pay2 (iblk m c 0 t) (iblk m c 1 t) (iblk m c 2 t) (iblk m c 3 t) (ix2 i j)
      = Cert.ConvActRefIdeal.Read.val_main_v19 (F := Ideal) (m ((c : Thread nD τ).loc main_arg0)) (m ((c : Thread nD τ).loc main_arg1)) (m ((c : Thread nD τ).loc main_arg2)) (m ((c : Thread nD τ).loc main_arg3)) (ix2 ⟨1024 * t.val + i.val, by have := lt_N t; omega⟩ j) :=
  tile_wide m c hf t i j

/-- What a grid point leaves in the window of gradients. -/
theorem after_grad (t : Fin cfg0.N) : (outsAt0 m c t.val t.isLt).1 = k0_pay2 (iblk m c 0 t) (iblk m c 1 t) (iblk m c 2 t) (iblk m c 3 t) := by
  by_cases h : t.val % 8 = 0
  · rw [outsAt0_A m c t h]; dsimp only; rw [out_A_4]
  · rw [outsAt0_B m c t h]; dsimp only; rw [out_B_4]

/-- The kernel's gradients are the reference's. -/
theorem result_grad (hf : Finite m c) : (dats m 0 c).arrAt 4 cfg0.N
    = Cert.ConvActRefIdeal.Read.val_main_v19 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  rw [after0_4, after_grad]
  have hx : (cfg0.win 4).xinj (cfg0.grid.coords t) y = ix2 (n0 := 1024) (n1 := 3072) ((cfg0.win 4).xinj (cfg0.grid.coords t) y 0) ((cfg0.win 4).xinj (cfg0.grid.coords t) y 1) := by
    funext a; fin_cases a <;> rfl
  refine (congrArg _ hx).trans ((tile_grad m c hf t _ _).trans ?_)
  refine congrArg _ ?_
  blk_ext [ix_4 t]

/-- The kernel's gradient of the bias, summed over the grid points, is the reference's. -/
theorem result_bias (hf : Finite m c) : (dats m 0 c).arrAt 5 cfg0.N
    = Cert.ConvActRefIdeal.Read.val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_after_last 5 t0_7 (by decide +kernel) _ fun j => ?_
  rw [after0_5]
  have key := Pipeline.eq_sum_fin_of_reset_step_apply_last (fun n h => (outsAt0 m c n h).2) 8 (fun _ => 0)
    (fun t => fun j => ∑ i : Fin 1024, k0_pay1 (iblk m c 0 t) (iblk m c 1 t) (iblk m c 2 t) (iblk m c 3 t) (ix2 i (j 1)))
    (fun t h y => by
      obtain ⟨z, k, rfl⟩ : ∃ (z : Fin 1) (k : Fin 3072), y = ix2 (n0 := 1) (n1 := 3072) z k :=
        ⟨y 0, y 1, by funext a; fin_cases a <;> rfl⟩
      rw [outsAt0_A m c t h]; dsimp only; rw [out_A_5, share_apply]
      pointwise [k0_pay3])
    (fun t h y => by
      obtain ⟨z, k, rfl⟩ : ∃ (z : Fin 1) (k : Fin 3072), y = ix2 (n0 := 1) (n1 := 3072) z k :=
        ⟨y 0, y 1, by funext a; fin_cases a <;> rfl⟩
      rw [outsAt0_B m c t h]; dsimp only; rw [out_B_5, share_apply]; rfl)
    (le_of_eq N_0) t0_7 rfl
  obtain ⟨z, k, rfl⟩ : ∃ (z : Fin 1) (k : Fin 3072), j = ix2 (n0 := 1) (n1 := 3072) z k :=
    ⟨j 0, j 1, by funext a; fin_cases a <;> rfl⟩
  refine (key (ix2 z k)).trans ?_
  rw [zero_add]
  refine Eq.trans ?_ (ref_bias (m ((c : Thread nD τ).loc main_arg0)) (m ((c : Thread nD τ).loc main_arg1)) (m ((c : Thread nD τ).loc main_arg2)) (m ((c : Thread nD τ).loc main_arg3)) _ _).symm
  refine Fin.sum_mul_add_congr (fun p i hl => ?_)
  have := lt_N p
  have e : (⟨p.val * 1024 + i.val, hl⟩ : Fin 8192) = ⟨1024 * p.val + i.val, by omega⟩ := Fin.ext (by dsimp only; omega)
  rw [e]
  exact tile_wide m c hf p i k

/-- The kernel as it runs: it terminates without a fault, keeps its arguments, and leaves every counter at zero. -/
theorem frame_kernel : Cert.quiescent_ConvAct := fun m ρ _ => Cert.ConvAct.Gen.frame m ρ

/-- The kernel over exact values: the same. -/
theorem frame_ideal : Cert.quiescent_ConvActIdeal := fun m ρ _ => Cert.ConvActIdeal.Gen.frame m ρ

/-- The kernel over exact values where the cotangents are finite: the same. -/
theorem frame_ideal_finite : Cert.quiescent_ConvActIdeal_pre_finite_cotangents := fun m ρ _ => Cert.ConvActIdeal.Gen.frame m ρ

/-- The reference: the same, from its run; it has no counters. -/
theorem frame_reference : Cert.quiescent_ConvActRefIdeal := fun m ρ _ =>
  (θ_run Cert.ConvActRefIdeal.defs _ _).mono
    (fun r h => ⟨fun c => (h c).2.2, sem_eq_zero_of_no_sems (by decide) r.2⟩)
    (Cert.ConvActRefIdeal.Value.run (F := Ideal) m ρ)

/-- The reference where the cotangents are finite: the same, from its run; it has no counters. -/
theorem frame_reference_finite : Cert.quiescent_ConvActRefIdeal_pre_finite_cotangents := fun m ρ _ =>
  (θ_run Cert.ConvActRefIdeal.defs _ _).mono
    (fun r h => ⟨fun c => (h c).2.2, sem_eq_zero_of_no_sems (by decide) r.2⟩)
    (Cert.ConvActRefIdeal.Value.run (F := Ideal) m ρ)

/-- No operation was replaced between the kernel and its exact form. -/
theorem preserves : Cert.preserves_ConvAct_ConvActIdeal := trivial

/-- Over exact values and where the cotangents are finite, the kernel's gradient of what enters the activation and its gradient of the bias are the reference's. -/
theorem algebraic : Cert.algebraic_ConvActIdeal_ConvActRefIdeal_pre_finite_cotangents := by
  intro m ρ m' ρ' hpre hagree
  refine ⟨fun c => Cert.ConvActRefIdeal.Read.val_main_v19 (F := Ideal) (m ((c.tc : Thread nD τ).loc main_arg0)) (m ((c.tc : Thread nD τ).loc main_arg1)) (m ((c.tc : Thread nD τ).loc main_arg2)) (m ((c.tc : Thread nD τ).loc main_arg3)), fun c => Cert.ConvActRefIdeal.Read.val_main_v18 (F := Ideal) (m ((c.tc : Thread nD τ).loc main_arg0)) (m ((c.tc : Thread nD τ).loc main_arg1)) (m ((c.tc : Thread nD τ).loc main_arg2)) (m ((c.tc : Thread nD τ).loc main_arg3)), ?_, ?_⟩
  · refine (θ_run Cert.ConvActIdeal.defs _ _).mono (fun r h c => ?_) (Cert.ConvActIdeal.Value.run_blocks (F := Ideal) m ρ)
    obtain ⟨h0, h1, hrest⟩ := h c
    exact ⟨h0.trans (result_grad m c (hpre c)), h1.trans (result_bias m c (hpre c)), hrest⟩
  · refine (θ_run Cert.ConvActRefIdeal.defs _ _).mono (fun r h c => ?_) (Cert.ConvActRefIdeal.Value.run (F := Ideal) m' ρ')
    obtain ⟨h0, h1, hrest⟩ := h c
    obtain ⟨e0, e1, e2, e3⟩ := hagree c
    have l0 : m' ((c.tc : Thread Cert.ConvActRefIdeal.nD Cert.ConvActRefIdeal.τ).loc Cert.ConvActRefIdeal.main_arg0) = m ((c.tc : Thread nD τ).loc main_arg0) := e0
    have l1 : m' ((c.tc : Thread Cert.ConvActRefIdeal.nD Cert.ConvActRefIdeal.τ).loc Cert.ConvActRefIdeal.main_arg1) = m ((c.tc : Thread nD τ).loc main_arg1) := e1
    have l2 : m' ((c.tc : Thread Cert.ConvActRefIdeal.nD Cert.ConvActRefIdeal.τ).loc Cert.ConvActRefIdeal.main_arg2) = m ((c.tc : Thread nD τ).loc main_arg2) := e2
    have l3 : m' ((c.tc : Thread Cert.ConvActRefIdeal.nD Cert.ConvActRefIdeal.τ).loc Cert.ConvActRefIdeal.main_arg3) = m ((c.tc : Thread nD τ).loc main_arg3) := e3
    refine ⟨?_, ?_, hrest⟩
    · refine (h0.trans (Cert.ConvActRefIdeal.Read.val_main_v19_eq _ _ _ _)).trans ?_
      rw [l0, l1, l2, l3]
    · refine (h1.trans (Cert.ConvActRefIdeal.Read.val_main_v18_eq _ _ _ _)).trans ?_
      rw [l0, l1, l2, l3]

end Cert.ConvActProof
end
-- ==== Proof.Group.lean ====
/- The gated group norm's gradient for one token, over the extended reals: the 2048 channels fall into four groups of 512, and each
   group is divided by the root of its mean square. -/
module

public import Idealize.ShloMosaic.Lib.Pointwise
public import Idealize.ShloMosaic.Lib.Tactic

@[expose] public section

set_option maxRecDepth 16384
set_option maxHeartbeats 0

noncomputable section
open Idealize.ShloMosaic
namespace Cert.Group

/-- The mean square of a group, with the norm's small constant. -/
def meanSq (s : Fin 512 → EReal) : EReal :=
  Ideal.div (∑ k, s k * s k) (Ideal.ofBits .f32 0x44000000#32) + Ideal.ofBits .f32 0x358637BD#32

/-- One over the root of the mean square. -/
def inv (s : Fin 512 → EReal) : EReal := Ideal.rsqrt (meanSq s)

/-- The gradient that reaches each square of the group, from the cotangent `c` of the normed group. -/
def slope (s c : Fin 512 → EReal) : EReal :=
  Ideal.div ((∑ k, s k * c k) * (Ideal.ofBits .f32 0xBF000000#32 * Ideal.div (inv s) (meanSq s))) (Ideal.ofBits .f32 0x44000000#32)

/-- The group's gradient from the cotangent `c` of the normed group. -/
def grad (s c : Fin 512 → EReal) (j : Fin 512) : EReal := c j * inv s + s j * slope s c + slope s c * s j

/-- The normed group. -/
def unit (s : Fin 512 → EReal) (j : Fin 512) : EReal := s j * inv s

/-- What is normed: the scan's output times the gate's SiLU. -/
def gated (y z : Fin 2048 → EReal) (k : Fin 2048) : EReal := y k * (z k * Ideal.logistic (z k))

/-- The product with the transposed output weight. -/
def back (d : Fin 1024 → EReal) (w : Fin 2048 → Fin 1024 → EReal) (k : Fin 2048) : EReal := ∑ l : Fin 1024, d l * w k l

/-- The cotangent of the normed channels: the product with the transposed output weight, times the scale. -/
def cot (d : Fin 1024 → EReal) (w : Fin 2048 → Fin 1024 → EReal) (g : Fin 2048 → EReal) (k : Fin 2048) : EReal := back d w k * g k

/-- The gradient of all channels, each in its group. -/
def gradAll (f c : Fin 2048 → EReal) (k : Fin 2048) : EReal :=
  grad (fun j => f ⟨k.val / 512 * 512 + j.val, by omega⟩) (fun j => c ⟨k.val / 512 * 512 + j.val, by omega⟩) ⟨k.val % 512, by omega⟩

/-- All channels normed, each in its group. -/
def unitAll (f : Fin 2048 → EReal) (k : Fin 2048) : EReal :=
  unit (fun j => f ⟨k.val / 512 * 512 + j.val, by omega⟩) ⟨k.val % 512, by omega⟩

theorem group_at (f : Fin 2048 → EReal) (g o : Nat) (ho : o = g * 512) (hg : g < 4) (j : Fin 512) :
    (fun k : Fin 512 => f ⟨(o + j.val) / 512 * 512 + k.val, by omega⟩) = fun k : Fin 512 => f ⟨o + k.val, by omega⟩ := by
  funext k
  exact congrArg f (Fin.ext (by dsimp only; omega))

/-- The gradient at the channels of the group that starts at `o`. -/
theorem gradAll_at (f c : Fin 2048 → EReal) (g o : Nat) (ho : o = g * 512) (hg : g < 4) (j : Fin 512) :
    gradAll f c ⟨o + j.val, by omega⟩ = grad (fun k => f ⟨o + k.val, by omega⟩) (fun k => c ⟨o + k.val, by omega⟩) j := by
  have e : (⟨(o + j.val) % 512, by omega⟩ : Fin 512) = j := Fin.ext (by dsimp only; omega)
  unfold gradAll
  dsimp only
  rw [group_at f g o ho hg j, group_at c g o ho hg j, e]

/-- The normed channels of the group that starts at `o`. -/
theorem unitAll_at (f : Fin 2048 → EReal) (g o : Nat) (ho : o = g * 512) (hg : g < 4) (j : Fin 512) :
    unitAll f ⟨o + j.val, by omega⟩ = unit (fun k => f ⟨o + k.val, by omega⟩) j := by
  have e : (⟨(o + j.val) % 512, by omega⟩ : Fin 512) = j := Fin.ext (by dsimp only; omega)
  unfold unitAll
  dsimp only
  rw [group_at f g o ho hg j, e]

/-- A channel is one of a group's. -/
theorem channel (k : Fin 2048) : (∃ j : Fin 512, k = ⟨0 + j.val, by omega⟩) ∨ (∃ j : Fin 512, k = ⟨512 + j.val, by omega⟩)
    ∨ (∃ j : Fin 512, k = ⟨1024 + j.val, by omega⟩) ∨ (∃ j : Fin 512, k = ⟨1536 + j.val, by omega⟩) := by
  by_cases h0 : k.val < 512
  · exact .inl ⟨⟨k.val, h0⟩, Fin.ext (by dsimp only; omega)⟩
  by_cases h1 : k.val < 1024
  · exact .inr (.inl ⟨⟨k.val - 512, by omega⟩, Fin.ext (by dsimp only; omega)⟩)
  by_cases h2 : k.val < 1536
  · exact .inr (.inr (.inl ⟨⟨k.val - 1024, by omega⟩, Fin.ext (by dsimp only; omega)⟩))
  · exact .inr (.inr (.inr ⟨⟨k.val - 1536, by omega⟩, Fin.ext (by dsimp only; omega)⟩))

/-- The gradient of the scan's output, from the gradient `u` of what is normed. -/
def gradY (z u : Fin 2048 → EReal) (k : Fin 2048) : EReal := u k * (z k * Ideal.logistic (z k))

/-- The gradient of the gate, from the gradient `u` of what is normed. -/
def gradZ (y z u : Fin 2048 → EReal) (k : Fin 2048) : EReal :=
  y k * u k * Ideal.logistic (z k) + z k * (y k * u k) * (Ideal.logistic (z k) * (1 - Ideal.logistic (z k)))

/-- The host's sum over the axes 0, 3 of 4, at an index of what is left. -/
theorem sum_r4_a03 {n0 n1 n2 n3 : Nat} (h : (⟨4, ![n0, n1, n2, n3]⟩ : Shape).ReducesTo [0, 3] (⟨2, ![n1, n2]⟩ : Shape))
    (v : (⟨4, ![n0, n1, n2, n3]⟩ : Shape).Idx → EReal) (init : EReal) (a1 : Fin n1) (a2 : Fin n2) :
    Ideal.hostReduceAdd h v init (ix2 a1 a2) = init + ∑ k0 : Fin n0, ∑ k3 : Fin n3, v (ix4 k0 a1 a2 k3) := by
  refine congrArg (init + ·) ((Finset.sum_filter_eq_sum_of_fiber _ (fun k : Fin n0 × Fin n3 => ix4 k.1 a1 a2 k.2)
    (fun _ _ e => Prod.ext (congrFun e 0) (congrFun e 3)) (fun i => ⟨fun e => ⟨(i 0, i 3), ?_⟩, ?_⟩) v).trans ?_)
  · funext a
    apply Fin.ext
    match a with
      | ⟨0, _⟩ => rfl
      | ⟨1, _⟩ => exact (congrArg Fin.val (congrFun e ⟨0, by simp⟩)).symm
      | ⟨2, _⟩ => exact (congrArg Fin.val (congrFun e ⟨1, by simp⟩)).symm
      | ⟨3, _⟩ => rfl
  · rintro ⟨k, rfl⟩
    funext b
    apply Fin.ext
    match b with
      | ⟨0, _⟩ => rfl
      | ⟨1, _⟩ => rfl
  · simp only [Fintype.sum_prod_type]

end Cert.Group
end
-- ==== Proof.GroupNorm.lean ====
/- The backward pass of the gated group norm: a grid point's blocks of gradients are the reference's rows, the gate's written in
   place between the other columns, and the scale's gradient, which the first point clears and every point adds to, is the
   reference's sum over the tokens. -/
module

public import proofs.«01_k».proof.Defs
public import proofs.«01_k».proof.Proof.Gen.GroupNorm.Frame
public import proofs.«01_k».proof.Proof.Gen.GroupNormIdeal.Value
public import proofs.«01_k».proof.Proof.Gen.GroupNormRefIdeal.Run
public import proofs.«01_k».proof.Proof.Gen.GroupNormRefIdeal.Read
public import proofs.«01_k».proof.Proof.Group
public import proofs.«01_k».proof.Proof.Sums
public import Idealize.ShloMosaic.Lib.Pipeline.ValueKit.Acc
public import Idealize.ShloMosaic.Lib.Pipeline.ValueKit.Partial
public import Idealize.ShloMosaic.Lib.Pointwise
public import Idealize.ShloMosaic.Lib.Tactic
public import Idealize.ShloMosaic.Adequacy
public import Idealize.ShloMosaic.Init

@[expose] public section

set_option maxRecDepth 16384
set_option maxHeartbeats 0

noncomputable section
open Idealize.ShloMosaic Idealize.ShloMosaic.TcCoe Idealize.SL.Sem
open Idealize.ShloMosaic.Pipeline (Dat)
namespace Cert.GroupNormProof
open Cert.GroupNormIdeal Cert.GroupNormIdeal.Gen
theorem hz : (![0, 0] : Fin 2 → Nat) = fun _ => 0 := by funext i; fin_cases i <;> rfl

section
variable {F : FTy → Type} [FloatOps F]

/-- The first point: the block of gradients of the scan's output. -/
theorem out_A_5 (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S1x2048 .f32) (harg3 : arg3.IsWhole) (arg5 : Memref sig .tc .vmem S512x1024 .bf16) (harg5 : arg5.IsWhole) (arg6 : Memref sig .tc .vmem S2048x1024 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S1x2048 .f32) (harg9 : arg9.IsWhole) (hc0 : cond0_0 i) (x0 : Vec F S512x2048 .bf16) (x1 : Vec F S512x2048 .bf16) (x2 : Vec F S1x2048 .f32) (x3 : Vec F S512x1024 .bf16) (x4 : Vec F S2048x1024 .bf16) :
    out0_A_5 c i arg1 harg1 arg2 harg2 arg3 harg3 arg5 harg5 arg6 harg6 arg7 harg7 arg8 harg8 arg9 harg9 hc0 x0 x1 x2 x3 x4 = k0_pay2 (k0_pay11 x1) (k0_pay13 x0 x1) (k0_pay15 x0 x1) (k0_pay16 x0 x1) (k0_pay33 x2 (k0_pay8 x3 x4)) (k0_pay39 (k0_pay18 x0 x1) (k0_pay20 x0 x1) (k0_pay23 (k0_pay21 x0 x1) k0_pay22) (k0_pay24 (k0_pay12 x0 x1)) (k0_pay26 (k0_pay12 x0 x1)) (k0_pay27 (k0_pay12 x0 x1)) (k0_pay28 (k0_pay12 x0 x1)) (k0_pay34 x2 (k0_pay8 x3 x4)) (k0_pay35 x2 (k0_pay8 x3 x4)) (k0_pay37 x2 (k0_pay8 x3 x4) (k0_pay12 x0 x1)) (k0_pay38 x2 (k0_pay8 x3 x4) (k0_pay12 x0 x1))) (k0_pay40 (k0_pay13 x0 x1) (k0_pay33 x2 (k0_pay8 x3 x4))) := by
  unfold out0_A_5
  rw [View.read_writes_eq_canon _ _ _ (cover0_A_5 c i arg1 harg1 arg2 harg2 arg3 harg3 arg5 harg5 arg6 harg6 arg7 harg7 arg8 harg8 arg9 harg9 hc0 x0 x1 x2 x3 x4)]
  unfold kernelRun0_A
  dsimp only
  rw [View.canon_unit_zero hz]
  sl_unfold_words
  simp only [View.readAt_eq_ld, harg1.read_unread, harg2.read_unread, harg3.read_unread, harg5.read_unread, harg6.read_unread, harg7.read_unread, harg8.read_unread, harg9.read_unread, View.ld_unit_zero (S := S1x2048) hz, View.ld_unit_zero (S := S2048x1024) hz, View.ld_unit_zero (S := S512x1024) hz, View.ld_unit_zero (S := S512x2048) hz]

/-- The first point: the block of gradients of the gate. -/
theorem out_A_6 (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S1x2048 .f32) (harg3 : arg3.IsWhole) (arg5 : Memref sig .tc .vmem S512x1024 .bf16) (harg5 : arg5.IsWhole) (arg6 : Memref sig .tc .vmem S2048x1024 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S1x2048 .f32) (harg9 : arg9.IsWhole) (hc0 : cond0_0 i) (x0 : Vec F S512x2048 .bf16) (x1 : Vec F S512x2048 .bf16) (x2 : Vec F S1x2048 .f32) (x3 : Vec F S512x1024 .bf16) (x4 : Vec F S2048x1024 .bf16) :
    out0_A_6 c i arg1 harg1 arg2 harg2 arg3 harg3 arg5 harg5 arg6 harg6 arg7 harg7 arg8 harg8 arg9 harg9 hc0 x0 x1 x2 x3 x4 = k0_pay3 (k0_pay6 x0) (k0_pay7 x1) (k0_pay9 x1) (k0_pay10 x1) (k0_pay13 x0 x1) (k0_pay15 x0 x1) (k0_pay16 x0 x1) (k0_pay33 x2 (k0_pay8 x3 x4)) (k0_pay39 (k0_pay18 x0 x1) (k0_pay20 x0 x1) (k0_pay23 (k0_pay21 x0 x1) k0_pay22) (k0_pay24 (k0_pay12 x0 x1)) (k0_pay26 (k0_pay12 x0 x1)) (k0_pay27 (k0_pay12 x0 x1)) (k0_pay28 (k0_pay12 x0 x1)) (k0_pay34 x2 (k0_pay8 x3 x4)) (k0_pay35 x2 (k0_pay8 x3 x4)) (k0_pay37 x2 (k0_pay8 x3 x4) (k0_pay12 x0 x1)) (k0_pay38 x2 (k0_pay8 x3 x4) (k0_pay12 x0 x1))) (k0_pay40 (k0_pay13 x0 x1) (k0_pay33 x2 (k0_pay8 x3 x4))) := by
  unfold out0_A_6
  rw [View.read_writes_eq_canon _ _ _ (cover0_A_6 c i arg1 harg1 arg2 harg2 arg3 harg3 arg5 harg5 arg6 harg6 arg7 harg7 arg8 harg8 arg9 harg9 hc0 x0 x1 x2 x3 x4)]
  unfold kernelRun0_A
  dsimp only
  rw [View.canon_unit_zero hz]
  sl_unfold_words
  simp only [View.readAt_eq_ld, harg1.read_unread, harg2.read_unread, harg3.read_unread, harg5.read_unread, harg6.read_unread, harg7.read_unread, harg8.read_unread, harg9.read_unread, View.ld_unit_zero (S := S1x2048) hz, View.ld_unit_zero (S := S2048x1024) hz, View.ld_unit_zero (S := S512x1024) hz, View.ld_unit_zero (S := S512x2048) hz]

/-- The first point: the scale's gradient. -/
theorem out_A_7 (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S1x2048 .f32) (harg3 : arg3.IsWhole) (arg5 : Memref sig .tc .vmem S512x1024 .bf16) (harg5 : arg5.IsWhole) (arg6 : Memref sig .tc .vmem S2048x1024 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S1x2048 .f32) (harg9 : arg9.IsWhole) (hc0 : cond0_0 i) (x0 : Vec F S512x2048 .bf16) (x1 : Vec F S512x2048 .bf16) (x2 : Vec F S1x2048 .f32) (x3 : Vec F S512x1024 .bf16) (x4 : Vec F S2048x1024 .bf16) :
    out0_A_7 c i arg1 harg1 arg2 harg2 arg3 harg3 arg5 harg5 arg6 harg6 arg7 harg7 arg8 harg8 arg9 harg9 hc0 x0 x1 x2 x3 x4 = k0_pay5 (k0_pay31 (k0_pay8 x3 x4) (k0_pay12 x0 x1) (k0_pay17 x0 x1) (k0_pay18 x0 x1) (k0_pay20 x0 x1)) k0_pay4 := by
  unfold out0_A_7
  rw [View.read_writes_eq_canon _ _ _ (cover0_A_7 c i arg1 harg1 arg2 harg2 arg3 harg3 arg5 harg5 arg6 harg6 arg7 harg7 arg8 harg8 arg9 harg9 hc0 x0 x1 x2 x3 x4)]
  unfold kernelRun0_A
  dsimp only
  rw [View.canon_cons_unit_zero (S := S1x2048) hz]
  sl_unfold_words
  simp only [View.readAt_eq_ld, harg1.read_unread, harg2.read_unread, harg3.read_unread, harg5.read_unread, harg6.read_unread, harg7.read_unread, harg8.read_unread, harg9.read_unread, View.ld_unit_zero (S := S1x2048) hz, View.ld_unit_zero (S := S2048x1024) hz, View.ld_unit_zero (S := S512x1024) hz, View.ld_unit_zero (S := S512x2048) hz, View.readCov_unit_zero (S := S1x2048) _ hz]

/-- A later point: the block of gradients of the scan's output. -/
theorem out_B_5 (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S1x2048 .f32) (harg3 : arg3.IsWhole) (arg5 : Memref sig .tc .vmem S512x1024 .bf16) (harg5 : arg5.IsWhole) (arg6 : Memref sig .tc .vmem S2048x1024 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S1x2048 .f32) (harg9 : arg9.IsWhole) (hc0 : ¬cond0_0 i) (x0 : Vec F S512x2048 .bf16) (x1 : Vec F S512x2048 .bf16) (x2 : Vec F S1x2048 .f32) (x3 : Vec F S512x1024 .bf16) (x4 : Vec F S2048x1024 .bf16) (xo7 : Vec F S1x2048 .f32) :
    out0_B_5 c i arg1 harg1 arg2 harg2 arg3 harg3 arg5 harg5 arg6 harg6 arg7 harg7 arg8 harg8 arg9 harg9 hc0 x0 x1 x2 x3 x4 xo7 = k0_pay2 (k0_pay11 x1) (k0_pay13 x0 x1) (k0_pay15 x0 x1) (k0_pay16 x0 x1) (k0_pay33 x2 (k0_pay8 x3 x4)) (k0_pay39 (k0_pay18 x0 x1) (k0_pay20 x0 x1) (k0_pay23 (k0_pay21 x0 x1) k0_pay22) (k0_pay24 (k0_pay12 x0 x1)) (k0_pay26 (k0_pay12 x0 x1)) (k0_pay27 (k0_pay12 x0 x1)) (k0_pay28 (k0_pay12 x0 x1)) (k0_pay34 x2 (k0_pay8 x3 x4)) (k0_pay35 x2 (k0_pay8 x3 x4)) (k0_pay37 x2 (k0_pay8 x3 x4) (k0_pay12 x0 x1)) (k0_pay38 x2 (k0_pay8 x3 x4) (k0_pay12 x0 x1))) (k0_pay40 (k0_pay13 x0 x1) (k0_pay33 x2 (k0_pay8 x3 x4))) := by
  unfold out0_B_5
  rw [View.read_writes_eq_canon _ _ _ (cover0_B_5 c i arg1 harg1 arg2 harg2 arg3 harg3 arg5 harg5 arg6 harg6 arg7 harg7 arg8 harg8 arg9 harg9 hc0 x0 x1 x2 x3 x4 xo7)]
  unfold kernelRun0_B
  dsimp only
  rw [View.canon_unit_zero hz]
  sl_unfold_words
  simp only [View.readAt_eq_ld, harg1.read_unread, harg2.read_unread, harg3.read_unread, harg5.read_unread, harg6.read_unread, harg7.read_unread, harg8.read_unread, harg9.read_unread, View.ld_unit_zero (S := S1x2048) hz, View.ld_unit_zero (S := S2048x1024) hz, View.ld_unit_zero (S := S512x1024) hz, View.ld_unit_zero (S := S512x2048) hz]

/-- A later point: the block of gradients of the gate. -/
theorem out_B_6 (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S1x2048 .f32) (harg3 : arg3.IsWhole) (arg5 : Memref sig .tc .vmem S512x1024 .bf16) (harg5 : arg5.IsWhole) (arg6 : Memref sig .tc .vmem S2048x1024 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S1x2048 .f32) (harg9 : arg9.IsWhole) (hc0 : ¬cond0_0 i) (x0 : Vec F S512x2048 .bf16) (x1 : Vec F S512x2048 .bf16) (x2 : Vec F S1x2048 .f32) (x3 : Vec F S512x1024 .bf16) (x4 : Vec F S2048x1024 .bf16) (xo7 : Vec F S1x2048 .f32) :
    out0_B_6 c i arg1 harg1 arg2 harg2 arg3 harg3 arg5 harg5 arg6 harg6 arg7 harg7 arg8 harg8 arg9 harg9 hc0 x0 x1 x2 x3 x4 xo7 = k0_pay3 (k0_pay6 x0) (k0_pay7 x1) (k0_pay9 x1) (k0_pay10 x1) (k0_pay13 x0 x1) (k0_pay15 x0 x1) (k0_pay16 x0 x1) (k0_pay33 x2 (k0_pay8 x3 x4)) (k0_pay39 (k0_pay18 x0 x1) (k0_pay20 x0 x1) (k0_pay23 (k0_pay21 x0 x1) k0_pay22) (k0_pay24 (k0_pay12 x0 x1)) (k0_pay26 (k0_pay12 x0 x1)) (k0_pay27 (k0_pay12 x0 x1)) (k0_pay28 (k0_pay12 x0 x1)) (k0_pay34 x2 (k0_pay8 x3 x4)) (k0_pay35 x2 (k0_pay8 x3 x4)) (k0_pay37 x2 (k0_pay8 x3 x4) (k0_pay12 x0 x1)) (k0_pay38 x2 (k0_pay8 x3 x4) (k0_pay12 x0 x1))) (k0_pay40 (k0_pay13 x0 x1) (k0_pay33 x2 (k0_pay8 x3 x4))) := by
  unfold out0_B_6
  rw [View.read_writes_eq_canon _ _ _ (cover0_B_6 c i arg1 harg1 arg2 harg2 arg3 harg3 arg5 harg5 arg6 harg6 arg7 harg7 arg8 harg8 arg9 harg9 hc0 x0 x1 x2 x3 x4 xo7)]
  unfold kernelRun0_B
  dsimp only
  rw [View.canon_unit_zero hz]
  sl_unfold_words
  simp only [View.readAt_eq_ld, harg1.read_unread, harg2.read_unread, harg3.read_unread, harg5.read_unread, harg6.read_unread, harg7.read_unread, harg8.read_unread, harg9.read_unread, View.ld_unit_zero (S := S1x2048) hz, View.ld_unit_zero (S := S2048x1024) hz, View.ld_unit_zero (S := S512x1024) hz, View.ld_unit_zero (S := S512x2048) hz]

/-- A later point: the scale's gradient. -/
theorem out_B_7 (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S1x2048 .f32) (harg3 : arg3.IsWhole) (arg5 : Memref sig .tc .vmem S512x1024 .bf16) (harg5 : arg5.IsWhole) (arg6 : Memref sig .tc .vmem S2048x1024 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S1x2048 .f32) (harg9 : arg9.IsWhole) (hc0 : ¬cond0_0 i) (x0 : Vec F S512x2048 .bf16) (x1 : Vec F S512x2048 .bf16) (x2 : Vec F S1x2048 .f32) (x3 : Vec F S512x1024 .bf16) (x4 : Vec F S2048x1024 .bf16) (xo7 : Vec F S1x2048 .f32) :
    out0_B_7 c i arg1 harg1 arg2 harg2 arg3 harg3 arg5 harg5 arg6 harg6 arg7 harg7 arg8 harg8 arg9 harg9 hc0 x0 x1 x2 x3 x4 xo7 = k0_pay5 (k0_pay31 (k0_pay8 x3 x4) (k0_pay12 x0 x1) (k0_pay17 x0 x1) (k0_pay18 x0 x1) (k0_pay20 x0 x1)) xo7 := by
  unfold out0_B_7
  rw [View.read_writes_eq_canon _ _ _ (cover0_B_7 c i arg1 harg1 arg2 harg2 arg3 harg3 arg5 harg5 arg6 harg6 arg7 harg7 arg8 harg8 arg9 harg9 hc0 x0 x1 x2 x3 x4 xo7)]
  unfold kernelRun0_B
  dsimp only
  rw [View.canon_unit_zero hz]
  sl_unfold_words
  simp only [View.readAt_eq_ld, harg1.read_unread, harg2.read_unread, harg3.read_unread, harg5.read_unread, harg6.read_unread, harg7.read_unread, harg8.read_unread, harg9.read_unread, View.ld_unit_zero (S := S1x2048) hz, View.ld_unit_zero (S := S2048x1024) hz, View.ld_unit_zero (S := S512x1024) hz, View.ld_unit_zero (S := S512x2048) hz]
end

/-- The gradient of what is normed, in group 0 of a grid point's block. -/
theorem grad_apply_0 (x0 : Vec Ideal S512x2048 .bf16) (x1 : Vec Ideal S512x2048 .bf16) (x2 : Vec Ideal S1x2048 .f32) (x3 : Vec Ideal S512x1024 .bf16) (x4 : Vec Ideal S2048x1024 .bf16) (i : Fin 512) (j : Fin 512) :
    k0_pay1 (k0_pay13 x0 x1) (k0_pay15 x0 x1) (k0_pay16 x0 x1) (k0_pay33 x2 (k0_pay8 x3 x4)) (k0_pay39 (k0_pay18 x0 x1) (k0_pay20 x0 x1) (k0_pay23 (k0_pay21 x0 x1) k0_pay22) (k0_pay24 (k0_pay12 x0 x1)) (k0_pay26 (k0_pay12 x0 x1)) (k0_pay27 (k0_pay12 x0 x1)) (k0_pay28 (k0_pay12 x0 x1)) (k0_pay34 x2 (k0_pay8 x3 x4)) (k0_pay35 x2 (k0_pay8 x3 x4)) (k0_pay37 x2 (k0_pay8 x3 x4) (k0_pay12 x0 x1)) (k0_pay38 x2 (k0_pay8 x3 x4) (k0_pay12 x0 x1))) (k0_pay40 (k0_pay13 x0 x1) (k0_pay33 x2 (k0_pay8 x3 x4))) (ix2 i ⟨j.val, by omega⟩) = Group.grad (fun k => Group.gated (fun k => x0 (ix2 i k)) (fun k => x1 (ix2 i k)) ⟨k.val, by omega⟩) (fun k => Group.cot (fun l => x3 (ix2 i l)) (fun k l => x4 (ix2 k l)) (fun k => x2 (ix2 0 k)) ⟨k.val, by omega⟩) j := by
  pointwise [Group.grad, Group.unit, Group.slope, Group.inv, Group.meanSq, Group.gated, Group.cot, Group.back, k0_pay1, k0_pay39, k0_pay40, k0_pay6, k0_pay7, k0_pay8, k0_pay9, k0_pay11, k0_pay12, k0_pay13, k0_pay14, k0_pay15, k0_pay16, k0_pay18, k0_pay19, k0_pay20, k0_pay21, k0_pay22, k0_pay23, k0_pay24, k0_pay25, k0_pay26, k0_pay27, k0_pay28, k0_pay29, k0_pay30, k0_pay32, k0_pay33, k0_pay34, k0_pay35, k0_pay36, k0_pay37, k0_pay38, Fin.sum_univ_one]
  simp (disch := omega) only [dif_pos, dif_neg, zero_add, add_zero, Nat.add_sub_cancel_left, Fin.eta]

/-- A grid point's share of the scale's gradient, in group 0. -/
theorem share_apply_0 (x0 : Vec Ideal S512x2048 .bf16) (x1 : Vec Ideal S512x2048 .bf16) (x3 : Vec Ideal S512x1024 .bf16) (x4 : Vec Ideal S2048x1024 .bf16) (u : Fin 1) (j : Fin 512) :
    k0_pay31 (k0_pay8 x3 x4) (k0_pay12 x0 x1) (k0_pay17 x0 x1) (k0_pay18 x0 x1) (k0_pay20 x0 x1) (ix2 u ⟨j.val, by omega⟩) = ∑ i : Fin 512, Group.unit (fun k => Group.gated (fun k => x0 (ix2 i k)) (fun k => x1 (ix2 i k)) ⟨k.val, by omega⟩) j * Group.back (fun l => x3 (ix2 i l)) (fun k l => x4 (ix2 k l)) ⟨j.val, by omega⟩ := by
  pointwise [Group.grad, Group.unit, Group.slope, Group.inv, Group.meanSq, Group.gated, Group.cot, Group.back, k0_pay31, k0_pay17, k0_pay1, k0_pay39, k0_pay40, k0_pay6, k0_pay7, k0_pay8, k0_pay9, k0_pay11, k0_pay12, k0_pay13, k0_pay14, k0_pay15, k0_pay16, k0_pay18, k0_pay19, k0_pay20, k0_pay21, k0_pay22, k0_pay23, k0_pay24, k0_pay25, k0_pay26, k0_pay27, k0_pay28, k0_pay29, k0_pay30, k0_pay32, k0_pay33, k0_pay34, k0_pay35, k0_pay36, k0_pay37, k0_pay38, Fin.sum_univ_one]

/-- The gradient of what is normed, in group 1 of a grid point's block. -/
theorem grad_apply_1 (x0 : Vec Ideal S512x2048 .bf16) (x1 : Vec Ideal S512x2048 .bf16) (x2 : Vec Ideal S1x2048 .f32) (x3 : Vec Ideal S512x1024 .bf16) (x4 : Vec Ideal S2048x1024 .bf16) (i : Fin 512) (j : Fin 512) :
    k0_pay1 (k0_pay13 x0 x1) (k0_pay15 x0 x1) (k0_pay16 x0 x1) (k0_pay33 x2 (k0_pay8 x3 x4)) (k0_pay39 (k0_pay18 x0 x1) (k0_pay20 x0 x1) (k0_pay23 (k0_pay21 x0 x1) k0_pay22) (k0_pay24 (k0_pay12 x0 x1)) (k0_pay26 (k0_pay12 x0 x1)) (k0_pay27 (k0_pay12 x0 x1)) (k0_pay28 (k0_pay12 x0 x1)) (k0_pay34 x2 (k0_pay8 x3 x4)) (k0_pay35 x2 (k0_pay8 x3 x4)) (k0_pay37 x2 (k0_pay8 x3 x4) (k0_pay12 x0 x1)) (k0_pay38 x2 (k0_pay8 x3 x4) (k0_pay12 x0 x1))) (k0_pay40 (k0_pay13 x0 x1) (k0_pay33 x2 (k0_pay8 x3 x4))) (ix2 i ⟨512 + j.val, by omega⟩) = Group.grad (fun k => Group.gated (fun k => x0 (ix2 i k)) (fun k => x1 (ix2 i k)) ⟨512 + k.val, by omega⟩) (fun k => Group.cot (fun l => x3 (ix2 i l)) (fun k l => x4 (ix2 k l)) (fun k => x2 (ix2 0 k)) ⟨512 + k.val, by omega⟩) j := by
  pointwise [Group.grad, Group.unit, Group.slope, Group.inv, Group.meanSq, Group.gated, Group.cot, Group.back, k0_pay1, k0_pay39, k0_pay40, k0_pay6, k0_pay7, k0_pay8, k0_pay9, k0_pay11, k0_pay12, k0_pay13, k0_pay14, k0_pay15, k0_pay16, k0_pay18, k0_pay19, k0_pay20, k0_pay21, k0_pay22, k0_pay23, k0_pay24, k0_pay25, k0_pay26, k0_pay27, k0_pay28, k0_pay29, k0_pay30, k0_pay32, k0_pay33, k0_pay34, k0_pay35, k0_pay36, k0_pay37, k0_pay38, Fin.sum_univ_one]
  simp (disch := omega) only [dif_pos, dif_neg, zero_add, add_zero, Nat.add_sub_cancel_left, Fin.eta]

/-- A grid point's share of the scale's gradient, in group 1. -/
theorem share_apply_1 (x0 : Vec Ideal S512x2048 .bf16) (x1 : Vec Ideal S512x2048 .bf16) (x3 : Vec Ideal S512x1024 .bf16) (x4 : Vec Ideal S2048x1024 .bf16) (u : Fin 1) (j : Fin 512) :
    k0_pay31 (k0_pay8 x3 x4) (k0_pay12 x0 x1) (k0_pay17 x0 x1) (k0_pay18 x0 x1) (k0_pay20 x0 x1) (ix2 u ⟨512 + j.val, by omega⟩) = ∑ i : Fin 512, Group.unit (fun k => Group.gated (fun k => x0 (ix2 i k)) (fun k => x1 (ix2 i k)) ⟨512 + k.val, by omega⟩) j * Group.back (fun l => x3 (ix2 i l)) (fun k l => x4 (ix2 k l)) ⟨512 + j.val, by omega⟩ := by
  pointwise [Group.grad, Group.unit, Group.slope, Group.inv, Group.meanSq, Group.gated, Group.cot, Group.back, k0_pay31, k0_pay17, k0_pay1, k0_pay39, k0_pay40, k0_pay6, k0_pay7, k0_pay8, k0_pay9, k0_pay11, k0_pay12, k0_pay13, k0_pay14, k0_pay15, k0_pay16, k0_pay18, k0_pay19, k0_pay20, k0_pay21, k0_pay22, k0_pay23, k0_pay24, k0_pay25, k0_pay26, k0_pay27, k0_pay28, k0_pay29, k0_pay30, k0_pay32, k0_pay33, k0_pay34, k0_pay35, k0_pay36, k0_pay37, k0_pay38, Fin.sum_univ_one]

/-- The gradient of what is normed, in group 2 of a grid point's block. -/
theorem grad_apply_2 (x0 : Vec Ideal S512x2048 .bf16) (x1 : Vec Ideal S512x2048 .bf16) (x2 : Vec Ideal S1x2048 .f32) (x3 : Vec Ideal S512x1024 .bf16) (x4 : Vec Ideal S2048x1024 .bf16) (i : Fin 512) (j : Fin 512) :
    k0_pay1 (k0_pay13 x0 x1) (k0_pay15 x0 x1) (k0_pay16 x0 x1) (k0_pay33 x2 (k0_pay8 x3 x4)) (k0_pay39 (k0_pay18 x0 x1) (k0_pay20 x0 x1) (k0_pay23 (k0_pay21 x0 x1) k0_pay22) (k0_pay24 (k0_pay12 x0 x1)) (k0_pay26 (k0_pay12 x0 x1)) (k0_pay27 (k0_pay12 x0 x1)) (k0_pay28 (k0_pay12 x0 x1)) (k0_pay34 x2 (k0_pay8 x3 x4)) (k0_pay35 x2 (k0_pay8 x3 x4)) (k0_pay37 x2 (k0_pay8 x3 x4) (k0_pay12 x0 x1)) (k0_pay38 x2 (k0_pay8 x3 x4) (k0_pay12 x0 x1))) (k0_pay40 (k0_pay13 x0 x1) (k0_pay33 x2 (k0_pay8 x3 x4))) (ix2 i ⟨1024 + j.val, by omega⟩) = Group.grad (fun k => Group.gated (fun k => x0 (ix2 i k)) (fun k => x1 (ix2 i k)) ⟨1024 + k.val, by omega⟩) (fun k => Group.cot (fun l => x3 (ix2 i l)) (fun k l => x4 (ix2 k l)) (fun k => x2 (ix2 0 k)) ⟨1024 + k.val, by omega⟩) j := by
  pointwise [Group.grad, Group.unit, Group.slope, Group.inv, Group.meanSq, Group.gated, Group.cot, Group.back, k0_pay1, k0_pay39, k0_pay40, k0_pay6, k0_pay7, k0_pay8, k0_pay9, k0_pay11, k0_pay12, k0_pay13, k0_pay14, k0_pay15, k0_pay16, k0_pay18, k0_pay19, k0_pay20, k0_pay21, k0_pay22, k0_pay23, k0_pay24, k0_pay25, k0_pay26, k0_pay27, k0_pay28, k0_pay29, k0_pay30, k0_pay32, k0_pay33, k0_pay34, k0_pay35, k0_pay36, k0_pay37, k0_pay38, Fin.sum_univ_one]
  simp (disch := omega) only [dif_pos, dif_neg, zero_add, add_zero, Nat.add_sub_cancel_left, Fin.eta]

/-- A grid point's share of the scale's gradient, in group 2. -/
theorem share_apply_2 (x0 : Vec Ideal S512x2048 .bf16) (x1 : Vec Ideal S512x2048 .bf16) (x3 : Vec Ideal S512x1024 .bf16) (x4 : Vec Ideal S2048x1024 .bf16) (u : Fin 1) (j : Fin 512) :
    k0_pay31 (k0_pay8 x3 x4) (k0_pay12 x0 x1) (k0_pay17 x0 x1) (k0_pay18 x0 x1) (k0_pay20 x0 x1) (ix2 u ⟨1024 + j.val, by omega⟩) = ∑ i : Fin 512, Group.unit (fun k => Group.gated (fun k => x0 (ix2 i k)) (fun k => x1 (ix2 i k)) ⟨1024 + k.val, by omega⟩) j * Group.back (fun l => x3 (ix2 i l)) (fun k l => x4 (ix2 k l)) ⟨1024 + j.val, by omega⟩ := by
  pointwise [Group.grad, Group.unit, Group.slope, Group.inv, Group.meanSq, Group.gated, Group.cot, Group.back, k0_pay31, k0_pay17, k0_pay1, k0_pay39, k0_pay40, k0_pay6, k0_pay7, k0_pay8, k0_pay9, k0_pay11, k0_pay12, k0_pay13, k0_pay14, k0_pay15, k0_pay16, k0_pay18, k0_pay19, k0_pay20, k0_pay21, k0_pay22, k0_pay23, k0_pay24, k0_pay25, k0_pay26, k0_pay27, k0_pay28, k0_pay29, k0_pay30, k0_pay32, k0_pay33, k0_pay34, k0_pay35, k0_pay36, k0_pay37, k0_pay38, Fin.sum_univ_one]
  simp (disch := omega) only [dif_pos, dif_neg, zero_add, add_zero, Nat.add_sub_cancel_left, Fin.eta]
  simp only [show 1024 + j.val - 512 - 512 = j.val by omega]

/-- The gradient of what is normed, in group 3 of a grid point's block. -/
theorem grad_apply_3 (x0 : Vec Ideal S512x2048 .bf16) (x1 : Vec Ideal S512x2048 .bf16) (x2 : Vec Ideal S1x2048 .f32) (x3 : Vec Ideal S512x1024 .bf16) (x4 : Vec Ideal S2048x1024 .bf16) (i : Fin 512) (j : Fin 512) :
    k0_pay1 (k0_pay13 x0 x1) (k0_pay15 x0 x1) (k0_pay16 x0 x1) (k0_pay33 x2 (k0_pay8 x3 x4)) (k0_pay39 (k0_pay18 x0 x1) (k0_pay20 x0 x1) (k0_pay23 (k0_pay21 x0 x1) k0_pay22) (k0_pay24 (k0_pay12 x0 x1)) (k0_pay26 (k0_pay12 x0 x1)) (k0_pay27 (k0_pay12 x0 x1)) (k0_pay28 (k0_pay12 x0 x1)) (k0_pay34 x2 (k0_pay8 x3 x4)) (k0_pay35 x2 (k0_pay8 x3 x4)) (k0_pay37 x2 (k0_pay8 x3 x4) (k0_pay12 x0 x1)) (k0_pay38 x2 (k0_pay8 x3 x4) (k0_pay12 x0 x1))) (k0_pay40 (k0_pay13 x0 x1) (k0_pay33 x2 (k0_pay8 x3 x4))) (ix2 i ⟨1536 + j.val, by omega⟩) = Group.grad (fun k => Group.gated (fun k => x0 (ix2 i k)) (fun k => x1 (ix2 i k)) ⟨1536 + k.val, by omega⟩) (fun k => Group.cot (fun l => x3 (ix2 i l)) (fun k l => x4 (ix2 k l)) (fun k => x2 (ix2 0 k)) ⟨1536 + k.val, by omega⟩) j := by
  pointwise [Group.grad, Group.unit, Group.slope, Group.inv, Group.meanSq, Group.gated, Group.cot, Group.back, k0_pay1, k0_pay39, k0_pay40, k0_pay6, k0_pay7, k0_pay8, k0_pay9, k0_pay11, k0_pay12, k0_pay13, k0_pay14, k0_pay15, k0_pay16, k0_pay18, k0_pay19, k0_pay20, k0_pay21, k0_pay22, k0_pay23, k0_pay24, k0_pay25, k0_pay26, k0_pay27, k0_pay28, k0_pay29, k0_pay30, k0_pay32, k0_pay33, k0_pay34, k0_pay35, k0_pay36, k0_pay37, k0_pay38, Fin.sum_univ_one]
  simp (disch := omega) only [dif_pos, dif_neg, zero_add, add_zero, Nat.add_sub_cancel_left, Fin.eta]

/-- A grid point's share of the scale's gradient, in group 3. -/
theorem share_apply_3 (x0 : Vec Ideal S512x2048 .bf16) (x1 : Vec Ideal S512x2048 .bf16) (x3 : Vec Ideal S512x1024 .bf16) (x4 : Vec Ideal S2048x1024 .bf16) (u : Fin 1) (j : Fin 512) :
    k0_pay31 (k0_pay8 x3 x4) (k0_pay12 x0 x1) (k0_pay17 x0 x1) (k0_pay18 x0 x1) (k0_pay20 x0 x1) (ix2 u ⟨1536 + j.val, by omega⟩) = ∑ i : Fin 512, Group.unit (fun k => Group.gated (fun k => x0 (ix2 i k)) (fun k => x1 (ix2 i k)) ⟨1536 + k.val, by omega⟩) j * Group.back (fun l => x3 (ix2 i l)) (fun k l => x4 (ix2 k l)) ⟨1536 + j.val, by omega⟩ := by
  pointwise [Group.grad, Group.unit, Group.slope, Group.inv, Group.meanSq, Group.gated, Group.cot, Group.back, k0_pay31, k0_pay17, k0_pay1, k0_pay39, k0_pay40, k0_pay6, k0_pay7, k0_pay8, k0_pay9, k0_pay11, k0_pay12, k0_pay13, k0_pay14, k0_pay15, k0_pay16, k0_pay18, k0_pay19, k0_pay20, k0_pay21, k0_pay22, k0_pay23, k0_pay24, k0_pay25, k0_pay26, k0_pay27, k0_pay28, k0_pay29, k0_pay30, k0_pay32, k0_pay33, k0_pay34, k0_pay35, k0_pay36, k0_pay37, k0_pay38, Fin.sum_univ_one]
  simp (disch := omega) only [dif_pos, dif_neg, zero_add, add_zero, Nat.add_sub_cancel_left, Fin.eta]
  simp only [show 1536 + j.val - 512 - 512 - 512 = j.val by omega]

/-- The gradient of what is normed, in a grid point's block. -/
theorem grad_apply (x0 : Vec Ideal S512x2048 .bf16) (x1 : Vec Ideal S512x2048 .bf16) (x2 : Vec Ideal S1x2048 .f32) (x3 : Vec Ideal S512x1024 .bf16) (x4 : Vec Ideal S2048x1024 .bf16) (i : Fin 512) (k : Fin 2048) :
    k0_pay1 (k0_pay13 x0 x1) (k0_pay15 x0 x1) (k0_pay16 x0 x1) (k0_pay33 x2 (k0_pay8 x3 x4)) (k0_pay39 (k0_pay18 x0 x1) (k0_pay20 x0 x1) (k0_pay23 (k0_pay21 x0 x1) k0_pay22) (k0_pay24 (k0_pay12 x0 x1)) (k0_pay26 (k0_pay12 x0 x1)) (k0_pay27 (k0_pay12 x0 x1)) (k0_pay28 (k0_pay12 x0 x1)) (k0_pay34 x2 (k0_pay8 x3 x4)) (k0_pay35 x2 (k0_pay8 x3 x4)) (k0_pay37 x2 (k0_pay8 x3 x4) (k0_pay12 x0 x1)) (k0_pay38 x2 (k0_pay8 x3 x4) (k0_pay12 x0 x1))) (k0_pay40 (k0_pay13 x0 x1) (k0_pay33 x2 (k0_pay8 x3 x4))) (ix2 i k) = Group.gradAll (Group.gated (fun k => x0 (ix2 i k)) (fun k => x1 (ix2 i k))) (Group.cot (fun l => x3 (ix2 i l)) (fun k l => x4 (ix2 k l)) (fun k => x2 (ix2 0 k))) k := by
  rcases Group.channel k with ⟨j, rfl⟩ | ⟨j, rfl⟩ | ⟨j, rfl⟩ | ⟨j, rfl⟩
  · rw [Group.gradAll_at _ _ 0 0 rfl (by decide) j]
    simp only [zero_add]
    exact grad_apply_0 x0 x1 x2 x3 x4 i j
  · rw [Group.gradAll_at _ _ 1 512 rfl (by decide) j]
    exact grad_apply_1 x0 x1 x2 x3 x4 i j
  · rw [Group.gradAll_at _ _ 2 1024 rfl (by decide) j]
    exact grad_apply_2 x0 x1 x2 x3 x4 i j
  · rw [Group.gradAll_at _ _ 3 1536 rfl (by decide) j]
    exact grad_apply_3 x0 x1 x2 x3 x4 i j

/-- A grid point's share of the scale's gradient. -/
theorem share_apply (x0 : Vec Ideal S512x2048 .bf16) (x1 : Vec Ideal S512x2048 .bf16) (x3 : Vec Ideal S512x1024 .bf16) (x4 : Vec Ideal S2048x1024 .bf16) (u : Fin 1) (k : Fin 2048) :
    k0_pay31 (k0_pay8 x3 x4) (k0_pay12 x0 x1) (k0_pay17 x0 x1) (k0_pay18 x0 x1) (k0_pay20 x0 x1) (ix2 u k) = ∑ i : Fin 512, Group.unitAll (Group.gated (fun k => x0 (ix2 i k)) (fun k => x1 (ix2 i k))) k * Group.back (fun l => x3 (ix2 i l)) (fun k l => x4 (ix2 k l)) k := by
  rcases Group.channel k with ⟨j, rfl⟩ | ⟨j, rfl⟩ | ⟨j, rfl⟩ | ⟨j, rfl⟩
  · simp only [Group.unitAll_at _ 0 0 rfl (by decide) j]
    simp only [zero_add]
    exact share_apply_0 x0 x1 x3 x4 u j
  · simp only [Group.unitAll_at _ 1 512 rfl (by decide) j]
    exact share_apply_1 x0 x1 x3 x4 u j
  · simp only [Group.unitAll_at _ 2 1024 rfl (by decide) j]
    exact share_apply_2 x0 x1 x3 x4 u j
  · simp only [Group.unitAll_at _ 3 1536 rfl (by decide) j]
    exact share_apply_3 x0 x1 x3 x4 u j

/-- The block of gradients of the scan's output, at an index. -/
theorem gradY_apply (x0 : Vec Ideal S512x2048 .bf16) (x1 : Vec Ideal S512x2048 .bf16) (x2 : Vec Ideal S1x2048 .f32) (x3 : Vec Ideal S512x1024 .bf16) (x4 : Vec Ideal S2048x1024 .bf16) (i : Fin 512) (k : Fin 2048) :
    k0_pay2 (k0_pay11 x1) (k0_pay13 x0 x1) (k0_pay15 x0 x1) (k0_pay16 x0 x1) (k0_pay33 x2 (k0_pay8 x3 x4)) (k0_pay39 (k0_pay18 x0 x1) (k0_pay20 x0 x1) (k0_pay23 (k0_pay21 x0 x1) k0_pay22) (k0_pay24 (k0_pay12 x0 x1)) (k0_pay26 (k0_pay12 x0 x1)) (k0_pay27 (k0_pay12 x0 x1)) (k0_pay28 (k0_pay12 x0 x1)) (k0_pay34 x2 (k0_pay8 x3 x4)) (k0_pay35 x2 (k0_pay8 x3 x4)) (k0_pay37 x2 (k0_pay8 x3 x4) (k0_pay12 x0 x1)) (k0_pay38 x2 (k0_pay8 x3 x4) (k0_pay12 x0 x1))) (k0_pay40 (k0_pay13 x0 x1) (k0_pay33 x2 (k0_pay8 x3 x4))) (ix2 i k) = Group.gradY (fun k => x1 (ix2 i k)) (Group.gradAll (Group.gated (fun k => x0 (ix2 i k)) (fun k => x1 (ix2 i k))) (Group.cot (fun l => x3 (ix2 i l)) (fun k l => x4 (ix2 k l)) (fun k => x2 (ix2 0 k)))) k := by
  have h : k0_pay2 (k0_pay11 x1) (k0_pay13 x0 x1) (k0_pay15 x0 x1) (k0_pay16 x0 x1) (k0_pay33 x2 (k0_pay8 x3 x4)) (k0_pay39 (k0_pay18 x0 x1) (k0_pay20 x0 x1) (k0_pay23 (k0_pay21 x0 x1) k0_pay22) (k0_pay24 (k0_pay12 x0 x1)) (k0_pay26 (k0_pay12 x0 x1)) (k0_pay27 (k0_pay12 x0 x1)) (k0_pay28 (k0_pay12 x0 x1)) (k0_pay34 x2 (k0_pay8 x3 x4)) (k0_pay35 x2 (k0_pay8 x3 x4)) (k0_pay37 x2 (k0_pay8 x3 x4) (k0_pay12 x0 x1)) (k0_pay38 x2 (k0_pay8 x3 x4) (k0_pay12 x0 x1))) (k0_pay40 (k0_pay13 x0 x1) (k0_pay33 x2 (k0_pay8 x3 x4))) (ix2 i k) = k0_pay1 (k0_pay13 x0 x1) (k0_pay15 x0 x1) (k0_pay16 x0 x1) (k0_pay33 x2 (k0_pay8 x3 x4)) (k0_pay39 (k0_pay18 x0 x1) (k0_pay20 x0 x1) (k0_pay23 (k0_pay21 x0 x1) k0_pay22) (k0_pay24 (k0_pay12 x0 x1)) (k0_pay26 (k0_pay12 x0 x1)) (k0_pay27 (k0_pay12 x0 x1)) (k0_pay28 (k0_pay12 x0 x1)) (k0_pay34 x2 (k0_pay8 x3 x4)) (k0_pay35 x2 (k0_pay8 x3 x4)) (k0_pay37 x2 (k0_pay8 x3 x4) (k0_pay12 x0 x1)) (k0_pay38 x2 (k0_pay8 x3 x4) (k0_pay12 x0 x1))) (k0_pay40 (k0_pay13 x0 x1) (k0_pay33 x2 (k0_pay8 x3 x4))) (ix2 i k) * k0_pay11 x1 (ix2 i k) := rfl
  rw [h, grad_apply]
  pointwise [Group.gradY, k0_pay11, k0_pay7, k0_pay9]

/-- The block of gradients of the gate, at an index. -/
theorem gradZ_apply (x0 : Vec Ideal S512x2048 .bf16) (x1 : Vec Ideal S512x2048 .bf16) (x2 : Vec Ideal S1x2048 .f32) (x3 : Vec Ideal S512x1024 .bf16) (x4 : Vec Ideal S2048x1024 .bf16) (i : Fin 512) (k : Fin 2048) :
    k0_pay3 (k0_pay6 x0) (k0_pay7 x1) (k0_pay9 x1) (k0_pay10 x1) (k0_pay13 x0 x1) (k0_pay15 x0 x1) (k0_pay16 x0 x1) (k0_pay33 x2 (k0_pay8 x3 x4)) (k0_pay39 (k0_pay18 x0 x1) (k0_pay20 x0 x1) (k0_pay23 (k0_pay21 x0 x1) k0_pay22) (k0_pay24 (k0_pay12 x0 x1)) (k0_pay26 (k0_pay12 x0 x1)) (k0_pay27 (k0_pay12 x0 x1)) (k0_pay28 (k0_pay12 x0 x1)) (k0_pay34 x2 (k0_pay8 x3 x4)) (k0_pay35 x2 (k0_pay8 x3 x4)) (k0_pay37 x2 (k0_pay8 x3 x4) (k0_pay12 x0 x1)) (k0_pay38 x2 (k0_pay8 x3 x4) (k0_pay12 x0 x1))) (k0_pay40 (k0_pay13 x0 x1) (k0_pay33 x2 (k0_pay8 x3 x4))) (ix2 i k) = Group.gradZ (fun k => x0 (ix2 i k)) (fun k => x1 (ix2 i k)) (Group.gradAll (Group.gated (fun k => x0 (ix2 i k)) (fun k => x1 (ix2 i k))) (Group.cot (fun l => x3 (ix2 i l)) (fun k l => x4 (ix2 k l)) (fun k => x2 (ix2 0 k)))) k := by
  have h : k0_pay3 (k0_pay6 x0) (k0_pay7 x1) (k0_pay9 x1) (k0_pay10 x1) (k0_pay13 x0 x1) (k0_pay15 x0 x1) (k0_pay16 x0 x1) (k0_pay33 x2 (k0_pay8 x3 x4)) (k0_pay39 (k0_pay18 x0 x1) (k0_pay20 x0 x1) (k0_pay23 (k0_pay21 x0 x1) k0_pay22) (k0_pay24 (k0_pay12 x0 x1)) (k0_pay26 (k0_pay12 x0 x1)) (k0_pay27 (k0_pay12 x0 x1)) (k0_pay28 (k0_pay12 x0 x1)) (k0_pay34 x2 (k0_pay8 x3 x4)) (k0_pay35 x2 (k0_pay8 x3 x4)) (k0_pay37 x2 (k0_pay8 x3 x4) (k0_pay12 x0 x1)) (k0_pay38 x2 (k0_pay8 x3 x4) (k0_pay12 x0 x1))) (k0_pay40 (k0_pay13 x0 x1) (k0_pay33 x2 (k0_pay8 x3 x4))) (ix2 i k) = k0_pay6 x0 (ix2 i k) * k0_pay1 (k0_pay13 x0 x1) (k0_pay15 x0 x1) (k0_pay16 x0 x1) (k0_pay33 x2 (k0_pay8 x3 x4)) (k0_pay39 (k0_pay18 x0 x1) (k0_pay20 x0 x1) (k0_pay23 (k0_pay21 x0 x1) k0_pay22) (k0_pay24 (k0_pay12 x0 x1)) (k0_pay26 (k0_pay12 x0 x1)) (k0_pay27 (k0_pay12 x0 x1)) (k0_pay28 (k0_pay12 x0 x1)) (k0_pay34 x2 (k0_pay8 x3 x4)) (k0_pay35 x2 (k0_pay8 x3 x4)) (k0_pay37 x2 (k0_pay8 x3 x4) (k0_pay12 x0 x1)) (k0_pay38 x2 (k0_pay8 x3 x4) (k0_pay12 x0 x1))) (k0_pay40 (k0_pay13 x0 x1) (k0_pay33 x2 (k0_pay8 x3 x4))) (ix2 i k) * k0_pay9 x1 (ix2 i k) + k0_pay7 x1 (ix2 i k) * (k0_pay6 x0 (ix2 i k) * k0_pay1 (k0_pay13 x0 x1) (k0_pay15 x0 x1) (k0_pay16 x0 x1) (k0_pay33 x2 (k0_pay8 x3 x4)) (k0_pay39 (k0_pay18 x0 x1) (k0_pay20 x0 x1) (k0_pay23 (k0_pay21 x0 x1) k0_pay22) (k0_pay24 (k0_pay12 x0 x1)) (k0_pay26 (k0_pay12 x0 x1)) (k0_pay27 (k0_pay12 x0 x1)) (k0_pay28 (k0_pay12 x0 x1)) (k0_pay34 x2 (k0_pay8 x3 x4)) (k0_pay35 x2 (k0_pay8 x3 x4)) (k0_pay37 x2 (k0_pay8 x3 x4) (k0_pay12 x0 x1)) (k0_pay38 x2 (k0_pay8 x3 x4) (k0_pay12 x0 x1))) (k0_pay40 (k0_pay13 x0 x1) (k0_pay33 x2 (k0_pay8 x3 x4))) (ix2 i k)) * k0_pay10 x1 (ix2 i k) := rfl
  rw [h, grad_apply]
  pointwise [Group.gradZ, k0_pay6, k0_pay7, k0_pay9, k0_pay10]

/-- The reference's gate weight `σ(z)`, at an index. -/
theorem ref_logistic (x1 : Vec Ideal S8192x10240 .bf16) (u : Fin 1) (i : Fin 8192) (k : Fin 2048) :
    Cert.GroupNormRefIdeal.Read.val_main_v7_2 (F := Ideal) x1 (ix3 u i k) = Ideal.logistic (x1 (ix2 i ⟨6144 + k.val, by omega⟩)) := by
  pointwise [Cert.GroupNormRefIdeal.Read.val_main_v7_2, Cert.GroupNormRefIdeal.Read.val_main_call0_v0, Cert.GroupNormRefIdeal.Read.val_main_call0_v1, Cert.GroupNormRefIdeal.Read.val_main_call0_v2, Cert.GroupNormRefIdeal.Read.val_main_call0_v3, Cert.GroupNormRefIdeal.Read.val_main_call0_v4, Cert.GroupNormRefIdeal.Read.val_main_call0_cst, Cert.GroupNormRefIdeal.Read.val_main_call0_cst_0, Cert.GroupNormRefIdeal.Read.val_main_v5, Cert.GroupNormRefIdeal.Read.val_main_v3, Cert.GroupNormRefIdeal.Read.val_main_v2]
  rfl

/-- What the reference norms, at an index. -/
theorem ref_gated (x0 : Vec Ideal S8192x2048 .bf16) (x1 : Vec Ideal S8192x10240 .bf16) (u : Fin 1) (i : Fin 8192) (k : Fin 2048) :
    Cert.GroupNormRefIdeal.Read.val_main_v8 (F := Ideal) x0 x1 (ix3 u i k) = Group.gated (fun k => x0 (ix2 i k)) (fun k => x1 (ix2 i ⟨6144 + k.val, by omega⟩)) k := by
  have h : Cert.GroupNormRefIdeal.Read.val_main_v8 (F := Ideal) x0 x1 (ix3 u i k) = Cert.GroupNormRefIdeal.Read.val_main_v4 (F := Ideal) x0 (ix3 u i k) * (Cert.GroupNormRefIdeal.Read.val_main_v5 (F := Ideal) x1 (ix3 u i k) * Cert.GroupNormRefIdeal.Read.val_main_v7_2 (F := Ideal) x1 (ix3 u i k)) := rfl
  rw [h, ref_logistic]
  pointwise [Group.gated, Cert.GroupNormRefIdeal.Read.val_main_v5, Cert.GroupNormRefIdeal.Read.val_main_v4, Cert.GroupNormRefIdeal.Read.val_main_v3, Cert.GroupNormRefIdeal.Read.val_main_v2, Cert.GroupNormRefIdeal.Read.val_main_v1]

theorem ref_group (x0 : Vec Ideal S8192x2048 .bf16) (x1 : Vec Ideal S8192x10240 .bf16) (u : Fin 1) (i : Fin 8192) (h : Fin 4) (j : Fin 512) :
    Cert.GroupNormRefIdeal.Read.val_main_v9 (F := Ideal) x0 x1 (ix4 u i h j) = Group.gated (fun k => x0 (ix2 i k)) (fun k => x1 (ix2 i ⟨6144 + k.val, by omega⟩)) ⟨h.val * 512 + j.val, by omega⟩ := by
  rw [← ref_gated x0 x1 0 i]
  pointwise [Cert.GroupNormRefIdeal.Read.val_main_v9]

theorem ref_meanSq (x0 : Vec Ideal S8192x2048 .bf16) (x1 : Vec Ideal S8192x10240 .bf16) (u : Fin 1) (i : Fin 8192) (h : Fin 4) (v : Fin 1) :
    Cert.GroupNormRefIdeal.Read.val_main_v16 (F := Ideal) x0 x1 (ix4 u i h v) = Group.meanSq (fun j => Group.gated (fun k => x0 (ix2 i k)) (fun k => x1 (ix2 i ⟨6144 + k.val, by omega⟩)) ⟨h.val * 512 + j.val, by omega⟩) := by
  simp only [← ref_group x0 x1 0 i]
  pointwise [Group.meanSq, Cert.GroupNormRefIdeal.Read.val_main_v16, Cert.GroupNormRefIdeal.Read.val_main_v15, Cert.GroupNormRefIdeal.Read.val_main_v14, Cert.GroupNormRefIdeal.Read.val_main_v13, Cert.GroupNormRefIdeal.Read.val_main_v12, Cert.GroupNormRefIdeal.Read.val_main_v11, Cert.GroupNormRefIdeal.Read.val_main_v10, Cert.GroupNormRefIdeal.Read.val_main_cst, Cert.GroupNormRefIdeal.Read.val_main_cst_0, Cert.GroupNormRefIdeal.Read.val_main_cst_1]

theorem ref_inv (x0 : Vec Ideal S8192x2048 .bf16) (x1 : Vec Ideal S8192x10240 .bf16) (u : Fin 1) (i : Fin 8192) (h : Fin 4) (v : Fin 1) :
    Cert.GroupNormRefIdeal.Read.val_main_v17 (F := Ideal) x0 x1 (ix4 u i h v) = Group.inv (fun j => Group.gated (fun k => x0 (ix2 i k)) (fun k => x1 (ix2 i ⟨6144 + k.val, by omega⟩)) ⟨h.val * 512 + j.val, by omega⟩) := by
  unfold Group.inv
  rw [← ref_meanSq x0 x1 u i h v]
  pointwise [Cert.GroupNormRefIdeal.Read.val_main_v17]

/-- The normed channels of the reference, at an index. -/
theorem ref_unit (x0 : Vec Ideal S8192x2048 .bf16) (x1 : Vec Ideal S8192x10240 .bf16) (u : Fin 1) (i : Fin 8192) (k : Fin 2048) :
    Cert.GroupNormRefIdeal.Read.val_main_v23 (F := Ideal) x0 x1 (ix3 u i k) = Group.unitAll (Group.gated (fun k => x0 (ix2 i k)) (fun k => x1 (ix2 i ⟨6144 + k.val, by omega⟩))) k := by
  unfold Group.unitAll Group.unit
  beta_reduce
  rw [← ref_inv x0 x1 0 i ⟨k.val / 512, by omega⟩ 0, ← ref_group x0 x1 0 i ⟨k.val / 512, by omega⟩]
  pointwise [Cert.GroupNormRefIdeal.Read.val_main_v23, Cert.GroupNormRefIdeal.Read.val_main_v22, Cert.GroupNormRefIdeal.Read.val_main_v21]

/-- The reference's product with the transposed output weight, at an index. -/
theorem ref_back (x4 : Vec Ideal S8192x1024 .bf16) (x5 : Vec Ideal S2048x1024 .bf16) (u : Fin 1) (i : Fin 8192) (k : Fin 2048) :
    Cert.GroupNormRefIdeal.Read.val_main_v30 (F := Ideal) x4 x5 (ix3 u i k) = Group.back (fun l => x4 (ix2 i l)) (fun k l => x5 (ix2 k l)) k := by
  pointwise [Group.back, Cert.GroupNormRefIdeal.Read.val_main_v30, Cert.GroupNormRefIdeal.Read.val_main_v29, Cert.GroupNormRefIdeal.Read.val_main_v28, Cert.GroupNormRefIdeal.Read.val_main_v0]

theorem ref_cot (x2 : Vec Ideal S1x2048 .f32) (x4 : Vec Ideal S8192x1024 .bf16) (x5 : Vec Ideal S2048x1024 .bf16) (u : Fin 1) (i : Fin 8192) (h : Fin 4) (j : Fin 512) :
    Cert.GroupNormRefIdeal.Read.val_main_v37 (F := Ideal) x2 x4 x5 (ix4 u i h j) = Group.cot (fun l => x4 (ix2 i l)) (fun k l => x5 (ix2 k l)) (fun k => x2 (ix2 0 k)) ⟨h.val * 512 + j.val, by omega⟩ := by
  unfold Group.cot
  rw [← ref_back x4 x5 0 i]
  pointwise [Cert.GroupNormRefIdeal.Read.val_main_v37, Cert.GroupNormRefIdeal.Read.val_main_v35, Cert.GroupNormRefIdeal.Read.val_main_v34, Cert.GroupNormRefIdeal.Read.val_main_v24, Cert.GroupNormRefIdeal.Read.val_main_v6]

theorem ref_slope (x0 : Vec Ideal S8192x2048 .bf16) (x1 : Vec Ideal S8192x10240 .bf16) (x2 : Vec Ideal S1x2048 .f32) (x4 : Vec Ideal S8192x1024 .bf16) (x5 : Vec Ideal S2048x1024 .bf16) (i : Fin 8192) (h : Fin 4) :
    Cert.GroupNormRefIdeal.Read.val_main_v46 (F := Ideal) x0 x1 x2 x4 x5 (ix2 i h) = Group.slope (fun j => Group.gated (fun k => x0 (ix2 i k)) (fun k => x1 (ix2 i ⟨6144 + k.val, by omega⟩)) ⟨h.val * 512 + j.val, by omega⟩) (fun j => Group.cot (fun l => x4 (ix2 i l)) (fun k l => x5 (ix2 k l)) (fun k => x2 (ix2 0 k)) ⟨h.val * 512 + j.val, by omega⟩) := by
  unfold Group.slope
  rw [← ref_inv x0 x1 0 i h 0, ← ref_meanSq x0 x1 0 i h 0]
  simp only [← ref_group x0 x1 0 i h, ← ref_cot x2 x4 x5 0 i h]
  unfold Cert.GroupNormRefIdeal.Read.val_main_v46
  refine (Group.sum_r4_a03 Cert.GroupNormRefIdeal.Gen.reducesTo_S1x8192x4x1_S8192x4_d0_3 (Cert.GroupNormRefIdeal.Read.val_main_v45 (F := Ideal) x0 x1 x2 x4 x5) _ i h).trans ?_
  pointwise [Fin.sum_univ_one, Cert.GroupNormRefIdeal.Read.val_main_v45, Cert.GroupNormRefIdeal.Read.val_main_v44, Cert.GroupNormRefIdeal.Read.val_main_v43, Cert.GroupNormRefIdeal.Read.val_main_v40, Cert.GroupNormRefIdeal.Read.val_main_v39, Cert.GroupNormRefIdeal.Read.val_main_v38, Cert.GroupNormRefIdeal.Read.val_main_v20, Cert.GroupNormRefIdeal.Read.val_main_v19, Cert.GroupNormRefIdeal.Read.val_main_v18, Cert.GroupNormRefIdeal.Read.val_main_cst_2, Cert.GroupNormRefIdeal.Read.val_main_cst_5, Cert.GroupNormRefIdeal.Read.val_main_cst_6, Cert.GroupNormRefIdeal.Read.val_main_cst_7]

/-- The reference's gradient of what is normed, at an index. -/
theorem ref_grad (x0 : Vec Ideal S8192x2048 .bf16) (x1 : Vec Ideal S8192x10240 .bf16) (x2 : Vec Ideal S1x2048 .f32) (x4 : Vec Ideal S8192x1024 .bf16) (x5 : Vec Ideal S2048x1024 .bf16) (u : Fin 1) (i : Fin 8192) (k : Fin 2048) :
    Cert.GroupNormRefIdeal.Read.val_main_v53 (F := Ideal) x0 x1 x2 x4 x5 (ix3 u i k) = Group.gradAll (Group.gated (fun k => x0 (ix2 i k)) (fun k => x1 (ix2 i ⟨6144 + k.val, by omega⟩))) (Group.cot (fun l => x4 (ix2 i l)) (fun k l => x5 (ix2 k l)) (fun k => x2 (ix2 0 k))) k := by
  unfold Group.gradAll Group.grad
  beta_reduce
  rw [← ref_slope x0 x1 x2 x4 x5 i ⟨k.val / 512, by omega⟩, ← ref_inv x0 x1 0 i ⟨k.val / 512, by omega⟩ 0, ← ref_group x0 x1 0 i ⟨k.val / 512, by omega⟩, ← ref_cot x2 x4 x5 0 i ⟨k.val / 512, by omega⟩]
  pointwise [Cert.GroupNormRefIdeal.Read.val_main_v53, Cert.GroupNormRefIdeal.Read.val_main_v52, Cert.GroupNormRefIdeal.Read.val_main_v51, Cert.GroupNormRefIdeal.Read.val_main_v50, Cert.GroupNormRefIdeal.Read.val_main_v49, Cert.GroupNormRefIdeal.Read.val_main_v48, Cert.GroupNormRefIdeal.Read.val_main_v47, Cert.GroupNormRefIdeal.Read.val_main_v42, Cert.GroupNormRefIdeal.Read.val_main_v41]

/-- The reference's gradient of the scan's output, at an index. -/
theorem ref_gradY (x0 : Vec Ideal S8192x2048 .bf16) (x1 : Vec Ideal S8192x10240 .bf16) (x2 : Vec Ideal S1x2048 .f32) (x4 : Vec Ideal S8192x1024 .bf16) (x5 : Vec Ideal S2048x1024 .bf16) (i : Fin 8192) (k : Fin 2048) :
    Cert.GroupNormRefIdeal.Read.val_main_v60 (F := Ideal) x0 x1 x2 x4 x5 (ix2 i k) = Group.gradY (fun k => x1 (ix2 i ⟨6144 + k.val, by omega⟩)) (Group.gradAll (Group.gated (fun k => x0 (ix2 i k)) (fun k => x1 (ix2 i ⟨6144 + k.val, by omega⟩))) (Group.cot (fun l => x4 (ix2 i l)) (fun k l => x5 (ix2 k l)) (fun k => x2 (ix2 0 k)))) k := by
  unfold Group.gradY
  rw [← ref_grad x0 x1 x2 x4 x5 0 i k, ← ref_logistic x1 0 i k]
  pointwise [Fin.sum_univ_one, Cert.GroupNormRefIdeal.Read.val_main_v60, Cert.GroupNormRefIdeal.Read.val_main_v59, Cert.GroupNormRefIdeal.Read.val_main_v55, Cert.GroupNormRefIdeal.Read.val_main_v7_0, Cert.GroupNormRefIdeal.Read.val_main_v5, Cert.GroupNormRefIdeal.Read.val_main_v3, Cert.GroupNormRefIdeal.Read.val_main_v2, Cert.GroupNormRefIdeal.Read.val_main_cst_9]

/-- The reference's gradient of the gate, at an index. -/
theorem ref_gradZ (x0 : Vec Ideal S8192x2048 .bf16) (x1 : Vec Ideal S8192x10240 .bf16) (x2 : Vec Ideal S1x2048 .f32) (x4 : Vec Ideal S8192x1024 .bf16) (x5 : Vec Ideal S2048x1024 .bf16) (i : Fin 8192) (k : Fin 2048) :
    Cert.GroupNormRefIdeal.Read.val_main_v62 (F := Ideal) x0 x1 x2 x4 x5 (ix2 i k) = Group.gradZ (fun k => x0 (ix2 i k)) (fun k => x1 (ix2 i ⟨6144 + k.val, by omega⟩)) (Group.gradAll (Group.gated (fun k => x0 (ix2 i k)) (fun k => x1 (ix2 i ⟨6144 + k.val, by omega⟩))) (Group.cot (fun l => x4 (ix2 i l)) (fun k l => x5 (ix2 k l)) (fun k => x2 (ix2 0 k)))) k := by
  unfold Group.gradZ
  rw [← ref_grad x0 x1 x2 x4 x5 0 i k, ← ref_logistic x1 0 i k]
  pointwise [Fin.sum_univ_one, Cert.GroupNormRefIdeal.Read.val_main_v62, Cert.GroupNormRefIdeal.Read.val_main_v58, Cert.GroupNormRefIdeal.Read.val_main_v56, Cert.GroupNormRefIdeal.Read.val_main_call1_v0, Cert.GroupNormRefIdeal.Read.val_main_call1_v1, Cert.GroupNormRefIdeal.Read.val_main_call1_v2, Cert.GroupNormRefIdeal.Read.val_main_v7_1, Cert.GroupNormRefIdeal.Read.val_main_call0_v6, Cert.GroupNormRefIdeal.Read.val_main_call0_v7, Cert.GroupNormRefIdeal.Read.val_main_call0_cst_1, Cert.GroupNormRefIdeal.Read.val_main_v54, Cert.GroupNormRefIdeal.Read.val_main_v5, Cert.GroupNormRefIdeal.Read.val_main_v4, Cert.GroupNormRefIdeal.Read.val_main_v3, Cert.GroupNormRefIdeal.Read.val_main_v2, Cert.GroupNormRefIdeal.Read.val_main_v1, Cert.GroupNormRefIdeal.Read.val_main_cst_8]

/-- The reference's wide gradient at the gate's columns. -/
theorem ref_in (x0 : Vec Ideal S8192x2048 .bf16) (x1 : Vec Ideal S8192x10240 .bf16) (x2 : Vec Ideal S1x2048 .f32) (x3 : Vec Ideal S8192x10240 .bf16) (x4 : Vec Ideal S8192x1024 .bf16) (x5 : Vec Ideal S2048x1024 .bf16) (i : Fin 8192) (k : Fin 2048) :
    Cert.GroupNormRefIdeal.Read.val_main_v64 (F := Ideal) x0 x1 x2 x3 x4 x5 (ix2 i ⟨6144 + k.val, by omega⟩) = Cert.GroupNormRefIdeal.Read.val_main_v62 (F := Ideal) x0 x1 x2 x4 x5 (ix2 i k) := by
  pointwise [Cert.GroupNormRefIdeal.Read.val_main_v64, Cert.GroupNormRefIdeal.Read.val_main_v61, Cert.GroupNormRefIdeal.Read.val_main_v63]

/-- The reference's wide gradient at the other columns. -/
theorem ref_out (x0 : Vec Ideal S8192x2048 .bf16) (x1 : Vec Ideal S8192x10240 .bf16) (x2 : Vec Ideal S1x2048 .f32) (x3 : Vec Ideal S8192x10240 .bf16) (x4 : Vec Ideal S8192x1024 .bf16) (x5 : Vec Ideal S2048x1024 .bf16) (i : Fin 8192) (k : Fin 10240) (hk : k.val < 6144 ∨ 8192 ≤ k.val) :
    Cert.GroupNormRefIdeal.Read.val_main_v64 (F := Ideal) x0 x1 x2 x3 x4 x5 (ix2 i k) = x3 (ix2 i k) := by
  pointwise [Cert.GroupNormRefIdeal.Read.val_main_v64, Cert.GroupNormRefIdeal.Read.val_main_v61, Cert.GroupNormRefIdeal.Read.val_main_v63]
  rcases hk with h | h
  · simp (disch := omega) only [dif_pos, dif_neg]
  · simp (disch := omega) only [dif_pos, dif_neg]
    refine congrArg x3 (congrArg _ (Fin.ext ?_))
    dsimp only
    omega

/-- The reference's gradient of the scale, at an index. -/
theorem ref_scale (x0 : Vec Ideal S8192x2048 .bf16) (x1 : Vec Ideal S8192x10240 .bf16) (x4 : Vec Ideal S8192x1024 .bf16) (x5 : Vec Ideal S2048x1024 .bf16) (u : Fin 1) (k : Fin 2048) :
    Cert.GroupNormRefIdeal.Read.val_main_v57 (F := Ideal) x0 x1 x4 x5 (ix2 u k) = ∑ i : Fin 8192, Group.unitAll (Group.gated (fun k => x0 (ix2 i k)) (fun k => x1 (ix2 i ⟨6144 + k.val, by omega⟩))) k * Group.back (fun l => x4 (ix2 i l)) (fun k l => x5 (ix2 k l)) k := by
  simp only [← ref_unit x0 x1 0, ← ref_back x4 x5 0]
  have h : Cert.GroupNormRefIdeal.Read.val_main_v36 (F := Ideal) x0 x1 x4 x5 (ix1 k) = _ :=
    Cert.Sums.sum_r3_a01 Cert.GroupNormRefIdeal.Gen.reducesTo_S1x1x2048_S2048_d0_1 (Cert.GroupNormRefIdeal.Read.val_main_v33 (F := Ideal) x0 x1 x4 x5) _ k
  have e : Cert.GroupNormRefIdeal.Read.val_main_v57 (F := Ideal) x0 x1 x4 x5 (ix2 u k) = Cert.GroupNormRefIdeal.Read.val_main_v36 (F := Ideal) x0 x1 x4 x5 (ix1 k) := by
    pointwise [Cert.GroupNormRefIdeal.Read.val_main_v57]
  rw [e, h]
  pointwise [Fin.sum_univ_one, Cert.GroupNormRefIdeal.Read.val_main_v33, Cert.GroupNormRefIdeal.Read.val_main_v32, Cert.GroupNormRefIdeal.Read.val_main_v31, Cert.GroupNormRefIdeal.Read.val_main_cst_3, Cert.GroupNormRefIdeal.Read.val_main_cst_4]

variable (m : (ℓ : Loc nD τ sig) → Buf (Elt Ideal) ℓ) (c : Dev nD)

theorem ix_0 : ∀ t : Fin cfg0.N, win0_0.index t = ![t.val, 0] := (by decide +kernel : ∀ t : Fin grid0.N, win0_0.index t = ![t.val, 0])
theorem ix_1 : ∀ t : Fin cfg0.N, win0_1.index t = ![t.val, 3] := (by decide +kernel : ∀ t : Fin grid0.N, win0_1.index t = ![t.val, 3])
theorem ix_2 : ∀ t : Fin cfg0.N, win0_2.index t = ![0, 0] := (by decide +kernel : ∀ t : Fin grid0.N, win0_2.index t = ![0, 0])
theorem ix_3 : ∀ t : Fin cfg0.N, win0_3.index t = ![t.val, 0] := (by decide +kernel : ∀ t : Fin grid0.N, win0_3.index t = ![t.val, 0])
theorem ix_4 : ∀ t : Fin cfg0.N, win0_4.index t = ![0, 0] := (by decide +kernel : ∀ t : Fin grid0.N, win0_4.index t = ![0, 0])
theorem ix_5 : ∀ t : Fin cfg0.N, win0_5.index t = ![t.val, 0] := (by decide +kernel : ∀ t : Fin grid0.N, win0_5.index t = ![t.val, 0])
theorem ix_6 : ∀ t : Fin cfg0.N, win0_6.index t = ![t.val, 3] := (by decide +kernel : ∀ t : Fin grid0.N, win0_6.index t = ![t.val, 3])
theorem ix_7 : ∀ t : Fin cfg0.N, win0_7.index t = ![0, 0] := (by decide +kernel : ∀ t : Fin grid0.N, win0_7.index t = ![0, 0])
theorem lt_N (t : Fin cfg0.N) : t.val < 16 := lt_of_lt_of_eq t.isLt N_0

theorem block0 (t : Fin cfg0.N) (i : Fin 512) (k : Fin 2048) :
    iblk m c 0 t (ix2 i k) = m ((c : Thread nD τ).loc main_arg0) (ix2 ⟨512 * t.val + i.val, by have := lt_N t; omega⟩ k) := by
  rw [← V_main_arg0 m c]; blk_simp [iblk]; refine congrArg _ ?_; blk_ext [ix_0 t]

theorem block1 (t : Fin cfg0.N) (i : Fin 512) (k : Fin 2048) :
    iblk m c 1 t (ix2 i k) = m ((c : Thread nD τ).loc main_arg1) (ix2 ⟨512 * t.val + i.val, by have := lt_N t; omega⟩ ⟨6144 + k.val, by omega⟩) := by
  rw [← V_main_arg1 m c]; blk_simp [iblk]; refine congrArg _ ?_; blk_ext [ix_1 t]

theorem block3 (t : Fin cfg0.N) (i : Fin 512) (k : Fin 1024) :
    iblk m c 3 t (ix2 i k) = m ((c : Thread nD τ).loc main_arg4) (ix2 ⟨512 * t.val + i.val, by have := lt_N t; omega⟩ k) := by
  rw [← V_main_arg4 m c]; blk_simp [iblk]; refine congrArg _ ?_; blk_ext [ix_3 t]

theorem block2 (t : Fin cfg0.N) : iblk m c 2 t = m ((c : Thread nD τ).loc main_arg2) := by
  funext j; rw [← V_main_arg2 m c]; blk_simp [iblk]; refine congrArg _ ?_; blk_ext [ix_2 t]

theorem block4 (t : Fin cfg0.N) : iblk m c 4 t = m ((c : Thread nD τ).loc main_arg5) := by
  funext j; rw [← V_main_arg5 m c]; blk_simp [iblk]; refine congrArg _ ?_; blk_ext [ix_4 t]

/-- A grid point's gradients of the scan's output are the reference's, at the point's rows. -/
theorem tile_gradY (t : Fin cfg0.N) (i : Fin 512) (k : Fin 2048) :
    k0_pay2 (k0_pay11 (iblk m c 1 t)) (k0_pay13 (iblk m c 0 t) (iblk m c 1 t)) (k0_pay15 (iblk m c 0 t) (iblk m c 1 t)) (k0_pay16 (iblk m c 0 t) (iblk m c 1 t)) (k0_pay33 (m ((c : Thread nD τ).loc main_arg2)) (k0_pay8 (iblk m c 3 t) (m ((c : Thread nD τ).loc main_arg5)))) (k0_pay39 (k0_pay18 (iblk m c 0 t) (iblk m c 1 t)) (k0_pay20 (iblk m c 0 t) (iblk m c 1 t)) (k0_pay23 (k0_pay21 (iblk m c 0 t) (iblk m c 1 t)) k0_pay22) (k0_pay24 (k0_pay12 (iblk m c 0 t) (iblk m c 1 t))) (k0_pay26 (k0_pay12 (iblk m c 0 t) (iblk m c 1 t))) (k0_pay27 (k0_pay12 (iblk m c 0 t) (iblk m c 1 t))) (k0_pay28 (k0_pay12 (iblk m c 0 t) (iblk m c 1 t))) (k0_pay34 (m ((c : Thread nD τ).loc main_arg2)) (k0_pay8 (iblk m c 3 t) (m ((c : Thread nD τ).loc main_arg5)))) (k0_pay35 (m ((c : Thread nD τ).loc main_arg2)) (k0_pay8 (iblk m c 3 t) (m ((c : Thread nD τ).loc main_arg5)))) (k0_pay37 (m ((c : Thread nD τ).loc main_arg2)) (k0_pay8 (iblk m c 3 t) (m ((c : Thread nD τ).loc main_arg5))) (k0_pay12 (iblk m c 0 t) (iblk m c 1 t))) (k0_pay38 (m ((c : Thread nD τ).loc main_arg2)) (k0_pay8 (iblk m c 3 t) (m ((c : Thread nD τ).loc main_arg5))) (k0_pay12 (iblk m c 0 t) (iblk m c 1 t)))) (k0_pay40 (k0_pay13 (iblk m c 0 t) (iblk m c 1 t)) (k0_pay33 (m ((c : Thread nD τ).loc main_arg2)) (k0_pay8 (iblk m c 3 t) (m ((c : Thread nD τ).loc main_arg5))))) (ix2 i k)
      = Cert.GroupNormRefIdeal.Read.val_main_v60 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (ix2 ⟨512 * t.val + i.val, by have := lt_N t; omega⟩ k) := by
  rw [gradY_apply, ref_gradY]
  simp only [block0, block1, block3]

/-- A grid point's gradients of the gate are the reference's, at the point's rows. -/
theorem tile_gradZ (t : Fin cfg0.N) (i : Fin 512) (k : Fin 2048) :
    k0_pay3 (k0_pay6 (iblk m c 0 t)) (k0_pay7 (iblk m c 1 t)) (k0_pay9 (iblk m c 1 t)) (k0_pay10 (iblk m c 1 t)) (k0_pay13 (iblk m c 0 t) (iblk m c 1 t)) (k0_pay15 (iblk m c 0 t) (iblk m c 1 t)) (k0_pay16 (iblk m c 0 t) (iblk m c 1 t)) (k0_pay33 (m ((c : Thread nD τ).loc main_arg2)) (k0_pay8 (iblk m c 3 t) (m ((c : Thread nD τ).loc main_arg5)))) (k0_pay39 (k0_pay18 (iblk m c 0 t) (iblk m c 1 t)) (k0_pay20 (iblk m c 0 t) (iblk m c 1 t)) (k0_pay23 (k0_pay21 (iblk m c 0 t) (iblk m c 1 t)) k0_pay22) (k0_pay24 (k0_pay12 (iblk m c 0 t) (iblk m c 1 t))) (k0_pay26 (k0_pay12 (iblk m c 0 t) (iblk m c 1 t))) (k0_pay27 (k0_pay12 (iblk m c 0 t) (iblk m c 1 t))) (k0_pay28 (k0_pay12 (iblk m c 0 t) (iblk m c 1 t))) (k0_pay34 (m ((c : Thread nD τ).loc main_arg2)) (k0_pay8 (iblk m c 3 t) (m ((c : Thread nD τ).loc main_arg5)))) (k0_pay35 (m ((c : Thread nD τ).loc main_arg2)) (k0_pay8 (iblk m c 3 t) (m ((c : Thread nD τ).loc main_arg5)))) (k0_pay37 (m ((c : Thread nD τ).loc main_arg2)) (k0_pay8 (iblk m c 3 t) (m ((c : Thread nD τ).loc main_arg5))) (k0_pay12 (iblk m c 0 t) (iblk m c 1 t))) (k0_pay38 (m ((c : Thread nD τ).loc main_arg2)) (k0_pay8 (iblk m c 3 t) (m ((c : Thread nD τ).loc main_arg5))) (k0_pay12 (iblk m c 0 t) (iblk m c 1 t)))) (k0_pay40 (k0_pay13 (iblk m c 0 t) (iblk m c 1 t)) (k0_pay33 (m ((c : Thread nD τ).loc main_arg2)) (k0_pay8 (iblk m c 3 t) (m ((c : Thread nD τ).loc main_arg5))))) (ix2 i k)
      = Cert.GroupNormRefIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨512 * t.val + i.val, by have := lt_N t; omega⟩ ⟨6144 + k.val, by omega⟩) := by
  rw [gradZ_apply, ref_in, ref_gradZ]
  simp only [block0, block1, block3]

/-- What a grid point leaves in the window of gradients of the scan's output. -/
theorem after_gradY (t : Fin cfg0.N) : (outsAt0 m c t.val t.isLt).1 = k0_pay2 (k0_pay11 (iblk m c 1 t)) (k0_pay13 (iblk m c 0 t) (iblk m c 1 t)) (k0_pay15 (iblk m c 0 t) (iblk m c 1 t)) (k0_pay16 (iblk m c 0 t) (iblk m c 1 t)) (k0_pay33 (m ((c : Thread nD τ).loc main_arg2)) (k0_pay8 (iblk m c 3 t) (m ((c : Thread nD τ).loc main_arg5)))) (k0_pay39 (k0_pay18 (iblk m c 0 t) (iblk m c 1 t)) (k0_pay20 (iblk m c 0 t) (iblk m c 1 t)) (k0_pay23 (k0_pay21 (iblk m c 0 t) (iblk m c 1 t)) k0_pay22) (k0_pay24 (k0_pay12 (iblk m c 0 t) (iblk m c 1 t))) (k0_pay26 (k0_pay12 (iblk m c 0 t) (iblk m c 1 t))) (k0_pay27 (k0_pay12 (iblk m c 0 t) (iblk m c 1 t))) (k0_pay28 (k0_pay12 (iblk m c 0 t) (iblk m c 1 t))) (k0_pay34 (m ((c : Thread nD τ).loc main_arg2)) (k0_pay8 (iblk m c 3 t) (m ((c : Thread nD τ).loc main_arg5)))) (k0_pay35 (m ((c : Thread nD τ).loc main_arg2)) (k0_pay8 (iblk m c 3 t) (m ((c : Thread nD τ).loc main_arg5)))) (k0_pay37 (m ((c : Thread nD τ).loc main_arg2)) (k0_pay8 (iblk m c 3 t) (m ((c : Thread nD τ).loc main_arg5))) (k0_pay12 (iblk m c 0 t) (iblk m c 1 t))) (k0_pay38 (m ((c : Thread nD τ).loc main_arg2)) (k0_pay8 (iblk m c 3 t) (m ((c : Thread nD τ).loc main_arg5))) (k0_pay12 (iblk m c 0 t) (iblk m c 1 t)))) (k0_pay40 (k0_pay13 (iblk m c 0 t) (iblk m c 1 t)) (k0_pay33 (m ((c : Thread nD τ).loc main_arg2)) (k0_pay8 (iblk m c 3 t) (m ((c : Thread nD τ).loc main_arg5))))) := by
  by_cases h : t.val % 16 = 0
  · rw [outsAt0_A m c t h]; dsimp only; rw [out_A_5, block2, block4]
  · rw [outsAt0_B m c t h]; dsimp only; rw [out_B_5, block2, block4]

/-- What a grid point leaves in the window of gradients of the gate. -/
theorem after_gradZ (t : Fin cfg0.N) : (outsAt0 m c t.val t.isLt).2.1 = k0_pay3 (k0_pay6 (iblk m c 0 t)) (k0_pay7 (iblk m c 1 t)) (k0_pay9 (iblk m c 1 t)) (k0_pay10 (iblk m c 1 t)) (k0_pay13 (iblk m c 0 t) (iblk m c 1 t)) (k0_pay15 (iblk m c 0 t) (iblk m c 1 t)) (k0_pay16 (iblk m c 0 t) (iblk m c 1 t)) (k0_pay33 (m ((c : Thread nD τ).loc main_arg2)) (k0_pay8 (iblk m c 3 t) (m ((c : Thread nD τ).loc main_arg5)))) (k0_pay39 (k0_pay18 (iblk m c 0 t) (iblk m c 1 t)) (k0_pay20 (iblk m c 0 t) (iblk m c 1 t)) (k0_pay23 (k0_pay21 (iblk m c 0 t) (iblk m c 1 t)) k0_pay22) (k0_pay24 (k0_pay12 (iblk m c 0 t) (iblk m c 1 t))) (k0_pay26 (k0_pay12 (iblk m c 0 t) (iblk m c 1 t))) (k0_pay27 (k0_pay12 (iblk m c 0 t) (iblk m c 1 t))) (k0_pay28 (k0_pay12 (iblk m c 0 t) (iblk m c 1 t))) (k0_pay34 (m ((c : Thread nD τ).loc main_arg2)) (k0_pay8 (iblk m c 3 t) (m ((c : Thread nD τ).loc main_arg5)))) (k0_pay35 (m ((c : Thread nD τ).loc main_arg2)) (k0_pay8 (iblk m c 3 t) (m ((c : Thread nD τ).loc main_arg5)))) (k0_pay37 (m ((c : Thread nD τ).loc main_arg2)) (k0_pay8 (iblk m c 3 t) (m ((c : Thread nD τ).loc main_arg5))) (k0_pay12 (iblk m c 0 t) (iblk m c 1 t))) (k0_pay38 (m ((c : Thread nD τ).loc main_arg2)) (k0_pay8 (iblk m c 3 t) (m ((c : Thread nD τ).loc main_arg5))) (k0_pay12 (iblk m c 0 t) (iblk m c 1 t)))) (k0_pay40 (k0_pay13 (iblk m c 0 t) (iblk m c 1 t)) (k0_pay33 (m ((c : Thread nD τ).loc main_arg2)) (k0_pay8 (iblk m c 3 t) (m ((c : Thread nD τ).loc main_arg5))))) := by
  by_cases h : t.val % 16 = 0
  · rw [outsAt0_A m c t h]; dsimp only; rw [out_A_6, block2, block4]
  · rw [outsAt0_B m c t h]; dsimp only; rw [out_B_6, block2, block4]

/-- The kernel's gradients of the scan's output are the reference's. -/
theorem result_gradY : (dats m 0 c).arrAt 5 cfg0.N
    = Cert.GroupNormRefIdeal.Read.val_main_v60 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 5 _ (by decide +kernel) fun t _ y => ?_
  rw [after0_5, after_gradY]
  have hx : (cfg0.win 5).xinj (cfg0.grid.coords t) y = ix2 (n0 := 512) (n1 := 2048) ((cfg0.win 5).xinj (cfg0.grid.coords t) y 0) ((cfg0.win 5).xinj (cfg0.grid.coords t) y 1) := by
    funext a; fin_cases a <;> rfl
  refine (congrArg _ hx).trans ((tile_gradY m c t _ _).trans ?_)
  refine congrArg _ ?_
  blk_ext [ix_5 t]

/-- The result the kernel writes in place starts as the argument's contents. -/
theorem V_result : V m c main_v0_1 = m ((c : Thread nD τ).loc main_arg3) := rfl

/-- The kernel's wide gradients are the reference's: the gate's columns from the grid, the others as they came. -/
theorem result_gradZ : (dats m 0 c).arrAt 6 cfg0.N
    = Cert.GroupNormRefIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_coversWhere_of_agree 6 _ (fun β => β (1 : Fin _) = 3) (by decide +kernel) (fun t _ y => ?_) (fun j hj => ?_)
  · rw [after0_6, after_gradZ]
    have hx : (cfg0.win 6).xinj (cfg0.grid.coords t) y = ix2 (n0 := 512) (n1 := 2048) ((cfg0.win 6).xinj (cfg0.grid.coords t) y 0) ((cfg0.win 6).xinj (cfg0.grid.coords t) y 1) := by
      funext a; fin_cases a <;> rfl
    refine (congrArg _ hx).trans ((tile_gradZ m c t _ _).trans ?_)
    refine congrArg _ ?_
    blk_ext [ix_6 t]
  · have e : (cfg0.win 6).arr.view.emb j = ix2 (n0 := 8192) (n1 := 10240) (j 0) (j 1) := by
      funext a; fin_cases a <;> rfl
    have hj1 : ¬ (j 1).val / 2048 = 3 := hj
    rw [e]
    have h5 : (dats m 0 c).A 6 = m ((c : Thread nD τ).loc main_arg3) := V_result m c
    rw [h5]
    exact (ref_out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (j 0) (j 1) (by omega)).symm

/-- The kernel's gradient of the scale, summed over the grid points, is the reference's. -/
theorem result_scale : (dats m 0 c).arrAt 7 cfg0.N
    = Cert.GroupNormRefIdeal.Read.val_main_v57 (F := Ideal) (m ((c : Thread nD τ).loc main_arg0)) (m ((c : Thread nD τ).loc main_arg1)) (m ((c : Thread nD τ).loc main_arg4)) (m ((c : Thread nD τ).loc main_arg5)) := by
  refine (dats m 0 c).arrAt_eq_of_after_last 7 t0_15 (by decide +kernel) _ fun j => ?_
  rw [after0_7]
  have key := Pipeline.eq_sum_fin_of_reset_step_apply_last (fun n h => (outsAt0 m c n h).2.2) 16 (fun _ => 0)
    (fun t => k0_pay31 (k0_pay8 (iblk m c 3 t) (m ((c : Thread nD τ).loc main_arg5))) (k0_pay12 (iblk m c 0 t) (iblk m c 1 t)) (k0_pay17 (iblk m c 0 t) (iblk m c 1 t)) (k0_pay18 (iblk m c 0 t) (iblk m c 1 t)) (k0_pay20 (iblk m c 0 t) (iblk m c 1 t)))
    (fun t h i => by
      rw [outsAt0_A m c t h]; dsimp only; rw [out_A_7, block4]
      pointwise [k0_pay5, k0_pay4])
    (fun t h i => by
      rw [outsAt0_B m c t h]; dsimp only; rw [out_B_7, block4]
      pointwise [k0_pay5])
    (le_of_eq N_0) t0_15 rfl
  obtain ⟨u, k, rfl⟩ : ∃ (u : Fin 1) (k : Fin 2048), j = ix2 (n0 := 1) (n1 := 2048) u k :=
    ⟨j 0, j 1, by funext a; fin_cases a <;> rfl⟩
  refine (key (ix2 u k)).trans ?_
  rw [zero_add]
  refine Eq.trans ?_ (ref_scale (m ((c : Thread nD τ).loc main_arg0)) (m ((c : Thread nD τ).loc main_arg1)) (m ((c : Thread nD τ).loc main_arg4)) (m ((c : Thread nD τ).loc main_arg5)) _ _).symm
  refine Eq.trans (Finset.sum_congr rfl fun t _ => share_apply (iblk m c 0 t) (iblk m c 1 t) (iblk m c 3 t) (m ((c : Thread nD τ).loc main_arg5)) _ _) ?_
  refine Fin.sum_mul_add_congr (fun p i hl => ?_)
  have := lt_N p
  have e : (⟨p.val * 512 + i.val, hl⟩ : Fin 8192) = ⟨512 * p.val + i.val, by omega⟩ := Fin.ext (by dsimp only; omega)
  rw [e]
  simp only [block0, block1, block3]

/-- The kernel as it runs: it terminates without a fault, keeps its arguments, and leaves every counter at zero. -/
theorem frame_kernel : Cert.quiescent_GroupNorm := fun m ρ _ => Cert.GroupNorm.Gen.frame m ρ

/-- The kernel over exact values: the same. -/
theorem frame_ideal : Cert.quiescent_GroupNormIdeal := fun m ρ _ => Cert.GroupNormIdeal.Gen.frame m ρ

/-- The reference: the same, from its run; it has no counters. -/
theorem frame_reference : Cert.quiescent_GroupNormRefIdeal := fun m ρ _ =>
  (θ_run Cert.GroupNormRefIdeal.defs _ _).mono
    (fun r h => ⟨fun c => (h c).2.2.2, sem_eq_zero_of_no_sems (by decide) r.2⟩)
    (Cert.GroupNormRefIdeal.Value.run (F := Ideal) m ρ)

/-- No operation was replaced between the kernel and its exact form. -/
theorem preserves : Cert.preserves_GroupNorm_GroupNormIdeal := trivial

/-- Over exact values the kernel's gradients of the scan's output, of the gate (with the other columns as they came) and of the norm's scale are the reference's. -/
theorem algebraic : Cert.algebraic_GroupNormIdeal_GroupNormRefIdeal := by
  intro m ρ m' ρ' _ hagree
  refine ⟨fun c => Cert.GroupNormRefIdeal.Read.val_main_v60 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)), fun c => Cert.GroupNormRefIdeal.Read.val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)), fun c => Cert.GroupNormRefIdeal.Read.val_main_v57 (F := Ideal) (m ((c.tc : Thread nD τ).loc main_arg0)) (m ((c.tc : Thread nD τ).loc main_arg1)) (m ((c.tc : Thread nD τ).loc main_arg4)) (m ((c.tc : Thread nD τ).loc main_arg5)), ?_, ?_⟩
  · refine (θ_run Cert.GroupNormIdeal.defs _ _).mono (fun r h c => ?_) (Cert.GroupNormIdeal.Value.run_blocks (F := Ideal) m ρ)
    obtain ⟨h0, h1, h2, hrest⟩ := h c
    exact ⟨h0.trans (result_gradY m c), h1.trans (result_gradZ m c), h2.trans (result_scale m c), hrest⟩
  · refine (θ_run Cert.GroupNormRefIdeal.defs _ _).mono (fun r h c => ?_) (Cert.GroupNormRefIdeal.Value.run (F := Ideal) m' ρ')
    obtain ⟨h0, h1, h2, hrest⟩ := h c
    obtain ⟨e0, e1, e2, e3, e4, e5⟩ := hagree c
    have l0 : m' ((c.tc : Thread Cert.GroupNormRefIdeal.nD Cert.GroupNormRefIdeal.τ).loc Cert.GroupNormRefIdeal.main_arg0) = m ((c.tc : Thread nD τ).loc main_arg0) := e0
    have l1 : m' ((c.tc : Thread Cert.GroupNormRefIdeal.nD Cert.GroupNormRefIdeal.τ).loc Cert.GroupNormRefIdeal.main_arg1) = m ((c.tc : Thread nD τ).loc main_arg1) := e1
    have l2 : m' ((c.tc : Thread Cert.GroupNormRefIdeal.nD Cert.GroupNormRefIdeal.τ).loc Cert.GroupNormRefIdeal.main_arg2) = m ((c.tc : Thread nD τ).loc main_arg2) := e2
    have l3 : m' ((c.tc : Thread Cert.GroupNormRefIdeal.nD Cert.GroupNormRefIdeal.τ).loc Cert.GroupNormRefIdeal.main_arg3) = m ((c.tc : Thread nD τ).loc main_arg3) := e3
    have l4 : m' ((c.tc : Thread Cert.GroupNormRefIdeal.nD Cert.GroupNormRefIdeal.τ).loc Cert.GroupNormRefIdeal.main_arg4) = m ((c.tc : Thread nD τ).loc main_arg4) := e4
    have l5 : m' ((c.tc : Thread Cert.GroupNormRefIdeal.nD Cert.GroupNormRefIdeal.τ).loc Cert.GroupNormRefIdeal.main_arg5) = m ((c.tc : Thread nD τ).loc main_arg5) := e5
    refine ⟨?_, ?_, ?_, hrest⟩
    · refine (h0.trans (Cert.GroupNormRefIdeal.Read.val_main_v60_eq m' c)).trans ?_
      rw [l0, l1, l2, l4, l5]
    · refine (h1.trans (Cert.GroupNormRefIdeal.Read.val_main_v64_eq m' c)).trans ?_
      rw [l0, l1, l2, l3, l4, l5]
    · refine (h2.trans (Cert.GroupNormRefIdeal.Read.val_main_v57_eq _ _ _ _)).trans ?_
      rw [l0, l1, l4, l5]

end Cert.GroupNormProof
end
-- ==== Proof.Conv.lean ====
/- The backward pass of the causal convolution: a grid point reads its rows of the cotangent and the first rows of the next point's,
   so a shifted row is the array's own row, and zero past the last; the gradient of the filter, which the first point clears and
   every point adds to row by row, is the reference's sum over the tokens. -/
module

public import proofs.«01_k».proof.Defs
public import proofs.«01_k».proof.Proof.Gen.Conv.Frame
public import proofs.«01_k».proof.Proof.Gen.ConvIdeal.Value
public import proofs.«01_k».proof.Proof.Gen.ConvRefIdeal.Run
public import proofs.«01_k».proof.Proof.Gen.ConvRefIdeal.Read
public import Idealize.ShloMosaic.Lib.Pipeline.ReadBack
public import Idealize.ShloMosaic.Lib.Pipeline.ValueKit.Acc
public import Idealize.ShloMosaic.Lib.Pipeline.ValueKit.Partial
public import Idealize.ShloMosaic.Lib.Pointwise
public import Idealize.ShloMosaic.Lib.Tactic
public import Idealize.ShloMosaic.Adequacy
public import Idealize.ShloMosaic.Init

@[expose] public section

set_option maxRecDepth 16384
set_option maxHeartbeats 0

noncomputable section
open Idealize.ShloMosaic Idealize.ShloMosaic.TcCoe Idealize.SL.Sem
open Idealize.ShloMosaic.Pipeline (Dat)
namespace Cert.ConvProof
open Cert.ConvIdeal Cert.ConvIdeal.Gen
theorem hz : (![0, 0] : Fin 2 → Nat) = fun _ => 0 := by funext i; fin_cases i <;> rfl

/-- A column of 8192 entries, with zeros after the last. -/
def upto (a : Fin 8192 → EReal) (n : Nat) : EReal := if h : n < 8192 then a ⟨n, h⟩ else 0

/-- A product summed at a shift, read from the other factor's side. -/
theorem shift_sum (N e : Nat) (he : e ≤ N) (G D : Nat → EReal) (hD : ∀ n, N ≤ n → D n = 0) :
    ∑ t : Fin N, (if t.val < e then 0 else G (t.val - e) * D t.val) = ∑ u : Fin N, G u.val * D (u.val + e) := by
  rw [Fin.sum_univ_eq_sum_range (fun t => if t < e then 0 else G (t - e) * D t) N,
    Fin.sum_univ_eq_sum_range (fun u => G u * D (u + e)) N]
  obtain ⟨M, rfl⟩ : ∃ M, N = e + M := ⟨N - e, by omega⟩
  refine (Finset.sum_range_add _ e M).trans ?_
  rw [Finset.sum_eq_zero (fun t ht => if_pos (Finset.mem_range.mp ht)), zero_add, Nat.add_comm e M]
  refine Eq.trans ?_ (Finset.sum_range_add _ M e).symm
  rw [Finset.sum_eq_zero (s := Finset.range e) (fun t ht => by rw [hD _ (by omega), mul_zero]), add_zero]
  refine Finset.sum_congr rfl fun x _ => ?_
  rw [if_neg (by omega), Nat.add_sub_cancel_left, Nat.add_comm x e]

/-- A padded product is the product with the padded column. -/
theorem pad_term (a : Fin 8192 → EReal) (w : EReal) (P : Prop) [Decidable P] (n k : Nat) (hP : P ↔ k < 8192) (hn : P → n < 8192)
    (e : P → n = k) : (if h : P then a ⟨n, hn h⟩ * w else 0) = upto a k * w := by
  unfold upto
  by_cases h : P
  · have hk := hP.mp h
    have := e h
    subst this
    rw [dif_pos h, dif_pos hk]
  · rw [dif_neg h, dif_neg (fun hk => h (hP.mpr hk)), zero_mul]

/-- The last write at another row: the earlier writes. -/
theorem canon_row_ne {Val : EltTy → Type} [∀ e, Nonempty (Val e)] {e : EltTy} (k o : Nat) (hk : k < 4) (hne : k ≠ o) (j : Fin 3072)
    (inb : ∀ a, (![o, 0] : Fin 2 → Nat) a + S1x3072.size a ≤ S4x3072.size a) (w : (Rect.unit (s := S4x3072) ![o, 0] S1x3072.size inb).shape.Idx → Val e)
    (L : List (View.Piece Val S4x3072 e)) :
    View.canon (⟨Rect.unit (s := S4x3072) ![o, 0] S1x3072.size inb, w⟩ :: L) (ix2 ⟨k, hk⟩ j) = View.canon L (ix2 ⟨k, hk⟩ j) := by
  refine View.canon_cons_of_not_mem _ L ?_
  intro hm
  obtain ⟨i, hi, he⟩ := (LoadRect.mem_set _).mp hm (0 : Fin 2)
  have hi1 : i < 1 := hi
  have he' : k = o + 1 * i := he
  omega

/-- The last write at this row: its payload. -/
theorem canon_row {Val : EltTy → Type} [∀ e, Nonempty (Val e)] {e : EltTy} (k : Nat) (hk : k < 4) (j : Fin 3072)
    (inb : ∀ a, (![k, 0] : Fin 2 → Nat) a + S1x3072.size a ≤ S4x3072.size a) (w : (Rect.unit (s := S4x3072) ![k, 0] S1x3072.size inb).shape.Idx → Val e)
    (L : List (View.Piece Val S4x3072 e)) :
    View.canon (⟨Rect.unit (s := S4x3072) ![k, 0] S1x3072.size inb, w⟩ :: L) (ix2 ⟨k, hk⟩ j) = w (ix2 (n0 := 1) (n1 := 3072) 0 j) := by
  have he : (Rect.unit (s := S4x3072) ![k, 0] S1x3072.size inb).emb (ix2 (n0 := 1) (n1 := 3072) 0 j) = ix2 ⟨k, hk⟩ j := by
    funext x; apply Fin.ext
    fin_cases x
    · show k + 1 * 0 = k; omega
    · show 0 + 1 * j.val = j.val; omega
  exact (congrArg (View.canon _) he.symm).trans (View.canon_cons_emb _ w L _)

section
variable {F : FTy → Type} [FloatOps F]
/-- One row of an array of four. -/
def rowOf {e : EltTy} (v : Vec F S4x3072 e) (k : Nat) (hk : k < 4) : Vec F S1x3072 e := fun y => v (ix2 (n0 := 4) (n1 := 3072) ⟨k, hk⟩ (y 1))

theorem ld_row {e : EltTy} (v : Vec F S4x3072 e) (k : Nat) (hk : k < 4) (inb : ∀ a, (![k, 0] : Fin 2 → Nat) a + S1x3072.size a ≤ S4x3072.size a) :
    View.ld (Val := Elt F) v (Rect.unit (s := S4x3072) ![k, 0] S1x3072.size inb) = rowOf v k hk := by
  funext y
  refine congrArg v ?_
  funext x; apply Fin.ext
  fin_cases x
  · show k + 1 * (y 0).val = k
    have : (y 0).val < 1 := (y 0).isLt
    omega
  · show 0 + 1 * (y 1).val = (y 1).val; omega

/-- The first point: the block of gradients of the convolution's input. -/
theorem out_A_4 (c : Dev nD) (i : grid0.Coords) (arg1 : Memref sig .tc .vmem S512x3072 .bf16) (harg1 : arg1.IsWhole) (arg2 : Memref sig .tc .vmem S8x3072 .bf16) (harg2 : arg2.IsWhole) (arg3 : Memref sig .tc .vmem S512x3072 .bf16) (harg3 : arg3.IsWhole) (arg4 : Memref sig .tc .vmem S4x3072 .f32) (harg4 : arg4.IsWhole) (arg6 : Memref sig .tc .vmem S512x3072 .bf16) (harg6 : arg6.IsWhole) (arg7 : Memref sig .tc .vmem S4x3072 .f32) (harg7 : arg7.IsWhole) (hc0 : cond0_0 i) (x0 : Vec F S512x3072 .bf16) (x1 : Vec F S8x3072 .bf16) (x2 : Vec F S512x3072 .bf16) (x3 : Vec F S4x3072 .f32) :
    out0_A_4 c i arg1 harg1 arg2 harg2 arg3 harg3 arg4 harg4 arg6 harg6 arg7 harg7 hc0 x0 x1 x2 x3 = k0_pay1 (k0_pay13 (k0_pay2 x0) (k0_pay3 i x1) x3 (k0_pay8 i x0 x1 x3)) := by
  unfold out0_A_4
  rw [View.read_writes_eq_canon _ _ _ (cover0_A_4 c i arg1 harg1 arg2 harg2 arg3 harg3 arg4 harg4 arg6 harg6 arg7 harg7 hc0 x0 x1 x2 x3)]
  unfold kernelRun0_A
  dsimp only
  rw [View.canon_unit_zero hz]
  sl_unfold_words
  simp only [View.readAt_eq_ld, harg1.read_unread, harg2.read_unread, harg3.read_unread, harg4.read_unread, harg6.read_unread, harg7.read_unread, View.ld_unit_zero (S := S4x3072) hz, View.ld_unit_zero (S := S512x3072) hz, View.ld_unit_zero (S := S8x3072) hz]

/-- A later point: the block of gradients of the convolution's input. -/
theorem out_B_4 (c : Dev nD) (i : grid0.Coords) (arg1 : Memref sig .tc .vmem S512x3072 .bf16) (harg1 : arg1.IsWhole) (arg2 : Memref sig .tc .vmem S8x3072 .bf16) (harg2 : arg2.IsWhole) (arg3 : Memref sig .tc .vmem S512x3072 .bf16) (harg3 : arg3.IsWhole) (arg4 : Memref sig .tc .vmem S4x3072 .f32) (harg4 : arg4.IsWhole) (arg6 : Memref sig .tc .vmem S512x3072 .bf16) (harg6 : arg6.IsWhole) (arg7 : Memref sig .tc .vmem S4x3072 .f32) (harg7 : arg7.IsWhole) (hc0 : ¬cond0_0 i) (x0 : Vec F S512x3072 .bf16) (x1 : Vec F S8x3072 .bf16) (x2 : Vec F S512x3072 .bf16) (x3 : Vec F S4x3072 .f32) (xo5 : Vec F S4x3072 .f32) :
    out0_B_4 c i arg1 harg1 arg2 harg2 arg3 harg3 arg4 harg4 arg6 harg6 arg7 harg7 hc0 x0 x1 x2 x3 xo5 = k0_pay1 (k0_pay13 (k0_pay2 x0) (k0_pay3 i x1) x3 (k0_pay8 i x0 x1 x3)) := by
  unfold out0_B_4
  rw [View.read_writes_eq_canon _ _ _ (cover0_B_4 c i arg1 harg1 arg2 harg2 arg3 harg3 arg4 harg4 arg6 harg6 arg7 harg7 hc0 x0 x1 x2 x3 xo5)]
  unfold kernelRun0_B
  dsimp only
  rw [View.canon_unit_zero hz]
  sl_unfold_words
  simp only [View.readAt_eq_ld, harg1.read_unread, harg2.read_unread, harg3.read_unread, harg4.read_unread, harg6.read_unread, harg7.read_unread, View.ld_unit_zero (S := S4x3072) hz, View.ld_unit_zero (S := S512x3072) hz, View.ld_unit_zero (S := S8x3072) hz]

/-- The first point: row 0 of the filter's gradient. -/
theorem out_A_5_0 (c : Dev nD) (i : grid0.Coords) (arg1 : Memref sig .tc .vmem S512x3072 .bf16) (harg1 : arg1.IsWhole) (arg2 : Memref sig .tc .vmem S8x3072 .bf16) (harg2 : arg2.IsWhole) (arg3 : Memref sig .tc .vmem S512x3072 .bf16) (harg3 : arg3.IsWhole) (arg4 : Memref sig .tc .vmem S4x3072 .f32) (harg4 : arg4.IsWhole) (arg6 : Memref sig .tc .vmem S512x3072 .bf16) (harg6 : arg6.IsWhole) (arg7 : Memref sig .tc .vmem S4x3072 .f32) (harg7 : arg7.IsWhole) (hc0 : cond0_0 i) (x0 : Vec F S512x3072 .bf16) (x1 : Vec F S8x3072 .bf16) (x2 : Vec F S512x3072 .bf16) (x3 : Vec F S4x3072 .f32) (j : Fin 3072) :
    out0_A_5 c i arg1 harg1 arg2 harg2 arg3 harg3 arg4 harg4 arg6 harg6 arg7 harg7 hc0 x0 x1 x2 x3 (ix2 (n0 := 4) (n1 := 3072) ⟨0, by decide⟩ j) = k0_pay14 (k0_pay2 x0) (k0_pay3 i x1) (k0_pay4 x2) (rowOf k0_pay5 0 (by decide)) (ix2 (n0 := 1) (n1 := 3072) 0 j) := by
  unfold out0_A_5
  rw [View.read_writes_eq_canon _ _ _ (cover0_A_5 c i arg1 harg1 arg2 harg2 arg3 harg3 arg4 harg4 arg6 harg6 arg7 harg7 hc0 x0 x1 x2 x3)]
  unfold kernelRun0_A
  dsimp only
  sl_unfold_words
  refine (canon_row 0 (by decide) j _ _ _).trans ?_
  rw [View.readCov_skip (h := rfl)]
  rw [View.readCov_skip (h := rfl)]
  rw [View.readCov_skip (h := rfl)]
  rw [View.readCov_fill _ _ _ _ _ (fun a => by fin_cases a <;> rfl)]
  simp only [View.readAt_eq_ld, harg1.read_unread, harg2.read_unread, harg3.read_unread, harg4.read_unread, harg6.read_unread, harg7.read_unread, View.ld_unit_zero (S := S512x3072) hz, View.ld_unit_zero (S := S8x3072) hz]
  rw [ld_row _ 0 (by decide)]

/-- The first point: row 1 of the filter's gradient. -/
theorem out_A_5_1 (c : Dev nD) (i : grid0.Coords) (arg1 : Memref sig .tc .vmem S512x3072 .bf16) (harg1 : arg1.IsWhole) (arg2 : Memref sig .tc .vmem S8x3072 .bf16) (harg2 : arg2.IsWhole) (arg3 : Memref sig .tc .vmem S512x3072 .bf16) (harg3 : arg3.IsWhole) (arg4 : Memref sig .tc .vmem S4x3072 .f32) (harg4 : arg4.IsWhole) (arg6 : Memref sig .tc .vmem S512x3072 .bf16) (harg6 : arg6.IsWhole) (arg7 : Memref sig .tc .vmem S4x3072 .f32) (harg7 : arg7.IsWhole) (hc0 : cond0_0 i) (x0 : Vec F S512x3072 .bf16) (x1 : Vec F S8x3072 .bf16) (x2 : Vec F S512x3072 .bf16) (x3 : Vec F S4x3072 .f32) (j : Fin 3072) :
    out0_A_5 c i arg1 harg1 arg2 harg2 arg3 harg3 arg4 harg4 arg6 harg6 arg7 harg7 hc0 x0 x1 x2 x3 (ix2 (n0 := 4) (n1 := 3072) ⟨1, by decide⟩ j) = k0_pay11 (k0_pay2 x0) (k0_pay3 i x1) (k0_pay4 x2) (rowOf k0_pay5 1 (by decide)) (ix2 (n0 := 1) (n1 := 3072) 0 j) := by
  unfold out0_A_5
  rw [View.read_writes_eq_canon _ _ _ (cover0_A_5 c i arg1 harg1 arg2 harg2 arg3 harg3 arg4 harg4 arg6 harg6 arg7 harg7 hc0 x0 x1 x2 x3)]
  unfold kernelRun0_A
  dsimp only
  sl_unfold_words
  refine (canon_row_ne 1 0 (by decide) (by decide) j _ _ _).trans ?_
  refine (canon_row 1 (by decide) j _ _ _).trans ?_
  rw [View.readCov_skip (h := rfl)]
  rw [View.readCov_skip (h := rfl)]
  rw [View.readCov_fill _ _ _ _ _ (fun a => by fin_cases a <;> rfl)]
  simp only [View.readAt_eq_ld, harg1.read_unread, harg2.read_unread, harg3.read_unread, harg4.read_unread, harg6.read_unread, harg7.read_unread, View.ld_unit_zero (S := S512x3072) hz, View.ld_unit_zero (S := S8x3072) hz]
  rw [ld_row _ 1 (by decide)]

/-- The first point: row 2 of the filter's gradient. -/
theorem out_A_5_2 (c : Dev nD) (i : grid0.Coords) (arg1 : Memref sig .tc .vmem S512x3072 .bf16) (harg1 : arg1.IsWhole) (arg2 : Memref sig .tc .vmem S8x3072 .bf16) (harg2 : arg2.IsWhole) (arg3 : Memref sig .tc .vmem S512x3072 .bf16) (harg3 : arg3.IsWhole) (arg4 : Memref sig .tc .vmem S4x3072 .f32) (harg4 : arg4.IsWhole) (arg6 : Memref sig .tc .vmem S512x3072 .bf16) (harg6 : arg6.IsWhole) (arg7 : Memref sig .tc .vmem S4x3072 .f32) (harg7 : arg7.IsWhole) (hc0 : cond0_0 i) (x0 : Vec F S512x3072 .bf16) (x1 : Vec F S8x3072 .bf16) (x2 : Vec F S512x3072 .bf16) (x3 : Vec F S4x3072 .f32) (j : Fin 3072) :
    out0_A_5 c i arg1 harg1 arg2 harg2 arg3 harg3 arg4 harg4 arg6 harg6 arg7 harg7 hc0 x0 x1 x2 x3 (ix2 (n0 := 4) (n1 := 3072) ⟨2, by decide⟩ j) = k0_pay9 (k0_pay4 x2) (k0_pay7 i x0 x1) (rowOf k0_pay5 2 (by decide)) (ix2 (n0 := 1) (n1 := 3072) 0 j) := by
  unfold out0_A_5
  rw [View.read_writes_eq_canon _ _ _ (cover0_A_5 c i arg1 harg1 arg2 harg2 arg3 harg3 arg4 harg4 arg6 harg6 arg7 harg7 hc0 x0 x1 x2 x3)]
  unfold kernelRun0_A
  dsimp only
  sl_unfold_words
  refine (canon_row_ne 2 0 (by decide) (by decide) j _ _ _).trans ?_
  refine (canon_row_ne 2 1 (by decide) (by decide) j _ _ _).trans ?_
  refine (canon_row 2 (by decide) j _ _ _).trans ?_
  rw [View.readCov_skip (h := rfl)]
  rw [View.readCov_fill _ _ _ _ _ (fun a => by fin_cases a <;> rfl)]
  simp only [View.readAt_eq_ld, harg1.read_unread, harg2.read_unread, harg3.read_unread, harg4.read_unread, harg6.read_unread, harg7.read_unread, View.ld_unit_zero (S := S512x3072) hz, View.ld_unit_zero (S := S8x3072) hz]
  rw [ld_row _ 2 (by decide)]

/-- The first point: row 3 of the filter's gradient. -/
theorem out_A_5_3 (c : Dev nD) (i : grid0.Coords) (arg1 : Memref sig .tc .vmem S512x3072 .bf16) (harg1 : arg1.IsWhole) (arg2 : Memref sig .tc .vmem S8x3072 .bf16) (harg2 : arg2.IsWhole) (arg3 : Memref sig .tc .vmem S512x3072 .bf16) (harg3 : arg3.IsWhole) (arg4 : Memref sig .tc .vmem S4x3072 .f32) (harg4 : arg4.IsWhole) (arg6 : Memref sig .tc .vmem S512x3072 .bf16) (harg6 : arg6.IsWhole) (arg7 : Memref sig .tc .vmem S4x3072 .f32) (harg7 : arg7.IsWhole) (hc0 : cond0_0 i) (x0 : Vec F S512x3072 .bf16) (x1 : Vec F S8x3072 .bf16) (x2 : Vec F S512x3072 .bf16) (x3 : Vec F S4x3072 .f32) (j : Fin 3072) :
    out0_A_5 c i arg1 harg1 arg2 harg2 arg3 harg3 arg4 harg4 arg6 harg6 arg7 harg7 hc0 x0 x1 x2 x3 (ix2 (n0 := 4) (n1 := 3072) ⟨3, by decide⟩ j) = k0_pay6 x0 x2 (rowOf k0_pay5 3 (by decide)) (ix2 (n0 := 1) (n1 := 3072) 0 j) := by
  unfold out0_A_5
  rw [View.read_writes_eq_canon _ _ _ (cover0_A_5 c i arg1 harg1 arg2 harg2 arg3 harg3 arg4 harg4 arg6 harg6 arg7 harg7 hc0 x0 x1 x2 x3)]
  unfold kernelRun0_A
  dsimp only
  sl_unfold_words
  refine (canon_row_ne 3 0 (by decide) (by decide) j _ _ _).trans ?_
  refine (canon_row_ne 3 1 (by decide) (by decide) j _ _ _).trans ?_
  refine (canon_row_ne 3 2 (by decide) (by decide) j _ _ _).trans ?_
  refine (canon_row 3 (by decide) j _ _ _).trans ?_
  rw [View.readCov_fill _ _ _ _ _ (fun a => by fin_cases a <;> rfl)]
  simp only [View.readAt_eq_ld, harg1.read_unread, harg2.read_unread, harg3.read_unread, harg4.read_unread, harg6.read_unread, harg7.read_unread, View.ld_unit_zero (S := S512x3072) hz, View.ld_unit_zero (S := S8x3072) hz]
  rw [ld_row _ 3 (by decide)]

/-- A later point: row 0 of the filter's gradient. -/
theorem out_B_5_0 (c : Dev nD) (i : grid0.Coords) (arg1 : Memref sig .tc .vmem S512x3072 .bf16) (harg1 : arg1.IsWhole) (arg2 : Memref sig .tc .vmem S8x3072 .bf16) (harg2 : arg2.IsWhole) (arg3 : Memref sig .tc .vmem S512x3072 .bf16) (harg3 : arg3.IsWhole) (arg4 : Memref sig .tc .vmem S4x3072 .f32) (harg4 : arg4.IsWhole) (arg6 : Memref sig .tc .vmem S512x3072 .bf16) (harg6 : arg6.IsWhole) (arg7 : Memref sig .tc .vmem S4x3072 .f32) (harg7 : arg7.IsWhole) (hc0 : ¬cond0_0 i) (x0 : Vec F S512x3072 .bf16) (x1 : Vec F S8x3072 .bf16) (x2 : Vec F S512x3072 .bf16) (x3 : Vec F S4x3072 .f32) (xo5 : Vec F S4x3072 .f32) (j : Fin 3072) :
    out0_B_5 c i arg1 harg1 arg2 harg2 arg3 harg3 arg4 harg4 arg6 harg6 arg7 harg7 hc0 x0 x1 x2 x3 xo5 (ix2 (n0 := 4) (n1 := 3072) ⟨0, by decide⟩ j) = k0_pay14 (k0_pay2 x0) (k0_pay3 i x1) (k0_pay4 x2) (rowOf xo5 0 (by decide)) (ix2 (n0 := 1) (n1 := 3072) 0 j) := by
  unfold out0_B_5
  rw [View.read_writes_eq_canon _ _ _ (cover0_B_5 c i arg1 harg1 arg2 harg2 arg3 harg3 arg4 harg4 arg6 harg6 arg7 harg7 hc0 x0 x1 x2 x3 xo5)]
  unfold kernelRun0_B
  dsimp only
  sl_unfold_words
  refine (canon_row 0 (by decide) j _ _ _).trans ?_
  simp only [View.readAt_eq_ld, harg1.read_unread, harg2.read_unread, harg3.read_unread, harg4.read_unread, harg6.read_unread, harg7.read_unread, View.ld_unit_zero (S := S512x3072) hz, View.ld_unit_zero (S := S8x3072) hz]
  rw [ld_row _ 0 (by decide)]

/-- A later point: row 1 of the filter's gradient. -/
theorem out_B_5_1 (c : Dev nD) (i : grid0.Coords) (arg1 : Memref sig .tc .vmem S512x3072 .bf16) (harg1 : arg1.IsWhole) (arg2 : Memref sig .tc .vmem S8x3072 .bf16) (harg2 : arg2.IsWhole) (arg3 : Memref sig .tc .vmem S512x3072 .bf16) (harg3 : arg3.IsWhole) (arg4 : Memref sig .tc .vmem S4x3072 .f32) (harg4 : arg4.IsWhole) (arg6 : Memref sig .tc .vmem S512x3072 .bf16) (harg6 : arg6.IsWhole) (arg7 : Memref sig .tc .vmem S4x3072 .f32) (harg7 : arg7.IsWhole) (hc0 : ¬cond0_0 i) (x0 : Vec F S512x3072 .bf16) (x1 : Vec F S8x3072 .bf16) (x2 : Vec F S512x3072 .bf16) (x3 : Vec F S4x3072 .f32) (xo5 : Vec F S4x3072 .f32) (j : Fin 3072) :
    out0_B_5 c i arg1 harg1 arg2 harg2 arg3 harg3 arg4 harg4 arg6 harg6 arg7 harg7 hc0 x0 x1 x2 x3 xo5 (ix2 (n0 := 4) (n1 := 3072) ⟨1, by decide⟩ j) = k0_pay11 (k0_pay2 x0) (k0_pay3 i x1) (k0_pay4 x2) (rowOf xo5 1 (by decide)) (ix2 (n0 := 1) (n1 := 3072) 0 j) := by
  unfold out0_B_5
  rw [View.read_writes_eq_canon _ _ _ (cover0_B_5 c i arg1 harg1 arg2 harg2 arg3 harg3 arg4 harg4 arg6 harg6 arg7 harg7 hc0 x0 x1 x2 x3 xo5)]
  unfold kernelRun0_B
  dsimp only
  sl_unfold_words
  refine (canon_row_ne 1 0 (by decide) (by decide) j _ _ _).trans ?_
  refine (canon_row 1 (by decide) j _ _ _).trans ?_
  simp only [View.readAt_eq_ld, harg1.read_unread, harg2.read_unread, harg3.read_unread, harg4.read_unread, harg6.read_unread, harg7.read_unread, View.ld_unit_zero (S := S512x3072) hz, View.ld_unit_zero (S := S8x3072) hz]
  rw [ld_row _ 1 (by decide)]

/-- A later point: row 2 of the filter's gradient. -/
theorem out_B_5_2 (c : Dev nD) (i : grid0.Coords) (arg1 : Memref sig .tc .vmem S512x3072 .bf16) (harg1 : arg1.IsWhole) (arg2 : Memref sig .tc .vmem S8x3072 .bf16) (harg2 : arg2.IsWhole) (arg3 : Memref sig .tc .vmem S512x3072 .bf16) (harg3 : arg3.IsWhole) (arg4 : Memref sig .tc .vmem S4x3072 .f32) (harg4 : arg4.IsWhole) (arg6 : Memref sig .tc .vmem S512x3072 .bf16) (harg6 : arg6.IsWhole) (arg7 : Memref sig .tc .vmem S4x3072 .f32) (harg7 : arg7.IsWhole) (hc0 : ¬cond0_0 i) (x0 : Vec F S512x3072 .bf16) (x1 : Vec F S8x3072 .bf16) (x2 : Vec F S512x3072 .bf16) (x3 : Vec F S4x3072 .f32) (xo5 : Vec F S4x3072 .f32) (j : Fin 3072) :
    out0_B_5 c i arg1 harg1 arg2 harg2 arg3 harg3 arg4 harg4 arg6 harg6 arg7 harg7 hc0 x0 x1 x2 x3 xo5 (ix2 (n0 := 4) (n1 := 3072) ⟨2, by decide⟩ j) = k0_pay9 (k0_pay4 x2) (k0_pay7 i x0 x1) (rowOf xo5 2 (by decide)) (ix2 (n0 := 1) (n1 := 3072) 0 j) := by
  unfold out0_B_5
  rw [View.read_writes_eq_canon _ _ _ (cover0_B_5 c i arg1 harg1 arg2 harg2 arg3 harg3 arg4 harg4 arg6 harg6 arg7 harg7 hc0 x0 x1 x2 x3 xo5)]
  unfold kernelRun0_B
  dsimp only
  sl_unfold_words
  refine (canon_row_ne 2 0 (by decide) (by decide) j _ _ _).trans ?_
  refine (canon_row_ne 2 1 (by decide) (by decide) j _ _ _).trans ?_
  refine (canon_row 2 (by decide) j _ _ _).trans ?_
  simp only [View.readAt_eq_ld, harg1.read_unread, harg2.read_unread, harg3.read_unread, harg4.read_unread, harg6.read_unread, harg7.read_unread, View.ld_unit_zero (S := S512x3072) hz, View.ld_unit_zero (S := S8x3072) hz]
  rw [ld_row _ 2 (by decide)]

/-- A later point: row 3 of the filter's gradient. -/
theorem out_B_5_3 (c : Dev nD) (i : grid0.Coords) (arg1 : Memref sig .tc .vmem S512x3072 .bf16) (harg1 : arg1.IsWhole) (arg2 : Memref sig .tc .vmem S8x3072 .bf16) (harg2 : arg2.IsWhole) (arg3 : Memref sig .tc .vmem S512x3072 .bf16) (harg3 : arg3.IsWhole) (arg4 : Memref sig .tc .vmem S4x3072 .f32) (harg4 : arg4.IsWhole) (arg6 : Memref sig .tc .vmem S512x3072 .bf16) (harg6 : arg6.IsWhole) (arg7 : Memref sig .tc .vmem S4x3072 .f32) (harg7 : arg7.IsWhole) (hc0 : ¬cond0_0 i) (x0 : Vec F S512x3072 .bf16) (x1 : Vec F S8x3072 .bf16) (x2 : Vec F S512x3072 .bf16) (x3 : Vec F S4x3072 .f32) (xo5 : Vec F S4x3072 .f32) (j : Fin 3072) :
    out0_B_5 c i arg1 harg1 arg2 harg2 arg3 harg3 arg4 harg4 arg6 harg6 arg7 harg7 hc0 x0 x1 x2 x3 xo5 (ix2 (n0 := 4) (n1 := 3072) ⟨3, by decide⟩ j) = k0_pay6 x0 x2 (rowOf xo5 3 (by decide)) (ix2 (n0 := 1) (n1 := 3072) 0 j) := by
  unfold out0_B_5
  rw [View.read_writes_eq_canon _ _ _ (cover0_B_5 c i arg1 harg1 arg2 harg2 arg3 harg3 arg4 harg4 arg6 harg6 arg7 harg7 hc0 x0 x1 x2 x3 xo5)]
  unfold kernelRun0_B
  dsimp only
  sl_unfold_words
  refine (canon_row_ne 3 0 (by decide) (by decide) j _ _ _).trans ?_
  refine (canon_row_ne 3 1 (by decide) (by decide) j _ _ _).trans ?_
  refine (canon_row_ne 3 2 (by decide) (by decide) j _ _ _).trans ?_
  refine (canon_row 3 (by decide) j _ _ _).trans ?_
  simp only [View.readAt_eq_ld, harg1.read_unread, harg2.read_unread, harg3.read_unread, harg4.read_unread, harg6.read_unread, harg7.read_unread, View.ld_unit_zero (S := S512x3072) hz, View.ld_unit_zero (S := S8x3072) hz]
  rw [ld_row _ 3 (by decide)]
end

/-- Sixty-four copies of eight rows, at a row. -/
theorem copies_apply (v : Vec Ideal S8x3072 .f32) (h) (r : Fin 512) (j : Fin 3072) :
    concatenate S512x3072 0 (List.replicate 64 (⟨S8x3072, v⟩ : (s : Shape) × (s.Idx → EReal))) h (ix2 r j) = v (ix2 ⟨r.val % 8, by omega⟩ j) :=
  concatenate_replicate_apply (t := S512x3072) (s₁ := S8x3072) 0 64 v h rfl (ix2 r j) (ix2 ⟨r.val % 8, by omega⟩ j) rfl
    (fun b hb => by
      match b with
      | ⟨0, _⟩ => exact absurd rfl hb
      | ⟨1, _⟩ => rfl)

theorem select_ofBool (b : Bool) (x y : EReal) : Scalar.select (BitVec.ofBool b) x y = if b then x else y := by
  cases b <;> rfl

theorem late_1 : ∀ r : Fin 512, IntOp.cmpi .sge (BitVec.ofNat 32 r.val) 511#32 = BitVec.ofBool (decide (511 ≤ r.val)) := by decide +kernel

theorem pick_1 (C R : S512x3072.Idx → EReal) (r : Fin 512) (j : Fin 3072) :
    select (cmpi .sge (iota .tc S512x3072 32 [0] iota_S512x3072_d0_w32) (broadcast S512x3072 511#32)) C R (ix2 r j)
      = Scalar.select (IntOp.cmpi .sge (BitVec.ofNat 32 r.val) 511#32) (C (ix2 r j)) (R (ix2 r j)) := by
  pointwise []
  first | done | rfl

/-- The rows moved up by 1: a row of the block, or of the eight that follow it. -/
theorem moved_1 (i : grid0.Coords) (x0 : Vec Ideal S512x3072 .bf16) (x1 : Vec Ideal S8x3072 .bf16) (r : Fin 512) (j : Fin 3072) :
    k0_pay7 (F := Ideal) i x0 x1 (ix2 r j) = if h : r.val + 1 < 512 then k0_pay2 x0 (ix2 ⟨r.val + 1, h⟩ j) else k0_pay3 i x1 (ix2 ⟨r.val + 1 - 512, by omega⟩ j) := by
  have h : k0_pay7 (F := Ideal) i x0 x1 (ix2 r j) = select (cmpi .sge (iota .tc S512x3072 32 [0] iota_S512x3072_d0_w32) (broadcast S512x3072 511#32))
      (concatenate S512x3072 0 (List.replicate 64 (⟨S8x3072, dynamicRotate 0 7#32 none (k0_pay3 i x1) rotates_S8x3072_d0⟩ : (s : Shape) × (s.Idx → EReal)))
        concatenates_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S512x3072_d0)
      (dynamicRotate 0 511#32 none (k0_pay2 x0) rotates_S512x3072_d0) (ix2 r j) := rfl
  rw [h, pick_1, late_1, select_ofBool, copies_apply]
  by_cases hr : r.val + 1 < 512
  · rw [dif_pos hr, if_neg (by simp only [decide_eq_true_eq]; omega)]
    pointwise []
    refine congrArg _ (congrArg₂ (fun a b => ix2 a b) (Fin.ext ?_) rfl)
    dsimp only
    omega
  · rw [dif_neg hr, if_pos (by simp only [decide_eq_true_eq]; omega)]
    pointwise []
    refine congrArg _ (congrArg₂ (fun a b => ix2 a b) (Fin.ext ?_) rfl)
    dsimp only
    omega

theorem late_2 : ∀ r : Fin 512, IntOp.cmpi .sge (BitVec.ofNat 32 r.val) 510#32 = BitVec.ofBool (decide (510 ≤ r.val)) := by decide +kernel

theorem pick_2 (C R : S512x3072.Idx → EReal) (r : Fin 512) (j : Fin 3072) :
    select (cmpi .sge (iota .tc S512x3072 32 [0] iota_S512x3072_d0_w32) (broadcast S512x3072 510#32)) C R (ix2 r j)
      = Scalar.select (IntOp.cmpi .sge (BitVec.ofNat 32 r.val) 510#32) (C (ix2 r j)) (R (ix2 r j)) := by
  pointwise []
  first | done | rfl

/-- The rows moved up by 2: a row of the block, or of the eight that follow it. -/
theorem moved_2 (v1 : Vec Ideal S512x3072 .f32) (v6 : Vec Ideal S8x3072 .f32) (r : Fin 512) (j : Fin 3072) :
    k0_pay10 (F := Ideal) v1 v6 (ix2 r j) = if h : r.val + 2 < 512 then v1 (ix2 ⟨r.val + 2, h⟩ j) else v6 (ix2 ⟨r.val + 2 - 512, by omega⟩ j) := by
  have h : k0_pay10 (F := Ideal) v1 v6 (ix2 r j) = select (cmpi .sge (iota .tc S512x3072 32 [0] iota_S512x3072_d0_w32) (broadcast S512x3072 510#32))
      (concatenate S512x3072 0 (List.replicate 64 (⟨S8x3072, dynamicRotate 0 6#32 none (v6) rotates_S8x3072_d0⟩ : (s : Shape) × (s.Idx → EReal)))
        concatenates_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S512x3072_d0)
      (dynamicRotate 0 510#32 none (v1) rotates_S512x3072_d0) (ix2 r j) := rfl
  rw [h, pick_2, late_2, select_ofBool, copies_apply]
  by_cases hr : r.val + 2 < 512
  · rw [dif_pos hr, if_neg (by simp only [decide_eq_true_eq]; omega)]
    pointwise []
    refine congrArg _ (congrArg₂ (fun a b => ix2 a b) (Fin.ext ?_) rfl)
    dsimp only
    omega
  · rw [dif_neg hr, if_pos (by simp only [decide_eq_true_eq]; omega)]
    pointwise []
    refine congrArg _ (congrArg₂ (fun a b => ix2 a b) (Fin.ext ?_) rfl)
    dsimp only
    omega

theorem late_3 : ∀ r : Fin 512, IntOp.cmpi .sge (BitVec.ofNat 32 r.val) 509#32 = BitVec.ofBool (decide (509 ≤ r.val)) := by decide +kernel

theorem pick_3 (C R : S512x3072.Idx → EReal) (r : Fin 512) (j : Fin 3072) :
    select (cmpi .sge (iota .tc S512x3072 32 [0] iota_S512x3072_d0_w32) (broadcast S512x3072 509#32)) C R (ix2 r j)
      = Scalar.select (IntOp.cmpi .sge (BitVec.ofNat 32 r.val) 509#32) (C (ix2 r j)) (R (ix2 r j)) := by
  pointwise []
  first | done | rfl

/-- The rows moved up by 3: a row of the block, or of the eight that follow it. -/
theorem moved_3 (v1 : Vec Ideal S512x3072 .f32) (v6 : Vec Ideal S8x3072 .f32) (r : Fin 512) (j : Fin 3072) :
    k0_pay12 (F := Ideal) v1 v6 (ix2 r j) = if h : r.val + 3 < 512 then v1 (ix2 ⟨r.val + 3, h⟩ j) else v6 (ix2 ⟨r.val + 3 - 512, by omega⟩ j) := by
  have h : k0_pay12 (F := Ideal) v1 v6 (ix2 r j) = select (cmpi .sge (iota .tc S512x3072 32 [0] iota_S512x3072_d0_w32) (broadcast S512x3072 509#32))
      (concatenate S512x3072 0 (List.replicate 64 (⟨S8x3072, dynamicRotate 0 5#32 none (v6) rotates_S8x3072_d0⟩ : (s : Shape) × (s.Idx → EReal)))
        concatenates_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S8x3072_S512x3072_d0)
      (dynamicRotate 0 509#32 none (v1) rotates_S512x3072_d0) (ix2 r j) := rfl
  rw [h, pick_3, late_3, select_ofBool, copies_apply]
  by_cases hr : r.val + 3 < 512
  · rw [dif_pos hr, if_neg (by simp only [decide_eq_true_eq]; omega)]
    pointwise []
    refine congrArg _ (congrArg₂ (fun a b => ix2 a b) (Fin.ext ?_) rfl)
    dsimp only
    omega
  · rw [dif_neg hr, if_pos (by simp only [decide_eq_true_eq]; omega)]
    pointwise []
    refine congrArg _ (congrArg₂ (fun a b => ix2 a b) (Fin.ext ?_) rfl)
    dsimp only
    omega

/-- The block of gradients of the convolution's input, at an index. -/
theorem dx_apply (i : grid0.Coords) (x0 : Vec Ideal S512x3072 .bf16) (x1 : Vec Ideal S8x3072 .bf16) (x3 : Vec Ideal S4x3072 .f32) (r : Fin 512) (j : Fin 3072) :
    k0_pay1 (k0_pay13 (k0_pay2 x0) (k0_pay3 i x1) x3 (k0_pay8 i x0 x1 x3)) (ix2 r j) = k0_pay2 x0 (ix2 r j) * x3 (ix2 3 j) + k0_pay7 i x0 x1 (ix2 r j) * x3 (ix2 2 j)
      + k0_pay10 (k0_pay2 x0) (k0_pay3 i x1) (ix2 r j) * x3 (ix2 1 j) + k0_pay12 (k0_pay2 x0) (k0_pay3 i x1) (ix2 r j) * x3 (ix2 0 j) := by
  generalize hv : k0_pay2 x0 = v
  generalize hw : k0_pay3 i x1 = w
  pointwise [k0_pay1, k0_pay13, k0_pay8]
  rw [hv]

theorem share_3 (x0 : Vec Ideal S512x3072 .bf16) (x2 : Vec Ideal S512x3072 .bf16) (p : Vec Ideal S1x3072 .f32) (j : Fin 3072) :
    k0_pay6 x0 x2 p (ix2 0 j) = p (ix2 0 j) + ∑ r : Fin 512, k0_pay2 x0 (ix2 r j) * k0_pay4 x2 (ix2 r j) := by
  pointwise [k0_pay6]

theorem share_2 (s v : Vec Ideal S512x3072 .f32) (p : Vec Ideal S1x3072 .f32) (j : Fin 3072) :
    k0_pay9 v s p (ix2 0 j) = p (ix2 0 j) + ∑ r : Fin 512, s (ix2 r j) * v (ix2 r j) := by
  pointwise [k0_pay9]

theorem share_1 (v1 : Vec Ideal S512x3072 .f32) (v6 : Vec Ideal S8x3072 .f32) (v : Vec Ideal S512x3072 .f32) (p : Vec Ideal S1x3072 .f32) (j : Fin 3072) :
    k0_pay11 v1 v6 v p (ix2 0 j) = p (ix2 0 j) + ∑ r : Fin 512, k0_pay10 (F := Ideal) v1 v6 (ix2 r j) * v (ix2 r j) := by
  pointwise [k0_pay11]

theorem share_0 (v1 : Vec Ideal S512x3072 .f32) (v6 : Vec Ideal S8x3072 .f32) (v : Vec Ideal S512x3072 .f32) (p : Vec Ideal S1x3072 .f32) (j : Fin 3072) :
    k0_pay14 v1 v6 v p (ix2 0 j) = p (ix2 0 j) + ∑ r : Fin 512, k0_pay12 (F := Ideal) v1 v6 (ix2 r j) * v (ix2 r j) := by
  pointwise [k0_pay14]

/-- The reference's gradient of the convolution's input, at an index. -/
theorem ref_dx (x0 : Vec Ideal S8192x3072 .bf16) (x2 : Vec Ideal S4x3072 .f32) (r : Fin 8192) (j : Fin 3072) :
    Cert.ConvRefIdeal.Read.val_main_v80 (F := Ideal) x0 x2 (ix2 r j) = upto (fun n => x0 (ix2 n j)) r.val * x2 (ix2 3 j) + upto (fun n => x0 (ix2 n j)) (r.val + 1) * x2 (ix2 2 j)
      + upto (fun n => x0 (ix2 n j)) (r.val + 2) * x2 (ix2 1 j) + upto (fun n => x0 (ix2 n j)) (r.val + 3) * x2 (ix2 0 j) := by
  pointwise [Cert.ConvRefIdeal.Read.val_main_v80, Cert.ConvRefIdeal.Read.val_main_v78, Cert.ConvRefIdeal.Read.val_main_v76, Cert.ConvRefIdeal.Read.val_main_v75, Cert.ConvRefIdeal.Read.val_main_v65, Cert.ConvRefIdeal.Read.val_main_v64, Cert.ConvRefIdeal.Read.val_main_v54, Cert.ConvRefIdeal.Read.val_main_v53, Cert.ConvRefIdeal.Read.val_main_v43, Cert.ConvRefIdeal.Read.val_main_v39, Cert.ConvRefIdeal.Read.val_main_v48, Cert.ConvRefIdeal.Read.val_main_v59, Cert.ConvRefIdeal.Read.val_main_v70, Cert.ConvRefIdeal.Read.val_main_v34, Cert.ConvRefIdeal.Read.val_main_v69, Cert.ConvRefIdeal.Read.val_main_v58, Cert.ConvRefIdeal.Read.val_main_v47, Cert.ConvRefIdeal.Read.val_main_v38, Cert.ConvRefIdeal.Read.val_main_v30, Cert.ConvRefIdeal.Read.val_main_v23, Cert.ConvRefIdeal.Read.val_main_v16, Cert.ConvRefIdeal.Read.val_main_v8, Cert.ConvRefIdeal.Read.val_main_v29, Cert.ConvRefIdeal.Read.val_main_v28, Cert.ConvRefIdeal.Read.val_main_v22, Cert.ConvRefIdeal.Read.val_main_v21, Cert.ConvRefIdeal.Read.val_main_v15, Cert.ConvRefIdeal.Read.val_main_v14, Cert.ConvRefIdeal.Read.val_main_v7, Cert.ConvRefIdeal.Read.val_main_v6, Cert.ConvRefIdeal.Read.val_main_cst_17, Cert.ConvRefIdeal.Read.val_main_cst_13, Cert.ConvRefIdeal.Read.val_main_cst_9, Cert.ConvRefIdeal.Read.val_main_cst_5]
  refine congrArg₂ (· + ·) (congrArg₂ (· + ·) (congrArg₂ (· + ·) ?_ ?_) ?_) ?_
  · unfold upto
    rw [dif_pos r.isLt]
  · exact pad_term (fun n => x0 (ix2 n j)) _ _ (3 + r.val - 2) (r.val + 1) (by omega) (by omega) (by omega)
  · exact pad_term (fun n => x0 (ix2 n j)) _ _ (3 + r.val - 1) (r.val + 2) (by omega) (by omega) (by omega)
  · exact pad_term (fun n => x0 (ix2 n j)) _ _ (3 + r.val) (r.val + 3) (by omega) (by omega) (by omega)

/-- The reference's padded input, at an index. -/
theorem ref_padded (x1 : Vec Ideal S8192x10240 .bf16) (n : Nat) (hn : n < 8195) (j : Fin 3072) :
    Cert.ConvRefIdeal.Read.val_main_v3 (F := Ideal) x1 (ix2 ⟨n, hn⟩ j) = if n < 3 then 0 else upto (fun n => x1 (ix2 n ⟨3072 + j.val, by omega⟩)) (n - 3) := by
  pointwise [Cert.ConvRefIdeal.Read.val_main_v0, Cert.ConvRefIdeal.Read.val_main_v1, Cert.ConvRefIdeal.Read.val_main_v2, Cert.ConvRefIdeal.Read.val_main_v3, Cert.ConvRefIdeal.Read.val_main_cst]
  unfold upto
  by_cases h : n < 3
  · simp only [h, dif_pos, if_pos]
  · rw [dif_neg h, if_neg h, dif_pos (by omega)]

/-- Row 0 of the reference's gradient of the filter. -/
theorem ref_dw_0 (x0 : Vec Ideal S8192x3072 .bf16) (x1 : Vec Ideal S8192x10240 .bf16) (j : Fin 3072) :
    Cert.ConvRefIdeal.Read.val_main_v74 (F := Ideal) x0 x1 (ix2 ⟨0, by decide⟩ j)
      = ∑ u : Fin 8192, upto (fun n => x1 (ix2 n ⟨3072 + j.val, by omega⟩)) u.val * upto (fun n => x0 (ix2 n j)) (u.val + 3) := by
  have h : Cert.ConvRefIdeal.Read.val_main_v74 (F := Ideal) x0 x1 (ix2 ⟨0, by decide⟩ j) = ∑ x : Fin 8192, Cert.ConvRefIdeal.Read.val_main_v3 (F := Ideal) x1 (ix2 ⟨x.val, by omega⟩ j) * x0 (ix2 x j) := by
    pointwise [Fin.sum_univ_one, Cert.ConvRefIdeal.Read.val_main_v74, Cert.ConvRefIdeal.Read.val_main_v73, Cert.ConvRefIdeal.Read.val_main_v63, Cert.ConvRefIdeal.Read.val_main_v62, Cert.ConvRefIdeal.Read.val_main_v52, Cert.ConvRefIdeal.Read.val_main_v51, Cert.ConvRefIdeal.Read.val_main_v42, Cert.ConvRefIdeal.Read.val_main_v41, Cert.ConvRefIdeal.Read.val_main_v40, Cert.ConvRefIdeal.Read.val_main_v37, Cert.ConvRefIdeal.Read.val_main_v36, Cert.ConvRefIdeal.Read.val_main_v35, Cert.ConvRefIdeal.Read.val_main_v50, Cert.ConvRefIdeal.Read.val_main_v49, Cert.ConvRefIdeal.Read.val_main_v46, Cert.ConvRefIdeal.Read.val_main_v45, Cert.ConvRefIdeal.Read.val_main_v44, Cert.ConvRefIdeal.Read.val_main_v61, Cert.ConvRefIdeal.Read.val_main_v60, Cert.ConvRefIdeal.Read.val_main_v57, Cert.ConvRefIdeal.Read.val_main_v56, Cert.ConvRefIdeal.Read.val_main_v55, Cert.ConvRefIdeal.Read.val_main_v72, Cert.ConvRefIdeal.Read.val_main_v71, Cert.ConvRefIdeal.Read.val_main_v68, Cert.ConvRefIdeal.Read.val_main_v67, Cert.ConvRefIdeal.Read.val_main_v66, Cert.ConvRefIdeal.Read.val_main_v34, Cert.ConvRefIdeal.Read.val_main_v27, Cert.ConvRefIdeal.Read.val_main_v20, Cert.ConvRefIdeal.Read.val_main_v13, Cert.ConvRefIdeal.Read.val_main_v5, Cert.ConvRefIdeal.Read.val_main_cst, Cert.ConvRefIdeal.Read.val_main_cst_2, Cert.ConvRefIdeal.Read.val_main_cst_3, Cert.ConvRefIdeal.Read.val_main_cst_4, Cert.ConvRefIdeal.Read.val_main_cst_6, Cert.ConvRefIdeal.Read.val_main_cst_7, Cert.ConvRefIdeal.Read.val_main_cst_8, Cert.ConvRefIdeal.Read.val_main_cst_10, Cert.ConvRefIdeal.Read.val_main_cst_11, Cert.ConvRefIdeal.Read.val_main_cst_12, Cert.ConvRefIdeal.Read.val_main_cst_14, Cert.ConvRefIdeal.Read.val_main_cst_15, Cert.ConvRefIdeal.Read.val_main_cst_16]
  rw [h, ← shift_sum 8192 3 (by decide) (upto fun n => x1 (ix2 n ⟨3072 + j.val, by omega⟩)) (upto fun n => x0 (ix2 n j)) (fun n hn => dif_neg (by omega))]
  refine Finset.sum_congr rfl fun x _ => ?_
  rw [ref_padded]
  by_cases hx : x.val < 3
  · rw [if_pos hx, if_pos (by omega), zero_mul]
  · have e : x.val - 3 = x.val - 3 := by omega
    rw [if_neg hx, if_neg (by omega), e]
    refine congrArg _ ?_
    unfold upto
    rw [dif_pos x.isLt]

/-- Row 1 of the reference's gradient of the filter. -/
theorem ref_dw_1 (x0 : Vec Ideal S8192x3072 .bf16) (x1 : Vec Ideal S8192x10240 .bf16) (j : Fin 3072) :
    Cert.ConvRefIdeal.Read.val_main_v74 (F := Ideal) x0 x1 (ix2 ⟨1, by decide⟩ j)
      = ∑ u : Fin 8192, upto (fun n => x1 (ix2 n ⟨3072 + j.val, by omega⟩)) u.val * upto (fun n => x0 (ix2 n j)) (u.val + 2) := by
  have h : Cert.ConvRefIdeal.Read.val_main_v74 (F := Ideal) x0 x1 (ix2 ⟨1, by decide⟩ j) = ∑ x : Fin 8192, Cert.ConvRefIdeal.Read.val_main_v3 (F := Ideal) x1 (ix2 ⟨1 + x.val, by omega⟩ j) * x0 (ix2 x j) := by
    pointwise [Fin.sum_univ_one, Cert.ConvRefIdeal.Read.val_main_v74, Cert.ConvRefIdeal.Read.val_main_v73, Cert.ConvRefIdeal.Read.val_main_v63, Cert.ConvRefIdeal.Read.val_main_v62, Cert.ConvRefIdeal.Read.val_main_v52, Cert.ConvRefIdeal.Read.val_main_v51, Cert.ConvRefIdeal.Read.val_main_v42, Cert.ConvRefIdeal.Read.val_main_v41, Cert.ConvRefIdeal.Read.val_main_v40, Cert.ConvRefIdeal.Read.val_main_v37, Cert.ConvRefIdeal.Read.val_main_v36, Cert.ConvRefIdeal.Read.val_main_v35, Cert.ConvRefIdeal.Read.val_main_v50, Cert.ConvRefIdeal.Read.val_main_v49, Cert.ConvRefIdeal.Read.val_main_v46, Cert.ConvRefIdeal.Read.val_main_v45, Cert.ConvRefIdeal.Read.val_main_v44, Cert.ConvRefIdeal.Read.val_main_v61, Cert.ConvRefIdeal.Read.val_main_v60, Cert.ConvRefIdeal.Read.val_main_v57, Cert.ConvRefIdeal.Read.val_main_v56, Cert.ConvRefIdeal.Read.val_main_v55, Cert.ConvRefIdeal.Read.val_main_v72, Cert.ConvRefIdeal.Read.val_main_v71, Cert.ConvRefIdeal.Read.val_main_v68, Cert.ConvRefIdeal.Read.val_main_v67, Cert.ConvRefIdeal.Read.val_main_v66, Cert.ConvRefIdeal.Read.val_main_v34, Cert.ConvRefIdeal.Read.val_main_v27, Cert.ConvRefIdeal.Read.val_main_v20, Cert.ConvRefIdeal.Read.val_main_v13, Cert.ConvRefIdeal.Read.val_main_v5, Cert.ConvRefIdeal.Read.val_main_cst, Cert.ConvRefIdeal.Read.val_main_cst_2, Cert.ConvRefIdeal.Read.val_main_cst_3, Cert.ConvRefIdeal.Read.val_main_cst_4, Cert.ConvRefIdeal.Read.val_main_cst_6, Cert.ConvRefIdeal.Read.val_main_cst_7, Cert.ConvRefIdeal.Read.val_main_cst_8, Cert.ConvRefIdeal.Read.val_main_cst_10, Cert.ConvRefIdeal.Read.val_main_cst_11, Cert.ConvRefIdeal.Read.val_main_cst_12, Cert.ConvRefIdeal.Read.val_main_cst_14, Cert.ConvRefIdeal.Read.val_main_cst_15, Cert.ConvRefIdeal.Read.val_main_cst_16]
  rw [h, ← shift_sum 8192 2 (by decide) (upto fun n => x1 (ix2 n ⟨3072 + j.val, by omega⟩)) (upto fun n => x0 (ix2 n j)) (fun n hn => dif_neg (by omega))]
  refine Finset.sum_congr rfl fun x _ => ?_
  rw [ref_padded]
  by_cases hx : x.val < 2
  · rw [if_pos hx, if_pos (by omega), zero_mul]
  · have e : 1 + x.val - 3 = x.val - 2 := by omega
    rw [if_neg hx, if_neg (by omega), e]
    refine congrArg _ ?_
    unfold upto
    rw [dif_pos x.isLt]

/-- Row 2 of the reference's gradient of the filter. -/
theorem ref_dw_2 (x0 : Vec Ideal S8192x3072 .bf16) (x1 : Vec Ideal S8192x10240 .bf16) (j : Fin 3072) :
    Cert.ConvRefIdeal.Read.val_main_v74 (F := Ideal) x0 x1 (ix2 ⟨2, by decide⟩ j)
      = ∑ u : Fin 8192, upto (fun n => x1 (ix2 n ⟨3072 + j.val, by omega⟩)) u.val * upto (fun n => x0 (ix2 n j)) (u.val + 1) := by
  have h : Cert.ConvRefIdeal.Read.val_main_v74 (F := Ideal) x0 x1 (ix2 ⟨2, by decide⟩ j) = ∑ x : Fin 8192, Cert.ConvRefIdeal.Read.val_main_v3 (F := Ideal) x1 (ix2 ⟨2 + x.val, by omega⟩ j) * x0 (ix2 x j) := by
    pointwise [Fin.sum_univ_one, Cert.ConvRefIdeal.Read.val_main_v74, Cert.ConvRefIdeal.Read.val_main_v73, Cert.ConvRefIdeal.Read.val_main_v63, Cert.ConvRefIdeal.Read.val_main_v62, Cert.ConvRefIdeal.Read.val_main_v52, Cert.ConvRefIdeal.Read.val_main_v51, Cert.ConvRefIdeal.Read.val_main_v42, Cert.ConvRefIdeal.Read.val_main_v41, Cert.ConvRefIdeal.Read.val_main_v40, Cert.ConvRefIdeal.Read.val_main_v37, Cert.ConvRefIdeal.Read.val_main_v36, Cert.ConvRefIdeal.Read.val_main_v35, Cert.ConvRefIdeal.Read.val_main_v50, Cert.ConvRefIdeal.Read.val_main_v49, Cert.ConvRefIdeal.Read.val_main_v46, Cert.ConvRefIdeal.Read.val_main_v45, Cert.ConvRefIdeal.Read.val_main_v44, Cert.ConvRefIdeal.Read.val_main_v61, Cert.ConvRefIdeal.Read.val_main_v60, Cert.ConvRefIdeal.Read.val_main_v57, Cert.ConvRefIdeal.Read.val_main_v56, Cert.ConvRefIdeal.Read.val_main_v55, Cert.ConvRefIdeal.Read.val_main_v72, Cert.ConvRefIdeal.Read.val_main_v71, Cert.ConvRefIdeal.Read.val_main_v68, Cert.ConvRefIdeal.Read.val_main_v67, Cert.ConvRefIdeal.Read.val_main_v66, Cert.ConvRefIdeal.Read.val_main_v34, Cert.ConvRefIdeal.Read.val_main_v27, Cert.ConvRefIdeal.Read.val_main_v20, Cert.ConvRefIdeal.Read.val_main_v13, Cert.ConvRefIdeal.Read.val_main_v5, Cert.ConvRefIdeal.Read.val_main_cst, Cert.ConvRefIdeal.Read.val_main_cst_2, Cert.ConvRefIdeal.Read.val_main_cst_3, Cert.ConvRefIdeal.Read.val_main_cst_4, Cert.ConvRefIdeal.Read.val_main_cst_6, Cert.ConvRefIdeal.Read.val_main_cst_7, Cert.ConvRefIdeal.Read.val_main_cst_8, Cert.ConvRefIdeal.Read.val_main_cst_10, Cert.ConvRefIdeal.Read.val_main_cst_11, Cert.ConvRefIdeal.Read.val_main_cst_12, Cert.ConvRefIdeal.Read.val_main_cst_14, Cert.ConvRefIdeal.Read.val_main_cst_15, Cert.ConvRefIdeal.Read.val_main_cst_16]
  rw [h, ← shift_sum 8192 1 (by decide) (upto fun n => x1 (ix2 n ⟨3072 + j.val, by omega⟩)) (upto fun n => x0 (ix2 n j)) (fun n hn => dif_neg (by omega))]
  refine Finset.sum_congr rfl fun x _ => ?_
  rw [ref_padded]
  by_cases hx : x.val < 1
  · rw [if_pos hx, if_pos (by omega), zero_mul]
  · have e : 2 + x.val - 3 = x.val - 1 := by omega
    rw [if_neg hx, if_neg (by omega), e]
    refine congrArg _ ?_
    unfold upto
    rw [dif_pos x.isLt]

/-- Row 3 of the reference's gradient of the filter. -/
theorem ref_dw_3 (x0 : Vec Ideal S8192x3072 .bf16) (x1 : Vec Ideal S8192x10240 .bf16) (j : Fin 3072) :
    Cert.ConvRefIdeal.Read.val_main_v74 (F := Ideal) x0 x1 (ix2 ⟨3, by decide⟩ j)
      = ∑ u : Fin 8192, upto (fun n => x1 (ix2 n ⟨3072 + j.val, by omega⟩)) u.val * upto (fun n => x0 (ix2 n j)) (u.val + 0) := by
  have h : Cert.ConvRefIdeal.Read.val_main_v74 (F := Ideal) x0 x1 (ix2 ⟨3, by decide⟩ j) = ∑ x : Fin 8192, Cert.ConvRefIdeal.Read.val_main_v3 (F := Ideal) x1 (ix2 ⟨3 + x.val, by omega⟩ j) * x0 (ix2 x j) := by
    pointwise [Fin.sum_univ_one, Cert.ConvRefIdeal.Read.val_main_v74, Cert.ConvRefIdeal.Read.val_main_v73, Cert.ConvRefIdeal.Read.val_main_v63, Cert.ConvRefIdeal.Read.val_main_v62, Cert.ConvRefIdeal.Read.val_main_v52, Cert.ConvRefIdeal.Read.val_main_v51, Cert.ConvRefIdeal.Read.val_main_v42, Cert.ConvRefIdeal.Read.val_main_v41, Cert.ConvRefIdeal.Read.val_main_v40, Cert.ConvRefIdeal.Read.val_main_v37, Cert.ConvRefIdeal.Read.val_main_v36, Cert.ConvRefIdeal.Read.val_main_v35, Cert.ConvRefIdeal.Read.val_main_v50, Cert.ConvRefIdeal.Read.val_main_v49, Cert.ConvRefIdeal.Read.val_main_v46, Cert.ConvRefIdeal.Read.val_main_v45, Cert.ConvRefIdeal.Read.val_main_v44, Cert.ConvRefIdeal.Read.val_main_v61, Cert.ConvRefIdeal.Read.val_main_v60, Cert.ConvRefIdeal.Read.val_main_v57, Cert.ConvRefIdeal.Read.val_main_v56, Cert.ConvRefIdeal.Read.val_main_v55, Cert.ConvRefIdeal.Read.val_main_v72, Cert.ConvRefIdeal.Read.val_main_v71, Cert.ConvRefIdeal.Read.val_main_v68, Cert.ConvRefIdeal.Read.val_main_v67, Cert.ConvRefIdeal.Read.val_main_v66, Cert.ConvRefIdeal.Read.val_main_v34, Cert.ConvRefIdeal.Read.val_main_v27, Cert.ConvRefIdeal.Read.val_main_v20, Cert.ConvRefIdeal.Read.val_main_v13, Cert.ConvRefIdeal.Read.val_main_v5, Cert.ConvRefIdeal.Read.val_main_cst, Cert.ConvRefIdeal.Read.val_main_cst_2, Cert.ConvRefIdeal.Read.val_main_cst_3, Cert.ConvRefIdeal.Read.val_main_cst_4, Cert.ConvRefIdeal.Read.val_main_cst_6, Cert.ConvRefIdeal.Read.val_main_cst_7, Cert.ConvRefIdeal.Read.val_main_cst_8, Cert.ConvRefIdeal.Read.val_main_cst_10, Cert.ConvRefIdeal.Read.val_main_cst_11, Cert.ConvRefIdeal.Read.val_main_cst_12, Cert.ConvRefIdeal.Read.val_main_cst_14, Cert.ConvRefIdeal.Read.val_main_cst_15, Cert.ConvRefIdeal.Read.val_main_cst_16]
  rw [h, ← shift_sum 8192 0 (by decide) (upto fun n => x1 (ix2 n ⟨3072 + j.val, by omega⟩)) (upto fun n => x0 (ix2 n j)) (fun n hn => dif_neg (by omega))]
  refine Finset.sum_congr rfl fun x _ => ?_
  rw [ref_padded]
  by_cases hx : x.val < 0
  · rw [if_pos hx, if_pos (by omega), zero_mul]
  · have e : 3 + x.val - 3 = x.val - 0 := by omega
    rw [if_neg hx, if_neg (by omega), e]
    refine congrArg _ ?_
    unfold upto
    rw [dif_pos x.isLt]

/-- The reference's wide gradient at the convolution's columns. -/
theorem ref_in (x0 : Vec Ideal S8192x3072 .bf16) (x2 : Vec Ideal S4x3072 .f32) (x3 : Vec Ideal S8192x10240 .bf16) (i : Fin 8192) (k : Fin 3072) :
    Cert.ConvRefIdeal.Read.val_main_v82 (F := Ideal) x0 x2 x3 (ix2 i ⟨3072 + k.val, by omega⟩) = Cert.ConvRefIdeal.Read.val_main_v80 (F := Ideal) x0 x2 (ix2 i k) := by
  pointwise [Cert.ConvRefIdeal.Read.val_main_v82, Cert.ConvRefIdeal.Read.val_main_v79, Cert.ConvRefIdeal.Read.val_main_v81]

/-- The reference's wide gradient at the other columns. -/
theorem ref_out (x0 : Vec Ideal S8192x3072 .bf16) (x2 : Vec Ideal S4x3072 .f32) (x3 : Vec Ideal S8192x10240 .bf16) (i : Fin 8192) (k : Fin 10240) (hk : k.val < 3072 ∨ 6144 ≤ k.val) :
    Cert.ConvRefIdeal.Read.val_main_v82 (F := Ideal) x0 x2 x3 (ix2 i k) = x3 (ix2 i k) := by
  pointwise [Cert.ConvRefIdeal.Read.val_main_v82, Cert.ConvRefIdeal.Read.val_main_v79, Cert.ConvRefIdeal.Read.val_main_v81]
  rcases hk with h | h
  · simp (disch := omega) only [dif_pos, dif_neg]
  · simp (disch := omega) only [dif_pos, dif_neg]
    refine congrArg x3 (congrArg _ (Fin.ext ?_))
    dsimp only
    omega

variable (m : (ℓ : Loc nD τ sig) → Buf (Elt Ideal) ℓ) (c : Dev nD)

theorem ix_0 : ∀ t : Fin cfg0.N, win0_0.index t = ![t.val, 0] := (by decide +kernel : ∀ t : Fin grid0.N, win0_0.index t = ![t.val, 0])
theorem ix_2 : ∀ t : Fin cfg0.N, win0_2.index t = ![t.val, 1] := (by decide +kernel : ∀ t : Fin grid0.N, win0_2.index t = ![t.val, 1])
theorem ix_3 : ∀ t : Fin cfg0.N, win0_3.index t = ![0, 0] := (by decide +kernel : ∀ t : Fin grid0.N, win0_3.index t = ![0, 0])
theorem ix_4 : ∀ t : Fin cfg0.N, win0_4.index t = ![t.val, 1] := (by decide +kernel : ∀ t : Fin grid0.N, win0_4.index t = ![t.val, 1])
theorem ix_5 : ∀ t : Fin cfg0.N, win0_5.index t = ![0, 0] := (by decide +kernel : ∀ t : Fin grid0.N, win0_5.index t = ![0, 0])
theorem ix_1 : ∀ t : Fin cfg0.N, t.val ≠ 15 → win0_1.index t = ![64 * (t.val + 1), 0] := (by decide +kernel : ∀ t : Fin grid0.N, t.val ≠ 15 → win0_1.index t = ![64 * (t.val + 1), 0])

theorem lt_N (t : Fin cfg0.N) : t.val < 16 := lt_of_lt_of_eq t.isLt N_0

theorem last_point : ∀ t : Fin cfg0.N, IntOp.cmpi .eq (BitVec.ofNat 32 ((grid0.coords t) 0).val) 15#32 = BitVec.ofBool (decide (t.val = 15)) :=
  (by decide +kernel : ∀ t : Fin grid0.N, IntOp.cmpi .eq (BitVec.ofNat 32 ((grid0.coords t) 0).val) 15#32 = BitVec.ofBool (decide (t.val = 15)))

theorem block0 (t : Fin cfg0.N) (i : Fin 512) (k : Fin 3072) :
    iblk m c 0 t (ix2 i k) = m ((c : Thread nD τ).loc main_arg0) (ix2 ⟨512 * t.val + i.val, by have := lt_N t; omega⟩ k) := by
  rw [← V_main_arg0 m c]; blk_simp [iblk]; refine congrArg _ ?_; blk_ext [ix_0 t]

theorem block1 (t : Fin cfg0.N) (ht : t.val ≠ 15) (i : Fin 8) (k : Fin 3072) :
    iblk m c 1 t (ix2 i k) = m ((c : Thread nD τ).loc main_arg0) (ix2 ⟨512 * (t.val + 1) + i.val, by have := lt_N t; omega⟩ k) := by
  rw [← V_main_arg0 m c]; blk_simp [iblk]; refine congrArg _ ?_; blk_ext [ix_1 t ht]

theorem block3 (t : Fin cfg0.N) : iblk m c 3 t = m ((c : Thread nD τ).loc main_arg2) := by
  funext j; rw [← V_main_arg2 m c]; blk_simp [iblk]; refine congrArg _ ?_; blk_ext [ix_3 t]

theorem block2 (t : Fin cfg0.N) (i : Fin 512) (k : Fin 3072) :
    X0_2 m c t (ix2 i k) = m ((c : Thread nD τ).loc main_arg1) (ix2 ⟨512 * t.val + i.val, by have := lt_N t; omega⟩ ⟨3072 + k.val, by omega⟩) := by
  unfold X0_2 Pipeline.Window.fill
  rw [dif_pos (moved0_2 t (ix2 i k))]
  rw [← V_main_arg1 m c]; blk_simp [iblk]; refine congrArg _ ?_; blk_ext [ix_2 t]

/-- The eight rows that follow the point's, zero after the last point. -/
theorem halo (t : Fin cfg0.N) (q : Fin 8) (j : Fin 3072) :
    k0_pay3 (F := Ideal) (grid0.coords t) (iblk m c 1 t) (ix2 q j) = upto (fun n => m ((c : Thread nD τ).loc main_arg0) (ix2 n j)) (512 * (t.val + 1) + q.val) := by
  have h : k0_pay3 (F := Ideal) (grid0.coords t) (iblk m c 1 t) (ix2 q j)
      = Scalar.select (IntOp.cmpi .eq (BitVec.ofNat 32 ((grid0.coords t) 0).val) 15#32) (0 : EReal) (iblk m c 1 t (ix2 q j)) := by
    pointwise [k0_pay3]
    first | done | rfl
  have := lt_N t
  rw [h, last_point, select_ofBool]
  unfold upto
  by_cases ht : t.val = 15
  · rw [if_pos (by simp only [decide_eq_true_eq]; omega), dif_neg (by omega)]
  · rw [if_neg (by simp only [decide_eq_true_eq]; omega), dif_pos (by omega), block1 m c t ht]

theorem own (t : Fin cfg0.N) (i : Fin 512) (j : Fin 3072) :
    k0_pay2 (F := Ideal) (iblk m c 0 t) (ix2 i j) = upto (fun n => m ((c : Thread nD τ).loc main_arg0) (ix2 n j)) (512 * t.val + i.val) := by
  have := lt_N t
  unfold upto
  rw [dif_pos (by omega)]
  exact block0 m c t i j

theorem other (t : Fin cfg0.N) (i : Fin 512) (j : Fin 3072) :
    k0_pay4 (F := Ideal) (X0_2 m c t) (ix2 i j) = upto (fun n => m ((c : Thread nD τ).loc main_arg1) (ix2 n ⟨3072 + j.val, by omega⟩)) (512 * t.val + i.val) := by
  have := lt_N t
  unfold upto
  rw [dif_pos (by omega)]
  exact block2 m c t i j

/-- The point's rows moved up by 1 are the array's. -/
theorem rows_1 (t : Fin cfg0.N) (i : Fin 512) (j : Fin 3072) :
    k0_pay7 (F := Ideal) (grid0.coords t) (iblk m c 0 t) (iblk m c 1 t) (ix2 i j) = upto (fun n => m ((c : Thread nD τ).loc main_arg0) (ix2 n j)) (512 * t.val + i.val + 1) := by
  refine (moved_1 _ _ _ i j).trans ?_
  by_cases h : i.val + 1 < 512
  · rw [dif_pos h, own]
    exact congrArg _ (by dsimp only; omega)
  · rw [dif_neg h, halo]
    exact congrArg _ (by dsimp only; omega)

/-- The point's rows moved up by 2 are the array's. -/
theorem rows_2 (t : Fin cfg0.N) (i : Fin 512) (j : Fin 3072) :
    k0_pay10 (F := Ideal) (k0_pay2 (iblk m c 0 t)) (k0_pay3 (grid0.coords t) (iblk m c 1 t)) (ix2 i j) = upto (fun n => m ((c : Thread nD τ).loc main_arg0) (ix2 n j)) (512 * t.val + i.val + 2) := by
  refine (moved_2 _ _ i j).trans ?_
  by_cases h : i.val + 2 < 512
  · rw [dif_pos h, own]
    exact congrArg _ (by dsimp only; omega)
  · rw [dif_neg h, halo]
    exact congrArg _ (by dsimp only; omega)

/-- The point's rows moved up by 3 are the array's. -/
theorem rows_3 (t : Fin cfg0.N) (i : Fin 512) (j : Fin 3072) :
    k0_pay12 (F := Ideal) (k0_pay2 (iblk m c 0 t)) (k0_pay3 (grid0.coords t) (iblk m c 1 t)) (ix2 i j) = upto (fun n => m ((c : Thread nD τ).loc main_arg0) (ix2 n j)) (512 * t.val + i.val + 3) := by
  refine (moved_3 _ _ i j).trans ?_
  by_cases h : i.val + 3 < 512
  · rw [dif_pos h, own]
    exact congrArg _ (by dsimp only; omega)
  · rw [dif_neg h, halo]
    exact congrArg _ (by dsimp only; omega)

/-- A grid point's gradients of the convolution's input are the reference's, at the point's rows. -/
theorem tile_dx (t : Fin cfg0.N) (i : Fin 512) (k : Fin 3072) :
    k0_pay1 (k0_pay13 (k0_pay2 (iblk m c 0 t)) (k0_pay3 (grid0.coords t) (iblk m c 1 t)) (m ((c : Thread nD τ).loc main_arg2)) (k0_pay8 (grid0.coords t) (iblk m c 0 t) (iblk m c 1 t) (m ((c : Thread nD τ).loc main_arg2)))) (ix2 i k)
      = Cert.ConvRefIdeal.Read.val_main_v82 (F := Ideal) (m ((c : Thread nD τ).loc main_arg0)) (m ((c : Thread nD τ).loc main_arg2)) (m ((c : Thread nD τ).loc main_arg3)) (ix2 ⟨512 * t.val + i.val, by have := lt_N t; omega⟩ ⟨3072 + k.val, by omega⟩) := by
  rw [dx_apply, ref_in, ref_dx, own, rows_1, rows_2, rows_3]

/-- What a grid point leaves in the window of gradients of the convolution's input. -/
theorem after_dx (t : Fin cfg0.N) : (outsAt0 m c t.val t.isLt).1 = k0_pay1 (k0_pay13 (k0_pay2 (iblk m c 0 t)) (k0_pay3 (grid0.coords t) (iblk m c 1 t)) (m ((c : Thread nD τ).loc main_arg2)) (k0_pay8 (grid0.coords t) (iblk m c 0 t) (iblk m c 1 t) (m ((c : Thread nD τ).loc main_arg2)))) := by
  by_cases h : t.val % 16 = 0
  · rw [outsAt0_A m c t h]; dsimp only; rw [out_A_4, block3]
  · rw [outsAt0_B m c t h]; dsimp only; rw [out_B_4, block3]

/-- A grid point's share of the filter's gradient. -/
def share (t : Fin cfg0.N) : Vec Ideal S4x3072 .f32 := fun y =>
  ∑ r : Fin 512, upto (fun n => m ((c : Thread nD τ).loc main_arg0) (ix2 n (y 1))) (512 * t.val + r.val + (3 - (y 0).val))
    * upto (fun n => m ((c : Thread nD τ).loc main_arg1) (ix2 (n0 := 8192) (n1 := 10240) n ⟨3072 + (y 1).val, by have : (y 1).val < 3072 := (y 1).isLt; omega⟩)) (512 * t.val + r.val)

theorem row_cases (y : S4x3072.Idx) : ∃ j : Fin 3072, y = ix2 (n0 := 4) (n1 := 3072) ⟨0, by decide⟩ j ∨ y = ix2 (n0 := 4) (n1 := 3072) ⟨1, by decide⟩ j
    ∨ y = ix2 (n0 := 4) (n1 := 3072) ⟨2, by decide⟩ j ∨ y = ix2 (n0 := 4) (n1 := 3072) ⟨3, by decide⟩ j := by
  refine ⟨y 1, ?_⟩
  have h4 : (y 0).val < 4 := (y 0).isLt
  have e : ∀ (k : Nat) (hk : k < 4), (y 0).val = k → y = ix2 (n0 := 4) (n1 := 3072) ⟨k, hk⟩ (y 1) := by
    intro k hk h
    funext a
    fin_cases a
    · exact Fin.ext h
    · rfl
  rcases (show (y 0).val = 0 ∨ (y 0).val = 1 ∨ (y 0).val = 2 ∨ (y 0).val = 3 by omega) with h | h | h | h
  · exact .inl (e 0 _ h)
  · exact .inr (.inl (e 1 _ h))
  · exact .inr (.inr (.inl (e 2 _ h)))
  · exact .inr (.inr (.inr (e 3 _ h)))

/-- The kernel's gradients of the convolution's input are the reference's: its columns from the grid, the others as they came. -/
theorem V_result : V m c main_v0_0 = m ((c : Thread nD τ).loc main_arg3) := rfl

theorem result_dx : (dats m 0 c).arrAt 4 cfg0.N
    = Cert.ConvRefIdeal.Read.val_main_v82 (F := Ideal) (m ((c : Thread nD τ).loc main_arg0)) (m ((c : Thread nD τ).loc main_arg2)) (m ((c : Thread nD τ).loc main_arg3)) := by
  refine (dats m 0 c).arrAt_eq_of_coversWhere_of_agree 4 _ (fun β => β (1 : Fin _) = 1) (by decide +kernel) (fun t _ y => ?_) (fun j hj => ?_)
  · rw [after0_4, after_dx]
    have hx : (cfg0.win 4).xinj (cfg0.grid.coords t) y = ix2 (n0 := 512) (n1 := 3072) ((cfg0.win 4).xinj (cfg0.grid.coords t) y 0) ((cfg0.win 4).xinj (cfg0.grid.coords t) y 1) := by
      funext a; fin_cases a <;> rfl
    refine (congrArg _ hx).trans ((tile_dx m c t _ _).trans ?_)
    refine congrArg _ ?_
    blk_ext [ix_4 t]
  · have e : (cfg0.win 4).arr.view.emb j = ix2 (n0 := 8192) (n1 := 10240) (j 0) (j 1) := by
      funext a; fin_cases a <;> rfl
    have hj1 : ¬ (j 1).val / 3072 = 1 := hj
    rw [e]
    have h5 : (dats m 0 c).A 4 = m ((c : Thread nD τ).loc main_arg3) := V_result m c
    rw [h5]
    exact (ref_out (m ((c : Thread nD τ).loc main_arg0)) (m ((c : Thread nD τ).loc main_arg2)) (m ((c : Thread nD τ).loc main_arg3)) (j 0) (j 1) (by omega)).symm

/-- The kernel's gradient of the filter, summed over the grid points, is the reference's. -/
theorem result_dw : (dats m 0 c).arrAt 5 cfg0.N
    = Cert.ConvRefIdeal.Read.val_main_v74 (F := Ideal) (m ((c : Thread nD τ).loc main_arg0)) (m ((c : Thread nD τ).loc main_arg1)) := by
  refine (dats m 0 c).arrAt_eq_of_after_last 5 t0_15 (by decide +kernel) _ fun j => ?_
  rw [after0_5]
  have key := Pipeline.eq_sum_fin_of_reset_step_apply_last (fun n h => (outsAt0 m c n h).2) 16 (fun _ => 0)
    (share m c)
    (fun t h y => by
      rw [outsAt0_A m c t h]; dsimp only
      obtain ⟨j, rfl | rfl | rfl | rfl⟩ := row_cases y
      · refine (out_A_5_0 _ _ _ _ _ _ _ _ _ _ _ _ _ _ _ _ _ _ _ j).trans ((share_0 _ _ _ _ _).trans ?_)
        refine congrArg₂ (· + ·) ?_ (Finset.sum_congr rfl fun r _ => ?_)
        · pointwise [rowOf, k0_pay5]
        · refine congrArg₂ (· * ·) (rows_3 m c t r j) (other m c t r j)
      · refine (out_A_5_1 _ _ _ _ _ _ _ _ _ _ _ _ _ _ _ _ _ _ _ j).trans ((share_1 _ _ _ _ _).trans ?_)
        refine congrArg₂ (· + ·) ?_ (Finset.sum_congr rfl fun r _ => ?_)
        · pointwise [rowOf, k0_pay5]
        · refine congrArg₂ (· * ·) (rows_2 m c t r j) (other m c t r j)
      · refine (out_A_5_2 _ _ _ _ _ _ _ _ _ _ _ _ _ _ _ _ _ _ _ j).trans ((share_2 _ _ _ _).trans ?_)
        refine congrArg₂ (· + ·) ?_ (Finset.sum_congr rfl fun r _ => ?_)
        · pointwise [rowOf, k0_pay5]
        · refine congrArg₂ (· * ·) (rows_1 m c t r j) (other m c t r j)
      · refine (out_A_5_3 _ _ _ _ _ _ _ _ _ _ _ _ _ _ _ _ _ _ _ j).trans ((share_3 _ _ _ _).trans ?_)
        refine congrArg₂ (· + ·) ?_ (Finset.sum_congr rfl fun r _ => ?_)
        · pointwise [rowOf, k0_pay5]
        · refine congrArg₂ (· * ·) (own m c t r j) (other m c t r j)
)
    (fun t h y => by
      rw [outsAt0_B m c t h]; dsimp only
      obtain ⟨j, rfl | rfl | rfl | rfl⟩ := row_cases y
      · refine (out_B_5_0 _ _ _ _ _ _ _ _ _ _ _ _ _ _ _ _ _ _ _ _ j).trans ((share_0 _ _ _ _ _).trans ?_)
        refine congrArg₂ (· + ·) rfl (Finset.sum_congr rfl fun r _ => ?_)
        refine congrArg₂ (· * ·) (rows_3 m c t r j) (other m c t r j)
      · refine (out_B_5_1 _ _ _ _ _ _ _ _ _ _ _ _ _ _ _ _ _ _ _ _ j).trans ((share_1 _ _ _ _ _).trans ?_)
        refine congrArg₂ (· + ·) rfl (Finset.sum_congr rfl fun r _ => ?_)
        refine congrArg₂ (· * ·) (rows_2 m c t r j) (other m c t r j)
      · refine (out_B_5_2 _ _ _ _ _ _ _ _ _ _ _ _ _ _ _ _ _ _ _ _ j).trans ((share_2 _ _ _ _).trans ?_)
        refine congrArg₂ (· + ·) rfl (Finset.sum_congr rfl fun r _ => ?_)
        refine congrArg₂ (· * ·) (rows_1 m c t r j) (other m c t r j)
      · refine (out_B_5_3 _ _ _ _ _ _ _ _ _ _ _ _ _ _ _ _ _ _ _ _ j).trans ((share_3 _ _ _ _).trans ?_)
        refine congrArg₂ (· + ·) rfl (Finset.sum_congr rfl fun r _ => ?_)
        refine congrArg₂ (· * ·) (own m c t r j) (other m c t r j)
)
    (le_of_eq N_0) t0_15 rfl
  refine (key j).trans ?_
  rw [zero_add]
  obtain ⟨j, rfl | rfl | rfl | rfl⟩ := row_cases j
  · refine Eq.trans ?_ (ref_dw_0 (m ((c : Thread nD τ).loc main_arg0)) (m ((c : Thread nD τ).loc main_arg1)) j).symm
    refine Fin.sum_mul_add_congr (fun p i hl => ?_)
    have e : p.val * 512 + i.val = 512 * p.val + i.val := by omega
    dsimp only
    rw [e, mul_comm]
    rfl
  · refine Eq.trans ?_ (ref_dw_1 (m ((c : Thread nD τ).loc main_arg0)) (m ((c : Thread nD τ).loc main_arg1)) j).symm
    refine Fin.sum_mul_add_congr (fun p i hl => ?_)
    have e : p.val * 512 + i.val = 512 * p.val + i.val := by omega
    dsimp only
    rw [e, mul_comm]
    rfl
  · refine Eq.trans ?_ (ref_dw_2 (m ((c : Thread nD τ).loc main_arg0)) (m ((c : Thread nD τ).loc main_arg1)) j).symm
    refine Fin.sum_mul_add_congr (fun p i hl => ?_)
    have e : p.val * 512 + i.val = 512 * p.val + i.val := by omega
    dsimp only
    rw [e, mul_comm]
    rfl
  · refine Eq.trans ?_ (ref_dw_3 (m ((c : Thread nD τ).loc main_arg0)) (m ((c : Thread nD τ).loc main_arg1)) j).symm
    refine Fin.sum_mul_add_congr (fun p i hl => ?_)
    have e : p.val * 512 + i.val = 512 * p.val + i.val := by omega
    dsimp only
    rw [e, mul_comm]
    rfl

/-- The kernel as it runs: it terminates without a fault, keeps its arguments, and leaves every counter at zero. -/
theorem frame_kernel : Cert.quiescent_Conv := fun m ρ _ => Cert.Conv.Gen.frame m ρ

/-- The kernel over exact values: the same. -/
theorem frame_ideal : Cert.quiescent_ConvIdeal := fun m ρ _ => Cert.ConvIdeal.Gen.frame m ρ

/-- The reference: the same, from its run; it has no counters. -/
theorem frame_reference : Cert.quiescent_ConvRefIdeal := fun m ρ _ =>
  (θ_run Cert.ConvRefIdeal.defs _ _).mono
    (fun r h => ⟨fun c => (h c).2.2, sem_eq_zero_of_no_sems (by decide) r.2⟩)
    (Cert.ConvRefIdeal.Value.run (F := Ideal) m ρ)

/-- No operation was replaced between the kernel and its exact form. -/
theorem preserves : Cert.preserves_Conv_ConvIdeal := trivial

/-- Over exact values the kernel's gradients of the convolution's input (with the other columns as they came) and of its filter are the reference's. -/
theorem algebraic : Cert.algebraic_ConvIdeal_ConvRefIdeal := by
  intro m ρ m' ρ' _ hagree
  refine ⟨fun c => Cert.ConvRefIdeal.Read.val_main_v82 (F := Ideal) (m ((c.tc : Thread nD τ).loc main_arg0)) (m ((c.tc : Thread nD τ).loc main_arg2)) (m ((c.tc : Thread nD τ).loc main_arg3)), fun c => Cert.ConvRefIdeal.Read.val_main_v74 (F := Ideal) (m ((c.tc : Thread nD τ).loc main_arg0)) (m ((c.tc : Thread nD τ).loc main_arg1)), ?_, ?_⟩
  · refine (θ_run Cert.ConvIdeal.defs _ _).mono (fun r h c => ?_) (Cert.ConvIdeal.Value.run_blocks (F := Ideal) m ρ)
    obtain ⟨h0, h1, hrest⟩ := h c
    exact ⟨h0.trans (result_dx m c), h1.trans (result_dw m c), hrest⟩
  · refine (θ_run Cert.ConvRefIdeal.defs _ _).mono (fun r h c => ?_) (Cert.ConvRefIdeal.Value.run (F := Ideal) m' ρ')
    obtain ⟨h0, h1, hrest⟩ := h c
    obtain ⟨e0, e1, e2, e3⟩ := hagree c
    have l0 : m' ((c.tc : Thread Cert.ConvRefIdeal.nD Cert.ConvRefIdeal.τ).loc Cert.ConvRefIdeal.main_arg0) = m ((c.tc : Thread nD τ).loc main_arg0) := e0
    have l1 : m' ((c.tc : Thread Cert.ConvRefIdeal.nD Cert.ConvRefIdeal.τ).loc Cert.ConvRefIdeal.main_arg1) = m ((c.tc : Thread nD τ).loc main_arg1) := e1
    have l2 : m' ((c.tc : Thread Cert.ConvRefIdeal.nD Cert.ConvRefIdeal.τ).loc Cert.ConvRefIdeal.main_arg2) = m ((c.tc : Thread nD τ).loc main_arg2) := e2
    have l3 : m' ((c.tc : Thread Cert.ConvRefIdeal.nD Cert.ConvRefIdeal.τ).loc Cert.ConvRefIdeal.main_arg3) = m ((c.tc : Thread nD τ).loc main_arg3) := e3
    refine ⟨?_, ?_, hrest⟩
    · refine (h0.trans (Cert.ConvRefIdeal.Read.val_main_v82_eq _ _ _)).trans ?_
      rw [l0, l2, l3]
    · refine (h1.trans (Cert.ConvRefIdeal.Read.val_main_v74_eq _ _)).trans ?_
      rw [l0, l1]

end Cert.ConvProof
end
-- ==== Proof.Adam.lean ====
/- One step of the optimiser, AdamW, for one weight: the new averages of the gradient and of its square, and the step. -/
module

public import Idealize.ShloMosaic.PureOps.Ideal

@[expose] public section

noncomputable section
open Idealize.ShloMosaic
namespace Cert.Adam

/-- The new average of the gradient: `0.9 m + 0.1 g`, with the two factors as the programs round them. -/
def newM (g m : EReal) : EReal := Ideal.ofBits .f32 0x3F666666#32 * m + Ideal.ofBits .f32 0x3DCCCCCD#32 * g

/-- The new average of the squared gradient: `0.999 v + 0.001 g²`. -/
def newV (g v : EReal) : EReal := Ideal.ofBits .f32 0x3F7FBE77#32 * v + Ideal.ofBits .f32 0x3A83126F#32 * (g * g)

/-- The step: `-0.001 (m̂ / (√v̂ + 1e-8) + 0.01 w)`, where `m̂` and `v̂` are the new averages over `1 - 0.9¹⁰` and `1 - 0.999¹⁰`. -/
def step (w g m v : EReal) : EReal :=
  Ideal.ofBits .f32 0xBA83126F#32
    * (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

end Cert.Adam
end
-- ==== Proof.AdamOa.lean ====
/- The optimiser's step for the first branch's output projection: the one grid point's block is the array. -/
module

public import proofs.«01_k».proof.Defs
public import proofs.«01_k».proof.Proof.Gen.AdamOa.Frame
public import proofs.«01_k».proof.Proof.Gen.AdamOaIdeal.Value
public import proofs.«01_k».proof.Proof.Gen.AdamOaRefIdeal.Run
public import proofs.«01_k».proof.Proof.Gen.AdamOaRefIdeal.Read
public import proofs.«01_k».proof.Proof.Adam
public import Idealize.ShloMosaic.Lib.Pipeline.ValueKit.Acc
public import Idealize.ShloMosaic.Lib.Pipeline.ValueKit.Partial
public import Idealize.ShloMosaic.Lib.Pointwise
public import Idealize.ShloMosaic.Lib.Tactic
public import Idealize.ShloMosaic.Adequacy
public import Idealize.ShloMosaic.Init

@[expose] public section

set_option maxRecDepth 16384
set_option maxHeartbeats 0

noncomputable section
open Idealize.ShloMosaic Idealize.ShloMosaic.TcCoe Idealize.SL.Sem
open Idealize.ShloMosaic.Pipeline (Dat)
namespace Cert.AdamOaProof
open Cert.AdamOaIdeal Cert.AdamOaIdeal.Gen
theorem hz : (![0, 0] : Fin 2 → Nat) = fun _ => 0 := by funext i; fin_cases i <;> rfl
section
variable {F : FTy → Type} [FloatOps F]

/-- A point leaves in window 4 the step. -/
theorem out_4 (x0 x1 x2 x3 : Vec F S256x1024 .f32) : out0_4 x0 x1 x2 x3 = k0_pay3 x1 x0 x2 x3 := by
  unfold out0_4
  rw [View.canon_unit_zero hz]
  simp only [View.ld_unit_zero (S := S256x1024) hz]

/-- A point leaves in window 5 the new average of the gradient. -/
theorem out_5 (x0 x1 x2 x3 : Vec F S256x1024 .f32) : out0_5 x0 x1 x2 x3 = k0_pay1 x1 x2 := by
  unfold out0_5
  rw [View.canon_unit_zero hz]
  simp only [View.ld_unit_zero (S := S256x1024) hz]

/-- A point leaves in window 6 the new average of its square. -/
theorem out_6 (x0 x1 x2 x3 : Vec F S256x1024 .f32) : out0_6 x0 x1 x2 x3 = k0_pay2 x1 x3 := by
  unfold out0_6
  rw [View.canon_unit_zero hz]
  simp only [View.ld_unit_zero (S := S256x1024) hz]

/-- A point leaves in window 7 the gradient. -/
theorem out_7 (x0 x1 x2 x3 : Vec F S256x1024 .f32) : out0_7 x0 x1 x2 x3 = x1 := by
  unfold out0_7
  rw [View.canon_unit_zero hz]
  simp only [View.ld_unit_zero (S := S256x1024) hz]

end

open Adam

/-- A block of the kernel's at an index. -/
theorem newM_apply (g m : Vec Ideal S256x1024 .f32) (i : Fin 256) (j : Fin 1024) :
    k0_pay1 g m (ix2 i j) = newM (g (ix2 i j)) (m (ix2 i j)) := rfl

/-- A block of the kernel's at an index. -/
theorem newV_apply (g v : Vec Ideal S256x1024 .f32) (i : Fin 256) (j : Fin 1024) :
    k0_pay2 g v (ix2 i j) = newV (g (ix2 i j)) (v (ix2 i j)) := rfl

/-- A block of the kernel's at an index. -/
theorem step_apply (g w m v : Vec Ideal S256x1024 .f32) (i : Fin 256) (j : Fin 1024) :
    k0_pay3 g w m v (ix2 i j) = step (w (ix2 i j)) (g (ix2 i j)) (m (ix2 i j)) (v (ix2 i j)) := rfl

/-- The reference at an index. -/
theorem ref_newM (g m : Vec Ideal S256x1024 .f32) (i : Fin 256) (j : Fin 1024) :
    Cert.AdamOaRefIdeal.Read.val_main_v4 (F := Ideal) g m (ix2 i j) = newM (g (ix2 i j)) (m (ix2 i j)) := by
  simp only [Cert.AdamOaRefIdeal.Read.val_main_v0_apply, Cert.AdamOaRefIdeal.Read.val_main_v1_apply, Cert.AdamOaRefIdeal.Read.val_main_v2_apply, Cert.AdamOaRefIdeal.Read.val_main_v3_apply, Cert.AdamOaRefIdeal.Read.val_main_v4_apply, Cert.AdamOaRefIdeal.Read.val_main_cst_apply, Cert.AdamOaRefIdeal.Read.val_main_cst_0_apply]
  rfl

/-- The reference at an index. -/
theorem ref_newV (g v : Vec Ideal S256x1024 .f32) (i : Fin 256) (j : Fin 1024) :
    Cert.AdamOaRefIdeal.Read.val_main_v10 (F := Ideal) g v (ix2 i j) = newV (g (ix2 i j)) (v (ix2 i j)) := by
  simp only [Cert.AdamOaRefIdeal.Read.val_main_v5_apply, Cert.AdamOaRefIdeal.Read.val_main_v6_apply, Cert.AdamOaRefIdeal.Read.val_main_v7_apply, Cert.AdamOaRefIdeal.Read.val_main_v8_apply, Cert.AdamOaRefIdeal.Read.val_main_v9_apply, Cert.AdamOaRefIdeal.Read.val_main_v10_apply, Cert.AdamOaRefIdeal.Read.val_main_cst_1_apply, Cert.AdamOaRefIdeal.Read.val_main_cst_2_apply]
  rfl

/-- The reference at an index. -/
theorem ref_step (w g m v : Vec Ideal S256x1024 .f32) (i : Fin 256) (j : Fin 1024) :
    Cert.AdamOaRefIdeal.Read.val_main_v23 (F := Ideal) w g m v (ix2 i j) = step (w (ix2 i j)) (g (ix2 i j)) (m (ix2 i j)) (v (ix2 i j)) := by
  simp only [ref_newM, ref_newV, Cert.AdamOaRefIdeal.Read.val_main_v11_apply, Cert.AdamOaRefIdeal.Read.val_main_v12_apply, Cert.AdamOaRefIdeal.Read.val_main_v13_apply, Cert.AdamOaRefIdeal.Read.val_main_v14_apply, Cert.AdamOaRefIdeal.Read.val_main_v15_apply, Cert.AdamOaRefIdeal.Read.val_main_v16_apply, Cert.AdamOaRefIdeal.Read.val_main_v17_apply, Cert.AdamOaRefIdeal.Read.val_main_v18_apply, Cert.AdamOaRefIdeal.Read.val_main_v19_apply, Cert.AdamOaRefIdeal.Read.val_main_v20_apply, Cert.AdamOaRefIdeal.Read.val_main_v21_apply, Cert.AdamOaRefIdeal.Read.val_main_v22_apply, Cert.AdamOaRefIdeal.Read.val_main_v23_apply, Cert.AdamOaRefIdeal.Read.val_main_cst_3_apply, Cert.AdamOaRefIdeal.Read.val_main_cst_4_apply, Cert.AdamOaRefIdeal.Read.val_main_cst_5_apply, Cert.AdamOaRefIdeal.Read.val_main_cst_6_apply, Cert.AdamOaRefIdeal.Read.val_main_cst_7_apply]
  rfl

variable (m : (ℓ : Loc nD τ sig) → Buf (Elt Ideal) ℓ) (c : Dev nD)
theorem ix_0 : ∀ t : Fin cfg0.N, win0_0.index t = ![0, 0] := (by decide +kernel : ∀ t : Fin grid0.N, win0_0.index t = ![0, 0])
theorem ix_1 : ∀ t : Fin cfg0.N, win0_1.index t = ![0, 0] := (by decide +kernel : ∀ t : Fin grid0.N, win0_1.index t = ![0, 0])
theorem ix_2 : ∀ t : Fin cfg0.N, win0_2.index t = ![0, 0] := (by decide +kernel : ∀ t : Fin grid0.N, win0_2.index t = ![0, 0])
theorem ix_3 : ∀ t : Fin cfg0.N, win0_3.index t = ![0, 0] := (by decide +kernel : ∀ t : Fin grid0.N, win0_3.index t = ![0, 0])
theorem ix_4 : ∀ t : Fin cfg0.N, win0_4.index t = ![0, 0] := (by decide +kernel : ∀ t : Fin grid0.N, win0_4.index t = ![0, 0])
theorem ix_5 : ∀ t : Fin cfg0.N, win0_5.index t = ![0, 0] := (by decide +kernel : ∀ t : Fin grid0.N, win0_5.index t = ![0, 0])
theorem ix_6 : ∀ t : Fin cfg0.N, win0_6.index t = ![0, 0] := (by decide +kernel : ∀ t : Fin grid0.N, win0_6.index t = ![0, 0])
theorem ix_7 : ∀ t : Fin cfg0.N, win0_7.index t = ![0, 0] := (by decide +kernel : ∀ t : Fin grid0.N, win0_7.index t = ![0, 0])
theorem lt_N (t : Fin cfg0.N) : t.val < 1 := lt_of_lt_of_eq t.isLt N_0

theorem block0 (t : Fin cfg0.N) (i : Fin 256) (j : Fin 1024) :
    iblk m c 0 t (ix2 i j) = m ((c : Thread nD τ).loc main_arg0) (ix2 i j) := by
  rw [← V_main_arg0 m c]; blk_simp [iblk]; refine congrArg _ ?_; blk_ext [ix_0 t]

theorem block1 (t : Fin cfg0.N) (i : Fin 256) (j : Fin 1024) :
    iblk m c 1 t (ix2 i j) = m ((c : Thread nD τ).loc main_arg1) (ix2 i j) := by
  rw [← V_main_arg1 m c]; blk_simp [iblk]; refine congrArg _ ?_; blk_ext [ix_1 t]

theorem block2 (t : Fin cfg0.N) (i : Fin 256) (j : Fin 1024) :
    iblk m c 2 t (ix2 i j) = m ((c : Thread nD τ).loc main_arg2) (ix2 i j) := by
  rw [← V_main_arg2 m c]; blk_simp [iblk]; refine congrArg _ ?_; blk_ext [ix_2 t]

theorem block3 (t : Fin cfg0.N) (i : Fin 256) (j : Fin 1024) :
    iblk m c 3 t (ix2 i j) = m ((c : Thread nD τ).loc main_arg3) (ix2 i j) := by
  rw [← V_main_arg3 m c]; blk_simp [iblk]; refine congrArg _ ?_; blk_ext [ix_3 t]

/-- A grid point's block of the step is the reference's. -/
theorem tile_step (t : Fin cfg0.N) (i : Fin 256) (j : Fin 1024) :
    k0_pay3 (iblk m c 1 t) (iblk m c 0 t) (iblk m c 2 t) (iblk m c 3 t) (ix2 i j) = Cert.AdamOaRefIdeal.Read.val_main_v23 (F := Ideal) (m ((c : Thread nD τ).loc main_arg0)) (m ((c : Thread nD τ).loc main_arg1)) (m ((c : Thread nD τ).loc main_arg2)) (m ((c : Thread nD τ).loc main_arg3)) (ix2 i j) := by
  rw [step_apply, ref_step, block0, block1, block2, block3]

/-- The kernel's step is the reference's. -/
theorem result_step : (dats m 0 c).arrAt 4 cfg0.N = Cert.AdamOaRefIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  rw [after0_4, out_4]
  have hx : (cfg0.win 4).xinj (cfg0.grid.coords t) y = ix2 (n0 := 256) (n1 := 1024) ((cfg0.win 4).xinj (cfg0.grid.coords t) y 0) ((cfg0.win 4).xinj (cfg0.grid.coords t) y 1) := by
    funext a; fin_cases a <;> rfl
  refine (congrArg _ hx).trans ((tile_step m c t _ _).trans ?_)
  refine congrArg _ ?_
  blk_ext [ix_4 t]

/-- A grid point's block of the new average of the gradient is the reference's. -/
theorem tile_newM (t : Fin cfg0.N) (i : Fin 256) (j : Fin 1024) :
    k0_pay1 (iblk m c 1 t) (iblk m c 2 t) (ix2 i j) = Cert.AdamOaRefIdeal.Read.val_main_v4 (F := Ideal) (m ((c : Thread nD τ).loc main_arg1)) (m ((c : Thread nD τ).loc main_arg2)) (ix2 i j) := by
  rw [newM_apply, ref_newM, block1, block2]

/-- The kernel's new average of the gradient is the reference's. -/
theorem result_newM : (dats m 0 c).arrAt 5 cfg0.N = Cert.AdamOaRefIdeal.Read.val_main_v4 (F := Ideal) (m ((c : Thread nD τ).loc main_arg1)) (m ((c : Thread nD τ).loc main_arg2)) := by
  refine (dats m 0 c).arrAt_eq_of_covers 5 _ (by decide +kernel) fun t _ y => ?_
  rw [after0_5, out_5]
  have hx : (cfg0.win 5).xinj (cfg0.grid.coords t) y = ix2 (n0 := 256) (n1 := 1024) ((cfg0.win 5).xinj (cfg0.grid.coords t) y 0) ((cfg0.win 5).xinj (cfg0.grid.coords t) y 1) := by
    funext a; fin_cases a <;> rfl
  refine (congrArg _ hx).trans ((tile_newM m c t _ _).trans ?_)
  refine congrArg _ ?_
  blk_ext [ix_5 t]

/-- A grid point's block of the new average of its square is the reference's. -/
theorem tile_newV (t : Fin cfg0.N) (i : Fin 256) (j : Fin 1024) :
    k0_pay2 (iblk m c 1 t) (iblk m c 3 t) (ix2 i j) = Cert.AdamOaRefIdeal.Read.val_main_v10 (F := Ideal) (m ((c : Thread nD τ).loc main_arg1)) (m ((c : Thread nD τ).loc main_arg3)) (ix2 i j) := by
  rw [newV_apply, ref_newV, block1, block3]

/-- The kernel's new average of its square is the reference's. -/
theorem result_newV : (dats m 0 c).arrAt 6 cfg0.N = Cert.AdamOaRefIdeal.Read.val_main_v10 (F := Ideal) (m ((c : Thread nD τ).loc main_arg1)) (m ((c : Thread nD τ).loc main_arg3)) := by
  refine (dats m 0 c).arrAt_eq_of_covers 6 _ (by decide +kernel) fun t _ y => ?_
  rw [after0_6, out_6]
  have hx : (cfg0.win 6).xinj (cfg0.grid.coords t) y = ix2 (n0 := 256) (n1 := 1024) ((cfg0.win 6).xinj (cfg0.grid.coords t) y 0) ((cfg0.win 6).xinj (cfg0.grid.coords t) y 1) := by
    funext a; fin_cases a <;> rfl
  refine (congrArg _ hx).trans ((tile_newV m c t _ _).trans ?_)
  refine congrArg _ ?_
  blk_ext [ix_6 t]

/-- A grid point's block of the gradient is the reference's. -/
theorem tile_grad (t : Fin cfg0.N) (i : Fin 256) (j : Fin 1024) :
    (iblk m c 1 t) (ix2 i j) = (m ((c : Thread nD τ).loc main_arg1)) (ix2 i j) := by
  rw [block1]

/-- The kernel's gradient is the reference's. -/
theorem result_grad : (dats m 0 c).arrAt 7 cfg0.N = (m ((c : Thread nD τ).loc main_arg1)) := by
  refine (dats m 0 c).arrAt_eq_of_covers 7 _ (by decide +kernel) fun t _ y => ?_
  rw [after0_7, out_7]
  have hx : (cfg0.win 7).xinj (cfg0.grid.coords t) y = ix2 (n0 := 256) (n1 := 1024) ((cfg0.win 7).xinj (cfg0.grid.coords t) y 0) ((cfg0.win 7).xinj (cfg0.grid.coords t) y 1) := by
    funext a; fin_cases a <;> rfl
  refine (congrArg _ hx).trans ((tile_grad m c t _ _).trans ?_)
  refine congrArg _ ?_
  blk_ext [ix_7 t]

/-- The kernel as it runs: it terminates without a fault, keeps its arguments, and leaves every counter at zero. -/
theorem frame_kernel : Cert.quiescent_AdamOa := fun m ρ _ => Cert.AdamOa.Gen.frame m ρ

/-- The kernel over exact values: the same. -/
theorem frame_ideal : Cert.quiescent_AdamOaIdeal := fun m ρ _ => Cert.AdamOaIdeal.Gen.frame m ρ

/-- The reference: the same, from its run; it has no counters. -/
theorem frame_reference : Cert.quiescent_AdamOaRefIdeal := fun m ρ _ =>
  (θ_run Cert.AdamOaRefIdeal.defs _ _).mono
    (fun r h => ⟨fun c => (h c).2.2.2.2, sem_eq_zero_of_no_sems (by decide) r.2⟩)
    (Cert.AdamOaRefIdeal.Value.run (F := Ideal) m ρ)

/-- No operation was replaced between the kernel and its exact form. -/
theorem preserves : Cert.preserves_AdamOa_AdamOaIdeal := trivial

/-- Over exact values the step, the two new averages and the gradient that the kernel leaves are the reference's. -/
theorem algebraic : Cert.algebraic_AdamOaIdeal_AdamOaRefIdeal := by
  intro m ρ m' ρ' _ hagree
  refine ⟨fun c => Cert.AdamOaRefIdeal.Read.val_main_v23 (F := Ideal) (m ((c.tc : Thread nD τ).loc main_arg0)) (m ((c.tc : Thread nD τ).loc main_arg1)) (m ((c.tc : Thread nD τ).loc main_arg2)) (m ((c.tc : Thread nD τ).loc main_arg3)), fun c => Cert.AdamOaRefIdeal.Read.val_main_v4 (F := Ideal) (m ((c.tc : Thread nD τ).loc main_arg1)) (m ((c.tc : Thread nD τ).loc main_arg2)), fun c => Cert.AdamOaRefIdeal.Read.val_main_v10 (F := Ideal) (m ((c.tc : Thread nD τ).loc main_arg1)) (m ((c.tc : Thread nD τ).loc main_arg3)), fun c => m ((c.tc : Thread nD τ).loc main_arg1), ?_, ?_⟩
  · refine (θ_run Cert.AdamOaIdeal.defs _ _).mono (fun r h c => ?_) (Cert.AdamOaIdeal.Value.run_blocks (F := Ideal) m ρ)
    obtain ⟨h0, h1, h2, h3, hrest⟩ := h c
    exact ⟨h0.trans (result_step m c), h1.trans (result_newM m c), h2.trans (result_newV m c), h3.trans (result_grad m c), hrest⟩
  · refine (θ_run Cert.AdamOaRefIdeal.defs _ _).mono (fun r h c => ?_) (Cert.AdamOaRefIdeal.Value.run (F := Ideal) m' ρ')
    obtain ⟨h0, h1, h2, h3, hrest⟩ := h c
    obtain ⟨e0, e1, e2, e3⟩ := hagree c
    have l0 : m' ((c.tc : Thread Cert.AdamOaRefIdeal.nD Cert.AdamOaRefIdeal.τ).loc Cert.AdamOaRefIdeal.main_arg0) = m ((c.tc : Thread nD τ).loc main_arg0) := e0
    have l1 : m' ((c.tc : Thread Cert.AdamOaRefIdeal.nD Cert.AdamOaRefIdeal.τ).loc Cert.AdamOaRefIdeal.main_arg1) = m ((c.tc : Thread nD τ).loc main_arg1) := e1
    have l2 : m' ((c.tc : Thread Cert.AdamOaRefIdeal.nD Cert.AdamOaRefIdeal.τ).loc Cert.AdamOaRefIdeal.main_arg2) = m ((c.tc : Thread nD τ).loc main_arg2) := e2
    have l3 : m' ((c.tc : Thread Cert.AdamOaRefIdeal.nD Cert.AdamOaRefIdeal.τ).loc Cert.AdamOaRefIdeal.main_arg3) = m ((c.tc : Thread nD τ).loc main_arg3) := e3
    refine ⟨?_, ?_, ?_, ?_, hrest⟩
    · refine (h0.trans (Cert.AdamOaRefIdeal.Read.val_main_v23_eq _ _ _ _)).trans ?_
      rw [l0, l1, l2, l3]
    · refine (h1.trans (Cert.AdamOaRefIdeal.Read.val_main_v4_eq _ _)).trans ?_
      rw [l1, l2]
    · refine (h2.trans (Cert.AdamOaRefIdeal.Read.val_main_v10_eq _ _)).trans ?_
      rw [l1, l3]
    · exact h3.trans l1

end Cert.AdamOaProof
end
-- ==== Proof.AdamOb.lean ====
/- The optimiser's step for the second branch's output projection: a grid point's block of rows is the reference's rows. -/
module

public import proofs.«01_k».proof.Defs
public import proofs.«01_k».proof.Proof.Gen.AdamOb.Frame
public import proofs.«01_k».proof.Proof.Gen.AdamObIdeal.Value
public import proofs.«01_k».proof.Proof.Gen.AdamObRefIdeal.Run
public import proofs.«01_k».proof.Proof.Gen.AdamObRefIdeal.Read
public import proofs.«01_k».proof.Proof.Adam
public import Idealize.ShloMosaic.Lib.Pipeline.ValueKit.Acc
public import Idealize.ShloMosaic.Lib.Pipeline.ValueKit.Partial
public import Idealize.ShloMosaic.Lib.Pointwise
public import Idealize.ShloMosaic.Lib.Tactic
public import Idealize.ShloMosaic.Adequacy
public import Idealize.ShloMosaic.Init

@[expose] public section

set_option maxRecDepth 16384
set_option maxHeartbeats 0

noncomputable section
open Idealize.ShloMosaic Idealize.ShloMosaic.TcCoe Idealize.SL.Sem
open Idealize.ShloMosaic.Pipeline (Dat)
namespace Cert.AdamObProof
open Cert.AdamObIdeal Cert.AdamObIdeal.Gen
theorem hz : (![0, 0] : Fin 2 → Nat) = fun _ => 0 := by funext i; fin_cases i <;> rfl
section
variable {F : FTy → Type} [FloatOps F]

/-- A point leaves in window 4 the step. -/
theorem out_4 (x0 x1 x2 x3 : Vec F S256x1024 .f32) : out0_4 x0 x1 x2 x3 = k0_pay3 x1 x0 x2 x3 := by
  unfold out0_4
  rw [View.canon_unit_zero hz]
  simp only [View.ld_unit_zero (S := S256x1024) hz]

/-- A point leaves in window 5 the new average of the gradient. -/
theorem out_5 (x0 x1 x2 x3 : Vec F S256x1024 .f32) : out0_5 x0 x1 x2 x3 = k0_pay1 x1 x2 := by
  unfold out0_5
  rw [View.canon_unit_zero hz]
  simp only [View.ld_unit_zero (S := S256x1024) hz]

/-- A point leaves in window 6 the new average of its square. -/
theorem out_6 (x0 x1 x2 x3 : Vec F S256x1024 .f32) : out0_6 x0 x1 x2 x3 = k0_pay2 x1 x3 := by
  unfold out0_6
  rw [View.canon_unit_zero hz]
  simp only [View.ld_unit_zero (S := S256x1024) hz]

/-- A point leaves in window 7 the gradient. -/
theorem out_7 (x0 x1 x2 x3 : Vec F S256x1024 .f32) : out0_7 x0 x1 x2 x3 = x1 := by
  unfold out0_7
  rw [View.canon_unit_zero hz]
  simp only [View.ld_unit_zero (S := S256x1024) hz]

end

open Adam

/-- A block of the kernel's at an index. -/
theorem newM_apply (g m : Vec Ideal S256x1024 .f32) (i : Fin 256) (j : Fin 1024) :
    k0_pay1 g m (ix2 i j) = newM (g (ix2 i j)) (m (ix2 i j)) := rfl

/-- A block of the kernel's at an index. -/
theorem newV_apply (g v : Vec Ideal S256x1024 .f32) (i : Fin 256) (j : Fin 1024) :
    k0_pay2 g v (ix2 i j) = newV (g (ix2 i j)) (v (ix2 i j)) := rfl

/-- A block of the kernel's at an index. -/
theorem step_apply (g w m v : Vec Ideal S256x1024 .f32) (i : Fin 256) (j : Fin 1024) :
    k0_pay3 g w m v (ix2 i j) = step (w (ix2 i j)) (g (ix2 i j)) (m (ix2 i j)) (v (ix2 i j)) := rfl

/-- The reference at an index. -/
theorem ref_newM (g m : Vec Ideal S512x1024 .f32) (i : Fin 512) (j : Fin 1024) :
    Cert.AdamObRefIdeal.Read.val_main_v4 (F := Ideal) g m (ix2 i j) = newM (g (ix2 i j)) (m (ix2 i j)) := by
  simp only [Cert.AdamObRefIdeal.Read.val_main_v0_apply, Cert.AdamObRefIdeal.Read.val_main_v1_apply, Cert.AdamObRefIdeal.Read.val_main_v2_apply, Cert.AdamObRefIdeal.Read.val_main_v3_apply, Cert.AdamObRefIdeal.Read.val_main_v4_apply, Cert.AdamObRefIdeal.Read.val_main_cst_apply, Cert.AdamObRefIdeal.Read.val_main_cst_0_apply]
  rfl

/-- The reference at an index. -/
theorem ref_newV (g v : Vec Ideal S512x1024 .f32) (i : Fin 512) (j : Fin 1024) :
    Cert.AdamObRefIdeal.Read.val_main_v10 (F := Ideal) g v (ix2 i j) = newV (g (ix2 i j)) (v (ix2 i j)) := by
  simp only [Cert.AdamObRefIdeal.Read.val_main_v5_apply, Cert.AdamObRefIdeal.Read.val_main_v6_apply, Cert.AdamObRefIdeal.Read.val_main_v7_apply, Cert.AdamObRefIdeal.Read.val_main_v8_apply, Cert.AdamObRefIdeal.Read.val_main_v9_apply, Cert.AdamObRefIdeal.Read.val_main_v10_apply, Cert.AdamObRefIdeal.Read.val_main_cst_1_apply, Cert.AdamObRefIdeal.Read.val_main_cst_2_apply]
  rfl

/-- The reference at an index. -/
theorem ref_step (w g m v : Vec Ideal S512x1024 .f32) (i : Fin 512) (j : Fin 1024) :
    Cert.AdamObRefIdeal.Read.val_main_v23 (F := Ideal) w g m v (ix2 i j) = step (w (ix2 i j)) (g (ix2 i j)) (m (ix2 i j)) (v (ix2 i j)) := by
  simp only [ref_newM, ref_newV, Cert.AdamObRefIdeal.Read.val_main_v11_apply, Cert.AdamObRefIdeal.Read.val_main_v12_apply, Cert.AdamObRefIdeal.Read.val_main_v13_apply, Cert.AdamObRefIdeal.Read.val_main_v14_apply, Cert.AdamObRefIdeal.Read.val_main_v15_apply, Cert.AdamObRefIdeal.Read.val_main_v16_apply, Cert.AdamObRefIdeal.Read.val_main_v17_apply, Cert.AdamObRefIdeal.Read.val_main_v18_apply, Cert.AdamObRefIdeal.Read.val_main_v19_apply, Cert.AdamObRefIdeal.Read.val_main_v20_apply, Cert.AdamObRefIdeal.Read.val_main_v21_apply, Cert.AdamObRefIdeal.Read.val_main_v22_apply, Cert.AdamObRefIdeal.Read.val_main_v23_apply, Cert.AdamObRefIdeal.Read.val_main_cst_3_apply, Cert.AdamObRefIdeal.Read.val_main_cst_4_apply, Cert.AdamObRefIdeal.Read.val_main_cst_5_apply, Cert.AdamObRefIdeal.Read.val_main_cst_6_apply, Cert.AdamObRefIdeal.Read.val_main_cst_7_apply]
  rfl

variable (m : (ℓ : Loc nD τ sig) → Buf (Elt Ideal) ℓ) (c : Dev nD)
theorem ix_0 : ∀ t : Fin cfg0.N, win0_0.index t = ![t.val, 0] := (by decide +kernel : ∀ t : Fin grid0.N, win0_0.index t = ![t.val, 0])
theorem ix_1 : ∀ t : Fin cfg0.N, win0_1.index t = ![t.val, 0] := (by decide +kernel : ∀ t : Fin grid0.N, win0_1.index t = ![t.val, 0])
theorem ix_2 : ∀ t : Fin cfg0.N, win0_2.index t = ![t.val, 0] := (by decide +kernel : ∀ t : Fin grid0.N, win0_2.index t = ![t.val, 0])
theorem ix_3 : ∀ t : Fin cfg0.N, win0_3.index t = ![t.val, 0] := (by decide +kernel : ∀ t : Fin grid0.N, win0_3.index t = ![t.val, 0])
theorem ix_4 : ∀ t : Fin cfg0.N, win0_4.index t = ![t.val, 0] := (by decide +kernel : ∀ t : Fin grid0.N, win0_4.index t = ![t.val, 0])
theorem ix_5 : ∀ t : Fin cfg0.N, win0_5.index t = ![t.val, 0] := (by decide +kernel : ∀ t : Fin grid0.N, win0_5.index t = ![t.val, 0])
theorem ix_6 : ∀ t : Fin cfg0.N, win0_6.index t = ![t.val, 0] := (by decide +kernel : ∀ t : Fin grid0.N, win0_6.index t = ![t.val, 0])
theorem ix_7 : ∀ t : Fin cfg0.N, win0_7.index t = ![t.val, 0] := (by decide +kernel : ∀ t : Fin grid0.N, win0_7.index t = ![t.val, 0])
theorem lt_N (t : Fin cfg0.N) : t.val < 2 := lt_of_lt_of_eq t.isLt N_0

theorem block0 (t : Fin cfg0.N) (i : Fin 256) (j : Fin 1024) :
    iblk m c 0 t (ix2 i j) = m ((c : Thread nD τ).loc main_arg0) (ix2 ⟨256 * t.val + i.val, by have := lt_N t; omega⟩ j) := by
  rw [← V_main_arg0 m c]; blk_simp [iblk]; refine congrArg _ ?_; blk_ext [ix_0 t]

theorem block1 (t : Fin cfg0.N) (i : Fin 256) (j : Fin 1024) :
    iblk m c 1 t (ix2 i j) = m ((c : Thread nD τ).loc main_arg1) (ix2 ⟨256 * t.val + i.val, by have := lt_N t; omega⟩ j) := by
  rw [← V_main_arg1 m c]; blk_simp [iblk]; refine congrArg _ ?_; blk_ext [ix_1 t]

theorem block2 (t : Fin cfg0.N) (i : Fin 256) (j : Fin 1024) :
    iblk m c 2 t (ix2 i j) = m ((c : Thread nD τ).loc main_arg2) (ix2 ⟨256 * t.val + i.val, by have := lt_N t; omega⟩ j) := by
  rw [← V_main_arg2 m c]; blk_simp [iblk]; refine congrArg _ ?_; blk_ext [ix_2 t]

theorem block3 (t : Fin cfg0.N) (i : Fin 256) (j : Fin 1024) :
    iblk m c 3 t (ix2 i j) = m ((c : Thread nD τ).loc main_arg3) (ix2 ⟨256 * t.val + i.val, by have := lt_N t; omega⟩ j) := by
  rw [← V_main_arg3 m c]; blk_simp [iblk]; refine congrArg _ ?_; blk_ext [ix_3 t]

/-- A grid point's block of the step is the reference's. -/
theorem tile_step (t : Fin cfg0.N) (i : Fin 256) (j : Fin 1024) :
    k0_pay3 (iblk m c 1 t) (iblk m c 0 t) (iblk m c 2 t) (iblk m c 3 t) (ix2 i j) = Cert.AdamObRefIdeal.Read.val_main_v23 (F := Ideal) (m ((c : Thread nD τ).loc main_arg0)) (m ((c : Thread nD τ).loc main_arg1)) (m ((c : Thread nD τ).loc main_arg2)) (m ((c : Thread nD τ).loc main_arg3)) (ix2 ⟨256 * t.val + i.val, by have := lt_N t; omega⟩ j) := by
  rw [step_apply, ref_step, block0, block1, block2, block3]

/-- The kernel's step is the reference's. -/
theorem result_step : (dats m 0 c).arrAt 4 cfg0.N = Cert.AdamObRefIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  rw [after0_4, out_4]
  have hx : (cfg0.win 4).xinj (cfg0.grid.coords t) y = ix2 (n0 := 256) (n1 := 1024) ((cfg0.win 4).xinj (cfg0.grid.coords t) y 0) ((cfg0.win 4).xinj (cfg0.grid.coords t) y 1) := by
    funext a; fin_cases a <;> rfl
  refine (congrArg _ hx).trans ((tile_step m c t _ _).trans ?_)
  refine congrArg _ ?_
  blk_ext [ix_4 t]

/-- A grid point's block of the new average of the gradient is the reference's. -/
theorem tile_newM (t : Fin cfg0.N) (i : Fin 256) (j : Fin 1024) :
    k0_pay1 (iblk m c 1 t) (iblk m c 2 t) (ix2 i j) = Cert.AdamObRefIdeal.Read.val_main_v4 (F := Ideal) (m ((c : Thread nD τ).loc main_arg1)) (m ((c : Thread nD τ).loc main_arg2)) (ix2 ⟨256 * t.val + i.val, by have := lt_N t; omega⟩ j) := by
  rw [newM_apply, ref_newM, block1, block2]

/-- The kernel's new average of the gradient is the reference's. -/
theorem result_newM : (dats m 0 c).arrAt 5 cfg0.N = Cert.AdamObRefIdeal.Read.val_main_v4 (F := Ideal) (m ((c : Thread nD τ).loc main_arg1)) (m ((c : Thread nD τ).loc main_arg2)) := by
  refine (dats m 0 c).arrAt_eq_of_covers 5 _ (by decide +kernel) fun t _ y => ?_
  rw [after0_5, out_5]
  have hx : (cfg0.win 5).xinj (cfg0.grid.coords t) y = ix2 (n0 := 256) (n1 := 1024) ((cfg0.win 5).xinj (cfg0.grid.coords t) y 0) ((cfg0.win 5).xinj (cfg0.grid.coords t) y 1) := by
    funext a; fin_cases a <;> rfl
  refine (congrArg _ hx).trans ((tile_newM m c t _ _).trans ?_)
  refine congrArg _ ?_
  blk_ext [ix_5 t]

/-- A grid point's block of the new average of its square is the reference's. -/
theorem tile_newV (t : Fin cfg0.N) (i : Fin 256) (j : Fin 1024) :
    k0_pay2 (iblk m c 1 t) (iblk m c 3 t) (ix2 i j) = Cert.AdamObRefIdeal.Read.val_main_v10 (F := Ideal) (m ((c : Thread nD τ).loc main_arg1)) (m ((c : Thread nD τ).loc main_arg3)) (ix2 ⟨256 * t.val + i.val, by have := lt_N t; omega⟩ j) := by
  rw [newV_apply, ref_newV, block1, block3]

/-- The kernel's new average of its square is the reference's. -/
theorem result_newV : (dats m 0 c).arrAt 6 cfg0.N = Cert.AdamObRefIdeal.Read.val_main_v10 (F := Ideal) (m ((c : Thread nD τ).loc main_arg1)) (m ((c : Thread nD τ).loc main_arg3)) := by
  refine (dats m 0 c).arrAt_eq_of_covers 6 _ (by decide +kernel) fun t _ y => ?_
  rw [after0_6, out_6]
  have hx : (cfg0.win 6).xinj (cfg0.grid.coords t) y = ix2 (n0 := 256) (n1 := 1024) ((cfg0.win 6).xinj (cfg0.grid.coords t) y 0) ((cfg0.win 6).xinj (cfg0.grid.coords t) y 1) := by
    funext a; fin_cases a <;> rfl
  refine (congrArg _ hx).trans ((tile_newV m c t _ _).trans ?_)
  refine congrArg _ ?_
  blk_ext [ix_6 t]

/-- A grid point's block of the gradient is the reference's. -/
theorem tile_grad (t : Fin cfg0.N) (i : Fin 256) (j : Fin 1024) :
    (iblk m c 1 t) (ix2 i j) = (m ((c : Thread nD τ).loc main_arg1)) (ix2 ⟨256 * t.val + i.val, by have := lt_N t; omega⟩ j) := by
  rw [block1]

/-- The kernel's gradient is the reference's. -/
theorem result_grad : (dats m 0 c).arrAt 7 cfg0.N = (m ((c : Thread nD τ).loc main_arg1)) := by
  refine (dats m 0 c).arrAt_eq_of_covers 7 _ (by decide +kernel) fun t _ y => ?_
  rw [after0_7, out_7]
  have hx : (cfg0.win 7).xinj (cfg0.grid.coords t) y = ix2 (n0 := 256) (n1 := 1024) ((cfg0.win 7).xinj (cfg0.grid.coords t) y 0) ((cfg0.win 7).xinj (cfg0.grid.coords t) y 1) := by
    funext a; fin_cases a <;> rfl
  refine (congrArg _ hx).trans ((tile_grad m c t _ _).trans ?_)
  refine congrArg _ ?_
  blk_ext [ix_7 t]

/-- The kernel as it runs: it terminates without a fault, keeps its arguments, and leaves every counter at zero. -/
theorem frame_kernel : Cert.quiescent_AdamOb := fun m ρ _ => Cert.AdamOb.Gen.frame m ρ

/-- The kernel over exact values: the same. -/
theorem frame_ideal : Cert.quiescent_AdamObIdeal := fun m ρ _ => Cert.AdamObIdeal.Gen.frame m ρ

/-- The reference: the same, from its run; it has no counters. -/
theorem frame_reference : Cert.quiescent_AdamObRefIdeal := fun m ρ _ =>
  (θ_run Cert.AdamObRefIdeal.defs _ _).mono
    (fun r h => ⟨fun c => (h c).2.2.2.2, sem_eq_zero_of_no_sems (by decide) r.2⟩)
    (Cert.AdamObRefIdeal.Value.run (F := Ideal) m ρ)

/-- No operation was replaced between the kernel and its exact form. -/
theorem preserves : Cert.preserves_AdamOb_AdamObIdeal := trivial

/-- Over exact values the step, the two new averages and the gradient that the kernel leaves are the reference's. -/
theorem algebraic : Cert.algebraic_AdamObIdeal_AdamObRefIdeal := by
  intro m ρ m' ρ' _ hagree
  refine ⟨fun c => Cert.AdamObRefIdeal.Read.val_main_v23 (F := Ideal) (m ((c.tc : Thread nD τ).loc main_arg0)) (m ((c.tc : Thread nD τ).loc main_arg1)) (m ((c.tc : Thread nD τ).loc main_arg2)) (m ((c.tc : Thread nD τ).loc main_arg3)), fun c => Cert.AdamObRefIdeal.Read.val_main_v4 (F := Ideal) (m ((c.tc : Thread nD τ).loc main_arg1)) (m ((c.tc : Thread nD τ).loc main_arg2)), fun c => Cert.AdamObRefIdeal.Read.val_main_v10 (F := Ideal) (m ((c.tc : Thread nD τ).loc main_arg1)) (m ((c.tc : Thread nD τ).loc main_arg3)), fun c => m ((c.tc : Thread nD τ).loc main_arg1), ?_, ?_⟩
  · refine (θ_run Cert.AdamObIdeal.defs _ _).mono (fun r h c => ?_) (Cert.AdamObIdeal.Value.run_blocks (F := Ideal) m ρ)
    obtain ⟨h0, h1, h2, h3, hrest⟩ := h c
    exact ⟨h0.trans (result_step m c), h1.trans (result_newM m c), h2.trans (result_newV m c), h3.trans (result_grad m c), hrest⟩
  · refine (θ_run Cert.AdamObRefIdeal.defs _ _).mono (fun r h c => ?_) (Cert.AdamObRefIdeal.Value.run (F := Ideal) m' ρ')
    obtain ⟨h0, h1, h2, h3, hrest⟩ := h c
    obtain ⟨e0, e1, e2, e3⟩ := hagree c
    have l0 : m' ((c.tc : Thread Cert.AdamObRefIdeal.nD Cert.AdamObRefIdeal.τ).loc Cert.AdamObRefIdeal.main_arg0) = m ((c.tc : Thread nD τ).loc main_arg0) := e0
    have l1 : m' ((c.tc : Thread Cert.AdamObRefIdeal.nD Cert.AdamObRefIdeal.τ).loc Cert.AdamObRefIdeal.main_arg1) = m ((c.tc : Thread nD τ).loc main_arg1) := e1
    have l2 : m' ((c.tc : Thread Cert.AdamObRefIdeal.nD Cert.AdamObRefIdeal.τ).loc Cert.AdamObRefIdeal.main_arg2) = m ((c.tc : Thread nD τ).loc main_arg2) := e2
    have l3 : m' ((c.tc : Thread Cert.AdamObRefIdeal.nD Cert.AdamObRefIdeal.τ).loc Cert.AdamObRefIdeal.main_arg3) = m ((c.tc : Thread nD τ).loc main_arg3) := e3
    refine ⟨?_, ?_, ?_, ?_, hrest⟩
    · refine (h0.trans (Cert.AdamObRefIdeal.Read.val_main_v23_eq _ _ _ _)).trans ?_
      rw [l0, l1, l2, l3]
    · refine (h1.trans (Cert.AdamObRefIdeal.Read.val_main_v4_eq _ _)).trans ?_
      rw [l1, l2]
    · refine (h2.trans (Cert.AdamObRefIdeal.Read.val_main_v10_eq _ _)).trans ?_
      rw [l1, l3]
    · exact h3.trans l1

end Cert.AdamObProof
end
-- ==== Proof.AdamPle.lean ====
/- The optimiser's step for the per-layer embedding's projection: the one grid point's block is the array. -/
module

public import proofs.«01_k».proof.Defs
public import proofs.«01_k».proof.Proof.Gen.AdamPle.Frame
public import proofs.«01_k».proof.Proof.Gen.AdamPleIdeal.Value
public import proofs.«01_k».proof.Proof.Gen.AdamPleRefIdeal.Run
public import proofs.«01_k».proof.Proof.Gen.AdamPleRefIdeal.Read
public import proofs.«01_k».proof.Proof.Adam
public import Idealize.ShloMosaic.Lib.Pipeline.ValueKit.Acc
public import Idealize.ShloMosaic.Lib.Pipeline.ValueKit.Partial
public import Idealize.ShloMosaic.Lib.Pointwise
public import Idealize.ShloMosaic.Lib.Tactic
public import Idealize.ShloMosaic.Adequacy
public import Idealize.ShloMosaic.Init

@[expose] public section

set_option maxRecDepth 16384
set_option maxHeartbeats 0

noncomputable section
open Idealize.ShloMosaic Idealize.ShloMosaic.TcCoe Idealize.SL.Sem
open Idealize.ShloMosaic.Pipeline (Dat)
namespace Cert.AdamPleProof
open Cert.AdamPleIdeal Cert.AdamPleIdeal.Gen
theorem hz : (![0, 0] : Fin 2 → Nat) = fun _ => 0 := by funext i; fin_cases i <;> rfl
section
variable {F : FTy → Type} [FloatOps F]

/-- A point leaves in window 4 the step. -/
theorem out_4 (x0 x1 x2 x3 : Vec F S256x256 .f32) : out0_4 x0 x1 x2 x3 = k0_pay3 x1 x0 x2 x3 := by
  unfold out0_4
  rw [View.canon_unit_zero hz]
  simp only [View.ld_unit_zero (S := S256x256) hz]

/-- A point leaves in window 5 the new average of the gradient. -/
theorem out_5 (x0 x1 x2 x3 : Vec F S256x256 .f32) : out0_5 x0 x1 x2 x3 = k0_pay1 x1 x2 := by
  unfold out0_5
  rw [View.canon_unit_zero hz]
  simp only [View.ld_unit_zero (S := S256x256) hz]

/-- A point leaves in window 6 the new average of its square. -/
theorem out_6 (x0 x1 x2 x3 : Vec F S256x256 .f32) : out0_6 x0 x1 x2 x3 = k0_pay2 x1 x3 := by
  unfold out0_6
  rw [View.canon_unit_zero hz]
  simp only [View.ld_unit_zero (S := S256x256) hz]

/-- A point leaves in window 7 the gradient. -/
theorem out_7 (x0 x1 x2 x3 : Vec F S256x256 .f32) : out0_7 x0 x1 x2 x3 = x1 := by
  unfold out0_7
  rw [View.canon_unit_zero hz]
  simp only [View.ld_unit_zero (S := S256x256) hz]

end

open Adam

/-- A block of the kernel's at an index. -/
theorem newM_apply (g m : Vec Ideal S256x256 .f32) (i : Fin 256) (j : Fin 256) :
    k0_pay1 g m (ix2 i j) = newM (g (ix2 i j)) (m (ix2 i j)) := rfl

/-- A block of the kernel's at an index. -/
theorem newV_apply (g v : Vec Ideal S256x256 .f32) (i : Fin 256) (j : Fin 256) :
    k0_pay2 g v (ix2 i j) = newV (g (ix2 i j)) (v (ix2 i j)) := rfl

/-- A block of the kernel's at an index. -/
theorem step_apply (g w m v : Vec Ideal S256x256 .f32) (i : Fin 256) (j : Fin 256) :
    k0_pay3 g w m v (ix2 i j) = step (w (ix2 i j)) (g (ix2 i j)) (m (ix2 i j)) (v (ix2 i j)) := rfl

/-- The reference at an index. -/
theorem ref_newM (g m : Vec Ideal S256x256 .f32) (i : Fin 256) (j : Fin 256) :
    Cert.AdamPleRefIdeal.Read.val_main_v4 (F := Ideal) g m (ix2 i j) = newM (g (ix2 i j)) (m (ix2 i j)) := by
  simp only [Cert.AdamPleRefIdeal.Read.val_main_v0_apply, Cert.AdamPleRefIdeal.Read.val_main_v1_apply, Cert.AdamPleRefIdeal.Read.val_main_v2_apply, Cert.AdamPleRefIdeal.Read.val_main_v3_apply, Cert.AdamPleRefIdeal.Read.val_main_v4_apply, Cert.AdamPleRefIdeal.Read.val_main_cst_apply, Cert.AdamPleRefIdeal.Read.val_main_cst_0_apply]
  rfl

/-- The reference at an index. -/
theorem ref_newV (g v : Vec Ideal S256x256 .f32) (i : Fin 256) (j : Fin 256) :
    Cert.AdamPleRefIdeal.Read.val_main_v10 (F := Ideal) g v (ix2 i j) = newV (g (ix2 i j)) (v (ix2 i j)) := by
  simp only [Cert.AdamPleRefIdeal.Read.val_main_v5_apply, Cert.AdamPleRefIdeal.Read.val_main_v6_apply, Cert.AdamPleRefIdeal.Read.val_main_v7_apply, Cert.AdamPleRefIdeal.Read.val_main_v8_apply, Cert.AdamPleRefIdeal.Read.val_main_v9_apply, Cert.AdamPleRefIdeal.Read.val_main_v10_apply, Cert.AdamPleRefIdeal.Read.val_main_cst_1_apply, Cert.AdamPleRefIdeal.Read.val_main_cst_2_apply]
  rfl

/-- The reference at an index. -/
theorem ref_step (w g m v : Vec Ideal S256x256 .f32) (i : Fin 256) (j : Fin 256) :
    Cert.AdamPleRefIdeal.Read.val_main_v23 (F := Ideal) w g m v (ix2 i j) = step (w (ix2 i j)) (g (ix2 i j)) (m (ix2 i j)) (v (ix2 i j)) := by
  simp only [ref_newM, ref_newV, Cert.AdamPleRefIdeal.Read.val_main_v11_apply, Cert.AdamPleRefIdeal.Read.val_main_v12_apply, Cert.AdamPleRefIdeal.Read.val_main_v13_apply, Cert.AdamPleRefIdeal.Read.val_main_v14_apply, Cert.AdamPleRefIdeal.Read.val_main_v15_apply, Cert.AdamPleRefIdeal.Read.val_main_v16_apply, Cert.AdamPleRefIdeal.Read.val_main_v17_apply, Cert.AdamPleRefIdeal.Read.val_main_v18_apply, Cert.AdamPleRefIdeal.Read.val_main_v19_apply, Cert.AdamPleRefIdeal.Read.val_main_v20_apply, Cert.AdamPleRefIdeal.Read.val_main_v21_apply, Cert.AdamPleRefIdeal.Read.val_main_v22_apply, Cert.AdamPleRefIdeal.Read.val_main_v23_apply, Cert.AdamPleRefIdeal.Read.val_main_cst_3_apply, Cert.AdamPleRefIdeal.Read.val_main_cst_4_apply, Cert.AdamPleRefIdeal.Read.val_main_cst_5_apply, Cert.AdamPleRefIdeal.Read.val_main_cst_6_apply, Cert.AdamPleRefIdeal.Read.val_main_cst_7_apply]
  rfl

variable (m : (ℓ : Loc nD τ sig) → Buf (Elt Ideal) ℓ) (c : Dev nD)
theorem ix_0 : ∀ t : Fin cfg0.N, win0_0.index t = ![0, 0] := (by decide +kernel : ∀ t : Fin grid0.N, win0_0.index t = ![0, 0])
theorem ix_1 : ∀ t : Fin cfg0.N, win0_1.index t = ![0, 0] := (by decide +kernel : ∀ t : Fin grid0.N, win0_1.index t = ![0, 0])
theorem ix_2 : ∀ t : Fin cfg0.N, win0_2.index t = ![0, 0] := (by decide +kernel : ∀ t : Fin grid0.N, win0_2.index t = ![0, 0])
theorem ix_3 : ∀ t : Fin cfg0.N, win0_3.index t = ![0, 0] := (by decide +kernel : ∀ t : Fin grid0.N, win0_3.index t = ![0, 0])
theorem ix_4 : ∀ t : Fin cfg0.N, win0_4.index t = ![0, 0] := (by decide +kernel : ∀ t : Fin grid0.N, win0_4.index t = ![0, 0])
theorem ix_5 : ∀ t : Fin cfg0.N, win0_5.index t = ![0, 0] := (by decide +kernel : ∀ t : Fin grid0.N, win0_5.index t = ![0, 0])
theorem ix_6 : ∀ t : Fin cfg0.N, win0_6.index t = ![0, 0] := (by decide +kernel : ∀ t : Fin grid0.N, win0_6.index t = ![0, 0])
theorem ix_7 : ∀ t : Fin cfg0.N, win0_7.index t = ![0, 0] := (by decide +kernel : ∀ t : Fin grid0.N, win0_7.index t = ![0, 0])
theorem lt_N (t : Fin cfg0.N) : t.val < 1 := lt_of_lt_of_eq t.isLt N_0

theorem block0 (t : Fin cfg0.N) (i : Fin 256) (j : Fin 256) :
    iblk m c 0 t (ix2 i j) = m ((c : Thread nD τ).loc main_arg0) (ix2 i j) := by
  rw [← V_main_arg0 m c]; blk_simp [iblk]; refine congrArg _ ?_; blk_ext [ix_0 t]

theorem block1 (t : Fin cfg0.N) (i : Fin 256) (j : Fin 256) :
    iblk m c 1 t (ix2 i j) = m ((c : Thread nD τ).loc main_arg1) (ix2 i j) := by
  rw [← V_main_arg1 m c]; blk_simp [iblk]; refine congrArg _ ?_; blk_ext [ix_1 t]

theorem block2 (t : Fin cfg0.N) (i : Fin 256) (j : Fin 256) :
    iblk m c 2 t (ix2 i j) = m ((c : Thread nD τ).loc main_arg2) (ix2 i j) := by
  rw [← V_main_arg2 m c]; blk_simp [iblk]; refine congrArg _ ?_; blk_ext [ix_2 t]

theorem block3 (t : Fin cfg0.N) (i : Fin 256) (j : Fin 256) :
    iblk m c 3 t (ix2 i j) = m ((c : Thread nD τ).loc main_arg3) (ix2 i j) := by
  rw [← V_main_arg3 m c]; blk_simp [iblk]; refine congrArg _ ?_; blk_ext [ix_3 t]

/-- A grid point's block of the step is the reference's. -/
theorem tile_step (t : Fin cfg0.N) (i : Fin 256) (j : Fin 256) :
    k0_pay3 (iblk m c 1 t) (iblk m c 0 t) (iblk m c 2 t) (iblk m c 3 t) (ix2 i j) = Cert.AdamPleRefIdeal.Read.val_main_v23 (F := Ideal) (m ((c : Thread nD τ).loc main_arg0)) (m ((c : Thread nD τ).loc main_arg1)) (m ((c : Thread nD τ).loc main_arg2)) (m ((c : Thread nD τ).loc main_arg3)) (ix2 i j) := by
  rw [step_apply, ref_step, block0, block1, block2, block3]

/-- The kernel's step is the reference's. -/
theorem result_step : (dats m 0 c).arrAt 4 cfg0.N = Cert.AdamPleRefIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  rw [after0_4, out_4]
  have hx : (cfg0.win 4).xinj (cfg0.grid.coords t) y = ix2 (n0 := 256) (n1 := 256) ((cfg0.win 4).xinj (cfg0.grid.coords t) y 0) ((cfg0.win 4).xinj (cfg0.grid.coords t) y 1) := by
    funext a; fin_cases a <;> rfl
  refine (congrArg _ hx).trans ((tile_step m c t _ _).trans ?_)
  refine congrArg _ ?_
  blk_ext [ix_4 t]

/-- A grid point's block of the new average of the gradient is the reference's. -/
theorem tile_newM (t : Fin cfg0.N) (i : Fin 256) (j : Fin 256) :
    k0_pay1 (iblk m c 1 t) (iblk m c 2 t) (ix2 i j) = Cert.AdamPleRefIdeal.Read.val_main_v4 (F := Ideal) (m ((c : Thread nD τ).loc main_arg1)) (m ((c : Thread nD τ).loc main_arg2)) (ix2 i j) := by
  rw [newM_apply, ref_newM, block1, block2]

/-- The kernel's new average of the gradient is the reference's. -/
theorem result_newM : (dats m 0 c).arrAt 5 cfg0.N = Cert.AdamPleRefIdeal.Read.val_main_v4 (F := Ideal) (m ((c : Thread nD τ).loc main_arg1)) (m ((c : Thread nD τ).loc main_arg2)) := by
  refine (dats m 0 c).arrAt_eq_of_covers 5 _ (by decide +kernel) fun t _ y => ?_
  rw [after0_5, out_5]
  have hx : (cfg0.win 5).xinj (cfg0.grid.coords t) y = ix2 (n0 := 256) (n1 := 256) ((cfg0.win 5).xinj (cfg0.grid.coords t) y 0) ((cfg0.win 5).xinj (cfg0.grid.coords t) y 1) := by
    funext a; fin_cases a <;> rfl
  refine (congrArg _ hx).trans ((tile_newM m c t _ _).trans ?_)
  refine congrArg _ ?_
  blk_ext [ix_5 t]

/-- A grid point's block of the new average of its square is the reference's. -/
theorem tile_newV (t : Fin cfg0.N) (i : Fin 256) (j : Fin 256) :
    k0_pay2 (iblk m c 1 t) (iblk m c 3 t) (ix2 i j) = Cert.AdamPleRefIdeal.Read.val_main_v10 (F := Ideal) (m ((c : Thread nD τ).loc main_arg1)) (m ((c : Thread nD τ).loc main_arg3)) (ix2 i j) := by
  rw [newV_apply, ref_newV, block1, block3]

/-- The kernel's new average of its square is the reference's. -/
theorem result_newV : (dats m 0 c).arrAt 6 cfg0.N = Cert.AdamPleRefIdeal.Read.val_main_v10 (F := Ideal) (m ((c : Thread nD τ).loc main_arg1)) (m ((c : Thread nD τ).loc main_arg3)) := by
  refine (dats m 0 c).arrAt_eq_of_covers 6 _ (by decide +kernel) fun t _ y => ?_
  rw [after0_6, out_6]
  have hx : (cfg0.win 6).xinj (cfg0.grid.coords t) y = ix2 (n0 := 256) (n1 := 256) ((cfg0.win 6).xinj (cfg0.grid.coords t) y 0) ((cfg0.win 6).xinj (cfg0.grid.coords t) y 1) := by
    funext a; fin_cases a <;> rfl
  refine (congrArg _ hx).trans ((tile_newV m c t _ _).trans ?_)
  refine congrArg _ ?_
  blk_ext [ix_6 t]

/-- A grid point's block of the gradient is the reference's. -/
theorem tile_grad (t : Fin cfg0.N) (i : Fin 256) (j : Fin 256) :
    (iblk m c 1 t) (ix2 i j) = (m ((c : Thread nD τ).loc main_arg1)) (ix2 i j) := by
  rw [block1]

/-- The kernel's gradient is the reference's. -/
theorem result_grad : (dats m 0 c).arrAt 7 cfg0.N = (m ((c : Thread nD τ).loc main_arg1)) := by
  refine (dats m 0 c).arrAt_eq_of_covers 7 _ (by decide +kernel) fun t _ y => ?_
  rw [after0_7, out_7]
  have hx : (cfg0.win 7).xinj (cfg0.grid.coords t) y = ix2 (n0 := 256) (n1 := 256) ((cfg0.win 7).xinj (cfg0.grid.coords t) y 0) ((cfg0.win 7).xinj (cfg0.grid.coords t) y 1) := by
    funext a; fin_cases a <;> rfl
  refine (congrArg _ hx).trans ((tile_grad m c t _ _).trans ?_)
  refine congrArg _ ?_
  blk_ext [ix_7 t]

/-- The kernel as it runs: it terminates without a fault, keeps its arguments, and leaves every counter at zero. -/
theorem frame_kernel : Cert.quiescent_AdamPle := fun m ρ _ => Cert.AdamPle.Gen.frame m ρ

/-- The kernel over exact values: the same. -/
theorem frame_ideal : Cert.quiescent_AdamPleIdeal := fun m ρ _ => Cert.AdamPleIdeal.Gen.frame m ρ

/-- The reference: the same, from its run; it has no counters. -/
theorem frame_reference : Cert.quiescent_AdamPleRefIdeal := fun m ρ _ =>
  (θ_run Cert.AdamPleRefIdeal.defs _ _).mono
    (fun r h => ⟨fun c => (h c).2.2.2.2, sem_eq_zero_of_no_sems (by decide) r.2⟩)
    (Cert.AdamPleRefIdeal.Value.run (F := Ideal) m ρ)

/-- No operation was replaced between the kernel and its exact form. -/
theorem preserves : Cert.preserves_AdamPle_AdamPleIdeal := trivial

/-- Over exact values the step, the two new averages and the gradient that the kernel leaves are the reference's. -/
theorem algebraic : Cert.algebraic_AdamPleIdeal_AdamPleRefIdeal := by
  intro m ρ m' ρ' _ hagree
  refine ⟨fun c => Cert.AdamPleRefIdeal.Read.val_main_v23 (F := Ideal) (m ((c.tc : Thread nD τ).loc main_arg0)) (m ((c.tc : Thread nD τ).loc main_arg1)) (m ((c.tc : Thread nD τ).loc main_arg2)) (m ((c.tc : Thread nD τ).loc main_arg3)), fun c => Cert.AdamPleRefIdeal.Read.val_main_v4 (F := Ideal) (m ((c.tc : Thread nD τ).loc main_arg1)) (m ((c.tc : Thread nD τ).loc main_arg2)), fun c => Cert.AdamPleRefIdeal.Read.val_main_v10 (F := Ideal) (m ((c.tc : Thread nD τ).loc main_arg1)) (m ((c.tc : Thread nD τ).loc main_arg3)), fun c => m ((c.tc : Thread nD τ).loc main_arg1), ?_, ?_⟩
  · refine (θ_run Cert.AdamPleIdeal.defs _ _).mono (fun r h c => ?_) (Cert.AdamPleIdeal.Value.run_blocks (F := Ideal) m ρ)
    obtain ⟨h0, h1, h2, h3, hrest⟩ := h c
    exact ⟨h0.trans (result_step m c), h1.trans (result_newM m c), h2.trans (result_newV m c), h3.trans (result_grad m c), hrest⟩
  · refine (θ_run Cert.AdamPleRefIdeal.defs _ _).mono (fun r h c => ?_) (Cert.AdamPleRefIdeal.Value.run (F := Ideal) m' ρ')
    obtain ⟨h0, h1, h2, h3, hrest⟩ := h c
    obtain ⟨e0, e1, e2, e3⟩ := hagree c
    have l0 : m' ((c.tc : Thread Cert.AdamPleRefIdeal.nD Cert.AdamPleRefIdeal.τ).loc Cert.AdamPleRefIdeal.main_arg0) = m ((c.tc : Thread nD τ).loc main_arg0) := e0
    have l1 : m' ((c.tc : Thread Cert.AdamPleRefIdeal.nD Cert.AdamPleRefIdeal.τ).loc Cert.AdamPleRefIdeal.main_arg1) = m ((c.tc : Thread nD τ).loc main_arg1) := e1
    have l2 : m' ((c.tc : Thread Cert.AdamPleRefIdeal.nD Cert.AdamPleRefIdeal.τ).loc Cert.AdamPleRefIdeal.main_arg2) = m ((c.tc : Thread nD τ).loc main_arg2) := e2
    have l3 : m' ((c.tc : Thread Cert.AdamPleRefIdeal.nD Cert.AdamPleRefIdeal.τ).loc Cert.AdamPleRefIdeal.main_arg3) = m ((c.tc : Thread nD τ).loc main_arg3) := e3
    refine ⟨?_, ?_, ?_, ?_, hrest⟩
    · refine (h0.trans (Cert.AdamPleRefIdeal.Read.val_main_v23_eq _ _ _ _)).trans ?_
      rw [l0, l1, l2, l3]
    · refine (h1.trans (Cert.AdamPleRefIdeal.Read.val_main_v4_eq _ _)).trans ?_
      rw [l1, l2]
    · refine (h2.trans (Cert.AdamPleRefIdeal.Read.val_main_v10_eq _ _)).trans ?_
      rw [l1, l3]
    · exact h3.trans l1

end Cert.AdamPleProof
end
-- ==== Proof.AdamIn.lean ====
/- The optimiser's step for the input projection, transposed as the call takes it: a grid point's block of columns is the
   reference's columns. -/
module

public import proofs.«01_k».proof.Defs
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Adam
public import Idealize.ShloMosaic.Lib.Pipeline.ValueKit.Acc
public import Idealize.ShloMosaic.Lib.Pipeline.ValueKit.Partial
public import Idealize.ShloMosaic.Lib.Pointwise
public import Idealize.ShloMosaic.Lib.Tactic
public import Idealize.ShloMosaic.Adequacy
public import Idealize.ShloMosaic.Init

@[expose] public section

set_option maxRecDepth 16384
set_option maxHeartbeats 0

noncomputable section
open Idealize.ShloMosaic Idealize.ShloMosaic.TcCoe Idealize.SL.Sem
open Idealize.ShloMosaic.Pipeline (Dat)
namespace Cert.AdamInProof
open Cert.AdamInIdeal Cert.AdamInIdeal.Gen
theorem hz : (![0, 0] : Fin 2 → Nat) = fun _ => 0 := by funext i; fin_cases i <;> rfl
section
variable {F : FTy → Type} [FloatOps F]

/-- A point leaves in window 4 the step. -/
theorem out_4 (x0 x1 x2 x3 : Vec F S2568x128 .f32) : out0_4 x0 x1 x2 x3 = k0_pay3 x1 x0 x2 x3 := by
  unfold out0_4
  rw [View.canon_unit_zero hz]
  simp only [View.ld_unit_zero (S := S2568x128) hz]

/-- A point leaves in window 5 the new average of the gradient. -/
theorem out_5 (x0 x1 x2 x3 : Vec F S2568x128 .f32) : out0_5 x0 x1 x2 x3 = k0_pay1 x1 x2 := by
  unfold out0_5
  rw [View.canon_unit_zero hz]
  simp only [View.ld_unit_zero (S := S2568x128) hz]

/-- A point leaves in window 6 the new average of its square. -/
theorem out_6 (x0 x1 x2 x3 : Vec F S2568x128 .f32) : out0_6 x0 x1 x2 x3 = k0_pay2 x1 x3 := by
  unfold out0_6
  rw [View.canon_unit_zero hz]
  simp only [View.ld_unit_zero (S := S2568x128) hz]

/-- A point leaves in window 7 the gradient. -/
theorem out_7 (x0 x1 x2 x3 : Vec F S2568x128 .f32) : out0_7 x0 x1 x2 x3 = x1 := by
  unfold out0_7
  rw [View.canon_unit_zero hz]
  simp only [View.ld_unit_zero (S := S2568x128) hz]

end

open Adam

/-- A block of the kernel's at an index. -/
theorem newM_apply (g m : Vec Ideal S2568x128 .f32) (i : Fin 2568) (j : Fin 128) :
    k0_pay1 g m (ix2 i j) = newM (g (ix2 i j)) (m (ix2 i j)) := rfl

/-- A block of the kernel's at an index. -/
theorem newV_apply (g v : Vec Ideal S2568x128 .f32) (i : Fin 2568) (j : Fin 128) :
    k0_pay2 g v (ix2 i j) = newV (g (ix2 i j)) (v (ix2 i j)) := rfl

/-- A block of the kernel's at an index. -/
theorem step_apply (g w m v : Vec Ideal S2568x128 .f32) (i : Fin 2568) (j : Fin 128) :
    k0_pay3 g w m v (ix2 i j) = step (w (ix2 i j)) (g (ix2 i j)) (m (ix2 i j)) (v (ix2 i j)) := rfl

/-- The reference at an index. -/
theorem ref_newM (g m : Vec Ideal S2568x1024 .f32) (i : Fin 2568) (j : Fin 1024) :
    Cert.AdamInRefIdeal.Read.val_main_v4 (F := Ideal) g m (ix2 i j) = newM (g (ix2 i j)) (m (ix2 i j)) := by
  simp only [Cert.AdamInRefIdeal.Read.val_main_v0_apply, Cert.AdamInRefIdeal.Read.val_main_v1_apply, Cert.AdamInRefIdeal.Read.val_main_v2_apply, Cert.AdamInRefIdeal.Read.val_main_v3_apply, Cert.AdamInRefIdeal.Read.val_main_v4_apply, Cert.AdamInRefIdeal.Read.val_main_cst_apply, Cert.AdamInRefIdeal.Read.val_main_cst_0_apply]
  rfl

/-- The reference at an index. -/
theorem ref_newV (g v : Vec Ideal S2568x1024 .f32) (i : Fin 2568) (j : Fin 1024) :
    Cert.AdamInRefIdeal.Read.val_main_v10 (F := Ideal) g v (ix2 i j) = newV (g (ix2 i j)) (v (ix2 i j)) := by
  simp only [Cert.AdamInRefIdeal.Read.val_main_v5_apply, Cert.AdamInRefIdeal.Read.val_main_v6_apply, Cert.AdamInRefIdeal.Read.val_main_v7_apply, Cert.AdamInRefIdeal.Read.val_main_v8_apply, Cert.AdamInRefIdeal.Read.val_main_v9_apply, Cert.AdamInRefIdeal.Read.val_main_v10_apply, Cert.AdamInRefIdeal.Read.val_main_cst_1_apply, Cert.AdamInRefIdeal.Read.val_main_cst_2_apply]
  rfl

/-- The reference at an index. -/
theorem ref_step (w g m v : Vec Ideal S2568x1024 .f32) (i : Fin 2568) (j : Fin 1024) :
    Cert.AdamInRefIdeal.Read.val_main_v23 (F := Ideal) w g m v (ix2 i j) = step (w (ix2 i j)) (g (ix2 i j)) (m (ix2 i j)) (v (ix2 i j)) := by
  simp only [ref_newM, ref_newV, Cert.AdamInRefIdeal.Read.val_main_v11_apply, Cert.AdamInRefIdeal.Read.val_main_v12_apply, Cert.AdamInRefIdeal.Read.val_main_v13_apply, Cert.AdamInRefIdeal.Read.val_main_v14_apply, Cert.AdamInRefIdeal.Read.val_main_v15_apply, Cert.AdamInRefIdeal.Read.val_main_v16_apply, Cert.AdamInRefIdeal.Read.val_main_v17_apply, Cert.AdamInRefIdeal.Read.val_main_v18_apply, Cert.AdamInRefIdeal.Read.val_main_v19_apply, Cert.AdamInRefIdeal.Read.val_main_v20_apply, Cert.AdamInRefIdeal.Read.val_main_v21_apply, Cert.AdamInRefIdeal.Read.val_main_v22_apply, Cert.AdamInRefIdeal.Read.val_main_v23_apply, Cert.AdamInRefIdeal.Read.val_main_cst_3_apply, Cert.AdamInRefIdeal.Read.val_main_cst_4_apply, Cert.AdamInRefIdeal.Read.val_main_cst_5_apply, Cert.AdamInRefIdeal.Read.val_main_cst_6_apply, Cert.AdamInRefIdeal.Read.val_main_cst_7_apply]
  rfl

variable (m : (ℓ : Loc nD τ sig) → Buf (Elt Ideal) ℓ) (c : Dev nD)
theorem ix_0 : ∀ t : Fin cfg0.N, win0_0.index t = ![0, t.val] := (by decide +kernel : ∀ t : Fin grid0.N, win0_0.index t = ![0, t.val])
theorem ix_1 : ∀ t : Fin cfg0.N, win0_1.index t = ![0, t.val] := (by decide +kernel : ∀ t : Fin grid0.N, win0_1.index t = ![0, t.val])
theorem ix_2 : ∀ t : Fin cfg0.N, win0_2.index t = ![0, t.val] := (by decide +kernel : ∀ t : Fin grid0.N, win0_2.index t = ![0, t.val])
theorem ix_3 : ∀ t : Fin cfg0.N, win0_3.index t = ![0, t.val] := (by decide +kernel : ∀ t : Fin grid0.N, win0_3.index t = ![0, t.val])
theorem ix_4 : ∀ t : Fin cfg0.N, win0_4.index t = ![0, t.val] := (by decide +kernel : ∀ t : Fin grid0.N, win0_4.index t = ![0, t.val])
theorem ix_5 : ∀ t : Fin cfg0.N, win0_5.index t = ![0, t.val] := (by decide +kernel : ∀ t : Fin grid0.N, win0_5.index t = ![0, t.val])
theorem ix_6 : ∀ t : Fin cfg0.N, win0_6.index t = ![0, t.val] := (by decide +kernel : ∀ t : Fin grid0.N, win0_6.index t = ![0, t.val])
theorem ix_7 : ∀ t : Fin cfg0.N, win0_7.index t = ![0, t.val] := (by decide +kernel : ∀ t : Fin grid0.N, win0_7.index t = ![0, t.val])
theorem lt_N (t : Fin cfg0.N) : t.val < 8 := lt_of_lt_of_eq t.isLt N_0

theorem block0 (t : Fin cfg0.N) (i : Fin 2568) (j : Fin 128) :
    iblk m c 0 t (ix2 i j) = m ((c : Thread nD τ).loc main_arg0) (ix2 i ⟨128 * t.val + j.val, by have := lt_N t; omega⟩) := by
  rw [← V_main_arg0 m c]; blk_simp [iblk]; refine congrArg _ ?_; blk_ext [ix_0 t]

theorem block1 (t : Fin cfg0.N) (i : Fin 2568) (j : Fin 128) :
    iblk m c 1 t (ix2 i j) = m ((c : Thread nD τ).loc main_arg1) (ix2 i ⟨128 * t.val + j.val, by have := lt_N t; omega⟩) := by
  rw [← V_main_arg1 m c]; blk_simp [iblk]; refine congrArg _ ?_; blk_ext [ix_1 t]

theorem block2 (t : Fin cfg0.N) (i : Fin 2568) (j : Fin 128) :
    iblk m c 2 t (ix2 i j) = m ((c : Thread nD τ).loc main_arg2) (ix2 i ⟨128 * t.val + j.val, by have := lt_N t; omega⟩) := by
  rw [← V_main_arg2 m c]; blk_simp [iblk]; refine congrArg _ ?_; blk_ext [ix_2 t]

theorem block3 (t : Fin cfg0.N) (i : Fin 2568) (j : Fin 128) :
    iblk m c 3 t (ix2 i j) = m ((c : Thread nD τ).loc main_arg3) (ix2 i ⟨128 * t.val + j.val, by have := lt_N t; omega⟩) := by
  rw [← V_main_arg3 m c]; blk_simp [iblk]; refine congrArg _ ?_; blk_ext [ix_3 t]

/-- A grid point's block of the step is the reference's. -/
theorem tile_step (t : Fin cfg0.N) (i : Fin 2568) (j : Fin 128) :
    k0_pay3 (iblk m c 1 t) (iblk m c 0 t) (iblk m c 2 t) (iblk m c 3 t) (ix2 i j) = Cert.AdamInRefIdeal.Read.val_main_v23 (F := Ideal) (m ((c : Thread nD τ).loc main_arg0)) (m ((c : Thread nD τ).loc main_arg1)) (m ((c : Thread nD τ).loc main_arg2)) (m ((c : Thread nD τ).loc main_arg3)) (ix2 i ⟨128 * t.val + j.val, by have := lt_N t; omega⟩) := by
  rw [step_apply, ref_step, block0, block1, block2, block3]

/-- The kernel's step is the reference's. -/
theorem result_step : (dats m 0 c).arrAt 4 cfg0.N = Cert.AdamInRefIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  rw [after0_4, out_4]
  have hx : (cfg0.win 4).xinj (cfg0.grid.coords t) y = ix2 (n0 := 2568) (n1 := 128) ((cfg0.win 4).xinj (cfg0.grid.coords t) y 0) ((cfg0.win 4).xinj (cfg0.grid.coords t) y 1) := by
    funext a; fin_cases a <;> rfl
  refine (congrArg _ hx).trans ((tile_step m c t _ _).trans ?_)
  refine congrArg _ ?_
  blk_ext [ix_4 t]

/-- A grid point's block of the new average of the gradient is the reference's. -/
theorem tile_newM (t : Fin cfg0.N) (i : Fin 2568) (j : Fin 128) :
    k0_pay1 (iblk m c 1 t) (iblk m c 2 t) (ix2 i j) = Cert.AdamInRefIdeal.Read.val_main_v4 (F := Ideal) (m ((c : Thread nD τ).loc main_arg1)) (m ((c : Thread nD τ).loc main_arg2)) (ix2 i ⟨128 * t.val + j.val, by have := lt_N t; omega⟩) := by
  rw [newM_apply, ref_newM, block1, block2]

/-- The kernel's new average of the gradient is the reference's. -/
theorem result_newM : (dats m 0 c).arrAt 5 cfg0.N = Cert.AdamInRefIdeal.Read.val_main_v4 (F := Ideal) (m ((c : Thread nD τ).loc main_arg1)) (m ((c : Thread nD τ).loc main_arg2)) := by
  refine (dats m 0 c).arrAt_eq_of_covers 5 _ (by decide +kernel) fun t _ y => ?_
  rw [after0_5, out_5]
  have hx : (cfg0.win 5).xinj (cfg0.grid.coords t) y = ix2 (n0 := 2568) (n1 := 128) ((cfg0.win 5).xinj (cfg0.grid.coords t) y 0) ((cfg0.win 5).xinj (cfg0.grid.coords t) y 1) := by
    funext a; fin_cases a <;> rfl
  refine (congrArg _ hx).trans ((tile_newM m c t _ _).trans ?_)
  refine congrArg _ ?_
  blk_ext [ix_5 t]

/-- A grid point's block of the new average of its square is the reference's. -/
theorem tile_newV (t : Fin cfg0.N) (i : Fin 2568) (j : Fin 128) :
    k0_pay2 (iblk m c 1 t) (iblk m c 3 t) (ix2 i j) = Cert.AdamInRefIdeal.Read.val_main_v10 (F := Ideal) (m ((c : Thread nD τ).loc main_arg1)) (m ((c : Thread nD τ).loc main_arg3)) (ix2 i ⟨128 * t.val + j.val, by have := lt_N t; omega⟩) := by
  rw [newV_apply, ref_newV, block1, block3]

/-- The kernel's new average of its square is the reference's. -/
theorem result_newV : (dats m 0 c).arrAt 6 cfg0.N = Cert.AdamInRefIdeal.Read.val_main_v10 (F := Ideal) (m ((c : Thread nD τ).loc main_arg1)) (m ((c : Thread nD τ).loc main_arg3)) := by
  refine (dats m 0 c).arrAt_eq_of_covers 6 _ (by decide +kernel) fun t _ y => ?_
  rw [after0_6, out_6]
  have hx : (cfg0.win 6).xinj (cfg0.grid.coords t) y = ix2 (n0 := 2568) (n1 := 128) ((cfg0.win 6).xinj (cfg0.grid.coords t) y 0) ((cfg0.win 6).xinj (cfg0.grid.coords t) y 1) := by
    funext a; fin_cases a <;> rfl
  refine (congrArg _ hx).trans ((tile_newV m c t _ _).trans ?_)
  refine congrArg _ ?_
  blk_ext [ix_6 t]

/-- A grid point's block of the gradient is the reference's. -/
theorem tile_grad (t : Fin cfg0.N) (i : Fin 2568) (j : Fin 128) :
    (iblk m c 1 t) (ix2 i j) = (m ((c : Thread nD τ).loc main_arg1)) (ix2 i ⟨128 * t.val + j.val, by have := lt_N t; omega⟩) := by
  rw [block1]

/-- The kernel's gradient is the reference's. -/
theorem result_grad : (dats m 0 c).arrAt 7 cfg0.N = (m ((c : Thread nD τ).loc main_arg1)) := by
  refine (dats m 0 c).arrAt_eq_of_covers 7 _ (by decide +kernel) fun t _ y => ?_
  rw [after0_7, out_7]
  have hx : (cfg0.win 7).xinj (cfg0.grid.coords t) y = ix2 (n0 := 2568) (n1 := 128) ((cfg0.win 7).xinj (cfg0.grid.coords t) y 0) ((cfg0.win 7).xinj (cfg0.grid.coords t) y 1) := by
    funext a; fin_cases a <;> rfl
  refine (congrArg _ hx).trans ((tile_grad m c t _ _).trans ?_)
  refine congrArg _ ?_
  blk_ext [ix_7 t]

/-- The kernel as it runs: it terminates without a fault, keeps its arguments, and leaves every counter at zero. -/
theorem frame_kernel : Cert.quiescent_AdamIn := fun m ρ _ => Cert.AdamIn.Gen.frame m ρ

/-- The kernel over exact values: the same. -/
theorem frame_ideal : Cert.quiescent_AdamInIdeal := fun m ρ _ => Cert.AdamInIdeal.Gen.frame m ρ

/-- The reference: the same, from its run; it has no counters. -/
theorem frame_reference : Cert.quiescent_AdamInRefIdeal := fun m ρ _ =>
  (θ_run Cert.AdamInRefIdeal.defs _ _).mono
    (fun r h => ⟨fun c => (h c).2.2.2.2, sem_eq_zero_of_no_sems (by decide) r.2⟩)
    (Cert.AdamInRefIdeal.Value.run (F := Ideal) m ρ)

/-- No operation was replaced between the kernel and its exact form. -/
theorem preserves : Cert.preserves_AdamIn_AdamInIdeal := trivial

/-- Over exact values the step, the two new averages and the gradient that the kernel leaves are the reference's. -/
theorem algebraic : Cert.algebraic_AdamInIdeal_AdamInRefIdeal := by
  intro m ρ m' ρ' _ hagree
  refine ⟨fun c => Cert.AdamInRefIdeal.Read.val_main_v23 (F := Ideal) (m ((c.tc : Thread nD τ).loc main_arg0)) (m ((c.tc : Thread nD τ).loc main_arg1)) (m ((c.tc : Thread nD τ).loc main_arg2)) (m ((c.tc : Thread nD τ).loc main_arg3)), fun c => Cert.AdamInRefIdeal.Read.val_main_v4 (F := Ideal) (m ((c.tc : Thread nD τ).loc main_arg1)) (m ((c.tc : Thread nD τ).loc main_arg2)), fun c => Cert.AdamInRefIdeal.Read.val_main_v10 (F := Ideal) (m ((c.tc : Thread nD τ).loc main_arg1)) (m ((c.tc : Thread nD τ).loc main_arg3)), fun c => m ((c.tc : Thread nD τ).loc main_arg1), ?_, ?_⟩
  · refine (θ_run Cert.AdamInIdeal.defs _ _).mono (fun r h c => ?_) (Cert.AdamInIdeal.Value.run_blocks (F := Ideal) m ρ)
    obtain ⟨h0, h1, h2, h3, hrest⟩ := h c
    exact ⟨h0.trans (result_step m c), h1.trans (result_newM m c), h2.trans (result_newV m c), h3.trans (result_grad m c), hrest⟩
  · refine (θ_run Cert.AdamInRefIdeal.defs _ _).mono (fun r h c => ?_) (Cert.AdamInRefIdeal.Value.run (F := Ideal) m' ρ')
    obtain ⟨h0, h1, h2, h3, hrest⟩ := h c
    obtain ⟨e0, e1, e2, e3⟩ := hagree c
    have l0 : m' ((c.tc : Thread Cert.AdamInRefIdeal.nD Cert.AdamInRefIdeal.τ).loc Cert.AdamInRefIdeal.main_arg0) = m ((c.tc : Thread nD τ).loc main_arg0) := e0
    have l1 : m' ((c.tc : Thread Cert.AdamInRefIdeal.nD Cert.AdamInRefIdeal.τ).loc Cert.AdamInRefIdeal.main_arg1) = m ((c.tc : Thread nD τ).loc main_arg1) := e1
    have l2 : m' ((c.tc : Thread Cert.AdamInRefIdeal.nD Cert.AdamInRefIdeal.τ).loc Cert.AdamInRefIdeal.main_arg2) = m ((c.tc : Thread nD τ).loc main_arg2) := e2
    have l3 : m' ((c.tc : Thread Cert.AdamInRefIdeal.nD Cert.AdamInRefIdeal.τ).loc Cert.AdamInRefIdeal.main_arg3) = m ((c.tc : Thread nD τ).loc main_arg3) := e3
    refine ⟨?_, ?_, ?_, ?_, hrest⟩
    · refine (h0.trans (Cert.AdamInRefIdeal.Read.val_main_v23_eq _ _ _ _)).trans ?_
      rw [l0, l1, l2, l3]
    · refine (h1.trans (Cert.AdamInRefIdeal.Read.val_main_v4_eq _ _)).trans ?_
      rw [l1, l2]
    · refine (h2.trans (Cert.AdamInRefIdeal.Read.val_main_v10_eq _ _)).trans ?_
      rw [l1, l3]
    · exact h3.trans l1

end Cert.AdamInProof
end
-- ==== Proof.AdamOut.lean ====
/- The optimiser's step for the merge's output projection: the one grid point's block is the array. -/
module

public import proofs.«01_k».proof.Defs
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Adam
public import Idealize.ShloMosaic.Lib.Pipeline.ValueKit.Acc
public import Idealize.ShloMosaic.Lib.Pipeline.ValueKit.Partial
public import Idealize.ShloMosaic.Lib.Pointwise
public import Idealize.ShloMosaic.Lib.Tactic
public import Idealize.ShloMosaic.Adequacy
public import Idealize.ShloMosaic.Init

@[expose] public section

set_option maxRecDepth 16384
set_option maxHeartbeats 0

noncomputable section
open Idealize.ShloMosaic Idealize.ShloMosaic.TcCoe Idealize.SL.Sem
open Idealize.ShloMosaic.Pipeline (Dat)
namespace Cert.AdamOutProof
open Cert.AdamOutIdeal Cert.AdamOutIdeal.Gen
theorem hz : (![0, 0] : Fin 2 → Nat) = fun _ => 0 := by funext i; fin_cases i <;> rfl
section
variable {F : FTy → Type} [FloatOps F]

/-- A point leaves in window 4 the step. -/
theorem out_4 (x0 x1 x2 x3 : Vec F S256x1024 .f32) : out0_4 x0 x1 x2 x3 = k0_pay3 x1 x0 x2 x3 := by
  unfold out0_4
  rw [View.canon_unit_zero hz]
  simp only [View.ld_unit_zero (S := S256x1024) hz]

/-- A point leaves in window 5 the new average of the gradient. -/
theorem out_5 (x0 x1 x2 x3 : Vec F S256x1024 .f32) : out0_5 x0 x1 x2 x3 = k0_pay1 x1 x2 := by
  unfold out0_5
  rw [View.canon_unit_zero hz]
  simp only [View.ld_unit_zero (S := S256x1024) hz]

/-- A point leaves in window 6 the new average of its square. -/
theorem out_6 (x0 x1 x2 x3 : Vec F S256x1024 .f32) : out0_6 x0 x1 x2 x3 = k0_pay2 x1 x3 := by
  unfold out0_6
  rw [View.canon_unit_zero hz]
  simp only [View.ld_unit_zero (S := S256x1024) hz]

/-- A point leaves in window 7 the gradient. -/
theorem out_7 (x0 x1 x2 x3 : Vec F S256x1024 .f32) : out0_7 x0 x1 x2 x3 = x1 := by
  unfold out0_7
  rw [View.canon_unit_zero hz]
  simp only [View.ld_unit_zero (S := S256x1024) hz]

end

open Adam

/-- A block of the kernel's at an index. -/
theorem newM_apply (g m : Vec Ideal S256x1024 .f32) (i : Fin 256) (j : Fin 1024) :
    k0_pay1 g m (ix2 i j) = newM (g (ix2 i j)) (m (ix2 i j)) := rfl

/-- A block of the kernel's at an index. -/
theorem newV_apply (g v : Vec Ideal S256x1024 .f32) (i : Fin 256) (j : Fin 1024) :
    k0_pay2 g v (ix2 i j) = newV (g (ix2 i j)) (v (ix2 i j)) := rfl

/-- A block of the kernel's at an index. -/
theorem step_apply (g w m v : Vec Ideal S256x1024 .f32) (i : Fin 256) (j : Fin 1024) :
    k0_pay3 g w m v (ix2 i j) = step (w (ix2 i j)) (g (ix2 i j)) (m (ix2 i j)) (v (ix2 i j)) := rfl

/-- The reference at an index. -/
theorem ref_newM (g m : Vec Ideal S256x1024 .f32) (i : Fin 256) (j : Fin 1024) :
    Cert.AdamOutRefIdeal.Read.val_main_v4 (F := Ideal) g m (ix2 i j) = newM (g (ix2 i j)) (m (ix2 i j)) := by
  simp only [Cert.AdamOutRefIdeal.Read.val_main_v0_apply, Cert.AdamOutRefIdeal.Read.val_main_v1_apply, Cert.AdamOutRefIdeal.Read.val_main_v2_apply, Cert.AdamOutRefIdeal.Read.val_main_v3_apply, Cert.AdamOutRefIdeal.Read.val_main_v4_apply, Cert.AdamOutRefIdeal.Read.val_main_cst_apply, Cert.AdamOutRefIdeal.Read.val_main_cst_0_apply]
  rfl

/-- The reference at an index. -/
theorem ref_newV (g v : Vec Ideal S256x1024 .f32) (i : Fin 256) (j : Fin 1024) :
    Cert.AdamOutRefIdeal.Read.val_main_v10 (F := Ideal) g v (ix2 i j) = newV (g (ix2 i j)) (v (ix2 i j)) := by
  simp only [Cert.AdamOutRefIdeal.Read.val_main_v5_apply, Cert.AdamOutRefIdeal.Read.val_main_v6_apply, Cert.AdamOutRefIdeal.Read.val_main_v7_apply, Cert.AdamOutRefIdeal.Read.val_main_v8_apply, Cert.AdamOutRefIdeal.Read.val_main_v9_apply, Cert.AdamOutRefIdeal.Read.val_main_v10_apply, Cert.AdamOutRefIdeal.Read.val_main_cst_1_apply, Cert.AdamOutRefIdeal.Read.val_main_cst_2_apply]
  rfl

/-- The reference at an index. -/
theorem ref_step (w g m v : Vec Ideal S256x1024 .f32) (i : Fin 256) (j : Fin 1024) :
    Cert.AdamOutRefIdeal.Read.val_main_v23 (F := Ideal) w g m v (ix2 i j) = step (w (ix2 i j)) (g (ix2 i j)) (m (ix2 i j)) (v (ix2 i j)) := by
  simp only [ref_newM, ref_newV, Cert.AdamOutRefIdeal.Read.val_main_v11_apply, Cert.AdamOutRefIdeal.Read.val_main_v12_apply, Cert.AdamOutRefIdeal.Read.val_main_v13_apply, Cert.AdamOutRefIdeal.Read.val_main_v14_apply, Cert.AdamOutRefIdeal.Read.val_main_v15_apply, Cert.AdamOutRefIdeal.Read.val_main_v16_apply, Cert.AdamOutRefIdeal.Read.val_main_v17_apply, Cert.AdamOutRefIdeal.Read.val_main_v18_apply, Cert.AdamOutRefIdeal.Read.val_main_v19_apply, Cert.AdamOutRefIdeal.Read.val_main_v20_apply, Cert.AdamOutRefIdeal.Read.val_main_v21_apply, Cert.AdamOutRefIdeal.Read.val_main_v22_apply, Cert.AdamOutRefIdeal.Read.val_main_v23_apply, Cert.AdamOutRefIdeal.Read.val_main_cst_3_apply, Cert.AdamOutRefIdeal.Read.val_main_cst_4_apply, Cert.AdamOutRefIdeal.Read.val_main_cst_5_apply, Cert.AdamOutRefIdeal.Read.val_main_cst_6_apply, Cert.AdamOutRefIdeal.Read.val_main_cst_7_apply]
  rfl

variable (m : (ℓ : Loc nD τ sig) → Buf (Elt Ideal) ℓ) (c : Dev nD)
theorem ix_0 : ∀ t : Fin cfg0.N, win0_0.index t = ![0, 0] := (by decide +kernel : ∀ t : Fin grid0.N, win0_0.index t = ![0, 0])
theorem ix_1 : ∀ t : Fin cfg0.N, win0_1.index t = ![0, 0] := (by decide +kernel : ∀ t : Fin grid0.N, win0_1.index t = ![0, 0])
theorem ix_2 : ∀ t : Fin cfg0.N, win0_2.index t = ![0, 0] := (by decide +kernel : ∀ t : Fin grid0.N, win0_2.index t = ![0, 0])
theorem ix_3 : ∀ t : Fin cfg0.N, win0_3.index t = ![0, 0] := (by decide +kernel : ∀ t : Fin grid0.N, win0_3.index t = ![0, 0])
theorem ix_4 : ∀ t : Fin cfg0.N, win0_4.index t = ![0, 0] := (by decide +kernel : ∀ t : Fin grid0.N, win0_4.index t = ![0, 0])
theorem ix_5 : ∀ t : Fin cfg0.N, win0_5.index t = ![0, 0] := (by decide +kernel : ∀ t : Fin grid0.N, win0_5.index t = ![0, 0])
theorem ix_6 : ∀ t : Fin cfg0.N, win0_6.index t = ![0, 0] := (by decide +kernel : ∀ t : Fin grid0.N, win0_6.index t = ![0, 0])
theorem ix_7 : ∀ t : Fin cfg0.N, win0_7.index t = ![0, 0] := (by decide +kernel : ∀ t : Fin grid0.N, win0_7.index t = ![0, 0])
theorem lt_N (t : Fin cfg0.N) : t.val < 1 := lt_of_lt_of_eq t.isLt N_0

theorem block0 (t : Fin cfg0.N) (i : Fin 256) (j : Fin 1024) :
    iblk m c 0 t (ix2 i j) = m ((c : Thread nD τ).loc main_arg0) (ix2 i j) := by
  rw [← V_main_arg0 m c]; blk_simp [iblk]; refine congrArg _ ?_; blk_ext [ix_0 t]

theorem block1 (t : Fin cfg0.N) (i : Fin 256) (j : Fin 1024) :
    iblk m c 1 t (ix2 i j) = m ((c : Thread nD τ).loc main_arg1) (ix2 i j) := by
  rw [← V_main_arg1 m c]; blk_simp [iblk]; refine congrArg _ ?_; blk_ext [ix_1 t]

theorem block2 (t : Fin cfg0.N) (i : Fin 256) (j : Fin 1024) :
    iblk m c 2 t (ix2 i j) = m ((c : Thread nD τ).loc main_arg2) (ix2 i j) := by
  rw [← V_main_arg2 m c]; blk_simp [iblk]; refine congrArg _ ?_; blk_ext [ix_2 t]

theorem block3 (t : Fin cfg0.N) (i : Fin 256) (j : Fin 1024) :
    iblk m c 3 t (ix2 i j) = m ((c : Thread nD τ).loc main_arg3) (ix2 i j) := by
  rw [← V_main_arg3 m c]; blk_simp [iblk]; refine congrArg _ ?_; blk_ext [ix_3 t]

/-- A grid point's block of the step is the reference's. -/
theorem tile_step (t : Fin cfg0.N) (i : Fin 256) (j : Fin 1024) :
    k0_pay3 (iblk m c 1 t) (iblk m c 0 t) (iblk m c 2 t) (iblk m c 3 t) (ix2 i j) = Cert.AdamOutRefIdeal.Read.val_main_v23 (F := Ideal) (m ((c : Thread nD τ).loc main_arg0)) (m ((c : Thread nD τ).loc main_arg1)) (m ((c : Thread nD τ).loc main_arg2)) (m ((c : Thread nD τ).loc main_arg3)) (ix2 i j) := by
  rw [step_apply, ref_step, block0, block1, block2, block3]

/-- The kernel's step is the reference's. -/
theorem result_step : (dats m 0 c).arrAt 4 cfg0.N = Cert.AdamOutRefIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  rw [after0_4, out_4]
  have hx : (cfg0.win 4).xinj (cfg0.grid.coords t) y = ix2 (n0 := 256) (n1 := 1024) ((cfg0.win 4).xinj (cfg0.grid.coords t) y 0) ((cfg0.win 4).xinj (cfg0.grid.coords t) y 1) := by
    funext a; fin_cases a <;> rfl
  refine (congrArg _ hx).trans ((tile_step m c t _ _).trans ?_)
  refine congrArg _ ?_
  blk_ext [ix_4 t]

/-- A grid point's block of the new average of the gradient is the reference's. -/
theorem tile_newM (t : Fin cfg0.N) (i : Fin 256) (j : Fin 1024) :
    k0_pay1 (iblk m c 1 t) (iblk m c 2 t) (ix2 i j) = Cert.AdamOutRefIdeal.Read.val_main_v4 (F := Ideal) (m ((c : Thread nD τ).loc main_arg1)) (m ((c : Thread nD τ).loc main_arg2)) (ix2 i j) := by
  rw [newM_apply, ref_newM, block1, block2]

/-- The kernel's new average of the gradient is the reference's. -/
theorem result_newM : (dats m 0 c).arrAt 5 cfg0.N = Cert.AdamOutRefIdeal.Read.val_main_v4 (F := Ideal) (m ((c : Thread nD τ).loc main_arg1)) (m ((c : Thread nD τ).loc main_arg2)) := by
  refine (dats m 0 c).arrAt_eq_of_covers 5 _ (by decide +kernel) fun t _ y => ?_
  rw [after0_5, out_5]
  have hx : (cfg0.win 5).xinj (cfg0.grid.coords t) y = ix2 (n0 := 256) (n1 := 1024) ((cfg0.win 5).xinj (cfg0.grid.coords t) y 0) ((cfg0.win 5).xinj (cfg0.grid.coords t) y 1) := by
    funext a; fin_cases a <;> rfl
  refine (congrArg _ hx).trans ((tile_newM m c t _ _).trans ?_)
  refine congrArg _ ?_
  blk_ext [ix_5 t]

/-- A grid point's block of the new average of its square is the reference's. -/
theorem tile_newV (t : Fin cfg0.N) (i : Fin 256) (j : Fin 1024) :
    k0_pay2 (iblk m c 1 t) (iblk m c 3 t) (ix2 i j) = Cert.AdamOutRefIdeal.Read.val_main_v10 (F := Ideal) (m ((c : Thread nD τ).loc main_arg1)) (m ((c : Thread nD τ).loc main_arg3)) (ix2 i j) := by
  rw [newV_apply, ref_newV, block1, block3]

/-- The kernel's new average of its square is the reference's. -/
theorem result_newV : (dats m 0 c).arrAt 6 cfg0.N = Cert.AdamOutRefIdeal.Read.val_main_v10 (F := Ideal) (m ((c : Thread nD τ).loc main_arg1)) (m ((c : Thread nD τ).loc main_arg3)) := by
  refine (dats m 0 c).arrAt_eq_of_covers 6 _ (by decide +kernel) fun t _ y => ?_
  rw [after0_6, out_6]
  have hx : (cfg0.win 6).xinj (cfg0.grid.coords t) y = ix2 (n0 := 256) (n1 := 1024) ((cfg0.win 6).xinj (cfg0.grid.coords t) y 0) ((cfg0.win 6).xinj (cfg0.grid.coords t) y 1) := by
    funext a; fin_cases a <;> rfl
  refine (congrArg _ hx).trans ((tile_newV m c t _ _).trans ?_)
  refine congrArg _ ?_
  blk_ext [ix_6 t]

/-- A grid point's block of the gradient is the reference's. -/
theorem tile_grad (t : Fin cfg0.N) (i : Fin 256) (j : Fin 1024) :
    (iblk m c 1 t) (ix2 i j) = (m ((c : Thread nD τ).loc main_arg1)) (ix2 i j) := by
  rw [block1]

/-- The kernel's gradient is the reference's. -/
theorem result_grad : (dats m 0 c).arrAt 7 cfg0.N = (m ((c : Thread nD τ).loc main_arg1)) := by
  refine (dats m 0 c).arrAt_eq_of_covers 7 _ (by decide +kernel) fun t _ y => ?_
  rw [after0_7, out_7]
  have hx : (cfg0.win 7).xinj (cfg0.grid.coords t) y = ix2 (n0 := 256) (n1 := 1024) ((cfg0.win 7).xinj (cfg0.grid.coords t) y 0) ((cfg0.win 7).xinj (cfg0.grid.coords t) y 1) := by
    funext a; fin_cases a <;> rfl
  refine (congrArg _ hx).trans ((tile_grad m c t _ _).trans ?_)
  refine congrArg _ ?_
  blk_ext [ix_7 t]

/-- The kernel as it runs: it terminates without a fault, keeps its arguments, and leaves every counter at zero. -/
theorem frame_kernel : Cert.quiescent_AdamOut := fun m ρ _ => Cert.AdamOut.Gen.frame m ρ

/-- The kernel over exact values: the same. -/
theorem frame_ideal : Cert.quiescent_AdamOutIdeal := fun m ρ _ => Cert.AdamOutIdeal.Gen.frame m ρ

/-- The reference: the same, from its run; it has no counters. -/
theorem frame_reference : Cert.quiescent_AdamOutRefIdeal := fun m ρ _ =>
  (θ_run Cert.AdamOutRefIdeal.defs _ _).mono
    (fun r h => ⟨fun c => (h c).2.2.2.2, sem_eq_zero_of_no_sems (by decide) r.2⟩)
    (Cert.AdamOutRefIdeal.Value.run (F := Ideal) m ρ)

/-- No operation was replaced between the kernel and its exact form. -/
theorem preserves : Cert.preserves_AdamOut_AdamOutIdeal := trivial

/-- Over exact values the step, the two new averages and the gradient that the kernel leaves are the reference's. -/
theorem algebraic : Cert.algebraic_AdamOutIdeal_AdamOutRefIdeal := by
  intro m ρ m' ρ' _ hagree
  refine ⟨fun c => Cert.AdamOutRefIdeal.Read.val_main_v23 (F := Ideal) (m ((c.tc : Thread nD τ).loc main_arg0)) (m ((c.tc : Thread nD τ).loc main_arg1)) (m ((c.tc : Thread nD τ).loc main_arg2)) (m ((c.tc : Thread nD τ).loc main_arg3)), fun c => Cert.AdamOutRefIdeal.Read.val_main_v4 (F := Ideal) (m ((c.tc : Thread nD τ).loc main_arg1)) (m ((c.tc : Thread nD τ).loc main_arg2)), fun c => Cert.AdamOutRefIdeal.Read.val_main_v10 (F := Ideal) (m ((c.tc : Thread nD τ).loc main_arg1)) (m ((c.tc : Thread nD τ).loc main_arg3)), fun c => m ((c.tc : Thread nD τ).loc main_arg1), ?_, ?_⟩
  · refine (θ_run Cert.AdamOutIdeal.defs _ _).mono (fun r h c => ?_) (Cert.AdamOutIdeal.Value.run_blocks (F := Ideal) m ρ)
    obtain ⟨h0, h1, h2, h3, hrest⟩ := h c
    exact ⟨h0.trans (result_step m c), h1.trans (result_newM m c), h2.trans (result_newV m c), h3.trans (result_grad m c), hrest⟩
  · refine (θ_run Cert.AdamOutRefIdeal.defs _ _).mono (fun r h c => ?_) (Cert.AdamOutRefIdeal.Value.run (F := Ideal) m' ρ')
    obtain ⟨h0, h1, h2, h3, hrest⟩ := h c
    obtain ⟨e0, e1, e2, e3⟩ := hagree c
    have l0 : m' ((c.tc : Thread Cert.AdamOutRefIdeal.nD Cert.AdamOutRefIdeal.τ).loc Cert.AdamOutRefIdeal.main_arg0) = m ((c.tc : Thread nD τ).loc main_arg0) := e0
    have l1 : m' ((c.tc : Thread Cert.AdamOutRefIdeal.nD Cert.AdamOutRefIdeal.τ).loc Cert.AdamOutRefIdeal.main_arg1) = m ((c.tc : Thread nD τ).loc main_arg1) := e1
    have l2 : m' ((c.tc : Thread Cert.AdamOutRefIdeal.nD Cert.AdamOutRefIdeal.τ).loc Cert.AdamOutRefIdeal.main_arg2) = m ((c.tc : Thread nD τ).loc main_arg2) := e2
    have l3 : m' ((c.tc : Thread Cert.AdamOutRefIdeal.nD Cert.AdamOutRefIdeal.τ).loc Cert.AdamOutRefIdeal.main_arg3) = m ((c.tc : Thread nD τ).loc main_arg3) := e3
    refine ⟨?_, ?_, ?_, ?_, hrest⟩
    · refine (h0.trans (Cert.AdamOutRefIdeal.Read.val_main_v23_eq _ _ _ _)).trans ?_
      rw [l0, l1, l2, l3]
    · refine (h1.trans (Cert.AdamOutRefIdeal.Read.val_main_v4_eq _ _)).trans ?_
      rw [l1, l2]
    · refine (h2.trans (Cert.AdamOutRefIdeal.Read.val_main_v10_eq _ _)).trans ?_
      rw [l1, l3]
    · exact h3.trans l1

end Cert.AdamOutProof
end
-- ==== Proof.AdamPg.lean ====
/- The optimiser's step for the projection of the per-layer embedding's gate: the one grid point's block is the array. -/
module

public import proofs.«01_k».proof.Defs
public import proofs.«01_k».proof.Proof.Gen.AdamPg.Frame
public import proofs.«01_k».proof.Proof.Gen.AdamPgIdeal.Value
public import proofs.«01_k».proof.Proof.Gen.AdamPgRefIdeal.Run
public import proofs.«01_k».proof.Proof.Gen.AdamPgRefIdeal.Read
public import proofs.«01_k».proof.Proof.Adam
public import Idealize.ShloMosaic.Lib.Pipeline.ValueKit.Acc
public import Idealize.ShloMosaic.Lib.Pipeline.ValueKit.Partial
public import Idealize.ShloMosaic.Lib.Pointwise
public import Idealize.ShloMosaic.Lib.Tactic
public import Idealize.ShloMosaic.Adequacy
public import Idealize.ShloMosaic.Init

@[expose] public section

set_option maxRecDepth 16384
set_option maxHeartbeats 0

noncomputable section
open Idealize.ShloMosaic Idealize.ShloMosaic.TcCoe Idealize.SL.Sem
open Idealize.ShloMosaic.Pipeline (Dat)
namespace Cert.AdamPgProof
open Cert.AdamPgIdeal Cert.AdamPgIdeal.Gen
theorem hz : (![0, 0] : Fin 2 → Nat) = fun _ => 0 := by funext i; fin_cases i <;> rfl
section
variable {F : FTy → Type} [FloatOps F]

/-- A point leaves in window 4 the step. -/
theorem out_4 (x0 x1 x2 x3 : Vec F S256x1024 .f32) : out0_4 x0 x1 x2 x3 = k0_pay3 x1 x0 x2 x3 := by
  unfold out0_4
  rw [View.canon_unit_zero hz]
  simp only [View.ld_unit_zero (S := S256x1024) hz]

/-- A point leaves in window 5 the new average of the gradient. -/
theorem out_5 (x0 x1 x2 x3 : Vec F S256x1024 .f32) : out0_5 x0 x1 x2 x3 = k0_pay1 x1 x2 := by
  unfold out0_5
  rw [View.canon_unit_zero hz]
  simp only [View.ld_unit_zero (S := S256x1024) hz]

/-- A point leaves in window 6 the new average of its square. -/
theorem out_6 (x0 x1 x2 x3 : Vec F S256x1024 .f32) : out0_6 x0 x1 x2 x3 = k0_pay2 x1 x3 := by
  unfold out0_6
  rw [View.canon_unit_zero hz]
  simp only [View.ld_unit_zero (S := S256x1024) hz]

/-- A point leaves in window 7 the gradient. -/
theorem out_7 (x0 x1 x2 x3 : Vec F S256x1024 .f32) : out0_7 x0 x1 x2 x3 = x1 := by
  unfold out0_7
  rw [View.canon_unit_zero hz]
  simp only [View.ld_unit_zero (S := S256x1024) hz]

end

open Adam

/-- A block of the kernel's at an index. -/
theorem newM_apply (g m : Vec Ideal S256x1024 .f32) (i : Fin 256) (j : Fin 1024) :
    k0_pay1 g m (ix2 i j) = newM (g (ix2 i j)) (m (ix2 i j)) := rfl

/-- A block of the kernel's at an index. -/
theorem newV_apply (g v : Vec Ideal S256x1024 .f32) (i : Fin 256) (j : Fin 1024) :
    k0_pay2 g v (ix2 i j) = newV (g (ix2 i j)) (v (ix2 i j)) := rfl

/-- A block of the kernel's at an index. -/
theorem step_apply (g w m v : Vec Ideal S256x1024 .f32) (i : Fin 256) (j : Fin 1024) :
    k0_pay3 g w m v (ix2 i j) = step (w (ix2 i j)) (g (ix2 i j)) (m (ix2 i j)) (v (ix2 i j)) := rfl

/-- The reference at an index. -/
theorem ref_newM (g m : Vec Ideal S256x1024 .f32) (i : Fin 256) (j : Fin 1024) :
    Cert.AdamPgRefIdeal.Read.val_main_v4 (F := Ideal) g m (ix2 i j) = newM (g (ix2 i j)) (m (ix2 i j)) := by
  simp only [Cert.AdamPgRefIdeal.Read.val_main_v0_apply, Cert.AdamPgRefIdeal.Read.val_main_v1_apply, Cert.AdamPgRefIdeal.Read.val_main_v2_apply, Cert.AdamPgRefIdeal.Read.val_main_v3_apply, Cert.AdamPgRefIdeal.Read.val_main_v4_apply, Cert.AdamPgRefIdeal.Read.val_main_cst_apply, Cert.AdamPgRefIdeal.Read.val_main_cst_0_apply]
  rfl

/-- The reference at an index. -/
theorem ref_newV (g v : Vec Ideal S256x1024 .f32) (i : Fin 256) (j : Fin 1024) :
    Cert.AdamPgRefIdeal.Read.val_main_v10 (F := Ideal) g v (ix2 i j) = newV (g (ix2 i j)) (v (ix2 i j)) := by
  simp only [Cert.AdamPgRefIdeal.Read.val_main_v5_apply, Cert.AdamPgRefIdeal.Read.val_main_v6_apply, Cert.AdamPgRefIdeal.Read.val_main_v7_apply, Cert.AdamPgRefIdeal.Read.val_main_v8_apply, Cert.AdamPgRefIdeal.Read.val_main_v9_apply, Cert.AdamPgRefIdeal.Read.val_main_v10_apply, Cert.AdamPgRefIdeal.Read.val_main_cst_1_apply, Cert.AdamPgRefIdeal.Read.val_main_cst_2_apply]
  rfl

/-- The reference at an index. -/
theorem ref_step (w g m v : Vec Ideal S256x1024 .f32) (i : Fin 256) (j : Fin 1024) :
    Cert.AdamPgRefIdeal.Read.val_main_v23 (F := Ideal) w g m v (ix2 i j) = step (w (ix2 i j)) (g (ix2 i j)) (m (ix2 i j)) (v (ix2 i j)) := by
  simp only [ref_newM, ref_newV, Cert.AdamPgRefIdeal.Read.val_main_v11_apply, Cert.AdamPgRefIdeal.Read.val_main_v12_apply, Cert.AdamPgRefIdeal.Read.val_main_v13_apply, Cert.AdamPgRefIdeal.Read.val_main_v14_apply, Cert.AdamPgRefIdeal.Read.val_main_v15_apply, Cert.AdamPgRefIdeal.Read.val_main_v16_apply, Cert.AdamPgRefIdeal.Read.val_main_v17_apply, Cert.AdamPgRefIdeal.Read.val_main_v18_apply, Cert.AdamPgRefIdeal.Read.val_main_v19_apply, Cert.AdamPgRefIdeal.Read.val_main_v20_apply, Cert.AdamPgRefIdeal.Read.val_main_v21_apply, Cert.AdamPgRefIdeal.Read.val_main_v22_apply, Cert.AdamPgRefIdeal.Read.val_main_v23_apply, Cert.AdamPgRefIdeal.Read.val_main_cst_3_apply, Cert.AdamPgRefIdeal.Read.val_main_cst_4_apply, Cert.AdamPgRefIdeal.Read.val_main_cst_5_apply, Cert.AdamPgRefIdeal.Read.val_main_cst_6_apply, Cert.AdamPgRefIdeal.Read.val_main_cst_7_apply]
  rfl

variable (m : (ℓ : Loc nD τ sig) → Buf (Elt Ideal) ℓ) (c : Dev nD)
theorem ix_0 : ∀ t : Fin cfg0.N, win0_0.index t = ![0, 0] := (by decide +kernel : ∀ t : Fin grid0.N, win0_0.index t = ![0, 0])
theorem ix_1 : ∀ t : Fin cfg0.N, win0_1.index t = ![0, 0] := (by decide +kernel : ∀ t : Fin grid0.N, win0_1.index t = ![0, 0])
theorem ix_2 : ∀ t : Fin cfg0.N, win0_2.index t = ![0, 0] := (by decide +kernel : ∀ t : Fin grid0.N, win0_2.index t = ![0, 0])
theorem ix_3 : ∀ t : Fin cfg0.N, win0_3.index t = ![0, 0] := (by decide +kernel : ∀ t : Fin grid0.N, win0_3.index t = ![0, 0])
theorem ix_4 : ∀ t : Fin cfg0.N, win0_4.index t = ![0, 0] := (by decide +kernel : ∀ t : Fin grid0.N, win0_4.index t = ![0, 0])
theorem ix_5 : ∀ t : Fin cfg0.N, win0_5.index t = ![0, 0] := (by decide +kernel : ∀ t : Fin grid0.N, win0_5.index t = ![0, 0])
theorem ix_6 : ∀ t : Fin cfg0.N, win0_6.index t = ![0, 0] := (by decide +kernel : ∀ t : Fin grid0.N, win0_6.index t = ![0, 0])
theorem ix_7 : ∀ t : Fin cfg0.N, win0_7.index t = ![0, 0] := (by decide +kernel : ∀ t : Fin grid0.N, win0_7.index t = ![0, 0])
theorem lt_N (t : Fin cfg0.N) : t.val < 1 := lt_of_lt_of_eq t.isLt N_0

theorem block0 (t : Fin cfg0.N) (i : Fin 256) (j : Fin 1024) :
    iblk m c 0 t (ix2 i j) = m ((c : Thread nD τ).loc main_arg0) (ix2 i j) := by
  rw [← V_main_arg0 m c]; blk_simp [iblk]; refine congrArg _ ?_; blk_ext [ix_0 t]

theorem block1 (t : Fin cfg0.N) (i : Fin 256) (j : Fin 1024) :
    iblk m c 1 t (ix2 i j) = m ((c : Thread nD τ).loc main_arg1) (ix2 i j) := by
  rw [← V_main_arg1 m c]; blk_simp [iblk]; refine congrArg _ ?_; blk_ext [ix_1 t]

theorem block2 (t : Fin cfg0.N) (i : Fin 256) (j : Fin 1024) :
    iblk m c 2 t (ix2 i j) = m ((c : Thread nD τ).loc main_arg2) (ix2 i j) := by
  rw [← V_main_arg2 m c]; blk_simp [iblk]; refine congrArg _ ?_; blk_ext [ix_2 t]

theorem block3 (t : Fin cfg0.N) (i : Fin 256) (j : Fin 1024) :
    iblk m c 3 t (ix2 i j) = m ((c : Thread nD τ).loc main_arg3) (ix2 i j) := by
  rw [← V_main_arg3 m c]; blk_simp [iblk]; refine congrArg _ ?_; blk_ext [ix_3 t]

/-- A grid point's block of the step is the reference's. -/
theorem tile_step (t : Fin cfg0.N) (i : Fin 256) (j : Fin 1024) :
    k0_pay3 (iblk m c 1 t) (iblk m c 0 t) (iblk m c 2 t) (iblk m c 3 t) (ix2 i j) = Cert.AdamPgRefIdeal.Read.val_main_v23 (F := Ideal) (m ((c : Thread nD τ).loc main_arg0)) (m ((c : Thread nD τ).loc main_arg1)) (m ((c : Thread nD τ).loc main_arg2)) (m ((c : Thread nD τ).loc main_arg3)) (ix2 i j) := by
  rw [step_apply, ref_step, block0, block1, block2, block3]

/-- The kernel's step is the reference's. -/
theorem result_step : (dats m 0 c).arrAt 4 cfg0.N = Cert.AdamPgRefIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  rw [after0_4, out_4]
  have hx : (cfg0.win 4).xinj (cfg0.grid.coords t) y = ix2 (n0 := 256) (n1 := 1024) ((cfg0.win 4).xinj (cfg0.grid.coords t) y 0) ((cfg0.win 4).xinj (cfg0.grid.coords t) y 1) := by
    funext a; fin_cases a <;> rfl
  refine (congrArg _ hx).trans ((tile_step m c t _ _).trans ?_)
  refine congrArg _ ?_
  blk_ext [ix_4 t]

/-- A grid point's block of the new average of the gradient is the reference's. -/
theorem tile_newM (t : Fin cfg0.N) (i : Fin 256) (j : Fin 1024) :
    k0_pay1 (iblk m c 1 t) (iblk m c 2 t) (ix2 i j) = Cert.AdamPgRefIdeal.Read.val_main_v4 (F := Ideal) (m ((c : Thread nD τ).loc main_arg1)) (m ((c : Thread nD τ).loc main_arg2)) (ix2 i j) := by
  rw [newM_apply, ref_newM, block1, block2]

/-- The kernel's new average of the gradient is the reference's. -/
theorem result_newM : (dats m 0 c).arrAt 5 cfg0.N = Cert.AdamPgRefIdeal.Read.val_main_v4 (F := Ideal) (m ((c : Thread nD τ).loc main_arg1)) (m ((c : Thread nD τ).loc main_arg2)) := by
  refine (dats m 0 c).arrAt_eq_of_covers 5 _ (by decide +kernel) fun t _ y => ?_
  rw [after0_5, out_5]
  have hx : (cfg0.win 5).xinj (cfg0.grid.coords t) y = ix2 (n0 := 256) (n1 := 1024) ((cfg0.win 5).xinj (cfg0.grid.coords t) y 0) ((cfg0.win 5).xinj (cfg0.grid.coords t) y 1) := by
    funext a; fin_cases a <;> rfl
  refine (congrArg _ hx).trans ((tile_newM m c t _ _).trans ?_)
  refine congrArg _ ?_
  blk_ext [ix_5 t]

/-- A grid point's block of the new average of its square is the reference's. -/
theorem tile_newV (t : Fin cfg0.N) (i : Fin 256) (j : Fin 1024) :
    k0_pay2 (iblk m c 1 t) (iblk m c 3 t) (ix2 i j) = Cert.AdamPgRefIdeal.Read.val_main_v10 (F := Ideal) (m ((c : Thread nD τ).loc main_arg1)) (m ((c : Thread nD τ).loc main_arg3)) (ix2 i j) := by
  rw [newV_apply, ref_newV, block1, block3]

/-- The kernel's new average of its square is the reference's. -/
theorem result_newV : (dats m 0 c).arrAt 6 cfg0.N = Cert.AdamPgRefIdeal.Read.val_main_v10 (F := Ideal) (m ((c : Thread nD τ).loc main_arg1)) (m ((c : Thread nD τ).loc main_arg3)) := by
  refine (dats m 0 c).arrAt_eq_of_covers 6 _ (by decide +kernel) fun t _ y => ?_
  rw [after0_6, out_6]
  have hx : (cfg0.win 6).xinj (cfg0.grid.coords t) y = ix2 (n0 := 256) (n1 := 1024) ((cfg0.win 6).xinj (cfg0.grid.coords t) y 0) ((cfg0.win 6).xinj (cfg0.grid.coords t) y 1) := by
    funext a; fin_cases a <;> rfl
  refine (congrArg _ hx).trans ((tile_newV m c t _ _).trans ?_)
  refine congrArg _ ?_
  blk_ext [ix_6 t]

/-- A grid point's block of the gradient is the reference's. -/
theorem tile_grad (t : Fin cfg0.N) (i : Fin 256) (j : Fin 1024) :
    (iblk m c 1 t) (ix2 i j) = (m ((c : Thread nD τ).loc main_arg1)) (ix2 i j) := by
  rw [block1]

/-- The kernel's gradient is the reference's. -/
theorem result_grad : (dats m 0 c).arrAt 7 cfg0.N = (m ((c : Thread nD τ).loc main_arg1)) := by
  refine (dats m 0 c).arrAt_eq_of_covers 7 _ (by decide +kernel) fun t _ y => ?_
  rw [after0_7, out_7]
  have hx : (cfg0.win 7).xinj (cfg0.grid.coords t) y = ix2 (n0 := 256) (n1 := 1024) ((cfg0.win 7).xinj (cfg0.grid.coords t) y 0) ((cfg0.win 7).xinj (cfg0.grid.coords t) y 1) := by
    funext a; fin_cases a <;> rfl
  refine (congrArg _ hx).trans ((tile_grad m c t _ _).trans ?_)
  refine congrArg _ ?_
  blk_ext [ix_7 t]

/-- The kernel as it runs: it terminates without a fault, keeps its arguments, and leaves every counter at zero. -/
theorem frame_kernel : Cert.quiescent_AdamPg := fun m ρ _ => Cert.AdamPg.Gen.frame m ρ

/-- The kernel over exact values: the same. -/
theorem frame_ideal : Cert.quiescent_AdamPgIdeal := fun m ρ _ => Cert.AdamPgIdeal.Gen.frame m ρ

/-- The reference: the same, from its run; it has no counters. -/
theorem frame_reference : Cert.quiescent_AdamPgRefIdeal := fun m ρ _ =>
  (θ_run Cert.AdamPgRefIdeal.defs _ _).mono
    (fun r h => ⟨fun c => (h c).2.2.2.2, sem_eq_zero_of_no_sems (by decide) r.2⟩)
    (Cert.AdamPgRefIdeal.Value.run (F := Ideal) m ρ)

/-- No operation was replaced between the kernel and its exact form. -/
theorem preserves : Cert.preserves_AdamPg_AdamPgIdeal := trivial

/-- Over exact values the step, the two new averages and the gradient that the kernel leaves are the reference's. -/
theorem algebraic : Cert.algebraic_AdamPgIdeal_AdamPgRefIdeal := by
  intro m ρ m' ρ' _ hagree
  refine ⟨fun c => Cert.AdamPgRefIdeal.Read.val_main_v23 (F := Ideal) (m ((c.tc : Thread nD τ).loc main_arg0)) (m ((c.tc : Thread nD τ).loc main_arg1)) (m ((c.tc : Thread nD τ).loc main_arg2)) (m ((c.tc : Thread nD τ).loc main_arg3)), fun c => Cert.AdamPgRefIdeal.Read.val_main_v4 (F := Ideal) (m ((c.tc : Thread nD τ).loc main_arg1)) (m ((c.tc : Thread nD τ).loc main_arg2)), fun c => Cert.AdamPgRefIdeal.Read.val_main_v10 (F := Ideal) (m ((c.tc : Thread nD τ).loc main_arg1)) (m ((c.tc : Thread nD τ).loc main_arg3)), fun c => m ((c.tc : Thread nD τ).loc main_arg1), ?_, ?_⟩
  · refine (θ_run Cert.AdamPgIdeal.defs _ _).mono (fun r h c => ?_) (Cert.AdamPgIdeal.Value.run_blocks (F := Ideal) m ρ)
    obtain ⟨h0, h1, h2, h3, hrest⟩ := h c
    exact ⟨h0.trans (result_step m c), h1.trans (result_newM m c), h2.trans (result_newV m c), h3.trans (result_grad m c), hrest⟩
  · refine (θ_run Cert.AdamPgRefIdeal.defs _ _).mono (fun r h c => ?_) (Cert.AdamPgRefIdeal.Value.run (F := Ideal) m' ρ')
    obtain ⟨h0, h1, h2, h3, hrest⟩ := h c
    obtain ⟨e0, e1, e2, e3⟩ := hagree c
    have l0 : m' ((c.tc : Thread Cert.AdamPgRefIdeal.nD Cert.AdamPgRefIdeal.τ).loc Cert.AdamPgRefIdeal.main_arg0) = m ((c.tc : Thread nD τ).loc main_arg0) := e0
    have l1 : m' ((c.tc : Thread Cert.AdamPgRefIdeal.nD Cert.AdamPgRefIdeal.τ).loc Cert.AdamPgRefIdeal.main_arg1) = m ((c.tc : Thread nD τ).loc main_arg1) := e1
    have l2 : m' ((c.tc : Thread Cert.AdamPgRefIdeal.nD Cert.AdamPgRefIdeal.τ).loc Cert.AdamPgRefIdeal.main_arg2) = m ((c.tc : Thread nD τ).loc main_arg2) := e2
    have l3 : m' ((c.tc : Thread Cert.AdamPgRefIdeal.nD Cert.AdamPgRefIdeal.τ).loc Cert.AdamPgRefIdeal.main_arg3) = m ((c.tc : Thread nD τ).loc main_arg3) := e3
    refine ⟨?_, ?_, ?_, ?_, hrest⟩
    · refine (h0.trans (Cert.AdamPgRefIdeal.Read.val_main_v23_eq _ _ _ _)).trans ?_
      rw [l0, l1, l2, l3]
    · refine (h1.trans (Cert.AdamPgRefIdeal.Read.val_main_v4_eq _ _)).trans ?_
      rw [l1, l2]
    · refine (h2.trans (Cert.AdamPgRefIdeal.Read.val_main_v10_eq _ _)).trans ?_
      rw [l1, l3]
    · exact h3.trans l1

end Cert.AdamPgProof
end
-- ==== Proof.lean ====
/- The certificate: each claim from the module that proves it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ProjWeight
public import proofs.«01_k».proof.Proof.Gen.ProjWeight.Skeleton
public import proofs.«01_k».proof.Proof.Gen.ProjWeight.Launch
public import proofs.«01_k».proof.Proof.Gen.ProjWeight.Points
public import proofs.«01_k».proof.Proof.Gen.ProjWeight.Frame
public import proofs.«01_k».proof.Proof.Gen.ProjWeightIdeal
public import proofs.«01_k».proof.Proof.Gen.ProjWeightIdeal.Skeleton
public import proofs.«01_k».proof.Proof.Gen.ProjWeightIdeal.Launch
public import proofs.«01_k».proof.Proof.Gen.ProjWeightIdeal.Points
public import proofs.«01_k».proof.Proof.Gen.ProjWeightIdeal.Frame
public import proofs.«01_k».proof.Proof.Gen.ProjWeightRefIdeal
public import proofs.«01_k».proof.Proof.Gen.ProjWeightIdeal.Value
public import proofs.«01_k».proof.Proof.Gen.ProjWeightRefIdeal.Run
public import proofs.«01_k».proof.Proof.Gen.ProjWeightRefIdeal.Read
public import proofs.«01_k».proof.Proof.Gen.ProjInput
public import proofs.«01_k».proof.Proof.Gen.ProjInput.Skeleton
public import proofs.«01_k».proof.Proof.Gen.ProjInput.Launch
public import proofs.«01_k».proof.Proof.Gen.ProjInput.Points
public import proofs.«01_k».proof.Proof.Gen.ProjInput.Frame
public import proofs.«01_k».proof.Proof.Gen.ProjInputIdeal
public import proofs.«01_k».proof.Proof.Gen.ProjInputIdeal.Skeleton
public import proofs.«01_k».proof.Proof.Gen.ProjInputIdeal.Launch
public import proofs.«01_k».proof.Proof.Gen.ProjInputIdeal.Points
public import proofs.«01_k».proof.Proof.Gen.ProjInputIdeal.Frame
public import proofs.«01_k».proof.Proof.Gen.ProjInputRefIdeal
public import proofs.«01_k».proof.Proof.Gen.ProjInputIdeal.Value
public import proofs.«01_k».proof.Proof.Gen.ProjInputRefIdeal.Run
public import proofs.«01_k».proof.Proof.Gen.ProjInputRefIdeal.Read
public import proofs.«01_k».proof.Proof.Gen.PreNorm
public import proofs.«01_k».proof.Proof.Gen.PreNorm.Skeleton
public import proofs.«01_k».proof.Proof.Gen.PreNorm.Launch
public import proofs.«01_k».proof.Proof.Gen.PreNorm.Points
public import proofs.«01_k».proof.Proof.Gen.PreNorm.Frame
public import proofs.«01_k».proof.Proof.Gen.PreNormIdeal
public import proofs.«01_k».proof.Proof.Gen.PreNormIdeal.Skeleton
public import proofs.«01_k».proof.Proof.Gen.PreNormIdeal.Launch
public import proofs.«01_k».proof.Proof.Gen.PreNormIdeal.Points
public import proofs.«01_k».proof.Proof.Gen.PreNormIdeal.Frame
public import proofs.«01_k».proof.Proof.Gen.PreNormRefIdeal
public import proofs.«01_k».proof.Proof.Gen.PreNormIdeal.Value
public import proofs.«01_k».proof.Proof.Gen.PreNormRefIdeal.Run
public import proofs.«01_k».proof.Proof.Gen.PreNormRefIdeal.Read
public import proofs.«01_k».proof.Proof.Gen.PleNorm
public import proofs.«01_k».proof.Proof.Gen.PleNorm.Skeleton
public import proofs.«01_k».proof.Proof.Gen.PleNorm.Launch
public import proofs.«01_k».proof.Proof.Gen.PleNorm.Points
public import proofs.«01_k».proof.Proof.Gen.PleNorm.Frame
public import proofs.«01_k».proof.Proof.Gen.PleNormIdeal
public import proofs.«01_k».proof.Proof.Gen.PleNormIdeal.Skeleton
public import proofs.«01_k».proof.Proof.Gen.PleNormIdeal.Launch
public import proofs.«01_k».proof.Proof.Gen.PleNormIdeal.Points
public import proofs.«01_k».proof.Proof.Gen.PleNormIdeal.Frame
public import proofs.«01_k».proof.Proof.Gen.PleNormRefIdeal
public import proofs.«01_k».proof.Proof.Gen.PleNormIdeal.Value
public import proofs.«01_k».proof.Proof.Gen.PleNormRefIdeal.Run
public import proofs.«01_k».proof.Proof.Gen.PleNormRefIdeal.Read
public import proofs.«01_k».proof.Proof.Gen.GateWeight
public import proofs.«01_k».proof.Proof.Gen.GateWeight.Skeleton
public import proofs.«01_k».proof.Proof.Gen.GateWeight.Launch
public import proofs.«01_k».proof.Proof.Gen.GateWeight.Points
public import proofs.«01_k».proof.Proof.Gen.GateWeight.Frame
public import proofs.«01_k».proof.Proof.Gen.GateWeightIdeal
public import proofs.«01_k».proof.Proof.Gen.GateWeightIdeal.Skeleton
public import proofs.«01_k».proof.Proof.Gen.GateWeightIdeal.Launch
public import proofs.«01_k».proof.Proof.Gen.GateWeightIdeal.Points
public import proofs.«01_k».proof.Proof.Gen.GateWeightIdeal.Frame
public import proofs.«01_k».proof.Proof.Gen.GateWeightRefIdeal
public import proofs.«01_k».proof.Proof.Gen.GateWeightIdeal.Value
public import proofs.«01_k».proof.Proof.Gen.GateWeightRefIdeal.Run
public import proofs.«01_k».proof.Proof.Gen.GateWeightRefIdeal.Read
public import proofs.«01_k».proof.Proof.Gen.OutAWeight
public import proofs.«01_k».proof.Proof.Gen.OutAWeight.Skeleton
public import proofs.«01_k».proof.Proof.Gen.OutAWeight.Launch
public import proofs.«01_k».proof.Proof.Gen.OutAWeight.Points
public import proofs.«01_k».proof.Proof.Gen.OutAWeight.Frame
public import proofs.«01_k».proof.Proof.Gen.OutAWeightIdeal
public import proofs.«01_k».proof.Proof.Gen.OutAWeightIdeal.Skeleton
public import proofs.«01_k».proof.Proof.Gen.OutAWeightIdeal.Launch
public import proofs.«01_k».proof.Proof.Gen.OutAWeightIdeal.Points
public import proofs.«01_k».proof.Proof.Gen.OutAWeightIdeal.Frame
public import proofs.«01_k».proof.Proof.Gen.OutAWeightRefIdeal
public import proofs.«01_k».proof.Proof.Gen.OutAWeightIdeal.Value
public import proofs.«01_k».proof.Proof.Gen.OutAWeightRefIdeal.Run
public import proofs.«01_k».proof.Proof.Gen.OutAWeightRefIdeal.Read
public import proofs.«01_k».proof.Proof.Gen.OutBWeight
public import proofs.«01_k».proof.Proof.Gen.OutBWeight.Skeleton
public import proofs.«01_k».proof.Proof.Gen.OutBWeight.Launch
public import proofs.«01_k».proof.Proof.Gen.OutBWeight.Points
public import proofs.«01_k».proof.Proof.Gen.OutBWeight.Frame
public import proofs.«01_k».proof.Proof.Gen.OutBWeightIdeal
public import proofs.«01_k».proof.Proof.Gen.OutBWeightIdeal.Skeleton
public import proofs.«01_k».proof.Proof.Gen.OutBWeightIdeal.Launch
public import proofs.«01_k».proof.Proof.Gen.OutBWeightIdeal.Points
public import proofs.«01_k».proof.Proof.Gen.OutBWeightIdeal.Frame
public import proofs.«01_k».proof.Proof.Gen.OutBWeightRefIdeal
public import proofs.«01_k».proof.Proof.Gen.OutBWeightIdeal.Value
public import proofs.«01_k».proof.Proof.Gen.OutBWeightRefIdeal.Run
public import proofs.«01_k».proof.Proof.Gen.OutBWeightRefIdeal.Read
public import proofs.«01_k».proof.Proof.Gen.MergeWeight
public import proofs.«01_k».proof.Proof.Gen.MergeWeight.Skeleton
public import proofs.«01_k».proof.Proof.Gen.MergeWeight.Launch
public import proofs.«01_k».proof.Proof.Gen.MergeWeight.Points
public import proofs.«01_k».proof.Proof.Gen.MergeWeight.Frame
public import proofs.«01_k».proof.Proof.Gen.MergeWeightIdeal
public import proofs.«01_k».proof.Proof.Gen.MergeWeightIdeal.Skeleton
public import proofs.«01_k».proof.Proof.Gen.MergeWeightIdeal.Launch
public import proofs.«01_k».proof.Proof.Gen.MergeWeightIdeal.Points
public import proofs.«01_k».proof.Proof.Gen.MergeWeightIdeal.Frame
public import proofs.«01_k».proof.Proof.Gen.MergeWeightRefIdeal
public import proofs.«01_k».proof.Proof.Gen.MergeWeightIdeal.Value
public import proofs.«01_k».proof.Proof.Gen.MergeWeightRefIdeal.Run
public import proofs.«01_k».proof.Proof.Gen.MergeWeightRefIdeal.Read
public import proofs.«01_k».proof.Proof.Gen.StepWeight
public import proofs.«01_k».proof.Proof.Gen.StepWeight.Skeleton
public import proofs.«01_k».proof.Proof.Gen.StepWeight.Launch
public import proofs.«01_k».proof.Proof.Gen.StepWeight.Points
public import proofs.«01_k».proof.Proof.Gen.StepWeight.Frame
public import proofs.«01_k».proof.Proof.Gen.StepWeightIdeal
public import proofs.«01_k».proof.Proof.Gen.StepWeightIdeal.Skeleton
public import proofs.«01_k».proof.Proof.Gen.StepWeightIdeal.Launch
public import proofs.«01_k».proof.Proof.Gen.StepWeightIdeal.Points
public import proofs.«01_k».proof.Proof.Gen.StepWeightIdeal.Frame
public import proofs.«01_k».proof.Proof.Gen.StepWeightRefIdeal
public import proofs.«01_k».proof.Proof.Gen.StepWeightIdeal.Value
public import proofs.«01_k».proof.Proof.Gen.StepWeightRefIdeal.Run
public import proofs.«01_k».proof.Proof.Gen.StepWeightRefIdeal.Read
public import proofs.«01_k».proof.Proof.Gen.EmbedWeight
public import proofs.«01_k».proof.Proof.Gen.EmbedWeight.Skeleton
public import proofs.«01_k».proof.Proof.Gen.EmbedWeight.Launch
public import proofs.«01_k».proof.Proof.Gen.EmbedWeight.Points
public import proofs.«01_k».proof.Proof.Gen.EmbedWeight.Frame
public import proofs.«01_k».proof.Proof.Gen.EmbedWeightIdeal
public import proofs.«01_k».proof.Proof.Gen.EmbedWeightIdeal.Skeleton
public import proofs.«01_k».proof.Proof.Gen.EmbedWeightIdeal.Launch
public import proofs.«01_k».proof.Proof.Gen.EmbedWeightIdeal.Points
public import proofs.«01_k».proof.Proof.Gen.EmbedWeightIdeal.Frame
public import proofs.«01_k».proof.Proof.Gen.EmbedWeightRefIdeal
public import proofs.«01_k».proof.Proof.Gen.EmbedWeightIdeal.Value
public import proofs.«01_k».proof.Proof.Gen.EmbedWeightRefIdeal.Run
public import proofs.«01_k».proof.Proof.Gen.EmbedWeightRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.ConvAct
public import proofs.«01_k».proof.Proof.Gen.ConvAct.Skeleton
public import proofs.«01_k».proof.Proof.Gen.ConvAct.Launch
public import proofs.«01_k».proof.Proof.Gen.ConvAct.Points
public import proofs.«01_k».proof.Proof.Gen.ConvAct.Frame
public import proofs.«01_k».proof.Proof.Gen.ConvActIdeal
public import proofs.«01_k».proof.Proof.Gen.ConvActIdeal.Skeleton
public import proofs.«01_k».proof.Proof.Gen.ConvActIdeal.Launch
public import proofs.«01_k».proof.Proof.Gen.ConvActIdeal.Points
public import proofs.«01_k».proof.Proof.Gen.ConvActIdeal.Frame
public import proofs.«01_k».proof.Proof.Gen.ConvActRefIdeal
public import proofs.«01_k».proof.Proof.Gen.ConvActIdeal.Value
public import proofs.«01_k».proof.Proof.Gen.ConvActRefIdeal.Run
public import proofs.«01_k».proof.Proof.Gen.ConvActRefIdeal.Read
public import proofs.«01_k».proof.Proof.Gen.Pre_finite_cotangents
public import proofs.«01_k».proof.Proof.Gen.GroupNorm
public import proofs.«01_k».proof.Proof.Gen.GroupNorm.Skeleton
public import proofs.«01_k».proof.Proof.Gen.GroupNorm.Launch
public import proofs.«01_k».proof.Proof.Gen.GroupNorm.Points
public import proofs.«01_k».proof.Proof.Gen.GroupNorm.Frame
public import proofs.«01_k».proof.Proof.Gen.GroupNormIdeal
public import proofs.«01_k».proof.Proof.Gen.GroupNormIdeal.Skeleton
public import proofs.«01_k».proof.Proof.Gen.GroupNormIdeal.Launch
public import proofs.«01_k».proof.Proof.Gen.GroupNormIdeal.Points
public import proofs.«01_k».proof.Proof.Gen.GroupNormIdeal.Frame
public import proofs.«01_k».proof.Proof.Gen.GroupNormRefIdeal
public import proofs.«01_k».proof.Proof.Gen.GroupNormIdeal.Value
public import proofs.«01_k».proof.Proof.Gen.GroupNormRefIdeal.Run
public import proofs.«01_k».proof.Proof.Gen.GroupNormRefIdeal.Read
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvIdeal.Value
public import proofs.«01_k».proof.Proof.Gen.ConvRefIdeal.Run
public import proofs.«01_k».proof.Proof.Gen.ConvRefIdeal.Read
public import proofs.«01_k».proof.Proof.Gen.AdamOa
public import proofs.«01_k».proof.Proof.Gen.AdamOa.Skeleton
public import proofs.«01_k».proof.Proof.Gen.AdamOa.Launch
public import proofs.«01_k».proof.Proof.Gen.AdamOa.Points
public import proofs.«01_k».proof.Proof.Gen.AdamOa.Frame
public import proofs.«01_k».proof.Proof.Gen.AdamOaIdeal
public import proofs.«01_k».proof.Proof.Gen.AdamOaIdeal.Skeleton
public import proofs.«01_k».proof.Proof.Gen.AdamOaIdeal.Launch
public import proofs.«01_k».proof.Proof.Gen.AdamOaIdeal.Points
public import proofs.«01_k».proof.Proof.Gen.AdamOaIdeal.Frame
public import proofs.«01_k».proof.Proof.Gen.AdamOaRefIdeal
public import proofs.«01_k».proof.Proof.Gen.AdamOaIdeal.Value
public import proofs.«01_k».proof.Proof.Gen.AdamOaRefIdeal.Run
public import proofs.«01_k».proof.Proof.Gen.AdamOaRefIdeal.Read
public import proofs.«01_k».proof.Proof.Gen.AdamOb
public import proofs.«01_k».proof.Proof.Gen.AdamOb.Skeleton
public import proofs.«01_k».proof.Proof.Gen.AdamOb.Launch
public import proofs.«01_k».proof.Proof.Gen.AdamOb.Points
public import proofs.«01_k».proof.Proof.Gen.AdamOb.Frame
public import proofs.«01_k».proof.Proof.Gen.AdamObIdeal
public import proofs.«01_k».proof.Proof.Gen.AdamObIdeal.Skeleton
public import proofs.«01_k».proof.Proof.Gen.AdamObIdeal.Launch
public import proofs.«01_k».proof.Proof.Gen.AdamObIdeal.Points
public import proofs.«01_k».proof.Proof.Gen.AdamObIdeal.Frame
public import proofs.«01_k».proof.Proof.Gen.AdamObRefIdeal
public import proofs.«01_k».proof.Proof.Gen.AdamObIdeal.Value
public import proofs.«01_k».proof.Proof.Gen.AdamObRefIdeal.Run
public import proofs.«01_k».proof.Proof.Gen.AdamObRefIdeal.Read
public import proofs.«01_k».proof.Proof.Gen.AdamPle
public import proofs.«01_k».proof.Proof.Gen.AdamPle.Skeleton
public import proofs.«01_k».proof.Proof.Gen.AdamPle.Launch
public import proofs.«01_k».proof.Proof.Gen.AdamPle.Points
public import proofs.«01_k».proof.Proof.Gen.AdamPle.Frame
public import proofs.«01_k».proof.Proof.Gen.AdamPleIdeal
public import proofs.«01_k».proof.Proof.Gen.AdamPleIdeal.Skeleton
public import proofs.«01_k».proof.Proof.Gen.AdamPleIdeal.Launch
public import proofs.«01_k».proof.Proof.Gen.AdamPleIdeal.Points
public import proofs.«01_k».proof.Proof.Gen.AdamPleIdeal.Frame
public import proofs.«01_k».proof.Proof.Gen.AdamPleRefIdeal
public import proofs.«01_k».proof.Proof.Gen.AdamPleIdeal.Value
public import proofs.«01_k».proof.Proof.Gen.AdamPleRefIdeal.Run
public import proofs.«01_k».proof.Proof.Gen.AdamPleRefIdeal.Read
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInRefIdeal
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutRefIdeal
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Gen.AdamPg
public import proofs.«01_k».proof.Proof.Gen.AdamPg.Skeleton
public import proofs.«01_k».proof.Proof.Gen.AdamPg.Launch
public import proofs.«01_k».proof.Proof.Gen.AdamPg.Points
public import proofs.«01_k».proof.Proof.Gen.AdamPg.Frame
public import proofs.«01_k».proof.Proof.Gen.AdamPgIdeal
public import proofs.«01_k».proof.Proof.Gen.AdamPgIdeal.Skeleton
public import proofs.«01_k».proof.Proof.Gen.AdamPgIdeal.Launch
public import proofs.«01_k».proof.Proof.Gen.AdamPgIdeal.Points
public import proofs.«01_k».proof.Proof.Gen.AdamPgIdeal.Frame
public import proofs.«01_k».proof.Proof.Gen.AdamPgRefIdeal
public import proofs.«01_k».proof.Proof.Gen.AdamPgIdeal.Value
public import proofs.«01_k».proof.Proof.Gen.AdamPgRefIdeal.Run
public import proofs.«01_k».proof.Proof.Gen.AdamPgRefIdeal.Read
public import proofs.«01_k».proof.Proof.BranchA
public import proofs.«01_k».proof.Proof.ProjWeight
public import proofs.«01_k».proof.Proof.ProjInput
public import proofs.«01_k».proof.Proof.PreNorm
public import proofs.«01_k».proof.Proof.PleNorm
public import proofs.«01_k».proof.Proof.GateWeight
public import proofs.«01_k».proof.Proof.OutAWeight
public import proofs.«01_k».proof.Proof.OutBWeight
public import proofs.«01_k».proof.Proof.MergeWeight
public import proofs.«01_k».proof.Proof.StepWeight
public import proofs.«01_k».proof.Proof.EmbedWeight
public import proofs.«01_k».proof.Proof.Proj
public import proofs.«01_k».proof.Proof.OutProj
public import proofs.«01_k».proof.Proof.ConvAct
public import proofs.«01_k».proof.Proof.GroupNorm
public import proofs.«01_k».proof.Proof.Conv
public import proofs.«01_k».proof.Proof.AdamOa
public import proofs.«01_k».proof.Proof.AdamOb
public import proofs.«01_k».proof.Proof.AdamPle
public import proofs.«01_k».proof.Proof.AdamIn
public import proofs.«01_k».proof.Proof.AdamOut
public import proofs.«01_k».proof.Proof.AdamPg
public import Idealize.ShloMosaic.Adequacy
public import Idealize.ShloMosaic.Init

@[expose] public section

noncomputable section

namespace Cert.Proof

open Idealize.ShloMosaic Idealize.SL.Sem Cert.Kernel

/-- Everything this certificate claims. -/
theorem claim : Cert.Claim := ⟨Cert.Kernel.Gen.facts, Cert.KernelIdeal.Gen.facts, Cert.ReferenceIdeal.Gen.facts,
  Cert.ProjWeight.Gen.facts, Cert.ProjWeightIdeal.Gen.facts, Cert.ProjWeightRefIdeal.Gen.facts,
  Cert.ProjInput.Gen.facts, Cert.ProjInputIdeal.Gen.facts, Cert.ProjInputRefIdeal.Gen.facts,
  Cert.PreNorm.Gen.facts, Cert.PreNormIdeal.Gen.facts, Cert.PreNormRefIdeal.Gen.facts,
  Cert.PleNorm.Gen.facts, Cert.PleNormIdeal.Gen.facts, Cert.PleNormRefIdeal.Gen.facts,
  Cert.GateWeight.Gen.facts, Cert.GateWeightIdeal.Gen.facts, Cert.GateWeightRefIdeal.Gen.facts,
  Cert.OutAWeight.Gen.facts, Cert.OutAWeightIdeal.Gen.facts, Cert.OutAWeightRefIdeal.Gen.facts,
  Cert.OutBWeight.Gen.facts, Cert.OutBWeightIdeal.Gen.facts, Cert.OutBWeightRefIdeal.Gen.facts,
  Cert.MergeWeight.Gen.facts, Cert.MergeWeightIdeal.Gen.facts, Cert.MergeWeightRefIdeal.Gen.facts,
  Cert.StepWeight.Gen.facts, Cert.StepWeightIdeal.Gen.facts, Cert.StepWeightRefIdeal.Gen.facts,
  Cert.EmbedWeight.Gen.facts, Cert.EmbedWeightIdeal.Gen.facts, Cert.EmbedWeightRefIdeal.Gen.facts,
  Cert.Proj.Gen.facts, Cert.ProjIdeal.Gen.facts, Cert.ProjRefIdeal.Gen.facts,
  Cert.OutProj.Gen.facts, Cert.OutProjIdeal.Gen.facts, Cert.OutProjRefIdeal.Gen.facts,
  Cert.ConvAct.Gen.facts, Cert.ConvActIdeal.Gen.facts, Cert.ConvActRefIdeal.Gen.facts,
  Cert.GroupNorm.Gen.facts, Cert.GroupNormIdeal.Gen.facts, Cert.GroupNormRefIdeal.Gen.facts,
  Cert.Conv.Gen.facts, Cert.ConvIdeal.Gen.facts, Cert.ConvRefIdeal.Gen.facts,
  Cert.AdamOa.Gen.facts, Cert.AdamOaIdeal.Gen.facts, Cert.AdamOaRefIdeal.Gen.facts,
  Cert.AdamOb.Gen.facts, Cert.AdamObIdeal.Gen.facts, Cert.AdamObRefIdeal.Gen.facts,
  Cert.AdamPle.Gen.facts, Cert.AdamPleIdeal.Gen.facts, Cert.AdamPleRefIdeal.Gen.facts,
  Cert.AdamIn.Gen.facts, Cert.AdamInIdeal.Gen.facts, Cert.AdamInRefIdeal.Gen.facts,
  Cert.AdamOut.Gen.facts, Cert.AdamOutIdeal.Gen.facts, Cert.AdamOutRefIdeal.Gen.facts,
  Cert.AdamPg.Gen.facts, Cert.AdamPgIdeal.Gen.facts, Cert.AdamPgRefIdeal.Gen.facts,
  Cert.Pre_finite_cotangents.Gen.facts,
  BranchA.frame_kernel, BranchA.frame_ideal, BranchA.frame_reference,
  ProjWeightProof.frame_kernel, ProjWeightProof.frame_ideal, ProjWeightProof.frame_reference,
  ProjInputProof.frame_kernel, ProjInputProof.frame_ideal, ProjInputProof.frame_reference,
  PreNormProof.frame_kernel, PreNormProof.frame_ideal, PreNormProof.frame_reference,
  PleNormProof.frame_kernel, PleNormProof.frame_ideal, PleNormProof.frame_reference,
  GateWeightProof.frame_kernel, GateWeightProof.frame_ideal, GateWeightProof.frame_reference,
  OutAWeightProof.frame_kernel, OutAWeightProof.frame_ideal, OutAWeightProof.frame_reference,
  OutBWeightProof.frame_kernel, OutBWeightProof.frame_ideal, OutBWeightProof.frame_reference,
  MergeWeightProof.frame_kernel, MergeWeightProof.frame_ideal, MergeWeightProof.frame_reference,
  StepWeightProof.frame_kernel, StepWeightProof.frame_ideal, StepWeightProof.frame_reference,
  EmbedWeightProof.frame_kernel, EmbedWeightProof.frame_ideal, EmbedWeightProof.frame_reference,
  ProjProof.frame_kernel, ProjProof.frame_ideal, ProjProof.frame_reference,
  OutProjProof.frame_kernel, OutProjProof.frame_ideal, OutProjProof.frame_reference,
  ConvActProof.frame_kernel, ConvActProof.frame_ideal, ConvActProof.frame_ideal_finite, ConvActProof.frame_reference, ConvActProof.frame_reference_finite,
  GroupNormProof.frame_kernel, GroupNormProof.frame_ideal, GroupNormProof.frame_reference,
  ConvProof.frame_kernel, ConvProof.frame_ideal, ConvProof.frame_reference,
  AdamOaProof.frame_kernel, AdamOaProof.frame_ideal, AdamOaProof.frame_reference,
  AdamObProof.frame_kernel, AdamObProof.frame_ideal, AdamObProof.frame_reference,
  AdamPleProof.frame_kernel, AdamPleProof.frame_ideal, AdamPleProof.frame_reference,
  AdamInProof.frame_kernel, AdamInProof.frame_ideal, AdamInProof.frame_reference,
  AdamOutProof.frame_kernel, AdamOutProof.frame_ideal, AdamOutProof.frame_reference,
  AdamPgProof.frame_kernel, AdamPgProof.frame_ideal, AdamPgProof.frame_reference,
  BranchA.preserves, BranchA.algebraic,
  ProjWeightProof.preserves, ProjWeightProof.algebraic,
  ProjInputProof.preserves, ProjInputProof.algebraic,
  PreNormProof.preserves, PreNormProof.algebraic,
  PleNormProof.preserves, PleNormProof.algebraic,
  GateWeightProof.preserves, GateWeightProof.algebraic,
  OutAWeightProof.preserves, OutAWeightProof.algebraic,
  OutBWeightProof.preserves, OutBWeightProof.algebraic,
  MergeWeightProof.preserves, MergeWeightProof.algebraic,
  StepWeightProof.preserves, StepWeightProof.algebraic,
  EmbedWeightProof.preserves, EmbedWeightProof.algebraic,
  ProjProof.preserves, ProjProof.algebraic,
  OutProjProof.preserves, OutProjProof.algebraic,
  ConvActProof.preserves, ConvActProof.algebraic,
  GroupNormProof.preserves, GroupNormProof.algebraic,
  ConvProof.preserves, ConvProof.algebraic,
  AdamOaProof.preserves, AdamOaProof.algebraic,
  AdamObProof.preserves, AdamObProof.algebraic,
  AdamPleProof.preserves, AdamPleProof.algebraic,
  AdamInProof.preserves, AdamInProof.algebraic,
  AdamOutProof.preserves, AdamOutProof.algebraic,
  AdamPgProof.preserves, AdamPgProof.algebraic⟩

end Cert.Proof

end
